-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "gelu_ka" .f32 0x3D122279#32 ((80338380498831 / 2251799813685248 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v15)) (v1 : (c : Dev Cert.Kernel2Ideal.nD) → Buf (Elt Ideal) ((c.tc : Thread Cert.Kernel2Ideal.nD Cert.Kernel2Ideal.τ).loc Cert.Kernel2Ideal.main_v19)) (v2 : (c : Dev Cert.Kernel2Ideal.nD) → Buf (Elt Ideal) ((c.tc : Thread Cert.Kernel2Ideal.nD Cert.Kernel2Ideal.τ).loc Cert.Kernel2Ideal.main_v23)) (v3 : (c : Dev Cert.Kernel2Ideal.nD) → Buf (Elt Ideal) ((c.tc : Thread Cert.Kernel2Ideal.nD Cert.Kernel2Ideal.τ).loc Cert.Kernel2Ideal.main_v27)) (v4 : (c : Dev Cert.Kernel2Ideal.nD) → Buf (Elt Ideal) ((c.tc : Thread Cert.Kernel2Ideal.nD Cert.Kernel2Ideal.τ).loc Cert.Kernel2Ideal.main_v30)) (v5 : (c : Dev Cert.Kernel2Ideal.nD) → Buf (Elt Ideal) ((c.tc : Thread Cert.Kernel2Ideal.nD Cert.Kernel2Ideal.τ).loc Cert.Kernel2Ideal.main_v34)) (v6 : (c : Dev Cert.Kernel2Ideal.nD) → Buf (Elt Ideal) ((c.tc : Thread Cert.Kernel2Ideal.nD Cert.Kernel2Ideal.τ).loc Cert.Kernel2Ideal.main_v11_6)) (v7 : (c : Dev Cert.Kernel2Ideal.nD) → Buf (Elt Ideal) ((c.tc : Thread Cert.Kernel2Ideal.nD Cert.Kernel2Ideal.τ).loc Cert.Kernel2Ideal.main_v11_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_v19) = v1 c
          ∧ r.2.mem ((c.tc : Thread Cert.Kernel2Ideal.nD Cert.Kernel2Ideal.τ).loc Cert.Kernel2Ideal.main_v23) = v2 c
          ∧ r.2.mem ((c.tc : Thread Cert.Kernel2Ideal.nD Cert.Kernel2Ideal.τ).loc Cert.Kernel2Ideal.main_v27) = v3 c
          ∧ r.2.mem ((c.tc : Thread Cert.Kernel2Ideal.nD Cert.Kernel2Ideal.τ).loc Cert.Kernel2Ideal.main_v30) = v4 c
          ∧ r.2.mem ((c.tc : Thread Cert.Kernel2Ideal.nD Cert.Kernel2Ideal.τ).loc Cert.Kernel2Ideal.main_v34) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_v11_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v92) = v4 c
          ∧ r.2.mem ((c.tc : Thread Cert.Reference2Ideal.nD Cert.Reference2Ideal.τ).loc Cert.Reference2Ideal.main_v116) = v5 c
          ∧ r.2.mem ((c.tc : Thread Cert.Reference2Ideal.nD Cert.Reference2Ideal.τ).loc Cert.Reference2Ideal.main_v118) = v6 c
          ∧ r.2.mem ((c.tc : Thread Cert.Reference2Ideal.nD Cert.Reference2Ideal.τ).loc Cert.Reference2Ideal.main_v119) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  IdealRules.named_const.Statement Cert.Kernel3Ideal.κ "gelu_ka" .f32 0x3D122279#32 ((80338380498831 / 2251799813685248 : ℝ) : EReal)
  ∧ IdealRules.named_const.Statement Cert.Kernel3Ideal.κ "gelu_3ka" .f32 0x3DDB33B6#32 ((241015141496493 / 2251799813685248 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v72)) (v1 : (c : Dev Cert.Kernel3Ideal.nD) → Buf (Elt Ideal) ((c.tc : Thread Cert.Kernel3Ideal.nD Cert.Kernel3Ideal.τ).loc Cert.Kernel3Ideal.main_v76)) (v2 : (c : Dev Cert.Kernel3Ideal.nD) → Buf (Elt Ideal) ((c.tc : Thread Cert.Kernel3Ideal.nD Cert.Kernel3Ideal.τ).loc Cert.Kernel3Ideal.main_v69_2)) (v3 : (c : Dev Cert.Kernel3Ideal.nD) → Buf (Elt Ideal) ((c.tc : Thread Cert.Kernel3Ideal.nD Cert.Kernel3Ideal.τ).loc Cert.Kernel3Ideal.main_v69_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v72) = v0 c
          ∧ r.2.mem ((c.tc : Thread Cert.Kernel3Ideal.nD Cert.Kernel3Ideal.τ).loc Cert.Kernel3Ideal.main_v76) = v1 c
          ∧ r.2.mem ((c.tc : Thread Cert.Kernel3Ideal.nD Cert.Kernel3Ideal.τ).loc Cert.Kernel3Ideal.main_v69_2) = v2 c
          ∧ r.2.mem ((c.tc : Thread Cert.Kernel3Ideal.nD Cert.Kernel3Ideal.τ).loc Cert.Kernel3Ideal.main_v69_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v150) = v0 c
          ∧ r.2.mem ((c.tc : Thread Cert.Reference3Ideal.nD Cert.Reference3Ideal.τ).loc Cert.Reference3Ideal.main_v122) = v1 c
          ∧ r.2.mem ((c.tc : Thread Cert.Reference3Ideal.nD Cert.Reference3Ideal.τ).loc Cert.Reference3Ideal.main_v152) = v2 c
          ∧ r.2.mem ((c.tc : Thread Cert.Reference3Ideal.nD Cert.Reference3Ideal.τ).loc Cert.Reference3Ideal.main_v154) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8)) (v1 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_v12) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ preserves_Kernel5_Kernel5Ideal
    ∧ algebraic_Kernel5Ideal_Reference5Ideal (hKernel5Ideal := hKernel5Ideal) (hReference5Ideal := hReference5Ideal)
-- ==== Pre_finite.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x6144 : S_.BroadcastsInDim S1024x6144 (![] : Fin 0 → Fin S1024x6144.rank)
  bcast_S_S8192x6144 : S_.BroadcastsInDim S8192x6144 (![] : Fin 0 → Fin S8192x6144.rank)

variable [Facts]

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1024x6144 .f32) (main_arg5 : FVec F S8192x1024 .f32) (main_arg6 : FVec F S8192x6144 .f32) : IVec S8192x1024 1 × IVec S1x1024 1 × IVec S1x1024 1 × IVec S1024x6144 1 × IVec S8192x6144 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x6144 .f32 := Host.absf main_arg4
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_v12 : FVec F S8192x6144 .f32 := Host.absf main_arg6
  let main_cst_3 : FVec F S_ .f32 := constant S_ .f32 0x7F800000#32
  let main_v13 : FVec F S8192x6144 .f32 := broadcastInDim S8192x6144 ![] bcast_S_S8192x6144 main_cst_3
  let main_v14 : IVec S8192x6144 1 := cmpf .olt main_v12 main_v13
  (main_v2, main_v5, main_v8, main_v11, main_v14)
-- ==== Pre_finite2.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)

variable [Facts]

def fn_part1 {F : FTy → Type} [FloatOps F] (main_arg6 : FVec F S1x1024 .f32) (main_arg7 : FVec F S1024x5632 .f32) (main_arg8 : FVec F S3x5632 .f32) (main_arg9 : FVec F S1x5632 .f32) (main_arg10 : FVec F S2816x1024 .f32) (main_v2 : IVec S8192x1024 1) (main_v5 : IVec S8192x1024 1) (main_v8 : IVec S1x1024 1) (main_v11 : IVec S1x1024 1) (main_v14 : IVec S1x1024 1) (main_v17 : IVec S1x1024 1) : IVec S8192x1024 1 × IVec S8192x1024 1 × IVec S1x1024 1 × IVec S1x1024 1 × IVec S1x1024 1 × IVec S1x1024 1 × IVec S1x1024 1 × IVec S1024x5632 1 × IVec S3x5632 1 × IVec S1x5632 1 × IVec S2816x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1024x5632 .f32 := Host.absf main_arg7
  let main_cst_6 : FVec F S_ .f32 := constant S_ .f32 0x7F800000#32
  let main_v22 : FVec F S1024x5632 .f32 := broadcastInDim S1024x5632 ![] bcast_S_S1024x5632 main_cst_6
  let main_v23 : IVec S1024x5632 1 := cmpf .olt main_v21 main_v22
  let main_v24 : FVec F S3x5632 .f32 := Host.absf main_arg8
  let main_cst_7 : FVec F S_ .f32 := constant S_ .f32 0x7F800000#32
  let main_v25 : FVec F S3x5632 .f32 := broadcastInDim S3x5632 ![] bcast_S_S3x5632 main_cst_7
  let main_v26 : IVec S3x5632 1 := cmpf .olt main_v24 main_v25
  let main_v27 : FVec F S1x5632 .f32 := Host.absf main_arg9
  let main_cst_8 : FVec F S_ .f32 := constant S_ .f32 0x7F800000#32
  let main_v28 : FVec F S1x5632 .f32 := broadcastInDim S1x5632 ![] bcast_S_S1x5632 main_cst_8
  let main_v29 : IVec S1x5632 1 := cmpf .olt main_v27 main_v28
  let main_v30 : FVec F S2816x1024 .f32 := Host.absf main_arg10
  let main_cst_9 : FVec F S_ .f32 := constant S_ .f32 0x7F800000#32
  let main_v31 : FVec F S2816x1024 .f32 := broadcastInDim S2816x1024 ![] bcast_S_S2816x1024 main_cst_9
  let main_v32 : IVec S2816x1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1024x5632 .f32) (main_arg8 : FVec F S3x5632 .f32) (main_arg9 : FVec F S1x5632 .f32) (main_arg10 : FVec F S2816x1024 .f32) : IVec S8192x1024 1 × IVec S8192x1024 1 × IVec S1x1024 1 × IVec S1x1024 1 × IVec S1x1024 1 × IVec S1x1024 1 × IVec S1x1024 1 × IVec S1024x5632 1 × IVec S3x5632 1 × IVec S1x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_arg10 main_v2 main_v5 main_v8 main_v11 main_v14 main_v17
-- ==== Pre_finite3.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)

variable [Facts]

def fn_part1 {F : FTy → Type} [FloatOps F] (main_arg6 : FVec F S1x5632 .f32) (main_arg7 : FVec F S2816x1024 .f32) (main_arg9 : FVec F S8192x1024 .f32) (main_v2 : IVec S8192x1024 1) (main_v5 : IVec S1x1024 1) (main_v8 : IVec S1x1024 1) (main_v11 : IVec S1x1024 1) (main_v14 : IVec S1024x5632 1) (main_v17 : IVec S3x5632 1) : IVec S8192x1024 1 × IVec S1x1024 1 × IVec S1x1024 1 × IVec S1x1024 1 × IVec S1024x5632 1 × IVec S3x5632 1 × IVec S1x5632 1 × IVec S2816x1024 1 × IVec S8192x1024 1 :=
  let main_v18 : FVec F S1x5632 .f32 := Host.absf main_arg6
  let main_cst_5 : FVec F S_ .f32 := constant S_ .f32 0x7F800000#32
  let main_v19 : FVec F S1x5632 .f32 := broadcastInDim S1x5632 ![] bcast_S_S1x5632 main_cst_5
  let main_v20 : IVec S1x5632 1 := cmpf .olt main_v18 main_v19
  let main_v21 : FVec F S2816x1024 .f32 := Host.absf main_arg7
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  let main_v24 : FVec F S8192x1024 .f32 := Host.absf main_arg9
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1024x5632 .f32) (main_arg5 : FVec F S3x5632 .f32) (main_arg6 : FVec F S1x5632 .f32) (main_arg7 : FVec F S2816x1024 .f32) (main_arg8 : FVec F S8192x1024 .f32) (main_arg9 : FVec F S8192x1024 .f32) : IVec S8192x1024 1 × IVec S1x1024 1 × IVec S1x1024 1 × IVec S1x1024 1 × IVec S1024x5632 1 × IVec S3x5632 1 × IVec S1x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S3x5632 .f32 := Host.absf main_arg5
  let main_cst_4 : FVec F S_ .f32 := constant S_ .f32 0x7F800000#32
  let main_v16 : FVec F S3x5632 .f32 := broadcastInDim S3x5632 ![] bcast_S_S3x5632 main_cst_4
  let main_v17 : IVec S3x5632 1 := cmpf .olt main_v15 main_v16
  fn_part1 (F := F) main_arg6 main_arg7 main_arg9 main_v2 main_v5 main_v8 main_v11 main_v14 main_v17
-- ==== Kernel.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S4x1024 : Shape := ⟨2, ![4, 1024]⟩
abbrev S9x1024 : Shape := ⟨2, ![9, 1024]⟩
abbrev S16x1024 : Shape := ⟨2, ![16, 1024]⟩
abbrev S32x8x32x6144 : Shape := ⟨4, ![32, 8, 32, 6144]⟩
abbrev S32x32x8x6144 : Shape := ⟨4, ![32, 32, 8, 6144]⟩
abbrev S32x8x32x1024 : Shape := ⟨4, ![32, 8, 32, 1024]⟩
abbrev S32x32x8x1024 : Shape := ⟨4, ![32, 32, 8, 1024]⟩
abbrev S8x1024 : Shape := ⟨2, ![8, 1024]⟩
abbrev S512x6144 : Shape := ⟨2, ![512, 6144]⟩
abbrev S512x1024 : Shape := ⟨2, ![512, 1024]⟩
abbrev S1 : Shape := ⟨1, ![1]⟩
abbrev S256x1024 : Shape := ⟨2, ![256, 1024]⟩
abbrev S8x32x1024 : Shape := ⟨3, ![8, 32, 1024]⟩
abbrev S32x8x1024 : Shape := ⟨3, ![32, 8, 1024]⟩
abbrev S512 : Shape := ⟨1, ![512]⟩
abbrev S512x1 : Shape := ⟨2, ![512, 1]⟩
abbrev S1024 : Shape := ⟨1, ![1024]⟩

abbrev nBuf : Space → Nat
  | .hbm => 22
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6144, .f32⟩
  | .hbm, ⟨5, _⟩ => ⟨S8192x1024, .f32⟩
  | .hbm, ⟨6, _⟩ => ⟨S8192x6144, .f32⟩
  | .hbm, ⟨7, _⟩ => ⟨S_, .f32⟩
  | .hbm, ⟨8, _⟩ => ⟨S4x1024, .f32⟩
  | .hbm, ⟨9, _⟩ => ⟨S_, .f32⟩
  | .hbm, ⟨10, _⟩ => ⟨S9x1024, .f32⟩
  | .hbm, ⟨11, _⟩ => ⟨S16x1024, .f32⟩
  | .hbm, ⟨12, _⟩ => ⟨S32x8x32x6144, .f32⟩
  | .hbm, ⟨13, _⟩ => ⟨S32x32x8x6144, .f32⟩
  | .hbm, ⟨14, _⟩ => ⟨S8192x6144, .f32⟩
  | .hbm, ⟨15, _⟩ => ⟨S8192x6144, .bf16⟩
  | .hbm, ⟨16, _⟩ => ⟨S32x8x32x1024, .f32⟩
  | .hbm, ⟨17, _⟩ => ⟨S32x32x8x1024, .f32⟩
  | .hbm, ⟨18, _⟩ => ⟨S8192x1024, .f32⟩
  | .hbm, ⟨19, _⟩ => ⟨S1024x6144, .bf16⟩
  | .hbm, ⟨20, _⟩ => ⟨S8192x1024, .f32⟩
  | .hbm, ⟨21, _⟩ => ⟨S8x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S1024x6144, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6144, .f32⟩
  | .hbm, ⟨5, _⟩ => ⟨S8192x1024, .f32⟩
  | .hbm, ⟨6, _⟩ => ⟨S8192x6144, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x6144, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S5x1024, .f32⟩
  | .hbm, ⟨70, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S3x1024 : Shape := ⟨2, ![3, 1024]⟩
abbrev S2x1024 : Shape := ⟨2, ![2, 1024]⟩
abbrev S6x1024 : Shape := ⟨2, ![6, 1024]⟩
abbrev S16x1024 : Shape := ⟨2, ![16, 1024]⟩
abbrev S4x5632 : Shape := ⟨2, ![4, 5632]⟩
abbrev S8x5632 : Shape := ⟨2, ![8, 5632]⟩
abbrev S32x8x32x1024 : Shape := ⟨4, ![32, 8, 32, 1024]⟩
abbrev S32x32x8x1024 : Shape := ⟨4, ![32, 32, 8, 1024]⟩
abbrev S8192x5632 : Shape := ⟨2, ![8192, 5632]⟩
abbrev S8192x2816 : Shape := ⟨2, ![8192, 2816]⟩
abbrev S8x1024 : Shape := ⟨2, ![8, 1024]⟩
abbrev S8x128 : Shape := ⟨2, ![8, 128]⟩
abbrev S256x1024 : Shape := ⟨2, ![256, 1024]⟩
abbrev S256x5632 : Shape := ⟨2, ![256, 5632]⟩
abbrev S256x2816 : Shape := ⟨2, ![256, 2816]⟩
abbrev S3x8x5632 : Shape := ⟨3, ![3, 8, 5632]⟩
abbrev S2 : Shape := ⟨1, ![2]⟩
abbrev S1 : Shape := ⟨1, ![1]⟩
abbrev S256 : Shape := ⟨1, ![256]⟩
abbrev S256x1 : Shape := ⟨2, ![256, 1]⟩
abbrev S1024x1024 : Shape := ⟨2, ![1024, 1024]⟩
abbrev S1x8x1024 : Shape := ⟨3, ![1, 8, 1024]⟩
abbrev S32x8x1024 : Shape := ⟨3, ![32, 8, 1024]⟩
abbrev S31x8x1024 : Shape := ⟨3, ![31, 8, 1024]⟩
abbrev S2x8x1024 : Shape := ⟨3, ![2, 8, 1024]⟩
abbrev S30x8x1024 : Shape := ⟨3, ![30, 8, 1024]⟩
abbrev S1024x1792 : Shape := ⟨2, ![1024, 1792]⟩
abbrev S256x1792 : Shape := ⟨2, ![256, 1792]⟩
abbrev S1x1792 : Shape := ⟨2, ![1, 1792]⟩
abbrev S1x8x1792 : Shape := ⟨3, ![1, 8, 1792]⟩
abbrev S32x8x1792 : Shape := ⟨3, ![32, 8, 1792]⟩
abbrev S31x8x1792 : Shape := ⟨3, ![31, 8, 1792]⟩
abbrev S2x8x1792 : Shape := ⟨3, ![2, 8, 1792]⟩
abbrev S30x8x1792 : Shape := ⟨3, ![30, 8, 1792]⟩
abbrev S1792x1024 : Shape := ⟨2, ![1792, 1024]⟩
abbrev S8x32x1024 : Shape := ⟨3, ![8, 32, 1024]⟩
abbrev S1x256x1024 : Shape := ⟨3, ![1, 256, 1024]⟩
abbrev S1x1x1 : Shape := ⟨3, ![1, 1, 1]⟩
abbrev S1024 : Shape := ⟨1, ![1024]⟩
abbrev S32x32x8x5632 : Shape := ⟨4, ![32, 32, 8, 5632]⟩
abbrev S32x8x32x5632 : Shape := ⟨4, ![32, 8, 32, 5632]⟩
abbrev S32x32x8x2816 : Shape := ⟨4, ![32, 32, 8, 2816]⟩
abbrev S32x8x32x2816 : Shape := ⟨4, ![32, 8, 32, 2816]⟩

abbrev nBuf : Space → Nat
  | .hbm => 57
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S3x5632, .f32⟩
  | .hbm, ⟨9, _⟩ => ⟨S1x5632, .f32⟩
  | .hbm, ⟨10, _⟩ => ⟨S2816x1024, .f32⟩
  | .hbm, ⟨11, _⟩ => ⟨S_, .f32⟩
  | .hbm, ⟨12, _⟩ => ⟨S3x1024, .f32⟩
  | .hbm, ⟨13, _⟩ => ⟨S_, .f32⟩
  | .hbm, ⟨14, _⟩ => ⟨S2x1024, .f32⟩
  | .hbm, ⟨15, _⟩ => ⟨S_, .f32⟩
  | .hbm, ⟨16, _⟩ => ⟨S6x1024, .f32⟩
  | .hbm, ⟨17, _⟩ => ⟨S16x1024, .f32⟩
  | .hbm, ⟨18, _⟩ => ⟨S_, .f32⟩
  | .hbm, ⟨19, _⟩ => ⟨S4x5632, .f32⟩
  | .hbm, ⟨20, _⟩ => ⟨S8x5632, .f32⟩
  | .hbm, ⟨21, _⟩ => ⟨S32x8x32x1024, .f32⟩
  | .hbm, ⟨22, _⟩ => ⟨S32x32x8x1024, .f32⟩
  | .hbm, ⟨23, _⟩ => ⟨S8192x1024, .f32⟩
  | .hbm, ⟨24, _⟩ => ⟨S1024x5632, .bf16⟩
  | .hbm, ⟨25, _⟩ => ⟨S2816x1024, .bf16⟩
  | .hbm, ⟨26, _⟩ => ⟨S8192x5632, .bf16⟩
  | .hbm, ⟨27, _⟩ => ⟨S8192x5632, .bf16⟩
  | .hbm, ⟨28, _⟩ => ⟨S8192x2816, .bf16⟩
  | .hbm, ⟨29, _⟩ => ⟨S8192x1024, .bf16⟩
  | .hbm, ⟨30, _⟩ => ⟨S8192x1024, .f32⟩
  | .hbm, ⟨31, _⟩ => ⟨S8192x1024, .bf16⟩
  | .hbm, ⟨32, _⟩ => ⟨S8x1024, .f32⟩
  | .hbm, ⟨33, _⟩ => ⟨S8x128, .f32⟩
  | .hbm, ⟨34, _⟩ => ⟨S8192x5632, .f32⟩
  | .hbm, ⟨35, _⟩ => ⟨S32x32x8x5632, .f32⟩
  | .hbm, ⟨36, _⟩ => ⟨S32x8x32x5632, .f32⟩
  | .hbm, ⟨37, _⟩ => ⟨S8192x5632, .f32⟩
  | .hbm, ⟨38, _⟩ => ⟨S8192x5632, .f32⟩
  | .hbm, ⟨39, _⟩ => ⟨S32x32x8x5632, .f32⟩
  | .hbm, ⟨40, _⟩ => ⟨S32x8x32x5632, .f32⟩
  | .hbm, ⟨41, _⟩ => ⟨S8192x5632, .f32⟩
  | .hbm, ⟨42, _⟩ => ⟨S8192x2816, .f32⟩
  | .hbm, ⟨43, _⟩ => ⟨S32x32x8x2816, .f32⟩
  | .hbm, ⟨44, _⟩ => ⟨S32x8x32x2816, .f32⟩
  | .hbm, ⟨45, _⟩ => ⟨S8192x2816, .f32⟩
  | .hbm, ⟨46, _⟩ => ⟨S8192x1024, .f32⟩
  | .hbm, ⟨47, _⟩ => ⟨S32x32x8x1024, .f32⟩
  | .hbm, ⟨48, _⟩ => ⟨S32x8x32x1024, .f32⟩
  | .hbm, ⟨49, _⟩ => ⟨S8192x1024, .f32⟩
  | .hbm, ⟨50, _⟩ => ⟨S32x32x8x1024, .f32⟩
  | .hbm, ⟨51, _⟩ => ⟨S32x8x32x1024, .f32⟩
  | .hbm, ⟨52, _⟩ => ⟨S8192x1024, .f32⟩
  | .hbm, ⟨53, _⟩ => ⟨S8192x1024, .f32⟩
  | .hbm, ⟨54, _⟩ => ⟨S32x32x8x1024, .f32⟩
  | .hbm, ⟨55, _⟩ => ⟨S32x8x32x1024, .f32⟩
  | .hbm, ⟨56, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S8x5632, .f32⟩
  | .local _ .vmem, ⟨6, _⟩ => ⟨S256x5632, .bf16⟩
  | .local _ .vmem, ⟨7, _⟩ => ⟨S256x5632, .bf16⟩
  | .local _ .vmem, ⟨8, _⟩ => ⟨S256x5632, .bf16⟩
  | .local _ .vmem, ⟨9, _⟩ => ⟨S256x5632, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | .local _ .vmem, ⟨19, _⟩ => ⟨S8x128, .f32⟩
  | .local _ .vmem, ⟨20, _⟩ => ⟨S1024x5632, .bf16⟩
  | .local _ .vmem, ⟨21, _⟩ => ⟨S2816x1024, .bf16⟩
  | .local _ .vmem, ⟨22, _⟩ => ⟨S3x8x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev main_v11_7 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Kernel2Ideal.lean ====
variable {F : FTy → Type} [FloatOps F] [Named F]
def κ : String → Option EReal := fun
  | "gelu_ka" => some ((80338380498831 / 2251799813685248 : ℝ) : EReal)
  | _ => none
-- ==== Reference2Ideal.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S1024 : Shape := ⟨1, ![1024]⟩
abbrev S6x1024 : Shape := ⟨2, ![6, 1024]⟩
abbrev S8x1024 : Shape := ⟨2, ![8, 1024]⟩
abbrev S8x128 : Shape := ⟨2, ![8, 128]⟩

abbrev nBuf : Space → Nat
  | .hbm => 158
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x5632, .f32⟩
  | 8 => ⟨S3x5632, .f32⟩
  | 9 => ⟨S1x5632, .f32⟩
  | 10 => ⟨S2816x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S1x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S8192x5632, .f32⟩
  | 34 => ⟨S_, .f32⟩
  | 35 => ⟨S2x5632, .f32⟩
  | 36 => ⟨S8194x5632, .f32⟩
  | 37 => ⟨S1x5632, .f32⟩
  | 38 => ⟨S5632, .f32⟩
  | 39 => ⟨S8192x5632, .f32⟩
  | 40 => ⟨S1x5632, .f32⟩
  | 41 => ⟨S8192x5632, .f32⟩
  | 42 => ⟨S8192x5632, .f32⟩
  | 43 => ⟨S8192x5632, .f32⟩
  | 44 => ⟨S8192x5632, .f32⟩
  | 45 => ⟨S1x5632, .f32⟩
  | 46 => ⟨S5632, .f32⟩
  | 47 => ⟨S8192x5632, .f32⟩
  | 48 => ⟨S1x5632, .f32⟩
  | 49 => ⟨S8192x5632, .f32⟩
  | 50 => ⟨S8192x5632, .f32⟩
  | 51 => ⟨S8192x5632, .f32⟩
  | 52 => ⟨S1x5632, .f32⟩
  | 53 => ⟨S5632, .f32⟩
  | 54 => ⟨S8192x5632, .f32⟩
  | 55 => ⟨S1x5632, .f32⟩
  | 56 => ⟨S8192x5632, .f32⟩
  | 57 => ⟨S8192x5632, .f32⟩
  | 58 => ⟨S8192x5632, .f32⟩
  | 59 => ⟨S8192x2816, .f32⟩
  | 60 => ⟨S8192x2816, .f32⟩
  | 61 => ⟨S8192x2816, .f32⟩
  | 62 => ⟨S8192x2816, .f32⟩
  | 63 => ⟨S_, .f32⟩
  | 64 => ⟨S8192x2816, .f32⟩
  | 65 => ⟨S8192x2816, .f32⟩
  | 66 => ⟨S8192x2816, .f32⟩
  | 67 => ⟨S_, .f32⟩
  | 68 => ⟨S8192x2816, .f32⟩
  | 69 => ⟨S8192x2816, .f32⟩
  | 70 => ⟨S8192x2816, .f32⟩
  | 71 => ⟨S_, .f32⟩
  | 72 => ⟨S8192x2816, .f32⟩
  | 73 => ⟨S8192x2816, .f32⟩
  | 74 => ⟨S_, .f32⟩
  | 75 => ⟨S8192x2816, .f32⟩
  | 76 => ⟨S8192x2816, .f32⟩
  | 77 => ⟨S8192x2816, .f32⟩
  | 78 => ⟨S8192x2816, .f32⟩
  | 79 => ⟨S8192x1024, .f32⟩
  | 80 => ⟨S8192x1024, .f32⟩
  | 81 => ⟨S_, .f32⟩
  | 82 => ⟨S8192, .f32⟩
  | 83 => ⟨S8192x1, .f32⟩
  | 84 => ⟨S_, .f32⟩
  | 85 => ⟨S8192x1, .f32⟩
  | 86 => ⟨S8192x1, .f32⟩
  | 87 => ⟨S_, .f32⟩
  | 88 => ⟨S8192x1, .f32⟩
  | 89 => ⟨S8192x1, .f32⟩
  | 90 => ⟨S8192x1, .f32⟩
  | 91 => ⟨S8192x1, .f32⟩
  | 92 => ⟨S_, .f32⟩
  | 93 => ⟨S8192x1, .f32⟩
  | 94 => ⟨S8192x1, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S_, .f32⟩
  | 108 => ⟨S8192, .f32⟩
  | 109 => ⟨S_, .f32⟩
  | 110 => ⟨S8192, .f32⟩
  | 111 => ⟨S8192, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S8192, .f32⟩
  | 120 => ⟨S_, .f32⟩
  | 121 => ⟨S8192, .f32⟩
  | 122 => ⟨S8192, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S8192x1024, .f32⟩
  | 4 => ⟨S_, .f32⟩
  | 5 => ⟨S1024, .f32⟩
  | 6 => ⟨S1x1024, .f32⟩
  | 7 => ⟨S8192x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S8192x1024, .f32⟩
  | 14 => ⟨S8192x1024, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S6x1024, .f32⟩
  | 28 => ⟨S8x1024, .f32⟩
  | 29 => ⟨S8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_cst_13 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_v84 : Ref sig .tc := ⟨.hbm, 111, rfl⟩
abbrev main_cst_15 : Ref sig .tc := ⟨.hbm, 112, rfl⟩
abbrev main_v85 : Ref sig .tc := ⟨.hbm, 113, rfl⟩
abbrev main_cst_16 : Ref sig .tc := ⟨.hbm, 114, rfl⟩
abbrev main_v86 : Ref sig .tc := ⟨.hbm, 115, rfl⟩
abbrev main_cst_17 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_20 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_21 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_22 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_23 : Ref sig .tc := ⟨.hbm, 144, rfl⟩
abbrev main_v109 : Ref sig .tc := ⟨.hbm, 145, rfl⟩
abbrev main_v110 : Ref sig .tc := ⟨.hbm, 146, rfl⟩
abbrev main_cst_24 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_25 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S3x1024 : Shape := ⟨2, ![3, 1024]⟩
abbrev S7x1024 : Shape := ⟨2, ![7, 1024]⟩
abbrev S16x1024 : Shape := ⟨2, ![16, 1024]⟩
abbrev S4x5632 : Shape := ⟨2, ![4, 5632]⟩
abbrev S8x5632 : Shape := ⟨2, ![8, 5632]⟩
abbrev S8192 : Shape := ⟨1, ![8192]⟩
abbrev S8192x1 : Shape := ⟨2, ![8192, 1]⟩
abbrev S8192x5632 : Shape := ⟨2, ![8192, 5632]⟩
abbrev S2x5632 : Shape := ⟨2, ![2, 5632]⟩
abbrev S8194x5632 : Shape := ⟨2, ![8194, 5632]⟩
abbrev S5632 : Shape := ⟨1, ![5632]⟩
abbrev S32x8x32x1024 : Shape := ⟨4, ![32, 8, 32, 1024]⟩
abbrev S32x32x8x1024 : Shape := ⟨4, ![32, 32, 8, 1024]⟩
abbrev S32x8x32x5632 : Shape := ⟨4, ![32, 8, 32, 5632]⟩
abbrev S32x32x8x5632 : Shape := ⟨4, ![32, 32, 8, 5632]⟩
abbrev S8x1024 : Shape := ⟨2, ![8, 1024]⟩
abbrev S256x1024 : Shape := ⟨2, ![256, 1024]⟩
abbrev S256x5632 : Shape := ⟨2, ![256, 5632]⟩
abbrev S3x8x5632 : Shape := ⟨3, ![3, 8, 5632]⟩
abbrev S2 : Shape := ⟨1, ![2]⟩
abbrev S1 : Shape := ⟨1, ![1]⟩
abbrev S256x1536 : Shape := ⟨2, ![256, 1536]⟩
abbrev S1536x1024 : Shape := ⟨2, ![1536, 1024]⟩
abbrev S1x1536 : Shape := ⟨2, ![1, 1536]⟩
abbrev S1x8x1536 : Shape := ⟨3, ![1, 8, 1536]⟩
abbrev S32x8x1536 : Shape := ⟨3, ![32, 8, 1536]⟩
abbrev S31x8x1536 : Shape := ⟨3, ![31, 8, 1536]⟩
abbrev S2x8x1536 : Shape := ⟨3, ![2, 8, 1536]⟩
abbrev S30x8x1536 : Shape := ⟨3, ![30, 8, 1536]⟩
abbrev S1536 : Shape := ⟨1, ![1536]⟩
abbrev S1024x1536 : Shape := ⟨2, ![1024, 1536]⟩
abbrev S256x1280 : Shape := ⟨2, ![256, 1280]⟩
abbrev S1280x1024 : Shape := ⟨2, ![1280, 1024]⟩
abbrev S1x1280 : Shape := ⟨2, ![1, 1280]⟩
abbrev S1x8x1280 : Shape := ⟨3, ![1, 8, 1280]⟩
abbrev S32x8x1280 : Shape := ⟨3, ![32, 8, 1280]⟩
abbrev S31x8x1280 : Shape := ⟨3, ![31, 8, 1280]⟩
abbrev S2x8x1280 : Shape := ⟨3, ![2, 8, 1280]⟩
abbrev S30x8x1280 : Shape := ⟨3, ![30, 8, 1280]⟩
abbrev S1280 : Shape := ⟨1, ![1280]⟩
abbrev S1024x1280 : Shape := ⟨2, ![1024, 1280]⟩
abbrev S256 : Shape := ⟨1, ![256]⟩
abbrev S256x1 : Shape := ⟨2, ![256, 1]⟩
abbrev S1024 : Shape := ⟨1, ![1024]⟩

abbrev nBuf : Space → Nat
  | .hbm => 99
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S3x5632, .f32⟩
  | .hbm, ⟨6, _⟩ => ⟨S1x5632, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S3x1024, .f32⟩
  | .hbm, ⟨12, _⟩ => ⟨S_, .f32⟩
  | .hbm, ⟨13, _⟩ => ⟨S3x1024, .f32⟩
  | .hbm, ⟨14, _⟩ => ⟨S_, .f32⟩
  | .hbm, ⟨15, _⟩ => ⟨S7x1024, .f32⟩
  | .hbm, ⟨16, _⟩ => ⟨S16x1024, .f32⟩
  | .hbm, ⟨17, _⟩ => ⟨S_, .f32⟩
  | .hbm, ⟨18, _⟩ => ⟨S4x5632, .f32⟩
  | .hbm, ⟨19, _⟩ => ⟨S8x5632, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x5632, .f32⟩
  | .hbm, ⟨43, _⟩ => ⟨S_, .f32⟩
  | .hbm, ⟨44, _⟩ => ⟨S2x5632, .f32⟩
  | .hbm, ⟨45, _⟩ => ⟨S8194x5632, .f32⟩
  | .hbm, ⟨46, _⟩ => ⟨S1x5632, .f32⟩
  | .hbm, ⟨47, _⟩ => ⟨S5632, .f32⟩
  | .hbm, ⟨48, _⟩ => ⟨S8192x5632, .f32⟩
  | .hbm, ⟨49, _⟩ => ⟨S1x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S1x5632, .f32⟩
  | .hbm, ⟨55, _⟩ => ⟨S5632, .f32⟩
  | .hbm, ⟨56, _⟩ => ⟨S8192x5632, .f32⟩
  | .hbm, ⟨57, _⟩ => ⟨S1x5632, .f32⟩
  | .hbm, ⟨58, _⟩ => ⟨S8192x5632, .f32⟩
  | .hbm, ⟨59, _⟩ => ⟨S8192x5632, .f32⟩
  | .hbm, ⟨60, _⟩ => ⟨S8192x5632, .f32⟩
  | .hbm, ⟨61, _⟩ => ⟨S1x5632, .f32⟩
  | .hbm, ⟨62, _⟩ => ⟨S5632, .f32⟩
  | .hbm, ⟨63, _⟩ => ⟨S8192x5632, .f32⟩
  | .hbm, ⟨64, _⟩ => ⟨S1x5632, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S32x8x32x1024, .f32⟩
  | .hbm, ⟨69, _⟩ => ⟨S32x32x8x1024, .f32⟩
  | .hbm, ⟨70, _⟩ => ⟨S8192x1024, .f32⟩
  | .hbm, ⟨71, _⟩ => ⟨S8192x1024, .bf16⟩
  | .hbm, ⟨72, _⟩ => ⟨S32x8x32x1024, .f32⟩
  | .hbm, ⟨73, _⟩ => ⟨S32x32x8x1024, .f32⟩
  | .hbm, ⟨74, _⟩ => ⟨S8192x1024, .f32⟩
  | .hbm, ⟨75, _⟩ => ⟨S32x8x32x1024, .f32⟩
  | .hbm, ⟨76, _⟩ => ⟨S32x32x8x1024, .f32⟩
  | .hbm, ⟨77, _⟩ => ⟨S8192x1024, .f32⟩
  | .hbm, ⟨78, _⟩ => ⟨S32x8x32x5632, .f32⟩
  | .hbm, ⟨79, _⟩ => ⟨S32x32x8x5632, .f32⟩
  | .hbm, ⟨80, _⟩ => ⟨S8192x5632, .f32⟩
  | .hbm, ⟨81, _⟩ => ⟨S8192x5632, .bf16⟩
  | .hbm, ⟨82, _⟩ => ⟨S32x8x32x5632, .f32⟩
  | .hbm, ⟨83, _⟩ => ⟨S32x32x8x5632, .f32⟩
  | .hbm, ⟨84, _⟩ => ⟨S8192x5632, .f32⟩
  | .hbm, ⟨85, _⟩ => ⟨S8192x5632, .bf16⟩
  | .hbm, ⟨86, _⟩ => ⟨S1024x5632, .bf16⟩
  | .hbm, ⟨87, _⟩ => ⟨S2816x1024, .bf16⟩
  | .hbm, ⟨88, _⟩ => ⟨S8192x1024, .f32⟩
  | .hbm, ⟨89, _⟩ => ⟨S8192x5632, .bf16⟩
  | .hbm, ⟨90, _⟩ => ⟨S8x1024, .f32⟩
  | .hbm, ⟨91, _⟩ => ⟨S8x5632, .f32⟩
  | .hbm, ⟨92, _⟩ => ⟨S32x32x8x1024, .f32⟩
  | .hbm, ⟨93, _⟩ => ⟨S32x8x32x1024, .f32⟩
  | .hbm, ⟨94, _⟩ => ⟨S8192x1024, .f32⟩
  | .hbm, ⟨95, _⟩ => ⟨S8192x5632, .f32⟩
  | .hbm, ⟨96, _⟩ => ⟨S32x32x8x5632, .f32⟩
  | .hbm, ⟨97, _⟩ => ⟨S32x8x32x5632, .f32⟩
  | .hbm, ⟨98, _⟩ => ⟨S8192x5632, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x5632, .bf16⟩
  | .local _ .vmem, ⟨7, _⟩ => ⟨S256x5632, .bf16⟩
  | .local _ .vmem, ⟨8, _⟩ => ⟨S256x5632, .bf16⟩
  | .local _ .vmem, ⟨9, _⟩ => ⟨S256x5632, .bf16⟩
  | .local _ .vmem, ⟨10, _⟩ => ⟨S16x1024, .f32⟩
  | .local _ .vmem, ⟨11, _⟩ => ⟨S8x5632, .f32⟩
  | .local _ .vmem, ⟨12, _⟩ => ⟨S256x1024, .f32⟩
  | .local _ .vmem, ⟨13, _⟩ => ⟨S256x1024, .f32⟩
  | .local _ .vmem, ⟨14, _⟩ => ⟨S256x5632, .bf16⟩
  | .local _ .vmem, ⟨15, _⟩ => ⟨S256x5632, .bf16⟩
  | .local _ .vmem, ⟨16, _⟩ => ⟨S8x1024, .f32⟩
  | .local _ .vmem, ⟨17, _⟩ => ⟨S8x5632, .f32⟩
  | .local _ .vmem, ⟨18, _⟩ => ⟨S1024x5632, .bf16⟩
  | .local _ .vmem, ⟨19, _⟩ => ⟨S2816x1024, .bf16⟩
  | .local _ .vmem, ⟨20, _⟩ => ⟨S3x8x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69_0 : Ref sig .tc := ⟨.hbm, 88, rfl⟩
abbrev main_v69_1 : Ref sig .tc := ⟨.hbm, 89, rfl⟩
abbrev main_v69_2 : Ref sig .tc := ⟨.hbm, 90, rfl⟩
abbrev main_v69_3 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel3Ideal.lean ====
variable {F : FTy → Type} [FloatOps F] [Named F]
def κ : String → Option EReal := fun
  | "gelu_3ka" => some ((241015141496493 / 2251799813685248 : ℝ) : EReal)
  | "gelu_ka" => some ((80338380498831 / 2251799813685248 : ℝ) : EReal)
  | _ => none
-- ==== Reference3Ideal.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S1024 : Shape := ⟨1, ![1024]⟩
abbrev S5x1024 : Shape := ⟨2, ![5, 1024]⟩
abbrev S8x1024 : Shape := ⟨2, ![8, 1024]⟩
abbrev S4x5632 : Shape := ⟨2, ![4, 5632]⟩
abbrev S8x5632 : Shape := ⟨2, ![8, 5632]⟩

abbrev nBuf : Space → Nat
  | .hbm => 203
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1024x5632, .f32⟩
  | 5 => ⟨S3x5632, .f32⟩
  | 6 => ⟨S1x5632, .f32⟩
  | 7 => ⟨S2816x1024, .f32⟩
  | 8 => ⟨S8192x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S1x1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S8192x5632, .f32⟩
  | 37 => ⟨S_, .f32⟩
  | 38 => ⟨S2x5632, .f32⟩
  | 39 => ⟨S8194x5632, .f32⟩
  | 40 => ⟨S_, .f32⟩
  | 41 => ⟨S2x5632, .f32⟩
  | 42 => ⟨S1x5632, .f32⟩
  | 43 => ⟨S5632, .f32⟩
  | 44 => ⟨S8192x5632, .f32⟩
  | 45 => ⟨S1x5632, .f32⟩
  | 46 => ⟨S8192x5632, .f32⟩
  | 47 => ⟨S8192x5632, .f32⟩
  | 48 => ⟨S8192x5632, .f32⟩
  | 49 => ⟨S8192x5632, .f32⟩
  | 50 => ⟨S1x5632, .f32⟩
  | 51 => ⟨S5632, .f32⟩
  | 52 => ⟨S8192x5632, .f32⟩
  | 53 => ⟨S1x5632, .f32⟩
  | 54 => ⟨S8192x5632, .f32⟩
  | 55 => ⟨S8192x5632, .f32⟩
  | 56 => ⟨S8192x5632, .f32⟩
  | 57 => ⟨S1x5632, .f32⟩
  | 58 => ⟨S5632, .f32⟩
  | 59 => ⟨S8192x5632, .f32⟩
  | 60 => ⟨S1x5632, .f32⟩
  | 61 => ⟨S8192x5632, .f32⟩
  | 62 => ⟨S8192x5632, .f32⟩
  | 63 => ⟨S8192x5632, .f32⟩
  | 64 => ⟨S8192x2816, .f32⟩
  | 65 => ⟨S8192x2816, .f32⟩
  | 66 => ⟨S8192x2816, .f32⟩
  | 67 => ⟨S8192x2816, .f32⟩
  | 68 => ⟨S8192x2816, .f32⟩
  | 69 => ⟨S_, .f32⟩
  | 70 => ⟨S8192x2816, .f32⟩
  | 71 => ⟨S8192x2816, .f32⟩
  | 72 => ⟨S_, .f32⟩
  | 73 => ⟨S8192x2816, .f32⟩
  | 74 => ⟨S8192x2816, .f32⟩
  | 75 => ⟨S8192x2816, .f32⟩
  | 76 => ⟨S_, .f32⟩
  | 77 => ⟨S8192x2816, .f32⟩
  | 78 => ⟨S8192x2816, .f32⟩
  | 79 => ⟨S8192x2816, .f32⟩
  | 80 => ⟨S_, .f32⟩
  | 81 => ⟨S8192x2816, .f32⟩
  | 82 => ⟨S8192x2816, .f32⟩
  | 83 => ⟨S_, .f32⟩
  | 84 => ⟨S8192x2816, .f32⟩
  | 85 => ⟨S8192x2816, .f32⟩
  | 86 => ⟨S8192x2816, .f32⟩
  | 87 => ⟨S_, .f32⟩
  | 88 => ⟨S8192x2816, .f32⟩
  | 89 => ⟨S8192x2816, .f32⟩
  | 90 => ⟨S_, .f32⟩
  | 91 => ⟨S8192x2816, .f32⟩
  | 92 => ⟨S8192x2816, .f32⟩
  | 93 => ⟨S8192x2816, .f32⟩
  | 94 => ⟨S8192x2816, .f32⟩
  | 95 => ⟨S8192x1024, .f32⟩
  | 96 => ⟨S8192x2816, .f32⟩
  | 97 => ⟨S8192x2816, .f32⟩
  | 98 => ⟨S8192x2816, .f32⟩
  | 99 => ⟨S8192x2816, .f32⟩
  | 100 => ⟨S8192x2816, .f32⟩
  | 101 => ⟨S_, .f32⟩
  | 102 => ⟨S8192x2816, .f32⟩
  | 103 => ⟨S8192x2816, .f32⟩
  | 104 => ⟨S8192x2816, .f32⟩
  | 105 => ⟨S_, .f32⟩
  | 106 => ⟨S8192x2816, .f32⟩
  | 107 => ⟨S8192x2816, .f32⟩
  | 108 => ⟨S8192x2816, .f32⟩
  | 109 => ⟨S_, .f32⟩
  | 110 => ⟨S8192x2816, .f32⟩
  | 111 => ⟨S8192x2816, .f32⟩
  | 112 => ⟨S8192x2816, .f32⟩
  | 113 => ⟨S8192x2816, .f32⟩
  | 114 => ⟨S8192x5632, .f32⟩
  | 115 => ⟨S8192x5632, .f32⟩
  | 116 => ⟨S8192x5632, .f32⟩
  | 117 => ⟨S8192x5632, .f32⟩
  | 118 => ⟨S_, .f32⟩
  | 119 => ⟨S5632, .f32⟩
  | 120 => ⟨S1x5632, .f32⟩
  | 121 => ⟨S_, .f32⟩
  | 122 => ⟨S5632, .f32⟩
  | 123 => ⟨S_, .f32⟩
  | 124 => ⟨S8194x5632, .f32⟩
  | 125 => ⟨S1x5632, .f32⟩
  | 126 => ⟨S_, .f32⟩
  | 127 => ⟨S3x5632, .f32⟩
  | _ => ⟨S8192x1024, .f32⟩

abbrev hbmTy0_1 (i : Nat) : BufTy := match i % 128 with
  | 0 => ⟨S8192x5632, .f32⟩
  | 1 => ⟨S8192x5632, .f32⟩
  | 2 => ⟨S8192x5632, .f32⟩
  | 3 => ⟨S_, .f32⟩
  | 4 => ⟨S5632, .f32⟩
  | 5 => ⟨S1x5632, .f32⟩
  | 6 => ⟨S_, .f32⟩
  | 7 => ⟨S5632, .f32⟩
  | 8 => ⟨S_, .f32⟩
  | 9 => ⟨S8194x5632, .f32⟩
  | 10 => ⟨S8194x5632, .f32⟩
  | 11 => ⟨S1x5632, .f32⟩
  | 12 => ⟨S_, .f32⟩
  | 13 => ⟨S3x5632, .f32⟩
  | 14 => ⟨S3x5632, .f32⟩
  | 15 => ⟨S_, .f32⟩
  | 16 => ⟨S5632, .f32⟩
  | 17 => ⟨S1x5632, .f32⟩
  | 18 => ⟨S8192x5632, .f32⟩
  | 19 => ⟨S8192x5632, .f32⟩
  | 20 => ⟨S8192x5632, .f32⟩
  | 21 => ⟨S_, .f32⟩
  | 22 => ⟨S5632, .f32⟩
  | 23 => ⟨S1x5632, .f32⟩
  | 24 => ⟨S_, .f32⟩
  | 25 => ⟨S5632, .f32⟩
  | 26 => ⟨S_, .f32⟩
  | 27 => ⟨S8194x5632, .f32⟩
  | 28 => ⟨S8194x5632, .f32⟩
  | 29 => ⟨S1x5632, .f32⟩
  | 30 => ⟨S_, .f32⟩
  | 31 => ⟨S3x5632, .f32⟩
  | 32 => ⟨S3x5632, .f32⟩
  | 33 => ⟨S2x5632, .f32⟩
  | 34 => ⟨S8192x5632, .f32⟩
  | 35 => ⟨S8192x1024, .f32⟩
  | 36 => ⟨S_, .f32⟩
  | 37 => ⟨S1024, .f32⟩
  | 38 => ⟨S1x1024, .f32⟩
  | 39 => ⟨S8192x1024, .f32⟩
  | 40 => ⟨S_, .f32⟩
  | 41 => ⟨S1024, .f32⟩
  | 42 => ⟨S1x1024, .f32⟩
  | 43 => ⟨S8192x1024, .f32⟩
  | 44 => ⟨S8192x1024, .f32⟩
  | 45 => ⟨S8192x1024, .f32⟩
  | 46 => ⟨S_, .f32⟩
  | 47 => ⟨S1024, .f32⟩
  | 48 => ⟨S1x1024, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S8192x1024, .f32⟩
  | 56 => ⟨S8192x1024, .f32⟩
  | 57 => ⟨S8192x1024, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S5x1024, .f32⟩
  | 71 => ⟨S8x1024, .f32⟩
  | 72 => ⟨S_, .f32⟩
  | 73 => ⟨S4x5632, .f32⟩
  | 74 => ⟨S8x5632, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_16 : Ref sig .tc := ⟨.hbm, 118, rfl⟩
abbrev main_v91 : Ref sig .tc := ⟨.hbm, 119, rfl⟩
abbrev main_v92 : Ref sig .tc := ⟨.hbm, 120, rfl⟩
abbrev main_cst_17 : Ref sig .tc := ⟨.hbm, 121, rfl⟩
abbrev main_v93 : Ref sig .tc := ⟨.hbm, 122, rfl⟩
abbrev main_cst_18 : Ref sig .tc := ⟨.hbm, 123, rfl⟩
abbrev main_v94 : Ref sig .tc := ⟨.hbm, 124, rfl⟩
abbrev main_v95 : Ref sig .tc := ⟨.hbm, 125, rfl⟩
abbrev main_cst_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_20 : Ref sig .tc := ⟨.hbm, 131, rfl⟩
abbrev main_v100 : Ref sig .tc := ⟨.hbm, 132, rfl⟩
abbrev main_v101 : Ref sig .tc := ⟨.hbm, 133, rfl⟩
abbrev main_cst_21 : Ref sig .tc := ⟨.hbm, 134, rfl⟩
abbrev main_v102 : Ref sig .tc := ⟨.hbm, 135, rfl⟩
abbrev main_cst_22 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_23 : Ref sig .tc := ⟨.hbm, 140, rfl⟩
abbrev main_v106 : Ref sig .tc := ⟨.hbm, 141, rfl⟩
abbrev main_v107 : Ref sig .tc := ⟨.hbm, 142, rfl⟩
abbrev main_cst_24 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_25 : Ref sig .tc := ⟨.hbm, 149, rfl⟩
abbrev main_v113 : Ref sig .tc := ⟨.hbm, 150, rfl⟩
abbrev main_v114 : Ref sig .tc := ⟨.hbm, 151, rfl⟩
abbrev main_cst_26 : Ref sig .tc := ⟨.hbm, 152, rfl⟩
abbrev main_v115 : Ref sig .tc := ⟨.hbm, 153, rfl⟩
abbrev main_cst_27 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_28 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_29 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_30 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_31 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_32 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_33 : Ref sig .tc := ⟨.hbm, 187, rfl⟩
abbrev main_v143 : Ref sig .tc := ⟨.hbm, 188, rfl⟩
abbrev main_v144 : Ref sig .tc := ⟨.hbm, 189, rfl⟩
abbrev main_cst_34 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_35 : Ref sig .tc := ⟨.hbm, 197, rfl⟩
abbrev main_v151 : Ref sig .tc := ⟨.hbm, 198, rfl⟩
abbrev main_v152 : Ref sig .tc := ⟨.hbm, 199, rfl⟩
abbrev main_cst_36 : Ref sig .tc := ⟨.hbm, 200, rfl⟩
abbrev main_v153 : Ref sig .tc := ⟨.hbm, 201, rfl⟩
abbrev main_v154 : Ref sig .tc := ⟨.hbm, 202, rfl⟩

abbrev nD : Nat := 1
abbrev τ : Topo := Topo.v7x

variable {F : FTy → Type} [FloatOps F]
-- ==== Kernel4.lean ====
abbrev S8192x6144 : Shape := ⟨2, ![8192, 6144]⟩
abbrev S4x256x256 : Shape := ⟨3, ![4, 256, 256]⟩
abbrev S1x1024 : Shape := ⟨2, ![1, 1024]⟩
abbrev S3x1024 : Shape := ⟨2, ![3, 1024]⟩
abbrev S1024x1024 : Shape := ⟨2, ![1024, 1024]⟩
abbrev S8192x1024 : Shape := ⟨2, ![8192, 1024]⟩
abbrev S_ : Shape := ⟨0, ![]⟩
abbrev S2x1024 : Shape := ⟨2, ![2, 1024]⟩
abbrev S4x1024 : Shape := ⟨2, ![4, 1024]⟩
abbrev S16x1024 : Shape := ⟨2, ![16, 1024]⟩
abbrev S8192x4x256 : Shape := ⟨3, ![8192, 4, 256]⟩
abbrev S1x4x256 : Shape := ⟨3, ![1, 4, 256]⟩
abbrev S8193x4x256 : Shape := ⟨3, ![8193, 4, 256]⟩
abbrev S8192 : Shape := ⟨1, ![8192]⟩
abbrev S8192x1x256 : Shape := ⟨3, ![8192, 1, 256]⟩
abbrev S8192x256 : Shape := ⟨2, ![8192, 256]⟩
abbrev S1x256 : Shape := ⟨2, ![1, 256]⟩
abbrev S8191x1x256 : Shape := ⟨3, ![8191, 1, 256]⟩
abbrev S8191x256 : Shape := ⟨2, ![8191, 256]⟩
abbrev S8192x1 : Shape := ⟨2, ![8192, 1]⟩
abbrev S3x256 : Shape := ⟨2, ![3, 256]⟩
abbrev S8189x1x256 : Shape := ⟨3, ![8189, 1, 256]⟩
abbrev S8189x256 : Shape := ⟨2, ![8189, 256]⟩
abbrev S7x256 : Shape := ⟨2, ![7, 256]⟩
abbrev S8185x1x256 : Shape := ⟨3, ![8185, 1, 256]⟩
abbrev S8185x256 : Shape := ⟨2, ![8185, 256]⟩
abbrev S15x256 : Shape := ⟨2, ![15, 256]⟩
abbrev S8177x1x256 : Shape := ⟨3, ![8177, 1, 256]⟩
abbrev S8177x256 : Shape := ⟨2, ![8177, 256]⟩
abbrev S4x256x8192 : Shape := ⟨3, ![4, 256, 8192]⟩
abbrev S8194x1024 : Shape := ⟨2, ![8194, 1024]⟩
abbrev S1024 : Shape := ⟨1, ![1024]⟩
abbrev S32x8x32x1024 : Shape := ⟨4, ![32, 8, 32, 1024]⟩
abbrev S32x32x8x1024 : Shape := ⟨4, ![32, 32, 8, 1024]⟩
abbrev S32x8x32x6144 : Shape := ⟨4, ![32, 8, 32, 6144]⟩
abbrev S32x32x8x6144 : Shape := ⟨4, ![32, 32, 8, 6144]⟩
abbrev S8x1024 : Shape := ⟨2, ![8, 1024]⟩
abbrev S256x1024 : Shape := ⟨2, ![256, 1024]⟩
abbrev S256x6144 : Shape := ⟨2, ![256, 6144]⟩
abbrev S3x8x1024 : Shape := ⟨3, ![3, 8, 1024]⟩
abbrev S16x8x1024 : Shape := ⟨3, ![16, 8, 1024]⟩
abbrev S3 : Shape := ⟨1, ![3]⟩
abbrev S3x256x6144 : Shape := ⟨3, ![3, 256, 6144]⟩
abbrev S1 : Shape := ⟨1, ![1]⟩
abbrev S1x256x6144 : Shape := ⟨3, ![1, 256, 6144]⟩
abbrev S256 : Shape := ⟨1, ![256]⟩
abbrev S256x1 : Shape := ⟨2, ![256, 1]⟩
abbrev S1x8x1024 : Shape := ⟨3, ![1, 8, 1024]⟩
abbrev S32x8x1024 : Shape := ⟨3, ![32, 8, 1024]⟩
abbrev S31x8x1024 : Shape := ⟨3, ![31, 8, 1024]⟩
abbrev S2x8x1024 : Shape := ⟨3, ![2, 8, 1024]⟩
abbrev S30x8x1024 : Shape := ⟨3, ![30, 8, 1024]⟩
abbrev S1x256x256 : Shape := ⟨3, ![1, 256, 256]⟩
abbrev S256x256 : Shape := ⟨2, ![256, 256]⟩
abbrev S1x8x256 : Shape := ⟨3, ![1, 8, 256]⟩
abbrev S32x8x256 : Shape := ⟨3, ![32, 8, 256]⟩
abbrev S31x8x256 : Shape := ⟨3, ![31, 8, 256]⟩
abbrev S2x8x256 : Shape := ⟨3, ![2, 8, 256]⟩
abbrev S30x8x256 : Shape := ⟨3, ![30, 8, 256]⟩
abbrev S4x8x256 : Shape := ⟨3, ![4, 8, 256]⟩
abbrev S28x8x256 : Shape := ⟨3, ![28, 8, 256]⟩
abbrev S8x8x256 : Shape := ⟨3, ![8, 8, 256]⟩
abbrev S24x8x256 : Shape := ⟨3, ![24, 8, 256]⟩

abbrev nBuf : Space → Nat
  | .hbm => 202
  | .vmem => 32
  | .smem => 0
  | _ => 0

abbrev hbmTy0_0 (i : Nat) : BufTy := match i % 128 with
  | 0 => ⟨S8192x6144, .f32⟩
  | 1 => ⟨S4x256x256, .f32⟩
  | 2 => ⟨S1x1024, .f32⟩
  | 3 => ⟨S3x1024, .f32⟩
  | 4 => ⟨S1x1024, .f32⟩
  | 5 => ⟨S1024x1024, .f32⟩
  | 6 => ⟨S1024x1024, .f32⟩
  | 7 => ⟨S1x1024, .f32⟩
  | 8 => ⟨S1x1024, .f32⟩
  | 9 => ⟨S8192x1024, .f32⟩
  | 10 => ⟨S_, .f32⟩
  | 11 => ⟨S2x1024, .f32⟩
  | 12 => ⟨S_, .f32⟩
  | 13 => ⟨S4x1024, .f32⟩
  | 14 => ⟨S_, .f32⟩
  | 15 => ⟨S2x1024, .f32⟩
  | 16 => ⟨S_, .f32⟩
  | 17 => ⟨S1x1024, .f32⟩
  | 18 => ⟨S16x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x4x256, .f32⟩
  | 26 => ⟨S_, .f32⟩
  | 27 => ⟨S_, .f32⟩
  | 28 => ⟨S8192x4x256, .f32⟩
  | 29 => ⟨S_, .f32⟩
  | 30 => ⟨S1x4x256, .f32⟩
  | 31 => ⟨S8193x4x256, .f32⟩
  | 32 => ⟨S8192, .f32⟩
  | 33 => ⟨S_, .f32⟩
  | 34 => ⟨S8192, .f32⟩
  | 35 => ⟨S8192, .f32⟩
  | 36 => ⟨S8192x1x256, .f32⟩
  | 37 => ⟨S8192x256, .f32⟩
  | 38 => ⟨S_, .f32⟩
  | 39 => ⟨S1x256, .f32⟩
  | 40 => ⟨S8191x1x256, .f32⟩
  | 41 => ⟨S8191x256, .f32⟩
  | 42 => ⟨S8192x256, .f32⟩
  | 43 => ⟨S_, .f32⟩
  | 44 => ⟨S8192, .f32⟩
  | 45 => ⟨S8192, .f32⟩
  | 46 => ⟨S8192x1, .f32⟩
  | 47 => ⟨S8192x256, .f32⟩
  | 48 => ⟨S8192x256, .f32⟩
  | 49 => ⟨S8192x256, .f32⟩
  | 50 => ⟨S8192x1x256, .f32⟩
  | 51 => ⟨S8192x256, .f32⟩
  | 52 => ⟨S_, .f32⟩
  | 53 => ⟨S3x256, .f32⟩
  | 54 => ⟨S8189x1x256, .f32⟩
  | 55 => ⟨S8189x256, .f32⟩
  | 56 => ⟨S8192x256, .f32⟩
  | 57 => ⟨S_, .f32⟩
  | 58 => ⟨S8192, .f32⟩
  | 59 => ⟨S8192, .f32⟩
  | 60 => ⟨S8192x1, .f32⟩
  | 61 => ⟨S8192x256, .f32⟩
  | 62 => ⟨S8192x256, .f32⟩
  | 63 => ⟨S8192x256, .f32⟩
  | 64 => ⟨S8192x1x256, .f32⟩
  | 65 => ⟨S8192x256, .f32⟩
  | 66 => ⟨S_, .f32⟩
  | 67 => ⟨S7x256, .f32⟩
  | 68 => ⟨S8185x1x256, .f32⟩
  | 69 => ⟨S8185x256, .f32⟩
  | 70 => ⟨S8192x256, .f32⟩
  | 71 => ⟨S_, .f32⟩
  | 72 => ⟨S8192, .f32⟩
  | 73 => ⟨S8192, .f32⟩
  | 74 => ⟨S8192x1, .f32⟩
  | 75 => ⟨S8192x256, .f32⟩
  | 76 => ⟨S8192x256, .f32⟩
  | 77 => ⟨S8192x256, .f32⟩
  | 78 => ⟨S8192x1x256, .f32⟩
  | 79 => ⟨S8192x256, .f32⟩
  | 80 => ⟨S_, .f32⟩
  | 81 => ⟨S15x256, .f32⟩
  | 82 => ⟨S8177x1x256, .f32⟩
  | 83 => ⟨S8177x256, .f32⟩
  | 84 => ⟨S8192x256, .f32⟩
  | 85 => ⟨S_, .f32⟩
  | 86 => ⟨S8192, .f32⟩
  | 87 => ⟨S8192, .f32⟩
  | 88 => ⟨S8192x1, .f32⟩
  | 89 => ⟨S8192x256, .f32⟩
  | 90 => ⟨S8192x256, .f32⟩
  | 91 => ⟨S8192x256, .f32⟩
  | 92 => ⟨S8192x1x256, .f32⟩
  | 93 => ⟨S8192x1x256, .f32⟩
  | 94 => ⟨S8192x1x256, .f32⟩
  | 95 => ⟨S8192x1x256, .f32⟩
  | 96 => ⟨S8192x4x256, .f32⟩
  | 97 => ⟨S8192x4x256, .f32⟩
  | 98 => ⟨S4x256x8192, .f32⟩
  | 99 => ⟨S8192x4x256, .f32⟩
  | 100 => ⟨S8192x1024, .f32⟩
  | 101 => ⟨S8192x1024, .f32⟩
  | 102 => ⟨S_, .f32⟩
  | 103 => ⟨S2x1024, .f32⟩
  | 104 => ⟨S8194x1024, .f32⟩
  | 105 => ⟨S1x1024, .f32⟩
  | 106 => ⟨S1024, .f32⟩
  | 107 => ⟨S8192x1024, .f32⟩
  | 108 => ⟨S1x1024, .f32⟩
  | 109 => ⟨S8192x1024, .f32⟩
  | 110 => ⟨S8192x1024, .f32⟩
  | 111 => ⟨S8192x1024, .f32⟩
  | 112 => ⟨S8192x1024, .f32⟩
  | 113 => ⟨S1x1024, .f32⟩
  | 114 => ⟨S1024, .f32⟩
  | 115 => ⟨S8192x1024, .f32⟩
  | 116 => ⟨S1x1024, .f32⟩
  | 117 => ⟨S8192x1024, .f32⟩
  | 118 => ⟨S8192x1024, .f32⟩
  | 119 => ⟨S8192x1024, .f32⟩
  | 120 => ⟨S1x1024, .f32⟩
  | 121 => ⟨S1024, .f32⟩
  | 122 => ⟨S8192x1024, .f32⟩
  | 123 => ⟨S1x1024, .f32⟩
  | 124 => ⟨S8192x1024, .f32⟩
  | 125 => ⟨S8192x1024, .f32⟩
  | 126 => ⟨S8192x1024, .f32⟩
  | 127 => ⟨S8192x1024, .f32⟩
  | _ => ⟨S8192x6144, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S32x8x32x1024, .f32⟩
  | 24 => ⟨S32x32x8x1024, .f32⟩
  | 25 => ⟨S8192x1024, .f32⟩
  | 26 => ⟨S32x8x32x1024, .f32⟩
  | 27 => ⟨S32x32x8x1024, .f32⟩
  | 28 => ⟨S8192x1024, .f32⟩
  | 29 => ⟨S8192x1024, .bf16⟩
  | 30 => ⟨S32x8x32x6144, .f32⟩
  | 31 => ⟨S32x32x8x6144, .f32⟩
  | 32 => ⟨S8192x6144, .f32⟩
  | 33 => ⟨S8192x6144, .bf16⟩
  | 34 => ⟨S32x8x32x1024, .f32⟩
  | 35 => ⟨S32x32x8x1024, .f32⟩
  | 36 => ⟨S8192x1024, .f32⟩
  | 37 => ⟨S8192x1024, .bf16⟩
  | 38 => ⟨S32x8x32x1024, .f32⟩
  | 39 => ⟨S32x32x8x1024, .f32⟩
  | 40 => ⟨S8192x1024, .f32⟩
  | 41 => ⟨S8192x1024, .bf16⟩
  | 42 => ⟨S32x8x32x1024, .f32⟩
  | 43 => ⟨S32x32x8x1024, .f32⟩
  | 44 => ⟨S8192x1024, .f32⟩
  | 45 => ⟨S8192x1024, .bf16⟩
  | 46 => ⟨S32x8x32x1024, .f32⟩
  | 47 => ⟨S32x32x8x1024, .f32⟩
  | 48 => ⟨S8192x1024, .f32⟩
  | 49 => ⟨S8192x1024, .bf16⟩
  | 50 => ⟨S32x8x32x1024, .f32⟩
  | 51 => ⟨S32x32x8x1024, .f32⟩
  | 52 => ⟨S8192x1024, .f32⟩
  | 53 => ⟨S8192x1024, .bf16⟩
  | 54 => ⟨S8192x1024, .f32⟩
  | 55 => ⟨S32x8x32x1024, .f32⟩
  | 56 => ⟨S32x32x8x1024, .f32⟩
  | 57 => ⟨S8192x1024, .f32⟩
  | 58 => ⟨S8192x1024, .bf16⟩
  | 59 => ⟨S4x256x256, .bf16⟩
  | 60 => ⟨S1024x1024, .bf16⟩
  | 61 => ⟨S1024x1024, .bf16⟩
  | 62 => ⟨S8192x6144, .bf16⟩
  | 63 => ⟨S8x1024, .f32⟩
  | 64 => ⟨S1024x1024, .bf16⟩
  | 65 => ⟨S1024x1024, .bf16⟩
  | 66 => ⟨S4x256x256, .bf16⟩
  | 67 => ⟨S8192x6144, .f32⟩
  | 68 => ⟨S32x32x8x6144, .f32⟩
  | 69 => ⟨S32x8x32x6144, .f32⟩
  | 70 => ⟨S8192x6144, .f32⟩
  | 71 => ⟨S1024x1024, .f32⟩
  | 72 => ⟨S1024x1024, .f32⟩
  | 73 => ⟨S4x256x256, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S16x1024, .f32⟩
  | .local _ .vmem, ⟨17, _⟩ => ⟨S256x6144, .bf16⟩
  | .local _ .vmem, ⟨18, _⟩ => ⟨S256x6144, .bf16⟩
  | .local _ .vmem, ⟨19, _⟩ => ⟨S8x1024, .f32⟩
  | .local _ .vmem, ⟨20, _⟩ => ⟨S1024x1024, .bf16⟩
  | .local _ .vmem, ⟨21, _⟩ => ⟨S1024x1024, .bf16⟩
  | .local _ .vmem, ⟨22, _⟩ => ⟨S4x256x256, .bf16⟩
  | .local _ .vmem, ⟨23, _⟩ => ⟨S4x256x256, .bf16⟩
  | .local _ .vmem, ⟨24, _⟩ => ⟨S1024x1024, .bf16⟩
  | .local _ .vmem, ⟨25, _⟩ => ⟨S1024x1024, .bf16⟩
  | .local _ .vmem, ⟨26, _⟩ => ⟨S3x8x1024, .f32⟩
  | .local _ .vmem, ⟨27, _⟩ => ⟨S16x8x1024, .f32⟩
  | .local _ .vmem, ⟨28, _⟩ => ⟨S1024x1024, .f32⟩
  | .local _ .vmem, ⟨29, _⟩ => ⟨S1024x1024, .f32⟩
  | .local _ .vmem, ⟨30, _⟩ => ⟨S4x256x256, .f32⟩
  | .local _ .vmem, ⟨31, _⟩ => ⟨S3x256x6144, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_call0_cst : Ref sig .tc := ⟨.hbm, 26, rfl⟩
abbrev main_call0_call0_v0 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_14 : Ref sig .tc := ⟨.hbm, 131, rfl⟩
abbrev main_v104 : Ref sig .tc := ⟨.hbm, 132, rfl⟩
abbrev main_v105 : Ref sig .tc := ⟨.hbm, 133, rfl⟩
abbrev main_cst_15 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_16 : Ref sig .tc := ⟨.hbm, 142, rfl⟩
abbrev main_v113 : Ref sig .tc := ⟨.hbm, 143, rfl⟩
abbrev main_v114 : Ref sig .tc := ⟨.hbm, 144, rfl⟩
abbrev main_cst_17 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159_0 : Ref sig .tc := ⟨.hbm, 190, rfl⟩
abbrev main_v159_1 : Ref sig .tc := ⟨.hbm, 191, rfl⟩
abbrev main_v159_2 : Ref sig .tc := ⟨.hbm, 192, rfl⟩
abbrev main_v159_3 : Ref sig .tc := ⟨.hbm, 193, rfl⟩
abbrev main_v159_4 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch9 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c7936_i32 : BitVec 32 := 7936#32
  c7936_i32
def k0_mult2 : BitVec 32 :=
  let c7680_i32 : BitVec 32 := 7680#32
  c7680_i32
def k0_cond2 (i : grid0.Coords) : BitVec 1 :=
  let arg0 : BitVec 32 := BitVec.ofNat 32 (i 0).val
  let c2_i32 : BitVec 32 := 2#32
  let v3 : BitVec 32 := Scalar.addi arg0 c2_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

def k0_mult3 (i : grid0.Coords) : BitVec 32 :=
  let c31_i32_297 : BitVec 32 := 31#32
  let arg0 : BitVec 32 := BitVec.ofNat 32 (i 0).val
  let c2_i32_296 : BitVec 32 := 2#32
  let v550 : BitVec 32 := Scalar.addi arg0 c2_i32_296
  let v551 : BitVec 32 := Scalar.subi c31_i32_297 v550
  let c256_i32_298 : BitVec 32 := 256#32
  let v552 : BitVec 32 := Scalar.muli v551 c256_i32_298
  v552
def k0_off1 (i : grid0.Coords) : Fin 1 → Nat :=
  let arg0 : BitVec 32 := BitVec.ofNat 32 (i 0).val
  let c2_i32_296 : BitVec 32 := 2#32
  let v550 : BitVec 32 := Scalar.addi arg0 c2_i32_296
  let c3_i32_305 : BitVec 32 := 3#32
  let c0_i32_306 : BitVec 32 := 0#32
  let v564 : BitVec 1 := Scalar.cmpi .eq c3_i32_305 c0_i32_306
  let c1_i32_307 : BitVec 32 := 1#32
  let v565 : BitVec 32 := Scalar.select v564 c1_i32_307 c3_i32_305
  let v566 : BitVec 32 := Scalar.remsi v550 v565
  let c0_i32_309 : BitVec 32 := 0#32
  let v568 : BitVec 1 := Scalar.cmpi .slt v566 c0_i32_309
  let c0_i32_310 : BitVec 32 := 0#32
  let v569 : BitVec 1 := Scalar.cmpi .slt v565 c0_i32_310
  let v570 : BitVec 1 := Scalar.xori v568 v569
  let c0_i32_308 : BitVec 32 := 0#32
  let v567 : BitVec 1 := Scalar.cmpi .ne v566 c0_i32_308
  let v571 : BitVec 1 := Scalar.andi v570 v567
  let v572 : BitVec 32 := Scalar.addi v566 v565
  let v573 : BitVec 32 := Scalar.select v571 v572 v566
  ![v573.toNat]
def k0_off2 (i : grid0.Coords) : Fin 3 → Nat :=
  let arg0 : BitVec 32 := BitVec.ofNat 32 (i 0).val
  let c2_i32_296 : BitVec 32 := 2#32
  let v550 : BitVec 32 := Scalar.addi arg0 c2_i32_296
  let c3_i32_299 : BitVec 32 := 3#32
  let c0_i32_300 : BitVec 32 := 0#32
  let v554 : BitVec 1 := Scalar.cmpi .eq c3_i32_299 c0_i32_300
  let c1_i32_301 : BitVec 32 := 1#32
  let v555 : BitVec 32 := Scalar.select v554 c1_i32_301 c3_i32_299
  let v556 : BitVec 32 := Scalar.remsi v550 v555
  let c0_i32_303 : BitVec 32 := 0#32
  let v558 : BitVec 1 := Scalar.cmpi .slt v556 c0_i32_303
  let c0_i32_304 : BitVec 32 := 0#32
  let v559 : BitVec 1 := Scalar.cmpi .slt v555 c0_i32_304
  let v560 : BitVec 1 := Scalar.xori v558 v559
  let c0_i32_302 : BitVec 32 := 0#32
  let v557 : BitVec 1 := Scalar.cmpi .ne v556 c0_i32_302
  let v561 : BitVec 1 := Scalar.andi v560 v557
  let v562 : BitVec 32 := Scalar.addi v556 v555
  let v563 : BitVec 32 := Scalar.select v561 v562 v556
  let c0_i32_311 : BitVec 32 := 0#32
  let c0_i32_312 : BitVec 32 := 0#32
  ![v563.toNat, 0, 0]
def k0_off3 (i : grid0.Coords) : Fin 2 → Nat :=
  let c31_i32_297 : BitVec 32 := 31#32
  let arg0 : BitVec 32 := BitVec.ofNat 32 (i 0).val
  let c2_i32_296 : BitVec 32 := 2#32
  let v550 : BitVec 32 := Scalar.addi arg0 c2_i32_296
  let v551 : BitVec 32 := Scalar.subi c31_i32_297 v550
  let c256_i32_298 : BitVec 32 := 256#32
  let v552 : BitVec 32 := Scalar.muli v551 c256_i32_298
  let v553 : BitVec 32 := v552
  let c0_i32_313 : BitVec 32 := 0#32
  ![v553.toNat, 0]
def k0_mult4 (i : grid0.Coords) : BitVec 32 :=
  let c31_i32 : BitVec 32 := 31#32
  let arg0 : BitVec 32 := BitVec.ofNat 32 (i 0).val
  let v7 : BitVec 32 := Scalar.subi c31_i32 arg0
  let c256_i32 : BitVec 32 := 256#32
  let v8 : BitVec 32 := Scalar.muli v7 c256_i32
  v8
def k0_off4 (i : grid0.Coords) : Fin 1 → Nat :=
  let arg0 : BitVec 32 := BitVec.ofNat 32 (i 0).val
  let c3_i32_6 : BitVec 32 := 3#32
  let c0_i32_7 : BitVec 32 := 0#32
  let v20 : BitVec 1 := Scalar.cmpi .eq c3_i32_6 c0_i32_7
  let c1_i32_8 : BitVec 32 := 1#32
  let v21 : BitVec 32 := Scalar.select v20 c1_i32_8 c3_i32_6
  let v22 : BitVec 32 := Scalar.remsi arg0 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  ![v29.toNat]
def k0_off5 (i : grid0.Coords) : Fin 3 → Nat :=
  let arg0 : BitVec 32 := BitVec.ofNat 32 (i 0).val
  let c3_i32 : BitVec 32 := 3#32
  let c0_i32_2 : BitVec 32 := 0#32
  let v10 : BitVec 1 := Scalar.cmpi .eq c3_i32 c0_i32_2
  let c1_i32 : BitVec 32 := 1#32
  let v11 : BitVec 32 := Scalar.select v10 c1_i32 c3_i32
  let v12 : BitVec 32 := Scalar.remsi arg0 v11
  let c0_i32_4 : BitVec 32 := 0#32
  let v14 : BitVec 1 := Scalar.cmpi .slt v12 c0_i32_4
  let c0_i32_5 : BitVec 32 := 0#32
  let v15 : BitVec 1 := Scalar.cmpi .slt v11 c0_i32_5
  let v16 : BitVec 1 := Scalar.xori v14 v15
  let c0_i32_3 : BitVec 32 := 0#32
  let v13 : BitVec 1 := Scalar.cmpi .ne v12 c0_i32_3
  let v17 : BitVec 1 := Scalar.andi v16 v13
  let v18 : BitVec 32 := Scalar.addi v12 v11
  let v19 : BitVec 32 := Scalar.select v17 v18 v12
  let c0_i32_12 : BitVec 32 := 0#32
  let c0_i32_13 : BitVec 32 := 0#32
  ![v19.toNat, 0, 0]
def k0_off6 (i : grid0.Coords) : Fin 2 → Nat :=
  let c31_i32 : BitVec 32 := 31#32
  let arg0 : BitVec 32 := BitVec.ofNat 32 (i 0).val
  let v7 : BitVec 32 := Scalar.subi c31_i32 arg0
  let c256_i32 : BitVec 32 := 256#32
  let v8 : BitVec 32 := Scalar.muli v7 c256_i32
  let v9 : BitVec 32 := v8
  let c0_i32_14 : BitVec 32 := 0#32
  ![v9.toNat, 0]
def k0_cond5 (i : grid0.Coords) : BitVec 1 :=
  let arg0 : BitVec 32 := BitVec.ofNat 32 (i 0).val
  let c31_i32_294 : BitVec 32 := 31#32
  let v547 : BitVec 1 := Scalar.cmpi .eq arg0 c31_i32_294
  let v548 : BitVec 32 := Scalar.extui v547
  let c0_i32_295 : BitVec 32 := 0#32
  let v549 : BitVec 1 := Scalar.cmpi .ne v548 c0_i32_295
  v549

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x6144 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S8192x6144 : Shape := ⟨2, ![8192, 6144]⟩
abbrev S4x256x256 : Shape := ⟨3, ![4, 256, 256]⟩
abbrev S1x1024 : Shape := ⟨2, ![1, 1024]⟩
abbrev S3x1024 : Shape := ⟨2, ![3, 1024]⟩
abbrev S1024x1024 : Shape := ⟨2, ![1024, 1024]⟩
abbrev S8192x1024 : Shape := ⟨2, ![8192, 1024]⟩
abbrev S8192x4x256 : Shape := ⟨3, ![8192, 4, 256]⟩
abbrev S_ : Shape := ⟨0, ![]⟩
abbrev S1x4x256 : Shape := ⟨3, ![1, 4, 256]⟩
abbrev S8193x4x256 : Shape := ⟨3, ![8193, 4, 256]⟩
abbrev S8192 : Shape := ⟨1, ![8192]⟩
abbrev S8192x1x256 : Shape := ⟨3, ![8192, 1, 256]⟩
abbrev S8192x256 : Shape := ⟨2, ![8192, 256]⟩
abbrev S1x256 : Shape := ⟨2, ![1, 256]⟩
abbrev S8191x1x256 : Shape := ⟨3, ![8191, 1, 256]⟩
abbrev S8191x256 : Shape := ⟨2, ![8191, 256]⟩
abbrev S8192x1 : Shape := ⟨2, ![8192, 1]⟩
abbrev S3x256 : Shape := ⟨2, ![3, 256]⟩
abbrev S8189x1x256 : Shape := ⟨3, ![8189, 1, 256]⟩
abbrev S8189x256 : Shape := ⟨2, ![8189, 256]⟩
abbrev S7x256 : Shape := ⟨2, ![7, 256]⟩
abbrev S8185x1x256 : Shape := ⟨3, ![8185, 1, 256]⟩
abbrev S8185x256 : Shape := ⟨2, ![8185, 256]⟩
abbrev S15x256 : Shape := ⟨2, ![15, 256]⟩
abbrev S8177x1x256 : Shape := ⟨3, ![8177, 1, 256]⟩
abbrev S8177x256 : Shape := ⟨2, ![8177, 256]⟩
abbrev S4x256x8192 : Shape := ⟨3, ![4, 256, 8192]⟩
abbrev S2x1024 : Shape := ⟨2, ![2, 1024]⟩
abbrev S8194x1024 : Shape := ⟨2, ![8194, 1024]⟩
abbrev S1024 : Shape := ⟨1, ![1024]⟩
abbrev S4x8192x256 : Shape := ⟨3, ![4, 8192, 256]⟩
abbrev S8x1024 : Shape := ⟨2, ![8, 1024]⟩

abbrev nBuf : Space → Nat
  | .hbm => 359
  | .vmem => 0
  | .smem => 0
  | _ => 0

abbrev hbmTy0_0 (i : Nat) : BufTy := match i % 128 with
  | 0 => ⟨S8192x6144, .f32⟩
  | 1 => ⟨S4x256x256, .f32⟩
  | 2 => ⟨S1x1024, .f32⟩
  | 3 => ⟨S3x1024, .f32⟩
  | 4 => ⟨S1x1024, .f32⟩
  | 5 => ⟨S1024x1024, .f32⟩
  | 6 => ⟨S1024x1024, .f32⟩
  | 7 => ⟨S1x1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x4x256, .f32⟩
  | 17 => ⟨S_, .f32⟩
  | 18 => ⟨S_, .f32⟩
  | 19 => ⟨S8192x4x256, .f32⟩
  | 20 => ⟨S_, .f32⟩
  | 21 => ⟨S1x4x256, .f32⟩
  | 22 => ⟨S8193x4x256, .f32⟩
  | 23 => ⟨S_, .f32⟩
  | 24 => ⟨S1x4x256, .f32⟩
  | 25 => ⟨S8192, .f32⟩
  | 26 => ⟨S_, .f32⟩
  | 27 => ⟨S8192, .f32⟩
  | 28 => ⟨S8192, .f32⟩
  | 29 => ⟨S8192x1x256, .f32⟩
  | 30 => ⟨S8192x256, .f32⟩
  | 31 => ⟨S_, .f32⟩
  | 32 => ⟨S1x256, .f32⟩
  | 33 => ⟨S8191x1x256, .f32⟩
  | 34 => ⟨S8191x256, .f32⟩
  | 35 => ⟨S8192x256, .f32⟩
  | 36 => ⟨S_, .f32⟩
  | 37 => ⟨S1x256, .f32⟩
  | 38 => ⟨S_, .f32⟩
  | 39 => ⟨S8192, .f32⟩
  | 40 => ⟨S8192, .f32⟩
  | 41 => ⟨S8192x1, .f32⟩
  | 42 => ⟨S8192x256, .f32⟩
  | 43 => ⟨S8192x256, .f32⟩
  | 44 => ⟨S8192x256, .f32⟩
  | 45 => ⟨S8192x1x256, .f32⟩
  | 46 => ⟨S8192x256, .f32⟩
  | 47 => ⟨S_, .f32⟩
  | 48 => ⟨S3x256, .f32⟩
  | 49 => ⟨S8189x1x256, .f32⟩
  | 50 => ⟨S8189x256, .f32⟩
  | 51 => ⟨S8192x256, .f32⟩
  | 52 => ⟨S_, .f32⟩
  | 53 => ⟨S3x256, .f32⟩
  | 54 => ⟨S_, .f32⟩
  | 55 => ⟨S8192, .f32⟩
  | 56 => ⟨S8192, .f32⟩
  | 57 => ⟨S8192x1, .f32⟩
  | 58 => ⟨S8192x256, .f32⟩
  | 59 => ⟨S8192x256, .f32⟩
  | 60 => ⟨S8192x256, .f32⟩
  | 61 => ⟨S8192x1x256, .f32⟩
  | 62 => ⟨S8192x256, .f32⟩
  | 63 => ⟨S_, .f32⟩
  | 64 => ⟨S7x256, .f32⟩
  | 65 => ⟨S8185x1x256, .f32⟩
  | 66 => ⟨S8185x256, .f32⟩
  | 67 => ⟨S8192x256, .f32⟩
  | 68 => ⟨S_, .f32⟩
  | 69 => ⟨S7x256, .f32⟩
  | 70 => ⟨S_, .f32⟩
  | 71 => ⟨S8192, .f32⟩
  | 72 => ⟨S8192, .f32⟩
  | 73 => ⟨S8192x1, .f32⟩
  | 74 => ⟨S8192x256, .f32⟩
  | 75 => ⟨S8192x256, .f32⟩
  | 76 => ⟨S8192x256, .f32⟩
  | 77 => ⟨S8192x1x256, .f32⟩
  | 78 => ⟨S8192x256, .f32⟩
  | 79 => ⟨S_, .f32⟩
  | 80 => ⟨S15x256, .f32⟩
  | 81 => ⟨S8177x1x256, .f32⟩
  | 82 => ⟨S8177x256, .f32⟩
  | 83 => ⟨S8192x256, .f32⟩
  | 84 => ⟨S_, .f32⟩
  | 85 => ⟨S15x256, .f32⟩
  | 86 => ⟨S_, .f32⟩
  | 87 => ⟨S8192, .f32⟩
  | 88 => ⟨S8192, .f32⟩
  | 89 => ⟨S8192x1, .f32⟩
  | 90 => ⟨S8192x256, .f32⟩
  | 91 => ⟨S8192x256, .f32⟩
  | 92 => ⟨S8192x256, .f32⟩
  | 93 => ⟨S8192x1x256, .f32⟩
  | 94 => ⟨S8192x1x256, .f32⟩
  | 95 => ⟨S8192x1x256, .f32⟩
  | 96 => ⟨S8192x1x256, .f32⟩
  | 97 => ⟨S8192x4x256, .f32⟩
  | 98 => ⟨S8192x4x256, .f32⟩
  | 99 => ⟨S4x256x8192, .f32⟩
  | 100 => ⟨S8192x4x256, .f32⟩
  | 101 => ⟨S8192x1024, .f32⟩
  | 102 => ⟨S8192x1024, .f32⟩
  | 103 => ⟨S8192x1024, .f32⟩
  | 104 => ⟨S8192x1024, .f32⟩
  | 105 => ⟨S_, .f32⟩
  | 106 => ⟨S2x1024, .f32⟩
  | 107 => ⟨S8194x1024, .f32⟩
  | 108 => ⟨S_, .f32⟩
  | 109 => ⟨S2x1024, .f32⟩
  | 110 => ⟨S1x1024, .f32⟩
  | 111 => ⟨S1024, .f32⟩
  | 112 => ⟨S8192x1024, .f32⟩
  | 113 => ⟨S1x1024, .f32⟩
  | 114 => ⟨S8192x1024, .f32⟩
  | 115 => ⟨S8192x1024, .f32⟩
  | 116 => ⟨S8192x1024, .f32⟩
  | 117 => ⟨S8192x1024, .f32⟩
  | 118 => ⟨S1x1024, .f32⟩
  | 119 => ⟨S1024, .f32⟩
  | 120 => ⟨S8192x1024, .f32⟩
  | 121 => ⟨S1x1024, .f32⟩
  | 122 => ⟨S8192x1024, .f32⟩
  | 123 => ⟨S8192x1024, .f32⟩
  | 124 => ⟨S8192x1024, .f32⟩
  | 125 => ⟨S1x1024, .f32⟩
  | 126 => ⟨S1024, .f32⟩
  | 127 => ⟨S8192x1024, .f32⟩
  | _ => ⟨S8192x6144, .f32⟩

abbrev hbmTy0_1 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S1024, .f32⟩
  | 60 => ⟨S1x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S8192x1024, .f32⟩
  | 68 => ⟨S_, .f32⟩
  | 69 => ⟨S8192, .f32⟩
  | 70 => ⟨S8192x1, .f32⟩
  | 71 => ⟨S8192x1024, .f32⟩
  | 72 => ⟨S8192x1024, .f32⟩
  | 73 => ⟨S8192x1, .f32⟩
  | 74 => ⟨S_, .f32⟩
  | 75 => ⟨S8192x1, .f32⟩
  | 76 => ⟨S8192x1, .f32⟩
  | 77 => ⟨S_, .f32⟩
  | 78 => ⟨S8192, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S1024x1024, .f32⟩
  | 85 => ⟨S1024x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S1024x1024, .f32⟩
  | 94 => ⟨S1024x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S_, .f32⟩
  | 107 => ⟨S8194x1024, .f32⟩
  | 108 => ⟨S1x1024, .f32⟩
  | 109 => ⟨S_, .f32⟩
  | 110 => ⟨S3x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S_, .f32⟩
  | 118 => ⟨S1024, .f32⟩
  | 119 => ⟨S_, .f32⟩
  | 120 => ⟨S8194x1024, .f32⟩
  | 121 => ⟨S8194x1024, .f32⟩
  | 122 => ⟨S1x1024, .f32⟩
  | 123 => ⟨S_, .f32⟩
  | 124 => ⟨S3x1024, .f32⟩
  | 125 => ⟨S3x1024, .f32⟩
  | 126 => ⟨S_, .f32⟩
  | 127 => ⟨S1024, .f32⟩
  | _ => ⟨S8192x6144, .f32⟩

abbrev hbmTy0_2 (i : Nat) : BufTy := match i % 128 with
  | 0 => ⟨S1x1024, .f32⟩
  | 1 => ⟨S8192x1024, .f32⟩
  | 2 => ⟨S8192x1024, .f32⟩
  | 3 => ⟨S8192x1024, .f32⟩
  | 4 => ⟨S_, .f32⟩
  | 5 => ⟨S1024, .f32⟩
  | 6 => ⟨S1x1024, .f32⟩
  | 7 => ⟨S_, .f32⟩
  | 8 => ⟨S1024, .f32⟩
  | 9 => ⟨S_, .f32⟩
  | 10 => ⟨S8194x1024, .f32⟩
  | 11 => ⟨S8194x1024, .f32⟩
  | 12 => ⟨S1x1024, .f32⟩
  | 13 => ⟨S_, .f32⟩
  | 14 => ⟨S3x1024, .f32⟩
  | 15 => ⟨S3x1024, .f32⟩
  | 16 => ⟨S2x1024, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S1024, .f32⟩
  | 23 => ⟨S1x1024, .f32⟩
  | 24 => ⟨S8192x1024, .f32⟩
  | 25 => ⟨S8192x1024, .f32⟩
  | 26 => ⟨S8192x4x256, .f32⟩
  | 27 => ⟨S4x256x8192, .f32⟩
  | 28 => ⟨S4x8192x256, .f32⟩
  | 29 => ⟨S8192x4x256, .f32⟩
  | 30 => ⟨S4x256x256, .f32⟩
  | 31 => ⟨S4x256x256, .f32⟩
  | 32 => ⟨S8192x4x256, .f32⟩
  | 33 => ⟨S8192x1x256, .f32⟩
  | 34 => ⟨S8192x256, .f32⟩
  | 35 => ⟨S8192x1x256, .f32⟩
  | 36 => ⟨S8192x256, .f32⟩
  | 37 => ⟨S8192x1x256, .f32⟩
  | 38 => ⟨S8192x256, .f32⟩
  | 39 => ⟨S8192x1x256, .f32⟩
  | 40 => ⟨S8192x256, .f32⟩
  | 41 => ⟨S8192x256, .f32⟩
  | 42 => ⟨S8192x256, .f32⟩
  | 43 => ⟨S8192x256, .f32⟩
  | 44 => ⟨S15x256, .f32⟩
  | 45 => ⟨S8177x256, .f32⟩
  | 46 => ⟨S8177x1x256, .f32⟩
  | 47 => ⟨S_, .f32⟩
  | 48 => ⟨S8193x4x256, .f32⟩
  | 49 => ⟨S8192x1x256, .f32⟩
  | 50 => ⟨S_, .f32⟩
  | 51 => ⟨S8193x4x256, .f32⟩
  | 52 => ⟨S8193x4x256, .f32⟩
  | 53 => ⟨S8192x256, .f32⟩
  | 54 => ⟨S8192x256, .f32⟩
  | 55 => ⟨S8192x256, .f32⟩
  | 56 => ⟨S7x256, .f32⟩
  | 57 => ⟨S8185x256, .f32⟩
  | 58 => ⟨S8185x1x256, .f32⟩
  | 59 => ⟨S_, .f32⟩
  | 60 => ⟨S8193x4x256, .f32⟩
  | 61 => ⟨S8193x4x256, .f32⟩
  | 62 => ⟨S8192x1x256, .f32⟩
  | 63 => ⟨S_, .f32⟩
  | 64 => ⟨S8193x4x256, .f32⟩
  | 65 => ⟨S8193x4x256, .f32⟩
  | 66 => ⟨S8192x256, .f32⟩
  | 67 => ⟨S8192x256, .f32⟩
  | 68 => ⟨S8192x256, .f32⟩
  | 69 => ⟨S3x256, .f32⟩
  | 70 => ⟨S8189x256, .f32⟩
  | 71 => ⟨S8189x1x256, .f32⟩
  | 72 => ⟨S_, .f32⟩
  | 73 => ⟨S8193x4x256, .f32⟩
  | 74 => ⟨S8193x4x256, .f32⟩
  | 75 => ⟨S8192x1x256, .f32⟩
  | 76 => ⟨S_, .f32⟩
  | 77 => ⟨S8193x4x256, .f32⟩
  | 78 => ⟨S8193x4x256, .f32⟩
  | 79 => ⟨S8192x256, .f32⟩
  | 80 => ⟨S8192x256, .f32⟩
  | 81 => ⟨S8192x256, .f32⟩
  | 82 => ⟨S1x256, .f32⟩
  | 83 => ⟨S8191x256, .f32⟩
  | 84 => ⟨S8191x1x256, .f32⟩
  | 85 => ⟨S_, .f32⟩
  | 86 => ⟨S8193x4x256, .f32⟩
  | 87 => ⟨S8193x4x256, .f32⟩
  | 88 => ⟨S8192x1x256, .f32⟩
  | 89 => ⟨S_, .f32⟩
  | 90 => ⟨S8193x4x256, .f32⟩
  | 91 => ⟨S8193x4x256, .f32⟩
  | 92 => ⟨S1x4x256, .f32⟩
  | 93 => ⟨S8192x4x256, .f32⟩
  | 94 => ⟨S_, .f32⟩
  | 95 => ⟨S_, .f32⟩
  | 96 => ⟨S8192x4x256, .f32⟩
  | 97 => ⟨S8192x4x256, .f32⟩
  | 98 => ⟨S8192x1024, .f32⟩
  | 99 => ⟨S8192x6144, .f32⟩
  | 100 => ⟨S_, .f32⟩
  | 101 => ⟨S1x1024, .f32⟩
  | 102 => ⟨S8x1024, .f32⟩
  | _ => ⟨S8192x6144, .f32⟩

abbrev hbmTy (i : Nat) : BufTy := match i / 128 with
  | 0 => hbmTy0_0 i
  | 1 => hbmTy0_1 i
  | 2 => hbmTy0_2 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_call0_cst : Ref sig .tc := ⟨.hbm, 17, rfl⟩
abbrev main_call0_call0_v0 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_16 : Ref sig .tc := ⟨.hbm, 136, rfl⟩
abbrev main_v107 : Ref sig .tc := ⟨.hbm, 137, rfl⟩
abbrev main_v108 : Ref sig .tc := ⟨.hbm, 138, rfl⟩
abbrev main_cst_17 : Ref sig .tc := ⟨.hbm, 139, rfl⟩
abbrev main_v109 : Ref sig .tc := ⟨.hbm, 140, rfl⟩
abbrev main_v110 : Ref sig .tc := ⟨.hbm, 141, rfl⟩
abbrev main_cst_18 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_19 : Ref sig .tc := ⟨.hbm, 149, rfl⟩
abbrev main_v117 : Ref sig .tc := ⟨.hbm, 150, rfl⟩
abbrev main_v118 : Ref sig .tc := ⟨.hbm, 151, rfl⟩
abbrev main_cst_20 : Ref sig .tc := ⟨.hbm, 152, rfl⟩
abbrev main_v119 : Ref sig .tc := ⟨.hbm, 153, rfl⟩
abbrev main_v120 : Ref sig .tc := ⟨.hbm, 154, rfl⟩
abbrev main_cst_21 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_22 : Ref sig .tc := ⟨.hbm, 163, rfl⟩
abbrev main_v128 : Ref sig .tc := ⟨.hbm, 164, rfl⟩
abbrev main_v129 : Ref sig .tc := ⟨.hbm, 165, rfl⟩
abbrev main_cst_23 : Ref sig .tc := ⟨.hbm, 166, rfl⟩
abbrev main_v130 : Ref sig .tc := ⟨.hbm, 167, rfl⟩
abbrev main_v131 : Ref sig .tc := ⟨.hbm, 168, rfl⟩
abbrev main_cst_24 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_25 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_cst_26 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_27 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_cst_28 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_29 : Ref sig .tc := ⟨.hbm, 202, rfl⟩
abbrev main_v160 : Ref sig .tc := ⟨.hbm, 203, rfl⟩
abbrev main_v161 : Ref sig .tc := ⟨.hbm, 204, rfl⟩
abbrev main_cst_30 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_cst_31 : Ref sig .tc := ⟨.hbm, 229, rfl⟩
abbrev main_v185 : Ref sig .tc := ⟨.hbm, 230, rfl⟩
abbrev main_v186 : Ref sig .tc := ⟨.hbm, 231, rfl⟩
abbrev main_cst_32 : Ref sig .tc := ⟨.hbm, 232, rfl⟩
abbrev main_v187 : Ref sig .tc := ⟨.hbm, 233, rfl⟩
abbrev main_cst_33 : Ref sig .tc := ⟨.hbm, 234, rfl⟩
abbrev main_v188 : Ref sig .tc := ⟨.hbm, 235, rfl⟩
abbrev main_v189 : Ref sig .tc := ⟨.hbm, 236, rfl⟩
abbrev main_cst_34 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_cst_35 : Ref sig .tc := ⟨.hbm, 242, rfl⟩
abbrev main_v194 : Ref sig .tc := ⟨.hbm, 243, rfl⟩
abbrev main_v195 : Ref sig .tc := ⟨.hbm, 244, rfl⟩
abbrev main_cst_36 : Ref sig .tc := ⟨.hbm, 245, rfl⟩
abbrev main_v196 : Ref sig .tc := ⟨.hbm, 246, rfl⟩
abbrev main_cst_37 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_cst_38 : Ref sig .tc := ⟨.hbm, 251, rfl⟩
abbrev main_v200 : Ref sig .tc := ⟨.hbm, 252, rfl⟩
abbrev main_v201 : Ref sig .tc := ⟨.hbm, 253, rfl⟩
abbrev main_cst_39 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_cst_40 : Ref sig .tc := ⟨.hbm, 260, rfl⟩
abbrev main_v207 : Ref sig .tc := ⟨.hbm, 261, rfl⟩
abbrev main_v208 : Ref sig .tc := ⟨.hbm, 262, rfl⟩
abbrev main_cst_41 : Ref sig .tc := ⟨.hbm, 263, rfl⟩
abbrev main_v209 : Ref sig .tc := ⟨.hbm, 264, rfl⟩
abbrev main_cst_42 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_cst_43 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_cst_44 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_cst_45 : Ref sig .tc := ⟨.hbm, 303, rfl⟩
abbrev main_v245 : Ref sig .tc := ⟨.hbm, 304, rfl⟩
abbrev main_v246 : Ref sig .tc := ⟨.hbm, 305, rfl⟩
abbrev main_cst_46 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_cst_47 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_cst_48 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_cst_49 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_cst_50 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_cst_51 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_cst_52 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_call1_call0_cst : Ref sig .tc := ⟨.hbm, 350, rfl⟩
abbrev main_call1_call0_v0 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_cst_53 : Ref sig .tc := ⟨.hbm, 356, rfl⟩
abbrev main_v288 : Ref sig .tc := ⟨.hbm, 357, rfl⟩
abbrev main_v289 : Ref sig .tc := ⟨.hbm, 358, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x6144 : Shape := ⟨2, ![1024, 6144]⟩
abbrev S_ : Shape := ⟨0, ![]⟩
abbrev S4x1024 : Shape := ⟨2, ![4, 1024]⟩
abbrev S9x1024 : Shape := ⟨2, ![9, 1024]⟩
abbrev S16x1024 : Shape := ⟨2, ![16, 1024]⟩
abbrev S8192x6144 : Shape := ⟨2, ![8192, 6144]⟩
abbrev S1024x1024 : Shape := ⟨2, ![1024, 1024]⟩
abbrev S1024x1536 : Shape := ⟨2, ![1024, 1536]⟩
abbrev S4x1024x1536 : Shape := ⟨3, ![4, 1024, 1536]⟩
abbrev S8x1024x1024 : Shape := ⟨3, ![8, 1024, 1024]⟩
abbrev S1 : Shape := ⟨1, ![1]⟩
abbrev S1x1024x1536 : Shape := ⟨3, ![1, 1024, 1536]⟩
abbrev S256x1024 : Shape := ⟨2, ![256, 1024]⟩
abbrev S8x32x1024 : Shape := ⟨3, ![8, 32, 1024]⟩
abbrev S32x8x1024 : Shape := ⟨3, ![32, 8, 1024]⟩
abbrev S1024 : Shape := ⟨1, ![1024]⟩
abbrev S1024x1 : Shape := ⟨2, ![1024, 1]⟩
abbrev S1x1024x1024 : Shape := ⟨3, ![1, 1024, 1024]⟩
abbrev S32x32x8x6144 : Shape := ⟨4, ![32, 32, 8, 6144]⟩
abbrev S32x8x32x6144 : Shape := ⟨4, ![32, 8, 32, 6144]⟩
abbrev S32x32x8x1024 : Shape := ⟨4, ![32, 32, 8, 1024]⟩
abbrev S32x8x32x1024 : Shape := ⟨4, ![32, 8, 32, 1024]⟩

abbrev nBuf : Space → Nat
  | .hbm => 21
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6144, .f32⟩
  | .hbm, ⟨5, _⟩ => ⟨S_, .f32⟩
  | .hbm, ⟨6, _⟩ => ⟨S4x1024, .f32⟩
  | .hbm, ⟨7, _⟩ => ⟨S_, .f32⟩
  | .hbm, ⟨8, _⟩ => ⟨S9x1024, .f32⟩
  | .hbm, ⟨9, _⟩ => ⟨S16x1024, .f32⟩
  | .hbm, ⟨10, _⟩ => ⟨S1024x6144, .bf16⟩
  | .hbm, ⟨11, _⟩ => ⟨S8192x6144, .bf16⟩
  | .hbm, ⟨12, _⟩ => ⟨S8192x1024, .bf16⟩
  | .hbm, ⟨13, _⟩ => ⟨S32x32x8x6144, .bf16⟩
  | .hbm, ⟨14, _⟩ => ⟨S32x8x32x6144, .bf16⟩
  | .hbm, ⟨15, _⟩ => ⟨S8192x6144, .bf16⟩
  | .hbm, ⟨16, _⟩ => ⟨S8192x6144, .f32⟩
  | .hbm, ⟨17, _⟩ => ⟨S32x32x8x1024, .bf16⟩
  | .hbm, ⟨18, _⟩ => ⟨S32x8x32x1024, .bf16⟩
  | .hbm, ⟨19, _⟩ => ⟨S8192x1024, .bf16⟩
  | .hbm, ⟨20, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1024, .bf16⟩
  | .local _ .vmem, ⟨6, _⟩ => ⟨S1024x1024, .bf16⟩
  | .local _ .vmem, ⟨7, _⟩ => ⟨S4x1024x1536, .bf16⟩
  | .local _ .vmem, ⟨8, _⟩ => ⟨S8x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1536_i32 : BitVec 32 := 1536#32
  let v15 : BitVec 32 := Scalar.muli arg0 c1536_i32
  v15
def k0_off1 (i : grid0.Coords) : Fin 3 → Nat :=
  let arg0 : BitVec 32 := BitVec.ofNat 32 (i 0).val
  let c0_i32_9 : BitVec 32 := 0#32
  let c0_i32_10 : BitVec 32 := 0#32
  ![arg0.toNat, 0, 0]
def k0_off2 (i : grid0.Coords) : Fin 2 → Nat :=
  let c0_i32_11 : BitVec 32 := 0#32
  let arg0 : BitVec 32 := BitVec.ofNat 32 (i 0).val
  let c1536_i32 : BitVec 32 := 1536#32
  let v15 : BitVec 32 := Scalar.muli arg0 c1536_i32
  let v16 : BitVec 32 := v15
  ![0, v16.toNat]
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off3 (i : grid0.Coords) : Fin 3 → Nat :=
  let arg1 : BitVec 32 := BitVec.ofNat 32 (i 1).val
  let v57 : Index := Scalar.indexCast arg1
  let c0_23 : Index := 0#32
  let c0_24 : Index := 0#32
  ![v57.toNat, 0, 0]
def k0_off4 (i : grid0.Coords) : Fin 3 → Nat :=
  let arg1 : BitVec 32 := BitVec.ofNat 32 (i 1).val
  let v6 : Index := Scalar.indexCast arg1
  let c0 : Index := 0#32
  let c0_3 : Index := 0#32
  ![v6.toNat, 0, 0]
def k0_off5 (i : grid0.Coords) : Fin 3 → Nat :=
  let arg0 : BitVec 32 := BitVec.ofNat 32 (i 0).val
  let v9 : Index := Scalar.indexCast arg0
  let c0_4 : Index := 0#32
  let c0_5 : Index := 0#32
  ![v9.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x1024 : Shape := ⟨2, ![8192, 1024]⟩
abbrev S1x1024 : Shape := ⟨2, ![1, 1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x6144, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x6144, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Common.Rows.lean ====
/- Buffers of rows written by whole rows: what the newest of several stores, each of some rows and every column, leaves at an index. -/
module

public import Idealize.ShloMosaic.Lib.Pointwise
public import Idealize.ShloMosaic.Lib.Pipeline.ValueKit
public import Idealize.ShloMosaic.Lib.Pipeline.ReadBack
public import Idealize.ShloMosaic.Lib.WritesUnit

@[expose] public section

noncomputable section

namespace Cert.Rows

open Idealize.ShloMosaic

variable {e : EltTy}

/-- A buffer written whole holds what was written. -/
theorem canon_whole {s : Shape} (z : s.Idx → Elt Ideal e) (L : List (View.Piece (Elt Ideal) s e)) :
    View.canon (⟨Rect.whole s, z⟩ :: L) = z := by
  funext y
  have h := View.canon_cons_emb (Rect.whole s) z L y
  rwa [Rect.emb_whole_apply] at h

variable {s : Shape} {off size : Fin s.rank → ℕ}

/-- Inside the newest store's box, the store's value. -/
theorem canon_of_mem (inb : ∀ a, off a + size a ≤ s.size a) (z : (Rect.unit off size inb).shape.Idx → Elt Ideal e)
    (L : List (View.Piece (Elt Ideal) s e)) (y : s.Idx) (x : (Rect.unit off size inb).shape.Idx) (h : ∀ a, (y a).val = off a + (x a).val) :
    View.canon (⟨Rect.unit off size inb, z⟩ :: L) y = z x := by
  have hy : (Rect.unit off size inb).emb x = y := funext fun a => Fin.ext (by show off a + 1 * _ = _; rw [h a, Nat.one_mul])
  rw [← hy, View.canon_cons_emb]

/-- Outside the newest store's box, what the earlier stores left. -/
theorem canon_of_not_mem (inb : ∀ a, off a + size a ≤ s.size a) (z : (Rect.unit off size inb).shape.Idx → Elt Ideal e)
    (L : List (View.Piece (Elt Ideal) s e)) (y : s.Idx) (a : Fin s.rank) (h : (y a).val < off a ∨ off a + size a ≤ (y a).val) :
    View.canon (⟨Rect.unit off size inb, z⟩ :: L) y = View.canon L y :=
  View.canon_cons_of_not_mem _ _ fun hm => by
    have hm' : y ∈ (Rect.unit off size inb).set := hm
    have := (Rect.mem_set_unit (inb := inb)).mp hm' a
    omega

end Cert.Rows

end

end
-- ==== Proof.In.Tile.lean ====
/- The gradient of the input norm, one grid point of the kernel: what the point at time block `t` leaves in the block of `dx`, in the
   accumulator of the three vector gradients and in the scratch that holds the weight, read at an index. -/
module

public import proofs.«01_k».proof.Proof.Gen.KernelIdeal.Value
public import Idealize.ShloMosaic.Lib.Pointwise
public import Idealize.ShloMosaic.Lib.Pipeline.ValueKit
public import proofs.«01_k».proof.Proof.Common.Rows
public import Idealize.ShloMosaic.Lib.Pipeline.ValueKit.Held

@[expose] public section

set_option maxRecDepth 16384

noncomputable section

namespace Cert.KernelIdeal.In

open Idealize.ShloMosaic Idealize.ShloMosaic.TcCoe Idealize.SL.Sem Cert.KernelIdeal Cert.KernelIdeal.Gen

/-- The time, within a block of 512, that the permuted row `p` holds. -/
def tau (p : Fin 512) : Fin 512 := ⟨p.val / 256 * 256 + (p.val % 8 * 32 + p.val % 256 / 8), by omega⟩

/-- The permuted row that holds the time `r` of a block of 512. -/
def rho (r : Fin 512) : Fin 512 := ⟨r.val / 256 * 256 + (r.val % 32 * 8 + r.val % 256 / 32), by omega⟩

theorem tau_rho : ∀ r : Fin 512, tau (rho r) = r := by decide +kernel
theorem rho_tau : ∀ p : Fin 512, rho (tau p) = p := by decide +kernel

/-- The permutation of a block's rows. -/
def perm : Fin 512 ≃ Fin 512 := ⟨tau, rho, rho_tau, tau_rho⟩

/-- The gradient of the projection's input at row `p`, column `c`: `dproj · w_inᵀ`. -/
def dh (d : Vec Ideal S512x6144 .bf16) (w : Vec Ideal S1024x6144 .bf16) (p : Fin 512) (c : Fin 1024) : EReal :=
  ∑ k : Fin 6144, d (ix2 p k) * w (ix2 c k)

/-- The reciprocal root mean square of permuted row `p`. -/
def rs (x : Vec Ideal S512x1024 .f32) (p : Fin 512) : EReal :=
  Ideal.rsqrt (Ideal.div (∑ k : Fin 1024, x (ix2 (tau p) k) * x (ix2 (tau p) k)) (Ideal.ofBits .f32 0x44800000#32)
    + Ideal.ofBits .f32 0x358637BD#32)

/-- The normed row. -/
def nm (x : Vec Ideal S512x1024 .f32) (p : Fin 512) (c : Fin 1024) : EReal := x (ix2 (tau p) c) * rs x p

/-- One plus the modulation's scale. -/
def sc1 (v : Vec Ideal S16x1024 .f32) (c : Fin 1024) : EReal := Ideal.ofBits .f32 0x3F800000#32 + v (ix2 1 c)

/-- The gradient of the normed row. -/
def dn (d : Vec Ideal S512x6144 .bf16) (w : Vec Ideal S1024x6144 .bf16) (v : Vec Ideal S16x1024 .f32) (p : Fin 512) (c : Fin 1024) :
    EReal := dh d w p c * (v (ix2 6 c) * sc1 v c)

/-- The gradient of `x` at permuted row `p`. -/
def dxRow (d : Vec Ideal S512x6144 .bf16) (x1 x : Vec Ideal S512x1024 .f32) (v : Vec Ideal S16x1024 .f32)
    (w : Vec Ideal S1024x6144 .bf16) (p : Fin 512) (c : Fin 1024) : EReal :=
  x1 (ix2 p c) + rs x p * (dn d w v p c - nm x p c
    * Ideal.div (∑ k : Fin 1024, dn d w v p k * nm x p k) (Ideal.ofBits .f32 0x44800000#32))

/-- What a point adds to row `r` of the vector gradients. -/
def voRow (d : Vec Ideal S512x6144 .bf16) (x : Vec Ideal S512x1024 .f32) (v : Vec Ideal S16x1024 .f32)
    (w : Vec Ideal S1024x6144 .bf16) (r : Fin 8) (c : Fin 1024) : EReal :=
  if r.val = 0 then ∑ p : Fin 512, dh d w p c
  else if r.val = 1 then (∑ p : Fin 512, dh d w p c * nm x p c) * v (ix2 6 c)
  else if r.val = 2 then (∑ p : Fin 512, dh d w p c * nm x p c) * sc1 v c
  else 0

/-- Rows 0 to 255 of a block. -/
abbrev lo (x : Vec Ideal S512x1024 .f32) : Vec Ideal S256x1024 .f32 :=
  View.ld (Val := Elt Ideal) x (Rect.unit (s := S512x1024) ![0, 0] ![256, 1024] inb_S512x1024_S256x1024_0_0)

/-- Rows 256 to 511 of a block. -/
abbrev hi (x : Vec Ideal S512x1024 .f32) : Vec Ideal S256x1024 .f32 :=
  View.ld (Val := Elt Ideal) x (Rect.unit (s := S512x1024) ![256, 0] ![256, 1024] inb_S512x1024_S256x1024_256_0)

variable (x x1 : Vec Ideal S512x1024 .f32) (v : Vec Ideal S16x1024 .f32) (d : Vec Ideal S512x6144 .bf16) (w : Vec Ideal S1024x6144 .bf16)

theorem pay4_at (p : Fin 512) (c : Fin 1024) : k0_pay4 (F := Ideal) (lo x) (hi x) (ix2 p c) = x (ix2 (tau p) c) := by
  pointwise [k0_pay4, lo, hi]
  split <;> exact congrArg (fun a => x (ix2 a c)) (Fin.ext (by simp only [tau]; omega))

theorem pay5_at (p : Fin 512) : k0_pay5 (F := Ideal) (lo x) (hi x) (ix2 p 0) = rs x p := by
  pointwise [k0_pay5]
  simp only [pay4_at]; rfl

theorem pay6_at (p : Fin 512) (c : Fin 1024) : k0_pay6 (F := Ideal) (lo x) (hi x) (ix2 p c) = nm x p c := by
  pointwise [k0_pay6]
  rw [pay4_at, pay5_at]; rfl

theorem pay3_at (p : Fin 512) (c : Fin 1024) : k0_pay3 (F := Ideal) d w (ix2 p c) = dh d w p c := by
  pointwise! [k0_pay3]

theorem pay7_at (c : Fin 1024) :
    k0_pay7 (F := Ideal) (View.ld (Val := Elt Ideal) v (Rect.unit (s := S16x1024) ![6, 0] ![1, 1024] inb_S16x1024_S1x1024_6_0)) (ix2 0 c) = v (ix2 6 c) := by
  pointwise [k0_pay7]

theorem pay8_at (c : Fin 1024) :
    k0_pay8 (F := Ideal) (View.ld (Val := Elt Ideal) v (Rect.unit (s := S16x1024) ![1, 0] ![1, 1024] inb_S16x1024_S1x1024_1_0)) (ix2 0 c) = sc1 v c := by
  pointwise [k0_pay8, sc1]

theorem pay13_at (p : Fin 512) (c : Fin 1024) :
    k0_pay13 (F := Ideal) (k0_pay3 d w) (k0_pay5 (lo x) (hi x)) (k0_pay6 (lo x) (hi x))
      (k0_pay7 (View.ld (Val := Elt Ideal) v (Rect.unit (s := S16x1024) ![6, 0] ![1, 1024] inb_S16x1024_S1x1024_6_0)))
      (k0_pay8 (View.ld (Val := Elt Ideal) v (Rect.unit (s := S16x1024) ![1, 0] ![1, 1024] inb_S16x1024_S1x1024_1_0))) x1 (ix2 p c)
    = dxRow d x1 x v w p c := by
  pointwise [k0_pay13]
  simp only [pay3_at, pay5_at, pay6_at, pay7_at, pay8_at]
  rfl

theorem pieces_at (r : Fin 512) (k : Fin 1024) :
    View.canon (Val := Elt Ideal) (s := S512x1024) (e := .f32)
      [⟨Rect.unit (s := S512x1024) ![256, 0] ![256, 1024] inb_S512x1024_S256x1024_256_0,
          k0_pay1 (F := Ideal) (k0_pay13 (F := Ideal) (k0_pay3 d w) (k0_pay5 (lo x) (hi x)) (k0_pay6 (lo x) (hi x))
            (k0_pay7 (View.ld (Val := Elt Ideal) v (Rect.unit (s := S16x1024) ![6, 0] ![1, 1024] inb_S16x1024_S1x1024_6_0)))
            (k0_pay8 (View.ld (Val := Elt Ideal) v (Rect.unit (s := S16x1024) ![1, 0] ![1, 1024] inb_S16x1024_S1x1024_1_0))) x1)⟩,
        ⟨Rect.unit (s := S512x1024) ![0, 0] ![256, 1024] inb_S512x1024_S256x1024_0_0,
          k0_pay14 (F := Ideal) (k0_pay3 d w) (k0_pay5 (lo x) (hi x)) (k0_pay6 (lo x) (hi x))
            (k0_pay7 (View.ld (Val := Elt Ideal) v (Rect.unit (s := S16x1024) ![6, 0] ![1, 1024] inb_S16x1024_S1x1024_6_0)))
            (k0_pay8 (View.ld (Val := Elt Ideal) v (Rect.unit (s := S16x1024) ![1, 0] ![1, 1024] inb_S16x1024_S1x1024_1_0))) x1⟩]
      (ix2 r k) = dxRow d x1 x v w (rho r) k := by
  canon_tiles y h
  · obtain ⟨p, q, rfl⟩ : ∃ (p : Fin 256) (q : Fin 1024), y = ix2 p q := ⟨_, _, eq_ix2 y⟩
    obtain rfl : k = q := Fin.ext h1
    pointwise [k0_pay1]
    rw [pay13_at]
    exact congrArg (fun a => dxRow d x1 x v w a k) (Fin.ext (by simp only [rho]; have h3 : r.val = 256 + p.val := h0; omega))
  · obtain ⟨p, q, rfl⟩ : ∃ (p : Fin 256) (q : Fin 1024), y = ix2 p q := ⟨_, _, eq_ix2 y⟩
    obtain rfl : k = q := Fin.ext h1
    pointwise [k0_pay14]
    rw [pay13_at]
    exact congrArg (fun a => dxRow d x1 x v w a k) (Fin.ext (by simp only [rho]; have h3 : r.val = p.val := h0; omega))

theorem pay9_at (a : Vec Ideal S1x1024 .f32) (c : Fin 1024) :
    k0_pay9 (F := Ideal) (k0_pay3 d w) a (ix2 0 c) = a (ix2 0 c) + ∑ p : Fin 512, dh d w p c := by
  pointwise [k0_pay9]
  simp only [pay3_at]

theorem pay10_at (c : Fin 1024) :
    k0_pay10 (F := Ideal) (k0_pay3 d w) (k0_pay6 (lo x) (hi x)) (ix2 0 c) = ∑ p : Fin 512, dh d w p c * nm x p c := by
  pointwise [k0_pay10]
  simp only [pay3_at, pay6_at]

theorem pay11_at (a b : Vec Ideal S1x1024 .f32) (c : Fin 1024) :
    k0_pay11 (F := Ideal) (k0_pay3 d w) (k0_pay6 (lo x) (hi x)) b a (ix2 0 c)
      = a (ix2 0 c) + (∑ p : Fin 512, dh d w p c * nm x p c) * b (ix2 0 c) := by
  pointwise [k0_pay11]
  rw [pay10_at]

theorem pay12_at (a b : Vec Ideal S1x1024 .f32) (c : Fin 1024) :
    k0_pay12 (F := Ideal) (k0_pay3 d w) (k0_pay6 (lo x) (hi x)) b a (ix2 0 c)
      = a (ix2 0 c) + (∑ p : Fin 512, dh d w p c * nm x p c) * b (ix2 0 c) := by
  pointwise [k0_pay12]
  rw [pay10_at]

theorem pay2_at (r : Fin 8) (c : Fin 1024) : k0_pay2 (F := Ideal) (ix2 r c) = 0 := by
  pointwise [k0_pay2]

/-- A row of the accumulator, loaded. -/
theorem ld_row (z : Vec Ideal S8x1024 .f32) (o : ℕ) (inb) (h : o < 8) (c : Fin 1024) :
    (View.ld (Val := Elt Ideal) (S := S8x1024) (e' := .f32) z (Rect.unit (s := S8x1024) ![o, 0] ![1, 1024] inb) : Vec Ideal S1x1024 .f32) (ix2 0 c) = z (ix2 ⟨o, h⟩ c) := by
  pointwise

variable (m : (ℓ : Loc nD τ sig) → Buf (Elt Ideal) ℓ)

/-- A load of the whole weight reads each entry at its own place. -/
theorem weight_idx (j : (Rect.unit (s := S1024x6144) ![0, 0] ![1024, 6144] inb_S1024x6144_S1024x6144_0_0).shape.Idx) :
    (Rect.unit (s := S1024x6144) ![0, 0] ![1024, 6144] inb_S1024x6144_S1024x6144_0_0).toLoadRect.idx j = j := by
  funext i
  refine Fin.ext ?_
  revert i
  exact Fin.forall_fin_two.mpr ⟨by show 0 + 1 * _ = _; omega, by show 0 + 1 * _ = _; omega⟩

/-- The weight as the point that copies it into the scratch loads it. -/
theorem load_weight (c : Dev nD) :
    (fun j => ReadAs.same.apply (View.read (Elt Ideal) (View.whole main_v10) (V m c main_v10))
      ((Rect.unit (s := S1024x6144) ![0, 0] ![1024, 6144] inb_S1024x6144_S1024x6144_0_0).toLoadRect.idx j)) = V m c main_v10 := by
  funext j
  dsimp only
  rw [weight_idx j]
  rfl

theorem scratch_first (c : Dev nD) (t : Fin cfg0.N) (h : t.val % 16 = 0) : (outsAt0 m c t.val t.isLt).2.2 = V m c main_v10 := by
  rw [outsAt0_A m c t h h]
  frame_out
  rw [Rows.canon_whole]
  rfl

theorem scratch_hold (c : Dev nD) (t : Fin cfg0.N) (h : ¬ t.val % 16 = 0) :
    (outsAt0 m c t.val t.isLt).2.2 = (outsAt0 m c (t.val - 1) (lt_of_le_of_lt (Nat.sub_le _ _) t.isLt)).2.2 := by
  rw [outsAt0_B m c t h h]
  frame_out
  simp only [sout0_B_0]

/-- The scratch holds the weight after every point. -/
theorem scratch_eq (c : Dev nD) (t : Fin cfg0.N) : (outsAt0 m c t.val t.isLt).2.2 = V m c main_v10 :=
  Pipeline.eq_of_write_hold (fun n h => (outsAt0 m c n h).2.2) 16 (fun _ => V m c main_v10) (scratch_first m c) (scratch_hold m c) t

/-- What a point leaves in its block of `dx`. -/
theorem dx_at (c : Dev nD) (t : Fin cfg0.N) (r : Fin 512) (k : Fin 1024) :
    (outsAt0 m c t.val t.isLt).1 (ix2 r k)
      = dxRow (iblk m c 0 t) (iblk m c 1 t) (iblk m c 2 t) (iblk m c 3 t) (V m c main_v10) (rho r) k := by
  by_cases h : t.val % 16 = 0
  · rw [outsAt0_A m c t h h]
    frame_out
    rw [View.readCov_eq_canon', Rows.canon_whole, load_weight]
    exact pieces_at _ _ _ _ _ r k
  · rw [outsAt0_B m c t h h]
    frame_out
    simp only [read_unread_whole]
    rw [scratch_eq m c ⟨t.val - 1, lt_of_le_of_lt (Nat.sub_le _ _) t.isLt⟩]
    exact pieces_at _ _ _ _ _ r k

/-- The first point leaves the vector gradients of its own block. -/
theorem vo_A (c : Dev nD) (t : Fin cfg0.N) (h : t.val % 16 = 0) (r : Fin 8) (k : Fin 1024) :
    (outsAt0 m c t.val t.isLt).2.1 (ix2 r k)
      = 0 + voRow (iblk m c 0 t) (iblk m c 2 t) (iblk m c 3 t) (V m c main_v10) r k := by
  rw [outsAt0_A m c t h h]
  frame_open
  simp (disch := decide) only [↓ View.readCov_skip, ↓ View.readCov_cons_toLoadRect, ↓ View.readCov_fill]
  frame_out
  rw [View.readCov_eq_canon', Rows.canon_whole, load_weight]
  by_cases h2 : r.val = 2
  · rw [Rows.canon_of_mem _ _ _ _ (ix2 0 k) (by simp [Fin.forall_fin_two, h2]), pay12_at, pay8_at, ld_row _ 2 _ (by decide), pay2_at]
    simp [voRow, h2]
  rw [Rows.canon_of_not_mem _ _ _ _ 0 (by simp; omega)]
  by_cases h1 : r.val = 1
  · rw [Rows.canon_of_mem _ _ _ _ (ix2 0 k) (by simp [Fin.forall_fin_two, h1]), pay11_at, pay7_at, ld_row _ 1 _ (by decide), pay2_at]
    simp [voRow, h1]
  rw [Rows.canon_of_not_mem _ _ _ _ 0 (by simp; omega)]
  by_cases h0 : r.val = 0
  · rw [Rows.canon_of_mem _ _ _ _ (ix2 0 k) (by simp [Fin.forall_fin_two, h0]), pay9_at, ld_row _ 0 _ (by decide), pay2_at]
    simp [voRow, h0]
  rw [Rows.canon_of_not_mem _ _ _ _ 0 (by simp; omega),
    Rows.canon_of_mem _ _ _ _ (ix2 r k) (by simp [Fin.forall_fin_two]), pay2_at]
  simp [voRow, h0, h1, h2]

/-- A later point adds the vector gradients of its own block. -/
theorem vo_B (c : Dev nD) (t : Fin cfg0.N) (h : ¬ t.val % 16 = 0) (r : Fin 8) (k : Fin 1024) :
    (outsAt0 m c t.val t.isLt).2.1 (ix2 r k)
      = (outsAt0 m c (t.val - 1) (lt_of_le_of_lt (Nat.sub_le _ _) t.isLt)).2.1 (ix2 r k)
        + voRow (iblk m c 0 t) (iblk m c 2 t) (iblk m c 3 t) (V m c main_v10) r k := by
  rw [outsAt0_B m c t h h]
  frame_out
  simp only [read_unread_whole]
  rw [scratch_eq m c ⟨t.val - 1, lt_of_le_of_lt (Nat.sub_le _ _) t.isLt⟩]
  by_cases h2 : r.val = 2
  · rw [View.read_writes_cons_unit_of_mem _ _ _ _ _ _ (ix2 0 k) rfl (by simp [Fin.forall_fin_two, h2]), pay12_at, pay8_at,
      ld_row _ 2 _ (by decide), show r = ⟨2, by decide⟩ from Fin.ext h2]
    rfl
  rw [View.read_writes_cons_unit_of_not_mem _ _ _ _ _ _ rfl 0 (by simp; omega)]
  by_cases h1 : r.val = 1
  · rw [View.read_writes_cons_unit_of_mem _ _ _ _ _ _ (ix2 0 k) rfl (by simp [Fin.forall_fin_two, h1]), pay11_at, pay7_at,
      ld_row _ 1 _ (by decide), show r = ⟨1, by decide⟩ from Fin.ext h1]
    rfl
  rw [View.read_writes_cons_unit_of_not_mem _ _ _ _ _ _ rfl 0 (by simp; omega)]
  by_cases h0 : r.val = 0
  · rw [View.read_writes_cons_unit_of_mem _ _ _ _ _ _ (ix2 0 k) rfl (by simp [Fin.forall_fin_two, h0]), pay9_at,
      ld_row _ 0 _ (by decide), show r = ⟨0, by decide⟩ from Fin.ext h0]
    rfl
  rw [View.read_writes_cons_unit_of_not_mem _ _ _ _ _ _ rfl 0 (by simp; omega), View.writes_nil, Memref.IsWhole.read_unread]
  simp [voRow, h0, h1, h2]

end Cert.KernelIdeal.In
-- ==== Proof.In.Host.lean ====
/- The gradient of the input norm, the arrays that the host prepares for the kernel, read at an index: the permuted rows of `dproj` and
   `dx1`, the weight, and the rows of the vector block. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.In

open Idealize.ShloMosaic Idealize.ShloMosaic.TcCoe Idealize.SL.Sem Cert.KernelIdeal Cert.KernelIdeal.Gen

variable (m : (ℓ : Loc nD τ sig) → Buf (Elt Ideal) ℓ) (c : Dev nD)

/-- The time that row `i` of a permuted array holds: within each block of 256 rows, row `p` holds time `p % 8 * 32 + p / 8`. -/
def time (i : Fin 8192) : Fin 8192 := ⟨i.val / 256 * 256 + (i.val % 8 * 32 + i.val % 256 / 8), by omega⟩

/-- The weight is passed as it is. -/
theorem V_w (i : Fin 1024) (k : Fin 6144) :
    (V m c main_v10 : Vec Ideal S1024x6144 .bf16) (ix2 i k) = (m ((c.tc : Thread nD τ).loc main_arg4) : Vec Ideal S1024x6144 .f32) (ix2 i k) := by
  unfold_abbrev_sides
  after_results
  pointwise

/-- `dproj` is passed with its rows permuted. -/
theorem V_dp (i : Fin 8192) (k : Fin 6144) :
    (V m c main_v6 : Vec Ideal S8192x6144 .bf16) (ix2 i k) = (m ((c.tc : Thread nD τ).loc main_arg6) : Vec Ideal S8192x6144 .f32) (ix2 (time i) k) := by
  unfold_abbrev_sides
  after_results
  pointwise
  exact congrArg (fun a => (m ((c.tc : Thread nD τ).loc main_arg6) : Vec Ideal S8192x6144 .f32) (ix2 a k)) (Fin.ext (by simp only [time]; omega))

/-- `dx1` is passed with its rows permuted. -/
theorem V_x1 (i : Fin 8192) (k : Fin 1024) :
    (V m c main_v9 : Vec Ideal S8192x1024 .f32) (ix2 i k) = (m ((c.tc : Thread nD τ).loc main_arg5) : Vec Ideal S8192x1024 .f32) (ix2 (time i) k) := by
  unfold_abbrev_sides
  after_results
  pointwise
  exact congrArg (fun a => (m ((c.tc : Thread nD τ).loc main_arg5) : Vec Ideal S8192x1024 .f32) (ix2 a k)) (Fin.ext (by simp only [time]; omega))

/-- Row 1 of the vector block is the modulation's scale. -/
theorem V_sc (k : Fin 1024) : (V m c main_v2 : Vec Ideal S16x1024 .f32) (ix2 1 k)
    = (m ((c.tc : Thread nD τ).loc main_arg2) : Vec Ideal S1x1024 .f32) (ix2 0 k) := by
  unfold_abbrev_sides
  after_results
  pointwise
  after_results_simp

/-- Row 6 of the vector block is the norm's gain. -/
theorem V_g (k : Fin 1024) : (V m c main_v2 : Vec Ideal S16x1024 .f32) (ix2 6 k)
    = (m ((c.tc : Thread nD τ).loc main_arg1) : Vec Ideal S1x1024 .f32) (ix2 0 k) := by
  unfold_abbrev_sides
  after_results
  pointwise
  after_results_simp

end Cert.KernelIdeal.In
-- ==== Proof.In.Array.lean ====
/- The gradient of the input norm, the arrays the kernel leaves, as closed forms in its arguments. -/
module

public import proofs.«01_k».proof.Proof.In.Tile
public import proofs.«01_k».proof.Proof.In.Host

@[expose] public section

set_option maxRecDepth 16384

noncomputable section

namespace Cert.KernelIdeal.In

open Idealize.ShloMosaic Idealize.ShloMosaic.TcCoe Idealize.SL.Sem Cert.KernelIdeal Cert.KernelIdeal.Gen

section Forms

variable (x x1 : Vec Ideal S8192x1024 .f32) (g sc : Vec Ideal S1x1024 .f32) (w : Vec Ideal S1024x6144 .f32) (dp : Vec Ideal S8192x6144 .f32)

/-- The gradient of the projection's input at time `i`, channel `c`. -/
def H (i : Fin 8192) (c : Fin 1024) : EReal := ∑ k : Fin 6144, dp (ix2 i k) * w (ix2 c k)

/-- The reciprocal root mean square of time `i`. -/
def R (i : Fin 8192) : EReal :=
  Ideal.rsqrt (Ideal.div (∑ k : Fin 1024, x (ix2 i k) * x (ix2 i k)) (Ideal.ofBits .f32 0x44800000#32) + Ideal.ofBits .f32 0x358637BD#32)

/-- The gradient of the normed row. -/
def DN (i : Fin 8192) (c : Fin 1024) : EReal := H w dp i c * (g (ix2 0 c) * (Ideal.ofBits .f32 0x3F800000#32 + sc (ix2 0 c)))

/-- The gradient of the block's input. -/
def DX (i : Fin 8192) (c : Fin 1024) : EReal :=
  x1 (ix2 i c) + R x i * (DN g sc w dp i c - x (ix2 i c) * R x i
    * Ideal.div (∑ k : Fin 1024, DN g sc w dp i k * (x (ix2 i k) * R x i)) (Ideal.ofBits .f32 0x44800000#32))

/-- The gradients of the shift, the scale and the gain, in rows 0, 1 and 2. -/
def VO (r : Fin 8) (c : Fin 1024) : EReal :=
  if r.val = 0 then ∑ i : Fin 8192, H w dp i c
  else if r.val = 1 then (∑ i : Fin 8192, H w dp i c * (x (ix2 i c) * R x i)) * g (ix2 0 c)
  else if r.val = 2 then (∑ i : Fin 8192, H w dp i c * (x (ix2 i c) * R x i)) * (Ideal.ofBits .f32 0x3F800000#32 + sc (ix2 0 c))
  else 0

end Forms

variable (m : (ℓ : Loc nD τ sig) → Buf (Elt Ideal) ℓ) (c : Dev nD)

abbrev aX : Vec Ideal S8192x1024 .f32 := m ((c.tc : Thread nD τ).loc main_arg0)
abbrev aG : Vec Ideal S1x1024 .f32 := m ((c.tc : Thread nD τ).loc main_arg1)
abbrev aSc : Vec Ideal S1x1024 .f32 := m ((c.tc : Thread nD τ).loc main_arg2)
abbrev aW : Vec Ideal S1024x6144 .f32 := m ((c.tc : Thread nD τ).loc main_arg4)
abbrev aX1 : Vec Ideal S8192x1024 .f32 := m ((c.tc : Thread nD τ).loc main_arg5)
abbrev aDp : Vec Ideal S8192x6144 .f32 := m ((c.tc : Thread nD τ).loc main_arg6)

/-- Time `r` of the block of point `t`. -/
def at_ (t : Fin cfg0.N) (r : Fin 512) : Fin 8192 := ⟨t.val * 512 + r.val, by have := lt_of_lt_of_eq t.isLt N_0; omega⟩

theorem ix0' (t : Fin cfg0.N) : win0_0.index t 0 = t.val ∧ win0_0.index t 1 = 0 :=
  (by decide +kernel : ∀ t : Fin grid0.N, win0_0.index t 0 = t.val ∧ win0_0.index t 1 = 0) t
theorem ix1' (t : Fin cfg0.N) : win0_1.index t 0 = t.val ∧ win0_1.index t 1 = 0 :=
  (by decide +kernel : ∀ t : Fin grid0.N, win0_1.index t 0 = t.val ∧ win0_1.index t 1 = 0) t
theorem ix2' (t : Fin cfg0.N) : win0_2.index t 0 = t.val ∧ win0_2.index t 1 = 0 :=
  (by decide +kernel : ∀ t : Fin grid0.N, win0_2.index t 0 = t.val ∧ win0_2.index t 1 = 0) t
theorem ix3' (t : Fin cfg0.N) : win0_3.index t 0 = 0 ∧ win0_3.index t 1 = 0 :=
  (by decide +kernel : ∀ t : Fin grid0.N, win0_3.index t 0 = 0 ∧ win0_3.index t 1 = 0) t
theorem ix4' (t : Fin cfg0.N) : win0_4.index t 0 = t.val ∧ win0_4.index t 1 = 0 :=
  (by decide +kernel : ∀ t : Fin grid0.N, win0_4.index t 0 = t.val ∧ win0_4.index t 1 = 0) t

theorem blk_dp (t : Fin cfg0.N) (p : Fin 512) (k : Fin 6144) :
    (iblk m c 0 t : Vec Ideal S512x6144 .bf16) (ix2 p k) = aDp m c (ix2 (at_ t (tau p)) k) := by
  rw [show aDp m c (ix2 (at_ t (tau p)) k) = (V m c main_v6 : Vec Ideal S8192x6144 .bf16) (ix2 (at_ t p) k) from by
    rw [V_dp]; exact congrArg (fun a => aDp m c (ix2 a k)) (Fin.ext (by simp only [time, tau, at_]; omega))]
  blk_ext [iblk, V, at_, (ix0' t).1, (ix0' t).2]

theorem blk_x1 (t : Fin cfg0.N) (p : Fin 512) (k : Fin 1024) :
    (iblk m c 1 t : Vec Ideal S512x1024 .f32) (ix2 p k) = aX1 m c (ix2 (at_ t (tau p)) k) := by
  rw [show aX1 m c (ix2 (at_ t (tau p)) k) = (V m c main_v9 : Vec Ideal S8192x1024 .f32) (ix2 (at_ t p) k) from by
    rw [V_x1]; exact congrArg (fun a => aX1 m c (ix2 a k)) (Fin.ext (by simp only [time, tau, at_]; omega))]
  blk_ext [iblk, V, at_, (ix1' t).1, (ix1' t).2]

theorem blk_x (t : Fin cfg0.N) (p : Fin 512) (k : Fin 1024) :
    (iblk m c 2 t : Vec Ideal S512x1024 .f32) (ix2 p k) = aX m c (ix2 (at_ t p) k) := by
  blk_ext [iblk, V, at_, (ix2' t).1, (ix2' t).2]

theorem blk_g (t : Fin cfg0.N) (k : Fin 1024) : (iblk m c 3 t : Vec Ideal S16x1024 .f32) (ix2 6 k) = aG m c (ix2 0 k) := by
  refine Eq.trans ?_ (V_g m c k)
  blk_ext [iblk, V, (ix3' t).1, (ix3' t).2]

theorem blk_sc (t : Fin cfg0.N) (k : Fin 1024) : (iblk m c 3 t : Vec Ideal S16x1024 .f32) (ix2 1 k) = aSc m c (ix2 0 k) := by
  refine Eq.trans ?_ (V_sc m c k)
  blk_ext [iblk, V, (ix3' t).1, (ix3' t).2]

theorem dh_eq (t : Fin cfg0.N) :
    dh (iblk m c 0 t) (V m c main_v10) = fun p k => H (aW m c) (aDp m c) (at_ t (tau p)) k :=
  funext fun p => funext fun k => Finset.sum_congr rfl fun q _ => by rw [blk_dp, V_w]

theorem rs_eq (t : Fin cfg0.N) (p : Fin 512) : rs (iblk m c 2 t) p = R (aX m c) (at_ t (tau p)) := by
  unfold rs R
  simp only [blk_x]

theorem dxRow_eq (t : Fin cfg0.N) (r : Fin 512) (k : Fin 1024) :
    dxRow (iblk m c 0 t) (iblk m c 1 t) (iblk m c 2 t) (iblk m c 3 t) (V m c main_v10) (rho r) k
      = DX (aX m c) (aX1 m c) (aG m c) (aSc m c) (aW m c) (aDp m c) (at_ t r) k := by
  unfold dxRow DX nm dn DN sc1
  rw [dh_eq]
  simp only [rs_eq, blk_x, blk_x1, blk_g, blk_sc, tau_rho]

theorem voRow_eq (t : Fin cfg0.N) (r : Fin 8) (k : Fin 1024) :
    voRow (iblk m c 0 t) (iblk m c 2 t) (iblk m c 3 t) (V m c main_v10) r k
      = if r.val = 0 then ∑ p : Fin 512, H (aW m c) (aDp m c) (at_ t p) k
        else if r.val = 1 then (∑ p : Fin 512, H (aW m c) (aDp m c) (at_ t p) k * (aX m c (ix2 (at_ t p) k) * R (aX m c) (at_ t p))) * aG m c (ix2 0 k)
        else if r.val = 2 then (∑ p : Fin 512, H (aW m c) (aDp m c) (at_ t p) k * (aX m c (ix2 (at_ t p) k) * R (aX m c) (at_ t p)))
          * (Ideal.ofBits .f32 0x3F800000#32 + aSc m c (ix2 0 k))
        else 0 := by
  have h0 : ∑ p : Fin 512, H (aW m c) (aDp m c) (at_ t (tau p)) k = ∑ p : Fin 512, H (aW m c) (aDp m c) (at_ t p) k :=
    Equiv.sum_comp perm (fun p => H (aW m c) (aDp m c) (at_ t p) k)
  have h1 : ∑ p : Fin 512, H (aW m c) (aDp m c) (at_ t (tau p)) k * (aX m c (ix2 (at_ t (tau p)) k) * R (aX m c) (at_ t (tau p)))
      = ∑ p : Fin 512, H (aW m c) (aDp m c) (at_ t p) k * (aX m c (ix2 (at_ t p) k) * R (aX m c) (at_ t p)) :=
    Equiv.sum_comp perm (fun p => H (aW m c) (aDp m c) (at_ t p) k * (aX m c (ix2 (at_ t p) k) * R (aX m c) (at_ t p)))
  unfold voRow nm sc1
  rw [dh_eq]
  simp only [rs_eq, blk_x, blk_g, blk_sc]
  rw [h0, h1]

/-- The array of `dx` after the run. -/
theorem dx_final : (dats m 0 c).arrAt 4 cfg0.N
    = (fun y => DX (aX m c) (aX1 m c) (aG m c) (aSc m c) (aW m c) (aDp m c) (y 0) (y 1) : Vec Ideal S8192x1024 .f32) := by
  refine (dats m 0 c).arrAt_eq_of_covers 4 _ (by decide +kernel) fun t hf y => ?_
  blk_simp
  rw [after0_4]
  obtain ⟨r, k, rfl⟩ : ∃ (r : Fin 512) (k : Fin 1024), y = ix2 r k := ⟨_, _, eq_ix2 y⟩
  rw [dx_at, dxRow_eq]
  have e0 : (win0_4.blk t).view.emb (ix2 r k) 0 = at_ t r := Fin.ext (by blk_simp [(ix4' t).1, at_])
  have e1 : (win0_4.blk t).view.emb (ix2 r k) 1 = k := Fin.ext (by blk_simp [(ix4' t).2])
  rw [e0, e1]

/-- The array of the vector gradients after the run, a sum over the points. -/
theorem vo_final : (dats m 0 c).arrAt 5 cfg0.N
    = (fun y => ∑ t : Fin cfg0.N, voRow (iblk m c 0 t) (iblk m c 2 t) (iblk m c 3 t) (V m c main_v10) (y 0) (y 1) : Vec Ideal S8x1024 .f32) := by
  refine (dats m 0 c).arrAt_eq_of_after_last 5 t0_15 (by decide +kernel) _ fun j => ?_
  blk_simp
  rw [after0_5]
  obtain ⟨r, k, rfl⟩ : ∃ (r : Fin 8) (k : Fin 1024), j = ix2 r k := ⟨_, _, eq_ix2 j⟩
  rw [Pipeline.eq_sum_fin_of_reset_step_apply_last (fun n h => (outsAt0 m c n h).2.1) 16 (fun _ => 0)
    (fun t j => voRow (iblk m c 0 t) (iblk m c 2 t) (iblk m c 3 t) (V m c main_v10) (j 0) (j 1))
    (fun t h j => by obtain ⟨r, k, rfl⟩ : ∃ (r : Fin 8) (k : Fin 1024), j = ix2 r k := ⟨_, _, eq_ix2 j⟩; exact vo_A m c t h r k)
    (fun t h j => by obtain ⟨r, k, rfl⟩ : ∃ (r : Fin 8) (k : Fin 1024), j = ix2 r k := ⟨_, _, eq_ix2 j⟩; exact vo_B m c t h r k)
    (le_of_eq N_0) t0_15 rfl (ix2 r k), zero_add]

end Cert.KernelIdeal.In
-- ==== Proof.Common.Real.lean ====
/- Extended reals that are real numbers: sums, quotients and the reciprocal root mean square of real entries, and the constants of the two
   programs. -/
module

public import Idealize.ShloMosaic.Lib.Pointwise
public import Mathlib.Data.EReal.Inv

@[expose] public section

noncomputable section

namespace Cert.Re

open Idealize.ShloMosaic

theorem c_one : Ideal.ofBits .f32 0x3F800000#32 = ((1 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_neg_half : Ideal.ofBits .f32 0xBF000000#32 = ((-1 / 2 : ℝ) : EReal) := by
  simp [Ideal.ofBits, Ideal.ieee, -EReal.coe_mul]; norm_num

/-- The norms' small constant. -/
def eps : ℝ := 8796093 / 2 ^ 43

theorem c_eps : Ideal.ofBits .f32 0x358637BD#32 = ((eps : ℝ) : EReal) := by
  simp [Ideal.ofBits, Ideal.ieee, eps, -EReal.coe_mul]; norm_num

theorem eps_pos : 0 < eps := by unfold eps; positivity

/-- A sum of reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals. -/
theorem div_coe (a b : ℝ) (h : b ≠ 0) : Ideal.div (a : EReal) (b : EReal) = ((a / b : ℝ) : EReal) := by
  rw [Ideal.div_coe h, ← EReal.coe_mul, mul_one_div]

/-- The reciprocal root of a positive real. -/
theorem rsqrt_coe (a : ℝ) (h : 0 < a) : Ideal.rsqrt (a : EReal) = (((√a)⁻¹ : ℝ) : EReal) := by
  rw [Ideal.rsqrt_coe, if_neg (not_lt.mpr h.le), if_neg h.ne']

/-- The mean square plus the norms' constant. -/
def ms {n : ℕ} (x : Fin n → ℝ) : ℝ := (∑ k, x k * x k) / 1024 + eps

theorem ms_pos {n : ℕ} (x : Fin n → ℝ) : 0 < ms x := by
  have h : 0 ≤ ∑ k, x k * x k := Finset.sum_nonneg fun k _ => mul_self_nonneg _
  have := eps_pos
  unfold ms; positivity

theorem ms_coe {n : ℕ} (x : Fin n → ℝ) :
    Ideal.div (∑ k, ((x k : ℝ) : EReal) * ((x k : ℝ) : EReal)) (Ideal.ofBits .f32 0x44800000#32) + Ideal.ofBits .f32 0x358637BD#32
      = ((ms x : ℝ) : EReal) := by
  simp only [← EReal.coe_mul]
  rw [sum_coe, c_1024, c_eps, div_coe _ _ (by norm_num), ← EReal.coe_add, ms]

/-- The reciprocal root mean square. -/
def rr {n : ℕ} (x : Fin n → ℝ) : ℝ := (√(ms x))⁻¹

theorem rr_coe {n : ℕ} (x : Fin n → ℝ) : Ideal.rsqrt ((ms x : ℝ) : EReal) = ((rr x : ℝ) : EReal) := rsqrt_coe _ (ms_pos x)

theorem rr_sq {n : ℕ} (x : Fin n → ℝ) : rr x * rr x * ms x = 1 := by
  have h := ms_pos x
  unfold rr
  rw [← mul_inv, Real.mul_self_sqrt h.le, inv_mul_cancel₀ h.ne']

theorem div_ms_coe {n : ℕ} (x : Fin n → ℝ) (a : ℝ) : Ideal.div (a : EReal) ((ms x : ℝ) : EReal) = ((a / ms x : ℝ) : EReal) :=
  div_coe _ _ (ms_pos x).ne'

/-- The norm's gradient, written with the normed row and its mean, is the derivative taken step by step: `d · r` and the derivative of the
    mean square, which enters through both factors of the square. -/
theorem norm_bwd {n : ℕ} (x d : Fin n → ℝ) (c : Fin n) :
    rr x * (d c - x c * rr x * ((∑ k, d k * (x k * rr x)) / 1024))
      = d c * rr x + x c * ((∑ k, x k * d k) * (-1 / 2 * (rr x / ms x)) / 1024)
        + (∑ k, x k * d k) * (-1 / 2 * (rr x / ms x)) / 1024 * x c := by
  have e : ∑ k, d k * (x k * rr x) = rr x * ∑ k, x k * d k := by
    rw [Finset.mul_sum]; exact Finset.sum_congr rfl fun k _ => by ring
  have hm := (ms_pos x).ne'
  have h3 : rr x / ms x = rr x * (rr x * rr x) := by
    rw [div_eq_iff hm, mul_assoc, rr_sq, mul_one]
  rw [e, h3]
  ring

theorem c_top : Ideal.ofBits .f32 0x7F800000#32 = (⊤ : EReal) := by
  simp [Ideal.ofBits, Ideal.ieee]

/-- An array all of whose entries are less than infinity in absolute value is an array of reals. -/
theorem reals_of_finite {S : Shape} (a : FVec Ideal S .f32) (b : FVec Ideal S .f32) (hb : ∀ i, b i = Ideal.ofBits .f32 0x7F800000#32)
    (h : cmpf .olt (Host.absf a) b = (fun _ => 1#1)) : ∃ f : S.Idx → ℝ, a = fun i => ((f i : ℝ) : EReal) := by
  have key : ∀ i, ∃ r : ℝ, a i = (r : EReal) := by
    intro i
    have h1 := congrFun h i
    have h2 : max (a i : EReal) (-(a i)) < ⊤ := by
      refine (Ideal.cmp_olt_eq_one _ _).mp ?_
      rw [← c_top, ← hb i]
      exact h1
    generalize hx : (a i : EReal) = x at h2
    revert h2
    induction x using EReal.rec with
    | bot => intro h2; exact absurd h2 (by simp)
    | coe r => intro _; exact ⟨r, rfl⟩
    | top => intro h2; exact absurd h2 (by simp)
  choose f hf using key
  exact ⟨f, funext hf⟩

end Cert.Re

end

end
-- ==== Proof.In.Ref.lean ====
/- The gradient of the input norm, the reference's results read at an index. -/
module

public import proofs.«01_k».proof.Proof.In.Array
public import proofs.«01_k».proof.Proof.Common.Real
public import proofs.«01_k».proof.Proof.Gen.ReferenceIdeal.Read
public import Idealize.ShloMosaic.Lib.Pointwise

@[expose] public section

set_option maxRecDepth 16384

noncomputable section

namespace Cert.ReferenceIdeal.In

open Idealize.ShloMosaic Idealize.ShloMosaic.TcCoe Cert.ReferenceIdeal Cert.ReferenceIdeal.Read Cert.KernelIdeal.In

variable (x x1 : Vec Ideal S8192x1024 .f32) (g sc : Vec Ideal S1x1024 .f32) (w : Vec Ideal S1024x6144 .f32) (dp : Vec Ideal S8192x6144 .f32)

/-- The mean square of time `i` plus the norm's constant. -/
def MS (i : Fin 8192) : EReal :=
  Ideal.div (∑ k : Fin 1024, x (ix2 i k) * x (ix2 i k)) (Ideal.ofBits .f32 0x44800000#32) + Ideal.ofBits .f32 0x358637BD#32

theorem v6_at (i : Fin 8192) (z : Fin 1) : val_main_v6 (F := Ideal) x (ix2 i z) = MS x i := by
  obtain rfl : z = 0 := Subsingleton.elim _ _
  unfold MS
  pointwise [val_main_v6, val_main_v5, val_main_v4, val_main_v3, val_main_v2, val_main_v1, val_main_v0, val_main_cst, val_main_cst_0, val_main_cst_1]

theorem v22_at (i : Fin 8192) (c : Fin 1024) : val_main_v22 (F := Ideal) w dp (ix2 i c) = H w dp i c := by
  unfold H
  pointwise [val_main_v22]

/-- The mean square's part of the gradient at time `i`. -/
def SQ (i : Fin 8192) : EReal :=
  Ideal.div ((∑ k : Fin 1024, x (ix2 i k) * (H w dp i k * (1 + sc (ix2 0 k)) * g (ix2 0 k)))
    * (Ideal.ofBits .f32 0xBF000000#32 * Ideal.div (Ideal.rsqrt (MS x i)) (MS x i))) (Ideal.ofBits .f32 0x44800000#32)

theorem v49_at (i : Fin 8192) (c : Fin 1024) : val_main_v49 (F := Ideal) x g sc w x1 dp (ix2 i c)
    = x1 (ix2 i c) + H w dp i c * (1 + sc (ix2 0 c)) * g (ix2 0 c) * Ideal.rsqrt (MS x i) + x (ix2 i c) * SQ x g sc w dp i
      + SQ x g sc w dp i * x (ix2 i c) := by
  unfold SQ
  simp only [← v6_at x i 0, ← v22_at]
  pointwise [val_main_v49, val_main_v48, val_main_v47, val_main_v46, val_main_v45, val_main_v44, val_main_v43, val_main_v42, val_main_v41,
   val_main_v40, val_main_v39, val_main_v38, val_main_v37, val_main_v36, val_main_v35, val_main_v34, val_main_v33, val_main_v29, val_main_v28,
   val_main_v16, val_main_v15, val_main_v10, val_main_v9, val_main_v8, val_main_v7, val_main_cst_2, val_main_cst_3, val_main_cst_7, val_main_cst_8, val_main_cst_9]
  try simp only [Fin.sum_univ_one]
  try rfl

theorem v51_at (r : Fin 8) (c : Fin 1024) : val_main_v51 (F := Ideal) x g sc w dp (ix2 r c)
    = if r.val = 0 then ∑ i : Fin 8192, H w dp i c
      else if r.val = 1 then ∑ i : Fin 8192, x (ix2 i c) * Ideal.rsqrt (MS x i) * g (ix2 0 c) * H w dp i c
      else if r.val = 2 then ∑ i : Fin 8192, x (ix2 i c) * Ideal.rsqrt (MS x i) * (H w dp i c * (1 + sc (ix2 0 c)))
      else 0 := by
  have e : ∀ i : Fin 8192, MS x i = val_main_v6 (F := Ideal) x (ix2 i 0) := fun i => (v6_at x i 0).symm
  simp only [e, ← v22_at]
  pointwise [val_main_v51, val_main_v50, val_main_v32, val_main_v31, val_main_v30, val_main_v29, val_main_v28, val_main_v27, val_main_v26, val_main_v25, val_main_v24,
   val_main_v23, val_main_v16, val_main_v15, val_main_v14, val_main_v13, val_main_v12, val_main_v11, val_main_v7, val_main_cst_3, val_main_cst_4, val_main_cst_5, val_main_cst_6, val_main_cst_10]
  have h := r.isLt
  split_ifs <;> first | rfl | omega

end Cert.ReferenceIdeal.In
-- ==== Proof.In.Value.lean ====
/- The gradient of the input norm: the kernel's arrays are the reference's, for real arguments. -/
module

public import proofs.«01_k».proof.Proof.In.Ref
public import proofs.«01_k».proof.Proof.Gen.ReferenceIdeal.Run
public import proofs.«01_k».proof.Defs

@[expose] public section

set_option maxRecDepth 16384

noncomputable section

namespace Cert.KernelIdeal.In

open Idealize.ShloMosaic Idealize.ShloMosaic.TcCoe Idealize.SL.Sem Cert.KernelIdeal Cert.KernelIdeal.Gen Cert.ReferenceIdeal.In Cert.Re

section Forms

variable (X : Fin 8192 → Fin 1024 → ℝ) (G S : Fin 1024 → ℝ) (W : Fin 1024 → Fin 6144 → ℝ) (P : Fin 8192 → Fin 6144 → ℝ)
  (x x1 : Vec Ideal S8192x1024 .f32) (g sc : Vec Ideal S1x1024 .f32) (w : Vec Ideal S1024x6144 .f32) (dp : Vec Ideal S8192x6144 .f32)

/-- The real gradient of the projection's input. -/
def hR (i : Fin 8192) (c : Fin 1024) : ℝ := ∑ k : Fin 6144, P i k * W c k

variable {X G S W P x x1 g sc w dp}
variable (hx : ∀ i c, x (ix2 i c) = ((X i c : ℝ) : EReal)) (hg : ∀ c, g (ix2 0 c) = ((G c : ℝ) : EReal))
  (hs : ∀ c, sc (ix2 0 c) = ((S c : ℝ) : EReal)) (hw : ∀ c k, w (ix2 c k) = ((W c k : ℝ) : EReal))
  (hp : ∀ i k, dp (ix2 i k) = ((P i k : ℝ) : EReal))

include hw hp in
theorem H_coe (i : Fin 8192) (c : Fin 1024) : H w dp i c = ((hR W P i c : ℝ) : EReal) := by
  unfold H hR
  simp only [hw, hp, ← EReal.coe_mul]
  rw [sum_coe]

include hx in
theorem M_coe (i : Fin 8192) : MS x i = ((ms (X i) : ℝ) : EReal) := by
  unfold MS
  simp only [hx]
  exact ms_coe (X i)

include hx in
theorem R_coe (i : Fin 8192) : R x i = ((rr (X i) : ℝ) : EReal) := by
  rw [← rr_coe, ← M_coe hx]; rfl

include hx hg hs hw hp in
/-- The kernel's gradient of the block's input is the reference's. -/
theorem DX_eq (i : Fin 8192) (c : Fin 1024) :
    DX x x1 g sc w dp i c
      = x1 (ix2 i c) + H w dp i c * (1 + sc (ix2 0 c)) * g (ix2 0 c) * Ideal.rsqrt (MS x i) + x (ix2 i c) * SQ x g sc w dp i
        + SQ x g sc w dp i * x (ix2 i c) := by
  have key := norm_bwd (X i) (fun c => hR W P i c * (1 + S c) * G c) c
  have ed : ∀ c, hR W P i c * (G c * (1 + S c)) = hR W P i c * (1 + S c) * G c := fun c => by ring
  unfold DX DN SQ
  simp only [H_coe hw hp, R_coe hx, M_coe hx, hx, hg, hs, c_one, c_1024, c_neg_half, rr_coe, ← EReal.coe_one, ← EReal.coe_add,
    ← EReal.coe_mul, ed, sum_coe, div_ms_coe, div_coe _ _ (by norm_num : (1024 : ℝ) ≠ 0), ← EReal.coe_sub]
  rw [add_assoc, add_assoc, ← EReal.coe_add, ← EReal.coe_add, key]
  ring_nf

include hx hg hs hw hp in
/-- The kernel's gradients of the shift, scale and gain, summed over the whole sequence, are the reference's. -/
theorem VO_eq (r : Fin 8) (c : Fin 1024) :
    VO x g sc w dp r c
      = if r.val = 0 then ∑ i : Fin 8192, H w dp i c
        else if r.val = 1 then ∑ i : Fin 8192, x (ix2 i c) * Ideal.rsqrt (MS x i) * g (ix2 0 c) * H w dp i c
        else if r.val = 2 then ∑ i : Fin 8192, x (ix2 i c) * Ideal.rsqrt (MS x i) * (H w dp i c * (1 + sc (ix2 0 c)))
        else 0 := by
  unfold VO
  simp only [H_coe hw hp, R_coe hx, M_coe hx, hx, hg, hs, c_one, rr_coe, ← EReal.coe_one, ← EReal.coe_add, ← EReal.coe_mul, sum_coe,
    Finset.sum_mul]
  split_ifs
  · rfl
  · exact congrArg _ (Finset.sum_congr rfl fun i _ => by ring)
  · exact congrArg _ (Finset.sum_congr rfl fun i _ => by ring)
  · rfl

end Forms

variable (m : (ℓ : Loc nD τ sig) → Buf (Elt Ideal) ℓ) (c : Dev nD)

/-- The tiles' sums add up to the sums over the sequence. -/
theorem vo_sum {X : Fin 8192 → Fin 1024 → ℝ} {G S : Fin 1024 → ℝ} {W : Fin 1024 → Fin 6144 → ℝ} {P : Fin 8192 → Fin 6144 → ℝ}
    (hx : ∀ i k, aX m c (ix2 i k) = ((X i k : ℝ) : EReal)) (hg : ∀ k, aG m c (ix2 0 k) = ((G k : ℝ) : EReal))
    (hs : ∀ k, aSc m c (ix2 0 k) = ((S k : ℝ) : EReal)) (hw : ∀ i k, aW m c (ix2 i k) = ((W i k : ℝ) : EReal))
    (hp : ∀ i k, aDp m c (ix2 i k) = ((P i k : ℝ) : EReal)) (r : Fin 8) (k : Fin 1024) :
    ∑ t : Fin cfg0.N, voRow (iblk m c 0 t) (iblk m c 2 t) (iblk m c 3 t) (V m c main_v10) r k
      = VO (aX m c) (aG m c) (aSc m c) (aW m c) (aDp m c) r k := by
  have tile (f : Fin 8192 → ℝ) : ∑ t : Fin cfg0.N, ∑ p : Fin 512, f (at_ t p) = ∑ i, f i :=
    Fin.sum_mul_add_congr (fun t p hl => rfl) (by decide +kernel)
  simp only [voRow_eq m c]
  unfold VO
  simp only [H_coe hw hp, R_coe hx, hx, hg, hs, c_one, ← EReal.coe_one, ← EReal.coe_add, ← EReal.coe_mul, sum_coe]
  split_ifs
  · rw [sum_coe, tile fun i => hR W P i k]
  · rw [sum_coe, ← Finset.sum_mul, tile fun i => hR W P i k * (X i k * rr (X i))]
  · rw [sum_coe, ← Finset.sum_mul, tile fun i => hR W P i k * (X i k * rr (X i))]
  · simp

end Cert.KernelIdeal.In
-- ==== Proof.In.Claim.lean ====
/- The gradient of the input norm: the value claim. -/
module

public import proofs.«01_k».proof.Proof.In.Value
public import proofs.«01_k».proof.Proof.Gen.KernelIdeal.Value
public import proofs.«01_k».proof.Proof.Gen.Pre_finite

@[expose] public section

set_option maxRecDepth 16384

noncomputable section

namespace Cert.KernelIdeal.In

open Idealize.ShloMosaic Idealize.ShloMosaic.TcCoe Idealize.SL.Sem Cert.KernelIdeal Cert.KernelIdeal.Gen Cert.ReferenceIdeal.In Cert.Re
open Cert.ReferenceIdeal.Read

variable (m : (ℓ : Loc nD τ sig) → Buf (Elt Ideal) ℓ)

/-- The precondition says that the arguments the gradients multiply are arrays of reals. -/
theorem reals (h : Cert.Pre_KernelIdeal_finite (hPre_finite := Cert.Pre_finite.Gen.facts) m) (c : Dev nD) :
    (∃ f : S8192x1024.Idx → ℝ, aX m c = fun i => ((f i : ℝ) : EReal)) ∧ (∃ f : S1x1024.Idx → ℝ, aG m c = fun i => ((f i : ℝ) : EReal)) ∧ (∃ f : S1x1024.Idx → ℝ, aSc m c = fun i => ((f i : ℝ) : EReal))
      ∧ (∃ f : S1024x6144.Idx → ℝ, aW m c = fun i => ((f i : ℝ) : EReal)) ∧ (∃ f : S8192x6144.Idx → ℝ, aDp m c = fun i => ((f i : ℝ) : EReal)) := by
  obtain ⟨h0, h1, h2, h3, h4⟩ := h c
  exact ⟨reals_of_finite _ _ (fun _ => rfl) h0, reals_of_finite _ _ (fun _ => rfl) h1, reals_of_finite _ _ (fun _ => rfl) h2,
    reals_of_finite _ _ (fun _ => rfl) h3, reals_of_finite _ _ (fun _ => rfl) h4⟩

/-- For real arguments the two arrays the kernel leaves are the reference's. -/
theorem values (h : Cert.Pre_KernelIdeal_finite (hPre_finite := Cert.Pre_finite.Gen.facts) m) (c : Dev nD) :
    (dats m 0 c).arrAt 4 cfg0.N = val_main_v49 (F := Ideal) (aX m c) (aG m c) (aSc m c) (aW m c) (aX1 m c) (aDp m c)
      ∧ (dats m 0 c).arrAt 5 cfg0.N = val_main_v51 (F := Ideal) (aX m c) (aG m c) (aSc m c) (aW m c) (aDp m c) := by
  obtain ⟨⟨fx, hx⟩, ⟨fg, hg⟩, ⟨fs, hs⟩, ⟨fw, hw⟩, ⟨fp, hp⟩⟩ := reals m h c
  have ex : ∀ i k, aX m c (ix2 i k) = ((fx (ix2 i k) : ℝ) : EReal) := fun i k => congrFun hx _
  have eg : ∀ k, aG m c (ix2 0 k) = ((fg (ix2 0 k) : ℝ) : EReal) := fun k => congrFun hg _
  have es : ∀ k, aSc m c (ix2 0 k) = ((fs (ix2 0 k) : ℝ) : EReal) := fun k => congrFun hs _
  have ew : ∀ i k, aW m c (ix2 i k) = ((fw (ix2 i k) : ℝ) : EReal) := fun i k => congrFun hw _
  have ep : ∀ i k, aDp m c (ix2 i k) = ((fp (ix2 i k) : ℝ) : EReal) := fun i k => congrFun hp _
  constructor
  · rw [dx_final]
    funext y
    obtain ⟨i, k, rfl⟩ : ∃ (i : Fin 8192) (k : Fin 1024), y = ix2 i k := ⟨_, _, eq_ix2 y⟩
    rw [v49_at]
    exact DX_eq (X := fun i k => fx (ix2 i k)) (G := fun k => fg (ix2 0 k)) (S := fun k => fs (ix2 0 k)) (W := fun i k => fw (ix2 i k))
      (P := fun i k => fp (ix2 i k)) ex eg es ew ep i k
  · rw [vo_final]
    funext y
    obtain ⟨r, k, rfl⟩ : ∃ (r : Fin 8) (k : Fin 1024), y = ix2 r k := ⟨_, _, eq_ix2 y⟩
    rw [v51_at]
    exact (vo_sum m c (X := fun i k => fx (ix2 i k)) (G := fun k => fg (ix2 0 k)) (S := fun k => fs (ix2 0 k)) (W := fun i k => fw (ix2 i k))
        (P := fun i k => fp (ix2 i k)) ex eg es ew ep r k).trans
      (VO_eq (X := fun i k => fx (ix2 i k)) (G := fun k => fg (ix2 0 k)) (S := fun k => fs (ix2 0 k)) (W := fun i k => fw (ix2 i k))
        (P := fun i k => fp (ix2 i k)) ex eg es ew ep r k)

/-- The kernel and the reference leave the same two arrays for finite arguments. -/
theorem claim : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  refine ⟨_, _, Cert.KernelIdeal.Value.run_blocks m ρ, (θ_run _ _ _).mono (fun r h c => ?_) (Cert.ReferenceIdeal.Value.run m' ρ')⟩
  obtain ⟨h0, h1, hk⟩ := h c
  obtain ⟨a0, a1, a2, a3, a4, a5, a6⟩ := hargs c
  obtain ⟨e0, e1⟩ := values m hpre c
  refine ⟨h0.trans ?_, h1.trans ?_, hk⟩
  · rw [val_main_v49_eq, a0, a1, a2, a4, a5, a6]; exact e0.symm
  · rw [val_main_v51_eq, a0, a1, a2, a4, a6]; exact e1.symm

/-- The reference runs, leaves its arguments unchanged and declares no semaphore. -/
theorem ref_frame : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.KernelIdeal.In
-- ==== Proof.Ffn.Spec.lean ====
/- One block of the gated network and of the loss, as formulas over the block's rows: the modulated norm, the two causal convolutions of the
   up projection, gelu and its gate, the down projection, the post norm and the gradients that start at the loss. The rows of a block
   stand in the order in which eight segments of 32 times are interleaved. -/
module

public import proofs.«01_k».proof.Proof.Gen.Kernel2Ideal.Frame
public import Idealize.ShloMosaic.Lib.Pointwise

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

/-- The time, within a block, that row `p` holds. -/
def tau (p : Fin 256) : Fin 256 := ⟨p.val % 8 * 32 + p.val / 8, by omega⟩

/-- The row that holds the time `r` of a block. -/
def rho (r : Fin 256) : Fin 256 := ⟨r.val % 32 * 8 + r.val / 32, by omega⟩

theorem tau_rho : ∀ r : Fin 256, tau (rho r) = r := by decide +kernel
theorem rho_tau : ∀ p : Fin 256, rho (tau p) = p := by decide +kernel

/-- The permutation of a block's rows. -/
def perm : Fin 256 ≃ Fin 256 := ⟨tau, rho, rho_tau, tau_rho⟩

/-- The row one time earlier; before time 0 stands the block's last time. -/
def prev (p : Fin 256) : Fin 256 := if p.val < 8 then ⟨248 + (p.val + 7) % 8, by omega⟩ else ⟨p.val - 8, by omega⟩

theorem tau_prev : ∀ p : Fin 256, (tau p).val ≠ 0 → (tau (prev p)).val = (tau p).val - 1 := by decide +kernel

/-- The constant that gelu's cubic term carries. -/
def KA : EReal := Named.named (F := Ideal) (φ := .f32) κ "gelu_ka" 0x3D122279#32

/-- The hyperbolic tangent of gelu. -/
def th (a : EReal) : EReal := Ideal.tanh (a * (a * a * KA + Ideal.ofBits .f32 0x3F4C422A#32))

/-- The gated activation. -/
def act (a b : EReal) : EReal := Ideal.ofBits .f32 0x3F000000#32 * a * (1 + th a) * b

/-- A column's values one time earlier, `c` before the block's first time. -/
def sh1 (U : Fin 256 → EReal) (c : EReal) (p : Fin 256) : EReal := if p.val = 0 then c else U (prev p)

/-- A column's values two times earlier, `c` and `c'` before the block's first two times. -/
def sh2 (U : Fin 256 → EReal) (c c' : EReal) (p : Fin 256) : EReal :=
  if p.val = 0 then c else if p.val = 8 then c' else U (prev (prev p))

/-- The causal convolution of a column. -/
def conv (U : Fin 256 → EReal) (c0 c1 c2 w0 w1 w2 b : EReal) (p : Fin 256) : EReal :=
  b + w2 * U p + w1 * sh1 U c0 p + w0 * sh2 U c1 c2 p

/-- The reciprocal root mean square of a row. -/
def rms (y : Fin 256 → Fin 1024 → EReal) (p : Fin 256) : EReal :=
  Ideal.rsqrt (Ideal.div (∑ k : Fin 1024, y p k * y p k) (Ideal.ofBits .f32 0x44800000#32) + Ideal.ofBits .f32 0x358637BD#32)

variable (x : Vec Ideal S256x1024 .f32) (tg : Vec Ideal S256x1024 .f32) (v : Vec Ideal S16x1024 .f32) (f : Vec Ideal S8x5632 .f32)
  (W : Vec Ideal S1024x5632 .bf16) (Wd : Vec Ideal S2816x1024 .bf16) (C : Vec Ideal S3x8x5632 .f32)

/-- The modulated normed row. -/
def hh (p : Fin 256) (q : Fin 1024) : EReal :=
  x (ix2 p q) * rms (fun p k => x (ix2 p k)) p * (v (ix2 8 q) * (1 + v (ix2 4 q))) + v (ix2 3 q)

/-- The up projection. -/
def up (j : Fin 5632) (p : Fin 256) : EReal := ∑ k : Fin 1024, hh x v p k * W (ix2 k j)

/-- The up projection, convolved. -/
def upc (j : Fin 5632) (p : Fin 256) : EReal :=
  conv (up x v W j) (C (ix3 0 0 j)) (C (ix3 1 0 j)) (C (ix3 2 0 j)) (f (ix2 0 j)) (f (ix2 1 j)) (f (ix2 2 j)) (f (ix2 3 j)) p

/-- The gated activation of the two halves. -/
def ac (j : Fin 2816) (p : Fin 256) : EReal :=
  act (upc x v f W C ⟨j.val, by omega⟩ p) (upc x v f W C ⟨2816 + j.val, by omega⟩ p)

/-- The down projection, in the two pieces in which it is added up. -/
def ff (p : Fin 256) (q : Fin 1024) : EReal :=
  (0 + ∑ j : Fin 1024, ac x v f W C ⟨j.val, by omega⟩ p * Wd (ix2 ⟨j.val, by omega⟩ q))
    + ∑ j : Fin 1792, ac x v f W C ⟨1024 + j.val, by omega⟩ p * Wd (ix2 ⟨1024 + j.val, by omega⟩ q)

/-- The post-normed row. -/
def n4 (p : Fin 256) (q : Fin 1024) : EReal := ff x v f W Wd C p q * rms (ff x v f W Wd C) p

/-- Output minus target. -/
def df (p : Fin 256) (q : Fin 1024) : EReal :=
  x (ix2 p q) + v (ix2 5 q) * v (ix2 9 q) * n4 x v f W Wd C p q - tg (ix2 (tau p) q)

/-- The gradient at the network's output, normed back. -/
def dff (p : Fin 256) (q : Fin 1024) : EReal :=
  rms (ff x v f W Wd C) p *
    (df x tg v f W Wd C p q * (v (ix2 5 q) * v (ix2 9 q) * Ideal.ofBits .f32 0x3A800000#32)
      - n4 x v f W Wd C p q * Ideal.div (∑ k : Fin 1024, df x tg v f W Wd C p k * (v (ix2 5 k) * v (ix2 9 k) * Ideal.ofBits .f32 0x3A800000#32)
          * n4 x v f W Wd C p k) (Ideal.ofBits .f32 0x44800000#32))

/-- The column sums that the two vector gradients scale. -/
def cs (q : Fin 1024) : EReal := ∑ p : Fin 256, df x tg v f W Wd C p q * n4 x v f W Wd C p q

/-- What a block adds to row `r` of the vector gradients. -/
def vo (r : Fin 8) (q : Fin 1024) : EReal :=
  if r.val = 0 then cs x tg v f W Wd C q * (v (ix2 9 q) * Ideal.ofBits .f32 0x3A800000#32)
  else if r.val = 1 then cs x tg v f W Wd C q * (v (ix2 5 q) * Ideal.ofBits .f32 0x3A800000#32)
  else 0

/-- What a block adds to the loss. -/
def ls : EReal := Ideal.ofBits .f32 0x3A000000#32 * ∑ p : Fin 256, ∑ q : Fin 1024, df x tg v f W Wd C p q * df x tg v f W Wd C p q

end Cert.Kernel2Ideal.Ffn
-- ==== Proof.Ffn.Pay.lean ====
/- The kernel's block values read at an index: each is the formula of the same name. -/
module

public import proofs.«01_k».proof.Proof.Ffn.Spec

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

/-- The choice on a row of eight being the first. -/
theorem select_first (a b : EReal) (i : ℕ) (h : i < 8) :
    Scalar.select (IntOp.cmpi .eq (BitVec.ofNat 32 i) 0#32) a b = if i = 0 then a else b := by
  interval_cases i <;> rfl

/-- The shift by one time, of a block read as 32 rows of 8. -/
theorem shift1 (U : Fin 256 → EReal) (c : Fin 1 → Fin 8 → EReal) (p : Fin 256) (h0 : p.val / 8 < 1 → p.val / 8 < 1)
    (h1 : p.val / 8 < 1 → (31 + p.val / 8) * 8 + (p.val % 8 + 8 - 1) % 8 < 256)
    (h2 : ¬ p.val / 8 < 1 → (p.val / 8 - 1) * 8 + p.val % 8 < 256) (h3 : p.val / 8 < 1 → p.val % 8 < 8) :
    (if h : p.val / 8 < 1 then
        Scalar.select (IntOp.cmpi .eq (BitVec.ofNat 32 (p.val % 8)) 0#32) (c ⟨p.val / 8, h0 h⟩ ⟨p.val % 8, h3 h⟩)
          (U ⟨(31 + p.val / 8) * 8 + (p.val % 8 + 8 - 1) % 8, h1 h⟩)
      else U ⟨(p.val / 8 - 1) * 8 + p.val % 8, h2 h⟩) = sh1 U (c 0 0) p := by
  split
  · rename_i h
    rw [select_first _ _ _ (h3 h), sh1]
    by_cases h4 : p.val = 0
    · rw [if_pos (by omega), if_pos h4]
      exact congrArg₂ c (Fin.ext (by simp only [Fin.val_zero]; omega)) (Fin.ext (by simp only [Fin.val_zero]; omega))
    · rw [if_neg (by omega), if_neg h4, prev, if_pos (by omega)]
      exact congrArg U (Fin.ext (by simp only []; omega))
  · rename_i h
    rw [sh1, if_neg (by omega), prev, if_neg (by omega)]
    exact congrArg U (Fin.ext (by simp only []; omega))

theorem prev_prev : ∀ p : Fin 256, (prev (prev p)).val =
    if p.val < 16 then 240 + p.val / 8 * 8 + (p.val % 8 + 7) % 8 else p.val - 16 := by decide +kernel

/-- The shift by two times, of a block read as 32 rows of 8. -/
theorem shift2 (U : Fin 256 → EReal) (c : Fin 2 → Fin 8 → EReal) (p : Fin 256) (h0 : p.val / 8 < 2 → p.val / 8 < 2)
    (h1 : p.val / 8 < 2 → (30 + p.val / 8) * 8 + (p.val % 8 + 8 - 1) % 8 < 256)
    (h2 : ¬ p.val / 8 < 2 → (p.val / 8 - 2) * 8 + p.val % 8 < 256) (h3 : p.val / 8 < 2 → p.val % 8 < 8) :
    (if h : p.val / 8 < 2 then
        Scalar.select (IntOp.cmpi .eq (BitVec.ofNat 32 (p.val % 8)) 0#32) (c ⟨p.val / 8, h0 h⟩ ⟨p.val % 8, h3 h⟩)
          (U ⟨(30 + p.val / 8) * 8 + (p.val % 8 + 8 - 1) % 8, h1 h⟩)
      else U ⟨(p.val / 8 - 2) * 8 + p.val % 8, h2 h⟩) = sh2 U (c 0 0) (c 1 0) p := by
  have h5 := prev_prev p
  split
  · rename_i h
    rw [if_pos (by omega)] at h5
    rw [select_first _ _ _ (h3 h), sh2]
    by_cases h4 : p.val = 0
    · rw [if_pos (by omega), if_pos h4]
      exact congrArg₂ c (Fin.ext (by simp only [Fin.val_zero]; omega)) (Fin.ext (by simp only [Fin.val_zero]; omega))
    by_cases h6 : p.val = 8
    · rw [if_pos (by omega), if_neg h4, if_pos h6]
      exact congrArg₂ c (Fin.ext (by simp only [Fin.val_one]; omega)) (Fin.ext (by simp only [Fin.val_zero]; omega))
    · rw [if_neg (by omega), if_neg h4, if_neg h6]
      exact congrArg U (Fin.ext (by simp only [h5]; omega))
  · rename_i h
    rw [if_neg (by omega)] at h5
    rw [sh2, if_neg (by omega), if_neg (by omega)]
    exact congrArg U (Fin.ext (by simp only [h5]; omega))

section slabs

variable (h : FVec Ideal S256x1024 .bf16)

/-- The gate's first slab of columns, convolved. -/
theorem gate0 (w : Vec Ideal S1024x1024 .bf16) (f0 f1 f2 f3 : Vec Ideal S1x1024 .f32) (c1 : Vec Ideal S1x8x1024 .f32)
    (c2 : Vec Ideal S2x8x1024 .f32) (p : Fin 256) (j : Fin 1024) :
    k0_pay24 (F := Ideal) (k0_pay9 h w) (k0_pay11 f0) (k0_pay12 f1) (k0_pay13 f2) (k0_pay14 f3) (k0_pay17 h w c1) (k0_pay21 h w c2)
      (k0_pay22 h w) (ix2 p j)
      = conv (fun p => k0_pay9 (F := Ideal) h w (ix2 p j)) (c1 (ix3 0 0 j)) (c2 (ix3 0 0 j)) (c2 (ix3 1 0 j))
          (f0 (ix2 0 j)) (f1 (ix2 0 j)) (f2 (ix2 0 j)) (f3 (ix2 0 j)) p := by
  pointwise [k0_pay24, k0_pay17, k0_pay16, k0_pay15, k0_pay21, k0_pay20, k0_pay19, k0_pay22, k0_pay11, k0_pay12, k0_pay13, k0_pay14]
  exact congrArg₂ (· + ·) (congrArg₂ (· + ·) rfl (congrArg _ (shift1 (fun p => k0_pay9 (F := Ideal) h w (ix2 p j)) (fun a b => c1 (ix3 a b j)) p _ _ _ _)))
    (congrArg _ (shift2 (fun p => k0_pay9 (F := Ideal) h w (ix2 p j)) (fun a b => c2 (ix3 a b j)) p _ _ _ _))

/-- The value's first slab of columns, convolved. -/
theorem val0 (w : Vec Ideal S1024x1024 .bf16) (f0 f1 f2 f3 : Vec Ideal S1x1024 .f32) (c1 : Vec Ideal S1x8x1024 .f32)
    (c2 : Vec Ideal S2x8x1024 .f32) (p : Fin 256) (j : Fin 1024) :
    k0_pay38 (F := Ideal) (k0_pay26 h w) (k0_pay28 f0) (k0_pay29 f1) (k0_pay30 f2) (k0_pay31 f3) c1 (k0_pay32 h w) (k0_pay33 h w)
      (iota .tc S1x8x1024 32 [1] iota_S1x8x1024_d1_w32) 0#32 c2 (ix2 p j)
      = conv (fun p => k0_pay26 (F := Ideal) h w (ix2 p j)) (c1 (ix3 0 0 j)) (c2 (ix3 0 0 j)) (c2 (ix3 1 0 j))
          (f0 (ix2 0 j)) (f1 (ix2 0 j)) (f2 (ix2 0 j)) (f3 (ix2 0 j)) p := by
  pointwise [k0_pay38, k0_pay36, k0_pay35, k0_pay33, k0_pay32, k0_pay28, k0_pay29, k0_pay30, k0_pay31]
  exact congrArg₂ (· + ·) (congrArg₂ (· + ·) rfl (congrArg _ (shift1 (fun p => k0_pay26 (F := Ideal) h w (ix2 p j)) (fun a b => c1 (ix3 a b j)) p _ _ _ _)))
    (congrArg _ (shift2 (fun p => k0_pay26 (F := Ideal) h w (ix2 p j)) (fun a b => c2 (ix3 a b j)) p _ _ _ _))

/-- The gate's second slab of columns, convolved. -/
theorem gate1 (w : Vec Ideal S1024x1792 .bf16) (f0 f1 f2 f3 : Vec Ideal S1x1792 .f32) (c1 : Vec Ideal S1x8x1792 .f32)
    (c2 : Vec Ideal S2x8x1792 .f32) (p : Fin 256) (j : Fin 1792) :
    k0_pay56 (F := Ideal) (k0_pay43 h w) (k0_pay45 f0) (k0_pay46 f1) (k0_pay47 f2) (k0_pay48 f3) (k0_pay51 h w c1) c2 (ix2 p j)
      = conv (fun p => k0_pay43 (F := Ideal) h w (ix2 p j)) (c1 (ix3 0 0 j)) (c2 (ix3 0 0 j)) (c2 (ix3 1 0 j))
          (f0 (ix2 0 j)) (f1 (ix2 0 j)) (f2 (ix2 0 j)) (f3 (ix2 0 j)) p := by
  pointwise [k0_pay56, k0_pay54, k0_pay53, k0_pay51, k0_pay50, k0_pay49, k0_pay45, k0_pay46, k0_pay47, k0_pay48]
  exact congrArg₂ (· + ·) (congrArg₂ (· + ·) rfl (congrArg _ (shift1 (fun p => k0_pay43 (F := Ideal) h w (ix2 p j)) (fun a b => c1 (ix3 a b j)) p _ _ _ _)))
    (congrArg _ (shift2 (fun p => k0_pay43 (F := Ideal) h w (ix2 p j)) (fun a b => c2 (ix3 a b j)) p _ _ _ _))

/-- The value's second slab of columns, convolved. -/
theorem val1 (w : Vec Ideal S1024x1792 .bf16) (f0 f1 f2 f3 : Vec Ideal S1x1792 .f32) (c1 : Vec Ideal S1x8x1792 .f32)
    (c2 : Vec Ideal S2x8x1792 .f32) (p : Fin 256) (j : Fin 1792) :
    k0_pay72 (F := Ideal) (k0_pay60 f0) (k0_pay61 f1) (k0_pay62 f3) (k0_pay65 (k0_pay58 h w) c1) (k0_pay69 (k0_pay58 h w) c2)
      (k0_pay71 (k0_pay58 h w) f2) (ix2 p j)
      = conv (fun p => k0_pay58 (F := Ideal) h w (ix2 p j)) (c1 (ix3 0 0 j)) (c2 (ix3 0 0 j)) (c2 (ix3 1 0 j))
          (f0 (ix2 0 j)) (f1 (ix2 0 j)) (f2 (ix2 0 j)) (f3 (ix2 0 j)) p := by
  pointwise [k0_pay72, k0_pay71, k0_pay69, k0_pay68, k0_pay67, k0_pay65, k0_pay64, k0_pay63, k0_pay60, k0_pay61, k0_pay62]
  exact congrArg₂ (· + ·) (congrArg₂ (· + ·) rfl (congrArg _ (shift1 (fun p => k0_pay58 (F := Ideal) h w (ix2 p j)) (fun a b => c1 (ix3 a b j)) p _ _ _ _)))
    (congrArg _ (shift2 (fun p => k0_pay58 (F := Ideal) h w (ix2 p j)) (fun a b => c2 (ix3 a b j)) p _ _ _ _))

theorem dot9 (w : Vec Ideal S1024x1024 .bf16) (p : Fin 256) (j : Fin 1024) :
    k0_pay9 (F := Ideal) h w (ix2 p j) = ∑ k : Fin 1024, h (ix2 p k) * w (ix2 k j) := by
  pointwise! [k0_pay9]

theorem dot26 (w : Vec Ideal S1024x1024 .bf16) (p : Fin 256) (j : Fin 1024) :
    k0_pay26 (F := Ideal) h w (ix2 p j) = ∑ k : Fin 1024, h (ix2 p k) * w (ix2 k j) := by
  pointwise! [k0_pay26]

theorem dot43 (w : Vec Ideal S1024x1792 .bf16) (p : Fin 256) (j : Fin 1792) :
    k0_pay43 (F := Ideal) h w (ix2 p j) = ∑ k : Fin 1024, h (ix2 p k) * w (ix2 k j) := by
  pointwise! [k0_pay43]

theorem dot58 (w : Vec Ideal S1024x1792 .bf16) (p : Fin 256) (j : Fin 1792) :
    k0_pay58 (F := Ideal) h w (ix2 p j) = ∑ k : Fin 1024, h (ix2 p k) * w (ix2 k j) := by
  pointwise! [k0_pay58]

end slabs

theorem a41 (g u : FVec Ideal S256x1024 .f32) (p : Fin 256) (j : Fin 1024) :
    k0_pay41 (F := Ideal) g u (k0_pay40 g) (ix2 p j) = act (g (ix2 p j)) (u (ix2 p j)) := by
  pointwise [k0_pay41, k0_pay40]
  rfl

theorem a74 (g : FVec Ideal S256x1792 .f32) (f0 f1 f3 : FVec Ideal S1x1792 .f32) (s1 s2 s3 : FVec Ideal S256x1792 .f32) (p : Fin 256) (j : Fin 1792) :
    k0_pay74 (F := Ideal) g f0 f1 f3 s1 s2 s3 (ix2 p j) = act (g (ix2 p j)) (k0_pay72 (F := Ideal) f0 f1 f3 s1 s2 s3 (ix2 p j)) := by
  pointwise [k0_pay74]
  rfl

theorem f75 (g u : FVec Ideal S256x1024 .f32) (w : Vec Ideal S1024x1024 .bf16) (g' : FVec Ideal S256x1792 .f32)
    (f0 f1 f3 : FVec Ideal S1x1792 .f32) (s1 s2 s3 : FVec Ideal S256x1792 .f32) (w' : Vec Ideal S1792x1024 .bf16) (p : Fin 256) (q : Fin 1024) :
    k0_pay75 (F := Ideal) (k0_pay42 k0_pay8 g u (k0_pay40 g) w) g' f0 f1 f3 s1 s2 s3 w' (ix2 p q)
      = (0 + ∑ j : Fin 1024, act (g (ix2 p j)) (u (ix2 p j)) * w (ix2 j q))
        + ∑ j : Fin 1792, act (g' (ix2 p j)) (k0_pay72 (F := Ideal) f0 f1 f3 s1 s2 s3 (ix2 p j)) * w' (ix2 j q) := by
  pointwise! [k0_pay75, k0_pay42, k0_pay8]
  simp only [a41, a74]

section tail

variable (a : FVec Ideal S256x1024 .f32) (g' : FVec Ideal S256x1792 .f32) (f0 f1 f3 : FVec Ideal S1x1792 .f32)
  (s1 s2 s3 : FVec Ideal S256x1792 .f32) (w' : Vec Ideal S1792x1024 .bf16)

theorem r76 (p : Fin 256) :
    k0_pay76 (F := Ideal) a g' f0 f1 f3 s1 s2 s3 w' (ix2 p 0)
      = rms (fun p q => k0_pay75 (F := Ideal) a g' f0 f1 f3 s1 s2 s3 w' (ix2 p q)) p := by
  pointwise [k0_pay76]
  rfl

theorem n77 (p : Fin 256) (q : Fin 1024) :
    k0_pay77 (F := Ideal) a g' f0 f1 f3 s1 s2 s3 w' (ix2 p q)
      = k0_pay75 (F := Ideal) a g' f0 f1 f3 s1 s2 s3 w' (ix2 p q)
        * rms (fun p q => k0_pay75 (F := Ideal) a g' f0 f1 f3 s1 s2 s3 w' (ix2 p q)) p := by
  pointwise [k0_pay77]
  rw [r76]

end tail

section head

variable (x : Vec Ideal S256x1024 .f32) (n : FVec Ideal S256x1024 .f32) (gt gp : Vec Ideal S1x1024 .f32) (tg : Vec Ideal S256x1024 .f32)

theorem d81 (p : Fin 256) (q : Fin 1024) :
    k0_pay81 (F := Ideal) (k0_pay6 x) n (k0_pay78 gt) gp tg (ix2 p q)
      = x (ix2 p q) + gt (ix2 0 q) * gp (ix2 0 q) * n (ix2 p q) - tg (ix2 (tau p) q) := by
  pointwise [k0_pay81, k0_pay80, k0_pay79, k0_pay78, k0_pay6]
  rfl

theorem l82 (l : Vec Ideal S8x128 .f32) (r : Fin 8) (k : Fin 128) :
    k0_pay82 (F := Ideal) (k0_pay6 x) n (k0_pay78 gt) gp tg l (ix2 r k)
      = l (ix2 r k) + Ideal.ofBits .f32 0x3A000000#32 * ∑ p : Fin 256, ∑ q : Fin 1024,
          k0_pay81 (F := Ideal) (k0_pay6 x) n (k0_pay78 gt) gp tg (ix2 p q) * k0_pay81 (F := Ideal) (k0_pay6 x) n (k0_pay78 gt) gp tg (ix2 p q) := by
  pointwise [k0_pay82]

theorem x83 (p : Fin 256) (q : Fin 1024) :
    k0_pay83 (F := Ideal) (k0_pay6 x) n (k0_pay78 gt) gp tg (ix2 p q)
      = k0_pay81 (F := Ideal) (k0_pay6 x) n (k0_pay78 gt) gp tg (ix2 p q) * Ideal.ofBits .f32 0x3A800000#32 := by
  pointwise [k0_pay83]

theorem c84 (q : Fin 1024) :
    k0_pay84 (F := Ideal) (k0_pay6 x) n (k0_pay78 gt) gp tg (ix2 0 q)
      = ∑ p : Fin 256, k0_pay81 (F := Ideal) (k0_pay6 x) n (k0_pay78 gt) gp tg (ix2 p q) * n (ix2 p q) := by
  pointwise [k0_pay84]

theorem v85 (o : Vec Ideal S1x1024 .f32) (q : Fin 1024) :
    k0_pay85 (F := Ideal) (k0_pay6 x) n (k0_pay78 gt) gp tg o (ix2 0 q)
      = o (ix2 0 q) + k0_pay84 (F := Ideal) (k0_pay6 x) n (k0_pay78 gt) gp tg (ix2 0 q) * (gp (ix2 0 q) * Ideal.ofBits .f32 0x3A800000#32) := by
  pointwise [k0_pay85, k0_pay79]

theorem v1 (s : FVec Ideal S1x1024 .f32) (o : Vec Ideal S1x1024 .f32) (q : Fin 1024) :
    k0_pay1 (F := Ideal) (k0_pay78 gt) s (k0_pay86 o) (FloatOps.ofBits .f32 0x3A800000#32) (ix2 0 q)
      = o (ix2 0 q) + s (ix2 0 q) * (gt (ix2 0 q) * Ideal.ofBits .f32 0x3A800000#32) := by
  pointwise [k0_pay1, k0_pay78, k0_pay86]

theorem b2 (r : FVec Ideal S256x1 .f32) (d : FVec Ideal S256x1024 .f32) (p : Fin 256) (q : Fin 1024) :
    k0_pay2 (F := Ideal) r n (k0_pay80 (k0_pay78 gt) gp) d (ix2 p q)
      = r (ix2 p 0) * (d (ix2 p q) * (gt (ix2 0 q) * gp (ix2 0 q) * Ideal.ofBits .f32 0x3A800000#32)
        - n (ix2 p q) * Ideal.div (∑ k : Fin 1024, d (ix2 p k) * (gt (ix2 0 k) * gp (ix2 0 k) * Ideal.ofBits .f32 0x3A800000#32) * n (ix2 p k))
            (Ideal.ofBits .f32 0x44800000#32)) := by
  pointwise [k0_pay2, k0_pay80, k0_pay79, k0_pay78]

end head

theorem z3 (i : Fin 3) (r : Fin 8) (k : Fin 5632) : k0_pay3 (F := Ideal) (ix3 i r k) = 0 := by
  pointwise [k0_pay3]

theorem z4 (r : Fin 8) (k : Fin 1024) : k0_pay4 (F := Ideal) (ix2 r k) = 0 := by
  pointwise [k0_pay4]

theorem z5 (r : Fin 8) (k : Fin 128) : k0_pay5 (F := Ideal) (ix2 r k) = 0 := by
  pointwise [k0_pay5]

end Cert.Kernel2Ideal.Ffn
-- ==== Proof.Ffn.Tile.lean ====
/- One grid point of the kernel: what the point at time block `t` leaves in its output blocks and in the scratch carried to the next point,
   as the formulas of the block's rows. -/
module

public import proofs.«01_k».proof.Proof.Ffn.Pay
public import Idealize.ShloMosaic.Lib.Pipeline.ValueKit
public import Idealize.ShloMosaic.Lib.Pipeline.ReadBack
public import proofs.«01_k».proof.Proof.Common.Rows
public import Idealize.ShloMosaic.Lib.Pipeline.ValueKit.Held

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

section blocks

variable (x : Vec Ideal S256x1024 .f32) (tg : Vec Ideal S256x1024 .f32) (v : Vec Ideal S16x1024 .f32) (f : Vec Ideal S8x5632 .f32)
  (W : Vec Ideal S1024x5632 .bf16) (Wd : Vec Ideal S2816x1024 .bf16) (C : Vec Ideal S3x8x5632 .f32)

/-- The modulated normed block. -/
abbrev hB : FVec Ideal S256x1024 .bf16 :=
  k0_pay7 (F := Ideal) x (View.ld (Val := Elt Ideal) v (Rect.unit (s := S16x1024) ![8, 0] ![1, 1024] inb_S16x1024_S1x1024_8_0))
    (View.ld (Val := Elt Ideal) v (Rect.unit (s := S16x1024) ![4, 0] ![1, 1024] inb_S16x1024_S1x1024_4_0))
    (View.ld (Val := Elt Ideal) v (Rect.unit (s := S16x1024) ![3, 0] ![1, 1024] inb_S16x1024_S1x1024_3_0))

theorem hB_at (p : Fin 256) (q : Fin 1024) : hB x v (ix2 p q) = hh x v p q := by
  pointwise [k0_pay7, k0_pay6]
  rfl

/-- The four slabs of columns of the up weight. -/
abbrev w0 : Vec Ideal S1024x1024 .bf16 :=
  View.ld (Val := Elt Ideal) W (Rect.unit (s := S1024x5632) ![0, 0] ![1024, 1024] inb_S1024x5632_S1024x1024_0_0)
abbrev w2816 : Vec Ideal S1024x1024 .bf16 :=
  View.ld (Val := Elt Ideal) W (Rect.unit (s := S1024x5632) ![0, 2816] ![1024, 1024] inb_S1024x5632_S1024x1024_0_2816)
abbrev w1024 : Vec Ideal S1024x1792 .bf16 :=
  View.ld (Val := Elt Ideal) W (Rect.unit (s := S1024x5632) ![0, 1024] ![1024, 1792] inb_S1024x5632_S1024x1792_0_1024)
abbrev w3840 : Vec Ideal S1024x1792 .bf16 :=
  View.ld (Val := Elt Ideal) W (Rect.unit (s := S1024x5632) ![0, 3840] ![1024, 1792] inb_S1024x5632_S1024x1792_0_3840)

theorem u0_at (p : Fin 256) (j : Fin 1024) :
    k0_pay9 (F := Ideal) (hB x v) (w0 W) (ix2 p j) = up x v W ⟨j.val, by omega⟩ p := by
  rw [dot9]
  simp only [hB_at]
  exact Finset.sum_congr rfl fun k _ => congrArg (hh x v p k * ·) (by pointwise [w0])

theorem u2816_at (p : Fin 256) (j : Fin 1024) :
    k0_pay26 (F := Ideal) (hB x v) (w2816 W) (ix2 p j) = up x v W ⟨2816 + j.val, by omega⟩ p := by
  rw [dot26]
  simp only [hB_at]
  exact Finset.sum_congr rfl fun k _ => congrArg (hh x v p k * ·) (by pointwise [w2816])

theorem u1024_at (p : Fin 256) (j : Fin 1792) :
    k0_pay43 (F := Ideal) (hB x v) (w1024 W) (ix2 p j) = up x v W ⟨1024 + j.val, by omega⟩ p := by
  rw [dot43]
  simp only [hB_at]
  exact Finset.sum_congr rfl fun k _ => congrArg (hh x v p k * ·) (by pointwise [w1024])

theorem u3840_at (p : Fin 256) (j : Fin 1792) :
    k0_pay58 (F := Ideal) (hB x v) (w3840 W) (ix2 p j) = up x v W ⟨3840 + j.val, by omega⟩ p := by
  rw [dot58]
  simp only [hB_at]
  exact Finset.sum_congr rfl fun k _ => congrArg (hh x v p k * ·) (by pointwise [w3840])

abbrev f0_0 : Vec Ideal S1x1024 .f32 :=
  View.ld (Val := Elt Ideal) f (Rect.unit (s := S8x5632) ![0, 0] ![1, 1024] inb_S8x5632_S1x1024_0_0)
abbrev f0_2816 : Vec Ideal S1x1024 .f32 :=
  View.ld (Val := Elt Ideal) f (Rect.unit (s := S8x5632) ![0, 2816] ![1, 1024] inb_S8x5632_S1x1024_0_2816)
abbrev f0_1024 : Vec Ideal S1x1792 .f32 :=
  View.ld (Val := Elt Ideal) f (Rect.unit (s := S8x5632) ![0, 1024] ![1, 1792] inb_S8x5632_S1x1792_0_1024)
abbrev f0_3840 : Vec Ideal S1x1792 .f32 :=
  View.ld (Val := Elt Ideal) f (Rect.unit (s := S8x5632) ![0, 3840] ![1, 1792] inb_S8x5632_S1x1792_0_3840)
abbrev f1_0 : Vec Ideal S1x1024 .f32 :=
  View.ld (Val := Elt Ideal) f (Rect.unit (s := S8x5632) ![1, 0] ![1, 1024] inb_S8x5632_S1x1024_1_0)
abbrev f1_2816 : Vec Ideal S1x1024 .f32 :=
  View.ld (Val := Elt Ideal) f (Rect.unit (s := S8x5632) ![1, 2816] ![1, 1024] inb_S8x5632_S1x1024_1_2816)
abbrev f1_1024 : Vec Ideal S1x1792 .f32 :=
  View.ld (Val := Elt Ideal) f (Rect.unit (s := S8x5632) ![1, 1024] ![1, 1792] inb_S8x5632_S1x1792_1_1024)
abbrev f1_3840 : Vec Ideal S1x1792 .f32 :=
  View.ld (Val := Elt Ideal) f (Rect.unit (s := S8x5632) ![1, 3840] ![1, 1792] inb_S8x5632_S1x1792_1_3840)
abbrev f2_0 : Vec Ideal S1x1024 .f32 :=
  View.ld (Val := Elt Ideal) f (Rect.unit (s := S8x5632) ![2, 0] ![1, 1024] inb_S8x5632_S1x1024_2_0)
abbrev f2_2816 : Vec Ideal S1x1024 .f32 :=
  View.ld (Val := Elt Ideal) f (Rect.unit (s := S8x5632) ![2, 2816] ![1, 1024] inb_S8x5632_S1x1024_2_2816)
abbrev f2_1024 : Vec Ideal S1x1792 .f32 :=
  View.ld (Val := Elt Ideal) f (Rect.unit (s := S8x5632) ![2, 1024] ![1, 1792] inb_S8x5632_S1x1792_2_1024)
abbrev f2_3840 : Vec Ideal S1x1792 .f32 :=
  View.ld (Val := Elt Ideal) f (Rect.unit (s := S8x5632) ![2, 3840] ![1, 1792] inb_S8x5632_S1x1792_2_3840)
abbrev f3_0 : Vec Ideal S1x1024 .f32 :=
  View.ld (Val := Elt Ideal) f (Rect.unit (s := S8x5632) ![3, 0] ![1, 1024] inb_S8x5632_S1x1024_3_0)
abbrev f3_2816 : Vec Ideal S1x1024 .f32 :=
  View.ld (Val := Elt Ideal) f (Rect.unit (s := S8x5632) ![3, 2816] ![1, 1024] inb_S8x5632_S1x1024_3_2816)
abbrev f3_1024 : Vec Ideal S1x1792 .f32 :=
  View.ld (Val := Elt Ideal) f (Rect.unit (s := S8x5632) ![3, 1024] ![1, 1792] inb_S8x5632_S1x1792_3_1024)
abbrev f3_3840 : Vec Ideal S1x1792 .f32 :=
  View.ld (Val := Elt Ideal) f (Rect.unit (s := S8x5632) ![3, 3840] ![1, 1792] inb_S8x5632_S1x1792_3_3840)
abbrev c1_0 : Vec Ideal S1x8x1024 .f32 :=
  View.ld (Val := Elt Ideal) C (Rect.unit (s := S3x8x5632) ![0, 0, 0] ![1, 8, 1024] inb_S3x8x5632_S1x8x1024_0_0_0)
abbrev c2_0 : Vec Ideal S2x8x1024 .f32 :=
  View.ld (Val := Elt Ideal) C (Rect.unit (s := S3x8x5632) ![1, 0, 0] ![2, 8, 1024] inb_S3x8x5632_S2x8x1024_1_0_0)
abbrev c1_2816 : Vec Ideal S1x8x1024 .f32 :=
  View.ld (Val := Elt Ideal) C (Rect.unit (s := S3x8x5632) ![0, 0, 2816] ![1, 8, 1024] inb_S3x8x5632_S1x8x1024_0_0_2816)
abbrev c2_2816 : Vec Ideal S2x8x1024 .f32 :=
  View.ld (Val := Elt Ideal) C (Rect.unit (s := S3x8x5632) ![1, 0, 2816] ![2, 8, 1024] inb_S3x8x5632_S2x8x1024_1_0_2816)
abbrev c1_1024 : Vec Ideal S1x8x1792 .f32 :=
  View.ld (Val := Elt Ideal) C (Rect.unit (s := S3x8x5632) ![0, 0, 1024] ![1, 8, 1792] inb_S3x8x5632_S1x8x1792_0_0_1024)
abbrev c2_1024 : Vec Ideal S2x8x1792 .f32 :=
  View.ld (Val := Elt Ideal) C (Rect.unit (s := S3x8x5632) ![1, 0, 1024] ![2, 8, 1792] inb_S3x8x5632_S2x8x1792_1_0_1024)
abbrev c1_3840 : Vec Ideal S1x8x1792 .f32 :=
  View.ld (Val := Elt Ideal) C (Rect.unit (s := S3x8x5632) ![0, 0, 3840] ![1, 8, 1792] inb_S3x8x5632_S1x8x1792_0_0_3840)
abbrev c2_3840 : Vec Ideal S2x8x1792 .f32 :=
  View.ld (Val := Elt Ideal) C (Rect.unit (s := S3x8x5632) ![1, 0, 3840] ![2, 8, 1792] inb_S3x8x5632_S2x8x1792_1_0_3840)

/-- The four slabs of the convolved up projection. -/
abbrev y0 : FVec Ideal S256x1024 .f32 :=
  k0_pay24 (F := Ideal) (k0_pay9 (hB x v) (w0 W)) (k0_pay11 (f0_0 f)) (k0_pay12 (f1_0 f)) (k0_pay13 (f2_0 f)) (k0_pay14 (f3_0 f))
    (k0_pay17 (hB x v) (w0 W) (c1_0 C)) (k0_pay21 (hB x v) (w0 W) (c2_0 C)) (k0_pay22 (hB x v) (w0 W))
abbrev y2816 : FVec Ideal S256x1024 .f32 :=
  k0_pay38 (F := Ideal) (k0_pay26 (hB x v) (w2816 W)) (k0_pay28 (f0_2816 f)) (k0_pay29 (f1_2816 f)) (k0_pay30 (f2_2816 f)) (k0_pay31 (f3_2816 f)) (c1_2816 C)
    (k0_pay32 (hB x v) (w2816 W)) (k0_pay33 (hB x v) (w2816 W)) (iota .tc S1x8x1024 32 [1] iota_S1x8x1024_d1_w32) 0#32 (c2_2816 C)
abbrev y1024 : FVec Ideal S256x1792 .f32 :=
  k0_pay56 (F := Ideal) (k0_pay43 (hB x v) (w1024 W)) (k0_pay45 (f0_1024 f)) (k0_pay46 (f1_1024 f)) (k0_pay47 (f2_1024 f)) (k0_pay48 (f3_1024 f))
    (k0_pay51 (hB x v) (w1024 W) (c1_1024 C)) (c2_1024 C)
abbrev y3840 : FVec Ideal S256x1792 .f32 :=
  k0_pay72 (F := Ideal) (k0_pay60 (f0_3840 f)) (k0_pay61 (f1_3840 f)) (k0_pay62 (f3_3840 f)) (k0_pay65 (k0_pay58 (hB x v) (w3840 W)) (c1_3840 C))
    (k0_pay69 (k0_pay58 (hB x v) (w3840 W)) (c2_3840 C)) (k0_pay71 (k0_pay58 (hB x v) (w3840 W)) (f2_3840 f))

theorem y0_at (p : Fin 256) (j : Fin 1024) : y0 x v f W C (ix2 p j) = upc x v f W C ⟨j.val, by omega⟩ p := by
  refine (gate0 _ _ _ _ _ _ _ _ p j).trans ?_
  simp only [u0_at]
  rw [upc]
  congr 1 <;> pointwise [c1_0, c2_0, f0_0, f1_0, f2_0, f3_0]

theorem y2816_at (p : Fin 256) (j : Fin 1024) : y2816 x v f W C (ix2 p j) = upc x v f W C ⟨2816 + j.val, by omega⟩ p := by
  refine (val0 _ _ _ _ _ _ _ _ p j).trans ?_
  simp only [u2816_at]
  rw [upc]
  congr 1 <;> pointwise [c1_2816, c2_2816, f0_2816, f1_2816, f2_2816, f3_2816]

theorem y1024_at (p : Fin 256) (j : Fin 1792) : y1024 x v f W C (ix2 p j) = upc x v f W C ⟨1024 + j.val, by omega⟩ p := by
  refine (gate1 _ _ _ _ _ _ _ _ p j).trans ?_
  simp only [u1024_at]
  rw [upc]
  congr 1 <;> pointwise [c1_1024, c2_1024, f0_1024, f1_1024, f2_1024, f3_1024]

theorem y3840_at (p : Fin 256) (j : Fin 1792) : y3840 x v f W C (ix2 p j) = upc x v f W C ⟨3840 + j.val, by omega⟩ p := by
  refine (val1 _ _ _ _ _ _ _ _ p j).trans ?_
  simp only [u3840_at]
  rw [upc]
  congr 1 <;> pointwise [c1_3840, c2_3840, f0_3840, f1_3840, f2_3840, f3_3840]

/-- The activation's two slabs and the down projection. -/
abbrev a0 : FVec Ideal S256x1024 .bf16 := k0_pay41 (F := Ideal) (y0 x v f W C) (y2816 x v f W C) (k0_pay40 (y0 x v f W C))
abbrev q1 : FVec Ideal S256x1024 .f32 :=
  k0_pay42 (F := Ideal) k0_pay8 (y0 x v f W C) (y2816 x v f W C) (k0_pay40 (y0 x v f W C))
    (View.ld (Val := Elt Ideal) Wd (Rect.unit (s := S2816x1024) ![0, 0] ![1024, 1024] inb_S2816x1024_S1024x1024_0_0))
abbrev A1 {α : Type} (g : FVec Ideal S256x1792 .f32 → FVec Ideal S1x1792 .f32 → FVec Ideal S1x1792 .f32 → FVec Ideal S1x1792 .f32 →
    FVec Ideal S256x1792 .f32 → FVec Ideal S256x1792 .f32 → FVec Ideal S256x1792 .f32 → α) : α :=
  g (y1024 x v f W C) (k0_pay60 (f0_3840 f)) (k0_pay61 (f1_3840 f)) (k0_pay62 (f3_3840 f)) (k0_pay65 (k0_pay58 (hB x v) (w3840 W)) (c1_3840 C))
    (k0_pay69 (k0_pay58 (hB x v) (w3840 W)) (c2_3840 C)) (k0_pay71 (k0_pay58 (hB x v) (w3840 W)) (f2_3840 f))
abbrev wd1 : Vec Ideal S1792x1024 .bf16 :=
  View.ld (Val := Elt Ideal) Wd (Rect.unit (s := S2816x1024) ![1024, 0] ![1792, 1024] inb_S2816x1024_S1792x1024_1024_0)
abbrev fB : FVec Ideal S256x1024 .f32 := A1 x v f W C (k0_pay75 (F := Ideal) (q1 x v f W Wd C)) (wd1 Wd)
abbrev rB : FVec Ideal S256x1 .f32 := A1 x v f W C (k0_pay76 (F := Ideal) (q1 x v f W Wd C)) (wd1 Wd)
abbrev nB : FVec Ideal S256x1024 .f32 := A1 x v f W C (k0_pay77 (F := Ideal) (q1 x v f W Wd C)) (wd1 Wd)
def gt : Vec Ideal S1x1024 .f32 := View.ld (Val := Elt Ideal) v (Rect.unit (s := S16x1024) ![5, 0] ![1, 1024] inb_S16x1024_S1x1024_5_0)
def gp : Vec Ideal S1x1024 .f32 := View.ld (Val := Elt Ideal) v (Rect.unit (s := S16x1024) ![9, 0] ![1, 1024] inb_S16x1024_S1x1024_9_0)

theorem gt_at (q : Fin 1024) : gt v (ix2 0 q) = v (ix2 5 q) := by pointwise [gt]
theorem gp_at (q : Fin 1024) : gp v (ix2 0 q) = v (ix2 9 q) := by pointwise [gp]

theorem a0_at (p : Fin 256) (j : Fin 1024) : a0 x v f W C (ix2 p j) = ac x v f W C ⟨j.val, by omega⟩ p := by
  refine (a41 _ _ p j).trans ?_
  rw [y0_at, y2816_at, ac]

theorem a1_at (p : Fin 256) (j : Fin 1792) :
    A1 x v f W C (k0_pay74 (F := Ideal)) (ix2 p j) = ac x v f W C ⟨1024 + j.val, by omega⟩ p := by
  refine (a74 _ _ _ _ _ _ _ p j).trans ?_
  rw [y1024_at]
  refine (congrArg (act _) (y3840_at x v f W C p j)).trans ?_
  rw [ac]
  congr 2
  exact Fin.ext (by simp only []; omega)

theorem fB_at (p : Fin 256) (q : Fin 1024) : fB x v f W Wd C (ix2 p q) = ff x v f W Wd C p q := by
  refine (f75 _ _ _ _ _ _ _ _ _ _ _ p q).trans ?_
  rw [ff]
  refine congrArg₂ (· + ·) (congrArg (0 + ·) (Finset.sum_congr rfl fun j _ => congrArg₂ (· * ·) ?_ ?_)) (Finset.sum_congr rfl fun j _ => congrArg₂ (· * ·) ?_ ?_)
  · exact (a41 _ _ p j).symm.trans (a0_at x v f W C p j)
  · pointwise
  · exact (a74 _ _ _ _ _ _ _ p j).symm.trans (a1_at x v f W C p j)
  · pointwise [wd1]

theorem rB_at (p : Fin 256) : rB x v f W Wd C (ix2 p 0) = rms (ff x v f W Wd C) p := by
  refine (r76 _ _ _ _ _ _ _ _ _ p).trans ?_
  exact congrArg (fun y => rms y p) (funext fun p => funext fun q => fB_at x v f W Wd C p q)

theorem nB_at (p : Fin 256) (q : Fin 1024) : nB x v f W Wd C (ix2 p q) = n4 x v f W Wd C p q := by
  refine (n77 _ _ _ _ _ _ _ _ _ p q).trans ?_
  rw [n4]
  exact congrArg₂ (· * ·) (fB_at x v f W Wd C p q) (congrArg (fun y => rms y p) (funext fun p => funext fun q => fB_at x v f W Wd C p q))

theorem dB_at (p : Fin 256) (q : Fin 1024) :
    k0_pay81 (F := Ideal) (k0_pay6 x) (nB x v f W Wd C) (k0_pay78 (gt v)) (gp v) tg (ix2 p q) = df x tg v f W Wd C p q := by
  rw [d81, nB_at, gt_at, gp_at, df]

theorem x83_at (p : Fin 256) (q : Fin 1024) :
    k0_pay83 (F := Ideal) (k0_pay6 x) (nB x v f W Wd C) (k0_pay78 (gt v)) (gp v) tg (ix2 p q)
      = df x tg v f W Wd C p q * Ideal.ofBits .f32 0x3A800000#32 := by
  rw [x83, dB_at]

theorem l82_at (l : Vec Ideal S8x128 .f32) (r : Fin 8) (k : Fin 128) :
    k0_pay82 (F := Ideal) (k0_pay6 x) (nB x v f W Wd C) (k0_pay78 (gt v)) (gp v) tg l (ix2 r k) = l (ix2 r k) + ls x tg v f W Wd C := by
  rw [l82, ls]
  simp only [dB_at]

theorem c84_at (q : Fin 1024) :
    k0_pay84 (F := Ideal) (k0_pay6 x) (nB x v f W Wd C) (k0_pay78 (gt v)) (gp v) tg (ix2 0 q) = cs x tg v f W Wd C q := by
  rw [c84, cs]
  simp only [dB_at, nB_at]

theorem v85_at (o : Vec Ideal S1x1024 .f32) (q : Fin 1024) :
    k0_pay85 (F := Ideal) (k0_pay6 x) (nB x v f W Wd C) (k0_pay78 (gt v)) (gp v) tg o (ix2 0 q)
      = o (ix2 0 q) + vo x tg v f W Wd C 0 q := by
  rw [v85, c84_at, gp_at]
  rfl

theorem v1_at (o : Vec Ideal S1x1024 .f32) (q : Fin 1024) :
    k0_pay1 (F := Ideal) (k0_pay78 (gt v)) (k0_pay84 (k0_pay6 x) (nB x v f W Wd C) (k0_pay78 (gt v)) (gp v) tg) (k0_pay86 o)
      (FloatOps.ofBits .f32 0x3A800000#32) (ix2 0 q) = o (ix2 0 q) + vo x tg v f W Wd C 1 q := by
  rw [v1, c84_at, gt_at]
  rfl

theorem b2_at (p : Fin 256) (q : Fin 1024) :
    k0_pay2 (F := Ideal) (rB x v f W Wd C) (nB x v f W Wd C) (k0_pay80 (k0_pay78 (gt v)) (gp v))
      (k0_pay81 (k0_pay6 x) (nB x v f W Wd C) (k0_pay78 (gt v)) (gp v) tg) (ix2 p q) = dff x tg v f W Wd C p q := by
  rw [b2, dff]
  simp only [rB_at, nB_at, dB_at, gt_at, gp_at]

/-- The up projection, stored slab by slab. -/
theorem up_pieces (p : Fin 256) (j : Fin 5632) :
    View.canon (Val := Elt Ideal) (s := S256x5632) (e := .bf16)
      [⟨Rect.unit (s := S256x5632) ![0, 3840] ![256, 1792] inb_S256x5632_S256x1792_0_3840, k0_pay59 (F := Ideal) (hB x v) (w3840 W)⟩,
        ⟨Rect.unit (s := S256x5632) ![0, 1024] ![256, 1792] inb_S256x5632_S256x1792_0_1024, k0_pay44 (F := Ideal) (hB x v) (w1024 W)⟩,
        ⟨Rect.unit (s := S256x5632) ![0, 2816] ![256, 1024] inb_S256x5632_S256x1024_0_2816, k0_pay27 (F := Ideal) (hB x v) (w2816 W)⟩,
        ⟨Rect.unit (s := S256x5632) ![0, 0] ![256, 1024] inb_S256x5632_S256x1024_0_0, k0_pay10 (F := Ideal) (hB x v) (w0 W)⟩] (ix2 p j)
      = up x v W j p := by
  by_cases hc : 3840 ≤ j.val ∧ j.val < 5632
  · have hq : j = ⟨3840 + (⟨j.val - 3840, by omega⟩ : Fin 1792).val, by simp only []; omega⟩ := Fin.ext (by simp only []; omega)
    rw [Rows.canon_of_mem _ _ _ _ (ix2 p ⟨j.val - 3840, by omega⟩) (by simp [Fin.forall_fin_two] <;> omega)]
    pointwise [k0_pay59]
    exact (u3840_at x v W p ⟨j.val - 3840, by omega⟩).trans (congrArg (fun i => up x v W i p) hq.symm)
  rw [Rows.canon_of_not_mem _ _ _ _ 1 (by simp; omega)]
  by_cases hc : 1024 ≤ j.val ∧ j.val < 2816
  · have hq : j = ⟨1024 + (⟨j.val - 1024, by omega⟩ : Fin 1792).val, by simp only []; omega⟩ := Fin.ext (by simp only []; omega)
    rw [Rows.canon_of_mem _ _ _ _ (ix2 p ⟨j.val - 1024, by omega⟩) (by simp [Fin.forall_fin_two] <;> omega)]
    pointwise [k0_pay44]
    exact (u1024_at x v W p ⟨j.val - 1024, by omega⟩).trans (congrArg (fun i => up x v W i p) hq.symm)
  rw [Rows.canon_of_not_mem _ _ _ _ 1 (by simp; omega)]
  by_cases hc : 2816 ≤ j.val ∧ j.val < 3840
  · have hq : j = ⟨2816 + (⟨j.val - 2816, by omega⟩ : Fin 1024).val, by simp only []; omega⟩ := Fin.ext (by simp only []; omega)
    rw [Rows.canon_of_mem _ _ _ _ (ix2 p ⟨j.val - 2816, by omega⟩) (by simp [Fin.forall_fin_two] <;> omega)]
    pointwise [k0_pay27]
    exact (u2816_at x v W p ⟨j.val - 2816, by omega⟩).trans (congrArg (fun i => up x v W i p) hq.symm)
  rw [Rows.canon_of_not_mem _ _ _ _ 1 (by simp; omega)]
  have hc : 0 ≤ j.val ∧ j.val < 1024 := by have := j.isLt; omega
  have hq : j = ⟨(⟨j.val - 0, by omega⟩ : Fin 1024).val, by simp only []; omega⟩ := Fin.ext (by simp only []; omega)
  rw [Rows.canon_of_mem _ _ _ _ (ix2 p ⟨j.val - 0, by omega⟩) (by simp [Fin.forall_fin_two] <;> omega)]
  pointwise [k0_pay10]
  exact (u0_at x v W p ⟨j.val - 0, by omega⟩).trans (congrArg (fun i => up x v W i p) hq.symm)

/-- The convolved up projection, stored slab by slab. -/
theorem upc_pieces (p : Fin 256) (j : Fin 5632) :
    View.canon (Val := Elt Ideal) (s := S256x5632) (e := .bf16)
      [⟨Rect.unit (s := S256x5632) ![0, 3840] ![256, 1792] inb_S256x5632_S256x1792_0_3840,
    k0_pay73 (F := Ideal) (k0_pay60 (f0_3840 f)) (k0_pay61 (f1_3840 f)) (k0_pay62 (f3_3840 f)) (k0_pay65 (k0_pay58 (hB x v) (w3840 W)) (c1_3840 C))
    (k0_pay69 (k0_pay58 (hB x v) (w3840 W)) (c2_3840 C)) (k0_pay71 (k0_pay58 (hB x v) (w3840 W)) (f2_3840 f))⟩,
        ⟨Rect.unit (s := S256x5632) ![0, 1024] ![256, 1792] inb_S256x5632_S256x1792_0_1024,
    k0_pay57 (F := Ideal) (k0_pay43 (hB x v) (w1024 W)) (k0_pay45 (f0_1024 f)) (k0_pay46 (f1_1024 f)) (k0_pay47 (f2_1024 f)) (k0_pay48 (f3_1024 f))
    (k0_pay51 (hB x v) (w1024 W) (c1_1024 C)) (c2_1024 C)⟩,
        ⟨Rect.unit (s := S256x5632) ![0, 2816] ![256, 1024] inb_S256x5632_S256x1024_0_2816,
    k0_pay39 (F := Ideal) (k0_pay26 (hB x v) (w2816 W)) (k0_pay28 (f0_2816 f)) (k0_pay29 (f1_2816 f)) (k0_pay30 (f2_2816 f)) (k0_pay31 (f3_2816 f)) (c1_2816 C)
    (k0_pay32 (hB x v) (w2816 W)) (k0_pay33 (hB x v) (w2816 W)) (iota .tc S1x8x1024 32 [1] iota_S1x8x1024_d1_w32) 0#32 (c2_2816 C)⟩,
        ⟨Rect.unit (s := S256x5632) ![0, 0] ![256, 1024] inb_S256x5632_S256x1024_0_0,
    k0_pay25 (F := Ideal) (k0_pay9 (hB x v) (w0 W)) (k0_pay11 (f0_0 f)) (k0_pay12 (f1_0 f)) (k0_pay13 (f2_0 f)) (k0_pay14 (f3_0 f))
    (k0_pay17 (hB x v) (w0 W) (c1_0 C)) (k0_pay21 (hB x v) (w0 W) (c2_0 C)) (k0_pay22 (hB x v) (w0 W))⟩] (ix2 p j)
      = upc x v f W C j p := by
  by_cases hc : 3840 ≤ j.val ∧ j.val < 5632
  · have hq : j = ⟨3840 + (⟨j.val - 3840, by omega⟩ : Fin 1792).val, by simp only []; omega⟩ := Fin.ext (by simp only []; omega)
    rw [Rows.canon_of_mem _ _ _ _ (ix2 p ⟨j.val - 3840, by omega⟩) (by simp [Fin.forall_fin_two] <;> omega)]
    pointwise [k0_pay73]
    exact (y3840_at x v f W C p ⟨j.val - 3840, by omega⟩).trans (congrArg (fun i => upc x v f W C i p) hq.symm)
  rw [Rows.canon_of_not_mem _ _ _ _ 1 (by simp; omega)]
  by_cases hc : 1024 ≤ j.val ∧ j.val < 2816
  · have hq : j = ⟨1024 + (⟨j.val - 1024, by omega⟩ : Fin 1792).val, by simp only []; omega⟩ := Fin.ext (by simp only []; omega)
    rw [Rows.canon_of_mem _ _ _ _ (ix2 p ⟨j.val - 1024, by omega⟩) (by simp [Fin.forall_fin_two] <;> omega)]
    pointwise [k0_pay57]
    exact (y1024_at x v f W C p ⟨j.val - 1024, by omega⟩).trans (congrArg (fun i => upc x v f W C i p) hq.symm)
  rw [Rows.canon_of_not_mem _ _ _ _ 1 (by simp; omega)]
  by_cases hc : 2816 ≤ j.val ∧ j.val < 3840
  · have hq : j = ⟨2816 + (⟨j.val - 2816, by omega⟩ : Fin 1024).val, by simp only []; omega⟩ := Fin.ext (by simp only []; omega)
    rw [Rows.canon_of_mem _ _ _ _ (ix2 p ⟨j.val - 2816, by omega⟩) (by simp [Fin.forall_fin_two] <;> omega)]
    pointwise [k0_pay39]
    exact (y2816_at x v f W C p ⟨j.val - 2816, by omega⟩).trans (congrArg (fun i => upc x v f W C i p) hq.symm)
  rw [Rows.canon_of_not_mem _ _ _ _ 1 (by simp; omega)]
  have hc : 0 ≤ j.val ∧ j.val < 1024 := by have := j.isLt; omega
  have hq : j = ⟨(⟨j.val - 0, by omega⟩ : Fin 1024).val, by simp only []; omega⟩ := Fin.ext (by simp only []; omega)
  rw [Rows.canon_of_mem _ _ _ _ (ix2 p ⟨j.val - 0, by omega⟩) (by simp [Fin.forall_fin_two] <;> omega)]
  pointwise [k0_pay25]
  exact (y0_at x v f W C p ⟨j.val - 0, by omega⟩).trans (congrArg (fun i => upc x v f W C i p) hq.symm)

/-- The activation, stored slab by slab. -/
theorem ac_pieces (p : Fin 256) (j : Fin 2816) :
    View.canon (Val := Elt Ideal) (s := S256x2816) (e := .bf16)
      [⟨Rect.unit (s := S256x2816) ![0, 1024] ![256, 1792] inb_S256x2816_S256x1792_0_1024, A1 x v f W C (k0_pay74 (F := Ideal))⟩,
        ⟨Rect.unit (s := S256x2816) ![0, 0] ![256, 1024] inb_S256x2816_S256x1024_0_0, a0 x v f W C⟩] (ix2 p j)
      = ac x v f W C j p := by
  by_cases hc : 1024 ≤ j.val ∧ j.val < 2816
  · have hq : j = ⟨1024 + (⟨j.val - 1024, by omega⟩ : Fin 1792).val, by simp only []; omega⟩ := Fin.ext (by simp only []; omega)
    rw [Rows.canon_of_mem _ _ _ _ (ix2 p ⟨j.val - 1024, by omega⟩) (by simp [Fin.forall_fin_two] <;> omega)]
    exact (a1_at x v f W C p ⟨j.val - 1024, by omega⟩).trans (congrArg (fun i => ac x v f W C i p) hq.symm)
  rw [Rows.canon_of_not_mem _ _ _ _ 1 (by simp; omega)]
  have hc : 0 ≤ j.val ∧ j.val < 1024 := by have := j.isLt; omega
  have hq : j = ⟨(⟨j.val - 0, by omega⟩ : Fin 1024).val, by simp only []; omega⟩ := Fin.ext (by simp only []; omega)
  rw [Rows.canon_of_mem _ _ _ _ (ix2 p ⟨j.val - 0, by omega⟩) (by simp [Fin.forall_fin_two] <;> omega)]
  exact (a0_at x v f W C p ⟨j.val - 0, by omega⟩).trans (congrArg (fun i => ac x v f W C i p) hq.symm)

/-- The row whose values a block hands on in slot `i`. -/
def cr (i : Fin 3) : Fin 256 := if i.val = 1 then 247 else 255

theorem k1_0 (j : Fin 1024) : k0_pay18 (F := Ideal) (hB x v) (w0 W) (ix3 0 0 j) = up x v W ⟨j.val, by omega⟩ 255 := by
  pointwise [k0_pay18, k0_pay16, k0_pay15]
  exact u0_at x v W _ j
theorem k2_0 (i : Fin 2) (j : Fin 1024) : k0_pay23 (F := Ideal) (k0_pay20 (hB x v) (w0 W)) (ix3 i 0 j) = up x v W ⟨j.val, by omega⟩ (cr ⟨1 + i.val, by omega⟩) := by
  pointwise [k0_pay23, k0_pay20, k0_pay19]
  refine (u0_at x v W _ j).trans (congrArg (up x v W _) ?_)
  revert i
  exact Fin.forall_fin_two.mpr ⟨rfl, rfl⟩
theorem k1_2816 (j : Fin 1024) : k0_pay34 (F := Ideal) (k0_pay33 (hB x v) (w2816 W)) (ix3 0 0 j) = up x v W ⟨2816 + j.val, by omega⟩ 255 := by
  pointwise [k0_pay34, k0_pay33, k0_pay32]
  exact u2816_at x v W _ j
theorem k2_2816 (i : Fin 2) (j : Fin 1024) : k0_pay37 (F := Ideal) (k0_pay26 (hB x v) (w2816 W)) (ix3 i 0 j) = up x v W ⟨2816 + j.val, by omega⟩ (cr ⟨1 + i.val, by omega⟩) := by
  pointwise [k0_pay37, k0_pay36, k0_pay35]
  refine (u2816_at x v W _ j).trans (congrArg (up x v W _) ?_)
  revert i
  exact Fin.forall_fin_two.mpr ⟨rfl, rfl⟩
theorem k1_1024 (j : Fin 1792) : k0_pay52 (F := Ideal) (k0_pay50 (hB x v) (w1024 W)) (ix3 0 0 j) = up x v W ⟨1024 + j.val, by omega⟩ 255 := by
  pointwise [k0_pay52, k0_pay50, k0_pay49]
  exact u1024_at x v W _ j
theorem k2_1024 (i : Fin 2) (j : Fin 1792) : k0_pay55 (F := Ideal) (k0_pay43 (hB x v) (w1024 W)) (ix3 i 0 j) = up x v W ⟨1024 + j.val, by omega⟩ (cr ⟨1 + i.val, by omega⟩) := by
  pointwise [k0_pay55, k0_pay54, k0_pay53]
  refine (u1024_at x v W _ j).trans (congrArg (up x v W _) ?_)
  revert i
  exact Fin.forall_fin_two.mpr ⟨rfl, rfl⟩
theorem k1_3840 (j : Fin 1792) : k0_pay66 (F := Ideal) (k0_pay58 (hB x v) (w3840 W)) (ix3 0 0 j) = up x v W ⟨3840 + j.val, by omega⟩ 255 := by
  pointwise [k0_pay66, k0_pay64, k0_pay63]
  exact u3840_at x v W _ j
theorem k2_3840 (i : Fin 2) (j : Fin 1792) : k0_pay70 (F := Ideal) (k0_pay58 (hB x v) (w3840 W)) (ix3 i 0 j) = up x v W ⟨3840 + j.val, by omega⟩ (cr ⟨1 + i.val, by omega⟩) := by
  pointwise [k0_pay70, k0_pay68, k0_pay67]
  refine (u3840_at x v W _ j).trans (congrArg (up x v W _) ?_)
  revert i
  exact Fin.forall_fin_two.mpr ⟨rfl, rfl⟩

/-- What a point hands on: the last row of its first segment's times, and the last two. -/
theorem carry_pieces (L : List (View.Piece (Elt Ideal) S3x8x5632 .f32)) (i : Fin 3) (j : Fin 5632) :
    View.canon (Val := Elt Ideal) (s := S3x8x5632) (e := .f32)
      (⟨Rect.unit (s := S3x8x5632) ![1, 0, 3840] ![2, 8, 1792] inb_S3x8x5632_S2x8x1792_1_0_3840, k0_pay70 (F := Ideal) (k0_pay58 (hB x v) (w3840 W))⟩ ::
        ⟨Rect.unit (s := S3x8x5632) ![0, 0, 3840] ![1, 8, 1792] inb_S3x8x5632_S1x8x1792_0_0_3840, k0_pay66 (F := Ideal) (k0_pay58 (hB x v) (w3840 W))⟩ ::
        ⟨Rect.unit (s := S3x8x5632) ![1, 0, 1024] ![2, 8, 1792] inb_S3x8x5632_S2x8x1792_1_0_1024, k0_pay55 (F := Ideal) (k0_pay43 (hB x v) (w1024 W))⟩ ::
        ⟨Rect.unit (s := S3x8x5632) ![0, 0, 1024] ![1, 8, 1792] inb_S3x8x5632_S1x8x1792_0_0_1024, k0_pay52 (F := Ideal) (k0_pay50 (hB x v) (w1024 W))⟩ ::
        ⟨Rect.unit (s := S3x8x5632) ![1, 0, 2816] ![2, 8, 1024] inb_S3x8x5632_S2x8x1024_1_0_2816, k0_pay37 (F := Ideal) (k0_pay26 (hB x v) (w2816 W))⟩ ::
        ⟨Rect.unit (s := S3x8x5632) ![0, 0, 2816] ![1, 8, 1024] inb_S3x8x5632_S1x8x1024_0_0_2816, k0_pay34 (F := Ideal) (k0_pay33 (hB x v) (w2816 W))⟩ ::
        ⟨Rect.unit (s := S3x8x5632) ![1, 0, 0] ![2, 8, 1024] inb_S3x8x5632_S2x8x1024_1_0_0, k0_pay23 (F := Ideal) (k0_pay20 (hB x v) (w0 W))⟩ ::
        ⟨Rect.unit (s := S3x8x5632) ![0, 0, 0] ![1, 8, 1024] inb_S3x8x5632_S1x8x1024_0_0_0, k0_pay18 (F := Ideal) (hB x v) (w0 W)⟩ :: L) (ix3 i 0 j)
      = up x v W j (cr i) := by
  by_cases hc3840 : 3840 ≤ j.val ∧ j.val < 5632
  · have hq : j = ⟨3840 + (⟨j.val - 3840, by omega⟩ : Fin 1792).val, by simp only []; omega⟩ := Fin.ext (by simp only []; omega)
    by_cases hi : i.val = 0
    · obtain rfl : i = 0 := Fin.ext hi
      rw [Rows.canon_of_not_mem _ _ _ _ 0 (by simp),
        Rows.canon_of_mem _ _ _ _ (ix3 0 0 ⟨j.val - 3840, by omega⟩) (by simp [Fin.forall_fin_succ] <;> omega), k1_3840, ← hq]
      rfl
    · have hk : i = ⟨1 + (⟨i.val - 1, by omega⟩ : Fin 2).val, by simp only []; omega⟩ := Fin.ext (by simp only []; omega)
      rw [Rows.canon_of_mem _ _ _ _ (ix3 ⟨i.val - 1, by omega⟩ 0 ⟨j.val - 3840, by omega⟩) (by simp [Fin.forall_fin_succ] <;> omega), k2_3840, ← hq, ← hk]
  rw [Rows.canon_of_not_mem _ _ _ _ 2 (by simp; omega), Rows.canon_of_not_mem _ _ _ _ 2 (by simp; omega)]
  by_cases hc1024 : 1024 ≤ j.val ∧ j.val < 2816
  · have hq : j = ⟨1024 + (⟨j.val - 1024, by omega⟩ : Fin 1792).val, by simp only []; omega⟩ := Fin.ext (by simp only []; omega)
    by_cases hi : i.val = 0
    · obtain rfl : i = 0 := Fin.ext hi
      rw [Rows.canon_of_not_mem _ _ _ _ 0 (by simp),
        Rows.canon_of_mem _ _ _ _ (ix3 0 0 ⟨j.val - 1024, by omega⟩) (by simp [Fin.forall_fin_succ] <;> omega), k1_1024, ← hq]
      rfl
    · have hk : i = ⟨1 + (⟨i.val - 1, by omega⟩ : Fin 2).val, by simp only []; omega⟩ := Fin.ext (by simp only []; omega)
      rw [Rows.canon_of_mem _ _ _ _ (ix3 ⟨i.val - 1, by omega⟩ 0 ⟨j.val - 1024, by omega⟩) (by simp [Fin.forall_fin_succ] <;> omega), k2_1024, ← hq, ← hk]
  rw [Rows.canon_of_not_mem _ _ _ _ 2 (by simp; omega), Rows.canon_of_not_mem _ _ _ _ 2 (by simp; omega)]
  by_cases hc2816 : 2816 ≤ j.val ∧ j.val < 3840
  · have hq : j = ⟨2816 + (⟨j.val - 2816, by omega⟩ : Fin 1024).val, by simp only []; omega⟩ := Fin.ext (by simp only []; omega)
    by_cases hi : i.val = 0
    · obtain rfl : i = 0 := Fin.ext hi
      rw [Rows.canon_of_not_mem _ _ _ _ 0 (by simp),
        Rows.canon_of_mem _ _ _ _ (ix3 0 0 ⟨j.val - 2816, by omega⟩) (by simp [Fin.forall_fin_succ] <;> omega), k1_2816, ← hq]
      rfl
    · have hk : i = ⟨1 + (⟨i.val - 1, by omega⟩ : Fin 2).val, by simp only []; omega⟩ := Fin.ext (by simp only []; omega)
      rw [Rows.canon_of_mem _ _ _ _ (ix3 ⟨i.val - 1, by omega⟩ 0 ⟨j.val - 2816, by omega⟩) (by simp [Fin.forall_fin_succ] <;> omega), k2_2816, ← hq, ← hk]
  rw [Rows.canon_of_not_mem _ _ _ _ 2 (by simp; omega), Rows.canon_of_not_mem _ _ _ _ 2 (by simp; omega)]
  by_cases hc0 : 0 ≤ j.val ∧ j.val < 1024
  · have hq : j = ⟨(⟨j.val - 0, by omega⟩ : Fin 1024).val, by simp only []; omega⟩ := Fin.ext (by simp only []; omega)
    by_cases hi : i.val = 0
    · obtain rfl : i = 0 := Fin.ext hi
      rw [Rows.canon_of_not_mem _ _ _ _ 0 (by simp),
        Rows.canon_of_mem _ _ _ _ (ix3 0 0 ⟨j.val - 0, by omega⟩) (by simp [Fin.forall_fin_succ] <;> omega), k1_0, ← hq]
      rfl
    · have hk : i = ⟨1 + (⟨i.val - 1, by omega⟩ : Fin 2).val, by simp only []; omega⟩ := Fin.ext (by simp only []; omega)
      rw [Rows.canon_of_mem _ _ _ _ (ix3 ⟨i.val - 1, by omega⟩ 0 ⟨j.val - 0, by omega⟩) (by simp [Fin.forall_fin_succ] <;> omega), k2_0, ← hq, ← hk]
  exact absurd j.isLt (by omega)

end blocks

end Cert.Kernel2Ideal.Ffn
-- ==== Proof.Ffn.Point.lean ====
/- The kernel's grid points in turn: the two weights stay in their scratches, and each point leaves in its output blocks the formulas of its
   rows, over the values that the point before handed on. -/
module

public import proofs.«01_k».proof.Proof.Ffn.Tile

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

/-- A load from a buffer that was written whole reads what was written. -/
theorem cov0 (z : S1024x5632.Idx → Elt Ideal .bf16) (off size : Fin 2 → ℕ) (inb : ∀ d, off d + size d ≤ S1024x5632.size d) :
    View.readCov (κ := (Proc.tc : Proc τ).kind) (sp := .vmem) (s := S1024x5632) (e := .bf16) (Val := Elt Ideal) (View.whole cc0_scratch0) [⟨Rect.whole S1024x5632, z⟩]
      (Rect.unit (s := S1024x5632) off size inb).toLoadRect = View.ld (Val := Elt Ideal) z (Rect.unit (s := S1024x5632) off size inb) := by
  rw [View.readCov_eq_canon']
  funext j
  exact congrFun (Rows.canon_whole z []) _

theorem cov1 (z : S2816x1024.Idx → Elt Ideal .bf16) (off size : Fin 2 → ℕ) (inb : ∀ d, off d + size d ≤ S2816x1024.size d) :
    View.readCov (κ := (Proc.tc : Proc τ).kind) (sp := .vmem) (s := S2816x1024) (e := .bf16) (Val := Elt Ideal) (View.whole cc0_scratch1) [⟨Rect.whole S2816x1024, z⟩]
      (Rect.unit (s := S2816x1024) off size inb).toLoadRect = View.ld (Val := Elt Ideal) z (Rect.unit (s := S2816x1024) off size inb) := by
  rw [View.readCov_eq_canon']
  funext j
  exact congrFun (Rows.canon_whole z []) _

variable (m : (ℓ : Loc nD τ sig) → Buf (Elt Ideal) ℓ)

theorem pred_lt (t : Fin cfg0.N) : t.val - 1 < cfg0.N := lt_of_le_of_lt (Nat.sub_le _ _) t.isLt

theorem wu_eq (c : Dev nD) (t : Fin cfg0.N) : (outsAt0 m c t.val t.isLt).2.2.2.2.2.2.2.2.1 = V m c main_v9 := by
  refine Pipeline.eq_of_write_hold (fun n h => (outsAt0 m c n h).2.2.2.2.2.2.2.2.1) 32 (fun _ => V m c main_v9) (fun t h => ?_) (fun t h => ?_) t
  · rw [outsAt0_A m c t h h]
    frame_out
    rw [Rows.canon_whole]
    rfl
  · rw [outsAt0_B m c t h h]
    frame_out
    simp only [sout0_B_0]

theorem wd_eq (c : Dev nD) (t : Fin cfg0.N) : (outsAt0 m c t.val t.isLt).2.2.2.2.2.2.2.2.2.1 = V m c main_v10 := by
  refine Pipeline.eq_of_write_hold (fun n h => (outsAt0 m c n h).2.2.2.2.2.2.2.2.2.1) 32 (fun _ => V m c main_v10) (fun t h => ?_) (fun t h => ?_) t
  · rw [outsAt0_A m c t h h]
    frame_out
    rw [Rows.canon_whole]
    rfl
  · rw [outsAt0_B m c t h h]
    frame_out
    simp only [sout0_B_1]

/-- The values that a point starts from: zeros at the first, else what the point before handed on. -/
def Cin (c : Dev nD) (t : Fin cfg0.N) : Vec Ideal S3x8x5632 .f32 :=
  if t.val % 32 = 0 then k0_pay3 (F := Ideal) else (outsAt0 m c (t.val - 1) (pred_lt t)).2.2.2.2.2.2.2.2.2.2

theorem up_at (c : Dev nD) (t : Fin cfg0.N) (p : Fin 256) (j : Fin 5632) :
    (outsAt0 m c t.val t.isLt).1 (ix2 p j) = up (iblk m c 0 t) (iblk m c 2 t) (V m c main_v9) j p := by
  by_cases h : t.val % 32 = 0
  · rw [outsAt0_A m c t h h]
    frame_out
    simp only [cov0, cov1]
    exact up_pieces _ _ _ p j
  · rw [outsAt0_B m c t h h]
    frame_out
    simp only [read_unread_whole]
    rw [wu_eq m c ⟨t.val - 1, pred_lt t⟩]
    exact up_pieces _ _ _ p j

theorem upc_at (c : Dev nD) (t : Fin cfg0.N) (p : Fin 256) (j : Fin 5632) :
    (outsAt0 m c t.val t.isLt).2.1 (ix2 p j) = upc (iblk m c 0 t) (iblk m c 2 t) (iblk m c 3 t) (V m c main_v9) (Cin m c t) j p := by
  by_cases h : t.val % 32 = 0
  · rw [Cin, if_pos h, outsAt0_A m c t h h]
    frame_open
    simp (disch := decide) only [↓ View.readCov_skip, ↓ View.readCov_cons_toLoadRect, ↓ View.readCov_fill]
    frame_out
    simp only [cov0, cov1]
    exact upc_pieces _ _ _ _ _ p j
  · rw [Cin, if_neg h, outsAt0_B m c t h h]
    frame_out
    simp only [read_unread_whole]
    rw [wu_eq m c ⟨t.val - 1, pred_lt t⟩]
    exact upc_pieces _ _ _ _ _ p j

theorem ac_at (c : Dev nD) (t : Fin cfg0.N) (p : Fin 256) (j : Fin 2816) :
    (outsAt0 m c t.val t.isLt).2.2.1 (ix2 p j) = ac (iblk m c 0 t) (iblk m c 2 t) (iblk m c 3 t) (V m c main_v9) (Cin m c t) j p := by
  by_cases h : t.val % 32 = 0
  · rw [Cin, if_pos h, outsAt0_A m c t h h]
    frame_open
    simp (disch := decide) only [↓ View.readCov_skip, ↓ View.readCov_cons_toLoadRect, ↓ View.readCov_fill]
    frame_out
    simp only [cov0, cov1]
    exact ac_pieces _ _ _ _ _ p j
  · rw [Cin, if_neg h, outsAt0_B m c t h h]
    frame_out
    simp only [read_unread_whole]
    rw [wu_eq m c ⟨t.val - 1, pred_lt t⟩]
    exact ac_pieces _ _ _ _ _ p j

theorem h_at (c : Dev nD) (t : Fin cfg0.N) (p : Fin 256) (q : Fin 1024) :
    (outsAt0 m c t.val t.isLt).2.2.2.1 (ix2 p q) = hh (iblk m c 0 t) (iblk m c 2 t) p q := by
  by_cases h : t.val % 32 = 0
  · rw [outsAt0_A m c t h h]
    frame_out
    exact hB_at _ _ p q
  · rw [outsAt0_B m c t h h]
    frame_out
    exact hB_at _ _ p q

theorem dx_at (c : Dev nD) (t : Fin cfg0.N) (p : Fin 256) (q : Fin 1024) :
    (outsAt0 m c t.val t.isLt).2.2.2.2.1 (ix2 p q) = df (iblk m c 0 t) (iblk m c 1 t) (iblk m c 2 t) (iblk m c 3 t) (V m c main_v9) (V m c main_v10) (Cin m c t) p q * Ideal.ofBits .f32 0x3A800000#32 := by
  by_cases h : t.val % 32 = 0
  · rw [Cin, if_pos h, outsAt0_A m c t h h]
    frame_open
    simp (disch := decide) only [↓ View.readCov_skip, ↓ View.readCov_cons_toLoadRect, ↓ View.readCov_fill]
    frame_out
    simp only [cov0, cov1]
    exact x83_at _ _ _ _ _ _ _ p q
  · rw [Cin, if_neg h, outsAt0_B m c t h h]
    frame_out
    simp only [read_unread_whole]
    rw [wu_eq m c ⟨t.val - 1, pred_lt t⟩, wd_eq m c ⟨t.val - 1, pred_lt t⟩]
    exact x83_at _ _ _ _ _ _ _ p q

theorem dff_at (c : Dev nD) (t : Fin cfg0.N) (p : Fin 256) (q : Fin 1024) :
    (outsAt0 m c t.val t.isLt).2.2.2.2.2.1 (ix2 p q) = dff (iblk m c 0 t) (iblk m c 1 t) (iblk m c 2 t) (iblk m c 3 t) (V m c main_v9) (V m c main_v10) (Cin m c t) p q := by
  by_cases h : t.val % 32 = 0
  · rw [Cin, if_pos h, outsAt0_A m c t h h]
    frame_open
    simp (disch := decide) only [↓ View.readCov_skip, ↓ View.readCov_cons_toLoadRect, ↓ View.readCov_fill]
    frame_out
    simp only [cov0, cov1]
    exact b2_at _ _ _ _ _ _ _ p q
  · rw [Cin, if_neg h, outsAt0_B m c t h h]
    frame_out
    simp only [read_unread_whole]
    rw [wu_eq m c ⟨t.val - 1, pred_lt t⟩, wd_eq m c ⟨t.val - 1, pred_lt t⟩]
    exact b2_at _ _ _ _ _ _ _ p q

theorem carry_at (c : Dev nD) (t : Fin cfg0.N) (i : Fin 3) (j : Fin 5632) :
    (outsAt0 m c t.val t.isLt).2.2.2.2.2.2.2.2.2.2 (ix3 i 0 j) = up (iblk m c 0 t) (iblk m c 2 t) (V m c main_v9) j (cr i) := by
  by_cases h : t.val % 32 = 0
  · rw [outsAt0_A m c t h h]
    frame_open
    simp (disch := decide) only [↓ View.readCov_skip, ↓ View.readCov_cons_toLoadRect, ↓ View.readCov_fill]
    frame_out
    simp only [cov0, cov1]
    exact carry_pieces _ _ _ _ i j
  · rw [outsAt0_B m c t h h]
    frame_out
    simp only [read_unread_whole]
    rw [wu_eq m c ⟨t.val - 1, pred_lt t⟩]
    exact carry_pieces _ _ _ _ i j

/-- The values handed on, closed. -/
theorem Cin_at (c : Dev nD) (t : Fin cfg0.N) (i : Fin 3) (j : Fin 5632) :
    Cin m c t (ix3 i 0 j) = if t.val % 32 = 0 then 0
      else up (iblk m c 0 ⟨t.val - 1, pred_lt t⟩) (iblk m c 2 ⟨t.val - 1, pred_lt t⟩) (V m c main_v9) j (cr i) := by
  rw [Cin]
  split
  · exact z3 i 0 j
  · exact carry_at m c ⟨t.val - 1, pred_lt t⟩ i j

theorem vo_A (c : Dev nD) (t : Fin cfg0.N) (h : t.val % 32 = 0) (r : Fin 8) (q : Fin 1024) :
    (outsAt0 m c t.val t.isLt).2.2.2.2.2.2.1 (ix2 r q) = 0 + vo (iblk m c 0 t) (iblk m c 1 t) (iblk m c 2 t) (iblk m c 3 t) (V m c main_v9) (V m c main_v10) (Cin m c t) r q := by
  rw [Cin, if_pos h, outsAt0_A m c t h h]
  frame_open
  simp (disch := decide) only [↓ View.readCov_skip, ↓ View.readCov_cons_toLoadRect, ↓ View.readCov_fill]
  frame_out
  simp only [cov0, cov1]
  by_cases h1 : r.val = 1
  · obtain rfl : r = 1 := Fin.ext h1
    rw [Rows.canon_of_mem _ _ _ _ (ix2 0 q) (by simp [Fin.forall_fin_two])]
    refine (v1_at _ _ _ _ _ _ _ _ q).trans (congrArg (· + _) ?_)
    pointwise [k0_pay4]
  rw [Rows.canon_of_not_mem _ _ _ _ 0 (by simp; omega)]
  by_cases h0 : r.val = 0
  · obtain rfl : r = 0 := Fin.ext h0
    rw [Rows.canon_of_mem _ _ _ _ (ix2 0 q) (by simp [Fin.forall_fin_two])]
    refine (v85_at _ _ _ _ _ _ _ _ q).trans (congrArg (· + _) ?_)
    pointwise [k0_pay4]
  rw [Rows.canon_of_not_mem _ _ _ _ 0 (by simp; omega),
    Rows.canon_of_mem _ _ _ _ (ix2 r q) (by simp [Fin.forall_fin_two]), z4]
  simp [vo, h0, h1]

theorem vo_B (c : Dev nD) (t : Fin cfg0.N) (h : ¬ t.val % 32 = 0) (r : Fin 8) (q : Fin 1024) :
    (outsAt0 m c t.val t.isLt).2.2.2.2.2.2.1 (ix2 r q)
      = (outsAt0 m c (t.val - 1) (pred_lt t)).2.2.2.2.2.2.1 (ix2 r q) + vo (iblk m c 0 t) (iblk m c 1 t) (iblk m c 2 t) (iblk m c 3 t) (V m c main_v9) (V m c main_v10) (Cin m c t) r q := by
  rw [Cin, if_neg h, outsAt0_B m c t h h]
  frame_out
  simp only [read_unread_whole]
  rw [wu_eq m c ⟨t.val - 1, pred_lt t⟩, wd_eq m c ⟨t.val - 1, pred_lt t⟩]
  by_cases h1 : r.val = 1
  · obtain rfl : r = 1 := Fin.ext h1
    rw [View.read_writes_cons_unit_of_mem _ _ _ _ _ _ (ix2 0 q) rfl (by simp [Fin.forall_fin_two])]
    refine (v1_at _ _ _ _ _ _ _ _ q).trans (congrArg (· + _) ?_)
    pointwise
  rw [View.read_writes_cons_unit_of_not_mem _ _ _ _ _ _ rfl 0 (by simp; omega)]
  by_cases h0 : r.val = 0
  · obtain rfl : r = 0 := Fin.ext h0
    rw [View.read_writes_cons_unit_of_mem _ _ _ _ _ _ (ix2 0 q) rfl (by simp [Fin.forall_fin_two])]
    refine (v85_at _ _ _ _ _ _ _ _ q).trans (congrArg (· + _) ?_)
    pointwise
  rw [View.read_writes_cons_unit_of_not_mem _ _ _ _ _ _ rfl 0 (by simp; omega), View.writes_nil, Memref.IsWhole.read_unread]
  simp [vo, h0, h1]

theorem ls_A (c : Dev nD) (t : Fin cfg0.N) (h : t.val % 32 = 0) (r : Fin 8) (k : Fin 128) :
    (outsAt0 m c t.val t.isLt).2.2.2.2.2.2.2.1 (ix2 r k) = 0 + ls (iblk m c 0 t) (iblk m c 1 t) (iblk m c 2 t) (iblk m c 3 t) (V m c main_v9) (V m c main_v10) (Cin m c t) := by
  rw [Cin, if_pos h, outsAt0_A m c t h h]
  frame_open
  simp (disch := decide) only [↓ View.readCov_skip, ↓ View.readCov_cons_toLoadRect, ↓ View.readCov_fill]
  frame_out
  simp only [cov0, cov1]
  refine (l82_at _ _ _ _ _ _ _ _ r k).trans (congrArg (· + _) ?_)
  exact z5 r k

theorem ls_B (c : Dev nD) (t : Fin cfg0.N) (h : ¬ t.val % 32 = 0) (r : Fin 8) (k : Fin 128) :
    (outsAt0 m c t.val t.isLt).2.2.2.2.2.2.2.1 (ix2 r k)
      = (outsAt0 m c (t.val - 1) (pred_lt t)).2.2.2.2.2.2.2.1 (ix2 r k) + ls (iblk m c 0 t) (iblk m c 1 t) (iblk m c 2 t) (iblk m c 3 t) (V m c main_v9) (V m c main_v10) (Cin m c t) := by
  rw [Cin, if_neg h, outsAt0_B m c t h h]
  frame_out
  simp only [read_unread_whole]
  rw [wu_eq m c ⟨t.val - 1, pred_lt t⟩, wd_eq m c ⟨t.val - 1, pred_lt t⟩]
  exact l82_at _ _ _ _ _ _ _ _ r k

end Cert.Kernel2Ideal.Ffn
-- ==== Proof.Ffn.Form.lean ====
/- The gated network and the loss over all times, as formulas in the arguments, in natural order of time. -/
module

public import proofs.«01_k».proof.Proof.Ffn.Spec

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

section Forms

variable (x tg : Vec Ideal S8192x1024 .f32) (gpre sc sh gpost gt : Vec Ideal S1x1024 .f32) (wu : Vec Ideal S1024x5632 .f32)
  (cw : Vec Ideal S3x5632 .f32) (cb : Vec Ideal S1x5632 .f32) (wd : Vec Ideal S2816x1024 .f32)

/-- The reciprocal root mean square of row `i`. -/
def RMS (y : Fin 8192 → Fin 1024 → EReal) (i : Fin 8192) : EReal :=
  Ideal.rsqrt (Ideal.div (∑ k : Fin 1024, y i k * y i k) (Ideal.ofBits .f32 0x44800000#32) + Ideal.ofBits .f32 0x358637BD#32)

/-- The modulated normed row. -/
def HH (i : Fin 8192) (q : Fin 1024) : EReal :=
  x (ix2 i q) * RMS (fun i k => x (ix2 i k)) i * (gpre (ix2 0 q) * (1 + sc (ix2 0 q))) + sh (ix2 0 q)

/-- The up projection. -/
def UP (j : Fin 5632) (i : Fin 8192) : EReal := ∑ k : Fin 1024, HH x gpre sc sh i k * wu (ix2 k j)

/-- A column one time earlier. -/
def S1 (U : Fin 8192 → EReal) (i : Fin 8192) : EReal := if h : i.val < 1 then 0 else U ⟨i.val - 1, by omega⟩

/-- A column two times earlier. -/
def S2 (U : Fin 8192 → EReal) (i : Fin 8192) : EReal := if h : i.val < 2 then 0 else U ⟨i.val - 2, by omega⟩

/-- The up projection, convolved. -/
def UPC (j : Fin 5632) (i : Fin 8192) : EReal :=
  cb (ix2 0 j) + cw (ix2 2 j) * UP x gpre sc sh wu j i + cw (ix2 1 j) * S1 (UP x gpre sc sh wu j) i
    + cw (ix2 0 j) * S2 (UP x gpre sc sh wu j) i

/-- The gated activation. -/
def AC (j : Fin 2816) (i : Fin 8192) : EReal :=
  act (UPC x gpre sc sh wu cw cb ⟨j.val, by omega⟩ i) (UPC x gpre sc sh wu cw cb ⟨2816 + j.val, by omega⟩ i)

/-- The down projection, in two pieces. -/
def FF (i : Fin 8192) (q : Fin 1024) : EReal :=
  (0 + ∑ j : Fin 1024, AC x gpre sc sh wu cw cb ⟨j.val, by omega⟩ i * wd (ix2 ⟨j.val, by omega⟩ q))
    + ∑ j : Fin 1792, AC x gpre sc sh wu cw cb ⟨1024 + j.val, by omega⟩ i * wd (ix2 ⟨1024 + j.val, by omega⟩ q)

/-- The post-normed row. -/
def NN (i : Fin 8192) (q : Fin 1024) : EReal := FF x gpre sc sh wu cw cb wd i q * RMS (FF x gpre sc sh wu cw cb wd) i

/-- Output minus target. -/
def DF (i : Fin 8192) (q : Fin 1024) : EReal :=
  x (ix2 i q) + gt (ix2 0 q) * gpost (ix2 0 q) * NN x gpre sc sh wu cw cb wd i q - tg (ix2 i q)

/-- The gradient at the down projection. -/
def DFF (i : Fin 8192) (q : Fin 1024) : EReal :=
  RMS (FF x gpre sc sh wu cw cb wd) i *
    (DF x tg gpre sc sh gpost gt wu cw cb wd i q * (gt (ix2 0 q) * gpost (ix2 0 q) * Ideal.ofBits .f32 0x3A800000#32)
      - NN x gpre sc sh wu cw cb wd i q * Ideal.div (∑ k : Fin 1024, DF x tg gpre sc sh gpost gt wu cw cb wd i k
          * (gt (ix2 0 k) * gpost (ix2 0 k) * Ideal.ofBits .f32 0x3A800000#32) * NN x gpre sc sh wu cw cb wd i k) (Ideal.ofBits .f32 0x44800000#32))

end Forms

end Cert.Kernel2Ideal.Ffn
-- ==== Proof.Ffn.Host.lean ====
/- The arrays that the host prepares for the kernel, read at an index: the interleaved rows, the weights and the rows of the two vector blocks. -/
module

public import proofs.«01_k».proof.Proof.Gen.Kernel2Ideal.Frame
public import Idealize.ShloMosaic.Lib.Pointwise
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

variable (m : (ℓ : Loc nD τ sig) → Buf (Elt Ideal) ℓ) (c : Dev nD)

abbrev aX : Vec Ideal S8192x1024 .f32 := m ((c.tc : Thread nD τ).loc main_arg0)
abbrev aT : Vec Ideal S8192x1024 .f32 := m ((c.tc : Thread nD τ).loc main_arg1)
abbrev aGpre : Vec Ideal S1x1024 .f32 := m ((c.tc : Thread nD τ).loc main_arg2)
abbrev aSc : Vec Ideal S1x1024 .f32 := m ((c.tc : Thread nD τ).loc main_arg3)
abbrev aSh : Vec Ideal S1x1024 .f32 := m ((c.tc : Thread nD τ).loc main_arg4)
abbrev aGpost : Vec Ideal S1x1024 .f32 := m ((c.tc : Thread nD τ).loc main_arg5)
abbrev aGt : Vec Ideal S1x1024 .f32 := m ((c.tc : Thread nD τ).loc main_arg6)
abbrev aWu : Vec Ideal S1024x5632 .f32 := m ((c.tc : Thread nD τ).loc main_arg7)
abbrev aCw : Vec Ideal S3x5632 .f32 := m ((c.tc : Thread nD τ).loc main_arg8)
abbrev aCb : Vec Ideal S1x5632 .f32 := m ((c.tc : Thread nD τ).loc main_arg9)
abbrev aWd : Vec Ideal S2816x1024 .f32 := m ((c.tc : Thread nD τ).loc main_arg10)

/-- The time that row `i` of an interleaved array holds. -/
def time (i : Fin 8192) : Fin 8192 := ⟨i.val / 256 * 256 + (i.val % 8 * 32 + i.val % 256 / 8), by omega⟩

/-- The row of an interleaved array that holds time `i`. -/
def row (i : Fin 8192) : Fin 8192 := ⟨i.val / 256 * 256 + (i.val % 32 * 8 + i.val % 256 / 32), by omega⟩

theorem time_row (i : Fin 8192) : time (row i) = i := by
  have h1 : (row i).val / 256 = i.val / 256 := by simp only [row]; omega
  have h2 : (row i).val % 8 = i.val % 256 / 32 := by simp only [row]; omega
  have h0 : (row i).val % 256 = i.val % 32 * 8 + i.val % 256 / 32 := by simp only [row]; omega
  have h3 : (row i).val % 256 / 8 = i.val % 32 := by rw [h0]; omega
  exact Fin.ext (by simp only [time, h1, h2, h3]; omega)

theorem V_wu (i : Fin 1024) (j : Fin 5632) : (V m c main_v9 : Vec Ideal S1024x5632 .bf16) (ix2 i j) = aWu m c (ix2 i j) := by
  unfold_abbrev_sides
  simp only [List.flatten_cons, List.flatten_nil, List.append_nil]
  after_results
  pointwise

theorem V_wd (i : Fin 2816) (j : Fin 1024) : (V m c main_v10 : Vec Ideal S2816x1024 .bf16) (ix2 i j) = aWd m c (ix2 i j) := by
  unfold_abbrev_sides
  simp only [List.flatten_cons, List.flatten_nil, List.append_nil]
  after_results
  pointwise

theorem V_x (i : Fin 8192) (k : Fin 1024) : (V m c main_v8 : Vec Ideal S8192x1024 .f32) (ix2 i k) = aX m c (ix2 (time i) k) := by
  unfold_abbrev_sides
  simp only [List.flatten_cons, List.flatten_nil, List.append_nil]
  after_results
  pointwise
  exact congrArg (fun a => aX m c (ix2 a k)) (Fin.ext (by simp only [time]; omega))

theorem V_Sh (k : Fin 1024) : (V m c main_v3 : Vec Ideal S16x1024 .f32) (ix2 3 k) = aSh m c (ix2 0 k) := by
  unfold_abbrev_sides
  simp only [List.flatten_cons, List.flatten_nil, List.append_nil]
  after_results
  pointwise
  after_results_simp

theorem V_Sc (k : Fin 1024) : (V m c main_v3 : Vec Ideal S16x1024 .f32) (ix2 4 k) = aSc m c (ix2 0 k) := by
  unfold_abbrev_sides
  simp only [List.flatten_cons, List.flatten_nil, List.append_nil]
  after_results
  pointwise
  after_results_simp

theorem V_Gt (k : Fin 1024) : (V m c main_v3 : Vec Ideal S16x1024 .f32) (ix2 5 k) = aGt m c (ix2 0 k) := by
  unfold_abbrev_sides
  simp only [List.flatten_cons, List.flatten_nil, List.append_nil]
  after_results
  pointwise
  after_results_simp

theorem V_Gpre (k : Fin 1024) : (V m c main_v3 : Vec Ideal S16x1024 .f32) (ix2 8 k) = aGpre m c (ix2 0 k) := by
  unfold_abbrev_sides
  simp only [List.flatten_cons, List.flatten_nil, List.append_nil]
  after_results
  pointwise
  after_results_simp

theorem V_Gpost (k : Fin 1024) : (V m c main_v3 : Vec Ideal S16x1024 .f32) (ix2 9 k) = aGpost m c (ix2 0 k) := by
  unfold_abbrev_sides
  simp only [List.flatten_cons, List.flatten_nil, List.append_nil]
  after_results
  pointwise
  after_results_simp

theorem V_w0 (k : Fin 5632) : (V m c main_v5 : Vec Ideal S8x5632 .f32) (ix2 0 k) = aCw m c (ix2 0 k) := by
  unfold_abbrev_sides
  simp only [List.flatten_cons, List.flatten_nil, List.append_nil]
  after_results
  pointwise
  after_results_simp

theorem V_w1 (k : Fin 5632) : (V m c main_v5 : Vec Ideal S8x5632 .f32) (ix2 1 k) = aCw m c (ix2 1 k) := by
  unfold_abbrev_sides
  simp only [List.flatten_cons, List.flatten_nil, List.append_nil]
  after_results
  pointwise
  after_results_simp

theorem V_w2 (k : Fin 5632) : (V m c main_v5 : Vec Ideal S8x5632 .f32) (ix2 2 k) = aCw m c (ix2 2 k) := by
  unfold_abbrev_sides
  simp only [List.flatten_cons, List.flatten_nil, List.append_nil]
  after_results
  pointwise
  after_results_simp

theorem V_b (k : Fin 5632) : (V m c main_v5 : Vec Ideal S8x5632 .f32) (ix2 3 k) = aCb m c (ix2 0 k) := by
  unfold_abbrev_sides
  simp only [List.flatten_cons, List.flatten_nil, List.append_nil]
  after_results
  pointwise
  after_results_simp

end Cert.Kernel2Ideal.Ffn
-- ==== Proof.Ffn.Array.lean ====
/- The arrays that the kernel leaves, as closed forms in its arguments. -/
module

public import proofs.«01_k».proof.Proof.Ffn.Point
public import proofs.«01_k».proof.Proof.Ffn.Form
public import proofs.«01_k».proof.Proof.Ffn.Host

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- Time `r` of the block of point `t`. -/
def at_ (t : Fin cfg0.N) (r : Fin 256) : Fin 8192 := ⟨t.val * 256 + r.val, by have := lt_of_lt_of_eq t.isLt N_0; omega⟩

theorem ix0' (t : Fin cfg0.N) : win0_0.index t 0 = t.val ∧ win0_0.index t 1 = 0 :=
  (by decide +kernel : ∀ t : Fin grid0.N, win0_0.index t 0 = t.val ∧ win0_0.index t 1 = 0) t
theorem ix1' (t : Fin cfg0.N) : win0_1.index t 0 = t.val ∧ win0_1.index t 1 = 0 :=
  (by decide +kernel : ∀ t : Fin grid0.N, win0_1.index t 0 = t.val ∧ win0_1.index t 1 = 0) t
theorem ix2' (t : Fin cfg0.N) : win0_2.index t 0 = 0 ∧ win0_2.index t 1 = 0 :=
  (by decide +kernel : ∀ t : Fin grid0.N, win0_2.index t 0 = 0 ∧ win0_2.index t 1 = 0) t
theorem ix3' (t : Fin cfg0.N) : win0_3.index t 0 = 0 ∧ win0_3.index t 1 = 0 :=
  (by decide +kernel : ∀ t : Fin grid0.N, win0_3.index t 0 = 0 ∧ win0_3.index t 1 = 0) t
theorem ix4' (t : Fin cfg0.N) : win0_4.index t 0 = t.val ∧ win0_4.index t 1 = 0 :=
  (by decide +kernel : ∀ t : Fin grid0.N, win0_4.index t 0 = t.val ∧ win0_4.index t 1 = 0) t
theorem ix5' (t : Fin cfg0.N) : win0_5.index t 0 = t.val ∧ win0_5.index t 1 = 0 :=
  (by decide +kernel : ∀ t : Fin grid0.N, win0_5.index t 0 = t.val ∧ win0_5.index t 1 = 0) t
theorem ix6' (t : Fin cfg0.N) : win0_6.index t 0 = t.val ∧ win0_6.index t 1 = 0 :=
  (by decide +kernel : ∀ t : Fin grid0.N, win0_6.index t 0 = t.val ∧ win0_6.index t 1 = 0) t
theorem ix7' (t : Fin cfg0.N) : win0_7.index t 0 = t.val ∧ win0_7.index t 1 = 0 :=
  (by decide +kernel : ∀ t : Fin grid0.N, win0_7.index t 0 = t.val ∧ win0_7.index t 1 = 0) t
theorem ix8' (t : Fin cfg0.N) : win0_8.index t 0 = t.val ∧ win0_8.index t 1 = 0 :=
  (by decide +kernel : ∀ t : Fin grid0.N, win0_8.index t 0 = t.val ∧ win0_8.index t 1 = 0) t
theorem ix9' (t : Fin cfg0.N) : win0_9.index t 0 = t.val ∧ win0_9.index t 1 = 0 :=
  (by decide +kernel : ∀ t : Fin grid0.N, win0_9.index t 0 = t.val ∧ win0_9.index t 1 = 0) t

theorem blk_x (t : Fin cfg0.N) (p : Fin 256) (k : Fin 1024) :
    (iblk m c 0 t : Vec Ideal S256x1024 .f32) (ix2 p k) = aX m c (ix2 (at_ t (tau p)) k) := by
  rw [show aX m c (ix2 (at_ t (tau p)) k) = (V m c main_v8 : Vec Ideal S8192x1024 .f32) (ix2 (at_ t p) k) from by
    rw [V_x]; exact congrArg (fun a => aX m c (ix2 a k)) (Fin.ext (by simp only [time, tau, at_]; omega))]
  blk_ext [iblk, V, at_, (ix0' t).1, (ix0' t).2]

theorem blk_t (t : Fin cfg0.N) (p : Fin 256) (k : Fin 1024) :
    (iblk m c 1 t : Vec Ideal S256x1024 .f32) (ix2 p k) = aT m c (ix2 (at_ t p) k) := by
  blk_ext [iblk, V, at_, (ix1' t).1, (ix1' t).2]

theorem blk_Sh (t : Fin cfg0.N) (k : Fin 1024) : (iblk m c 2 t : Vec Ideal S16x1024 .f32) (ix2 3 k) = aSh m c (ix2 0 k) := by
  refine Eq.trans ?_ (V_Sh m c k)
  blk_ext [iblk, V, (ix2' t).1, (ix2' t).2]

theorem blk_Sc (t : Fin cfg0.N) (k : Fin 1024) : (iblk m c 2 t : Vec Ideal S16x1024 .f32) (ix2 4 k) = aSc m c (ix2 0 k) := by
  refine Eq.trans ?_ (V_Sc m c k)
  blk_ext [iblk, V, (ix2' t).1, (ix2' t).2]

theorem blk_Gt (t : Fin cfg0.N) (k : Fin 1024) : (iblk m c 2 t : Vec Ideal S16x1024 .f32) (ix2 5 k) = aGt m c (ix2 0 k) := by
  refine Eq.trans ?_ (V_Gt m c k)
  blk_ext [iblk, V, (ix2' t).1, (ix2' t).2]

theorem blk_Gpre (t : Fin cfg0.N) (k : Fin 1024) : (iblk m c 2 t : Vec Ideal S16x1024 .f32) (ix2 8 k) = aGpre m c (ix2 0 k) := by
  refine Eq.trans ?_ (V_Gpre m c k)
  blk_ext [iblk, V, (ix2' t).1, (ix2' t).2]

theorem blk_Gpost (t : Fin cfg0.N) (k : Fin 1024) : (iblk m c 2 t : Vec Ideal S16x1024 .f32) (ix2 9 k) = aGpost m c (ix2 0 k) := by
  refine Eq.trans ?_ (V_Gpost m c k)
  blk_ext [iblk, V, (ix2' t).1, (ix2' t).2]

theorem blk_w0 (t : Fin cfg0.N) (k : Fin 5632) : (iblk m c 3 t : Vec Ideal S8x5632 .f32) (ix2 0 k) = aCw m c (ix2 0 k) := by
  refine Eq.trans ?_ (V_w0 m c k)
  blk_ext [iblk, V, (ix3' t).1, (ix3' t).2]

theorem blk_w1 (t : Fin cfg0.N) (k : Fin 5632) : (iblk m c 3 t : Vec Ideal S8x5632 .f32) (ix2 1 k) = aCw m c (ix2 1 k) := by
  refine Eq.trans ?_ (V_w1 m c k)
  blk_ext [iblk, V, (ix3' t).1, (ix3' t).2]

theorem blk_w2 (t : Fin cfg0.N) (k : Fin 5632) : (iblk m c 3 t : Vec Ideal S8x5632 .f32) (ix2 2 k) = aCw m c (ix2 2 k) := by
  refine Eq.trans ?_ (V_w2 m c k)
  blk_ext [iblk, V, (ix3' t).1, (ix3' t).2]

theorem blk_b (t : Fin cfg0.N) (k : Fin 5632) : (iblk m c 3 t : Vec Ideal S8x5632 .f32) (ix2 3 k) = aCb m c (ix2 0 k) := by
  refine Eq.trans ?_ (V_b m c k)
  blk_ext [iblk, V, (ix3' t).1, (ix3' t).2]

/-- A block's row root mean square, of rows that are the rows of an array. -/
theorem rms_eq (y : Fin 256 → Fin 1024 → EReal) (z : Fin 8192 → Fin 1024 → EReal) (i : Fin 8192) (p : Fin 256) (h : ∀ k, y p k = z i k) :
    rms y p = RMS z i := by
  simp only [rms, RMS, h]

theorem hh_eq (t : Fin cfg0.N) (p : Fin 256) (q : Fin 1024) : hh (iblk m c 0 t) (iblk m c 2 t) p q = HH (aX m c) (aGpre m c) (aSc m c) (aSh m c) (at_ t (tau p)) q := by
  rw [hh, HH, rms_eq _ (fun i k => aX m c (ix2 i k)) (at_ t (tau p)) p fun k => blk_x m c t p k]
  simp only [blk_x, blk_Gpre, blk_Sc, blk_Sh]

theorem up_eq (t : Fin cfg0.N) (j : Fin 5632) (p : Fin 256) : up (iblk m c 0 t) (iblk m c 2 t) (V m c main_v9) j p = UP (aX m c) (aGpre m c) (aSc m c) (aSh m c) (aWu m c) j (at_ t (tau p)) :=
  Finset.sum_congr rfl fun k _ => by rw [hh_eq, V_wu]

/-- The last times of the block before, as the rows that hand them on. -/
theorem tau_cr : ∀ i : Fin 3, tau (cr i) = if i.val = 1 then 254 else 255 := by decide +kernel

theorem Cin_eq (t : Fin cfg0.N) (i : Fin 3) (j : Fin 5632) :
    Cin m c t (ix3 i 0 j) = if t.val = 0 then 0 else UP (aX m c) (aGpre m c) (aSc m c) (aSh m c) (aWu m c) j (at_ ⟨t.val - 1, pred_lt t⟩ (if i.val = 1 then 254 else 255)) := by
  have ht := lt_of_lt_of_eq t.isLt N_0
  rw [Cin_at, up_eq, tau_cr]
  by_cases h : t.val = 0
  · rw [if_pos h, if_pos (by omega)]
  · rw [if_neg h, if_neg (by omega)]

theorem tau_val (p : Fin 256) : (tau p).val = p.val % 8 * 32 + p.val / 8 := rfl

theorem sh1_eq (t : Fin cfg0.N) (U : Fin 8192 → EReal) (p : Fin 256) :
    sh1 (fun p => U (at_ t (tau p))) (if t.val = 0 then 0 else U (at_ ⟨t.val - 1, pred_lt t⟩ 255)) p = S1 U (at_ t (tau p)) := by
  by_cases h : p.val = 0
  · have h0 : (tau p).val = 0 := by rw [tau_val]; omega
    rw [sh1, if_pos h, S1]
    by_cases ht : t.val = 0
    · rw [if_pos ht, dif_pos (by simp only [at_]; omega)]
    · rw [if_neg ht, dif_neg (by simp only [at_]; omega)]
      exact congrArg U (Fin.ext (by simp only [at_, h0]; change (t.val - 1) * 256 + 255 = _; omega))
  · have h0 : (tau p).val ≠ 0 := by rw [tau_val]; omega
    rw [sh1, if_neg h, S1, dif_neg (by simp only [at_]; omega)]
    exact congrArg U (Fin.ext (by simp only [at_, tau_prev p h0]; omega))

theorem sh2_eq (t : Fin cfg0.N) (U : Fin 8192 → EReal) (p : Fin 256) :
    sh2 (fun p => U (at_ t (tau p))) (if t.val = 0 then 0 else U (at_ ⟨t.val - 1, pred_lt t⟩ 254))
      (if t.val = 0 then 0 else U (at_ ⟨t.val - 1, pred_lt t⟩ 255)) p = S2 U (at_ t (tau p)) := by
  by_cases h : p.val = 0
  · have h0 : (tau p).val = 0 := by rw [tau_val]; omega
    rw [sh2, if_pos h, S2]
    by_cases ht : t.val = 0
    · rw [if_pos ht, dif_pos (by simp only [at_]; omega)]
    · rw [if_neg ht, dif_neg (by simp only [at_]; omega)]
      exact congrArg U (Fin.ext (by simp only [at_, h0]; change (t.val - 1) * 256 + 254 = _; omega))
  by_cases h8 : p.val = 8
  · have h0 : (tau p).val = 1 := by rw [tau_val]; omega
    rw [sh2, if_neg h, if_pos h8, S2]
    by_cases ht : t.val = 0
    · rw [if_pos ht, dif_pos (by simp only [at_]; omega)]
    · rw [if_neg ht, dif_neg (by simp only [at_]; omega)]
      exact congrArg U (Fin.ext (by simp only [at_, h0]; change (t.val - 1) * 256 + 255 = _; omega))
  · have h0 : (tau p).val ≠ 0 := by rw [tau_val]; omega
    have h1 : (tau p).val ≠ 1 := by rw [tau_val]; omega
    have h2 := tau_prev p h0
    rw [sh2, if_neg h, if_neg h8, S2, dif_neg (by simp only [at_]; omega)]
    exact congrArg U (Fin.ext (by simp only [at_, tau_prev (prev p) (by omega), h2]; omega))

theorem upc_eq (t : Fin cfg0.N) (j : Fin 5632) (p : Fin 256) : upc (iblk m c 0 t) (iblk m c 2 t) (iblk m c 3 t) (V m c main_v9) (Cin m c t) j p = UPC (aX m c) (aGpre m c) (aSc m c) (aSh m c) (aWu m c) (aCw m c) (aCb m c) j (at_ t (tau p)) := by
  unfold upc conv UPC
  rw [Cin_eq, Cin_eq, Cin_eq, show up (iblk m c 0 t) (iblk m c 2 t) (V m c main_v9) j = fun p => UP (aX m c) (aGpre m c) (aSc m c) (aSh m c) (aWu m c) j (at_ t (tau p)) from funext fun p => up_eq m c t j p]
  simp only [blk_w0, blk_w1, blk_w2, blk_b]
  exact congrArg₂ (· + ·) (congrArg₂ (· + ·) rfl (congrArg (_ * ·) (sh1_eq t (UP (aX m c) (aGpre m c) (aSc m c) (aSh m c) (aWu m c) j) p))) (congrArg (_ * ·) (sh2_eq t (UP (aX m c) (aGpre m c) (aSc m c) (aSh m c) (aWu m c) j) p))

theorem ac_eq (t : Fin cfg0.N) (j : Fin 2816) (p : Fin 256) : ac (iblk m c 0 t) (iblk m c 2 t) (iblk m c 3 t) (V m c main_v9) (Cin m c t) j p = AC (aX m c) (aGpre m c) (aSc m c) (aSh m c) (aWu m c) (aCw m c) (aCb m c) j (at_ t (tau p)) := by
  rw [ac, AC, upc_eq, upc_eq]

theorem ff_eq (t : Fin cfg0.N) (p : Fin 256) (q : Fin 1024) : ff (iblk m c 0 t) (iblk m c 2 t) (iblk m c 3 t) (V m c main_v9) (V m c main_v10) (Cin m c t) p q = FF (aX m c) (aGpre m c) (aSc m c) (aSh m c) (aWu m c) (aCw m c) (aCb m c) (aWd m c) (at_ t (tau p)) q :=
  congrArg₂ (· + ·) (congrArg (0 + ·) (Finset.sum_congr rfl fun j _ => by rw [ac_eq, V_wd]))
    (Finset.sum_congr rfl fun j _ => by rw [ac_eq, V_wd])

theorem nn_eq (t : Fin cfg0.N) (p : Fin 256) (q : Fin 1024) : n4 (iblk m c 0 t) (iblk m c 2 t) (iblk m c 3 t) (V m c main_v9) (V m c main_v10) (Cin m c t) p q = NN (aX m c) (aGpre m c) (aSc m c) (aSh m c) (aWu m c) (aCw m c) (aCb m c) (aWd m c) (at_ t (tau p)) q := by
  rw [n4, NN, ff_eq, rms_eq _ (FF (aX m c) (aGpre m c) (aSc m c) (aSh m c) (aWu m c) (aCw m c) (aCb m c) (aWd m c)) (at_ t (tau p)) p fun k => ff_eq m c t p k]

theorem df_eq (t : Fin cfg0.N) (p : Fin 256) (q : Fin 1024) : df (iblk m c 0 t) (iblk m c 1 t) (iblk m c 2 t) (iblk m c 3 t) (V m c main_v9) (V m c main_v10) (Cin m c t) p q = DF (aX m c) (aT m c) (aGpre m c) (aSc m c) (aSh m c) (aGpost m c) (aGt m c) (aWu m c) (aCw m c) (aCb m c) (aWd m c) (at_ t (tau p)) q := by
  rw [df, DF, nn_eq, blk_x, blk_Gt, blk_Gpost, blk_t]

theorem dff_eq (t : Fin cfg0.N) (p : Fin 256) (q : Fin 1024) : dff (iblk m c 0 t) (iblk m c 1 t) (iblk m c 2 t) (iblk m c 3 t) (V m c main_v9) (V m c main_v10) (Cin m c t) p q = DFF (aX m c) (aT m c) (aGpre m c) (aSc m c) (aSh m c) (aGpost m c) (aGt m c) (aWu m c) (aCw m c) (aCb m c) (aWd m c) (at_ t (tau p)) q := by
  rw [dff, DFF, rms_eq _ (FF (aX m c) (aGpre m c) (aSc m c) (aSh m c) (aWu m c) (aCw m c) (aCb m c) (aWd m c)) (at_ t (tau p)) p fun k => ff_eq m c t p k]
  refine congrArg (_ * ·) (congrArg₂ (· - ·) ?_ (congrArg₂ (· * ·) (nn_eq m c t p q)
    (congrArg (Ideal.div · _) (Finset.sum_congr rfl fun k _ => ?_))))
  · rw [df_eq, blk_Gt, blk_Gpost]
  · rw [df_eq, nn_eq, blk_Gt, blk_Gpost]

theorem cs_eq (t : Fin cfg0.N) (q : Fin 1024) :
    cs (iblk m c 0 t) (iblk m c 1 t) (iblk m c 2 t) (iblk m c 3 t) (V m c main_v9) (V m c main_v10) (Cin m c t) q = ∑ r : Fin 256, DF (aX m c) (aT m c) (aGpre m c) (aSc m c) (aSh m c) (aGpost m c) (aGt m c) (aWu m c) (aCw m c) (aCb m c) (aWd m c) (at_ t r) q * NN (aX m c) (aGpre m c) (aSc m c) (aSh m c) (aWu m c) (aCw m c) (aCb m c) (aWd m c) (at_ t r) q := by
  refine (Finset.sum_congr rfl fun p _ => by rw [df_eq, nn_eq]).trans ?_
  exact Equiv.sum_comp perm (fun r => DF (aX m c) (aT m c) (aGpre m c) (aSc m c) (aSh m c) (aGpost m c) (aGt m c) (aWu m c) (aCw m c) (aCb m c) (aWd m c) (at_ t r) q * NN (aX m c) (aGpre m c) (aSc m c) (aSh m c) (aWu m c) (aCw m c) (aCb m c) (aWd m c) (at_ t r) q)

theorem ls_eq (t : Fin cfg0.N) :
    ls (iblk m c 0 t) (iblk m c 1 t) (iblk m c 2 t) (iblk m c 3 t) (V m c main_v9) (V m c main_v10) (Cin m c t) = Ideal.ofBits .f32 0x3A000000#32 * ∑ r : Fin 256, ∑ q : Fin 1024, DF (aX m c) (aT m c) (aGpre m c) (aSc m c) (aSh m c) (aGpost m c) (aGt m c) (aWu m c) (aCw m c) (aCb m c) (aWd m c) (at_ t r) q * DF (aX m c) (aT m c) (aGpre m c) (aSc m c) (aSh m c) (aGpost m c) (aGt m c) (aWu m c) (aCw m c) (aCb m c) (aWd m c) (at_ t r) q := by
  rw [ls]
  refine congrArg (_ * ·) ((Finset.sum_congr rfl fun p _ => Finset.sum_congr rfl fun q _ =>
    congrArg₂ (· * ·) (df_eq m c t p q) (df_eq m c t p q)).trans ?_)
  exact Equiv.sum_comp perm (fun r => ∑ q : Fin 1024, DF (aX m c) (aT m c) (aGpre m c) (aSc m c) (aSh m c) (aGpost m c) (aGt m c) (aWu m c) (aCw m c) (aCb m c) (aWd m c) (at_ t r) q * DF (aX m c) (aT m c) (aGpre m c) (aSc m c) (aSh m c) (aGpost m c) (aGt m c) (aWu m c) (aCw m c) (aCb m c) (aWd m c) (at_ t r) q)

theorem time_at (t : Fin cfg0.N) (p : Fin 256) : time (at_ t p) = at_ t (tau p) :=
  Fin.ext (by simp only [time, tau, at_]; omega)

/-- The last point. -/
def tL : Fin cfg0.N := ⟨31, by rw [show cfg0.N = 32 from N_0]; decide⟩

theorem up0_final : (dats m 0 c).arrAt 4 cfg0.N = (fun y => UP (aX m c) (aGpre m c) (aSc m c) (aSh m c) (aWu m c) (y 1) (time (y 0)) : Vec Ideal S8192x5632 .bf16) := by
  refine (dats m 0 c).arrAt_eq_of_covers 4 _ (by decide +kernel) fun t hf y => ?_
  blk_simp
  rw [after0_4]
  obtain ⟨r, k, rfl⟩ : ∃ (r : Fin 256) (k : Fin 5632), y = ix2 r k := ⟨_, _, eq_ix2 y⟩
  have e0 : (win0_4.blk t).view.emb (ix2 r k) 0 = at_ t r := Fin.ext (by blk_simp [(ix4' t).1, at_])
  have e1 : (win0_4.blk t).view.emb (ix2 r k) 1 = k := Fin.ext (by blk_simp [(ix4' t).2])
  rw [up_at, up_eq, e0, e1, time_at]

theorem upc_final : (dats m 0 c).arrAt 5 cfg0.N = (fun y => UPC (aX m c) (aGpre m c) (aSc m c) (aSh m c) (aWu m c) (aCw m c) (aCb m c) (y 1) (time (y 0)) : Vec Ideal S8192x5632 .bf16) := by
  refine (dats m 0 c).arrAt_eq_of_covers 5 _ (by decide +kernel) fun t hf y => ?_
  blk_simp
  rw [after0_5]
  obtain ⟨r, k, rfl⟩ : ∃ (r : Fin 256) (k : Fin 5632), y = ix2 r k := ⟨_, _, eq_ix2 y⟩
  have e0 : (win0_5.blk t).view.emb (ix2 r k) 0 = at_ t r := Fin.ext (by blk_simp [(ix5' t).1, at_])
  have e1 : (win0_5.blk t).view.emb (ix2 r k) 1 = k := Fin.ext (by blk_simp [(ix5' t).2])
  rw [upc_at, upc_eq, e0, e1, time_at]

theorem ac_final : (dats m 0 c).arrAt 6 cfg0.N = (fun y => AC (aX m c) (aGpre m c) (aSc m c) (aSh m c) (aWu m c) (aCw m c) (aCb m c) (y 1) (time (y 0)) : Vec Ideal S8192x2816 .bf16) := by
  refine (dats m 0 c).arrAt_eq_of_covers 6 _ (by decide +kernel) fun t hf y => ?_
  blk_simp
  rw [after0_6]
  obtain ⟨r, k, rfl⟩ : ∃ (r : Fin 256) (k : Fin 2816), y = ix2 r k := ⟨_, _, eq_ix2 y⟩
  have e0 : (win0_6.blk t).view.emb (ix2 r k) 0 = at_ t r := Fin.ext (by blk_simp [(ix6' t).1, at_])
  have e1 : (win0_6.blk t).view.emb (ix2 r k) 1 = k := Fin.ext (by blk_simp [(ix6' t).2])
  rw [ac_at, ac_eq, e0, e1, time_at]

theorem h_final : (dats m 0 c).arrAt 7 cfg0.N = (fun y => HH (aX m c) (aGpre m c) (aSc m c) (aSh m c) (time (y 0)) (y 1) : Vec Ideal S8192x1024 .bf16) := by
  refine (dats m 0 c).arrAt_eq_of_covers 7 _ (by decide +kernel) fun t hf y => ?_
  blk_simp
  rw [after0_7]
  obtain ⟨r, k, rfl⟩ : ∃ (r : Fin 256) (k : Fin 1024), y = ix2 r k := ⟨_, _, eq_ix2 y⟩
  have e0 : (win0_7.blk t).view.emb (ix2 r k) 0 = at_ t r := Fin.ext (by blk_simp [(ix7' t).1, at_])
  have e1 : (win0_7.blk t).view.emb (ix2 r k) 1 = k := Fin.ext (by blk_simp [(ix7' t).2])
  rw [h_at, hh_eq, e0, e1, time_at]

theorem dx_final : (dats m 0 c).arrAt 8 cfg0.N = (fun y => DF (aX m c) (aT m c) (aGpre m c) (aSc m c) (aSh m c) (aGpost m c) (aGt m c) (aWu m c) (aCw m c) (aCb m c) (aWd m c) (time (y 0)) (y 1) * Ideal.ofBits .f32 0x3A800000#32 : Vec Ideal S8192x1024 .f32) := by
  refine (dats m 0 c).arrAt_eq_of_covers 8 _ (by decide +kernel) fun t hf y => ?_
  blk_simp
  rw [after0_8]
  obtain ⟨r, k, rfl⟩ : ∃ (r : Fin 256) (k : Fin 1024), y = ix2 r k := ⟨_, _, eq_ix2 y⟩
  have e0 : (win0_8.blk t).view.emb (ix2 r k) 0 = at_ t r := Fin.ext (by blk_simp [(ix8' t).1, at_])
  have e1 : (win0_8.blk t).view.emb (ix2 r k) 1 = k := Fin.ext (by blk_simp [(ix8' t).2])
  rw [dx_at, df_eq, e0, e1, time_at]

theorem dff_final : (dats m 0 c).arrAt 9 cfg0.N = (fun y => DFF (aX m c) (aT m c) (aGpre m c) (aSc m c) (aSh m c) (aGpost m c) (aGt m c) (aWu m c) (aCw m c) (aCb m c) (aWd m c) (time (y 0)) (y 1) : Vec Ideal S8192x1024 .bf16) := by
  refine (dats m 0 c).arrAt_eq_of_covers 9 _ (by decide +kernel) fun t hf y => ?_
  blk_simp
  rw [after0_9]
  obtain ⟨r, k, rfl⟩ : ∃ (r : Fin 256) (k : Fin 1024), y = ix2 r k := ⟨_, _, eq_ix2 y⟩
  have e0 : (win0_9.blk t).view.emb (ix2 r k) 0 = at_ t r := Fin.ext (by blk_simp [(ix9' t).1, at_])
  have e1 : (win0_9.blk t).view.emb (ix2 r k) 1 = k := Fin.ext (by blk_simp [(ix9' t).2])
  rw [dff_at, dff_eq, e0, e1, time_at]

theorem vo_final : (dats m 0 c).arrAt 10 cfg0.N
    = (fun y => ∑ t : Fin cfg0.N, vo (iblk m c 0 t) (iblk m c 1 t) (iblk m c 2 t) (iblk m c 3 t) (V m c main_v9) (V m c main_v10) (Cin m c t) (y 0) (y 1) : Vec Ideal S8x1024 .f32) := by
  refine (dats m 0 c).arrAt_eq_of_after_last 10 tL (by decide +kernel) _ fun j => ?_
  blk_simp
  rw [after0_10]
  obtain ⟨r, k, rfl⟩ : ∃ (r : Fin 8) (k : Fin 1024), j = ix2 r k := ⟨_, _, eq_ix2 j⟩
  rw [Pipeline.eq_sum_fin_of_reset_step_apply_last (fun n h => (outsAt0 m c n h).2.2.2.2.2.2.1) 32 (fun _ => 0)
    (fun t j => vo (iblk m c 0 t) (iblk m c 1 t) (iblk m c 2 t) (iblk m c 3 t) (V m c main_v9) (V m c main_v10) (Cin m c t) (j 0) (j 1))
    (fun t h j => by obtain ⟨r, k, rfl⟩ : ∃ (r : Fin 8) (k : Fin 1024), j = ix2 r k := ⟨_, _, eq_ix2 j⟩; exact vo_A m c t h r k)
    (fun t h j => by obtain ⟨r, k, rfl⟩ : ∃ (r : Fin 8) (k : Fin 1024), j = ix2 r k := ⟨_, _, eq_ix2 j⟩; exact vo_B m c t h r k)
    (le_of_eq N_0) tL rfl (ix2 r k), zero_add]

theorem ls_final : (dats m 0 c).arrAt 11 cfg0.N
    = (fun y => ∑ t : Fin cfg0.N, ls (iblk m c 0 t) (iblk m c 1 t) (iblk m c 2 t) (iblk m c 3 t) (V m c main_v9) (V m c main_v10) (Cin m c t) : Vec Ideal S8x128 .f32) := by
  refine (dats m 0 c).arrAt_eq_of_after_last 11 tL (by decide +kernel) _ fun j => ?_
  blk_simp
  rw [after0_11]
  obtain ⟨r, k, rfl⟩ : ∃ (r : Fin 8) (k : Fin 128), j = ix2 r k := ⟨_, _, eq_ix2 j⟩
  rw [Pipeline.eq_sum_fin_of_reset_step_apply_last (fun n h => (outsAt0 m c n h).2.2.2.2.2.2.2.1) 32 (fun _ => 0)
    (fun t j => ls (iblk m c 0 t) (iblk m c 1 t) (iblk m c 2 t) (iblk m c 3 t) (V m c main_v9) (V m c main_v10) (Cin m c t))
    (fun t h j => by obtain ⟨r, k, rfl⟩ : ∃ (r : Fin 8) (k : Fin 128), j = ix2 r k := ⟨_, _, eq_ix2 j⟩; exact ls_A m c t h r k)
    (fun t h j => by obtain ⟨r, k, rfl⟩ : ∃ (r : Fin 8) (k : Fin 128), j = ix2 r k := ⟨_, _, eq_ix2 j⟩; exact ls_B m c t h r k)
    (le_of_eq N_0) tL rfl (ix2 r k), zero_add]

end Cert.Kernel2Ideal.Ffn
-- ==== Proof.Ffn.Tail.lean ====
/- What the host hands back: the kernel's arrays in natural order of time. -/
module

public import proofs.«01_k».proof.Proof.Ffn.Array

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

variable (m : (ℓ : Loc nD τ sig) → Buf (Elt Ideal) ℓ) (ρ : Dev nD → PrngReg)

theorem time_nat (i : Fin 8192) (h : i.val / 256 * 256 + i.val % 32 * 8 + i.val / 32 % 8 < 8192) :
    time ⟨i.val / 256 * 256 + i.val % 32 * 8 + i.val / 32 % 8, h⟩ = i :=
  (congrArg time (Fin.ext (by simp only [row]; omega))).trans (time_row i)

theorem tail_v15 (c : Dev nD) : Pipeline.afterTail₀ cfgs (dats m) 0 (V0 m) [hostOps1] c main_v15
    = (fun y => UP (aX m c) (aGpre m c) (aSc m c) (aSh m c) (aWu m c) (y 1) (y 0) : Vec Ideal S8192x5632 .f32) := by
  funext y
  obtain ⟨i, k, rfl⟩ : ∃ (i : Fin 8192) (k : Fin 5632), y = ix2 i k := ⟨_, _, eq_ix2 y⟩
  unfold Pipeline.afterTail₀
  simp only [List.flatten_cons, List.flatten_nil, List.append_nil]
  after_results
  rw [Pipeline.withArrays_arr (cfgs 0).spec (by decide +kernel) c (V0 m c) (fun w => (dats m 0 c).arrAt w (cfgs 0).N) 4]
  pointwise
  refine (congrFun (up0_final m c) _).trans ?_
  exact congrArg (fun a => UP (aX m c) (aGpre m c) (aSc m c) (aSh m c) (aWu m c) k a) (time_nat i _)

theorem tail_v19 (c : Dev nD) : Pipeline.afterTail₀ cfgs (dats m) 0 (V0 m) [hostOps1] c main_v19
    = (fun y => UPC (aX m c) (aGpre m c) (aSc m c) (aSh m c) (aWu m c) (aCw m c) (aCb m c) (y 1) (y 0) : Vec Ideal S8192x5632 .f32) := by
  funext y
  obtain ⟨i, k, rfl⟩ : ∃ (i : Fin 8192) (k : Fin 5632), y = ix2 i k := ⟨_, _, eq_ix2 y⟩
  unfold Pipeline.afterTail₀
  simp only [List.flatten_cons, List.flatten_nil, List.append_nil]
  after_results
  rw [Pipeline.withArrays_arr (cfgs 0).spec (by decide +kernel) c (V0 m c) (fun w => (dats m 0 c).arrAt w (cfgs 0).N) 5]
  pointwise
  refine (congrFun (upc_final m c) _).trans ?_
  exact congrArg (fun a => UPC (aX m c) (aGpre m c) (aSc m c) (aSh m c) (aWu m c) (aCw m c) (aCb m c) k a) (time_nat i _)

theorem tail_v23 (c : Dev nD) : Pipeline.afterTail₀ cfgs (dats m) 0 (V0 m) [hostOps1] c main_v23
    = (fun y => AC (aX m c) (aGpre m c) (aSc m c) (aSh m c) (aWu m c) (aCw m c) (aCb m c) (y 1) (y 0) : Vec Ideal S8192x2816 .f32) := by
  funext y
  obtain ⟨i, k, rfl⟩ : ∃ (i : Fin 8192) (k : Fin 2816), y = ix2 i k := ⟨_, _, eq_ix2 y⟩
  unfold Pipeline.afterTail₀
  simp only [List.flatten_cons, List.flatten_nil, List.append_nil]
  after_results
  rw [Pipeline.withArrays_arr (cfgs 0).spec (by decide +kernel) c (V0 m c) (fun w => (dats m 0 c).arrAt w (cfgs 0).N) 6]
  pointwise
  refine (congrFun (ac_final m c) _).trans ?_
  exact congrArg (fun a => AC (aX m c) (aGpre m c) (aSc m c) (aSh m c) (aWu m c) (aCw m c) (aCb m c) k a) (time_nat i _)

theorem tail_v27 (c : Dev nD) : Pipeline.afterTail₀ cfgs (dats m) 0 (V0 m) [hostOps1] c main_v27
    = (fun y => HH (aX m c) (aGpre m c) (aSc m c) (aSh m c) (y 0) (y 1) : Vec Ideal S8192x1024 .f32) := by
  funext y
  obtain ⟨i, k, rfl⟩ : ∃ (i : Fin 8192) (k : Fin 1024), y = ix2 i k := ⟨_, _, eq_ix2 y⟩
  unfold Pipeline.afterTail₀
  simp only [List.flatten_cons, List.flatten_nil, List.append_nil]
  after_results
  rw [Pipeline.withArrays_arr (cfgs 0).spec (by decide +kernel) c (V0 m c) (fun w => (dats m 0 c).arrAt w (cfgs 0).N) 7]
  pointwise
  refine (congrFun (h_final m c) _).trans ?_
  exact congrArg (fun a => HH (aX m c) (aGpre m c) (aSc m c) (aSh m c) a k) (time_nat i _)

theorem tail_v30 (c : Dev nD) : Pipeline.afterTail₀ cfgs (dats m) 0 (V0 m) [hostOps1] c main_v30
    = (fun y => DF (aX m c) (aT m c) (aGpre m c) (aSc m c) (aSh m c) (aGpost m c) (aGt m c) (aWu m c) (aCw m c) (aCb m c) (aWd m c) (y 0) (y 1) * Ideal.ofBits .f32 0x3A800000#32 : Vec Ideal S8192x1024 .f32) := by
  funext y
  obtain ⟨i, k, rfl⟩ : ∃ (i : Fin 8192) (k : Fin 1024), y = ix2 i k := ⟨_, _, eq_ix2 y⟩
  unfold Pipeline.afterTail₀
  simp only [List.flatten_cons, List.flatten_nil, List.append_nil]
  after_results
  rw [Pipeline.withArrays_arr (cfgs 0).spec (by decide +kernel) c (V0 m c) (fun w => (dats m 0 c).arrAt w (cfgs 0).N) 8]
  pointwise
  refine (congrFun (dx_final m c) _).trans ?_
  exact congrArg (fun a => DF (aX m c) (aT m c) (aGpre m c) (aSc m c) (aSh m c) (aGpost m c) (aGt m c) (aWu m c) (aCw m c) (aCb m c) (aWd m c) a k * Ideal.ofBits .f32 0x3A800000#32) (time_nat i _)

theorem tail_v34 (c : Dev nD) : Pipeline.afterTail₀ cfgs (dats m) 0 (V0 m) [hostOps1] c main_v34
    = (fun y => DFF (aX m c) (aT m c) (aGpre m c) (aSc m c) (aSh m c) (aGpost m c) (aGt m c) (aWu m c) (aCw m c) (aCb m c) (aWd m c) (y 0) (y 1) : Vec Ideal S8192x1024 .f32) := by
  funext y
  obtain ⟨i, k, rfl⟩ : ∃ (i : Fin 8192) (k : Fin 1024), y = ix2 i k := ⟨_, _, eq_ix2 y⟩
  unfold Pipeline.afterTail₀
  simp only [List.flatten_cons, List.flatten_nil, List.append_nil]
  after_results
  rw [Pipeline.withArrays_arr (cfgs 0).spec (by decide +kernel) c (V0 m c) (fun w => (dats m 0 c).arrAt w (cfgs 0).N) 9]
  pointwise
  refine (congrFun (dff_final m c) _).trans ?_
  exact congrArg (fun a => DFF (aX m c) (aT m c) (aGpre m c) (aSc m c) (aSh m c) (aGpost m c) (aGt m c) (aWu m c) (aCw m c) (aCb m c) (aWd m c) a k) (time_nat i _)

/-- The kernel's program runs and leaves these arrays. -/
theorem run_arrays : θ_run defs (onTc (τ := τ) (main (F := Ideal))) (s₀ m ρ) (fun r => ∀ c : Dev nD,
    r.2.mem ((c.tc : Thread nD τ).loc main_v15) = (fun y => UP (aX m c) (aGpre m c) (aSc m c) (aSh m c) (aWu m c) (y 1) (y 0) : Vec Ideal S8192x5632 .f32) ∧
    r.2.mem ((c.tc : Thread nD τ).loc main_v19) = (fun y => UPC (aX m c) (aGpre m c) (aSc m c) (aSh m c) (aWu m c) (aCw m c) (aCb m c) (y 1) (y 0) : Vec Ideal S8192x5632 .f32) ∧
    r.2.mem ((c.tc : Thread nD τ).loc main_v23) = (fun y => AC (aX m c) (aGpre m c) (aSc m c) (aSh m c) (aWu m c) (aCw m c) (aCb m c) (y 1) (y 0) : Vec Ideal S8192x2816 .f32) ∧
    r.2.mem ((c.tc : Thread nD τ).loc main_v27) = (fun y => HH (aX m c) (aGpre m c) (aSc m c) (aSh m c) (y 0) (y 1) : Vec Ideal S8192x1024 .f32) ∧
    r.2.mem ((c.tc : Thread nD τ).loc main_v30) = (fun y => DF (aX m c) (aT m c) (aGpre m c) (aSc m c) (aSh m c) (aGpost m c) (aGt m c) (aWu m c) (aCw m c) (aCb m c) (aWd m c) (y 0) (y 1) * Ideal.ofBits .f32 0x3A800000#32 : Vec Ideal S8192x1024 .f32) ∧
    r.2.mem ((c.tc : Thread nD τ).loc main_v34) = (fun y => DFF (aX m c) (aT m c) (aGpre m c) (aSc m c) (aSh m c) (aGpost m c) (aGt m c) (aWu m c) (aCw m c) (aCb m c) (aWd m c) (y 0) (y 1) : Vec Ideal S8192x1024 .f32) ∧
    r.2.mem ((c.tc : Thread nD τ).loc main_v11_6) = (dats m 0 c).arrAt 10 cfg0.N ∧
    r.2.mem ((c.tc : Thread nD τ).loc main_v11_7) = (dats m 0 c).arrAt 11 cfg0.N) := by
  refine (θ_run _ _ _).mono (fun r h c => ?_) (run_main m ρ)
  obtain ⟨h1, h2⟩ := h c
  exact ⟨(h2 main_v15 (by decide +kernel)).trans (tail_v15 m c),
    (h2 main_v19 (by decide +kernel)).trans (tail_v19 m c),
    (h2 main_v23 (by decide +kernel)).trans (tail_v23 m c),
    (h2 main_v27 (by decide +kernel)).trans (tail_v27 m c),
    (h2 main_v30 (by decide +kernel)).trans (tail_v30 m c),
    (h2 main_v34 (by decide +kernel)).trans (tail_v34 m c), h1 10, h1 11⟩

end Cert.Kernel2Ideal.Ffn
-- ==== Proof.Ffn.Coe.lean ====
/- The gated network and the loss over real arguments. -/
module

public import proofs.«01_k».proof.Proof.Ffn.Form
public import proofs.«01_k».proof.Proof.Common.Real

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

open Cert.Re

/-- The arguments as reals. -/
structure RArgs where
  X : Fin 8192 → Fin 1024 → ℝ
  T : Fin 8192 → Fin 1024 → ℝ
  GP : Fin 1024 → ℝ
  SC : Fin 1024 → ℝ
  SH : Fin 1024 → ℝ
  GQ : Fin 1024 → ℝ
  GT : Fin 1024 → ℝ
  WU : Fin 1024 → Fin 5632 → ℝ
  CW : Fin 3 → Fin 5632 → ℝ
  CB : Fin 5632 → ℝ
  WD : Fin 2816 → Fin 1024 → ℝ

/-- The arrays hold these reals. -/
structure RArgs.Is (A : RArgs) (x tg : Vec Ideal S8192x1024 .f32) (gpre sc sh gpost gt : Vec Ideal S1x1024 .f32) (wu : Vec Ideal S1024x5632 .f32)
    (cw : Vec Ideal S3x5632 .f32) (cb : Vec Ideal S1x5632 .f32) (wd : Vec Ideal S2816x1024 .f32) : Prop where
  x : ∀ i k, x (ix2 i k) = ((A.X i k : ℝ) : EReal)
  tg : ∀ i k, tg (ix2 i k) = ((A.T i k : ℝ) : EReal)
  gpre : ∀ k, gpre (ix2 0 k) = ((A.GP k : ℝ) : EReal)
  sc : ∀ k, sc (ix2 0 k) = ((A.SC k : ℝ) : EReal)
  sh : ∀ k, sh (ix2 0 k) = ((A.SH k : ℝ) : EReal)
  gpost : ∀ k, gpost (ix2 0 k) = ((A.GQ k : ℝ) : EReal)
  gt : ∀ k, gt (ix2 0 k) = ((A.GT k : ℝ) : EReal)
  wu : ∀ i k, wu (ix2 i k) = ((A.WU i k : ℝ) : EReal)
  cw : ∀ i k, cw (ix2 i k) = ((A.CW i k : ℝ) : EReal)
  cb : ∀ k, cb (ix2 0 k) = ((A.CB k : ℝ) : EReal)
  wd : ∀ i k, wd (ix2 i k) = ((A.WD i k : ℝ) : EReal)

/-- The factor of gelu's hyperbolic tangent. -/
def kR : ℝ := 13386282 / 2 ^ 24

/-- The factor of gelu's cubic term. -/
def aR : ℝ := 12003091 / 2 ^ 28

theorem c_k : Ideal.ofBits .f32 0x3F4C422A#32 = ((kR : ℝ) : EReal) := by
  simp [Ideal.ofBits, Ideal.ieee, kR, -EReal.coe_mul]; norm_num
theorem c_a : Ideal.ofBits .f32 0x3D372713#32 = ((aR : ℝ) : EReal) := by
  simp [Ideal.ofBits, Ideal.ieee, aR, -EReal.coe_mul]; norm_num
theorem c_half : Ideal.ofBits .f32 0x3F000000#32 = ((1 / 2 : ℝ) : EReal) := by
  simp [Ideal.ofBits, Ideal.ieee, -EReal.coe_mul]; norm_num
theorem c_inv : Ideal.ofBits .f32 0x3A800000#32 = ((1 / 1024 : ℝ) : EReal) := by
  simp [Ideal.ofBits, Ideal.ieee, -EReal.coe_mul]; norm_num
theorem c_hinv : Ideal.ofBits .f32 0x3A000000#32 = ((1 / 2048 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num

/-- The constant that the kernel writes is the product of the two factors. -/
theorem c_ka : KA = ((kR * aR : ℝ) : EReal) := by
  rw [show kR * aR = 80338380498831 / 2251799813685248 from by unfold kR aR; norm_num]
  exact (IdealRules.named_const.statement Cert.Kernel2Ideal.κ "gelu_ka" .f32 0x3D122279#32
    ((80338380498831 / 2251799813685248 : ℝ) : EReal) rfl).2.2

/-- A column of reals one time earlier. -/
def r1 (U : Fin 8192 → ℝ) (i : Fin 8192) : ℝ := if h : i.val < 1 then 0 else U ⟨i.val - 1, by omega⟩

/-- A column of reals two times earlier. -/
def r2 (U : Fin 8192 → ℝ) (i : Fin 8192) : ℝ := if h : i.val < 2 then 0 else U ⟨i.val - 2, by omega⟩

theorem S1_coe (U : Fin 8192 → ℝ) (i : Fin 8192) : S1 (fun i => ((U i : ℝ) : EReal)) i = ((r1 U i : ℝ) : EReal) := by
  unfold S1 r1
  split <;> simp

theorem S2_coe (U : Fin 8192 → ℝ) (i : Fin 8192) : S2 (fun i => ((U i : ℝ) : EReal)) i = ((r2 U i : ℝ) : EReal) := by
  unfold S2 r2
  split <;> simp

namespace RArgs

variable (A : RArgs)

/-- The modulated normed row. -/
def h (i : Fin 8192) (q : Fin 1024) : ℝ := A.X i q * rr (A.X i) * (A.GP q * (1 + A.SC q)) + A.SH q

/-- The up projection. -/
def u (j : Fin 5632) (i : Fin 8192) : ℝ := ∑ k : Fin 1024, A.h i k * A.WU k j

/-- The up projection, convolved. -/
def c (j : Fin 5632) (i : Fin 8192) : ℝ := A.CB j + A.CW 2 j * A.u j i + A.CW 1 j * r1 (A.u j) i + A.CW 0 j * r2 (A.u j) i

/-- The gate. -/
def c0 (j : Fin 2816) (i : Fin 8192) : ℝ := A.c ⟨j.val, by omega⟩ i

/-- The gated half. -/
def c1 (j : Fin 2816) (i : Fin 8192) : ℝ := A.c ⟨2816 + j.val, by omega⟩ i

/-- The gated activation. -/
def a (j : Fin 2816) (i : Fin 8192) : ℝ := 1 / 2 * A.c0 j i * (1 + Real.tanh (kR * (A.c0 j i + aR * (A.c0 j i * A.c0 j i * A.c0 j i)))) * A.c1 j i

/-- The down projection. -/
def f (i : Fin 8192) (q : Fin 1024) : ℝ := ∑ j : Fin 2816, A.a j i * A.WD j q

/-- Output minus target. -/
def d (i : Fin 8192) (q : Fin 1024) : ℝ := A.X i q + A.GT q * A.GQ q * (A.f i q * rr (A.f i)) - A.T i q

end RArgs

section Coe

variable {A : RArgs} {x tg : Vec Ideal S8192x1024 .f32} {gpre sc sh gpost gt : Vec Ideal S1x1024 .f32} {wu : Vec Ideal S1024x5632 .f32}
  {cw : Vec Ideal S3x5632 .f32} {cb : Vec Ideal S1x5632 .f32} {wd : Vec Ideal S2816x1024 .f32}
variable (H : A.Is x tg gpre sc sh gpost gt wu cw cb wd)

/-- The root mean square of a row of reals. -/
theorem RMS_coe (y : Fin 8192 → Fin 1024 → EReal) (z : Fin 8192 → Fin 1024 → ℝ) (i : Fin 8192) (h : ∀ k, y i k = ((z i k : ℝ) : EReal)) :
    RMS y i = ((rr (z i) : ℝ) : EReal) := by
  unfold RMS
  simp only [h]
  rw [ms_coe, rr_coe]

include H

theorem HH_coe (i : Fin 8192) (q : Fin 1024) : HH x gpre sc sh i q = ((A.h i q : ℝ) : EReal) := by
  unfold HH
  rw [RMS_coe _ A.X i fun k => H.x i k, H.x, H.gpre, H.sc, H.sh]
  simp only [← EReal.coe_one, ← EReal.coe_add, ← EReal.coe_mul]
  rfl

theorem UP_coe (j : Fin 5632) (i : Fin 8192) : UP x gpre sc sh wu j i = ((A.u j i : ℝ) : EReal) := by
  unfold UP
  simp only [HH_coe H, H.wu, ← EReal.coe_mul, sum_coe]
  rfl

theorem UPC_coe (j : Fin 5632) (i : Fin 8192) : UPC x gpre sc sh wu cw cb j i = ((A.c j i : ℝ) : EReal) := by
  unfold UPC
  rw [show UP x gpre sc sh wu j = fun i => ((A.u j i : ℝ) : EReal) from funext fun i => UP_coe H j i]
  simp only [S1_coe, S2_coe, H.cw, H.cb, ← EReal.coe_add, ← EReal.coe_mul]
  rfl

theorem AC_coe (j : Fin 2816) (i : Fin 8192) : AC x gpre sc sh wu cw cb j i = ((A.a j i : ℝ) : EReal) := by
  unfold AC act th
  simp only [UPC_coe H, c_ka, c_k, c_half, ← EReal.coe_one, ← EReal.coe_add, ← EReal.coe_mul, Ideal.tanh_coe]
  refine congrArg _ ?_
  unfold RArgs.a RArgs.c0 RArgs.c1
  ring_nf

theorem FF_coe (i : Fin 8192) (q : Fin 1024) : FF x gpre sc sh wu cw cb wd i q = ((A.f i q : ℝ) : EReal) := by
  unfold FF
  simp only [AC_coe H, H.wd, ← EReal.coe_mul, sum_coe, zero_add, ← EReal.coe_add]
  exact congrArg _ (Fin.sum_univ_add (a := 1024) (b := 1792) (fun j : Fin 2816 => A.a j i * A.WD j q)).symm

theorem RF_coe (i : Fin 8192) : RMS (FF x gpre sc sh wu cw cb wd) i = ((rr (A.f i) : ℝ) : EReal) := RMS_coe _ A.f i fun k => FF_coe H i k

theorem NN_coe (i : Fin 8192) (q : Fin 1024) : NN x gpre sc sh wu cw cb wd i q = ((A.f i q * rr (A.f i) : ℝ) : EReal) := by
  unfold NN
  rw [FF_coe H, RF_coe H, EReal.coe_mul]

theorem DF_coe (i : Fin 8192) (q : Fin 1024) : DF x tg gpre sc sh gpost gt wu cw cb wd i q = ((A.d i q : ℝ) : EReal) := by
  unfold DF
  simp only [NN_coe H, H.x, H.gt, H.gpost, H.tg, ← EReal.coe_add, ← EReal.coe_mul, ← EReal.coe_sub]
  rfl

theorem DFF_coe (i : Fin 8192) (q : Fin 1024) : DFF x tg gpre sc sh gpost gt wu cw cb wd i q
    = ((rr (A.f i) * (A.d i q * (A.GT q * A.GQ q * (1 / 1024)) - A.f i q * rr (A.f i)
        * ((∑ k : Fin 1024, A.d i k * (A.GT k * A.GQ k * (1 / 1024)) * (A.f i k * rr (A.f i))) / 1024)) : ℝ) : EReal) := by
  unfold DFF
  simp only [NN_coe H, RF_coe H, DF_coe H, H.gt, H.gpost, c_inv, c_1024, ← EReal.coe_add, ← EReal.coe_mul, ← EReal.coe_sub, sum_coe,
    div_coe _ _ (by norm_num : (1024 : ℝ) ≠ 0)]

end Coe

end Cert.Kernel2Ideal.Ffn
-- ==== Proof.Ffn.Ref.lean ====
/- The reference over real arguments, its values read at an index. -/
module

public import proofs.«01_k».proof.Proof.Ffn.Coe
public import proofs.«01_k».proof.Proof.Gen.Reference2Ideal.Read

@[expose] public section

set_option maxRecDepth 16384

noncomputable section

namespace Cert.Reference2Ideal.Ffn

open Idealize.ShloMosaic Idealize.ShloMosaic.TcCoe Cert.Reference2Ideal Cert.Reference2Ideal.Read Cert.Kernel2Ideal.Ffn Cert.Re

/-- The gradient of the down projection. -/
def _root_.Cert.Kernel2Ideal.Ffn.RArgs.df (A : RArgs) (i : Fin 8192) (q : Fin 1024) : ℝ :=
  rr (A.f i) * (A.d i q * (A.GT q * A.GQ q * (1 / 1024)) - A.f i q * rr (A.f i)
    * ((∑ k : Fin 1024, A.d i k * (A.GT k * A.GQ k * (1 / 1024)) * (A.f i k * rr (A.f i))) / 1024))

/-- The gradient of the gate. -/
def _root_.Cert.Kernel2Ideal.Ffn.RArgs.gq (A : RArgs) (q : Fin 1024) : ℝ := ∑ i : Fin 8192, A.d i q * (A.f i q * rr (A.f i)) * (A.GQ q * (1 / 1024))

/-- The gradient of the second norm's gain. -/
def _root_.Cert.Kernel2Ideal.Ffn.RArgs.gt (A : RArgs) (q : Fin 1024) : ℝ := ∑ i : Fin 8192, A.d i q * (A.f i q * rr (A.f i)) * (A.GT q * (1 / 1024))

/-- The loss. -/
def _root_.Cert.Kernel2Ideal.Ffn.RArgs.loss (A : RArgs) : ℝ := 1 / 2048 * ∑ i : Fin 8192, ∑ q : Fin 1024, A.d i q * A.d i q

variable {A : RArgs} {x0 x1 : Vec Ideal S8192x1024 .f32} {x2 x3 x4 x5 x6 : Vec Ideal S1x1024 .f32} {x7 : Vec Ideal S1024x5632 .f32}
  {x8 : Vec Ideal S3x5632 .f32} {x9 : Vec Ideal S1x5632 .f32} {x10 : Vec Ideal S2816x1024 .f32}
variable (H : A.Is x0 x1 x2 x3 x4 x5 x6 x7 x8 x9 x10)
include H

omit H in
theorem late2 (U : Fin 8192 → ℝ) (i : Fin 8192) (p : ∀ h : ¬ i.val < 2, i.val - 2 < 8192) :
    (if h : i.val < 2 then (0 : EReal) else ((U ⟨i.val - 2, p h⟩ : ℝ) : EReal)) = ((r2 U i : ℝ) : EReal) := by
  unfold r2
  split <;> rfl

omit H in
theorem late1 (U : Fin 8192 → ℝ) (i : Fin 8192) (p : ∀ h : ¬ 1 + i.val < 2, 1 + i.val - 2 < 8192) :
    (if h : 1 + i.val < 2 then (0 : EReal) else ((U ⟨1 + i.val - 2, p h⟩ : ℝ) : EReal)) = ((r1 U i : ℝ) : EReal) := by
  unfold r1
  by_cases h : i.val < 1
  · rw [dif_pos (by omega), dif_pos h]; rfl
  · rw [dif_neg (by omega), dif_neg h]
    exact congrArg _ (congrArg U (Fin.ext (by simp only []; omega)))

theorem v6_at (i : Fin 8192) : val_main_v6 (F := Ideal) x0 (ix2 i 0) = ((ms (A.X i) : ℝ) : EReal) := by
  pointwise [val_main_v6, val_main_v5, val_main_cst_1, val_main_v4, val_main_v3, val_main_cst_0, val_main_v2, val_main_v1, val_main_cst, val_main_v0]
  simp only [H.x]
  exact ms_coe (A.X i)

theorem v17_at (i : Fin 8192) (q : Fin 1024) : val_main_v17 (F := Ideal) x0 x2 x3 x4 (ix2 i q) = ((A.h i q : ℝ) : EReal) := by
  pointwise [val_main_v17, val_main_v16, val_main_v15, val_main_v14, val_main_v13, val_main_v12, val_main_cst_2, val_main_v11, val_main_v10, val_main_v9, val_main_v8, val_main_v7]
  simp only [v6_at H, H.x, H.gpre, H.sc, H.sh, rr_coe, ← EReal.coe_one, ← EReal.coe_add, ← EReal.coe_mul]
  exact congrArg _ (by unfold RArgs.h; ring)

theorem v18_at (i : Fin 8192) (j : Fin 5632) : val_main_v18 (F := Ideal) x0 x2 x3 x4 x7 (ix2 i j) = ((A.u j i : ℝ) : EReal) := by
  pointwise [val_main_v18]
  simp only [v17_at H, H.wu, ← EReal.coe_mul, sum_coe]
  rfl

theorem v42_at (i : Fin 8192) (j : Fin 5632) : val_main_v42 (F := Ideal) x0 x2 x3 x4 x7 x8 x9 (ix2 i j) = ((A.c j i : ℝ) : EReal) := by
  pointwise [val_main_v42, val_main_v41, val_main_v38, val_main_v20, val_main_v19, val_main_cst_3, val_main_v40, val_main_v39, val_main_v37, val_main_v36, val_main_v35, val_main_v34, val_main_v31, val_main_v33, val_main_v32, val_main_v30, val_main_v29, val_main_v28, val_main_v26, val_main_v23, val_main_v25, val_main_v24, val_main_v22, val_main_v21, val_main_v27]
  simp only [v18_at H, H.cw, H.cb]
  rw [late2, late1]
  simp only [← EReal.coe_add, ← EReal.coe_mul]
  exact congrArg _ (by unfold RArgs.c; ring)

theorem v58_at (i : Fin 8192) (j : Fin 2816) : val_main_v58 (F := Ideal) x0 x2 x3 x4 x7 x8 x9 (ix2 i j) = ((A.a j i : ℝ) : EReal) := by
  pointwise [val_main_v58, val_main_v44, val_main_v57, val_main_v56, val_main_v54, val_main_v52, val_main_v51, val_main_v49, val_main_v48, val_main_v46, val_main_v43, val_main_v45, val_main_v47, val_main_cst_4, val_main_v50, val_main_cst_5, val_main_v53, val_main_cst_6, val_main_v55, val_main_cst_7]
  simp only [v42_at H, c_a, c_k, c_half, ← EReal.coe_one, ← EReal.coe_add, ← EReal.coe_mul, Ideal.tanh_coe]
  refine congrArg _ ?_
  unfold RArgs.a RArgs.c0 RArgs.c1
  ring_nf

theorem v59_at (i : Fin 8192) (q : Fin 1024) : val_main_v59 (F := Ideal) x0 x2 x3 x4 x7 x8 x9 x10 (ix2 i q) = ((A.f i q : ℝ) : EReal) := by
  pointwise [val_main_v59]
  simp only [v58_at H, H.wd, ← EReal.coe_mul, sum_coe]
  rfl

theorem v66_at (i : Fin 8192) : val_main_v66 (F := Ideal) x0 x2 x3 x4 x7 x8 x9 x10 (ix2 i 0) = ((ms (A.f i) : ℝ) : EReal) := by
  pointwise [val_main_v66, val_main_v65, val_main_cst_10, val_main_v64, val_main_v63, val_main_cst_9, val_main_v62, val_main_v61, val_main_cst_8, val_main_v60]
  simp only [v59_at H]
  exact ms_coe (A.f i)

theorem v72_at (i : Fin 8192) (q : Fin 1024) : val_main_v72 (F := Ideal) x0 x2 x3 x4 x7 x8 x9 x10 (ix2 i q) = ((A.f i q * rr (A.f i) : ℝ) : EReal) := by
  pointwise [val_main_v72, val_main_v71, val_main_v67]
  simp only [v59_at H, v66_at H, rr_coe, ← EReal.coe_mul]

theorem v78_at (i : Fin 8192) (q : Fin 1024) : val_main_v78 (F := Ideal) x0 x1 x2 x3 x4 x5 x6 x7 x8 x9 x10 (ix2 i q) = ((A.d i q : ℝ) : EReal) := by
  pointwise [val_main_v78, val_main_v77, val_main_v76, val_main_v74, val_main_v73, val_main_v75]
  simp only [v72_at H, H.x, H.gpost, H.gt, H.tg, ← EReal.coe_add, ← EReal.coe_mul, ← EReal.coe_sub]
  exact congrArg _ (by unfold RArgs.d; ring)

theorem v92_at (i : Fin 8192) (q : Fin 1024) : val_main_v92 (F := Ideal) x0 x1 x2 x3 x4 x5 x6 x7 x8 x9 x10 (ix2 i q) = ((A.d i q * (1 / 1024) : ℝ) : EReal) := by
  pointwise [val_main_v92, val_main_v81, val_main_v80, val_main_cst_12, val_main_v91, val_main_v90, val_main_v89, val_main_cst_19, val_main_v88, val_main_v87, val_main_cst_18, val_main_cst_17]
  simp only [v78_at H, c_half, c_two, c_1024, ← EReal.coe_one, ← EReal.coe_mul, div_coe _ _ (by norm_num : (1024 : ℝ) ≠ 0)]
  exact congrArg _ (by ring)

theorem v116_at (i : Fin 8192) (q : Fin 1024) : val_main_v116 (F := Ideal) x0 x1 x2 x3 x4 x5 x6 x7 x8 x9 x10 (ix2 i q) = ((A.df i q : ℝ) : EReal) := by
  pointwise [val_main_v116, val_main_v115, val_main_v112, val_main_v111, val_main_cst_24, val_main_v110, val_main_v109, val_main_cst_23, val_main_v108, val_main_v70, val_main_v68, val_main_v67, val_main_v69, val_main_cst_11, val_main_v105, val_main_v104, val_main_cst_22, val_main_v103, val_main_v102, val_main_v101, val_main_v94, val_main_v93, val_main_v114, val_main_v113, val_main_v107, val_main_v106]
  simp only [Fin.sum_univ_one, v59_at H, v66_at H, v72_at H, v78_at H, v92_at H, H.gpost, H.gt, c_half, c_neg_half, c_1024, rr_coe, div_ms_coe, zero_add, ← EReal.coe_add, ← EReal.coe_mul, sum_coe,
    div_coe _ _ (by norm_num : (1024 : ℝ) ≠ 0)]
  refine congrArg _ ((norm_bwd (A.f i) (fun k => A.GT k * (A.d i k * (1 / 1024)) * A.GQ k) q).symm.trans ?_)
  unfold RArgs.df
  have e : ∀ k, A.GT k * (A.d i k * (1 / 1024)) * A.GQ k = A.d i k * (A.GT k * A.GQ k * (1 / 1024)) := fun k => by ring
  simp only [e]

theorem v118_at (r : Fin 8) (q : Fin 1024) : val_main_v118 (F := Ideal) x0 x1 x2 x3 x4 x5 x6 x7 x8 x9 x10 (ix2 r q) = if r.val = 0 then ((A.gq q : ℝ) : EReal) else if r.val = 1 then ((A.gt q : ℝ) : EReal) else 0 := by
  pointwise [val_main_v118, val_main_v117, val_main_cst_25, val_main_v100, val_main_v99, val_main_cst_21, val_main_v98, val_main_v94, val_main_v93, val_main_v97, val_main_v96, val_main_cst_20, val_main_v95, val_main_v74, val_main_v73]
  simp only [Fin.sum_univ_one, v59_at H, v66_at H, v72_at H, v78_at H, v92_at H, H.gpost, H.gt, c_half, c_neg_half, c_1024, rr_coe, div_ms_coe, zero_add, ← EReal.coe_add, ← EReal.coe_mul, sum_coe,
    div_coe _ _ (by norm_num : (1024 : ℝ) ≠ 0)]
  unfold RArgs.gq RArgs.gt
  by_cases h0 : r.val = 0
  · rw [dif_pos (by omega), if_pos h0]
    exact congrArg _ (Finset.sum_congr rfl fun i _ => by ring)
  rw [dif_neg (by omega), if_neg h0]
  by_cases h1 : r.val = 1
  · rw [dif_pos (by omega), if_pos h1]
    exact congrArg _ (Finset.sum_congr rfl fun i _ => by ring)
  rw [dif_neg (by omega), if_neg h1]

theorem v119_at (r : Fin 8) (q : Fin 128) : val_main_v119 (F := Ideal) x0 x1 x2 x3 x4 x5 x6 x7 x8 x9 x10 (ix2 r q) = ((A.loss : ℝ) : EReal) := by
  pointwise [val_main_v119, val_main_v86, val_main_v85, val_main_cst_15, val_main_v84, val_main_v83, val_main_cst_14, val_main_v82, val_main_cst_13, val_main_v79, val_main_cst_16]
  simp only [Fin.sum_univ_one, v59_at H, v66_at H, v72_at H, v78_at H, v92_at H, H.gpost, H.gt, c_half, c_neg_half, c_1024, rr_coe, div_ms_coe, zero_add, ← EReal.coe_add, ← EReal.coe_mul, sum_coe,
    div_coe _ _ (by norm_num : (1024 : ℝ) ≠ 0)]
  refine congrArg _ ?_
  unfold RArgs.loss
  rw [Finset.mul_sum, Finset.mul_sum]
  exact Finset.sum_congr rfl fun i _ => by ring

end Cert.Reference2Ideal.Ffn
-- ==== Proof.Ffn.Claim.lean ====
/- The gated network and the loss: the value claim. -/
module

public import proofs.«01_k».proof.Proof.Ffn.Tail
public import proofs.«01_k».proof.Proof.Ffn.Ref
public import proofs.«01_k».proof.Proof.Gen.Reference2Ideal.Run
public import proofs.«01_k».proof.Proof.Gen.Pre_finite2
public import proofs.«01_k».proof.Defs

@[expose] public section

set_option maxRecDepth 16384

noncomputable section

namespace Cert.Kernel2Ideal.Ffn

open Idealize.ShloMosaic Idealize.ShloMosaic.TcCoe Idealize.SL.Sem Cert.Kernel2Ideal Cert.Kernel2Ideal.Gen Cert.Reference2Ideal.Ffn Cert.Re
open Cert.Reference2Ideal.Read

variable (m : (ℓ : Loc nD τ sig) → Buf (Elt Ideal) ℓ)

/-- The precondition says that the arguments are arrays of reals. -/
theorem reals (h : Cert.Pre_Kernel2Ideal_finite2 (hPre_finite2 := Cert.Pre_finite2.Gen.facts) m) (c : Dev nD) :
    ∃ A : RArgs, A.Is (aX m c) (aT m c) (aGpre m c) (aSc m c) (aSh m c) (aGpost m c) (aGt m c) (aWu m c) (aCw m c) (aCb m c) (aWd m c) := by
  obtain ⟨h0, h1, h2, h3, h4, h5, h6, h7, h8, h9, h10⟩ := h c
  obtain ⟨f0, e0⟩ := reals_of_finite _ _ (fun _ => rfl) h0
  obtain ⟨f1, e1⟩ := reals_of_finite _ _ (fun _ => rfl) h1
  obtain ⟨f2, e2⟩ := reals_of_finite _ _ (fun _ => rfl) h2
  obtain ⟨f3, e3⟩ := reals_of_finite _ _ (fun _ => rfl) h3
  obtain ⟨f4, e4⟩ := reals_of_finite _ _ (fun _ => rfl) h4
  obtain ⟨f5, e5⟩ := reals_of_finite _ _ (fun _ => rfl) h5
  obtain ⟨f6, e6⟩ := reals_of_finite _ _ (fun _ => rfl) h6
  obtain ⟨f7, e7⟩ := reals_of_finite _ _ (fun _ => rfl) h7
  obtain ⟨f8, e8⟩ := reals_of_finite _ _ (fun _ => rfl) h8
  obtain ⟨f9, e9⟩ := reals_of_finite _ _ (fun _ => rfl) h9
  obtain ⟨f10, e10⟩ := reals_of_finite _ _ (fun _ => rfl) h10
  exact ⟨⟨fun i k => f0 (ix2 i k), fun i k => f1 (ix2 i k), fun k => f2 (ix2 0 k), fun k => f3 (ix2 0 k), fun k => f4 (ix2 0 k), fun k => f5 (ix2 0 k), fun k => f6 (ix2 0 k), fun i k => f7 (ix2 i k), fun i k => f8 (ix2 i k), fun k => f9 (ix2 0 k), fun i k => f10 (ix2 i k)⟩,
    ⟨fun _ _ => congrFun e0 _, fun _ _ => congrFun e1 _, fun _ => congrFun e2 _, fun _ => congrFun e3 _, fun _ => congrFun e4 _, fun _ => congrFun e5 _, fun _ => congrFun e6 _, fun _ _ => congrFun e7 _, fun _ _ => congrFun e8 _, fun _ => congrFun e9 _, fun _ _ => congrFun e10 _⟩⟩

variable {m} {c : Dev nD} {A : RArgs} (H : A.Is (aX m c) (aT m c) (aGpre m c) (aSc m c) (aSh m c) (aGpost m c) (aGt m c) (aWu m c) (aCw m c) (aCb m c) (aWd m c))
include H

theorem vo_sum (r : Fin 8) (q : Fin 1024) :
    ∑ t : Fin cfg0.N, vo (iblk m c 0 t) (iblk m c 1 t) (iblk m c 2 t) (iblk m c 3 t) (V m c main_v9) (V m c main_v10) (Cin m c t) r q
      = if r.val = 0 then ((A.gq q : ℝ) : EReal) else if r.val = 1 then ((A.gt q : ℝ) : EReal) else 0 := by
  have tile (f : Fin 8192 → ℝ) : ∑ t : Fin cfg0.N, ∑ p : Fin 256, f (at_ t p) = ∑ i, f i :=
    Fin.sum_mul_add_congr (fun t p hl => rfl) (by decide +kernel)
  have e (t : Fin cfg0.N) : cs (iblk m c 0 t) (iblk m c 1 t) (iblk m c 2 t) (iblk m c 3 t) (V m c main_v9) (V m c main_v10) (Cin m c t) q
      = ((∑ p : Fin 256, A.d (at_ t p) q * (A.f (at_ t p) q * rr (A.f (at_ t p))) : ℝ) : EReal) := by
    rw [cs_eq]
    simp only [DF_coe H, NN_coe H, ← EReal.coe_mul, sum_coe]
  unfold vo RArgs.gq RArgs.gt
  split_ifs
  · refine (Finset.sum_congr rfl fun t _ => by
      rw [e, blk_Gpost, H.gpost, c_inv, ← EReal.coe_mul, ← EReal.coe_mul]).trans ?_
    rw [sum_coe, ← Finset.sum_mul, tile fun i => A.d i q * (A.f i q * rr (A.f i)), Finset.sum_mul]
  · refine (Finset.sum_congr rfl fun t _ => by
      rw [e, blk_Gt, H.gt, c_inv, ← EReal.coe_mul, ← EReal.coe_mul]).trans ?_
    rw [sum_coe, ← Finset.sum_mul, tile fun i => A.d i q * (A.f i q * rr (A.f i)), Finset.sum_mul]
  · simp

theorem ls_sum : ∑ t : Fin cfg0.N, ls (iblk m c 0 t) (iblk m c 1 t) (iblk m c 2 t) (iblk m c 3 t) (V m c main_v9) (V m c main_v10) (Cin m c t)
      = ((A.loss : ℝ) : EReal) := by
  have tile (f : Fin 8192 → ℝ) : ∑ t : Fin cfg0.N, ∑ p : Fin 256, f (at_ t p) = ∑ i, f i :=
    Fin.sum_mul_add_congr (fun t p hl => rfl) (by decide +kernel)
  unfold RArgs.loss
  refine (Finset.sum_congr rfl fun t _ => ls_eq m c t).trans ?_
  simp only [DF_coe H, c_hinv, ← EReal.coe_mul, sum_coe]
  rw [← Finset.mul_sum, tile fun i => ∑ q : Fin 1024, A.d i q * A.d i q]

omit H in
variable (m c) in
/-- For real arguments the arrays the kernel leaves are the reference's. -/
theorem values (h : Cert.Pre_Kernel2Ideal_finite2 (hPre_finite2 := Cert.Pre_finite2.Gen.facts) m) :
    ((fun y => UP (aX m c) (aGpre m c) (aSc m c) (aSh m c) (aWu m c) (y 1) (y 0) : Vec Ideal S8192x5632 .f32) = val_main_v18 (F := Ideal) (aX m c) (aGpre m c) (aSc m c) (aSh m c) (aWu m c)) ∧
    ((fun y => UPC (aX m c) (aGpre m c) (aSc m c) (aSh m c) (aWu m c) (aCw m c) (aCb m c) (y 1) (y 0) : Vec Ideal S8192x5632 .f32) = val_main_v42 (F := Ideal) (aX m c) (aGpre m c) (aSc m c) (aSh m c) (aWu m c) (aCw m c) (aCb m c)) ∧
    ((fun y => AC (aX m c) (aGpre m c) (aSc m c) (aSh m c) (aWu m c) (aCw m c) (aCb m c) (y 1) (y 0) : Vec Ideal S8192x2816 .f32) = val_main_v58 (F := Ideal) (aX m c) (aGpre m c) (aSc m c) (aSh m c) (aWu m c) (aCw m c) (aCb m c)) ∧
    ((fun y => HH (aX m c) (aGpre m c) (aSc m c) (aSh m c) (y 0) (y 1) : Vec Ideal S8192x1024 .f32) = val_main_v17 (F := Ideal) (aX m c) (aGpre m c) (aSc m c) (aSh m c)) ∧
    ((fun y => DF (aX m c) (aT m c) (aGpre m c) (aSc m c) (aSh m c) (aGpost m c) (aGt m c) (aWu m c) (aCw m c) (aCb m c) (aWd m c) (y 0) (y 1) * Ideal.ofBits .f32 0x3A800000#32 : Vec Ideal S8192x1024 .f32) = val_main_v92 (F := Ideal) (aX m c) (aT m c) (aGpre m c) (aSc m c) (aSh m c) (aGpost m c) (aGt m c) (aWu m c) (aCw m c) (aCb m c) (aWd m c)) ∧
    ((fun y => DFF (aX m c) (aT m c) (aGpre m c) (aSc m c) (aSh m c) (aGpost m c) (aGt m c) (aWu m c) (aCw m c) (aCb m c) (aWd m c) (y 0) (y 1) : Vec Ideal S8192x1024 .f32) = val_main_v116 (F := Ideal) (aX m c) (aT m c) (aGpre m c) (aSc m c) (aSh m c) (aGpost m c) (aGt m c) (aWu m c) (aCw m c) (aCb m c) (aWd m c)) ∧
    ((dats m 0 c).arrAt 10 cfg0.N = val_main_v118 (F := Ideal) (aX m c) (aT m c) (aGpre m c) (aSc m c) (aSh m c) (aGpost m c) (aGt m c) (aWu m c) (aCw m c) (aCb m c) (aWd m c)) ∧
    ((dats m 0 c).arrAt 11 cfg0.N = val_main_v119 (F := Ideal) (aX m c) (aT m c) (aGpre m c) (aSc m c) (aSh m c) (aGpost m c) (aGt m c) (aWu m c) (aCw m c) (aCb m c) (aWd m c)) := by
  obtain ⟨A, H⟩ := reals m h c
  refine ⟨?_, ?_, ?_, ?_, ?_, ?_, ?_, ?_⟩
  · funext y
    obtain ⟨i, k, rfl⟩ : ∃ (i : Fin 8192) (k : Fin 5632), y = ix2 i k := ⟨_, _, eq_ix2 y⟩
    rw [v18_at H i k]
    exact UP_coe H k i
  · funext y
    obtain ⟨i, k, rfl⟩ : ∃ (i : Fin 8192) (k : Fin 5632), y = ix2 i k := ⟨_, _, eq_ix2 y⟩
    rw [v42_at H i k]
    exact UPC_coe H k i
  · funext y
    obtain ⟨i, k, rfl⟩ : ∃ (i : Fin 8192) (k : Fin 2816), y = ix2 i k := ⟨_, _, eq_ix2 y⟩
    rw [v58_at H i k]
    exact AC_coe H k i
  · funext y
    obtain ⟨i, k, rfl⟩ : ∃ (i : Fin 8192) (k : Fin 1024), y = ix2 i k := ⟨_, _, eq_ix2 y⟩
    rw [v17_at H i k]
    exact HH_coe H i k
  · funext y
    obtain ⟨i, k, rfl⟩ : ∃ (i : Fin 8192) (k : Fin 1024), y = ix2 i k := ⟨_, _, eq_ix2 y⟩
    rw [v92_at H i k]
    refine (congrArg (· * _) (DF_coe H i k)).trans ?_
    rw [c_inv, ← EReal.coe_mul]
  · funext y
    obtain ⟨i, k, rfl⟩ : ∃ (i : Fin 8192) (k : Fin 1024), y = ix2 i k := ⟨_, _, eq_ix2 y⟩
    rw [v116_at H i k]
    exact DFF_coe H i k
  · rw [vo_final]
    funext y
    obtain ⟨r, k, rfl⟩ : ∃ (r : Fin 8) (k : Fin 1024), y = ix2 r k := ⟨_, _, eq_ix2 y⟩
    rw [v118_at H r k]
    exact vo_sum H r k
  · rw [ls_final]
    funext y
    obtain ⟨r, k, rfl⟩ : ∃ (r : Fin 8) (k : Fin 128), y = ix2 r k := ⟨_, _, eq_ix2 y⟩
    rw [v119_at H r k]
    exact ls_sum H

omit H in
/-- The kernel and the reference leave the same eight arrays for finite arguments. -/
theorem claim : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m ρ m' ρ' hpre hargs
  refine ⟨fun c => val_main_v18 (F := Ideal) (aX m c) (aGpre m c) (aSc m c) (aSh m c) (aWu m c),
    fun c => val_main_v42 (F := Ideal) (aX m c) (aGpre m c) (aSc m c) (aSh m c) (aWu m c) (aCw m c) (aCb m c),
    fun c => val_main_v58 (F := Ideal) (aX m c) (aGpre m c) (aSc m c) (aSh m c) (aWu m c) (aCw m c) (aCb m c),
    fun c => val_main_v17 (F := Ideal) (aX m c) (aGpre m c) (aSc m c) (aSh m c),
    fun c => val_main_v92 (F := Ideal) (aX m c) (aT m c) (aGpre m c) (aSc m c) (aSh m c) (aGpost m c) (aGt m c) (aWu m c) (aCw m c) (aCb m c) (aWd m c),
    fun c => val_main_v116 (F := Ideal) (aX m c) (aT m c) (aGpre m c) (aSc m c) (aSh m c) (aGpost m c) (aGt m c) (aWu m c) (aCw m c) (aCb m c) (aWd m c),
    fun c => val_main_v118 (F := Ideal) (aX m c) (aT m c) (aGpre m c) (aSc m c) (aSh m c) (aGpost m c) (aGt m c) (aWu m c) (aCw m c) (aCb m c) (aWd m c),
    fun c => val_main_v119 (F := Ideal) (aX m c) (aT m c) (aGpre m c) (aSc m c) (aSh m c) (aGpost m c) (aGt m c) (aWu m c) (aCw m c) (aCb m c) (aWd m c),
    (θ_run _ _ _).mono (fun r h c => ?_) (θ_run_and (run_arrays m ρ) (unchanged m ρ)),
    (θ_run _ _ _).mono (fun r h c => ?_) (Cert.Reference2Ideal.Value.run m' ρ')⟩
  · obtain ⟨h0, h1, h2, h3, h4, h5, h6, h7⟩ := h.1 c
    obtain ⟨e0, e1, e2, e3, e4, e5, e6, e7⟩ := values m c hpre
    exact ⟨h0.trans e0, h1.trans e1, h2.trans e2, h3.trans e3, h4.trans e4, h5.trans e5, h6.trans e6, h7.trans e7, h.2 c⟩
  obtain ⟨h0, h1, h2, h3, h4, h5, h6, h7, hk⟩ := h c
  obtain ⟨a0, a1, a2, a3, a4, a5, a6, a7, a8, a9, a10⟩ := hargs c
  refine ⟨h0.trans ?_, h1.trans ?_, h2.trans ?_, h3.trans ?_, h4.trans ?_, h5.trans ?_, h6.trans ?_, h7.trans ?_, hk⟩ <;> clear h h0 h1 h2 h3 h4 h5 h6 h7 hk
  · refine (val_main_v18_eq _).trans ?_
    simp only [← a0, ← a2, ← a3, ← a4, ← a7]
  · refine (val_main_v42_eq _).trans ?_
    simp only [← a0, ← a2, ← a3, ← a4, ← a7, ← a8, ← a9]
  · refine (val_main_v58_eq _).trans ?_
    simp only [← a0, ← a2, ← a3, ← a4, ← a7, ← a8, ← a9]
  · refine (val_main_v17_eq _).trans ?_
    simp only [← a0, ← a2, ← a3, ← a4]
  · refine (val_main_v92_eq _).trans ?_
    simp only [← a0, ← a1, ← a2, ← a3, ← a4, ← a5, ← a6, ← a7, ← a8, ← a9, ← a10]
  · refine (val_main_v116_eq _).trans ?_
    simp only [← a0, ← a1, ← a2, ← a3, ← a4, ← a5, ← a6, ← a7, ← a8, ← a9, ← a10]
  · refine (val_main_v118_eq _).trans ?_
    simp only [← a0, ← a1, ← a2, ← a3, ← a4, ← a5, ← a6, ← a7, ← a8, ← a9, ← a10]
  · refine (val_main_v119_eq _).trans ?_
    simp only [← a0, ← a1, ← a2, ← a3, ← a4, ← a5, ← a6, ← a7, ← a8, ← a9, ← a10]

omit H in
/-- The reference runs, leaves its arguments unchanged and declares no semaphore. -/
theorem ref_frame : Cert.quiescent_Reference2Ideal (hReference2Ideal := Cert.Reference2Ideal.Gen.facts) := fun m ρ _ =>
  (θ_run Cert.Reference2Ideal.defs _ _).mono (fun r h => ⟨fun c => (h c).2.2.2.2.2.2.2.2, sem_eq_zero_of_no_sems (by decide) r.2⟩)
    (Cert.Reference2Ideal.Value.run (F := Ideal) m ρ)

end Cert.Kernel2Ideal.Ffn
-- ==== Proof.Bffn.Run.lean ====
/- The body of the backward feed-forward kernel, run once at a point of its grid: at the first point, where it copies the
   two weights into its own buffers and clears what it adds to, and at any later one. -/
module

public import proofs.«01_k».proof.Proof.Gen.Kernel3Ideal.Skeleton
public import proofs.«01_k».proof.Proof.Gen.Kernel3Ideal.Frame

@[expose] public section

set_option maxRecDepth 16384

noncomputable section

namespace Cert.Kernel3Ideal.Bffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- What the body reads at a point: a block of each input. -/
structure Ins (F : FTy → Type) where
  dff : Vec F S256x1024 .bf16
  dx2 : Vec F S256x1024 .f32
  x1 : Vec F S256x1024 .f32
  up : Vec F S256x5632 .bf16
  conv : Vec F S256x5632 .bf16
  vd : Vec F S16x1024 .f32
  vf : Vec F S8x5632 .f32

/-- What the body finds from the point before and leaves to the next: the two blocks it adds to, the two weights in its own
    buffers and the late rows. -/
structure Kept (F : FTy → Type) where
  vo : Vec F S8x1024 .f32
  fo : Vec F S8x5632 .f32
  wu : Vec F S1024x5632 .bf16
  wd : Vec F S2816x1024 .bf16
  ca : Vec F S3x8x5632 .f32

/-- What the body writes at a point, buffer by buffer, as the list of its stores. -/
structure Stores (F : FTy → Type) where
  dx : List (View.Piece (Elt F) S256x1024 .f32)
  dup : List (View.Piece (Elt F) S256x5632 .bf16)
  vo : List (View.Piece (Elt F) S8x1024 .f32)
  fo : List (View.Piece (Elt F) S8x5632 .f32)
  wu : List (View.Piece (Elt F) S1024x5632 .bf16)
  wd : List (View.Piece (Elt F) S2816x1024 .bf16)
  ca : List (View.Piece (Elt F) S3x8x5632 .f32)

/-- The body's first point, as the program tests it. -/
abbrev First (i : grid0.Coords) : Prop :=
  (Scalar.cmpi .ne (Scalar.extui (Scalar.cmpi .eq (BitVec.ofNat 32 (i 0).val) 0#32)) 0#32) = 1#1

theorem first_iff : ∀ t : Fin grid0.N, First (grid0.coords t) ↔ t.val = 0 := fun t => by
  have ht : t.val < 32 := Nat.lt_of_lt_of_eq t.isLt N_0
  have e0 : (grid0.coords t 0).val = t.val / 1 % 32 := Pipeline.Grid.coords_val t 0 (by decide) rfl
  have : t.val % 32 = t.val := Nat.mod_eq_of_lt ht
  rw [← this]
  simp only [First, e0]
  word_cmp

/-- The weights where the kernel copies them from. -/
abbrev wuM : Memref sig .tc .hbm S1024x5632 .bf16 := Memref.whole main_v67
abbrev wdM : Memref sig .tc .hbm S2816x1024 .bf16 := Memref.whole main_v68

/-- A buffer's contents on a core, and the buffer held whole at them. -/
abbrev At (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e) (f : At (F := F) c M) : sProp 𝕄 :=
  M.view.loc (c : Thread nD τ) ↦{fullShare} f

/-- The kernel's two copy semaphores at zero. -/
abbrev still (c : Dev nD) : sProp 𝕄 :=
  iprop(semVal ((c : Thread nD τ), SemLoc.dma 18) 0 ∗ semVal ((c : Thread nD τ), SemLoc.dma 19) 0)

/-- A buffer after a list of stores into unknown contents. -/
abbrev over (c : Dev nD) {S : Shape} {e : EltTy} (M : Memref sig .tc .vmem S e) (L : List (View.Piece (Elt F) S e)) : sProp 𝕄 :=
  iprop(∃ f, M.view.loc (c : Thread nD τ) ↦[M.view.set]{fullShare} M.view.writes (Elt F) f L)

/-- A buffer after a list of stores over known contents. -/
abbrev onto (c : Dev nD) {S : Shape} {e : EltTy} (M : Memref sig .tc .vmem S e) (h : M.IsWhole) (d : Vec F S e)
    (L : List (View.Piece (Elt F) S e)) : sProp 𝕄 :=
  M.view.loc (c : Thread nD τ) ↦[M.view.set]{fullShare} M.view.writes (Elt F) (h.unread d) L

section
variable (c : Dev nD) (i : grid0.Coords)
  (a1 : Memref sig .tc .vmem S256x1024 .bf16) (h1 : a1.IsWhole) (a2 : Memref sig .tc .vmem S256x1024 .f32) (h2 : a2.IsWhole)
  (a3 : Memref sig .tc .vmem S256x1024 .f32) (h3 : a3.IsWhole) (a4 : Memref sig .tc .vmem S256x5632 .bf16) (h4 : a4.IsWhole)
  (a5 : Memref sig .tc .vmem S256x5632 .bf16) (h5 : a5.IsWhole) (a6 : Memref sig .tc .vmem S16x1024 .f32) (h6 : a6.IsWhole)
  (a7 : Memref sig .tc .vmem S8x5632 .f32) (h7 : a7.IsWhole) (a10 : Memref sig .tc .vmem S256x1024 .f32) (h10 : a10.IsWhole)
  (a11 : Memref sig .tc .vmem S256x5632 .bf16) (h11 : a11.IsWhole) (a12 : Memref sig .tc .vmem S8x1024 .f32) (h12 : a12.IsWhole)
  (a13 : Memref sig .tc .vmem S8x5632 .f32) (h13 : a13.IsWhole) (a14 : Memref sig .tc .vmem S1024x5632 .bf16) (h14 : a14.IsWhole)
  (a15 : Memref sig .tc .vmem S2816x1024 .bf16) (h15 : a15.IsWhole) (a16 : Memref sig .tc .vmem S3x8x5632 .f32) (h16 : a16.IsWhole)

/-- The inputs' blocks in place. -/
abbrev given (x : Ins F) : sProp 𝕄 :=
  iprop(owns (c : Thread nD τ) a1 fullShare x.dff ∗ owns (c : Thread nD τ) a2 fullShare x.dx2 ∗ owns (c : Thread nD τ) a3 fullShare x.x1
    ∗ owns (c : Thread nD τ) a4 fullShare x.up ∗ owns (c : Thread nD τ) a5 fullShare x.conv ∗ owns (c : Thread nD τ) a6 fullShare x.vd
    ∗ owns (c : Thread nD τ) a7 fullShare x.vf)

/-- The program's body on these buffers. -/
abbrev prog : Prog (TpuEff nD τ sig (Elt F) Λ₀ .tc) PUnit :=
  cc0_bwd_ffn i a1 h1 a2 h2 a3 h3 a4 h4 a5 h5 a6 h6 a7 h7 wuM (Memref.isWhole_whole _) wdM (Memref.isWhole_whole _)
    a10 h10 a11 h11 a12 h12 a13 h13 a14 h14 a15 h15 a16 h16 cc0_scratch3

set_option maxHeartbeats 4000000 in
/-- The first point: whatever the body's buffers hold, it ends with the weights copied, the sums begun and the late rows
    left, each buffer at the listed stores. -/
def runFirst (hc : First i) (x : Ins F) (fu : At (F := F) c wuM) (fd : At (F := F) c wdM) :
    { L : Stores F // ∀ (W : Waits sig Unit) (K : PUnit → sProp 𝕄),
      iprop(given c a1 a2 a3 a4 a5 a6 a7 x
          ∗ (∃ d, owns (c : Thread nD τ) a10 fullShare d) ∗ (∃ d, owns (c : Thread nD τ) a11 fullShare d)
          ∗ (∃ d, owns (c : Thread nD τ) a12 fullShare d) ∗ (∃ d, owns (c : Thread nD τ) a13 fullShare d)
          ∗ (∃ d, owns (c : Thread nD τ) a14 fullShare d) ∗ (∃ d, owns (c : Thread nD τ) a15 fullShare d)
          ∗ (∃ d, owns (c : Thread nD τ) a16 fullShare d) ∗ still c ∗ held c wuM fu ∗ held c wdM fd ∗ owes (c : Thread nD τ) 0 W
          ∗ (iprop(given c a1 a2 a3 a4 a5 a6 a7 x
              ∗ over c a10 L.dx ∗ over c a11 L.dup ∗ over c a12 L.vo ∗ over c a13 L.fo ∗ over c a14 L.wu ∗ over c a15 L.wd ∗ over c a16 L.ca
              ∗ still c ∗ held c wuM fu ∗ held c wdM fd ∗ (∃ W', owes (c : Thread nD τ) 0 W')) -∗ K ⟨⟩))
        ⊢ wp frame (wpE (defs₀ (F := F)) Variants.none c none) Set.univ
            (prog i a1 h1 a2 h2 a3 h3 a4 h4 a5 h5 a6 h6 a7 h7 a10 h10 a11 h11 a12 h12 a13 h13 a14 h14 a15 h15 a16 h16) K } := by
  refine ⟨⟨?_, ?_, ?_, ?_, ?_, ?_, ?_⟩, fun W K => ?run⟩
  case run =>
    dsimp only [prog]
    simp only [cc0_bwd_ffn_eq_skeleton]; unfold cc0_bwd_ffn_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton]
    unfold given over still held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩,
      ⟨%d10, %f10, -, H10⟩, ⟨%d11, %f11, -, H11⟩, ⟨%d12, %f12, -, H12⟩, ⟨%d13, %f13, -, H13⟩, ⟨%d14, %f14, -, H14⟩,
      ⟨%d15, %f15, -, H15⟩, ⟨%d16, %f16, -, H16⟩, ⟨Hq0, Hq1⟩, Hh0, Hh1, HW, Hk⟩
    obtain rfl := h1.eq_unread hf1; obtain rfl := h2.eq_unread hf2; obtain rfl := h3.eq_unread hf3; obtain rfl := h4.eq_unread hf4
    obtain rfl := h5.eq_unread hf5; obtain rfl := h6.eq_unread hf6; obtain rfl := h7.eq_unread hf7
    sl_exec (disch := first | sl_exact hc)
    sl_step
    iapply Hk
    isplitl [H1 H2 H3 H4 H5 H6 H7]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      iexists _; isplitr; · ipureintro; exact h7.read_unread _
      iexact H7
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [Hq0 Hq1]
    · isplitl [Hq0]; · iexact Hq0
      iexact Hq1
    isplitl [Hh0]; · iexact Hh0
    isplitl [Hh1]; · iexact Hh1
    iexists _; iexact HW

set_option maxHeartbeats 4000000 in
/-- A later point: on what the point before left, the body leaves the weights as they were, the sums advanced and the late
    rows renewed. The blocks it adds to are stored over their former contents, for it stores into some of their rows only. -/
def runLater (hc : ¬First i) (x : Ins F) (k : Kept F) (fu : At (F := F) c wuM) (fd : At (F := F) c wdM) :
    { L : Stores F // ∀ (W : Waits sig Unit) (K : PUnit → sProp 𝕄),
      iprop(given c a1 a2 a3 a4 a5 a6 a7 x
          ∗ (∃ d, owns (c : Thread nD τ) a10 fullShare d) ∗ (∃ d, owns (c : Thread nD τ) a11 fullShare d)
          ∗ owns (c : Thread nD τ) a12 fullShare k.vo ∗ owns (c : Thread nD τ) a13 fullShare k.fo
          ∗ owns (c : Thread nD τ) a14 fullShare k.wu ∗ owns (c : Thread nD τ) a15 fullShare k.wd
          ∗ owns (c : Thread nD τ) a16 fullShare k.ca ∗ still c ∗ held c wuM fu ∗ held c wdM fd ∗ owes (c : Thread nD τ) 0 W
          ∗ (iprop(given c a1 a2 a3 a4 a5 a6 a7 x
              ∗ over c a10 L.dx ∗ over c a11 L.dup ∗ onto c a12 h12 k.vo L.vo ∗ onto c a13 h13 k.fo L.fo ∗ owns (c : Thread nD τ) a14 fullShare k.wu
              ∗ owns (c : Thread nD τ) a15 fullShare k.wd ∗ over c a16 L.ca
              ∗ still c ∗ held c wuM fu ∗ held c wdM fd ∗ (∃ W', owes (c : Thread nD τ) 0 W')) -∗ K ⟨⟩))
        ⊢ wp frame (wpE (defs₀ (F := F)) Variants.none c none) Set.univ
            (prog i a1 h1 a2 h2 a3 h3 a4 h4 a5 h5 a6 h6 a7 h7 a10 h10 a11 h11 a12 h12 a13 h13 a14 h14 a15 h15 a16 h16) K } := by
  refine ⟨⟨?_, ?_, ?_, ?_, [], [], ?_⟩, fun W K => ?run⟩
  case run =>
    dsimp only [prog]
    simp only [cc0_bwd_ffn_eq_skeleton]; unfold cc0_bwd_ffn_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton]
    unfold given over onto still held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩,
      ⟨%d10, %f10, -, H10⟩, ⟨%d11, %f11, -, H11⟩, ⟨%f12, %hf12, H12⟩, ⟨%f13, %hf13, H13⟩, ⟨%f14, %hf14, H14⟩,
      ⟨%f15, %hf15, H15⟩, ⟨%f16, %hf16, H16⟩, ⟨Hq0, Hq1⟩, Hh0, Hh1, HW, Hk⟩
    obtain rfl := h1.eq_unread hf1; obtain rfl := h2.eq_unread hf2; obtain rfl := h3.eq_unread hf3; obtain rfl := h4.eq_unread hf4
    obtain rfl := h5.eq_unread hf5; obtain rfl := h6.eq_unread hf6; obtain rfl := h7.eq_unread hf7
    obtain rfl := h12.eq_unread hf12; obtain rfl := h13.eq_unread hf13; obtain rfl := h14.eq_unread hf14
    obtain rfl := h15.eq_unread hf15; obtain rfl := h16.eq_unread hf16
    sl_exec (disch := first | sl_exact hc)
    sl_step
    iapply Hk
    isplitl [H1 H2 H3 H4 H5 H6 H7]
    · isplitl [H1]
      · iexists _; isplitr; · ipureintro; exact h1.read_unread _
        iexact H1
      isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      iexists _; isplitr; · ipureintro; exact h7.read_unread _
      iexact H7
    isplitl [H10]; · iexists _; iexact H10
    isplitl [H11]; · iexists _; iexact H11
    isplitl [H12]; · iexact H12
    isplitl [H13]; · iexact H13
    isplitl [H14]
    · iexists _; isplitr; · ipureintro; exact h14.read_unread _
      iexact H14
    isplitl [H15]
    · iexists _; isplitr; · ipureintro; exact h15.read_unread _
      iexact H15
    isplitl [H16]; · iexists _; iexact H16
    isplitl [Hq0 Hq1]
    · isplitl [Hq0]; · iexact Hq0
      iexact Hq1
    isplitl [Hh0]; · iexact Hh0
    isplitl [Hh1]; · iexact Hh1
    iexists _; iexact HW

end

end Cert.Kernel3Ideal.Bffn

end
-- ==== Proof.Bffn.Frame.lean ====
/- The backward feed-forward kernel's run: point after point of its grid what its buffers hold, and that it ends with its
   arguments unchanged and its counters at zero. -/
module

public import proofs.«01_k».proof.Proof.Bffn.Run
public import Idealize.ShloMosaic.Lib.Claim

@[expose] public section

set_option maxRecDepth 16384

-- the two runs are large terms
set_option maxHeartbeats 4000000

noncomputable section

namespace Cert.Kernel3Ideal.Bffn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The buffer each window is on at a point, and that it is one whole buffer. -/
abbrev b0 (t : Fin cfg0.N) : Memref sig .tc .vmem S256x1024 .bf16 := win0_0.stage (cfg0.slots t 0)
abbrev w0 (t : Fin cfg0.N) : (b0 t).IsWhole := hstage0_0 ((cfg0.slots t 0).cast nbuf0_0)
abbrev b1 (t : Fin cfg0.N) : Memref sig .tc .vmem S256x1024 .f32 := win0_1.stage (cfg0.slots t 1)
abbrev w1 (t : Fin cfg0.N) : (b1 t).IsWhole := hstage0_1 ((cfg0.slots t 1).cast nbuf0_1)
abbrev b2 (t : Fin cfg0.N) : Memref sig .tc .vmem S256x1024 .f32 := win0_2.stage (cfg0.slots t 2)
abbrev w2 (t : Fin cfg0.N) : (b2 t).IsWhole := hstage0_2 ((cfg0.slots t 2).cast nbuf0_2)
abbrev b3 (t : Fin cfg0.N) : Memref sig .tc .vmem S256x5632 .bf16 := win0_3.stage (cfg0.slots t 3)
abbrev w3 (t : Fin cfg0.N) : (b3 t).IsWhole := hstage0_3 ((cfg0.slots t 3).cast nbuf0_3)
abbrev b4 (t : Fin cfg0.N) : Memref sig .tc .vmem S256x5632 .bf16 := win0_4.stage (cfg0.slots t 4)
abbrev w4 (t : Fin cfg0.N) : (b4 t).IsWhole := hstage0_4 ((cfg0.slots t 4).cast nbuf0_4)
abbrev b5 (t : Fin cfg0.N) : Memref sig .tc .vmem S16x1024 .f32 := win0_5.stage (cfg0.slots t 5)
abbrev w5 (t : Fin cfg0.N) : (b5 t).IsWhole := hstage0_5 ((cfg0.slots t 5).cast nbuf0_5)
abbrev b6 (t : Fin cfg0.N) : Memref sig .tc .vmem S8x5632 .f32 := win0_6.stage (cfg0.slots t 6)
abbrev w6 (t : Fin cfg0.N) : (b6 t).IsWhole := hstage0_6 ((cfg0.slots t 6).cast nbuf0_6)
abbrev b7 (t : Fin cfg0.N) : Memref sig .tc .vmem S256x1024 .f32 := win0_7.stage (cfg0.slots t 7)
abbrev w7 (t : Fin cfg0.N) : (b7 t).IsWhole := hstage0_7 ((cfg0.slots t 7).cast nbuf0_7)
abbrev b8 (t : Fin cfg0.N) : Memref sig .tc .vmem S256x5632 .bf16 := win0_8.stage (cfg0.slots t 8)
abbrev w8 (t : Fin cfg0.N) : (b8 t).IsWhole := hstage0_8 ((cfg0.slots t 8).cast nbuf0_8)
abbrev b9 (t : Fin cfg0.N) : Memref sig .tc .vmem S8x1024 .f32 := win0_9.stage (cfg0.slots t 9)
abbrev w9 (t : Fin cfg0.N) : (b9 t).IsWhole := hstage0_9 ((cfg0.slots t 9).cast nbuf0_9)
abbrev b10 (t : Fin cfg0.N) : Memref sig .tc .vmem S8x5632 .f32 := win0_10.stage (cfg0.slots t 10)
abbrev w10 (t : Fin cfg0.N) : (b10 t).IsWhole := hstage0_10 ((cfg0.slots t 10).cast nbuf0_10)

/-- The kernel's own buffers: the two weights and the late rows. -/
abbrev wuB : Memref sig .tc .vmem S1024x5632 .bf16 := Memref.whole cc0_scratch0
abbrev wdB : Memref sig .tc .vmem S2816x1024 .bf16 := Memref.whole cc0_scratch1
abbrev caB : Memref sig .tc .vmem S3x8x5632 .f32 := Memref.whole cc0_scratch2

/-- The blocks the pipeline hands the body at a point. -/
def insAt (c : Dev nD) (t : Fin cfg0.N) : Ins F :=
  ⟨iblk m c 0 t, iblk m c 1 t, iblk m c 2 t, iblk m c 3 t, iblk m c 4 t, iblk m c 5 t, iblk m c 6 t⟩

/-- The body's run at the first point and at a later one, on the buffers the pipeline calls it with. -/
abbrev first (c : Dev nD) (t : Fin cfg0.N) (h : First (grid0.coords t)) :=
  runFirst (F := F) c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t)
    wuB (Memref.isWhole_whole _) wdB (Memref.isWhole_whole _) caB (Memref.isWhole_whole _) h (insAt m c t) (V m c main_v67) (V m c main_v68)
abbrev later (c : Dev nD) (t : Fin cfg0.N) (h : ¬First (grid0.coords t)) (k : Kept F) :=
  runLater (F := F) c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t)
    wuB (Memref.isWhole_whole _) wdB (Memref.isWhole_whole _) caB (Memref.isWhole_whole _) h (insAt m c t) k (V m c main_v67) (V m c main_v68)

/-- What a point leaves: the two blocks it writes whole, and what it keeps for the next point. -/
structure Left (F : FTy → Type) where
  dx : Vec F S256x1024 .f32
  dup : Vec F S256x5632 .bf16
  kept : Kept F

/-- What the point `t` leaves, on what the point before kept: a buffer stored in every place holds the newest store at each;
    the blocks added to hold the stores over what they held. -/
def point (c : Dev nD) (t : Fin cfg0.N) (k : Kept F) : Left F :=
  if h : First (grid0.coords t) then
    let L := (first m c t h).1
    ⟨View.canon L.dx, View.canon L.dup, ⟨View.canon L.vo, View.canon L.fo, View.canon L.wu, View.canon L.wd, View.canon L.ca⟩⟩
  else
    let L := (later m c t h k).1
    ⟨View.canon L.dx, View.canon L.dup,
      ⟨(b9 t).view.read (Elt F) ((b9 t).view.writes (Elt F) ((w9 t).unread k.vo) L.vo),
        (b10 t).view.read (Elt F) ((b10 t).view.writes (Elt F) ((w10 t).unread k.fo) L.fo), k.wu, k.wd, View.canon L.ca⟩⟩

/-- What is kept before the `n`-th point: nothing known before the first. -/
def keptAt (c : Dev nD) : ℕ → Kept F
  | 0 => ⟨View.canon [], View.canon [], View.canon [], View.canon [], View.canon []⟩
  | n + 1 => if h : n < cfg0.N then (point m c ⟨n, h⟩ (keptAt c n)).kept else keptAt c n

/-- What the point `t` of the run leaves. -/
def left (c : Dev nD) (t : Fin cfg0.N) : Left F := point m c t (keptAt m c t.val)

theorem keptAt_succ (c : Dev nD) (t : Fin cfg0.N) : keptAt m c (t.val + 1) = (left m c t).kept := by
  rw [keptAt, dif_pos t.isLt]; rfl

theorem left_first (c : Dev nD) (t : Fin cfg0.N) (h : First (grid0.coords t)) :
    left m c t = (let L := (first m c t h).1
      ⟨View.canon L.dx, View.canon L.dup, ⟨View.canon L.vo, View.canon L.fo, View.canon L.wu, View.canon L.wd, View.canon L.ca⟩⟩) :=
  dif_pos h

theorem left_later (c : Dev nD) (t : Fin cfg0.N) (h : ¬First (grid0.coords t)) :
    left m c t = (let L := (later m c t h (keptAt m c t.val)).1
      ⟨View.canon L.dx, View.canon L.dup,
        ⟨(b9 t).view.read (Elt F) ((b9 t).view.writes (Elt F) ((w9 t).unread (keptAt m c t.val).vo) L.vo),
          (b10 t).view.read (Elt F) ((b10 t).view.writes (Elt F) ((w10 t).unread (keptAt m c t.val).fo) L.fo),
          (keptAt m c t.val).wu, (keptAt m c t.val).wd, View.canon L.ca⟩⟩) :=
  dif_neg h

/-! The stores reach every place of the buffers they are to fill. -/

/-- A list of stores reaching every place. -/
abbrev Full {S : Shape} {e : EltTy} (L : List (View.Piece (Elt F) S e)) : Prop := ∀ y, ∃ p ∈ L, y ∈ p.1.set

theorem fullFirst (c : Dev nD) (t : Fin cfg0.N) (h : First (grid0.coords t)) :
    Full (first m c t h).1.dx ∧ Full (first m c t h).1.dup ∧ Full (first m c t h).1.vo ∧ Full (first m c t h).1.fo
      ∧ Full (first m c t h).1.wu ∧ Full (first m c t h).1.wd ∧ Full (first m c t h).1.ca :=
  ⟨View.cover_of_tiledBy _ ![256, 1024] (by sl_kernel_rfl), View.cover_of_tiledBy _ ![256, 256] (by sl_kernel_rfl),
    View.cover_of_tiledBy _ ![1, 1024] (by sl_kernel_rfl), View.cover_of_tiledBy _ ![1, 256] (by sl_kernel_rfl),
    View.cover_of_tiledBy _ ![1024, 5632] (by sl_kernel_rfl), View.cover_of_tiledBy _ ![2816, 1024] (by sl_kernel_rfl),
    View.cover_of_tiledBy _ ![1, 8, 256] (by sl_kernel_rfl)⟩

theorem fullLater (c : Dev nD) (t : Fin cfg0.N) (h : ¬First (grid0.coords t)) (k : Kept F) :
    Full (later m c t h k).1.dx ∧ Full (later m c t h k).1.dup ∧ Full (later m c t h k).1.ca :=
  ⟨View.cover_of_tiledBy _ ![256, 1024] (by sl_kernel_rfl), View.cover_of_tiledBy _ ![256, 256] (by sl_kernel_rfl),
    View.cover_of_tiledBy _ ![1, 8, 256] (by sl_kernel_rfl)⟩

/-! The launch's other resources: the copy semaphores and the weights where they lie. -/

abbrev osem : Fin 2 → SemLoc sig := fun j => (![SemLoc.dma 18, SemLoc.dma 19] : Fin 2 → SemLoc sig) j
theorem osem_facts : Pipeline.OwnSemFacts spec0 osem := by decide
def Hb : Finset (Ref sig .tc) := {main_v67, main_v68}
theorem Hb_sub : Hb ⊆ Pipeline.restRefs sig spec0 := by decide

theorem PhiD_eq (c : Dev nD) :
    (Pipeline.ΦD osem spec0 Hb (V m) c : sProp 𝕄)
      = iprop(((∃ d, owns (c : Thread nD τ) wuB fullShare d) ∗ (∃ d, owns (c : Thread nD τ) wdB fullShare d)
          ∗ (∃ d, owns (c : Thread nD τ) caB fullShare d))
        ∗ (∃ r, prngReg c r) ∗ still c ∗ held c wuM (V m c main_v67) ∗ held c wdM (V m c main_v68)) := by
  rw [Pipeline.ΦD_eq, scopedRest0_eq, Pipeline.ownSems0_eq_of_list c osem [0, 1] (by decide) (by decide),
    BI.bigSep_eq_bigSepL_of_eq (S := Hb) [main_v67, main_v68] (by decide) (by decide)]
  simp only [wuB, wdB, caB, owns_whole]
  rfl

/-- The lines after the kernel touch neither weight. -/
theorem tail_but : ∀ ops ∈ ([hostOps1] : List (List (HloOp τ sig (Elt F)))), ∀ op ∈ ops,
    op.bufs ⊆ Pipeline.tailRefsBut sig Pipeline.Prefetch.none spec0 Hb := by
  intro ops hops op hop
  simp only [List.mem_cons, List.mem_nil_iff, or_false] at hops
  rcases hops with rfl
  refine Pipeline.sub_tailRefsBut Pipeline.Prefetch.none spec0 Hb op ((List.forall_iff_forall_mem.mp hostOps1_sub) op hop)
    (fun j => j.elim0) ?_
  simp only [hostOps1, List.mem_cons, List.mem_nil_iff, or_false] at hop
  intro b hb
  simp only [Hb, Finset.mem_insert, Finset.mem_singleton] at hb
  rcases hop with rfl | rfl | rfl | rfl | rfl | rfl | rfl <;> rcases hb with rfl | rfl <;>
    simp only [StableHlo.nullary_bufs, StableHlo.unary_bufs, StableHlo.binary_bufs, StableHlo.ternary_bufs,
      StableHlo.quaternary_bufs, StableHlo.reshape_bufs, Finset.mem_insert, Finset.mem_singleton, not_or] <;>
    and_intros <;> exact StableHlo.devRef_ne_of_ne (by decide)

/-! The pipeline's data: every buffer after every point. -/

/-- What holds between points: before the first what the launch gives; later the kernel's own buffers at what is kept. -/
def between (c : Dev nD) : ℕ → sProp 𝕄
  | 0 => Pipeline.ΦD osem spec0 Hb (V m) c
  | n + 1 => iprop((owns (c : Thread nD τ) wuB fullShare (keptAt m c (n + 1)).wu ∗ owns (c : Thread nD τ) wdB fullShare (keptAt m c (n + 1)).wd
          ∗ owns (c : Thread nD τ) caB fullShare (keptAt m c (n + 1)).ca)
        ∗ (∃ r, prngReg c r) ∗ still c ∗ held c wuM (V m c main_v67) ∗ held c wdM (V m c main_v68))

theorem between_pos (c : Dev nD) (n : ℕ) (h : n ≠ 0) :
    between m c n = iprop((owns (c : Thread nD τ) wuB fullShare (keptAt m c n).wu ∗ owns (c : Thread nD τ) wdB fullShare (keptAt m c n).wd
          ∗ owns (c : Thread nD τ) caB fullShare (keptAt m c n).ca)
        ∗ (∃ r, prngReg c r) ∗ still c ∗ held c wuM (V m c main_v67) ∗ held c wdM (V m c main_v68)) := by
  cases n with
  | zero => exact absurd rfl h
  | succ n => rfl

/-- The blocks after the point `t`. -/
def afterAt (c : Dev nD) : (w : Fin cfg0.W) → (t : Fin cfg0.N) → (cfg0.win w).block.Idx → Elt F (cfg0.win w).elt
  | ⟨0, _⟩, t => (insAt m c t).dff
  | ⟨1, _⟩, t => (insAt m c t).dx2
  | ⟨2, _⟩, t => (insAt m c t).x1
  | ⟨3, _⟩, t => (insAt m c t).up
  | ⟨4, _⟩, t => (insAt m c t).conv
  | ⟨5, _⟩, t => (insAt m c t).vd
  | ⟨6, _⟩, t => (insAt m c t).vf
  | ⟨7, _⟩, t => (left m c t).dx
  | ⟨8, _⟩, t => (left m c t).dup
  | ⟨9, _⟩, t => (left m c t).kept.vo
  | ⟨10, _⟩, t => (left m c t).kept.fo

def dats (_ : Fin 1) (c : Dev nD) : Dat τ (Elt F) Unit ℕ (Pipeline.UD sig nD τ) ℕ cfg0 c where
  A w := V m c (Pipeline.arrRef spec0 w)
  after w t := afterAt m c w t
  Φ t := between m c t.val
  q _ := fullShare
  owed _ := 0

theorem A_eq (c : Dev nD) (w : Fin cfg0.W) : (dats m 0 c).A w = V m c (Pipeline.arrRef spec0 w) := by
  dsimp only [dats]
/-- The same arrays point after point, for readers of the final memory that speak of no resource. -/
def plain (_ : Fin 1) (c : Dev nD) : Dat τ (Elt F) Unit ℕ (UR sig nD τ) ℕ cfg0 c where
  A w := V m c (Pipeline.arrRef spec0 w)
  after w t := afterAt m c w t
  Φ _ := iprop(emp)
  q _ := fullShare
  owed _ := 0

theorem after_0 (c : Dev nD) (t : Fin cfg0.N) : (dats m 0 c).after 0 t = (insAt m c t).dff := by dsimp only [dats, afterAt]
theorem after_1 (c : Dev nD) (t : Fin cfg0.N) : (dats m 0 c).after 1 t = (insAt m c t).dx2 := by dsimp only [dats, afterAt]
theorem after_2 (c : Dev nD) (t : Fin cfg0.N) : (dats m 0 c).after 2 t = (insAt m c t).x1 := by dsimp only [dats, afterAt]
theorem after_3 (c : Dev nD) (t : Fin cfg0.N) : (dats m 0 c).after 3 t = (insAt m c t).up := by dsimp only [dats, afterAt]
theorem after_4 (c : Dev nD) (t : Fin cfg0.N) : (dats m 0 c).after 4 t = (insAt m c t).conv := by dsimp only [dats, afterAt]
theorem after_5 (c : Dev nD) (t : Fin cfg0.N) : (dats m 0 c).after 5 t = (insAt m c t).vd := by dsimp only [dats, afterAt]
theorem after_6 (c : Dev nD) (t : Fin cfg0.N) : (dats m 0 c).after 6 t = (insAt m c t).vf := by dsimp only [dats, afterAt]
theorem after_7 (c : Dev nD) (t : Fin cfg0.N) : (dats m 0 c).after 7 t = (left m c t).dx := by dsimp only [dats, afterAt]
theorem after_8 (c : Dev nD) (t : Fin cfg0.N) : (dats m 0 c).after 8 t = (left m c t).dup := by dsimp only [dats, afterAt]
theorem after_9 (c : Dev nD) (t : Fin cfg0.N) : (dats m 0 c).after 9 t = (left m c t).kept.vo := by dsimp only [dats, afterAt]
theorem after_10 (c : Dev nD) (t : Fin cfg0.N) : (dats m 0 c).after 10 t = (left m c t).kept.fo := by dsimp only [dats, afterAt]
theorem before_0 (c : Dev nD) (t : Fin cfg0.N) (d) : (dats m 0 c).before 0 t d = (insAt m c t).dff :=
  before0_0_of m (plain m 0 c) rfl (fun _ => rfl) t d
theorem before_1 (c : Dev nD) (t : Fin cfg0.N) (d) : (dats m 0 c).before 1 t d = (insAt m c t).dx2 :=
  before0_1_of m (plain m 0 c) rfl (fun _ => rfl) t d
theorem before_2 (c : Dev nD) (t : Fin cfg0.N) (d) : (dats m 0 c).before 2 t d = (insAt m c t).x1 :=
  before0_2_of m (plain m 0 c) rfl (fun _ => rfl) t d
theorem before_3 (c : Dev nD) (t : Fin cfg0.N) (d) : (dats m 0 c).before 3 t d = (insAt m c t).up :=
  before0_3_of m (plain m 0 c) rfl (fun _ => rfl) t d
theorem before_4 (c : Dev nD) (t : Fin cfg0.N) (d) : (dats m 0 c).before 4 t d = (insAt m c t).conv :=
  before0_4_of m (plain m 0 c) rfl (fun _ => rfl) t d
theorem before_5 (c : Dev nD) (t : Fin cfg0.N) (d) : (dats m 0 c).before 5 t d = (insAt m c t).vd :=
  before0_5_of m (plain m 0 c) rfl (fun _ => rfl) t d
theorem before_6 (c : Dev nD) (t : Fin cfg0.N) (d) : (dats m 0 c).before 6 t d = (insAt m c t).vf :=
  before0_6_of m (plain m 0 c) rfl (fun _ => rfl) t d
theorem before_9 (c : Dev nD) (t : Fin cfg0.N) (h : t.val ≠ 0) (d) : (dats m 0 c).before 9 t d = (keptAt m c t.val).vo := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl), after_9, ← keptAt_succ]
  exact congrArg (fun n => (keptAt m c n).vo) (by dsimp only; omega)
theorem before_10 (c : Dev nD) (t : Fin cfg0.N) (h : t.val ≠ 0) (d) : (dats m 0 c).before 10 t d = (keptAt m c t.val).fo := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl), after_10, ← keptAt_succ]
  exact congrArg (fun n => (keptAt m c n).fo) (by dsimp only; omega)

/-! The body at any point. -/

def pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d))
    ∗ (∃ d, owns (c : Thread nD τ) (b8 t) fullShare ((dats m 0 c).before 8 t d))
    ∗ (∃ d, owns (c : Thread nD τ) (b9 t) fullShare ((dats m 0 c).before 9 t d))
    ∗ (∃ d, owns (c : Thread nD τ) (b10 t) fullShare ((dats m 0 c).before 10 t d)))

def post (c : Dev nD) (t : Fin cfg0.N) : sProp 𝕄 :=
  iprop((dats m 0 c).Φ t.succ ∗ (dats m 0 c).owesAt () t.succ
    ∗ owns (c : Thread nD τ) (b0 t) fullShare ((dats m 0 c).after 0 t)
    ∗ owns (c : Thread nD τ) (b1 t) fullShare ((dats m 0 c).after 1 t)
    ∗ owns (c : Thread nD τ) (b2 t) fullShare ((dats m 0 c).after 2 t)
    ∗ owns (c : Thread nD τ) (b3 t) fullShare ((dats m 0 c).after 3 t)
    ∗ owns (c : Thread nD τ) (b4 t) fullShare ((dats m 0 c).after 4 t)
    ∗ owns (c : Thread nD τ) (b5 t) fullShare ((dats m 0 c).after 5 t)
    ∗ owns (c : Thread nD τ) (b6 t) fullShare ((dats m 0 c).after 6 t)
    ∗ owns (c : Thread nD τ) (b7 t) fullShare ((dats m 0 c).after 7 t)
    ∗ owns (c : Thread nD τ) (b8 t) fullShare ((dats m 0 c).after 8 t)
    ∗ owns (c : Thread nD τ) (b9 t) fullShare ((dats m 0 c).after 9 t)
    ∗ owns (c : Thread nD τ) (b10 t) fullShare ((dats m 0 c).after 10 t))

set_option maxHeartbeats 8000000 in
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6]
  rw [show (dats m 0 c).Φ t.succ = between m c (t.val + 1) from rfl, between_pos m c _ (Nat.succ_ne_zero _), keptAt_succ,
    show (dats m 0 c).Φ t.castSucc = between m c t.val from rfl,
    after_0, after_1, after_2, after_3, after_4, after_5, after_6, after_7, after_8, after_9, after_10]
  unfold Dat.owesAt Pipeline.owesWithin
  rw [show (dats m 0 c).owed t.castSucc = 0 from rfl, show (dats m 0 c).owed t.succ = 0 from rfl]
  by_cases h : First (grid0.coords t)
  · have C := fullFirst m c t h
    rw [show between m c t.val = Pipeline.ΦD osem spec0 Hb (V m) c from by rw [(first_iff t).mp h]; rfl, PhiD_eq, left_first m c t h]
    dsimp only
    iintro ⟨⟨⟨HU, HD, HC⟩, Hg, Hq, Hu, Hd⟩, ⟨%W, -, HW⟩, ⟨%d0, H0⟩, ⟨%d1, H1⟩, ⟨%d2, H2⟩, ⟨%d3, H3⟩, ⟨%d4, H4⟩, ⟨%d5, H5⟩, ⟨%d6, H6⟩,
      ⟨%d7, H7⟩, ⟨%d8, H8⟩, ⟨%d9, H9⟩, ⟨%d10, H10⟩⟩
    iapply ((first m c t h).2 W _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    isplitl [H10]; · iexists _; iexact H10
    isplitl [HU]; · iexact HU
    isplitl [HD]; · iexact HD
    isplitl [HC]; · iexact HC
    isplitl [Hq]; · iexact Hq
    isplitl [Hu]; · iexact Hu
    isplitl [Hd]; · iexact Hd
    isplitl [HW]; · iexact HW
    iintro ⟨⟨H0, H1, H2, H3, H4, H5, H6⟩, ⟨%e7, H7⟩, ⟨%e8, H8⟩, ⟨%e9, H9⟩, ⟨%e10, H10⟩, ⟨%eu, HU⟩, ⟨%ed, HD⟩, ⟨%ec, HC⟩, Hq, Hu, Hd, ⟨%W', HW'⟩⟩
    isplitl [HU HD HC Hg Hq Hu Hd]
    · isplitl [HU HD HC]
      · isplitl [HU]
        · unfold owns; iexists _; isplitr
          swap; · iexact HU
          ipureintro; exact View.read_writes_eq_canon _ _ _ C.2.2.2.2.1
        isplitl [HD]
        · unfold owns; iexists _; isplitr
          swap; · iexact HD
          ipureintro; exact View.read_writes_eq_canon _ _ _ C.2.2.2.2.2.1
        unfold owns; iexists _; isplitr
        swap; · iexact HC
        ipureintro; exact View.read_writes_eq_canon _ _ _ C.2.2.2.2.2.2
      isplitl [Hg]; · iexact Hg
      isplitl [Hq]; · iexact Hq
      isplitl [Hu]; · iexact Hu
      iexact Hd
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ C.1
    isplitl [H8]
    · unfold owns; iexists _; isplitr
      swap; · iexact H8
      ipureintro; exact View.read_writes_eq_canon _ _ _ C.2.1
    isplitl [H9]
    · unfold owns; iexists _; isplitr
      swap; · iexact H9
      ipureintro; exact View.read_writes_eq_canon _ _ _ C.2.2.1
    unfold owns; iexists _; isplitr
    swap; · iexact H10
    ipureintro; exact View.read_writes_eq_canon _ _ _ C.2.2.2.1
  · have h0 : t.val ≠ 0 := fun e => h ((first_iff t).mpr e)
    have C := fullLater m c t h (keptAt m c t.val)
    rw [between_pos m c _ h0, left_later m c t h]
    simp only [before_9 m c t h0, before_10 m c t h0]
    iintro ⟨⟨⟨HU, HD, HC⟩, Hg, Hq, Hu, Hd⟩, ⟨%W, -, HW⟩, ⟨%d0, H0⟩, ⟨%d1, H1⟩, ⟨%d2, H2⟩, ⟨%d3, H3⟩, ⟨%d4, H4⟩, ⟨%d5, H5⟩, ⟨%d6, H6⟩,
      ⟨%d7, H7⟩, ⟨%d8, H8⟩, ⟨%d9, H9⟩, ⟨%d10, H10⟩⟩
    iapply ((later m c t h (keptAt m c t.val)).2 W _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexact H9
    isplitl [H10]; · iexact H10
    isplitl [HU]; · iexact HU
    isplitl [HD]; · iexact HD
    isplitl [HC]; · iexact HC
    isplitl [Hq]; · iexact Hq
    isplitl [Hu]; · iexact Hu
    isplitl [Hd]; · iexact Hd
    isplitl [HW]; · iexact HW
    iintro ⟨⟨H0, H1, H2, H3, H4, H5, H6⟩, ⟨%e7, H7⟩, ⟨%e8, H8⟩, H9, H10, HU, HD, ⟨%ec, HC⟩, Hq, Hu, Hd, ⟨%W', HW'⟩⟩
    isplitl [HU HD HC Hg Hq Hu Hd]
    · isplitl [HU HD HC]
      · isplitl [HU]; · iexact HU
        isplitl [HD]; · iexact HD
        unfold owns; iexists _; isplitr
        swap; · iexact HC
        ipureintro; exact View.read_writes_eq_canon _ _ _ C.2.2
      isplitl [Hg]; · iexact Hg
      isplitl [Hq]; · iexact Hq
      isplitl [Hu]; · iexact Hu
      iexact Hd
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ C.1
    isplitl [H8]
    · unfold owns; iexists _; isplitr
      swap; · iexact H8
      ipureintro; exact View.read_writes_eq_canon _ _ _ C.2.1
    isplitl [H9]
    · unfold owns; iexists _; isplitr
      swap; · iexact H9
      ipureintro; exact rfl
    unfold owns; iexists _; isplitr
    swap; · iexact H10
    ipureintro; exact rfl

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦD osem spec0 Hb (V m) c ⊢ (dats m 0 c).Φ 0 := Idealize.SL.BI.Entails.refl _

theorem leave (c : Dev nD) : (dats m 0 c).Φ (Fin.last cfg0.N) ⊢ Pipeline.ΦD osem spec0 Hb (V m) c := by
  rw [show (dats m 0 c).Φ (Fin.last cfg0.N) = between m c cfg0.N from rfl, between_pos m c _ (by have : cfg0.N = 32 := N_0; omega), PhiD_eq]
  iintro ⟨⟨HU, HD, HC⟩, Hr⟩
  isplitl [HU HD HC]
  · isplitl [HU]; · iexists _; iexact HU
    isplitl [HD]; · iexists _; iexact HD
    iexists _; iexact HC
  iexact Hr

/-! The run. -/

theorem main_runs : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What the whole program ends with: the kernel's arrays as the points leave them, every other buffer as the host lines do,
    and all counters at zero. -/
abbrev Ends (r : PUnit × MemSt nD τ sig (Elt F)) : Prop :=
  Pipeline.FramePost cfgs (dats m) 0 (Pipeline.afterTail₀ cfgs (dats m) 0 (V0 m) [hostOps1]) r

set_option backward.isDefEq.respectTransparency.types false in
theorem run_quiet : θ_run defs (onTc (τ := τ) (main (F := F))) (s₀ m ρ) (fun r => Ends m r ∧ r.2.sem = fun _ => 0) :=
  Pipeline.θ_run_frame_dma_around (Q' := _) cfgs (dats m) (0 : Fin 1) launch0 osem defs₀ Variants.none osem_facts Hb Hb_sub m ρ main
    (hbody := fun c => (body_obligation m c).loose) (hshare := fun c => (dats m 0 c).share_full fun _ => rfl)
    (howed := fun _ _ => rfl) (V₀ := V0 m) (opss := [hostOps1]) (hsub := tail_but) (hfresh := sfx_fresh) (hkeep := sfx_keeps)
    (hmain := main_runs m) (hA := A_eq m) (hin := enter m) (hout := leave m)

theorem run_plain : θ_run defs (onTc (τ := τ) (main (F := F))) (s₀ m ρ)
    (Pipeline.FramePost cfgs (plain m) 0 (Pipeline.afterTail₀ cfgs (plain m) 0 (V0 m) [hostOps1])) :=
  (θ_run defs _ _).mono (fun _ h => h.1) (run_quiet m ρ)

theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) ∧ r.2.sem = fun _ => 0) :=
  θ_run_and (frame_of m ρ (plain m) (fun _ _ => rfl) (run_plain m ρ)) ((θ_run defs _ _).mono (fun _ h => h.2) (run_quiet m ρ))

end Cert.Kernel3Ideal.Bffn

end
-- ==== Proof.Bffn.Same.lean ====
/- The kernel as it computes on words and the kernel over any values are one program: the second, read with each named
   constant at its own word, is the first. So the run proved once serves both. -/
module

public import proofs.«01_k».proof.Proof.Bffn.Frame
public import proofs.«01_k».proof.Proof.Gen.Kernel3.Frame
public import Idealize.ShloMosaic.PureOps.BitExact

@[expose] public section

set_option maxRecDepth 100000
set_option maxHeartbeats 4000000

noncomputable section

namespace Cert.Kernel3.Bffn

open Idealize.ShloMosaic Idealize.ShloMosaic.TcCoe Idealize.SL.Sem

/-- A named constant on words: its word. -/
local instance : Named Bits where
  named _ _ {φ} b := Scalar.ofBits φ b

theorem body_eq : Kernel3.cc0_bwd_ffn (F := Bits) = Kernel3Ideal.cc0_bwd_ffn (F := Bits) := rfl

theorem rows_eq : Kernel3.defs₀ (F := Bits) = Kernel3Ideal.defs₀ (F := Bits) := by
  unfold Kernel3.defs₀ Kernel3Ideal.defs₀
  refine congrArg _ (funext fun l => funext fun a => ?_)
  match l with
  | ⟨0, _⟩ => rfl

theorem defs_eq : Kernel3.defs (F := Bits) = Kernel3Ideal.defs (F := Bits) :=
  congrArg (Pipeline.defs (Kernel3.pcfgs (F := Bits))) rows_eq

theorem main_eq : Kernel3.main (F := Bits) = Kernel3Ideal.main (F := Bits) := rfl

variable (m : (ℓ : Loc Kernel3.nD Kernel3.τ Kernel3.sig) → Buf (Elt Bits) ℓ) (ρ : Dev Kernel3.nD → PrngReg)

theorem frame : θ_run (Kernel3.defs (F := Bits)) (onTc (τ := τ) (Kernel3.main (F := Bits))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) ∧ r.2.sem = fun _ => 0) := by
  rw [defs_eq, main_eq]
  exact Kernel3Ideal.Bffn.frame (F := Bits) m ρ

end Cert.Kernel3.Bffn

end

end
-- ==== Proof.Bffn.Spec.lean ====
/- One block of the gated network's backward pass as formulas over the block's rows: the gradient through the down weight and the
   gate, the transposed convolution of each column, the up weight, and the norm before them. The rows of a block stand in the order in
   which eight segments of 32 times are interleaved, and the blocks are met from the last times to the first. -/
module

public import proofs.«01_k».proof.Proof.Bffn.Frame
public import Idealize.ShloMosaic.Lib.Pointwise

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

/-- The time, within a block, that row `p` holds. -/
def tau (p : Fin 256) : Fin 256 := ⟨p.val % 8 * 32 + p.val / 8, by omega⟩

/-- The row that holds the time `r` of a block. -/
def rho (r : Fin 256) : Fin 256 := ⟨r.val % 32 * 8 + r.val / 32, by omega⟩

theorem tau_rho : ∀ r : Fin 256, tau (rho r) = r := by decide +kernel
theorem rho_tau : ∀ p : Fin 256, rho (tau p) = p := by decide +kernel

/-- The permutation of a block's rows. -/
def perm : Fin 256 ≃ Fin 256 := ⟨tau, rho, rho_tau, tau_rho⟩

/-- The row one time later; after the block's last time stands the row of time 32. -/
def next (p : Fin 256) : Fin 256 := if p.val < 248 then ⟨(p.val + 8) % 256, by omega⟩ else ⟨p.val - 248 + 1, by omega⟩

theorem tau_next : ∀ p : Fin 256, (tau p).val ≠ 255 → (tau (next p)).val = (tau p).val + 1 := by decide +kernel

/-- The constants that gelu's cubic term and its derivative carry. -/
def KA : EReal := Named.named (F := Ideal) (φ := .f32) κ "gelu_ka" 0x3D122279#32
def K3 : EReal := Named.named (F := Ideal) (φ := .f32) κ "gelu_3ka" 0x3DDB33B6#32

/-- One more than the hyperbolic tangent of gelu. -/
def th1 (a : EReal) : EReal := 1 + Ideal.tanh (a * (a * a * KA + Ideal.ofBits .f32 0x3F4C422A#32))

/-- Gelu. -/
def gelu (a : EReal) : EReal := Ideal.ofBits .f32 0x3F000000#32 * a * th1 a

/-- Gelu's derivative. -/
def dgelu (a : EReal) : EReal :=
  Ideal.ofBits .f32 0x3F000000#32 * th1 a
    + Ideal.ofBits .f32 0x3F000000#32 * a * (th1 a * (Ideal.ofBits .f32 0x40000000#32 - th1 a))
      * (a * a * K3 + Ideal.ofBits .f32 0x3F4C422A#32)

/-- A column's values one time later, `c` after the block's last time. -/
def aft1 (U : Fin 256 → EReal) (c : EReal) (p : Fin 256) : EReal := if p.val = 255 then c else U (next p)

/-- A column's values two times later, `c` and `c'` after the block's last two times. -/
def aft2 (U : Fin 256 → EReal) (c c' : EReal) (p : Fin 256) : EReal :=
  if p.val = 247 then c else if p.val = 255 then c' else U (next (next p))

/-- The reciprocal root mean square of a row. -/
def rms (y : Fin 256 → Fin 1024 → EReal) (p : Fin 256) : EReal :=
  Ideal.rsqrt (Ideal.div (∑ k : Fin 1024, y p k * y p k) (Ideal.ofBits .f32 0x44800000#32) + Ideal.ofBits .f32 0x358637BD#32)

variable (x : Ins Ideal) (k : Kept Ideal)

/-- The gradient at the gated activation. -/
def da (j : Fin 2816) (p : Fin 256) : EReal := ∑ q : Fin 1024, x.dff (ix2 p q) * k.wd (ix2 j q)

/-- The gradient at the convolved up projection: the gate's columns, then the value's. -/
def dy (j : Fin 5632) (p : Fin 256) : EReal :=
  if h : j.val < 2816 then da x k ⟨j.val, h⟩ p * x.conv (ix2 p ⟨2816 + j.val, by omega⟩) * dgelu (x.conv (ix2 p j))
  else da x k ⟨j.val - 2816, by omega⟩ p * gelu (x.conv (ix2 p ⟨j.val - 2816, by omega⟩))

/-- It one and two times later. -/
def d1 (j : Fin 5632) (p : Fin 256) : EReal := aft1 (dy x k j) (k.ca (ix3 0 7 j)) p
def d2 (j : Fin 5632) (p : Fin 256) : EReal := aft2 (dy x k j) (k.ca (ix3 1 7 j)) (k.ca (ix3 2 7 j)) p

/-- The gradient at the up projection. -/
def du (j : Fin 5632) (p : Fin 256) : EReal :=
  x.vf (ix2 2 j) * dy x k j p + x.vf (ix2 1 j) * d1 x k j p + x.vf (ix2 0 j) * d2 x k j p

/-- The gradient at the modulated normed row, in the four pieces in which it is added up. -/
def dh (p : Fin 256) (q : Fin 1024) : EReal :=
  0 + (∑ j : Fin 1536, du x k ⟨j.val, by omega⟩ p * k.wu (ix2 q ⟨j.val, by omega⟩))
    + (∑ j : Fin 1536, du x k ⟨2816 + j.val, by omega⟩ p * k.wu (ix2 q ⟨2816 + j.val, by omega⟩))
    + (∑ j : Fin 1280, du x k ⟨1536 + j.val, by omega⟩ p * k.wu (ix2 q ⟨1536 + j.val, by omega⟩))
    + (∑ j : Fin 1280, du x k ⟨4352 + j.val, by omega⟩ p * k.wu (ix2 q ⟨4352 + j.val, by omega⟩))

/-- The row before the network, its reciprocal root mean square and the row normed. -/
def r3 (p : Fin 256) : EReal := rms (fun p k => x.x1 (ix2 p k)) p
def n3 (p : Fin 256) (q : Fin 1024) : EReal := x.x1 (ix2 p q) * r3 x p

/-- The gradient at the normed row. -/
def dn (p : Fin 256) (q : Fin 1024) : EReal := dh x k p q * (x.vd (ix2 8 q) * (1 + x.vd (ix2 4 q)))

/-- The gradient at the row before the network. -/
def dx (p : Fin 256) (q : Fin 1024) : EReal :=
  x.dx2 (ix2 p q) + r3 x p * (dn x k p q - n3 x p q * Ideal.div (∑ l : Fin 1024, dn x k p l * n3 x p l) (Ideal.ofBits .f32 0x44800000#32))

/-- The column sums that the vector gradients scale. -/
def s0 (q : Fin 1024) : EReal := ∑ p : Fin 256, dh x k p q
def s2 (q : Fin 1024) : EReal := ∑ p : Fin 256, dh x k p q * n3 x p q

/-- What a block adds to row `r` of the vector gradients. -/
def vo (r : Fin 8) (q : Fin 1024) : EReal :=
  if r.val = 0 then s0 x k q else if r.val = 1 then s2 x k q * x.vd (ix2 8 q)
  else if r.val = 2 then s2 x k q * (1 + x.vd (ix2 4 q)) else 0

/-- What a block adds to row `r` of the convolution's gradients. -/
def fo (r : Fin 8) (j : Fin 5632) : EReal :=
  if r.val = 0 then ∑ p : Fin 256, d2 x k j p * x.up (ix2 p j) else if r.val = 1 then ∑ p : Fin 256, d1 x k j p * x.up (ix2 p j)
  else if r.val = 2 then ∑ p : Fin 256, dy x k j p * x.up (ix2 p j) else if r.val = 3 then ∑ p : Fin 256, dy x k j p else 0

/-- The late rows a block leaves: where the next block looks, its first time, and its first two times. -/
def late (i : Fin 3) (j : Fin 5632) : EReal := dy x k j ⟨if i.val = 2 then 8 else 0, by split <;> omega⟩

end Cert.Kernel3Ideal.Bffn

end

end
-- ==== Proof.Bffn.Pay.lean ====
/- The kernel's block values read at an index: each is the formula of the same name. -/
module

public import proofs.«01_k».proof.Proof.Bffn.Spec

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

abbrev zeroA : FVec Ideal S256x1536 .f32 := constant S256x1536 .f32 0x00000000#32
abbrev two : Ideal .f32 := Scalar.ofBits .f32 0x40000000#32
abbrev len : Ideal .f32 := Scalar.ofBits .f32 0x44800000#32

section grads
variable (d : Vec Ideal S256x1024 .bf16)

theorem da13 (w : Vec Ideal S1536x1024 .bf16) (p : Fin 256) (j : Fin 1536) :
    k0_pay13 (F := Ideal) (k0_pay5 d) w zeroA (ix2 p j) = ∑ q : Fin 1024, d (ix2 p q) * w (ix2 j q) := by
  pointwise! [k0_pay13, k0_pay5]

theorem da60 (w : Vec Ideal S1280x1024 .bf16) (p : Fin 256) (j : Fin 1280) :
    k0_pay60 (F := Ideal) (k0_pay5 d) w (ix2 p j) = ∑ q : Fin 1024, d (ix2 p q) * w (ix2 j q) := by
  pointwise! [k0_pay60, k0_pay5]

theorem gA (g v : Vec Ideal S256x1536 .bf16) (w : Vec Ideal S1536x1024 .bf16) (p : Fin 256) (j : Fin 1536) :
    k0_pay14 (F := Ideal) (k0_pay5 d) (k0_pay12 g) w zeroA v (ix2 p j)
      = (∑ q : Fin 1024, d (ix2 p q) * w (ix2 j q)) * v (ix2 p j) * dgelu (g (ix2 p j)) := by
  refine Eq.trans (by pointwise [k0_pay14, k0_pay12, k0_pay10, k0_pay9, k0_pay8, k0_pay7]; rfl) (congrArg (· * _ * _) (da13 d w p j))

theorem gB (g : Vec Ideal S256x1536 .bf16) (w : Vec Ideal S1536x1024 .bf16) (p : Fin 256) (j : Fin 1536) :
    k0_pay15 (F := Ideal) (k0_pay5 d) (k0_pay11 g) w zeroA (ix2 p j)
      = (∑ q : Fin 1024, d (ix2 p q) * w (ix2 j q)) * gelu (g (ix2 p j)) := by
  refine Eq.trans (by pointwise [k0_pay15, k0_pay11, k0_pay10, k0_pay9, k0_pay8, k0_pay7]; rfl) (congrArg (· * _) (da13 d w p j))

theorem gC (g v : Vec Ideal S256x1280 .bf16) (w : Vec Ideal S1280x1024 .bf16) (p : Fin 256) (j : Fin 1280) :
    k0_pay61 (F := Ideal) (k0_pay5 d) (k0_pay55 g) (k0_pay56 g) (k0_pay57 g) (k0_pay59 g) two w v (ix2 p j)
      = (∑ q : Fin 1024, d (ix2 p q) * w (ix2 j q)) * v (ix2 p j) * dgelu (g (ix2 p j)) := by
  refine Eq.trans (by pointwise [k0_pay61, k0_pay59, k0_pay57, k0_pay56, k0_pay55, k0_pay54]; rfl) (congrArg (· * _ * _) (da60 d w p j))

theorem gD (g : Vec Ideal S256x1280 .bf16) (w : Vec Ideal S1280x1024 .bf16) (p : Fin 256) (j : Fin 1280) :
    k0_pay62 (F := Ideal) (k0_pay5 d) (k0_pay58 g) w (ix2 p j)
      = (∑ q : Fin 1024, d (ix2 p q) * w (ix2 j q)) * gelu (g (ix2 p j)) := by
  refine Eq.trans (by pointwise [k0_pay62, k0_pay58, k0_pay57, k0_pay56, k0_pay55, k0_pay54]; rfl) (congrArg (· * _) (da60 d w p j))

end grads

/-- The choice on a row of eight being the last. -/
theorem select_last (a b : EReal) (i : ℕ) (h : i < 8) :
    Scalar.select (IntOp.cmpi .eq (BitVec.ofNat 32 i) 7#32) a b = if i = 7 then a else b := by
  interval_cases i <;> rfl

/-- The shift by one time, of a block read as 32 rows of 8. -/
theorem shift1 (U : Fin 256 → EReal) (c : Fin 1 → Fin 8 → EReal) (p : Fin 256)
    (h0 : p.val / 8 < 31 → (1 + p.val / 8) * 8 + p.val % 8 < 256) (h1 : ¬ p.val / 8 < 31 → p.val / 8 - 31 < 1)
    (h2 : ¬ p.val / 8 < 31 → p.val % 8 < 8) (h3 : ¬ p.val / 8 < 31 → (p.val / 8 - 31) * 8 + (p.val % 8 + 8 - 7) % 8 < 256) :
    (if h : p.val / 8 < 31 then U ⟨(1 + p.val / 8) * 8 + p.val % 8, h0 h⟩
      else Scalar.select (IntOp.cmpi .eq (BitVec.ofNat 32 (p.val % 8)) 7#32) (c ⟨p.val / 8 - 31, h1 h⟩ ⟨p.val % 8, h2 h⟩)
          (U ⟨(p.val / 8 - 31) * 8 + (p.val % 8 + 8 - 7) % 8, h3 h⟩)) = aft1 U (c 0 7) p := by
  split
  · rw [aft1, if_neg (by omega), next, if_pos (by omega)]
    exact congrArg U (Fin.ext (by simp only []; omega))
  · rename_i h
    rw [select_last _ _ _ (h2 h), aft1]
    by_cases h4 : p.val = 255
    · rw [if_pos (by omega), if_pos h4]
      exact congrArg₂ c (Fin.ext (by simp only [Fin.val_zero]; omega)) (Fin.ext (by show p.val % 8 = 7; omega))
    · rw [if_neg (by omega), if_neg h4, next, if_neg (by omega)]
      exact congrArg U (Fin.ext (by simp only []; omega))

theorem next_next : ∀ p : Fin 256, (next (next p)).val =
    if p.val < 240 then p.val + 16 else (p.val / 8 - 30) * 8 + (p.val % 8 + 1) % 16 := by decide +kernel

/-- The shift by two times, of a block read as 32 rows of 8. -/
theorem shift2 (U : Fin 256 → EReal) (c : Fin 2 → Fin 8 → EReal) (p : Fin 256)
    (h0 : p.val / 8 < 30 → (2 + p.val / 8) * 8 + p.val % 8 < 256) (h1 : ¬ p.val / 8 < 30 → p.val / 8 - 30 < 2)
    (h2 : ¬ p.val / 8 < 30 → p.val % 8 < 8) (h3 : ¬ p.val / 8 < 30 → (p.val / 8 - 30) * 8 + (p.val % 8 + 8 - 7) % 8 < 256) :
    (if h : p.val / 8 < 30 then U ⟨(2 + p.val / 8) * 8 + p.val % 8, h0 h⟩
      else Scalar.select (IntOp.cmpi .eq (BitVec.ofNat 32 (p.val % 8)) 7#32) (c ⟨p.val / 8 - 30, h1 h⟩ ⟨p.val % 8, h2 h⟩)
          (U ⟨(p.val / 8 - 30) * 8 + (p.val % 8 + 8 - 7) % 8, h3 h⟩)) = aft2 U (c 0 7) (c 1 7) p := by
  have h5 := next_next p
  split
  · rw [if_pos (by omega)] at h5
    rw [aft2, if_neg (by omega), if_neg (by omega)]
    exact congrArg U (Fin.ext (by simp only [h5]; omega))
  · rename_i h
    rw [if_neg (by omega)] at h5
    rw [select_last _ _ _ (h2 h), aft2]
    by_cases h4 : p.val = 247
    · rw [if_pos (by omega), if_pos h4]
      exact congrArg₂ c (Fin.ext (by simp only [Fin.val_zero]; omega)) (Fin.ext (by show p.val % 8 = 7; omega))
    by_cases h6 : p.val = 255
    · rw [if_pos (by omega), if_neg h4, if_pos h6]
      exact congrArg₂ c (Fin.ext (by simp only [Fin.val_one]; omega)) (Fin.ext (by show p.val % 8 = 7; omega))
    · rw [if_neg (by omega), if_neg h4, if_neg h6]
      exact congrArg U (Fin.ext (by simp only [h5]; omega))

/-- The transposed convolution of a column, from the column itself and its values one and two times later. -/
abbrev mix (w0 w1 w2 u u1 u2 : EReal) : EReal := w2 * u + w1 * u1 + w0 * u2

section slabA

/-! The first slab of gate columns. -/

variable (v7 : FVec Ideal S256x1024 .bf16) (v35 : FVec Ideal S256x1536 .f32) (v36 : Vec Ideal S1536x1024 .bf16) (v38 : Vec Ideal S256x1536 .bf16) (c1 : Vec Ideal S1x8x1536 .f32) (c2 : Vec Ideal S2x8x1536 .f32) (f0 f1 f2 : Vec Ideal S1x1536 .f32)
  (u : Vec Ideal S256x1536 .bf16) (o : Vec Ideal S1x1536 .f32)

theorem oneA (p : Fin 256) (j : Fin 1536) : k0_pay21 (F := Ideal) v7 v35 v36 zeroA v38 c1 (ix2 p j) = aft1 (fun p => (k0_pay14 (F := Ideal) v7 v35 v36 zeroA v38) (ix2 p j)) (c1 (ix3 0 7 j)) p := by
  pointwise [k0_pay21, k0_pay20, k0_pay19]
  exact shift1 (fun p => (k0_pay14 (F := Ideal) v7 v35 v36 zeroA v38) (ix2 p j)) (fun a b => c1 (ix3 a b j)) p _ _ _ _

theorem twoA (p : Fin 256) (j : Fin 1536) : k0_pay25 (F := Ideal) v7 v35 v36 zeroA v38 c2 (ix2 p j) = aft2 (fun p => (k0_pay14 (F := Ideal) v7 v35 v36 zeroA v38) (ix2 p j)) (c2 (ix3 0 7 j)) (c2 (ix3 1 7 j)) p := by
  pointwise [k0_pay25, k0_pay24, k0_pay23]
  exact shift2 (fun p => (k0_pay14 (F := Ideal) v7 v35 v36 zeroA v38) (ix2 p j)) (fun a b => c2 (ix3 a b j)) p _ _ _ _

theorem lateOneA (j : Fin 1536) : k0_pay22 (F := Ideal) v7 v35 v36 zeroA v38 (ix3 0 7 j) = (fun p => (k0_pay14 (F := Ideal) v7 v35 v36 zeroA v38) (ix2 p j)) 0 := by
  pointwise [k0_pay21, k0_pay20, k0_pay19, k0_pay22]
  first | done | rfl

theorem lateTwoA (i : Fin 2) (j : Fin 1536) : k0_pay26 (F := Ideal) (k0_pay24 v7 v35 v36 zeroA v38) (ix3 i 7 j) = (fun p => (k0_pay14 (F := Ideal) v7 v35 v36 zeroA v38) (ix2 p j)) ⟨i.val * 8, by omega⟩ := by
  pointwise [k0_pay25, k0_pay24, k0_pay23, k0_pay26]
  first | done | rfl

theorem mixA (p : Fin 256) (j : Fin 1536) :
    k0_pay27 (F := Ideal) (k0_pay14 (F := Ideal) v7 v35 v36 zeroA v38) (k0_pay16 f0) (k0_pay17 f1) (k0_pay18 f2) (k0_pay21 (F := Ideal) v7 v35 v36 zeroA v38 c1) (k0_pay25 (F := Ideal) v7 v35 v36 zeroA v38 c2) (ix2 p j)
      = mix (f0 (ix2 0 j)) (f1 (ix2 0 j)) (f2 (ix2 0 j)) ((k0_pay14 (F := Ideal) v7 v35 v36 zeroA v38) (ix2 p j)) (k0_pay21 (F := Ideal) v7 v35 v36 zeroA v38 c1 (ix2 p j)) (k0_pay25 (F := Ideal) v7 v35 v36 zeroA v38 c2 (ix2 p j)) := by
  pointwise [k0_pay27, k0_pay16, k0_pay17, k0_pay18]
  first | done | rfl

theorem bA (j : Fin 1536) : k0_pay29 (F := Ideal) (k0_pay14 (F := Ideal) v7 v35 v36 zeroA v38) o (ix2 0 j) = o (ix2 0 j) + ∑ p : Fin 256, (k0_pay14 (F := Ideal) v7 v35 v36 zeroA v38) (ix2 p j) := by
  pointwise [k0_pay29]
  first | done | rfl

theorem w2A (j : Fin 1536) : k0_pay30 (F := Ideal) (k0_pay14 (F := Ideal) v7 v35 v36 zeroA v38) u o (ix2 0 j) = o (ix2 0 j) + ∑ p : Fin 256, (k0_pay14 (F := Ideal) v7 v35 v36 zeroA v38) (ix2 p j) * u (ix2 p j) := by
  pointwise [k0_pay30, k0_pay28]
  first | done | rfl

theorem w1A (j : Fin 1536) : k0_pay31 (F := Ideal) (k0_pay21 (F := Ideal) v7 v35 v36 zeroA v38 c1) u o (ix2 0 j) = o (ix2 0 j) + ∑ p : Fin 256, (k0_pay21 (F := Ideal) v7 v35 v36 zeroA v38 c1) (ix2 p j) * u (ix2 p j) := by
  pointwise [k0_pay31, k0_pay28]
  first | done | rfl

theorem w0A (j : Fin 1536) : k0_pay32 (F := Ideal) (k0_pay25 (F := Ideal) v7 v35 v36 zeroA v38 c2) (k0_pay28 u) o (ix2 0 j) = o (ix2 0 j) + ∑ p : Fin 256, (k0_pay25 (F := Ideal) v7 v35 v36 zeroA v38 c2) (ix2 p j) * u (ix2 p j) := by
  pointwise [k0_pay32, k0_pay28]
  first | done | rfl

end slabA

section slabB

/-! The first slab of value columns. -/

variable (g : FVec Ideal S256x1536 .f32) (c1 : Vec Ideal S1x8x1536 .f32) (c2 : Vec Ideal S2x8x1536 .f32) (f0 f1 f2 : Vec Ideal S1x1536 .f32)
  (u : Vec Ideal S256x1536 .bf16) (o : Vec Ideal S1x1536 .f32)

theorem oneB (p : Fin 256) (j : Fin 1536) : k0_pay40 (F := Ideal) g c1 (ix2 p j) = aft1 (fun p => (g) (ix2 p j)) (c1 (ix3 0 7 j)) p := by
  pointwise [k0_pay40, k0_pay39, k0_pay38]
  exact shift1 (fun p => (g) (ix2 p j)) (fun a b => c1 (ix3 a b j)) p _ _ _ _

theorem twoB (p : Fin 256) (j : Fin 1536) : k0_pay44 (F := Ideal) g c2 (ix2 p j) = aft2 (fun p => (g) (ix2 p j)) (c2 (ix3 0 7 j)) (c2 (ix3 1 7 j)) p := by
  pointwise [k0_pay44, k0_pay43, k0_pay42]
  exact shift2 (fun p => (g) (ix2 p j)) (fun a b => c2 (ix3 a b j)) p _ _ _ _

theorem lateOneB (j : Fin 1536) : k0_pay41 (F := Ideal) g (ix3 0 7 j) = (fun p => (g) (ix2 p j)) 0 := by
  pointwise [k0_pay40, k0_pay39, k0_pay38, k0_pay41]
  first | done | rfl

theorem lateTwoB (i : Fin 2) (j : Fin 1536) : k0_pay45 (F := Ideal) g (ix3 i 7 j) = (fun p => (g) (ix2 p j)) ⟨i.val * 8, by omega⟩ := by
  pointwise [k0_pay44, k0_pay43, k0_pay42, k0_pay45]
  first | done | rfl

theorem mixB (p : Fin 256) (j : Fin 1536) :
    k0_pay46 (F := Ideal) g (k0_pay35 f0) (k0_pay36 f1) (k0_pay37 f2) (k0_pay40 g c1) c2 (ix2 p j)
      = mix (f0 (ix2 0 j)) (f1 (ix2 0 j)) (f2 (ix2 0 j)) ((g) (ix2 p j)) (k0_pay40 (F := Ideal) g c1 (ix2 p j)) (k0_pay44 (F := Ideal) g c2 (ix2 p j)) := by
  pointwise [k0_pay46, k0_pay35, k0_pay36, k0_pay37]
  first | done | rfl

theorem bB (j : Fin 1536) : k0_pay48 (F := Ideal) g o (ix2 0 j) = o (ix2 0 j) + ∑ p : Fin 256, g (ix2 p j) := by
  pointwise [k0_pay48]
  first | done | rfl

theorem w2B (j : Fin 1536) : k0_pay49 (F := Ideal) g u o (ix2 0 j) = o (ix2 0 j) + ∑ p : Fin 256, g (ix2 p j) * u (ix2 p j) := by
  pointwise [k0_pay49, k0_pay47]
  first | done | rfl

theorem w1B (j : Fin 1536) : k0_pay50 (F := Ideal) (k0_pay40 (F := Ideal) g c1) (k0_pay47 u) o (ix2 0 j) = o (ix2 0 j) + ∑ p : Fin 256, (k0_pay40 (F := Ideal) g c1) (ix2 p j) * u (ix2 p j) := by
  pointwise [k0_pay50, k0_pay47]
  first | done | rfl

theorem w0B (j : Fin 1536) : k0_pay51 (F := Ideal) (k0_pay44 (F := Ideal) g c2) (k0_pay47 u) o (ix2 0 j) = o (ix2 0 j) + ∑ p : Fin 256, (k0_pay44 (F := Ideal) g c2) (ix2 p j) * u (ix2 p j) := by
  pointwise [k0_pay51, k0_pay47]
  first | done | rfl

end slabB

section slabC

/-! The second slab of gate columns. -/

variable (v7 : FVec Ideal S256x1024 .bf16) (v201 v209 v211 v214 : FVec Ideal S256x1280 .f32) (v225 : Vec Ideal S1280x1024 .bf16)
  (v227 : Vec Ideal S256x1280 .bf16) (c1 : Vec Ideal S1x8x1280 .f32) (c2 : Vec Ideal S2x8x1280 .f32) (f0 f1 f2 : Vec Ideal S1x1280 .f32)
  (u : Vec Ideal S256x1280 .bf16) (o : Vec Ideal S1x1280 .f32)

theorem oneC (p : Fin 256) (j : Fin 1280) : k0_pay68 (F := Ideal) v7 v201 v209 v211 v214 two v225 v227 c1 (ix2 p j) = aft1 (fun p => (k0_pay61 (F := Ideal) v7 v201 v209 v211 v214 two v225 v227) (ix2 p j)) (c1 (ix3 0 7 j)) p := by
  pointwise [k0_pay68, k0_pay67, k0_pay66]
  exact shift1 (fun p => (k0_pay61 (F := Ideal) v7 v201 v209 v211 v214 two v225 v227) (ix2 p j)) (fun a b => c1 (ix3 a b j)) p _ _ _ _

theorem twoC (p : Fin 256) (j : Fin 1280) : k0_pay72 (F := Ideal) (k0_pay61 (F := Ideal) v7 v201 v209 v211 v214 two v225 v227) c2 (ix2 p j) = aft2 (fun p => (k0_pay61 (F := Ideal) v7 v201 v209 v211 v214 two v225 v227) (ix2 p j)) (c2 (ix3 0 7 j)) (c2 (ix3 1 7 j)) p := by
  pointwise [k0_pay72, k0_pay71, k0_pay70]
  exact shift2 (fun p => (k0_pay61 (F := Ideal) v7 v201 v209 v211 v214 two v225 v227) (ix2 p j)) (fun a b => c2 (ix3 a b j)) p _ _ _ _

theorem lateOneC (j : Fin 1280) : k0_pay69 (F := Ideal) v7 v201 v209 v211 v214 two v225 v227 (ix3 0 7 j) = (fun p => (k0_pay61 (F := Ideal) v7 v201 v209 v211 v214 two v225 v227) (ix2 p j)) 0 := by
  pointwise [k0_pay68, k0_pay67, k0_pay66, k0_pay69]
  first | done | rfl

theorem lateTwoC (i : Fin 2) (j : Fin 1280) : k0_pay73 (F := Ideal) (k0_pay61 (F := Ideal) v7 v201 v209 v211 v214 two v225 v227) (ix3 i 7 j) = (fun p => (k0_pay61 (F := Ideal) v7 v201 v209 v211 v214 two v225 v227) (ix2 p j)) ⟨i.val * 8, by omega⟩ := by
  pointwise [k0_pay72, k0_pay71, k0_pay70, k0_pay73]
  first | done | rfl

theorem mixC (p : Fin 256) (j : Fin 1280) :
    k0_pay74 (F := Ideal) (k0_pay61 (F := Ideal) v7 v201 v209 v211 v214 two v225 v227) (k0_pay63 f0) (k0_pay64 f1) (k0_pay65 f2) (k0_pay68 (F := Ideal) v7 v201 v209 v211 v214 two v225 v227 c1) c2 (ix2 p j)
      = mix (f0 (ix2 0 j)) (f1 (ix2 0 j)) (f2 (ix2 0 j)) ((k0_pay61 (F := Ideal) v7 v201 v209 v211 v214 two v225 v227) (ix2 p j)) (k0_pay68 (F := Ideal) v7 v201 v209 v211 v214 two v225 v227 c1 (ix2 p j)) (k0_pay72 (F := Ideal) (k0_pay61 (F := Ideal) v7 v201 v209 v211 v214 two v225 v227) c2 (ix2 p j)) := by
  pointwise [k0_pay74, k0_pay63, k0_pay64, k0_pay65]
  first | done | rfl

theorem bC (j : Fin 1280) : k0_pay76 (F := Ideal) (k0_pay61 (F := Ideal) v7 v201 v209 v211 v214 two v225 v227) o (ix2 0 j) = o (ix2 0 j) + ∑ p : Fin 256, (k0_pay61 (F := Ideal) v7 v201 v209 v211 v214 two v225 v227) (ix2 p j) := by
  pointwise [k0_pay76]
  first | done | rfl

theorem w2C (j : Fin 1280) : k0_pay77 (F := Ideal) (k0_pay61 (F := Ideal) v7 v201 v209 v211 v214 two v225 v227) u o (ix2 0 j) = o (ix2 0 j) + ∑ p : Fin 256, (k0_pay61 (F := Ideal) v7 v201 v209 v211 v214 two v225 v227) (ix2 p j) * u (ix2 p j) := by
  pointwise [k0_pay77, k0_pay75]
  first | done | rfl

theorem w1C (j : Fin 1280) : k0_pay78 (F := Ideal) (k0_pay68 (F := Ideal) v7 v201 v209 v211 v214 two v225 v227 c1) (k0_pay75 u) o (ix2 0 j) = o (ix2 0 j) + ∑ p : Fin 256, (k0_pay68 (F := Ideal) v7 v201 v209 v211 v214 two v225 v227 c1) (ix2 p j) * u (ix2 p j) := by
  pointwise [k0_pay78, k0_pay75]
  first | done | rfl

theorem w0C (j : Fin 1280) : k0_pay79 (F := Ideal) (k0_pay72 (F := Ideal) (k0_pay61 (F := Ideal) v7 v201 v209 v211 v214 two v225 v227) c2) (k0_pay75 u) o (ix2 0 j) = o (ix2 0 j) + ∑ p : Fin 256, (k0_pay72 (F := Ideal) (k0_pay61 (F := Ideal) v7 v201 v209 v211 v214 two v225 v227) c2) (ix2 p j) * u (ix2 p j) := by
  pointwise [k0_pay79, k0_pay75]
  first | done | rfl

end slabC

section slabD

/-! The second slab of value columns. -/

variable (g : FVec Ideal S256x1280 .f32) (c1 : Vec Ideal S1x8x1280 .f32) (c2 : Vec Ideal S2x8x1280 .f32) (f0 f1 f2 : Vec Ideal S1x1280 .f32)
  (u : Vec Ideal S256x1280 .bf16) (o : Vec Ideal S1x1280 .f32)

theorem oneD (p : Fin 256) (j : Fin 1280) : k0_pay88 (F := Ideal) c1 (k0_pay86 g) (iota .tc S1x8x1280 32 [1] iota_S1x8x1280_d1_w32) (k0_pay87 g) (ix2 p j) = aft1 (fun p => (g) (ix2 p j)) (c1 (ix3 0 7 j)) p := by
  pointwise [k0_pay88, k0_pay87, k0_pay86, k0_pay85]
  exact shift1 (fun p => (g) (ix2 p j)) (fun a b => c1 (ix3 a b j)) p _ _ _ _

theorem twoD (p : Fin 256) (j : Fin 1280) : k0_pay92 (F := Ideal) g c2 (ix2 p j) = aft2 (fun p => (g) (ix2 p j)) (c2 (ix3 0 7 j)) (c2 (ix3 1 7 j)) p := by
  pointwise [k0_pay92, k0_pay91, k0_pay90]
  exact shift2 (fun p => (g) (ix2 p j)) (fun a b => c2 (ix3 a b j)) p _ _ _ _

theorem lateOneD (j : Fin 1280) : k0_pay89 (F := Ideal) (k0_pay86 g) (ix3 0 7 j) = (fun p => (g) (ix2 p j)) 0 := by
  pointwise [k0_pay88, k0_pay87, k0_pay86, k0_pay85, k0_pay89]
  first | done | rfl

theorem lateTwoD (i : Fin 2) (j : Fin 1280) : k0_pay93 (F := Ideal) g (ix3 i 7 j) = (fun p => (g) (ix2 p j)) ⟨i.val * 8, by omega⟩ := by
  pointwise [k0_pay92, k0_pay91, k0_pay90, k0_pay93]
  first | done | rfl

theorem mixD (p : Fin 256) (j : Fin 1280) :
    k0_pay94 (F := Ideal) g (k0_pay82 f0) (k0_pay83 f1) (k0_pay84 f2) c1 (k0_pay86 g) (iota .tc S1x8x1280 32 [1] iota_S1x8x1280_d1_w32) (k0_pay87 g) c2 (ix2 p j)
      = mix (f0 (ix2 0 j)) (f1 (ix2 0 j)) (f2 (ix2 0 j)) ((g) (ix2 p j)) (k0_pay88 (F := Ideal) c1 (k0_pay86 g) (iota .tc S1x8x1280 32 [1] iota_S1x8x1280_d1_w32) (k0_pay87 g) (ix2 p j)) (k0_pay92 (F := Ideal) g c2 (ix2 p j)) := by
  pointwise [k0_pay94, k0_pay82, k0_pay83, k0_pay84]
  first | done | rfl

theorem bD (j : Fin 1280) : k0_pay96 (F := Ideal) g o (ix2 0 j) = o (ix2 0 j) + ∑ p : Fin 256, g (ix2 p j) := by
  pointwise [k0_pay96]
  first | done | rfl

theorem w2D (j : Fin 1280) : k0_pay97 (F := Ideal) g (k0_pay95 u) o (ix2 0 j) = o (ix2 0 j) + ∑ p : Fin 256, g (ix2 p j) * u (ix2 p j) := by
  pointwise [k0_pay97, k0_pay95]
  first | done | rfl

theorem w1D (j : Fin 1280) : k0_pay98 (F := Ideal) (k0_pay88 (F := Ideal) c1 (k0_pay86 g) (iota .tc S1x8x1280 32 [1] iota_S1x8x1280_d1_w32) (k0_pay87 g)) (k0_pay95 u) o (ix2 0 j) = o (ix2 0 j) + ∑ p : Fin 256, (k0_pay88 (F := Ideal) c1 (k0_pay86 g) (iota .tc S1x8x1280 32 [1] iota_S1x8x1280_d1_w32) (k0_pay87 g)) (ix2 p j) * u (ix2 p j) := by
  pointwise [k0_pay98, k0_pay95]
  first | done | rfl

theorem w0D (j : Fin 1280) : k0_pay99 (F := Ideal) (k0_pay92 (F := Ideal) g c2) (k0_pay95 u) o (ix2 0 j) = o (ix2 0 j) + ∑ p : Fin 256, (k0_pay92 (F := Ideal) g c2) (ix2 p j) * u (ix2 p j) := by
  pointwise [k0_pay99, k0_pay95]
  first | done | rfl

end slabD

/-! The four slabs of the product with the up weight, rounded to the storage type on the way, which is no change here. -/

section up

variable (h : FVec Ideal S256x1024 .f32) (p : Fin 256) (q : Fin 1024)

theorem hA (y : FVec Ideal S256x1536 .f32) (w : Vec Ideal S1024x1536 .bf16) :
    k0_pay34 (F := Ideal) k0_pay6 y w (ix2 p q) = 0 + ∑ j : Fin 1536, y (ix2 p j) * w (ix2 q j) := by
  pointwise! [k0_pay34, k0_pay33, k0_pay6]

theorem hB (y : FVec Ideal S256x1536 .f32) (w : Vec Ideal S1024x1536 .bf16) :
    k0_pay53 (F := Ideal) h y w (ix2 p q) = h (ix2 p q) + ∑ j : Fin 1536, y (ix2 p j) * w (ix2 q j) := by
  pointwise! [k0_pay53, k0_pay52]

theorem hC (y : FVec Ideal S256x1280 .f32) (w : Vec Ideal S1024x1280 .bf16) :
    k0_pay81 (F := Ideal) h y w (ix2 p q) = h (ix2 p q) + ∑ j : Fin 1280, y (ix2 p j) * w (ix2 q j) := by
  pointwise! [k0_pay81, k0_pay80]

theorem hD (y : FVec Ideal S256x1280 .f32) (w : Vec Ideal S1024x1280 .bf16) :
    k0_pay101 (F := Ideal) h y w (ix2 p q) = h (ix2 p q) + ∑ j : Fin 1280, y (ix2 p j) * w (ix2 q j) := by
  pointwise! [k0_pay101, k0_pay100]

end up

/-! The norm before the network and the vector gradients. -/

section norm

variable (h : FVec Ideal S256x1024 .f32) (x : Vec Ideal S256x1024 .f32) (gp sc o : Vec Ideal S1x1024 .f32)

theorem root104 (p : Fin 256) : k0_pay104 (F := Ideal) (k0_pay103 x) len (ix2 p 0) = rms (fun p k => x (ix2 p k)) p := by
  pointwise [k0_pay104, k0_pay103, k0_pay102]
  rfl

theorem norm105 (p : Fin 256) (q : Fin 1024) :
    k0_pay105 (F := Ideal) (k0_pay102 x) (k0_pay103 x) len (ix2 p q) = x (ix2 p q) * rms (fun p k => x (ix2 p k)) p := by
  pointwise [k0_pay105, k0_pay104, k0_pay103, k0_pay102]
  rfl

theorem back1 (r : FVec Ideal S256x1 .f32) (n : FVec Ideal S256x1024 .f32) (p : Fin 256) (q : Fin 1024) :
    k0_pay1 (F := Ideal) h r n (k0_pay112 x) (k0_pay113 gp sc) (ix2 p q)
      = x (ix2 p q) + r (ix2 p 0) * (h (ix2 p q) * (gp (ix2 0 q) * (1 + sc (ix2 0 q)))
          - n (ix2 p q) * Ideal.div (∑ l : Fin 1024, h (ix2 p l) * (gp (ix2 0 l) * (1 + sc (ix2 0 l))) * n (ix2 p l))
              (Ideal.ofBits .f32 0x44800000#32)) := by
  pointwise [k0_pay1, k0_pay112, k0_pay113, k0_pay106, k0_pay107]

theorem v108 (q : Fin 1024) : k0_pay108 (F := Ideal) h o (ix2 0 q) = o (ix2 0 q) + ∑ p : Fin 256, h (ix2 p q) := by
  pointwise [k0_pay108]

theorem v110 (r : FVec Ideal S256x1 .f32) (q : Fin 1024) : k0_pay110 (F := Ideal) h (k0_pay102 x) r len gp o (ix2 0 q)
    = o (ix2 0 q) + (∑ p : Fin 256, h (ix2 p q) * k0_pay105 (F := Ideal) (k0_pay102 x) r len (ix2 p q)) * gp (ix2 0 q) := by
  pointwise [k0_pay110, k0_pay109, k0_pay106]

theorem v111 (r : FVec Ideal S256x1 .f32) (q : Fin 1024) : k0_pay111 (F := Ideal) h (k0_pay102 x) r len sc o (ix2 0 q)
    = o (ix2 0 q) + (∑ p : Fin 256, h (ix2 p q) * k0_pay105 (F := Ideal) (k0_pay102 x) r len (ix2 p q)) * (1 + sc (ix2 0 q)) := by
  pointwise [k0_pay111, k0_pay109, k0_pay107]

end norm

/-- The fills are zero. -/
theorem z2 (i : Fin 3) (r : Fin 8) (j : Fin 5632) : k0_pay2 (F := Ideal) (ix3 i r j) = 0 := by pointwise [k0_pay2]
theorem z3 (r : Fin 8) (q : Fin 1024) : k0_pay3 (F := Ideal) (ix2 r q) = 0 := by pointwise [k0_pay3]
theorem z4 (r : Fin 8) (j : Fin 5632) : k0_pay4 (F := Ideal) (ix2 r j) = 0 := by pointwise [k0_pay4]

end Cert.Kernel3Ideal.Bffn

end

end
-- ==== Proof.Bffn.Tile.lean ====
/- One grid point of the kernel: the blocks its stores write, read at an index, as the formulas of the block's rows. -/
module

public import proofs.«01_k».proof.Proof.Bffn.Pay
public import Idealize.ShloMosaic.Lib.Pipeline.ValueKit
public import Idealize.ShloMosaic.Lib.Pipeline.ReadBack
public import Idealize.ShloMosaic.Lib.WholeRead

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

/-- A load through a buffer held whole at `X` loads from `X`. -/
theorem load_held {sp : Space} {s : Shape} {e : EltTy} {a : Memref sig .tc sp s e} (h : a.IsWhole) (X : s.Idx → Elt Ideal e) (r : Rect s) :
    View.readAt (Elt Ideal) a.view r.toLoadRect (h.unread X) = View.ld X r :=
  funext fun i => Memref.IsWhole.readAt_unread h X r.toLoadRect i

theorem ld_all {e : EltTy} (X : Vec Ideal S256x1024 e) :
    View.ld (Val := Elt Ideal) X (Rect.unit (s := S256x1024) ![0, 0] ![256, 1024] inb_S256x1024_S256x1024_0_0) = X := by
  funext i
  rw [eq_ix2 i]
  pointwise

section blocks

variable (x : Ins Ideal) (k : Kept Ideal)

/-! The loads: the slabs of columns of each input, of the weights and of the late rows. -/

abbrev cvA : Vec Ideal S256x1536 .bf16 :=
  View.ld (Val := Elt Ideal) x.conv (Rect.unit (s := S256x5632) ![0, 0] ![256, 1536] inb_S256x5632_S256x1536_0_0)
abbrev upA : Vec Ideal S256x1536 .bf16 :=
  View.ld (Val := Elt Ideal) x.up (Rect.unit (s := S256x5632) ![0, 0] ![256, 1536] inb_S256x5632_S256x1536_0_0)
abbrev f0A : Vec Ideal S1x1536 .f32 :=
  View.ld (Val := Elt Ideal) x.vf (Rect.unit (s := S8x5632) ![0, 0] ![1, 1536] inb_S8x5632_S1x1536_0_0)
abbrev f1A : Vec Ideal S1x1536 .f32 :=
  View.ld (Val := Elt Ideal) x.vf (Rect.unit (s := S8x5632) ![1, 0] ![1, 1536] inb_S8x5632_S1x1536_1_0)
abbrev f2A : Vec Ideal S1x1536 .f32 :=
  View.ld (Val := Elt Ideal) x.vf (Rect.unit (s := S8x5632) ![2, 0] ![1, 1536] inb_S8x5632_S1x1536_2_0)
abbrev wuA : Vec Ideal S1024x1536 .bf16 :=
  View.ld (Val := Elt Ideal) k.wu (Rect.unit (s := S1024x5632) ![0, 0] ![1024, 1536] inb_S1024x5632_S1024x1536_0_0)
abbrev c1A : Vec Ideal S1x8x1536 .f32 :=
  View.ld (Val := Elt Ideal) k.ca (Rect.unit (s := S3x8x5632) ![0, 0, 0] ![1, 8, 1536] inb_S3x8x5632_S1x8x1536_0_0_0)
abbrev c2A : Vec Ideal S2x8x1536 .f32 :=
  View.ld (Val := Elt Ideal) k.ca (Rect.unit (s := S3x8x5632) ![1, 0, 0] ![2, 8, 1536] inb_S3x8x5632_S2x8x1536_1_0_0)
abbrev cvB : Vec Ideal S256x1536 .bf16 :=
  View.ld (Val := Elt Ideal) x.conv (Rect.unit (s := S256x5632) ![0, 2816] ![256, 1536] inb_S256x5632_S256x1536_0_2816)
abbrev upB : Vec Ideal S256x1536 .bf16 :=
  View.ld (Val := Elt Ideal) x.up (Rect.unit (s := S256x5632) ![0, 2816] ![256, 1536] inb_S256x5632_S256x1536_0_2816)
abbrev f0B : Vec Ideal S1x1536 .f32 :=
  View.ld (Val := Elt Ideal) x.vf (Rect.unit (s := S8x5632) ![0, 2816] ![1, 1536] inb_S8x5632_S1x1536_0_2816)
abbrev f1B : Vec Ideal S1x1536 .f32 :=
  View.ld (Val := Elt Ideal) x.vf (Rect.unit (s := S8x5632) ![1, 2816] ![1, 1536] inb_S8x5632_S1x1536_1_2816)
abbrev f2B : Vec Ideal S1x1536 .f32 :=
  View.ld (Val := Elt Ideal) x.vf (Rect.unit (s := S8x5632) ![2, 2816] ![1, 1536] inb_S8x5632_S1x1536_2_2816)
abbrev wuB' : Vec Ideal S1024x1536 .bf16 :=
  View.ld (Val := Elt Ideal) k.wu (Rect.unit (s := S1024x5632) ![0, 2816] ![1024, 1536] inb_S1024x5632_S1024x1536_0_2816)
abbrev c1B : Vec Ideal S1x8x1536 .f32 :=
  View.ld (Val := Elt Ideal) k.ca (Rect.unit (s := S3x8x5632) ![0, 0, 2816] ![1, 8, 1536] inb_S3x8x5632_S1x8x1536_0_0_2816)
abbrev c2B : Vec Ideal S2x8x1536 .f32 :=
  View.ld (Val := Elt Ideal) k.ca (Rect.unit (s := S3x8x5632) ![1, 0, 2816] ![2, 8, 1536] inb_S3x8x5632_S2x8x1536_1_0_2816)
abbrev cvC : Vec Ideal S256x1280 .bf16 :=
  View.ld (Val := Elt Ideal) x.conv (Rect.unit (s := S256x5632) ![0, 1536] ![256, 1280] inb_S256x5632_S256x1280_0_1536)
abbrev upC : Vec Ideal S256x1280 .bf16 :=
  View.ld (Val := Elt Ideal) x.up (Rect.unit (s := S256x5632) ![0, 1536] ![256, 1280] inb_S256x5632_S256x1280_0_1536)
abbrev f0C : Vec Ideal S1x1280 .f32 :=
  View.ld (Val := Elt Ideal) x.vf (Rect.unit (s := S8x5632) ![0, 1536] ![1, 1280] inb_S8x5632_S1x1280_0_1536)
abbrev f1C : Vec Ideal S1x1280 .f32 :=
  View.ld (Val := Elt Ideal) x.vf (Rect.unit (s := S8x5632) ![1, 1536] ![1, 1280] inb_S8x5632_S1x1280_1_1536)
abbrev f2C : Vec Ideal S1x1280 .f32 :=
  View.ld (Val := Elt Ideal) x.vf (Rect.unit (s := S8x5632) ![2, 1536] ![1, 1280] inb_S8x5632_S1x1280_2_1536)
abbrev wuC : Vec Ideal S1024x1280 .bf16 :=
  View.ld (Val := Elt Ideal) k.wu (Rect.unit (s := S1024x5632) ![0, 1536] ![1024, 1280] inb_S1024x5632_S1024x1280_0_1536)
abbrev c1C : Vec Ideal S1x8x1280 .f32 :=
  View.ld (Val := Elt Ideal) k.ca (Rect.unit (s := S3x8x5632) ![0, 0, 1536] ![1, 8, 1280] inb_S3x8x5632_S1x8x1280_0_0_1536)
abbrev c2C : Vec Ideal S2x8x1280 .f32 :=
  View.ld (Val := Elt Ideal) k.ca (Rect.unit (s := S3x8x5632) ![1, 0, 1536] ![2, 8, 1280] inb_S3x8x5632_S2x8x1280_1_0_1536)
abbrev cvD : Vec Ideal S256x1280 .bf16 :=
  View.ld (Val := Elt Ideal) x.conv (Rect.unit (s := S256x5632) ![0, 4352] ![256, 1280] inb_S256x5632_S256x1280_0_4352)
abbrev upD : Vec Ideal S256x1280 .bf16 :=
  View.ld (Val := Elt Ideal) x.up (Rect.unit (s := S256x5632) ![0, 4352] ![256, 1280] inb_S256x5632_S256x1280_0_4352)
abbrev f0D : Vec Ideal S1x1280 .f32 :=
  View.ld (Val := Elt Ideal) x.vf (Rect.unit (s := S8x5632) ![0, 4352] ![1, 1280] inb_S8x5632_S1x1280_0_4352)
abbrev f1D : Vec Ideal S1x1280 .f32 :=
  View.ld (Val := Elt Ideal) x.vf (Rect.unit (s := S8x5632) ![1, 4352] ![1, 1280] inb_S8x5632_S1x1280_1_4352)
abbrev f2D : Vec Ideal S1x1280 .f32 :=
  View.ld (Val := Elt Ideal) x.vf (Rect.unit (s := S8x5632) ![2, 4352] ![1, 1280] inb_S8x5632_S1x1280_2_4352)
abbrev wuD : Vec Ideal S1024x1280 .bf16 :=
  View.ld (Val := Elt Ideal) k.wu (Rect.unit (s := S1024x5632) ![0, 4352] ![1024, 1280] inb_S1024x5632_S1024x1280_0_4352)
abbrev c1D : Vec Ideal S1x8x1280 .f32 :=
  View.ld (Val := Elt Ideal) k.ca (Rect.unit (s := S3x8x5632) ![0, 0, 4352] ![1, 8, 1280] inb_S3x8x5632_S1x8x1280_0_0_4352)
abbrev c2D : Vec Ideal S2x8x1280 .f32 :=
  View.ld (Val := Elt Ideal) k.ca (Rect.unit (s := S3x8x5632) ![1, 0, 4352] ![2, 8, 1280] inb_S3x8x5632_S2x8x1280_1_0_4352)
abbrev wdA : Vec Ideal S1536x1024 .bf16 :=
  View.ld (Val := Elt Ideal) k.wd (Rect.unit (s := S2816x1024) ![0, 0] ![1536, 1024] inb_S2816x1024_S1536x1024_0_0)
abbrev wdC : Vec Ideal S1280x1024 .bf16 :=
  View.ld (Val := Elt Ideal) k.wd (Rect.unit (s := S2816x1024) ![1536, 0] ![1280, 1024] inb_S2816x1024_S1280x1024_1536_0)
abbrev gp : Vec Ideal S1x1024 .f32 :=
  View.ld (Val := Elt Ideal) x.vd (Rect.unit (s := S16x1024) ![8, 0] ![1, 1024] inb_S16x1024_S1x1024_8_0)
abbrev sc : Vec Ideal S1x1024 .f32 :=
  View.ld (Val := Elt Ideal) x.vd (Rect.unit (s := S16x1024) ![4, 0] ![1, 1024] inb_S16x1024_S1x1024_4_0)

/-! The blocks computed: the gradient at the convolved up projection, slab by slab, it one and two times later, the transposed
    convolution, and the product with the up weight as it grows. -/

def GA : FVec Ideal S256x1536 .f32 := k0_pay14 (F := Ideal) (k0_pay5 x.dff) (k0_pay12 (cvA x)) (wdA k) zeroA (cvB x)
def GB : FVec Ideal S256x1536 .f32 := k0_pay15 (F := Ideal) (k0_pay5 x.dff) (k0_pay11 (cvA x)) (wdA k) zeroA
def GC : FVec Ideal S256x1280 .f32 :=
  k0_pay61 (F := Ideal) (k0_pay5 x.dff) (k0_pay55 (cvC x)) (k0_pay56 (cvC x)) (k0_pay57 (cvC x)) (k0_pay59 (cvC x)) two (wdC k) (cvD x)
def GD : FVec Ideal S256x1280 .f32 := k0_pay62 (F := Ideal) (k0_pay5 x.dff) (k0_pay58 (cvC x)) (wdC k)
def OA : FVec Ideal S256x1536 .f32 := k0_pay21 (F := Ideal) (k0_pay5 x.dff) (k0_pay12 (cvA x)) (wdA k) zeroA (cvB x) (c1A k)
def TA : FVec Ideal S256x1536 .f32 := k0_pay25 (F := Ideal) (k0_pay5 x.dff) (k0_pay12 (cvA x)) (wdA k) zeroA (cvB x) (c2A k)
def OB : FVec Ideal S256x1536 .f32 := k0_pay40 (F := Ideal) (GB x k) (c1B k)
def TB : FVec Ideal S256x1536 .f32 := k0_pay44 (F := Ideal) (GB x k) (c2B k)
def OC : FVec Ideal S256x1280 .f32 := k0_pay68 (F := Ideal) (k0_pay5 x.dff) (k0_pay55 (cvC x)) (k0_pay56 (cvC x)) (k0_pay57 (cvC x)) (k0_pay59 (cvC x)) two
  (wdC k) (cvD x) (c1C k)
def TC : FVec Ideal S256x1280 .f32 := k0_pay72 (F := Ideal) (GC x k) (c2C k)
abbrev row8 : IVec S1x8x1280 32 := iota .tc S1x8x1280 32 [1] iota_S1x8x1280_d1_w32
def OD : FVec Ideal S256x1280 .f32 := k0_pay88 (F := Ideal) (c1D k) (k0_pay86 (GD x k)) row8 (k0_pay87 (GD x k))
def TD : FVec Ideal S256x1280 .f32 := k0_pay92 (F := Ideal) (GD x k) (c2D k)
def MA : FVec Ideal S256x1536 .f32 := k0_pay27 (F := Ideal) (GA x k) (k0_pay16 (f0A x)) (k0_pay17 (f1A x)) (k0_pay18 (f2A x)) (OA x k) (TA x k)
def MB : FVec Ideal S256x1536 .f32 :=
  k0_pay46 (F := Ideal) (GB x k) (k0_pay35 (f0B x)) (k0_pay36 (f1B x)) (k0_pay37 (f2B x)) (OB x k) (c2B k)
def MC : FVec Ideal S256x1280 .f32 :=
  k0_pay74 (F := Ideal) (GC x k) (k0_pay63 (f0C x)) (k0_pay64 (f1C x)) (k0_pay65 (f2C x)) (OC x k) (c2C k)
def MD : FVec Ideal S256x1280 .f32 :=
  k0_pay94 (F := Ideal) (GD x k) (k0_pay82 (f0D x)) (k0_pay83 (f1D x)) (k0_pay84 (f2D x)) (c1D k) (k0_pay86 (GD x k)) row8 (k0_pay87 (GD x k)) (c2D k)
def HB : FVec Ideal S256x1024 .f32 := k0_pay53 (F := Ideal) (k0_pay34 k0_pay6 (MA x k) (wuA k)) (MB x k) (wuB' k)
def HC : FVec Ideal S256x1024 .f32 := k0_pay81 (F := Ideal) (HB x k) (MC x k) (wuC k)
def HD : FVec Ideal S256x1024 .f32 := k0_pay101 (F := Ideal) (HC x k) (MD x k) (wuD k)
def DX : FVec Ideal S256x1024 .f32 :=
  k0_pay1 (F := Ideal) (HD x k) (k0_pay104 (k0_pay103 x.x1) len) (k0_pay105 (k0_pay102 x.x1) (k0_pay103 x.x1) len) (k0_pay112 x.dx2)
    (k0_pay113 (gp x) (sc x))

/-! Each at an index. -/

theorem GA_at (p : Fin 256) (j : Fin 1536) : GA x k (ix2 p j) = dy x k ⟨j.val, by omega⟩ p := by
  unfold GA
  refine (gA _ _ _ _ p j).trans ?_
  rw [dy, dif_pos (by simp only []; omega), da]
  refine congrArg₂ (· * ·) (congrArg₂ (· * ·) (Finset.sum_congr rfl fun q _ => congrArg (x.dff (ix2 p q) * ·) ?_) ?_) (congrArg dgelu ?_)
  · pointwise [wdA]
  · pointwise [cvB]
  · pointwise [cvA]

theorem OA_at (p : Fin 256) (j : Fin 1536) : OA x k (ix2 p j) = d1 x k ⟨j.val, by omega⟩ p := by
  unfold OA
  refine (oneA _ _ _ _ _ p j).trans ?_
  rw [d1]
  exact congrArg₂ (aft1 · · p) (funext fun p => GA_at x k p j) (by pointwise [c1A])

theorem TA_at (p : Fin 256) (j : Fin 1536) : TA x k (ix2 p j) = d2 x k ⟨j.val, by omega⟩ p := by
  unfold TA
  refine (twoA _ _ _ _ _ p j).trans ?_
  rw [d2]
  have e : (fun p => GA x k (ix2 p j)) = dy x k ⟨j.val, by omega⟩ := funext fun p => GA_at x k p j
  exact (congrArg (aft2 · _ _ p) e).trans (congrArg₂ (aft2 _ · · p) (by pointwise [c2A]) (by pointwise [c2A]))

theorem MA_at (p : Fin 256) (j : Fin 1536) : MA x k (ix2 p j) = du x k ⟨j.val, by omega⟩ p := by
  refine (show MA x k (ix2 p j) = mix (f0A x (ix2 0 j)) (f1A x (ix2 0 j)) (f2A x (ix2 0 j)) (GA x k (ix2 p j)) (OA x k (ix2 p j)) (TA x k (ix2 p j)) from ?_).trans ?_
  · exact mixA _ _ _ _ _ _ _ _ _ p j
  · rw [GA_at, OA_at, TA_at, du]
    exact congrArg₂ (· + ·) (congrArg₂ (· + ·) (congrArg (· * _) (by pointwise [f2A])) (congrArg (· * _) (by pointwise [f1A]))) (congrArg (· * _) (by pointwise [f0A]))

theorem GB_at (p : Fin 256) (j : Fin 1536) : GB x k (ix2 p j) = dy x k ⟨2816 + j.val, by omega⟩ p := by
  unfold GB
  refine (gB _ _ _ p j).trans ?_
  rw [dy, dif_neg (by simp only []; omega), da]
  refine congrArg₂ (· * ·) (Finset.sum_congr rfl fun q _ => congrArg (x.dff (ix2 p q) * ·) ?_) (congrArg gelu ?_)
  · pointwise [wdA]
  · pointwise [cvA]

theorem OB_at (p : Fin 256) (j : Fin 1536) : OB x k (ix2 p j) = d1 x k ⟨2816 + j.val, by omega⟩ p := by
  unfold OB
  refine (oneB _ _ p j).trans ?_
  rw [d1]
  exact congrArg₂ (aft1 · · p) (funext fun p => GB_at x k p j) (by pointwise [c1B])

theorem TB_at (p : Fin 256) (j : Fin 1536) : TB x k (ix2 p j) = d2 x k ⟨2816 + j.val, by omega⟩ p := by
  unfold TB
  refine (twoB _ _ p j).trans ?_
  rw [d2]
  have e : (fun p => GB x k (ix2 p j)) = dy x k ⟨2816 + j.val, by omega⟩ := funext fun p => GB_at x k p j
  exact (congrArg (aft2 · _ _ p) e).trans (congrArg₂ (aft2 _ · · p) (by pointwise [c2B]) (by pointwise [c2B]))

theorem MB_at (p : Fin 256) (j : Fin 1536) : MB x k (ix2 p j) = du x k ⟨2816 + j.val, by omega⟩ p := by
  refine (show MB x k (ix2 p j) = mix (f0B x (ix2 0 j)) (f1B x (ix2 0 j)) (f2B x (ix2 0 j)) (GB x k (ix2 p j)) (OB x k (ix2 p j)) (TB x k (ix2 p j)) from ?_).trans ?_
  · exact mixB _ _ _ _ _ _ p j
  · rw [GB_at, OB_at, TB_at, du]
    exact congrArg₂ (· + ·) (congrArg₂ (· + ·) (congrArg (· * _) (by pointwise [f2B])) (congrArg (· * _) (by pointwise [f1B]))) (congrArg (· * _) (by pointwise [f0B]))

theorem GC_at (p : Fin 256) (j : Fin 1280) : GC x k (ix2 p j) = dy x k ⟨1536 + j.val, by omega⟩ p := by
  unfold GC
  refine (gC _ _ _ _ p j).trans ?_
  rw [dy, dif_pos (by simp only []; omega), da]
  refine congrArg₂ (· * ·) (congrArg₂ (· * ·) (Finset.sum_congr rfl fun q _ => congrArg (x.dff (ix2 p q) * ·) ?_) ?_) (congrArg dgelu ?_)
  · pointwise [wdC]
  · pointwise [cvD]
    exact congrArg x.conv (congrArg (ix2 p) (Fin.ext (by simp only []; omega)))
  · pointwise [cvC]

theorem OC_at (p : Fin 256) (j : Fin 1280) : OC x k (ix2 p j) = d1 x k ⟨1536 + j.val, by omega⟩ p := by
  unfold OC
  refine (oneC _ _ _ _ _ _ _ _ p j).trans ?_
  rw [d1]
  exact congrArg₂ (aft1 · · p) (funext fun p => GC_at x k p j) (by pointwise [c1C])

theorem TC_at (p : Fin 256) (j : Fin 1280) : TC x k (ix2 p j) = d2 x k ⟨1536 + j.val, by omega⟩ p := by
  unfold TC GC
  refine (twoC _ _ _ _ _ _ _ _ p j).trans ?_
  rw [d2]
  have e : (fun p => GC x k (ix2 p j)) = dy x k ⟨1536 + j.val, by omega⟩ := funext fun p => GC_at x k p j
  exact (congrArg (aft2 · _ _ p) e).trans (congrArg₂ (aft2 _ · · p) (by pointwise [c2C]) (by pointwise [c2C]))

theorem MC_at (p : Fin 256) (j : Fin 1280) : MC x k (ix2 p j) = du x k ⟨1536 + j.val, by omega⟩ p := by
  refine (show MC x k (ix2 p j) = mix (f0C x (ix2 0 j)) (f1C x (ix2 0 j)) (f2C x (ix2 0 j)) (GC x k (ix2 p j)) (OC x k (ix2 p j)) (TC x k (ix2 p j)) from ?_).trans ?_
  · exact mixC _ _ _ _ _ _ _ _ _ _ _ _ p j
  · rw [GC_at, OC_at, TC_at, du]
    exact congrArg₂ (· + ·) (congrArg₂ (· + ·) (congrArg (· * _) (by pointwise [f2C])) (congrArg (· * _) (by pointwise [f1C]))) (congrArg (· * _) (by pointwise [f0C]))

theorem GD_at (p : Fin 256) (j : Fin 1280) : GD x k (ix2 p j) = dy x k ⟨4352 + j.val, by omega⟩ p := by
  unfold GD
  refine (gD _ _ _ p j).trans ?_
  rw [dy, dif_neg (by simp only []; omega), da]
  refine congrArg₂ (· * ·) (Finset.sum_congr rfl fun q _ => congrArg (x.dff (ix2 p q) * ·) ?_) (congrArg gelu ?_)
  · pointwise [wdC]
    exact congrArg k.wd (congrArg (ix2 · q) (Fin.ext (by simp only []; omega)))
  · pointwise [cvC]
    exact congrArg x.conv (congrArg (ix2 p) (Fin.ext (by simp only []; omega)))

theorem OD_at (p : Fin 256) (j : Fin 1280) : OD x k (ix2 p j) = d1 x k ⟨4352 + j.val, by omega⟩ p := by
  unfold OD
  refine (oneD _ _ p j).trans ?_
  rw [d1]
  exact congrArg₂ (aft1 · · p) (funext fun p => GD_at x k p j) (by pointwise [c1D])

theorem TD_at (p : Fin 256) (j : Fin 1280) : TD x k (ix2 p j) = d2 x k ⟨4352 + j.val, by omega⟩ p := by
  unfold TD
  refine (twoD _ _ p j).trans ?_
  rw [d2]
  have e : (fun p => GD x k (ix2 p j)) = dy x k ⟨4352 + j.val, by omega⟩ := funext fun p => GD_at x k p j
  exact (congrArg (aft2 · _ _ p) e).trans (congrArg₂ (aft2 _ · · p) (by pointwise [c2D]) (by pointwise [c2D]))

theorem MD_at (p : Fin 256) (j : Fin 1280) : MD x k (ix2 p j) = du x k ⟨4352 + j.val, by omega⟩ p := by
  refine (show MD x k (ix2 p j) = mix (f0D x (ix2 0 j)) (f1D x (ix2 0 j)) (f2D x (ix2 0 j)) (GD x k (ix2 p j)) (OD x k (ix2 p j)) (TD x k (ix2 p j)) from ?_).trans ?_
  · exact mixD _ _ _ _ _ _ p j
  · rw [GD_at, OD_at, TD_at, du]
    exact congrArg₂ (· + ·) (congrArg₂ (· + ·) (congrArg (· * _) (by pointwise [f2D])) (congrArg (· * _) (by pointwise [f1D]))) (congrArg (· * _) (by pointwise [f0D]))

theorem HD_at (p : Fin 256) (q : Fin 1024) : HD x k (ix2 p q) = dh x k p q := by
  rw [dh]
  refine (hD _ p q _ _).trans (congrArg₂ (· + ·) ((hC _ p q _ _).trans (congrArg₂ (· + ·) ((hB _ p q _ _).trans (congrArg₂ (· + ·)
    ((hA p q _ _).trans (congrArg (0 + ·) (Finset.sum_congr rfl fun j _ => congrArg₂ (· * ·) (MA_at x k p j) ?_)))
    (Finset.sum_congr rfl fun j _ => congrArg₂ (· * ·) (MB_at x k p j) ?_)))
    (Finset.sum_congr rfl fun j _ => congrArg₂ (· * ·) (MC_at x k p j) ?_)))
    (Finset.sum_congr rfl fun j _ => congrArg₂ (· * ·) (MD_at x k p j) ?_))
  · pointwise [wuA]
  · pointwise [wuB']
  · pointwise [wuC]
  · pointwise [wuD]

theorem gp_at (q : Fin 1024) : gp x (ix2 0 q) = x.vd (ix2 8 q) := by pointwise [gp]
theorem sc_at (q : Fin 1024) : sc x (ix2 0 q) = x.vd (ix2 4 q) := by pointwise [sc]

theorem DX_at (p : Fin 256) (q : Fin 1024) : DX x k (ix2 p q) = dx x k p q := by
  refine (back1 _ _ _ _ _ _ p q).trans ?_
  rw [root104, dx]
  simp only [norm105, HD_at, gp_at, sc_at]
  rfl

end blocks

end Cert.Kernel3Ideal.Bffn

end

end
-- ==== Proof.Bffn.Stores.lean ====
/- The stores of the body at a point, buffer by buffer: at a later point, and at the first, where the sums and the late rows are zero and
   the weights are those just copied. -/
module

public import proofs.«01_k».proof.Proof.Bffn.Tile
public import proofs.«01_k».proof.Proof.Common.Rows

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

/-- A load from a buffer that was written whole reads what was written. -/
theorem load_copied {sp : Space} {s : Shape} {e : EltTy} (v : View sig .tc sp s e) (z : s.Idx → Elt Ideal e) (r : Rect s) :
    v.readCov [⟨Rect.whole s, z⟩] r.toLoadRect = View.ld z r := by
  rw [View.readCov_eq_canon']
  funext j
  exact congrFun (Rows.canon_whole z []) _

section lists

variable (x : Ins Ideal) (k : Kept Ideal)

/-- A row of what the two sums hold. -/
abbrev o0D : Vec Ideal S1x1280 .f32 := View.ld (Val := Elt Ideal) k.fo (Rect.unit (s := S8x5632) ![0, 4352] ![1, 1280] inb_S8x5632_S1x1280_0_4352)
abbrev o1D : Vec Ideal S1x1280 .f32 := View.ld (Val := Elt Ideal) k.fo (Rect.unit (s := S8x5632) ![1, 4352] ![1, 1280] inb_S8x5632_S1x1280_1_4352)
abbrev o2D : Vec Ideal S1x1280 .f32 := View.ld (Val := Elt Ideal) k.fo (Rect.unit (s := S8x5632) ![2, 4352] ![1, 1280] inb_S8x5632_S1x1280_2_4352)
abbrev o3D : Vec Ideal S1x1280 .f32 := View.ld (Val := Elt Ideal) k.fo (Rect.unit (s := S8x5632) ![3, 4352] ![1, 1280] inb_S8x5632_S1x1280_3_4352)
abbrev o0C : Vec Ideal S1x1280 .f32 := View.ld (Val := Elt Ideal) k.fo (Rect.unit (s := S8x5632) ![0, 1536] ![1, 1280] inb_S8x5632_S1x1280_0_1536)
abbrev o1C : Vec Ideal S1x1280 .f32 := View.ld (Val := Elt Ideal) k.fo (Rect.unit (s := S8x5632) ![1, 1536] ![1, 1280] inb_S8x5632_S1x1280_1_1536)
abbrev o2C : Vec Ideal S1x1280 .f32 := View.ld (Val := Elt Ideal) k.fo (Rect.unit (s := S8x5632) ![2, 1536] ![1, 1280] inb_S8x5632_S1x1280_2_1536)
abbrev o3C : Vec Ideal S1x1280 .f32 := View.ld (Val := Elt Ideal) k.fo (Rect.unit (s := S8x5632) ![3, 1536] ![1, 1280] inb_S8x5632_S1x1280_3_1536)
abbrev o0B : Vec Ideal S1x1536 .f32 := View.ld (Val := Elt Ideal) k.fo (Rect.unit (s := S8x5632) ![0, 2816] ![1, 1536] inb_S8x5632_S1x1536_0_2816)
abbrev o1B : Vec Ideal S1x1536 .f32 := View.ld (Val := Elt Ideal) k.fo (Rect.unit (s := S8x5632) ![1, 2816] ![1, 1536] inb_S8x5632_S1x1536_1_2816)
abbrev o2B : Vec Ideal S1x1536 .f32 := View.ld (Val := Elt Ideal) k.fo (Rect.unit (s := S8x5632) ![2, 2816] ![1, 1536] inb_S8x5632_S1x1536_2_2816)
abbrev o3B : Vec Ideal S1x1536 .f32 := View.ld (Val := Elt Ideal) k.fo (Rect.unit (s := S8x5632) ![3, 2816] ![1, 1536] inb_S8x5632_S1x1536_3_2816)
abbrev o0A : Vec Ideal S1x1536 .f32 := View.ld (Val := Elt Ideal) k.fo (Rect.unit (s := S8x5632) ![0, 0] ![1, 1536] inb_S8x5632_S1x1536_0_0)
abbrev o1A : Vec Ideal S1x1536 .f32 := View.ld (Val := Elt Ideal) k.fo (Rect.unit (s := S8x5632) ![1, 0] ![1, 1536] inb_S8x5632_S1x1536_1_0)
abbrev o2A : Vec Ideal S1x1536 .f32 := View.ld (Val := Elt Ideal) k.fo (Rect.unit (s := S8x5632) ![2, 0] ![1, 1536] inb_S8x5632_S1x1536_2_0)
abbrev o3A : Vec Ideal S1x1536 .f32 := View.ld (Val := Elt Ideal) k.fo (Rect.unit (s := S8x5632) ![3, 0] ![1, 1536] inb_S8x5632_S1x1536_3_0)
abbrev q0 : Vec Ideal S1x1024 .f32 := View.ld (Val := Elt Ideal) k.vo (Rect.unit (s := S8x1024) ![0, 0] ![1, 1024] inb_S8x1024_S1x1024_0_0)
abbrev q1 : Vec Ideal S1x1024 .f32 := View.ld (Val := Elt Ideal) k.vo (Rect.unit (s := S8x1024) ![1, 0] ![1, 1024] inb_S8x1024_S1x1024_1_0)
abbrev q2 : Vec Ideal S1x1024 .f32 := View.ld (Val := Elt Ideal) k.vo (Rect.unit (s := S8x1024) ![2, 0] ![1, 1024] inb_S8x1024_S1x1024_2_0)

/-- The stores into each buffer, the newest first. -/
def dxL : List (View.Piece (Elt Ideal) S256x1024 .f32) :=
  [⟨Rect.unit (s := S256x1024) ![0, 0] ![256, 1024] inb_S256x1024_S256x1024_0_0, DX x k⟩]

def dupL : List (View.Piece (Elt Ideal) S256x5632 .bf16) :=
  [⟨Rect.unit (s := S256x5632) ![0, 4352] ![256, 1280] inb_S256x5632_S256x1280_0_4352, k0_pay100 (F := Ideal) (MD x k)⟩,
    ⟨Rect.unit (s := S256x5632) ![0, 1536] ![256, 1280] inb_S256x5632_S256x1280_0_1536, k0_pay80 (F := Ideal) (MC x k)⟩,
    ⟨Rect.unit (s := S256x5632) ![0, 2816] ![256, 1536] inb_S256x5632_S256x1536_0_2816, k0_pay52 (F := Ideal) (MB x k)⟩,
    ⟨Rect.unit (s := S256x5632) ![0, 0] ![256, 1536] inb_S256x5632_S256x1536_0_0, k0_pay33 (F := Ideal) (MA x k)⟩]

def voL : List (View.Piece (Elt Ideal) S8x1024 .f32) :=
  [⟨Rect.unit (s := S8x1024) ![2, 0] ![1, 1024] inb_S8x1024_S1x1024_2_0, k0_pay111 (F := Ideal) (HD x k) (k0_pay102 x.x1) (k0_pay103 x.x1) len (sc x) (q2 k)⟩,
    ⟨Rect.unit (s := S8x1024) ![1, 0] ![1, 1024] inb_S8x1024_S1x1024_1_0, k0_pay110 (F := Ideal) (HD x k) (k0_pay102 x.x1) (k0_pay103 x.x1) len (gp x) (q1 k)⟩,
    ⟨Rect.unit (s := S8x1024) ![0, 0] ![1, 1024] inb_S8x1024_S1x1024_0_0, k0_pay108 (F := Ideal) (HD x k) (q0 k)⟩]

def foL : List (View.Piece (Elt Ideal) S8x5632 .f32) :=
  [⟨Rect.unit (s := S8x5632) ![0, 4352] ![1, 1280] inb_S8x5632_S1x1280_0_4352, k0_pay99 (F := Ideal) (TD x k) (k0_pay95 (upD x)) (o0D k)⟩,
    ⟨Rect.unit (s := S8x5632) ![1, 4352] ![1, 1280] inb_S8x5632_S1x1280_1_4352, k0_pay98 (F := Ideal) (OD x k) (k0_pay95 (upD x)) (o1D k)⟩,
    ⟨Rect.unit (s := S8x5632) ![2, 4352] ![1, 1280] inb_S8x5632_S1x1280_2_4352, k0_pay97 (F := Ideal) (GD x k) (k0_pay95 (upD x)) (o2D k)⟩,
    ⟨Rect.unit (s := S8x5632) ![3, 4352] ![1, 1280] inb_S8x5632_S1x1280_3_4352, k0_pay96 (F := Ideal) (GD x k) (o3D k)⟩,
    ⟨Rect.unit (s := S8x5632) ![0, 1536] ![1, 1280] inb_S8x5632_S1x1280_0_1536, k0_pay79 (F := Ideal) (TC x k) (k0_pay75 (upC x)) (o0C k)⟩,
    ⟨Rect.unit (s := S8x5632) ![1, 1536] ![1, 1280] inb_S8x5632_S1x1280_1_1536, k0_pay78 (F := Ideal) (OC x k) (k0_pay75 (upC x)) (o1C k)⟩,
    ⟨Rect.unit (s := S8x5632) ![2, 1536] ![1, 1280] inb_S8x5632_S1x1280_2_1536, k0_pay77 (F := Ideal) (GC x k) (upC x) (o2C k)⟩,
    ⟨Rect.unit (s := S8x5632) ![3, 1536] ![1, 1280] inb_S8x5632_S1x1280_3_1536, k0_pay76 (F := Ideal) (GC x k) (o3C k)⟩,
    ⟨Rect.unit (s := S8x5632) ![0, 2816] ![1, 1536] inb_S8x5632_S1x1536_0_2816, k0_pay51 (F := Ideal) (TB x k) (k0_pay47 (upB x)) (o0B k)⟩,
    ⟨Rect.unit (s := S8x5632) ![1, 2816] ![1, 1536] inb_S8x5632_S1x1536_1_2816, k0_pay50 (F := Ideal) (OB x k) (k0_pay47 (upB x)) (o1B k)⟩,
    ⟨Rect.unit (s := S8x5632) ![2, 2816] ![1, 1536] inb_S8x5632_S1x1536_2_2816, k0_pay49 (F := Ideal) (GB x k) (upB x) (o2B k)⟩,
    ⟨Rect.unit (s := S8x5632) ![3, 2816] ![1, 1536] inb_S8x5632_S1x1536_3_2816, k0_pay48 (F := Ideal) (GB x k) (o3B k)⟩,
    ⟨Rect.unit (s := S8x5632) ![0, 0] ![1, 1536] inb_S8x5632_S1x1536_0_0, k0_pay32 (F := Ideal) (TA x k) (k0_pay28 (upA x)) (o0A k)⟩,
    ⟨Rect.unit (s := S8x5632) ![1, 0] ![1, 1536] inb_S8x5632_S1x1536_1_0, k0_pay31 (F := Ideal) (OA x k) (upA x) (o1A k)⟩,
    ⟨Rect.unit (s := S8x5632) ![2, 0] ![1, 1536] inb_S8x5632_S1x1536_2_0, k0_pay30 (F := Ideal) (GA x k) (upA x) (o2A k)⟩,
    ⟨Rect.unit (s := S8x5632) ![3, 0] ![1, 1536] inb_S8x5632_S1x1536_3_0, k0_pay29 (F := Ideal) (GA x k) (o3A k)⟩]

def caL : List (View.Piece (Elt Ideal) S3x8x5632 .f32) :=
  [⟨Rect.unit (s := S3x8x5632) ![1, 0, 4352] ![2, 8, 1280] inb_S3x8x5632_S2x8x1280_1_0_4352, k0_pay93 (F := Ideal) (GD x k)⟩,
    ⟨Rect.unit (s := S3x8x5632) ![0, 0, 4352] ![1, 8, 1280] inb_S3x8x5632_S1x8x1280_0_0_4352, k0_pay89 (F := Ideal) (k0_pay86 (GD x k))⟩,
    ⟨Rect.unit (s := S3x8x5632) ![1, 0, 1536] ![2, 8, 1280] inb_S3x8x5632_S2x8x1280_1_0_1536, k0_pay73 (F := Ideal) (GC x k)⟩,
    ⟨Rect.unit (s := S3x8x5632) ![0, 0, 1536] ![1, 8, 1280] inb_S3x8x5632_S1x8x1280_0_0_1536, k0_pay69 (F := Ideal) (k0_pay5 x.dff) (k0_pay55 (cvC x)) (k0_pay56 (cvC x)) (k0_pay57 (cvC x)) (k0_pay59 (cvC x)) two (wdC k) (cvD x)⟩,
    ⟨Rect.unit (s := S3x8x5632) ![1, 0, 2816] ![2, 8, 1536] inb_S3x8x5632_S2x8x1536_1_0_2816, k0_pay45 (F := Ideal) (GB x k)⟩,
    ⟨Rect.unit (s := S3x8x5632) ![0, 0, 2816] ![1, 8, 1536] inb_S3x8x5632_S1x8x1536_0_0_2816, k0_pay41 (F := Ideal) (GB x k)⟩,
    ⟨Rect.unit (s := S3x8x5632) ![1, 0, 0] ![2, 8, 1536] inb_S3x8x5632_S2x8x1536_1_0_0, k0_pay26 (F := Ideal) (k0_pay24 (k0_pay5 x.dff) (k0_pay12 (cvA x)) (wdA k) zeroA (cvB x))⟩,
    ⟨Rect.unit (s := S3x8x5632) ![0, 0, 0] ![1, 8, 1536] inb_S3x8x5632_S1x8x1536_0_0_0, k0_pay22 (F := Ideal) (k0_pay5 x.dff) (k0_pay12 (cvA x)) (wdA k) zeroA (cvB x)⟩]

end lists

section runs

variable (c : Dev nD) (i : grid0.Coords)
  (a1 : Memref sig .tc .vmem S256x1024 .bf16) (h1 : a1.IsWhole) (a2 : Memref sig .tc .vmem S256x1024 .f32) (h2 : a2.IsWhole)
  (a3 : Memref sig .tc .vmem S256x1024 .f32) (h3 : a3.IsWhole) (a4 : Memref sig .tc .vmem S256x5632 .bf16) (h4 : a4.IsWhole)
  (a5 : Memref sig .tc .vmem S256x5632 .bf16) (h5 : a5.IsWhole) (a6 : Memref sig .tc .vmem S16x1024 .f32) (h6 : a6.IsWhole)
  (a7 : Memref sig .tc .vmem S8x5632 .f32) (h7 : a7.IsWhole) (a10 : Memref sig .tc .vmem S256x1024 .f32) (h10 : a10.IsWhole)
  (a11 : Memref sig .tc .vmem S256x5632 .bf16) (h11 : a11.IsWhole) (a12 : Memref sig .tc .vmem S8x1024 .f32) (h12 : a12.IsWhole)
  (a13 : Memref sig .tc .vmem S8x5632 .f32) (h13 : a13.IsWhole) (a14 : Memref sig .tc .vmem S1024x5632 .bf16) (h14 : a14.IsWhole)
  (a15 : Memref sig .tc .vmem S2816x1024 .bf16) (h15 : a15.IsWhole) (a16 : Memref sig .tc .vmem S3x8x5632 .f32) (h16 : a16.IsWhole)
  (x : Ins Ideal) (fu : At (F := Ideal) c wuM) (fd : At (F := Ideal) c wdM)

theorem later_dx (hc : ¬First i) (k : Kept Ideal) :
    (runLater (F := Ideal) c i a1 h1 a2 h2 a3 h3 a4 h4 a5 h5 a6 h6 a7 h7 a10 h10 a11 h11 a12 h12 a13 h13 a14 h14 a15 h15 a16 h16 hc x k fu fd).1.dx = dxL x k := by
  simp only [runLater]
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.r_23, runLater.sl.r_24, runLater.sl.r_25, runLater.sl.r_26, runLater.sl.r_27, runLater.sl.r_28, runLater.sl.r_29, runLater.sl.r_30, runLater.sl.r_31, runLater.sl.r_32, runLater.sl.r_33, runLater.sl.r_34, runLater.sl.r_35, runLater.sl.r_36, runLater.sl.r_37, runLater.sl.r_38, runLater.sl.r_39, runLater.sl.r_40, runLater.sl.r_41, runLater.sl.r_42, runLater.sl.r_43, runLater.sl.r_44, runLater.sl.r_45, runLater.sl.r_46, runLater.sl.r_47, runLater.sl.r_48, runLater.sl.r_49, runLater.sl.r_50, runLater.sl.r_51, runLater.sl.r_52, runLater.sl.r_53, runLater.sl.r_54, runLater.sl.r_55, runLater.sl.cst_16, runLater.sl.cst_118, runLater.sl.cst_226, runLater.sl.v320, runLater.sl.v64, runLater.sl.v127, runLater.sl.v141, runLater.sl.v239, runLater.sl.v253, runLater.sl.v316, runLater.sl.v330, runLater.sl.v284, runLater.sl.v355, runLater.sl.v375, runLater.sl.v368, runLater.sl.v361, runLater.sl.v298, runLater.sl.v291, runLater.sl.v278, runLater.sl.v186, runLater.sl.v179, runLater.sl.v172, runLater.sl.v166, runLater.sl.v109, runLater.sl.v102, runLater.sl.v95, runLater.sl.v414, runLater.sl.v419, load_held, ld_all]
  rfl

theorem later_dup (hc : ¬First i) (k : Kept Ideal) :
    (runLater (F := Ideal) c i a1 h1 a2 h2 a3 h3 a4 h4 a5 h5 a6 h6 a7 h7 a10 h10 a11 h11 a12 h12 a13 h13 a14 h14 a15 h15 a16 h16 hc x k fu fd).1.dup = dupL x k := by
  simp only [runLater]
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.r_23, runLater.sl.r_24, runLater.sl.r_25, runLater.sl.r_26, runLater.sl.r_27, runLater.sl.r_28, runLater.sl.r_29, runLater.sl.r_30, runLater.sl.r_31, runLater.sl.r_32, runLater.sl.r_33, runLater.sl.r_34, runLater.sl.r_35, runLater.sl.r_36, runLater.sl.r_37, runLater.sl.r_38, runLater.sl.r_39, runLater.sl.r_40, runLater.sl.r_41, runLater.sl.r_42, runLater.sl.r_43, runLater.sl.r_44, runLater.sl.r_45, runLater.sl.r_46, runLater.sl.r_47, runLater.sl.r_48, runLater.sl.r_49, runLater.sl.r_50, runLater.sl.r_51, runLater.sl.r_52, runLater.sl.r_53, runLater.sl.r_54, runLater.sl.r_55, runLater.sl.cst_16, runLater.sl.cst_118, runLater.sl.cst_226, runLater.sl.v320, runLater.sl.v64, runLater.sl.v127, runLater.sl.v141, runLater.sl.v239, runLater.sl.v253, runLater.sl.v316, runLater.sl.v330, runLater.sl.v284, runLater.sl.v355, runLater.sl.v375, runLater.sl.v368, runLater.sl.v361, runLater.sl.v298, runLater.sl.v291, runLater.sl.v278, runLater.sl.v186, runLater.sl.v179, runLater.sl.v172, runLater.sl.v166, runLater.sl.v109, runLater.sl.v102, runLater.sl.v95, runLater.sl.v414, runLater.sl.v419, load_held, ld_all]
  rfl

theorem later_vo (hc : ¬First i) (k : Kept Ideal) :
    (runLater (F := Ideal) c i a1 h1 a2 h2 a3 h3 a4 h4 a5 h5 a6 h6 a7 h7 a10 h10 a11 h11 a12 h12 a13 h13 a14 h14 a15 h15 a16 h16 hc x k fu fd).1.vo = voL x k := by
  simp only [runLater]
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.r_23, runLater.sl.r_24, runLater.sl.r_25, runLater.sl.r_26, runLater.sl.r_27, runLater.sl.r_28, runLater.sl.r_29, runLater.sl.r_30, runLater.sl.r_31, runLater.sl.r_32, runLater.sl.r_33, runLater.sl.r_34, runLater.sl.r_35, runLater.sl.r_36, runLater.sl.r_37, runLater.sl.r_38, runLater.sl.r_39, runLater.sl.r_40, runLater.sl.r_41, runLater.sl.r_42, runLater.sl.r_43, runLater.sl.r_44, runLater.sl.r_45, runLater.sl.r_46, runLater.sl.r_47, runLater.sl.r_48, runLater.sl.r_49, runLater.sl.r_50, runLater.sl.r_51, runLater.sl.r_52, runLater.sl.r_53, runLater.sl.r_54, runLater.sl.r_55, runLater.sl.cst_16, runLater.sl.cst_118, runLater.sl.cst_226, runLater.sl.v320, runLater.sl.v64, runLater.sl.v127, runLater.sl.v141, runLater.sl.v239, runLater.sl.v253, runLater.sl.v316, runLater.sl.v330, runLater.sl.v284, runLater.sl.v355, runLater.sl.v375, runLater.sl.v368, runLater.sl.v361, runLater.sl.v298, runLater.sl.v291, runLater.sl.v278, runLater.sl.v186, runLater.sl.v179, runLater.sl.v172, runLater.sl.v166, runLater.sl.v109, runLater.sl.v102, runLater.sl.v95, runLater.sl.v414, runLater.sl.v419, load_held, ld_all]
  rfl

theorem later_fo (hc : ¬First i) (k : Kept Ideal) :
    (runLater (F := Ideal) c i a1 h1 a2 h2 a3 h3 a4 h4 a5 h5 a6 h6 a7 h7 a10 h10 a11 h11 a12 h12 a13 h13 a14 h14 a15 h15 a16 h16 hc x k fu fd).1.fo = foL x k := by
  simp only [runLater]
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.r_23, runLater.sl.r_24, runLater.sl.r_25, runLater.sl.r_26, runLater.sl.r_27, runLater.sl.r_28, runLater.sl.r_29, runLater.sl.r_30, runLater.sl.r_31, runLater.sl.r_32, runLater.sl.r_33, runLater.sl.r_34, runLater.sl.r_35, runLater.sl.r_36, runLater.sl.r_37, runLater.sl.r_38, runLater.sl.r_39, runLater.sl.r_40, runLater.sl.r_41, runLater.sl.r_42, runLater.sl.r_43, runLater.sl.r_44, runLater.sl.r_45, runLater.sl.r_46, runLater.sl.r_47, runLater.sl.r_48, runLater.sl.r_49, runLater.sl.r_50, runLater.sl.r_51, runLater.sl.r_52, runLater.sl.r_53, runLater.sl.r_54, runLater.sl.r_55, runLater.sl.cst_16, runLater.sl.cst_118, runLater.sl.cst_226, runLater.sl.v320, runLater.sl.v64, runLater.sl.v127, runLater.sl.v141, runLater.sl.v239, runLater.sl.v253, runLater.sl.v316, runLater.sl.v330, runLater.sl.v284, runLater.sl.v355, runLater.sl.v375, runLater.sl.v368, runLater.sl.v361, runLater.sl.v298, runLater.sl.v291, runLater.sl.v278, runLater.sl.v186, runLater.sl.v179, runLater.sl.v172, runLater.sl.v166, runLater.sl.v109, runLater.sl.v102, runLater.sl.v95, runLater.sl.v414, runLater.sl.v419, load_held, ld_all]
  rfl

theorem later_ca (hc : ¬First i) (k : Kept Ideal) :
    (runLater (F := Ideal) c i a1 h1 a2 h2 a3 h3 a4 h4 a5 h5 a6 h6 a7 h7 a10 h10 a11 h11 a12 h12 a13 h13 a14 h14 a15 h15 a16 h16 hc x k fu fd).1.ca = caL x k := by
  simp only [runLater]
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.r_23, runLater.sl.r_24, runLater.sl.r_25, runLater.sl.r_26, runLater.sl.r_27, runLater.sl.r_28, runLater.sl.r_29, runLater.sl.r_30, runLater.sl.r_31, runLater.sl.r_32, runLater.sl.r_33, runLater.sl.r_34, runLater.sl.r_35, runLater.sl.r_36, runLater.sl.r_37, runLater.sl.r_38, runLater.sl.r_39, runLater.sl.r_40, runLater.sl.r_41, runLater.sl.r_42, runLater.sl.r_43, runLater.sl.r_44, runLater.sl.r_45, runLater.sl.r_46, runLater.sl.r_47, runLater.sl.r_48, runLater.sl.r_49, runLater.sl.r_50, runLater.sl.r_51, runLater.sl.r_52, runLater.sl.r_53, runLater.sl.r_54, runLater.sl.r_55, runLater.sl.cst_16, runLater.sl.cst_118, runLater.sl.cst_226, runLater.sl.v320, runLater.sl.v64, runLater.sl.v127, runLater.sl.v141, runLater.sl.v239, runLater.sl.v253, runLater.sl.v316, runLater.sl.v330, runLater.sl.v284, runLater.sl.v355, runLater.sl.v375, runLater.sl.v368, runLater.sl.v361, runLater.sl.v298, runLater.sl.v291, runLater.sl.v278, runLater.sl.v186, runLater.sl.v179, runLater.sl.v172, runLater.sl.v166, runLater.sl.v109, runLater.sl.v102, runLater.sl.v95, runLater.sl.v414, runLater.sl.v419, load_held, ld_all]
  rfl

/-- What the first point stands on: no sums, no late rows, and the weights as copied. -/
abbrev start : Kept Ideal := ⟨k0_pay3 (F := Ideal), k0_pay4 (F := Ideal), runFirst.sl.dma0 (F := Ideal) c fu, runFirst.sl.dma0_1 (F := Ideal) c fd, k0_pay2 (F := Ideal)⟩

/-! What each load at the first point finds: the fill, or the weight copied, none of the earlier stores reaching it. -/

theorem first_v64 : runFirst.sl.v64 (F := Ideal) c a1 h1 a5 h5 a15 a16 x fd = c2A (start c fu fd) := by
  repeat refine (View.readCov_skip _ _ _ _ _ (by decide)).trans ?_
  exact View.readCov_fill _ _ _ _ _ (by decide)

theorem first_v127 : runFirst.sl.v127 (F := Ideal) c a1 h1 a5 h5 a15 a16 x fd = c1B (start c fu fd) := by
  repeat refine (View.readCov_skip _ _ _ _ _ (by decide)).trans ?_
  exact View.readCov_fill _ _ _ _ _ (by decide)

theorem first_v141 : runFirst.sl.v141 (F := Ideal) c a1 h1 a5 h5 a15 a16 x fd = c2B (start c fu fd) := by
  repeat refine (View.readCov_skip _ _ _ _ _ (by decide)).trans ?_
  exact View.readCov_fill _ _ _ _ _ (by decide)

theorem first_v239 : runFirst.sl.v239 (F := Ideal) c a1 h1 a5 h5 a15 a16 x fd = c1C (start c fu fd) := by
  repeat refine (View.readCov_skip _ _ _ _ _ (by decide)).trans ?_
  exact View.readCov_fill _ _ _ _ _ (by decide)

theorem first_v253 : runFirst.sl.v253 (F := Ideal) c a1 h1 a5 h5 a15 a16 x fd = c2C (start c fu fd) := by
  repeat refine (View.readCov_skip _ _ _ _ _ (by decide)).trans ?_
  exact View.readCov_fill _ _ _ _ _ (by decide)

theorem first_v316 : runFirst.sl.v316 (F := Ideal) c a1 h1 a5 h5 a15 a16 x fd = c1D (start c fu fd) := by
  repeat refine (View.readCov_skip _ _ _ _ _ (by decide)).trans ?_
  exact View.readCov_fill _ _ _ _ _ (by decide)

theorem first_v330 : runFirst.sl.v330 (F := Ideal) c a1 h1 a5 h5 a15 a16 x fd = c2D (start c fu fd) := by
  repeat refine (View.readCov_skip _ _ _ _ _ (by decide)).trans ?_
  exact View.readCov_fill _ _ _ _ _ (by decide)

theorem first_v284 : runFirst.sl.v284 (F := Ideal) c a1 h1 a4 h4 a5 h5 a13 a15 a16 x fd = o2C (start c fu fd) := by
  repeat refine (View.readCov_skip _ _ _ _ _ (by decide)).trans ?_
  exact View.readCov_fill _ _ _ _ _ (by decide)

theorem first_v355 : runFirst.sl.v355 (F := Ideal) c a1 h1 a4 h4 a5 h5 a13 a15 a16 x fd = o3D (start c fu fd) := by
  repeat refine (View.readCov_skip _ _ _ _ _ (by decide)).trans ?_
  exact View.readCov_fill _ _ _ _ _ (by decide)

theorem first_v375 : runFirst.sl.v375 (F := Ideal) c a1 h1 a4 h4 a5 h5 a13 a15 a16 x fd = o0D (start c fu fd) := by
  repeat refine (View.readCov_skip _ _ _ _ _ (by decide)).trans ?_
  exact View.readCov_fill _ _ _ _ _ (by decide)

theorem first_v368 : runFirst.sl.v368 (F := Ideal) c a1 h1 a4 h4 a5 h5 a13 a15 a16 x fd = o1D (start c fu fd) := by
  repeat refine (View.readCov_skip _ _ _ _ _ (by decide)).trans ?_
  exact View.readCov_fill _ _ _ _ _ (by decide)

theorem first_v361 : runFirst.sl.v361 (F := Ideal) c a1 h1 a4 h4 a5 h5 a13 a15 a16 x fd = o2D (start c fu fd) := by
  repeat refine (View.readCov_skip _ _ _ _ _ (by decide)).trans ?_
  exact View.readCov_fill _ _ _ _ _ (by decide)

theorem first_v298 : runFirst.sl.v298 (F := Ideal) c a1 h1 a4 h4 a5 h5 a13 a15 a16 x fd = o0C (start c fu fd) := by
  repeat refine (View.readCov_skip _ _ _ _ _ (by decide)).trans ?_
  exact View.readCov_fill _ _ _ _ _ (by decide)

theorem first_v291 : runFirst.sl.v291 (F := Ideal) c a1 h1 a4 h4 a5 h5 a13 a15 a16 x fd = o1C (start c fu fd) := by
  repeat refine (View.readCov_skip _ _ _ _ _ (by decide)).trans ?_
  exact View.readCov_fill _ _ _ _ _ (by decide)

theorem first_v278 : runFirst.sl.v278 (F := Ideal) c a1 h1 a4 h4 a5 h5 a13 a15 a16 x fd = o3C (start c fu fd) := by
  repeat refine (View.readCov_skip _ _ _ _ _ (by decide)).trans ?_
  exact View.readCov_fill _ _ _ _ _ (by decide)

theorem first_v186 : runFirst.sl.v186 (F := Ideal) c a1 h1 a4 h4 a5 h5 a13 a15 a16 x fd = o0B (start c fu fd) := by
  repeat refine (View.readCov_skip _ _ _ _ _ (by decide)).trans ?_
  exact View.readCov_fill _ _ _ _ _ (by decide)

theorem first_v179 : runFirst.sl.v179 (F := Ideal) c a1 h1 a4 h4 a5 h5 a13 a15 a16 x fd = o1B (start c fu fd) := by
  repeat refine (View.readCov_skip _ _ _ _ _ (by decide)).trans ?_
  exact View.readCov_fill _ _ _ _ _ (by decide)

theorem first_v172 : runFirst.sl.v172 (F := Ideal) c a1 h1 a4 h4 a5 h5 a13 a15 a16 x fd = o2B (start c fu fd) := by
  repeat refine (View.readCov_skip _ _ _ _ _ (by decide)).trans ?_
  exact View.readCov_fill _ _ _ _ _ (by decide)

theorem first_v166 : runFirst.sl.v166 (F := Ideal) c a1 h1 a4 h4 a5 h5 a13 a15 a16 x fd = o3B (start c fu fd) := by
  repeat refine (View.readCov_skip _ _ _ _ _ (by decide)).trans ?_
  exact View.readCov_fill _ _ _ _ _ (by decide)

theorem first_v109 : runFirst.sl.v109 (F := Ideal) c a1 h1 a4 h4 a5 h5 a13 a15 a16 x fd = o0A (start c fu fd) := by
  repeat refine (View.readCov_skip _ _ _ _ _ (by decide)).trans ?_
  exact View.readCov_fill _ _ _ _ _ (by decide)

theorem first_v102 : runFirst.sl.v102 (F := Ideal) c a1 h1 a4 h4 a5 h5 a13 a15 x fd = o1A (start c fu fd) := by
  repeat refine (View.readCov_skip _ _ _ _ _ (by decide)).trans ?_
  exact View.readCov_fill _ _ _ _ _ (by decide)

theorem first_v95 : runFirst.sl.v95 (F := Ideal) c a1 h1 a5 h5 a13 a15 x fd = o2A (start c fu fd) := by
  repeat refine (View.readCov_skip _ _ _ _ _ (by decide)).trans ?_
  exact View.readCov_fill _ _ _ _ _ (by decide)

theorem first_v414 : runFirst.sl.v414 (F := Ideal) c a1 h1 a5 h5 a7 h7 a12 a14 a15 a16 x fu fd = q1 (start c fu fd) := by
  repeat refine (View.readCov_skip _ _ _ _ _ (by decide)).trans ?_
  exact View.readCov_fill _ _ _ _ _ (by decide)

theorem first_v419 : runFirst.sl.v419 (F := Ideal) c a1 h1 a3 h3 a5 h5 a6 h6 a7 h7 a12 a14 a15 a16 x fu fd = q2 (start c fu fd) := by
  repeat refine (View.readCov_skip _ _ _ _ _ (by decide)).trans ?_
  exact View.readCov_fill _ _ _ _ _ (by decide)

theorem first_v36 : runFirst.sl.v36 (F := Ideal) c a15 fd = wdA (start c fu fd) := by
  exact load_copied _ _ _

theorem first_v50 : runFirst.sl.v50 (F := Ideal) c a16 = c1A (start c fu fd) := by
  repeat refine (View.readCov_skip _ _ _ _ _ (by decide)).trans ?_
  exact View.readCov_fill _ _ _ _ _ (by decide)

theorem first_v118 : runFirst.sl.v118 (F := Ideal) c a14 fu = wuA (start c fu fd) := by
  exact load_copied _ _ _

theorem first_v195 : runFirst.sl.v195 (F := Ideal) c a14 fu = wuB' (start c fu fd) := by
  exact load_copied _ _ _

theorem first_v225 : runFirst.sl.v225 (F := Ideal) c a15 fd = wdC (start c fu fd) := by
  exact load_copied _ _ _

theorem first_v307 : runFirst.sl.v307 (F := Ideal) c a14 fu = wuC (start c fu fd) := by
  exact load_copied _ _ _

theorem first_v384 : runFirst.sl.v384 (F := Ideal) c a14 fu = wuD (start c fu fd) := by
  exact load_copied _ _ _

theorem first_v89 : runFirst.sl.v89 (F := Ideal) c a13 = o3A (start c fu fd) := by
  repeat refine (View.readCov_skip _ _ _ _ _ (by decide)).trans ?_
  exact View.readCov_fill _ _ _ _ _ (by decide)

theorem first_v405 : runFirst.sl.v405 (F := Ideal) c a12 = q0 (start c fu fd) := by
  repeat refine (View.readCov_skip _ _ _ _ _ (by decide)).trans ?_
  exact View.readCov_fill _ _ _ _ _ (by decide)

set_option maxHeartbeats 4000000 in
theorem first_dx (hc : First i) :
    (runFirst (F := Ideal) c i a1 h1 a2 h2 a3 h3 a4 h4 a5 h5 a6 h6 a7 h7 a10 h10 a11 h11 a12 h12 a13 h13 a14 h14 a15 h15 a16 h16 hc x fu fd).1.dx = dxL x (start c fu fd) := by
  simp only [runFirst]
  simp only [first_v64 c a1 h1 a5 h5 a15 a16 x fu fd, first_v127 c a1 h1 a5 h5 a15 a16 x fu fd, first_v141 c a1 h1 a5 h5 a15 a16 x fu fd, first_v239 c a1 h1 a5 h5 a15 a16 x fu fd, first_v253 c a1 h1 a5 h5 a15 a16 x fu fd, first_v316 c a1 h1 a5 h5 a15 a16 x fu fd, first_v330 c a1 h1 a5 h5 a15 a16 x fu fd, first_v284 c a1 h1 a4 h4 a5 h5 a13 a15 a16 x fu fd, first_v355 c a1 h1 a4 h4 a5 h5 a13 a15 a16 x fu fd, first_v375 c a1 h1 a4 h4 a5 h5 a13 a15 a16 x fu fd, first_v368 c a1 h1 a4 h4 a5 h5 a13 a15 a16 x fu fd, first_v361 c a1 h1 a4 h4 a5 h5 a13 a15 a16 x fu fd, first_v298 c a1 h1 a4 h4 a5 h5 a13 a15 a16 x fu fd, first_v291 c a1 h1 a4 h4 a5 h5 a13 a15 a16 x fu fd, first_v278 c a1 h1 a4 h4 a5 h5 a13 a15 a16 x fu fd, first_v186 c a1 h1 a4 h4 a5 h5 a13 a15 a16 x fu fd, first_v179 c a1 h1 a4 h4 a5 h5 a13 a15 a16 x fu fd, first_v172 c a1 h1 a4 h4 a5 h5 a13 a15 a16 x fu fd, first_v166 c a1 h1 a4 h4 a5 h5 a13 a15 a16 x fu fd, first_v109 c a1 h1 a4 h4 a5 h5 a13 a15 a16 x fu fd, first_v102 c a1 h1 a4 h4 a5 h5 a13 a15 x fu fd, first_v95 c a1 h1 a5 h5 a13 a15 x fu fd, first_v414 c a1 h1 a5 h5 a7 h7 a12 a14 a15 a16 x fu fd, first_v419 c a1 h1 a3 h3 a5 h5 a6 h6 a7 h7 a12 a14 a15 a16 x fu fd, first_v36 c a15 fu fd, first_v50 c a16 fu fd, first_v118 c a14 fu fd, first_v195 c a14 fu fd, first_v225 c a15 fu fd, first_v307 c a14 fu fd, first_v384 c a14 fu fd, first_v89 c a13 fu fd, first_v405 c a12 fu fd, runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.r_43, runFirst.sl.r_44, runFirst.sl.r_45, runFirst.sl.r_46, runFirst.sl.r_47, runFirst.sl.r_48, runFirst.sl.r_49, runFirst.sl.r_50, runFirst.sl.r_51, runFirst.sl.r_52, runFirst.sl.r_53, runFirst.sl.r_54, runFirst.sl.cst_16, runFirst.sl.cst_118, runFirst.sl.cst_226, runFirst.sl.v320, runFirst.sl.H12_1, runFirst.sl.H12_2, runFirst.sl.H12_3, runFirst.sl.H13_1, runFirst.sl.H13_2, runFirst.sl.H13_3, runFirst.sl.H13_4, runFirst.sl.H13_5, runFirst.sl.H13_6, runFirst.sl.H13_7, runFirst.sl.H13_8, runFirst.sl.H13_9, runFirst.sl.H13_10, runFirst.sl.H13_11, runFirst.sl.H13_12, runFirst.sl.H13_13, runFirst.sl.H13_14, runFirst.sl.H13_15, runFirst.sl.H13_16, runFirst.sl.H16_1, runFirst.sl.H16_2, runFirst.sl.H16_3, runFirst.sl.H16_4, runFirst.sl.H16_5, runFirst.sl.H16_6, runFirst.sl.H16_7, runFirst.sl.H16_8, load_held, ld_all]
  rfl

set_option maxHeartbeats 4000000 in
theorem first_dup (hc : First i) :
    (runFirst (F := Ideal) c i a1 h1 a2 h2 a3 h3 a4 h4 a5 h5 a6 h6 a7 h7 a10 h10 a11 h11 a12 h12 a13 h13 a14 h14 a15 h15 a16 h16 hc x fu fd).1.dup = dupL x (start c fu fd) := by
  simp only [runFirst]
  simp only [first_v64 c a1 h1 a5 h5 a15 a16 x fu fd, first_v127 c a1 h1 a5 h5 a15 a16 x fu fd, first_v141 c a1 h1 a5 h5 a15 a16 x fu fd, first_v239 c a1 h1 a5 h5 a15 a16 x fu fd, first_v253 c a1 h1 a5 h5 a15 a16 x fu fd, first_v316 c a1 h1 a5 h5 a15 a16 x fu fd, first_v330 c a1 h1 a5 h5 a15 a16 x fu fd, first_v284 c a1 h1 a4 h4 a5 h5 a13 a15 a16 x fu fd, first_v355 c a1 h1 a4 h4 a5 h5 a13 a15 a16 x fu fd, first_v375 c a1 h1 a4 h4 a5 h5 a13 a15 a16 x fu fd, first_v368 c a1 h1 a4 h4 a5 h5 a13 a15 a16 x fu fd, first_v361 c a1 h1 a4 h4 a5 h5 a13 a15 a16 x fu fd, first_v298 c a1 h1 a4 h4 a5 h5 a13 a15 a16 x fu fd, first_v291 c a1 h1 a4 h4 a5 h5 a13 a15 a16 x fu fd, first_v278 c a1 h1 a4 h4 a5 h5 a13 a15 a16 x fu fd, first_v186 c a1 h1 a4 h4 a5 h5 a13 a15 a16 x fu fd, first_v179 c a1 h1 a4 h4 a5 h5 a13 a15 a16 x fu fd, first_v172 c a1 h1 a4 h4 a5 h5 a13 a15 a16 x fu fd, first_v166 c a1 h1 a4 h4 a5 h5 a13 a15 a16 x fu fd, first_v109 c a1 h1 a4 h4 a5 h5 a13 a15 a16 x fu fd, first_v102 c a1 h1 a4 h4 a5 h5 a13 a15 x fu fd, first_v95 c a1 h1 a5 h5 a13 a15 x fu fd, first_v414 c a1 h1 a5 h5 a7 h7 a12 a14 a15 a16 x fu fd, first_v419 c a1 h1 a3 h3 a5 h5 a6 h6 a7 h7 a12 a14 a15 a16 x fu fd, first_v36 c a15 fu fd, first_v50 c a16 fu fd, first_v118 c a14 fu fd, first_v195 c a14 fu fd, first_v225 c a15 fu fd, first_v307 c a14 fu fd, first_v384 c a14 fu fd, first_v89 c a13 fu fd, first_v405 c a12 fu fd, runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.r_43, runFirst.sl.r_44, runFirst.sl.r_45, runFirst.sl.r_46, runFirst.sl.r_47, runFirst.sl.r_48, runFirst.sl.r_49, runFirst.sl.r_50, runFirst.sl.r_51, runFirst.sl.r_52, runFirst.sl.r_53, runFirst.sl.r_54, runFirst.sl.cst_16, runFirst.sl.cst_118, runFirst.sl.cst_226, runFirst.sl.v320, runFirst.sl.H12_1, runFirst.sl.H12_2, runFirst.sl.H12_3, runFirst.sl.H13_1, runFirst.sl.H13_2, runFirst.sl.H13_3, runFirst.sl.H13_4, runFirst.sl.H13_5, runFirst.sl.H13_6, runFirst.sl.H13_7, runFirst.sl.H13_8, runFirst.sl.H13_9, runFirst.sl.H13_10, runFirst.sl.H13_11, runFirst.sl.H13_12, runFirst.sl.H13_13, runFirst.sl.H13_14, runFirst.sl.H13_15, runFirst.sl.H13_16, runFirst.sl.H16_1, runFirst.sl.H16_2, runFirst.sl.H16_3, runFirst.sl.H16_4, runFirst.sl.H16_5, runFirst.sl.H16_6, runFirst.sl.H16_7, runFirst.sl.H16_8, load_held, ld_all]
  rfl

set_option maxHeartbeats 4000000 in
theorem first_vo (hc : First i) :
    (runFirst (F := Ideal) c i a1 h1 a2 h2 a3 h3 a4 h4 a5 h5 a6 h6 a7 h7 a10 h10 a11 h11 a12 h12 a13 h13 a14 h14 a15 h15 a16 h16 hc x fu fd).1.vo = voL x (start c fu fd) ++ [⟨Rect.unit (s := S8x1024) ![0, 0] S8x1024.size inb_S8x1024_S8x1024_0_0, k0_pay3 (F := Ideal)⟩] := by
  simp only [runFirst]
  simp only [first_v64 c a1 h1 a5 h5 a15 a16 x fu fd, first_v127 c a1 h1 a5 h5 a15 a16 x fu fd, first_v141 c a1 h1 a5 h5 a15 a16 x fu fd, first_v239 c a1 h1 a5 h5 a15 a16 x fu fd, first_v253 c a1 h1 a5 h5 a15 a16 x fu fd, first_v316 c a1 h1 a5 h5 a15 a16 x fu fd, first_v330 c a1 h1 a5 h5 a15 a16 x fu fd, first_v284 c a1 h1 a4 h4 a5 h5 a13 a15 a16 x fu fd, first_v355 c a1 h1 a4 h4 a5 h5 a13 a15 a16 x fu fd, first_v375 c a1 h1 a4 h4 a5 h5 a13 a15 a16 x fu fd, first_v368 c a1 h1 a4 h4 a5 h5 a13 a15 a16 x fu fd, first_v361 c a1 h1 a4 h4 a5 h5 a13 a15 a16 x fu fd, first_v298 c a1 h1 a4 h4 a5 h5 a13 a15 a16 x fu fd, first_v291 c a1 h1 a4 h4 a5 h5 a13 a15 a16 x fu fd, first_v278 c a1 h1 a4 h4 a5 h5 a13 a15 a16 x fu fd, first_v186 c a1 h1 a4 h4 a5 h5 a13 a15 a16 x fu fd, first_v179 c a1 h1 a4 h4 a5 h5 a13 a15 a16 x fu fd, first_v172 c a1 h1 a4 h4 a5 h5 a13 a15 a16 x fu fd, first_v166 c a1 h1 a4 h4 a5 h5 a13 a15 a16 x fu fd, first_v109 c a1 h1 a4 h4 a5 h5 a13 a15 a16 x fu fd, first_v102 c a1 h1 a4 h4 a5 h5 a13 a15 x fu fd, first_v95 c a1 h1 a5 h5 a13 a15 x fu fd, first_v414 c a1 h1 a5 h5 a7 h7 a12 a14 a15 a16 x fu fd, first_v419 c a1 h1 a3 h3 a5 h5 a6 h6 a7 h7 a12 a14 a15 a16 x fu fd, first_v36 c a15 fu fd, first_v50 c a16 fu fd, first_v118 c a14 fu fd, first_v195 c a14 fu fd, first_v225 c a15 fu fd, first_v307 c a14 fu fd, first_v384 c a14 fu fd, first_v89 c a13 fu fd, first_v405 c a12 fu fd, runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.r_43, runFirst.sl.r_44, runFirst.sl.r_45, runFirst.sl.r_46, runFirst.sl.r_47, runFirst.sl.r_48, runFirst.sl.r_49, runFirst.sl.r_50, runFirst.sl.r_51, runFirst.sl.r_52, runFirst.sl.r_53, runFirst.sl.r_54, runFirst.sl.cst_16, runFirst.sl.cst_118, runFirst.sl.cst_226, runFirst.sl.v320, runFirst.sl.H12_1, runFirst.sl.H12_2, runFirst.sl.H12_3, runFirst.sl.H13_1, runFirst.sl.H13_2, runFirst.sl.H13_3, runFirst.sl.H13_4, runFirst.sl.H13_5, runFirst.sl.H13_6, runFirst.sl.H13_7, runFirst.sl.H13_8, runFirst.sl.H13_9, runFirst.sl.H13_10, runFirst.sl.H13_11, runFirst.sl.H13_12, runFirst.sl.H13_13, runFirst.sl.H13_14, runFirst.sl.H13_15, runFirst.sl.H13_16, runFirst.sl.H16_1, runFirst.sl.H16_2, runFirst.sl.H16_3, runFirst.sl.H16_4, runFirst.sl.H16_5, runFirst.sl.H16_6, runFirst.sl.H16_7, runFirst.sl.H16_8, load_held, ld_all]
  rfl

set_option maxHeartbeats 4000000 in
theorem first_fo (hc : First i) :
    (runFirst (F := Ideal) c i a1 h1 a2 h2 a3 h3 a4 h4 a5 h5 a6 h6 a7 h7 a10 h10 a11 h11 a12 h12 a13 h13 a14 h14 a15 h15 a16 h16 hc x fu fd).1.fo = foL x (start c fu fd) ++ [⟨Rect.unit (s := S8x5632) ![0, 0] S8x5632.size inb_S8x5632_S8x5632_0_0, k0_pay4 (F := Ideal)⟩] := by
  simp only [runFirst]
  simp only [first_v64 c a1 h1 a5 h5 a15 a16 x fu fd, first_v127 c a1 h1 a5 h5 a15 a16 x fu fd, first_v141 c a1 h1 a5 h5 a15 a16 x fu fd, first_v239 c a1 h1 a5 h5 a15 a16 x fu fd, first_v253 c a1 h1 a5 h5 a15 a16 x fu fd, first_v316 c a1 h1 a5 h5 a15 a16 x fu fd, first_v330 c a1 h1 a5 h5 a15 a16 x fu fd, first_v284 c a1 h1 a4 h4 a5 h5 a13 a15 a16 x fu fd, first_v355 c a1 h1 a4 h4 a5 h5 a13 a15 a16 x fu fd, first_v375 c a1 h1 a4 h4 a5 h5 a13 a15 a16 x fu fd, first_v368 c a1 h1 a4 h4 a5 h5 a13 a15 a16 x fu fd, first_v361 c a1 h1 a4 h4 a5 h5 a13 a15 a16 x fu fd, first_v298 c a1 h1 a4 h4 a5 h5 a13 a15 a16 x fu fd, first_v291 c a1 h1 a4 h4 a5 h5 a13 a15 a16 x fu fd, first_v278 c a1 h1 a4 h4 a5 h5 a13 a15 a16 x fu fd, first_v186 c a1 h1 a4 h4 a5 h5 a13 a15 a16 x fu fd, first_v179 c a1 h1 a4 h4 a5 h5 a13 a15 a16 x fu fd, first_v172 c a1 h1 a4 h4 a5 h5 a13 a15 a16 x fu fd, first_v166 c a1 h1 a4 h4 a5 h5 a13 a15 a16 x fu fd, first_v109 c a1 h1 a4 h4 a5 h5 a13 a15 a16 x fu fd, first_v102 c a1 h1 a4 h4 a5 h5 a13 a15 x fu fd, first_v95 c a1 h1 a5 h5 a13 a15 x fu fd, first_v414 c a1 h1 a5 h5 a7 h7 a12 a14 a15 a16 x fu fd, first_v419 c a1 h1 a3 h3 a5 h5 a6 h6 a7 h7 a12 a14 a15 a16 x fu fd, first_v36 c a15 fu fd, first_v50 c a16 fu fd, first_v118 c a14 fu fd, first_v195 c a14 fu fd, first_v225 c a15 fu fd, first_v307 c a14 fu fd, first_v384 c a14 fu fd, first_v89 c a13 fu fd, first_v405 c a12 fu fd, runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.r_43, runFirst.sl.r_44, runFirst.sl.r_45, runFirst.sl.r_46, runFirst.sl.r_47, runFirst.sl.r_48, runFirst.sl.r_49, runFirst.sl.r_50, runFirst.sl.r_51, runFirst.sl.r_52, runFirst.sl.r_53, runFirst.sl.r_54, runFirst.sl.cst_16, runFirst.sl.cst_118, runFirst.sl.cst_226, runFirst.sl.v320, runFirst.sl.H12_1, runFirst.sl.H12_2, runFirst.sl.H12_3, runFirst.sl.H13_1, runFirst.sl.H13_2, runFirst.sl.H13_3, runFirst.sl.H13_4, runFirst.sl.H13_5, runFirst.sl.H13_6, runFirst.sl.H13_7, runFirst.sl.H13_8, runFirst.sl.H13_9, runFirst.sl.H13_10, runFirst.sl.H13_11, runFirst.sl.H13_12, runFirst.sl.H13_13, runFirst.sl.H13_14, runFirst.sl.H13_15, runFirst.sl.H13_16, runFirst.sl.H16_1, runFirst.sl.H16_2, runFirst.sl.H16_3, runFirst.sl.H16_4, runFirst.sl.H16_5, runFirst.sl.H16_6, runFirst.sl.H16_7, runFirst.sl.H16_8, load_held, ld_all]
  rfl

set_option maxHeartbeats 4000000 in
theorem first_ca (hc : First i) :
    (runFirst (F := Ideal) c i a1 h1 a2 h2 a3 h3 a4 h4 a5 h5 a6 h6 a7 h7 a10 h10 a11 h11 a12 h12 a13 h13 a14 h14 a15 h15 a16 h16 hc x fu fd).1.ca = caL x (start c fu fd) ++ [⟨Rect.unit (s := S3x8x5632) ![0, 0, 0] S3x8x5632.size inb_S3x8x5632_S3x8x5632_0_0_0, k0_pay2 (F := Ideal)⟩] := by
  simp only [runFirst]
  simp only [first_v64 c a1 h1 a5 h5 a15 a16 x fu fd, first_v127 c a1 h1 a5 h5 a15 a16 x fu fd, first_v141 c a1 h1 a5 h5 a15 a16 x fu fd, first_v239 c a1 h1 a5 h5 a15 a16 x fu fd, first_v253 c a1 h1 a5 h5 a15 a16 x fu fd, first_v316 c a1 h1 a5 h5 a15 a16 x fu fd, first_v330 c a1 h1 a5 h5 a15 a16 x fu fd, first_v284 c a1 h1 a4 h4 a5 h5 a13 a15 a16 x fu fd, first_v355 c a1 h1 a4 h4 a5 h5 a13 a15 a16 x fu fd, first_v375 c a1 h1 a4 h4 a5 h5 a13 a15 a16 x fu fd, first_v368 c a1 h1 a4 h4 a5 h5 a13 a15 a16 x fu fd, first_v361 c a1 h1 a4 h4 a5 h5 a13 a15 a16 x fu fd, first_v298 c a1 h1 a4 h4 a5 h5 a13 a15 a16 x fu fd, first_v291 c a1 h1 a4 h4 a5 h5 a13 a15 a16 x fu fd, first_v278 c a1 h1 a4 h4 a5 h5 a13 a15 a16 x fu fd, first_v186 c a1 h1 a4 h4 a5 h5 a13 a15 a16 x fu fd, first_v179 c a1 h1 a4 h4 a5 h5 a13 a15 a16 x fu fd, first_v172 c a1 h1 a4 h4 a5 h5 a13 a15 a16 x fu fd, first_v166 c a1 h1 a4 h4 a5 h5 a13 a15 a16 x fu fd, first_v109 c a1 h1 a4 h4 a5 h5 a13 a15 a16 x fu fd, first_v102 c a1 h1 a4 h4 a5 h5 a13 a15 x fu fd, first_v95 c a1 h1 a5 h5 a13 a15 x fu fd, first_v414 c a1 h1 a5 h5 a7 h7 a12 a14 a15 a16 x fu fd, first_v419 c a1 h1 a3 h3 a5 h5 a6 h6 a7 h7 a12 a14 a15 a16 x fu fd, first_v36 c a15 fu fd, first_v50 c a16 fu fd, first_v118 c a14 fu fd, first_v195 c a14 fu fd, first_v225 c a15 fu fd, first_v307 c a14 fu fd, first_v384 c a14 fu fd, first_v89 c a13 fu fd, first_v405 c a12 fu fd, runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.r_43, runFirst.sl.r_44, runFirst.sl.r_45, runFirst.sl.r_46, runFirst.sl.r_47, runFirst.sl.r_48, runFirst.sl.r_49, runFirst.sl.r_50, runFirst.sl.r_51, runFirst.sl.r_52, runFirst.sl.r_53, runFirst.sl.r_54, runFirst.sl.cst_16, runFirst.sl.cst_118, runFirst.sl.cst_226, runFirst.sl.v320, runFirst.sl.H12_1, runFirst.sl.H12_2, runFirst.sl.H12_3, runFirst.sl.H13_1, runFirst.sl.H13_2, runFirst.sl.H13_3, runFirst.sl.H13_4, runFirst.sl.H13_5, runFirst.sl.H13_6, runFirst.sl.H13_7, runFirst.sl.H13_8, runFirst.sl.H13_9, runFirst.sl.H13_10, runFirst.sl.H13_11, runFirst.sl.H13_12, runFirst.sl.H13_13, runFirst.sl.H13_14, runFirst.sl.H13_15, runFirst.sl.H13_16, runFirst.sl.H16_1, runFirst.sl.H16_2, runFirst.sl.H16_3, runFirst.sl.H16_4, runFirst.sl.H16_5, runFirst.sl.H16_6, runFirst.sl.H16_7, runFirst.sl.H16_8, load_held, ld_all]
  rfl

end runs

end Cert.Kernel3Ideal.Bffn

end

end
-- ==== Proof.Bffn.Point.lean ====
/- The kernel's grid points in turn: the two weights stay where the first point copied them, each point leaves in its output blocks the
   formulas of its rows, adds to the vector gradients what its rows give, and hands on the rows the next point looks for. -/
module

public import proofs.«01_k».proof.Proof.Bffn.Stores
public import proofs.«01_k».proof.Proof.Common.Rows

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

section boxes

variable {e : EltTy} {a b n0 n1 o0 o1 : ℕ}
  (inb : ∀ d, (![o0, o1] : Fin 2 → ℕ) d + (![n0, n1] : Fin 2 → ℕ) d ≤ (⟨2, ![a, b]⟩ : Shape).size d)

/-- A store that holds, in each row and column of its box, what the array holds there. -/
theorem of_box (w : (Rect.unit (s := ⟨2, ![a, b]⟩) ![o0, o1] ![n0, n1] inb).shape.Idx → Elt Ideal e) (G : (⟨2, ![a, b]⟩ : Shape).Idx → Elt Ideal e)
    (f0 : Fin n0 → Fin a) (f1 : Fin n1 → Fin b) (h0 : ∀ p, (f0 p).val = o0 + p.val) (h1 : ∀ q, (f1 q).val = o1 + q.val)
    (h : ∀ p q, w (ix2 p q) = G (ix2 (f0 p) (f1 q))) : ∀ z, w z = G ((Rect.unit (s := ⟨2, ![a, b]⟩) ![o0, o1] ![n0, n1] inb).emb z) := fun z => by
  refine (congrArg w (eq_ix2 z)).trans ((h _ _).trans (congrArg G ?_))
  funext d
  match d with
  | 0 => exact Fin.ext ((h0 (z 0)).trans (congrArg (o0 + ·) (Nat.one_mul _).symm))
  | 1 => exact Fin.ext ((h1 (z 1)).trans (congrArg (o1 + ·) (Nat.one_mul _).symm))

/-- A place in a box. -/
theorem mem_box (r : Fin a) (j : Fin b) (h : (o0 ≤ r.val ∧ r.val < o0 + n0) ∧ (o1 ≤ j.val ∧ j.val < o1 + n1)) :
    (ix2 r j : (⟨2, ![a, b]⟩ : Shape).Idx) ∈ (Rect.unit (s := ⟨2, ![a, b]⟩) ![o0, o1] ![n0, n1] inb).set :=
  Rect.mem_set_unit.mpr fun d => match d with
    | 0 => h.1
    | 1 => h.2

/-- A row above the box. -/
theorem not_mem_box (r : Fin a) (j : Fin b) (h : o0 + n0 ≤ r.val) :
    (ix2 r j : (⟨2, ![a, b]⟩ : Shape).Idx) ∉ (Rect.unit (s := ⟨2, ![a, b]⟩) ![o0, o1] ![n0, n1] inb).set := fun hm => by
  have : r.val < o0 + n0 := (Rect.mem_set_unit.mp hm 0).2
  omega

end boxes

section boxes3

variable {e : EltTy} {a b d n0 n1 n2 o0 o1 o2 : ℕ}
  (inb : ∀ l, (![o0, o1, o2] : Fin 3 → ℕ) l + (![n0, n1, n2] : Fin 3 → ℕ) l ≤ (⟨3, ![a, b, d]⟩ : Shape).size l)
  (w : (Rect.unit (s := ⟨3, ![a, b, d]⟩) ![o0, o1, o2] ![n0, n1, n2] inb).shape.Idx → Elt Ideal e)
  (L : List (View.Piece (Elt Ideal) ⟨3, ![a, b, d]⟩ e)) (i : Fin a) (r : Fin b) (j : Fin d)

theorem hit3 (i' : Fin n0) (r' : Fin n1) (j' : Fin n2) (h0 : i.val = o0 + i'.val) (h1 : r.val = o1 + r'.val) (h2 : j.val = o2 + j'.val) :
    View.canon (⟨Rect.unit (s := ⟨3, ![a, b, d]⟩) ![o0, o1, o2] ![n0, n1, n2] inb, w⟩ :: L) (ix3 i r j) = w (ix3 i' r' j') :=
  Rows.canon_of_mem inb w L (ix3 i r j) (ix3 i' r' j') fun l => match l with
    | 0 => h0
    | 1 => h1
    | 2 => h2

theorem miss3 (h : (i.val < o0 ∨ o0 + n0 ≤ i.val) ∨ (j.val < o2 ∨ o2 + n2 ≤ j.val)) :
    View.canon (⟨Rect.unit (s := ⟨3, ![a, b, d]⟩) ![o0, o1, o2] ![n0, n1, n2] inb, w⟩ :: L) (ix3 i r j) = View.canon L (ix3 i r j) :=
  h.elim (fun h => Rows.canon_of_not_mem inb w L (ix3 i r j) 0 h) fun h => Rows.canon_of_not_mem inb w L (ix3 i r j) 2 h

end boxes3

/-- Where no newer store reaches, the older ones show. -/
theorem canon_append_of_not_mem {s : Shape} {e : EltTy} (y : s.Idx) (L' : List (View.Piece (Elt Ideal) s e)) :
    ∀ L : List (View.Piece (Elt Ideal) s e), (∀ p ∈ L, y ∉ p.1.set) → View.canon (L ++ L') y = View.canon L' y
  | [], _ => rfl
  | p :: L, h => by
    rw [List.cons_append, View.canon_cons_of_not_mem _ _ (h p List.mem_cons_self)]
    exact canon_append_of_not_mem y L' L fun q hq => h q (List.mem_cons_of_mem _ hq)

/-- A fill of a whole block shows its value. -/
theorem canon_fill {a b : ℕ} {e : EltTy} (inb : ∀ d, (![0, 0] : Fin 2 → ℕ) d + (⟨2, ![a, b]⟩ : Shape).size d ≤ (⟨2, ![a, b]⟩ : Shape).size d)
    (z : (Rect.unit (s := ⟨2, ![a, b]⟩) ![0, 0] (⟨2, ![a, b]⟩ : Shape).size inb).shape.Idx → Elt Ideal e) (r : Fin a) (j : Fin b) :
    View.canon [⟨Rect.unit (s := ⟨2, ![a, b]⟩) ![0, 0] (⟨2, ![a, b]⟩ : Shape).size inb, z⟩] (ix2 r j) = z (ix2 r j) :=
  Rows.canon_of_mem inb z [] (ix2 r j) (ix2 r j) fun d => match d with
    | 0 => (Nat.zero_add _).symm
    | 1 => (Nat.zero_add _).symm

section lists

variable (x : Ins Ideal) (k : Kept Ideal)

theorem dx_list (p : Fin 256) (q : Fin 1024) : View.canon (dxL x k) (ix2 p q) = dx x k p q :=
  (Rows.canon_of_mem (by decide) _ _ (ix2 p q) (ix2 p q) fun d => match d with
    | 0 => (Nat.zero_add _).symm
    | 1 => (Nat.zero_add _).symm).trans (DX_at x k p q)

/-- The gradient at the up projection, as the block that holds it. -/
def dupG : S256x5632.Idx → Elt Ideal .bf16 := fun y => du x k (y 1) (y 0)

theorem dup_pieces : View.PiecesOf (dupG x k) (dupL x k) :=
  ⟨of_box (by decide) _ _ (fun p => p) (fun q => ⟨4352 + q.val, by omega⟩) (fun _ => (Nat.zero_add _).symm) (fun _ => rfl) fun p q => (by pointwise [k0_pay100] : k0_pay100 (F := Ideal) (MD x k) (ix2 p q) = MD x k (ix2 p q)).trans (MD_at x k p q),
    of_box (by decide) _ _ (fun p => p) (fun q => ⟨1536 + q.val, by omega⟩) (fun _ => (Nat.zero_add _).symm) (fun _ => rfl) fun p q => (by pointwise [k0_pay80] : k0_pay80 (F := Ideal) (MC x k) (ix2 p q) = MC x k (ix2 p q)).trans (MC_at x k p q),
    of_box (by decide) _ _ (fun p => p) (fun q => ⟨2816 + q.val, by omega⟩) (fun _ => (Nat.zero_add _).symm) (fun _ => rfl) fun p q => (by pointwise [k0_pay52] : k0_pay52 (F := Ideal) (MB x k) (ix2 p q) = MB x k (ix2 p q)).trans (MB_at x k p q),
    of_box (by decide) _ _ (fun p => p) (fun q => ⟨q.val, by omega⟩) (fun _ => (Nat.zero_add _).symm) (fun q => (Nat.zero_add _).symm) fun p q => (by pointwise [k0_pay33] : k0_pay33 (F := Ideal) (MA x k) (ix2 p q) = MA x k (ix2 p q)).trans (MA_at x k p q), trivial⟩

theorem dup_list (p : Fin 256) (j : Fin 5632) : View.canon (dupL x k) (ix2 p j) = du x k j p := by
  have hc : ∃ P ∈ dupL x k, (ix2 p j : S256x5632.Idx) ∈ P.1.set := by
    have := p.isLt
    have := j.isLt
    by_cases h1 : j.val < 1536
    · exact ⟨_, .tail _ (.tail _ (.tail _ (.head _))), mem_box (by decide) p j (by omega)⟩
    by_cases h2 : j.val < 2816
    · exact ⟨_, .tail _ (.head _), mem_box (by decide) p j (by omega)⟩
    by_cases h3 : j.val < 4352
    · exact ⟨_, .tail _ (.tail _ (.head _)), mem_box (by decide) p j (by omega)⟩
    · exact ⟨_, .head _, mem_box (by decide) p j (by omega)⟩
  have := View.canon_append_of_piecesOf _ [] _ (dup_pieces x k) _ hc
  rwa [List.append_nil] at this

/-- The vector gradients after a block, and the convolution's. -/
def voG : S8x1024.Idx → Elt Ideal .f32 := fun y => k.vo y + vo x k (y 0) (y 1)
def foG : S8x5632.Idx → Elt Ideal .f32 := fun y => k.fo y + fo x k (y 0) (y 1)

theorem vo_row0 (q : Fin 1024) : vo x k 0 q = s0 x k q := rfl
theorem vo_row1 (q : Fin 1024) : vo x k 1 q = s2 x k q * x.vd (ix2 8 q) := rfl
theorem vo_row2 (q : Fin 1024) : vo x k 2 q = s2 x k q * (1 + x.vd (ix2 4 q)) := rfl
theorem fo_row0 (j : Fin 5632) : fo x k 0 j = ∑ p : Fin 256, d2 x k j p * x.up (ix2 p j) := rfl
theorem fo_row1 (j : Fin 5632) : fo x k 1 j = ∑ p : Fin 256, d1 x k j p * x.up (ix2 p j) := rfl
theorem fo_row2 (j : Fin 5632) : fo x k 2 j = ∑ p : Fin 256, dy x k j p * x.up (ix2 p j) := rfl
theorem fo_row3 (j : Fin 5632) : fo x k 3 j = ∑ p : Fin 256, dy x k j p := rfl

theorem vo_pieces : View.PiecesOf (voG x k) (voL x k) :=
  ⟨of_box (by decide) _ _ (fun _ => 2) (fun q => q) (fun p => by have := p.isLt; show 2 = 2 + p.val; omega) (fun _ => (Nat.zero_add _).symm) fun p q => by
      obtain rfl : p = 0 := Subsingleton.elim _ _
      refine (v111 _ _ _ _ _ q).trans (congrArg₂ (· + ·) (by pointwise [q2]) ((congrArg₂ (· * ·) (Finset.sum_congr rfl fun l _ => congrArg₂ (· * ·) (HD_at x k l q) (norm105 _ l q)) (congrArg (1 + ·) (sc_at x q))).trans (vo_row2 x k q).symm)),
    of_box (by decide) _ _ (fun _ => 1) (fun q => q) (fun p => by have := p.isLt; show 1 = 1 + p.val; omega) (fun _ => (Nat.zero_add _).symm) fun p q => by
      obtain rfl : p = 0 := Subsingleton.elim _ _
      refine (v110 _ _ _ _ _ q).trans (congrArg₂ (· + ·) (by pointwise [q1]) ((congrArg₂ (· * ·) (Finset.sum_congr rfl fun l _ => congrArg₂ (· * ·) (HD_at x k l q) (norm105 _ l q)) (gp_at x q)).trans (vo_row1 x k q).symm)),
    of_box (by decide) _ _ (fun _ => 0) (fun q => q) (fun p => by have := p.isLt; show 0 = 0 + p.val; omega) (fun _ => (Nat.zero_add _).symm) fun p q => by
      obtain rfl : p = 0 := Subsingleton.elim _ _
      exact (v108 _ _ q).trans (congrArg₂ (· + ·) (by pointwise [q0]) ((Finset.sum_congr rfl fun l _ => HD_at x k l q).trans (vo_row0 x k q).symm)),
    trivial⟩

theorem fo_pieces : View.PiecesOf (foG x k) (foL x k) :=
  ⟨of_box (by decide) _ _ (fun _ => 0) (fun q => ⟨4352 + q.val, by omega⟩) (fun p => by have := p.isLt; show 0 = 0 + p.val; omega) (fun _ => rfl) fun p q => by
      obtain rfl : p = 0 := Subsingleton.elim _ _
      exact (w0D _ _ _ _ q).trans (congrArg₂ (· + ·) (by pointwise [o0D]) ((Finset.sum_congr rfl fun l _ => congrArg₂ (· * ·) (TD_at x k l q) (by pointwise [upD])).trans (fo_row0 x k _).symm)),
    of_box (by decide) _ _ (fun _ => 1) (fun q => ⟨4352 + q.val, by omega⟩) (fun p => by have := p.isLt; show 1 = 1 + p.val; omega) (fun _ => rfl) fun p q => by
      obtain rfl : p = 0 := Subsingleton.elim _ _
      exact (w1D _ _ _ _ q).trans (congrArg₂ (· + ·) (by pointwise [o1D]) ((Finset.sum_congr rfl fun l _ => congrArg₂ (· * ·) (OD_at x k l q) (by pointwise [upD])).trans (fo_row1 x k _).symm)),
    of_box (by decide) _ _ (fun _ => 2) (fun q => ⟨4352 + q.val, by omega⟩) (fun p => by have := p.isLt; show 2 = 2 + p.val; omega) (fun _ => rfl) fun p q => by
      obtain rfl : p = 0 := Subsingleton.elim _ _
      exact (w2D _ _ _ q).trans (congrArg₂ (· + ·) (by pointwise [o2D]) ((Finset.sum_congr rfl fun l _ => congrArg₂ (· * ·) (GD_at x k l q) (by pointwise [upD])).trans (fo_row2 x k _).symm)),
    of_box (by decide) _ _ (fun _ => 3) (fun q => ⟨4352 + q.val, by omega⟩) (fun p => by have := p.isLt; show 3 = 3 + p.val; omega) (fun _ => rfl) fun p q => by
      obtain rfl : p = 0 := Subsingleton.elim _ _
      exact (bD _ _ q).trans (congrArg₂ (· + ·) (by pointwise [o3D]) ((Finset.sum_congr rfl fun l _ => GD_at x k l q).trans (fo_row3 x k _).symm)),
    of_box (by decide) _ _ (fun _ => 0) (fun q => ⟨1536 + q.val, by omega⟩) (fun p => by have := p.isLt; show 0 = 0 + p.val; omega) (fun _ => rfl) fun p q => by
      obtain rfl : p = 0 := Subsingleton.elim _ _
      exact (w0C _ _ _ _ _ _ _ _ _ _ q).trans (congrArg₂ (· + ·) (by pointwise [o0C]) ((Finset.sum_congr rfl fun l _ => congrArg₂ (· * ·) (TC_at x k l q) (by pointwise [upC])).trans (fo_row0 x k _).symm)),
    of_box (by decide) _ _ (fun _ => 1) (fun q => ⟨1536 + q.val, by omega⟩) (fun p => by have := p.isLt; show 1 = 1 + p.val; omega) (fun _ => rfl) fun p q => by
      obtain rfl : p = 0 := Subsingleton.elim _ _
      exact (w1C _ _ _ _ _ _ _ _ _ _ q).trans (congrArg₂ (· + ·) (by pointwise [o1C]) ((Finset.sum_congr rfl fun l _ => congrArg₂ (· * ·) (OC_at x k l q) (by pointwise [upC])).trans (fo_row1 x k _).symm)),
    of_box (by decide) _ _ (fun _ => 2) (fun q => ⟨1536 + q.val, by omega⟩) (fun p => by have := p.isLt; show 2 = 2 + p.val; omega) (fun _ => rfl) fun p q => by
      obtain rfl : p = 0 := Subsingleton.elim _ _
      exact (w2C _ _ _ _ _ _ _ _ _ q).trans (congrArg₂ (· + ·) (by pointwise [o2C]) ((Finset.sum_congr rfl fun l _ => congrArg₂ (· * ·) (GC_at x k l q) (by pointwise [upC])).trans (fo_row2 x k _).symm)),
    of_box (by decide) _ _ (fun _ => 3) (fun q => ⟨1536 + q.val, by omega⟩) (fun p => by have := p.isLt; show 3 = 3 + p.val; omega) (fun _ => rfl) fun p q => by
      obtain rfl : p = 0 := Subsingleton.elim _ _
      exact (bC _ _ _ _ _ _ _ _ q).trans (congrArg₂ (· + ·) (by pointwise [o3C]) ((Finset.sum_congr rfl fun l _ => GC_at x k l q).trans (fo_row3 x k _).symm)),
    of_box (by decide) _ _ (fun _ => 0) (fun q => ⟨2816 + q.val, by omega⟩) (fun p => by have := p.isLt; show 0 = 0 + p.val; omega) (fun _ => rfl) fun p q => by
      obtain rfl : p = 0 := Subsingleton.elim _ _
      exact (w0B _ _ _ _ q).trans (congrArg₂ (· + ·) (by pointwise [o0B]) ((Finset.sum_congr rfl fun l _ => congrArg₂ (· * ·) (TB_at x k l q) (by pointwise [upB])).trans (fo_row0 x k _).symm)),
    of_box (by decide) _ _ (fun _ => 1) (fun q => ⟨2816 + q.val, by omega⟩) (fun p => by have := p.isLt; show 1 = 1 + p.val; omega) (fun _ => rfl) fun p q => by
      obtain rfl : p = 0 := Subsingleton.elim _ _
      exact (w1B _ _ _ _ q).trans (congrArg₂ (· + ·) (by pointwise [o1B]) ((Finset.sum_congr rfl fun l _ => congrArg₂ (· * ·) (OB_at x k l q) (by pointwise [upB])).trans (fo_row1 x k _).symm)),
    of_box (by decide) _ _ (fun _ => 2) (fun q => ⟨2816 + q.val, by omega⟩) (fun p => by have := p.isLt; show 2 = 2 + p.val; omega) (fun _ => rfl) fun p q => by
      obtain rfl : p = 0 := Subsingleton.elim _ _
      exact (w2B _ _ _ q).trans (congrArg₂ (· + ·) (by pointwise [o2B]) ((Finset.sum_congr rfl fun l _ => congrArg₂ (· * ·) (GB_at x k l q) (by pointwise [upB])).trans (fo_row2 x k _).symm)),
    of_box (by decide) _ _ (fun _ => 3) (fun q => ⟨2816 + q.val, by omega⟩) (fun p => by have := p.isLt; show 3 = 3 + p.val; omega) (fun _ => rfl) fun p q => by
      obtain rfl : p = 0 := Subsingleton.elim _ _
      exact (bB _ _ q).trans (congrArg₂ (· + ·) (by pointwise [o3B]) ((Finset.sum_congr rfl fun l _ => GB_at x k l q).trans (fo_row3 x k _).symm)),
    of_box (by decide) _ _ (fun _ => 0) (fun q => ⟨q.val, by omega⟩) (fun p => by have := p.isLt; show 0 = 0 + p.val; omega) (fun q => (Nat.zero_add _).symm) fun p q => by
      obtain rfl : p = 0 := Subsingleton.elim _ _
      exact (w0A _ _ _ _ _ _ _ q).trans (congrArg₂ (· + ·) (by pointwise [o0A]) ((Finset.sum_congr rfl fun l _ => congrArg₂ (· * ·) (TA_at x k l q) (by pointwise [upA])).trans (fo_row0 x k _).symm)),
    of_box (by decide) _ _ (fun _ => 1) (fun q => ⟨q.val, by omega⟩) (fun p => by have := p.isLt; show 1 = 1 + p.val; omega) (fun q => (Nat.zero_add _).symm) fun p q => by
      obtain rfl : p = 0 := Subsingleton.elim _ _
      exact (w1A _ _ _ _ _ _ _ q).trans (congrArg₂ (· + ·) (by pointwise [o1A]) ((Finset.sum_congr rfl fun l _ => congrArg₂ (· * ·) (OA_at x k l q) (by pointwise [upA])).trans (fo_row1 x k _).symm)),
    of_box (by decide) _ _ (fun _ => 2) (fun q => ⟨q.val, by omega⟩) (fun p => by have := p.isLt; show 2 = 2 + p.val; omega) (fun q => (Nat.zero_add _).symm) fun p q => by
      obtain rfl : p = 0 := Subsingleton.elim _ _
      exact (w2A _ _ _ _ _ _ q).trans (congrArg₂ (· + ·) (by pointwise [o2A]) ((Finset.sum_congr rfl fun l _ => congrArg₂ (· * ·) (GA_at x k l q) (by pointwise [upA])).trans (fo_row2 x k _).symm)),
    of_box (by decide) _ _ (fun _ => 3) (fun q => ⟨q.val, by omega⟩) (fun p => by have := p.isLt; show 3 = 3 + p.val; omega) (fun q => (Nat.zero_add _).symm) fun p q => by
      obtain rfl : p = 0 := Subsingleton.elim _ _
      exact (bA _ _ _ _ _ q).trans (congrArg₂ (· + ·) (by pointwise [o3A]) ((Finset.sum_congr rfl fun l _ => GA_at x k l q).trans (fo_row3 x k _).symm)),
    trivial⟩

theorem vo_in (r : Fin 8) (q : Fin 1024) (h : r.val < 3) : ∃ P ∈ voL x k, (ix2 r q : S8x1024.Idx) ∈ P.1.set := by
  have := q.isLt
  obtain h | h | h : r.val = 0 ∨ r.val = 1 ∨ r.val = 2 := by omega
  · exact ⟨_, .tail _ (.tail _ (.head _)), mem_box (by decide) r q (by omega)⟩
  · exact ⟨_, .tail _ (.head _), mem_box (by decide) r q (by omega)⟩
  · exact ⟨_, .head _, mem_box (by decide) r q (by omega)⟩

theorem vo_out (r : Fin 8) (q : Fin 1024) (h : ¬r.val < 3) : ∀ P ∈ voL x k, (ix2 r q : S8x1024.Idx) ∉ P.1.set := by
  simp only [voL, List.forall_mem_cons]
  exact ⟨not_mem_box (by decide) r q (by omega), not_mem_box (by decide) r q (by omega), not_mem_box (by decide) r q (by omega), fun _ hm => absurd hm List.not_mem_nil⟩

theorem fo_in (r : Fin 8) (j : Fin 5632) (h : r.val < 4) : ∃ P ∈ foL x k, (ix2 r j : S8x5632.Idx) ∈ P.1.set := by
  have := j.isLt
  obtain h | h | h | h : r.val = 0 ∨ r.val = 1 ∨ r.val = 2 ∨ r.val = 3 := by omega
  · by_cases h1 : j.val < 1536
    · exact ⟨_, .tail _ (.tail _ (.tail _ (.tail _ (.tail _ (.tail _ (.tail _ (.tail _ (.tail _ (.tail _ (.tail _ (.tail _ (.head _)))))))))))), mem_box (by decide) r j (by omega)⟩
    by_cases h2 : j.val < 2816
    · exact ⟨_, .tail _ (.tail _ (.tail _ (.tail _ (.head _)))), mem_box (by decide) r j (by omega)⟩
    by_cases h3 : j.val < 4352
    · exact ⟨_, .tail _ (.tail _ (.tail _ (.tail _ (.tail _ (.tail _ (.tail _ (.tail _ (.head _)))))))), mem_box (by decide) r j (by omega)⟩
    · exact ⟨_, .head _, mem_box (by decide) r j (by omega)⟩
  · by_cases h1 : j.val < 1536
    · exact ⟨_, .tail _ (.tail _ (.tail _ (.tail _ (.tail _ (.tail _ (.tail _ (.tail _ (.tail _ (.tail _ (.tail _ (.tail _ (.tail _ (.head _))))))))))))), mem_box (by decide) r j (by omega)⟩
    by_cases h2 : j.val < 2816
    · exact ⟨_, .tail _ (.tail _ (.tail _ (.tail _ (.tail _ (.head _))))), mem_box (by decide) r j (by omega)⟩
    by_cases h3 : j.val < 4352
    · exact ⟨_, .tail _ (.tail _ (.tail _ (.tail _ (.tail _ (.tail _ (.tail _ (.tail _ (.tail _ (.head _))))))))), mem_box (by decide) r j (by omega)⟩
    · exact ⟨_, .tail _ (.head _), mem_box (by decide) r j (by omega)⟩
  · by_cases h1 : j.val < 1536
    · exact ⟨_, .tail _ (.tail _ (.tail _ (.tail _ (.tail _ (.tail _ (.tail _ (.tail _ (.tail _ (.tail _ (.tail _ (.tail _ (.tail _ (.tail _ (.head _)))))))))))))), mem_box (by decide) r j (by omega)⟩
    by_cases h2 : j.val < 2816
    · exact ⟨_, .tail _ (.tail _ (.tail _ (.tail _ (.tail _ (.tail _ (.head _)))))), mem_box (by decide) r j (by omega)⟩
    by_cases h3 : j.val < 4352
    · exact ⟨_, .tail _ (.tail _ (.tail _ (.tail _ (.tail _ (.tail _ (.tail _ (.tail _ (.tail _ (.tail _ (.head _)))))))))), mem_box (by decide) r j (by omega)⟩
    · exact ⟨_, .tail _ (.tail _ (.head _)), mem_box (by decide) r j (by omega)⟩
  · by_cases h1 : j.val < 1536
    · exact ⟨_, .tail _ (.tail _ (.tail _ (.tail _ (.tail _ (.tail _ (.tail _ (.tail _ (.tail _ (.tail _ (.tail _ (.tail _ (.tail _ (.tail _ (.tail _ (.head _))))))))))))))), mem_box (by decide) r j (by omega)⟩
    by_cases h2 : j.val < 2816
    · exact ⟨_, .tail _ (.tail _ (.tail _ (.tail _ (.tail _ (.tail _ (.tail _ (.head _))))))), mem_box (by decide) r j (by omega)⟩
    by_cases h3 : j.val < 4352
    · exact ⟨_, .tail _ (.tail _ (.tail _ (.tail _ (.tail _ (.tail _ (.tail _ (.tail _ (.tail _ (.tail _ (.tail _ (.head _))))))))))), mem_box (by decide) r j (by omega)⟩
    · exact ⟨_, .tail _ (.tail _ (.tail _ (.head _))), mem_box (by decide) r j (by omega)⟩

theorem fo_out (r : Fin 8) (j : Fin 5632) (h : ¬r.val < 4) : ∀ P ∈ foL x k, (ix2 r j : S8x5632.Idx) ∉ P.1.set := by
  simp only [foL, List.forall_mem_cons]
  exact ⟨not_mem_box (by decide) r j (by omega), not_mem_box (by decide) r j (by omega), not_mem_box (by decide) r j (by omega), not_mem_box (by decide) r j (by omega), not_mem_box (by decide) r j (by omega), not_mem_box (by decide) r j (by omega), not_mem_box (by decide) r j (by omega), not_mem_box (by decide) r j (by omega), not_mem_box (by decide) r j (by omega), not_mem_box (by decide) r j (by omega), not_mem_box (by decide) r j (by omega), not_mem_box (by decide) r j (by omega), not_mem_box (by decide) r j (by omega), not_mem_box (by decide) r j (by omega), not_mem_box (by decide) r j (by omega), not_mem_box (by decide) r j (by omega), fun _ hm => absurd hm List.not_mem_nil⟩

theorem vo_rest (r : Fin 8) (q : Fin 1024) (h : ¬r.val < 3) : vo x k r q = 0 := by
  rw [vo, if_neg (by omega), if_neg (by omega), if_neg (by omega)]

theorem fo_rest (r : Fin 8) (j : Fin 5632) (h : ¬r.val < 4) : fo x k r j = 0 := by
  rw [fo, if_neg (by omega), if_neg (by omega), if_neg (by omega), if_neg (by omega)]

/-- What the stores leave over what the block held, and over a fill of it. -/
theorem vo_list (B : Memref sig .tc .vmem S8x1024 .f32) (hB : B.IsWhole) (r : Fin 8) (q : Fin 1024) :
    B.view.read (Elt Ideal) (B.view.writes (Elt Ideal) (hB.unread k.vo) (voL x k)) (ix2 r q) = k.vo (ix2 r q) + vo x k r q := by
  by_cases h : r.val < 3
  · exact View.read_writes_apply_of_pieces _ _ (voG x k) _ (vo_pieces x k).mem _ (vo_in x k r q h)
  · rw [View.read_writes_apply_of_forall_not_mem _ _ _ _ (vo_out x k r q h), hB.read_unread, vo_rest x k r q h, add_zero]

theorem vo_list_fill (inb : ∀ d, (![0, 0] : Fin 2 → ℕ) d + S8x1024.size d ≤ S8x1024.size d) (z : Vec Ideal S8x1024 .f32) (hz : z = k.vo) (r : Fin 8) (q : Fin 1024) :
    View.canon (voL x k ++ [⟨Rect.unit (s := S8x1024) ![0, 0] S8x1024.size inb, z⟩]) (ix2 r q) = k.vo (ix2 r q) + vo x k r q := by
  by_cases h : r.val < 3
  · exact View.canon_append_of_piecesOf (voG x k) _ _ (vo_pieces x k) _ (vo_in x k r q h)
  · rw [canon_append_of_not_mem _ _ _ (vo_out x k r q h), vo_rest x k r q h, add_zero, ← hz]
    exact canon_fill _ _ r q

/-- What the stores leave over what the block held, and over a fill of it. -/
theorem fo_list (B : Memref sig .tc .vmem S8x5632 .f32) (hB : B.IsWhole) (r : Fin 8) (j : Fin 5632) :
    B.view.read (Elt Ideal) (B.view.writes (Elt Ideal) (hB.unread k.fo) (foL x k)) (ix2 r j) = k.fo (ix2 r j) + fo x k r j := by
  by_cases h : r.val < 4
  · exact View.read_writes_apply_of_pieces _ _ (foG x k) _ (fo_pieces x k).mem _ (fo_in x k r j h)
  · rw [View.read_writes_apply_of_forall_not_mem _ _ _ _ (fo_out x k r j h), hB.read_unread, fo_rest x k r j h, add_zero]

theorem fo_list_fill (inb : ∀ d, (![0, 0] : Fin 2 → ℕ) d + S8x5632.size d ≤ S8x5632.size d) (z : Vec Ideal S8x5632 .f32) (hz : z = k.fo) (r : Fin 8) (j : Fin 5632) :
    View.canon (foL x k ++ [⟨Rect.unit (s := S8x5632) ![0, 0] S8x5632.size inb, z⟩]) (ix2 r j) = k.fo (ix2 r j) + fo x k r j := by
  by_cases h : r.val < 4
  · exact View.canon_append_of_piecesOf (foG x k) _ _ (fo_pieces x k) _ (fo_in x k r j h)
  · rw [canon_append_of_not_mem _ _ _ (fo_out x k r j h), fo_rest x k r j h, add_zero, ← hz]
    exact canon_fill _ _ r j

/-- Late rows stored by the eight stores of a block: each shows the array that all of them hold pieces of. -/
theorem late_pick (L' : List (View.Piece (Elt Ideal) S3x8x5632 .f32)) (G : Fin 3 → Fin 5632 → EReal)
    (zD2 : Vec Ideal S2x8x1280 .f32) (hD2 : ∀ (i : Fin 2) (j : Fin 1280), zD2 (ix3 i 7 j) = G ⟨1 + i.val, by omega⟩ ⟨4352 + j.val, by omega⟩)
    (zD1 : Vec Ideal S1x8x1280 .f32) (hD1 : ∀ (i : Fin 1) (j : Fin 1280), zD1 (ix3 i 7 j) = G ⟨0 + i.val, by omega⟩ ⟨4352 + j.val, by omega⟩)
    (zC2 : Vec Ideal S2x8x1280 .f32) (hC2 : ∀ (i : Fin 2) (j : Fin 1280), zC2 (ix3 i 7 j) = G ⟨1 + i.val, by omega⟩ ⟨1536 + j.val, by omega⟩)
    (zC1 : Vec Ideal S1x8x1280 .f32) (hC1 : ∀ (i : Fin 1) (j : Fin 1280), zC1 (ix3 i 7 j) = G ⟨0 + i.val, by omega⟩ ⟨1536 + j.val, by omega⟩)
    (zB2 : Vec Ideal S2x8x1536 .f32) (hB2 : ∀ (i : Fin 2) (j : Fin 1536), zB2 (ix3 i 7 j) = G ⟨1 + i.val, by omega⟩ ⟨2816 + j.val, by omega⟩)
    (zB1 : Vec Ideal S1x8x1536 .f32) (hB1 : ∀ (i : Fin 1) (j : Fin 1536), zB1 (ix3 i 7 j) = G ⟨0 + i.val, by omega⟩ ⟨2816 + j.val, by omega⟩)
    (zA2 : Vec Ideal S2x8x1536 .f32) (hA2 : ∀ (i : Fin 2) (j : Fin 1536), zA2 (ix3 i 7 j) = G ⟨1 + i.val, by omega⟩ ⟨0 + j.val, by omega⟩)
    (zA1 : Vec Ideal S1x8x1536 .f32) (hA1 : ∀ (i : Fin 1) (j : Fin 1536), zA1 (ix3 i 7 j) = G ⟨0 + i.val, by omega⟩ ⟨0 + j.val, by omega⟩)
    (i : Fin 3) (j : Fin 5632) :
    View.canon ([⟨Rect.unit (s := S3x8x5632) ![1, 0, 4352] ![2, 8, 1280] inb_S3x8x5632_S2x8x1280_1_0_4352, zD2⟩,
      ⟨Rect.unit (s := S3x8x5632) ![0, 0, 4352] ![1, 8, 1280] inb_S3x8x5632_S1x8x1280_0_0_4352, zD1⟩,
      ⟨Rect.unit (s := S3x8x5632) ![1, 0, 1536] ![2, 8, 1280] inb_S3x8x5632_S2x8x1280_1_0_1536, zC2⟩,
      ⟨Rect.unit (s := S3x8x5632) ![0, 0, 1536] ![1, 8, 1280] inb_S3x8x5632_S1x8x1280_0_0_1536, zC1⟩,
      ⟨Rect.unit (s := S3x8x5632) ![1, 0, 2816] ![2, 8, 1536] inb_S3x8x5632_S2x8x1536_1_0_2816, zB2⟩,
      ⟨Rect.unit (s := S3x8x5632) ![0, 0, 2816] ![1, 8, 1536] inb_S3x8x5632_S1x8x1536_0_0_2816, zB1⟩,
      ⟨Rect.unit (s := S3x8x5632) ![1, 0, 0] ![2, 8, 1536] inb_S3x8x5632_S2x8x1536_1_0_0, zA2⟩,
      ⟨Rect.unit (s := S3x8x5632) ![0, 0, 0] ![1, 8, 1536] inb_S3x8x5632_S1x8x1536_0_0_0, zA1⟩] ++ L') (ix3 i 7 j) = G i j := by
  have := i.isLt
  have := j.isLt
  simp only [List.cons_append]
  by_cases h0 : i.val = 0
  · by_cases h1 : j.val < 1536
    · exact (miss3 _ _ _ i 7 j (by omega)).trans <| (miss3 _ _ _ i 7 j (by omega)).trans <| (miss3 _ _ _ i 7 j (by omega)).trans <| (miss3 _ _ _ i 7 j (by omega)).trans <| (miss3 _ _ _ i 7 j (by omega)).trans <| (miss3 _ _ _ i 7 j (by omega)).trans <| (miss3 _ _ _ i 7 j (by omega)).trans <| (hit3 _ _ _ i 7 j ⟨0, by omega⟩ 7 ⟨j.val - 0, by omega⟩ (by show i.val = 0 + 0; omega) rfl (by show j.val = 0 + (j.val - 0); omega)).trans <|
          (hA1 _ _).trans (congrArg₂ G (Fin.ext (by show 0 + 0 = i.val; omega)) (Fin.ext (by show 0 + (j.val - 0) = j.val; omega)))
    by_cases h2 : j.val < 2816
    · exact (miss3 _ _ _ i 7 j (by omega)).trans <| (miss3 _ _ _ i 7 j (by omega)).trans <| (miss3 _ _ _ i 7 j (by omega)).trans <| (hit3 _ _ _ i 7 j ⟨0, by omega⟩ 7 ⟨j.val - 1536, by omega⟩ (by show i.val = 0 + 0; omega) rfl (by show j.val = 1536 + (j.val - 1536); omega)).trans <|
          (hC1 _ _).trans (congrArg₂ G (Fin.ext (by show 0 + 0 = i.val; omega)) (Fin.ext (by show 1536 + (j.val - 1536) = j.val; omega)))
    by_cases h3 : j.val < 4352
    · exact (miss3 _ _ _ i 7 j (by omega)).trans <| (miss3 _ _ _ i 7 j (by omega)).trans <| (miss3 _ _ _ i 7 j (by omega)).trans <| (miss3 _ _ _ i 7 j (by omega)).trans <| (miss3 _ _ _ i 7 j (by omega)).trans <| (hit3 _ _ _ i 7 j ⟨0, by omega⟩ 7 ⟨j.val - 2816, by omega⟩ (by show i.val = 0 + 0; omega) rfl (by show j.val = 2816 + (j.val - 2816); omega)).trans <|
          (hB1 _ _).trans (congrArg₂ G (Fin.ext (by show 0 + 0 = i.val; omega)) (Fin.ext (by show 2816 + (j.val - 2816) = j.val; omega)))
    · exact (miss3 _ _ _ i 7 j (by omega)).trans <| (hit3 _ _ _ i 7 j ⟨0, by omega⟩ 7 ⟨j.val - 4352, by omega⟩ (by show i.val = 0 + 0; omega) rfl (by show j.val = 4352 + (j.val - 4352); omega)).trans <|
          (hD1 _ _).trans (congrArg₂ G (Fin.ext (by show 0 + 0 = i.val; omega)) (Fin.ext (by show 4352 + (j.val - 4352) = j.val; omega)))
  · by_cases h1 : j.val < 1536
    · exact (miss3 _ _ _ i 7 j (by omega)).trans <| (miss3 _ _ _ i 7 j (by omega)).trans <| (miss3 _ _ _ i 7 j (by omega)).trans <| (miss3 _ _ _ i 7 j (by omega)).trans <| (miss3 _ _ _ i 7 j (by omega)).trans <| (miss3 _ _ _ i 7 j (by omega)).trans <| (hit3 _ _ _ i 7 j ⟨i.val - 1, by omega⟩ 7 ⟨j.val - 0, by omega⟩ (by show i.val = 1 + (i.val - 1); omega) rfl (by show j.val = 0 + (j.val - 0); omega)).trans <|
          (hA2 _ _).trans (congrArg₂ G (Fin.ext (by show 1 + (i.val - 1) = i.val; omega)) (Fin.ext (by show 0 + (j.val - 0) = j.val; omega)))
    by_cases h2 : j.val < 2816
    · exact (miss3 _ _ _ i 7 j (by omega)).trans <| (miss3 _ _ _ i 7 j (by omega)).trans <| (hit3 _ _ _ i 7 j ⟨i.val - 1, by omega⟩ 7 ⟨j.val - 1536, by omega⟩ (by show i.val = 1 + (i.val - 1); omega) rfl (by show j.val = 1536 + (j.val - 1536); omega)).trans <|
          (hC2 _ _).trans (congrArg₂ G (Fin.ext (by show 1 + (i.val - 1) = i.val; omega)) (Fin.ext (by show 1536 + (j.val - 1536) = j.val; omega)))
    by_cases h3 : j.val < 4352
    · exact (miss3 _ _ _ i 7 j (by omega)).trans <| (miss3 _ _ _ i 7 j (by omega)).trans <| (miss3 _ _ _ i 7 j (by omega)).trans <| (miss3 _ _ _ i 7 j (by omega)).trans <| (hit3 _ _ _ i 7 j ⟨i.val - 1, by omega⟩ 7 ⟨j.val - 2816, by omega⟩ (by show i.val = 1 + (i.val - 1); omega) rfl (by show j.val = 2816 + (j.val - 2816); omega)).trans <|
          (hB2 _ _).trans (congrArg₂ G (Fin.ext (by show 1 + (i.val - 1) = i.val; omega)) (Fin.ext (by show 2816 + (j.val - 2816) = j.val; omega)))
    · exact (hit3 _ _ _ i 7 j ⟨i.val - 1, by omega⟩ 7 ⟨j.val - 4352, by omega⟩ (by show i.val = 1 + (i.val - 1); omega) rfl (by show j.val = 4352 + (j.val - 4352); omega)).trans <|
          (hD2 _ _).trans (congrArg₂ G (Fin.ext (by show 1 + (i.val - 1) = i.val; omega)) (Fin.ext (by show 4352 + (j.val - 4352) = j.val; omega)))

theorem late_list (L' : List (View.Piece (Elt Ideal) S3x8x5632 .f32)) (i : Fin 3) (j : Fin 5632) :
    View.canon (caL x k ++ L') (ix3 i 7 j) = late x k i j :=
  late_pick L' (late x k)
    _ (fun i j => by
      have := i.isLt
      exact (lateTwoD _ i j).trans ((GD_at x k _ j).trans (congrArg₂ (dy x k) (Fin.ext (rfl)) (Fin.ext (by show i.val * 8 = if 1 + i.val = 2 then 8 else 0; split <;> omega)))))
    _ (fun i j => by
      obtain rfl : i = 0 := Subsingleton.elim _ _
      exact (lateOneD _ j).trans ((GD_at x k _ j).trans (congrArg₂ (dy x k) (Fin.ext (rfl)) (Fin.ext (by rfl)))))
    _ (fun i j => by
      have := i.isLt
      exact (lateTwoC _ _ _ _ _ _ _ i j).trans ((GC_at x k _ j).trans (congrArg₂ (dy x k) (Fin.ext (rfl)) (Fin.ext (by show i.val * 8 = if 1 + i.val = 2 then 8 else 0; split <;> omega)))))
    _ (fun i j => by
      obtain rfl : i = 0 := Subsingleton.elim _ _
      exact (lateOneC _ _ _ _ _ _ _ j).trans ((GC_at x k _ j).trans (congrArg₂ (dy x k) (Fin.ext (rfl)) (Fin.ext (by rfl)))))
    _ (fun i j => by
      have := i.isLt
      exact (lateTwoB _ i j).trans ((GB_at x k _ j).trans (congrArg₂ (dy x k) (Fin.ext (rfl)) (Fin.ext (by show i.val * 8 = if 1 + i.val = 2 then 8 else 0; split <;> omega)))))
    _ (fun i j => by
      obtain rfl : i = 0 := Subsingleton.elim _ _
      exact (lateOneB _ j).trans ((GB_at x k _ j).trans (congrArg₂ (dy x k) (Fin.ext (rfl)) (Fin.ext (by rfl)))))
    _ (fun i j => by
      have := i.isLt
      exact (lateTwoA _ _ _ _ i j).trans ((GA_at x k _ j).trans (congrArg₂ (dy x k) (Fin.ext ((Nat.zero_add _).symm)) (Fin.ext (by show i.val * 8 = if 1 + i.val = 2 then 8 else 0; split <;> omega)))))
    _ (fun i j => by
      obtain rfl : i = 0 := Subsingleton.elim _ _
      exact (lateOneA _ _ _ _ j).trans ((GA_at x k _ j).trans (congrArg₂ (dy x k) (Fin.ext ((Nat.zero_add _).symm)) (Fin.ext (by rfl)))))
    i j

end lists

section points

variable (m : (ℓ : Loc nD τ sig) → Buf (Elt Ideal) ℓ)

/-- What a point stands on: at the first point the fills and the copied weights, at a later one what the point before kept. -/
def on (c : Dev nD) (t : Fin cfg0.N) : Kept Ideal := if t.val = 0 then start c (V m c main_v67) (V m c main_v68) else keptAt m c t.val

theorem on_first (c : Dev nD) (t : Fin cfg0.N) (h : t.val = 0) : on m c t = start c (V m c main_v67) (V m c main_v68) := if_pos h
theorem on_later (c : Dev nD) (t : Fin cfg0.N) (h : t.val ≠ 0) : on m c t = keptAt m c t.val := if_neg h

theorem first_wu_wd (c : Dev nD) (t : Fin cfg0.N) (h : First (grid0.coords t)) :
    View.canon (first m c t h).1.wu = V m c main_v67 ∧ View.canon (first m c t h).1.wd = V m c main_v68 :=
  ⟨Rows.canon_whole _ [], Rows.canon_whole _ []⟩

theorem wu_first (c : Dev nD) (t : Fin cfg0.N) (h : First (grid0.coords t)) : (left m c t).kept.wu = View.canon (first m c t h).1.wu := by rw [left_first m c t h]
theorem wd_first (c : Dev nD) (t : Fin cfg0.N) (h : First (grid0.coords t)) : (left m c t).kept.wd = View.canon (first m c t h).1.wd := by rw [left_first m c t h]
theorem wu_later (c : Dev nD) (t : Fin cfg0.N) (h : ¬First (grid0.coords t)) : (left m c t).kept.wu = (keptAt m c t.val).wu := by rw [left_later m c t h]
theorem wd_later (c : Dev nD) (t : Fin cfg0.N) (h : ¬First (grid0.coords t)) : (left m c t).kept.wd = (keptAt m c t.val).wd := by rw [left_later m c t h]

theorem kept_w (c : Dev nD) : ∀ n : ℕ, n ≠ 0 → n ≤ cfg0.N → (keptAt m c n).wu = V m c main_v67 ∧ (keptAt m c n).wd = V m c main_v68
  | 0, h, _ => absurd rfl h
  | n + 1, _, h => by
    rw [keptAt_succ m c ⟨n, h⟩]
    by_cases hf : First (grid0.coords ⟨n, h⟩)
    · rw [wu_first m c ⟨n, h⟩ hf, wd_first m c ⟨n, h⟩ hf]
      exact first_wu_wd m c ⟨n, h⟩ hf
    · rw [wu_later m c ⟨n, h⟩ hf, wd_later m c ⟨n, h⟩ hf]
      exact kept_w c n (fun h0 => hf ((first_iff ⟨n, h⟩).mpr h0)) (Nat.le_of_succ_le h)

theorem on_wu (c : Dev nD) (t : Fin cfg0.N) : (on m c t).wu = V m c main_v67 := by
  by_cases h : t.val = 0
  · rw [on_first m c t h]; rfl
  · rw [on_later m c t h]; exact (kept_w m c _ h t.isLt.le).1

theorem on_wd (c : Dev nD) (t : Fin cfg0.N) : (on m c t).wd = V m c main_v68 := by
  by_cases h : t.val = 0
  · rw [on_first m c t h]; rfl
  · rw [on_later m c t h]; exact (kept_w m c _ h t.isLt.le).2

theorem dx_first (c : Dev nD) (t : Fin cfg0.N) (h : First (grid0.coords t)) : (left m c t).dx = View.canon (first m c t h).1.dx := by rw [left_first m c t h]
theorem dx_later (c : Dev nD) (t : Fin cfg0.N) (h : ¬First (grid0.coords t)) : (left m c t).dx = View.canon (later m c t h (keptAt m c t.val)).1.dx := by rw [left_later m c t h]

theorem left_dx (c : Dev nD) (t : Fin cfg0.N) (p : Fin 256) (q : Fin 1024) : (left m c t).dx (ix2 p q) = dx (insAt m c t) (on m c t) p q := by
  by_cases h : First (grid0.coords t)
  · rw [on_first m c t ((first_iff t).mp h), dx_first m c t h, first_dx c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) wuB (Memref.isWhole_whole _) wdB (Memref.isWhole_whole _) caB (Memref.isWhole_whole _) (insAt m c t) (V m c main_v67) (V m c main_v68) h]
    exact dx_list _ _ p q
  · rw [on_later m c t (fun h0 => h ((first_iff t).mpr h0)), dx_later m c t h, later_dx c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) wuB (Memref.isWhole_whole _) wdB (Memref.isWhole_whole _) caB (Memref.isWhole_whole _) (insAt m c t) (V m c main_v67) (V m c main_v68) h (keptAt m c t.val)]
    exact dx_list _ _ p q

theorem dup_first (c : Dev nD) (t : Fin cfg0.N) (h : First (grid0.coords t)) : (left m c t).dup = View.canon (first m c t h).1.dup := by rw [left_first m c t h]
theorem dup_later (c : Dev nD) (t : Fin cfg0.N) (h : ¬First (grid0.coords t)) : (left m c t).dup = View.canon (later m c t h (keptAt m c t.val)).1.dup := by rw [left_later m c t h]

theorem left_dup (c : Dev nD) (t : Fin cfg0.N) (p : Fin 256) (j : Fin 5632) : (left m c t).dup (ix2 p j) = du (insAt m c t) (on m c t) j p := by
  by_cases h : First (grid0.coords t)
  · rw [on_first m c t ((first_iff t).mp h), dup_first m c t h, first_dup c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) wuB (Memref.isWhole_whole _) wdB (Memref.isWhole_whole _) caB (Memref.isWhole_whole _) (insAt m c t) (V m c main_v67) (V m c main_v68) h]
    exact dup_list _ _ p j
  · rw [on_later m c t (fun h0 => h ((first_iff t).mpr h0)), dup_later m c t h, later_dup c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) wuB (Memref.isWhole_whole _) wdB (Memref.isWhole_whole _) caB (Memref.isWhole_whole _) (insAt m c t) (V m c main_v67) (V m c main_v68) h (keptAt m c t.val)]
    exact dup_list _ _ p j

theorem vo_first (c : Dev nD) (t : Fin cfg0.N) (h : First (grid0.coords t)) : (left m c t).kept.vo = View.canon (first m c t h).1.vo := by rw [left_first m c t h]
theorem vo_later (c : Dev nD) (t : Fin cfg0.N) (h : ¬First (grid0.coords t)) : (left m c t).kept.vo = (b9 t).view.read (Elt Ideal) ((b9 t).view.writes (Elt Ideal) ((w9 t).unread (keptAt m c t.val).vo) (later m c t h (keptAt m c t.val)).1.vo) := by rw [left_later m c t h]

theorem left_vo (c : Dev nD) (t : Fin cfg0.N) (r : Fin 8) (q : Fin 1024) : (left m c t).kept.vo (ix2 r q) = (on m c t).vo (ix2 r q) + vo (insAt m c t) (on m c t) r q := by
  by_cases h : First (grid0.coords t)
  · rw [on_first m c t ((first_iff t).mp h), vo_first m c t h, first_vo c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) wuB (Memref.isWhole_whole _) wdB (Memref.isWhole_whole _) caB (Memref.isWhole_whole _) (insAt m c t) (V m c main_v67) (V m c main_v68) h]
    exact vo_list_fill _ (start c (V m c main_v67) (V m c main_v68)) (by decide) _ rfl r q
  · rw [on_later m c t (fun h0 => h ((first_iff t).mpr h0)), vo_later m c t h, later_vo c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) wuB (Memref.isWhole_whole _) wdB (Memref.isWhole_whole _) caB (Memref.isWhole_whole _) (insAt m c t) (V m c main_v67) (V m c main_v68) h (keptAt m c t.val)]
    exact vo_list _ _ (b9 t) (w9 t) r q

theorem fo_first (c : Dev nD) (t : Fin cfg0.N) (h : First (grid0.coords t)) : (left m c t).kept.fo = View.canon (first m c t h).1.fo := by rw [left_first m c t h]
theorem fo_later (c : Dev nD) (t : Fin cfg0.N) (h : ¬First (grid0.coords t)) : (left m c t).kept.fo = (b10 t).view.read (Elt Ideal) ((b10 t).view.writes (Elt Ideal) ((w10 t).unread (keptAt m c t.val).fo) (later m c t h (keptAt m c t.val)).1.fo) := by rw [left_later m c t h]

theorem left_fo (c : Dev nD) (t : Fin cfg0.N) (r : Fin 8) (j : Fin 5632) : (left m c t).kept.fo (ix2 r j) = (on m c t).fo (ix2 r j) + fo (insAt m c t) (on m c t) r j := by
  by_cases h : First (grid0.coords t)
  · rw [on_first m c t ((first_iff t).mp h), fo_first m c t h, first_fo c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) wuB (Memref.isWhole_whole _) wdB (Memref.isWhole_whole _) caB (Memref.isWhole_whole _) (insAt m c t) (V m c main_v67) (V m c main_v68) h]
    exact fo_list_fill _ (start c (V m c main_v67) (V m c main_v68)) (by decide) _ rfl r j
  · rw [on_later m c t (fun h0 => h ((first_iff t).mpr h0)), fo_later m c t h, later_fo c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) wuB (Memref.isWhole_whole _) wdB (Memref.isWhole_whole _) caB (Memref.isWhole_whole _) (insAt m c t) (V m c main_v67) (V m c main_v68) h (keptAt m c t.val)]
    exact fo_list _ _ (b10 t) (w10 t) r j

theorem ca_first (c : Dev nD) (t : Fin cfg0.N) (h : First (grid0.coords t)) : (left m c t).kept.ca = View.canon (first m c t h).1.ca := by rw [left_first m c t h]
theorem ca_later (c : Dev nD) (t : Fin cfg0.N) (h : ¬First (grid0.coords t)) : (left m c t).kept.ca = View.canon (later m c t h (keptAt m c t.val)).1.ca := by rw [left_later m c t h]

theorem left_ca (c : Dev nD) (t : Fin cfg0.N) (i : Fin 3) (j : Fin 5632) : (left m c t).kept.ca (ix3 i 7 j) = late (insAt m c t) (on m c t) i j := by
  by_cases h : First (grid0.coords t)
  · rw [on_first m c t ((first_iff t).mp h), ca_first m c t h, first_ca c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) wuB (Memref.isWhole_whole _) wdB (Memref.isWhole_whole _) caB (Memref.isWhole_whole _) (insAt m c t) (V m c main_v67) (V m c main_v68) h]
    exact late_list _ _ _ i j
  · rw [on_later m c t (fun h0 => h ((first_iff t).mpr h0)), ca_later m c t h, later_ca c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) wuB (Memref.isWhole_whole _) wdB (Memref.isWhole_whole _) caB (Memref.isWhole_whole _) (insAt m c t) (V m c main_v67) (V m c main_v68) h (keptAt m c t.val)]
    exact (congrFun (congrArg View.canon (List.append_nil _).symm) _).trans (late_list _ _ [] i j)

/-- What the next point stands on. -/
theorem on_next (c : Dev nD) (t u : Fin cfg0.N) (h : u.val = t.val + 1) : on m c u = (left m c t).kept := by
  rw [on_later m c u (by omega), h, keptAt_succ]

theorem on_start_vo (c : Dev nD) (t : Fin cfg0.N) (h : t.val = 0) (r : Fin 8) (q : Fin 1024) : (on m c t).vo (ix2 r q) = 0 := by
  rw [on_first m c t h]; exact z3 r q
theorem on_start_fo (c : Dev nD) (t : Fin cfg0.N) (h : t.val = 0) (r : Fin 8) (j : Fin 5632) : (on m c t).fo (ix2 r j) = 0 := by
  rw [on_first m c t h]; exact z4 r j
theorem on_start_ca (c : Dev nD) (t : Fin cfg0.N) (h : t.val = 0) (i : Fin 3) (r : Fin 8) (j : Fin 5632) : (on m c t).ca (ix3 i r j) = 0 := by
  rw [on_first m c t h]; exact z2 i r j

end points

end Cert.Kernel3Ideal.Bffn

end

end
-- ==== Proof.Bffn.Args.lean ====
/- The gated network's backward pass over real arguments, in natural order of time. -/
module

public import proofs.«01_k».proof.Proof.Bffn.Spec
public import proofs.«01_k».proof.Proof.Ffn.Coe

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

open Cert.Re
open Cert.Kernel2Ideal.Ffn (kR aR c_k c_a c_half c_two r1 r2)

/-- The arguments as reals, all but the gradient that is only added. -/
structure BArgs where
  X : Fin 8192 → Fin 1024 → ℝ
  GP : Fin 1024 → ℝ
  SC : Fin 1024 → ℝ
  SH : Fin 1024 → ℝ
  WU : Fin 1024 → Fin 5632 → ℝ
  CW : Fin 3 → Fin 5632 → ℝ
  CB : Fin 5632 → ℝ
  WD : Fin 2816 → Fin 1024 → ℝ
  D : Fin 8192 → Fin 1024 → ℝ

/-- The arrays hold these reals. -/
structure BArgs.Is (A : BArgs) (x : Vec Ideal S8192x1024 .f32) (gpre sc sh : Vec Ideal S1x1024 .f32) (wu : Vec Ideal S1024x5632 .f32)
    (cw : Vec Ideal S3x5632 .f32) (cb : Vec Ideal S1x5632 .f32) (wd : Vec Ideal S2816x1024 .f32) (d : Vec Ideal S8192x1024 .f32) : Prop where
  x : ∀ i k, x (ix2 i k) = ((A.X i k : ℝ) : EReal)
  gpre : ∀ k, gpre (ix2 0 k) = ((A.GP k : ℝ) : EReal)
  sc : ∀ k, sc (ix2 0 k) = ((A.SC k : ℝ) : EReal)
  sh : ∀ k, sh (ix2 0 k) = ((A.SH k : ℝ) : EReal)
  wu : ∀ i k, wu (ix2 i k) = ((A.WU i k : ℝ) : EReal)
  cw : ∀ i k, cw (ix2 i k) = ((A.CW i k : ℝ) : EReal)
  cb : ∀ k, cb (ix2 0 k) = ((A.CB k : ℝ) : EReal)
  wd : ∀ i k, wd (ix2 i k) = ((A.WD i k : ℝ) : EReal)
  d : ∀ i k, d (ix2 i k) = ((A.D i k : ℝ) : EReal)

/-- The constants that the kernel writes for gelu and its derivative. -/
theorem c_ka : KA = ((kR * aR : ℝ) : EReal) := by
  rw [show kR * aR = 80338380498831 / 2251799813685248 from by unfold kR aR; norm_num]
  exact (IdealRules.named_const.statement Cert.Kernel3Ideal.κ "gelu_ka" .f32 0x3D122279#32
    ((80338380498831 / 2251799813685248 : ℝ) : EReal) rfl).2.2

theorem c_3ka : K3 = ((3 * kR * aR : ℝ) : EReal) := by
  rw [show 3 * kR * aR = 241015141496493 / 2251799813685248 from by unfold kR aR; norm_num]
  exact (IdealRules.named_const.statement Cert.Kernel3Ideal.κ "gelu_3ka" .f32 0x3DDB33B6#32
    ((241015141496493 / 2251799813685248 : ℝ) : EReal) rfl).2.2

/-- Gelu's hyperbolic tangent, gelu and its derivative. -/
def tR (a : ℝ) : ℝ := Real.tanh (kR * (a + aR * (a * a * a)))
def gR (a : ℝ) : ℝ := 1 / 2 * a * (1 + tR a)
def gR' (a : ℝ) : ℝ := 1 / 2 * (1 + tR a) + 1 / 2 * a * ((1 + tR a) * (1 - tR a)) * (kR * (1 + 3 * aR * (a * a)))

theorem th1_coe (a : ℝ) : th1 ((a : ℝ) : EReal) = ((1 + tR a : ℝ) : EReal) := by
  unfold th1
  simp only [c_ka, c_k, ← EReal.coe_one, ← EReal.coe_add, ← EReal.coe_mul, Ideal.tanh_coe]
  unfold tR
  ring_nf

theorem gelu_coe (a : ℝ) : gelu ((a : ℝ) : EReal) = ((gR a : ℝ) : EReal) := by
  unfold gelu
  simp only [th1_coe, c_half, ← EReal.coe_mul]
  rfl

theorem dgelu_coe (a : ℝ) : dgelu ((a : ℝ) : EReal) = ((gR' a : ℝ) : EReal) := by
  unfold dgelu
  simp only [th1_coe, c_half, c_two, c_3ka, c_k, ← EReal.coe_add, ← EReal.coe_mul, ← EReal.coe_sub]
  exact congrArg _ (by unfold gR'; ring)

/-- A column of reals one and two times later. -/
def n1 (U : Fin 8192 → ℝ) (i : Fin 8192) : ℝ := if h : i.val + 1 < 8192 then U ⟨i.val + 1, h⟩ else 0
def n2 (U : Fin 8192 → ℝ) (i : Fin 8192) : ℝ := if h : i.val + 2 < 8192 then U ⟨i.val + 2, h⟩ else 0

/-- A sum against a column later is the sum of the other column earlier. -/
theorem sum_n1 (U W : Fin 8192 → ℝ) : ∑ i, n1 U i * W i = ∑ i, U i * r1 W i := by
  rw [Fin.sum_univ_castSucc (n := 8191), Fin.sum_univ_succ (n := 8191)]
  refine (add_eq_left.mpr (by unfold n1; rw [dif_neg (by simp)]; simp)).trans ?_
  refine Eq.trans ?_ (add_eq_right.mpr (by unfold r1; rw [dif_pos (by simp)]; simp)).symm
  refine Finset.sum_congr rfl fun i _ => ?_
  unfold n1 r1
  rw [dif_pos (by simp; omega), dif_neg (by simp)]
  exact congrArg₂ (· * ·) (congrArg U (Fin.ext (by simp))) (congrArg W (Fin.ext (by simp)))

theorem n2_eq (U : Fin 8192 → ℝ) : n2 U = n1 (n1 U) := by
  funext i
  unfold n2 n1
  by_cases h : i.val + 2 < 8192
  · rw [dif_pos h, dif_pos (by omega), dif_pos (by simp only []; omega)]
  · rw [dif_neg h]
    by_cases h1 : i.val + 1 < 8192
    · rw [dif_pos h1, dif_neg (by simp only []; omega)]
    · rw [dif_neg h1]

theorem r2_eq (U : Fin 8192 → ℝ) : r2 U = r1 (r1 U) := by
  funext i
  unfold r2 r1
  by_cases h : i.val < 1
  · rw [dif_pos h, dif_pos (by omega)]
  · rw [dif_neg h]
    by_cases h1 : i.val < 2
    · rw [dif_pos h1, dif_pos (by simp only []; omega)]
    · rw [dif_neg h1, dif_neg (by simp only []; omega)]
      exact congrArg U (Fin.ext (by simp only []; omega))

theorem sum_n2 (U W : Fin 8192 → ℝ) : ∑ i, n2 U i * W i = ∑ i, U i * r2 W i := by
  rw [n2_eq, sum_n1, sum_n1, r2_eq]

/-- A sum over the up projection's columns in the four pieces in which it is added up. -/
theorem sum_slabs (f : Fin 5632 → ℝ) : ∑ j, f j
    = (∑ j : Fin 1536, f ⟨j.val, by omega⟩) + (∑ j : Fin 1536, f ⟨2816 + j.val, by omega⟩)
      + (∑ j : Fin 1280, f ⟨1536 + j.val, by omega⟩) + (∑ j : Fin 1280, f ⟨4352 + j.val, by omega⟩) := by
  have e1 : ∑ j, f j = ∑ j : Fin 2816, f ⟨j.val, by omega⟩ + ∑ j : Fin 2816, f ⟨2816 + j.val, by omega⟩ := Fin.sum_univ_add (a := 2816) (b := 2816) f
  have e2 : ∑ j : Fin 2816, f ⟨j.val, by omega⟩ = ∑ j : Fin 1536, f ⟨j.val, by omega⟩ + ∑ j : Fin 1280, f ⟨1536 + j.val, by omega⟩ :=
    Fin.sum_univ_add (a := 1536) (b := 1280) fun i : Fin 2816 => f ⟨i.val, by omega⟩
  have e3 : ∑ j : Fin 2816, f ⟨2816 + j.val, by omega⟩ = ∑ j : Fin 1536, f ⟨2816 + j.val, by omega⟩ + ∑ j : Fin 1280, f ⟨2816 + (1536 + j.val), by omega⟩ :=
    Fin.sum_univ_add (a := 1536) (b := 1280) fun i : Fin 2816 => f ⟨2816 + i.val, by omega⟩
  have e4 : ∑ j : Fin 1280, f ⟨2816 + (1536 + j.val), by omega⟩ = ∑ j : Fin 1280, f ⟨4352 + j.val, by omega⟩ :=
    Finset.sum_congr rfl fun j _ => congrArg f (Fin.ext (by simp only []; omega))
  rw [e1, e2, e3, e4]
  ring

namespace BArgs

variable (A : BArgs)

/-- The modulated normed row. -/
def h (i : Fin 8192) (q : Fin 1024) : ℝ := A.X i q * rr (A.X i) * A.GP q * (1 + A.SC q) + A.SH q

/-- The up projection, and convolved. -/
def u (j : Fin 5632) (i : Fin 8192) : ℝ := ∑ k : Fin 1024, A.h i k * A.WU k j
def c (j : Fin 5632) (i : Fin 8192) : ℝ := A.CB j + A.CW 0 j * r2 (A.u j) i + A.CW 1 j * r1 (A.u j) i + A.CW 2 j * A.u j i

/-- The gradient at the gated activation. -/
def da (j : Fin 2816) (i : Fin 8192) : ℝ := ∑ q : Fin 1024, A.D i q * A.WD j q

/-- The gradient at the convolved up projection. -/
def dy (j : Fin 5632) (i : Fin 8192) : ℝ :=
  if h : j.val < 2816 then A.da ⟨j.val, h⟩ i * A.c ⟨2816 + j.val, by omega⟩ i * gR' (A.c j i)
  else A.da ⟨j.val - 2816, by omega⟩ i * gR (A.c ⟨j.val - 2816, by omega⟩ i)

/-- The gradient at the up projection. -/
def du (j : Fin 5632) (i : Fin 8192) : ℝ := A.CW 2 j * A.dy j i + A.CW 1 j * n1 (A.dy j) i + A.CW 0 j * n2 (A.dy j) i

/-- The gradient at the modulated normed row, at the normed row and at the row. -/
def dh (i : Fin 8192) (q : Fin 1024) : ℝ := ∑ j : Fin 5632, A.du j i * A.WU q j
def n (i : Fin 8192) (q : Fin 1024) : ℝ := A.X i q * rr (A.X i)
def dn (i : Fin 8192) (q : Fin 1024) : ℝ := A.dh i q * (A.GP q * (1 + A.SC q))
def dx (i : Fin 8192) (q : Fin 1024) : ℝ := rr (A.X i) * (A.dn i q - A.n i q * ((∑ k, A.dn i k * A.n i k) / 1024))

/-- The vector gradients' rows and the convolution's. -/
def vo (r : Fin 8) (q : Fin 1024) : ℝ :=
  if r.val = 0 then ∑ i, A.dh i q else if r.val = 1 then (∑ i, A.dh i q * A.n i q) * A.GP q
  else if r.val = 2 then (∑ i, A.dh i q * A.n i q) * (1 + A.SC q) else 0
def fo (r : Fin 8) (j : Fin 5632) : ℝ :=
  if r.val = 0 then ∑ i, n2 (A.dy j) i * A.u j i else if r.val = 1 then ∑ i, n1 (A.dy j) i * A.u j i
  else if r.val = 2 then ∑ i, A.dy j i * A.u j i else if r.val = 3 then ∑ i, A.dy j i else 0

/-- The up projection as it is computed from the rows. -/
theorem u_at (i : Fin 8192) (j : Fin 5632) :
    ∑ k : Fin 1024, ((A.X i k : EReal) * Ideal.rsqrt (Ideal.div (∑ l : Fin 1024, (A.X i l : EReal) * (A.X i l : EReal))
        (Ideal.ofBits .f32 0x44800000#32) + Ideal.ofBits .f32 0x358637BD#32) * (A.GP k : EReal) * (1 + (A.SC k : EReal)) + (A.SH k : EReal))
      * (A.WU k j : EReal) = ((A.u j i : ℝ) : EReal) := by
  simp only [ms_coe, rr_coe]
  simp only [← EReal.coe_one, ← EReal.coe_add, ← EReal.coe_mul, sum_coe]
  rfl

end BArgs

end Cert.Kernel3Ideal.Bffn

end

end
-- ==== Proof.Bffn.Host.lean ====
/- The arrays that the host prepares for the kernel, read at an index: the interleaved rows, the weights, the vector rows, and the up
   projection with its convolution, which the host computes as the forward pass does. -/
module

public import proofs.«01_k».proof.Proof.Bffn.Args
public import proofs.«01_k».proof.Proof.Ffn.Host
public import proofs.«01_k».proof.Proof.Gen.Kernel3Ideal.Frame
public import Idealize.ShloMosaic.Lib.Pipeline.ValueKit

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

open Cert.Re
open Cert.Kernel2Ideal.Ffn (time row time_row kR aR c_k c_a c_half c_two r1 r2)

variable (m : (ℓ : Loc nD τ sig) → Buf (Elt Ideal) ℓ) (c : Dev nD)

abbrev aX : Vec Ideal S8192x1024 .f32 := m ((c.tc : Thread nD τ).loc main_arg0)
abbrev aGpre : Vec Ideal S1x1024 .f32 := m ((c.tc : Thread nD τ).loc main_arg1)
abbrev aSc : Vec Ideal S1x1024 .f32 := m ((c.tc : Thread nD τ).loc main_arg2)
abbrev aSh : Vec Ideal S1x1024 .f32 := m ((c.tc : Thread nD τ).loc main_arg3)
abbrev aWu : Vec Ideal S1024x5632 .f32 := m ((c.tc : Thread nD τ).loc main_arg4)
abbrev aCw : Vec Ideal S3x5632 .f32 := m ((c.tc : Thread nD τ).loc main_arg5)
abbrev aCb : Vec Ideal S1x5632 .f32 := m ((c.tc : Thread nD τ).loc main_arg6)
abbrev aWd : Vec Ideal S2816x1024 .f32 := m ((c.tc : Thread nD τ).loc main_arg7)
abbrev aD2 : Vec Ideal S8192x1024 .f32 := m ((c.tc : Thread nD τ).loc main_arg8)
abbrev aDF : Vec Ideal S8192x1024 .f32 := m ((c.tc : Thread nD τ).loc main_arg9)

/-- The arguments hold the reals `A`. -/
abbrev Holds (A : BArgs) : Prop := A.Is (aX m c) (aGpre m c) (aSc m c) (aSh m c) (aWu m c) (aCw m c) (aCb m c) (aWd m c) (aDF m c)

theorem V_dff (i : Fin 8192) (k : Fin 1024) : (V m c main_v52) (ix2 i k) = aDF m c (ix2 (time i) k) := by
  unfold_abbrev_sides
  simp only [List.flatten_cons, List.flatten_nil, List.append_nil]
  after_results
  pointwise
  exact congrArg (fun a => aDF m c (ix2 a k)) (Fin.ext (by simp only [time]; omega))

theorem V_dx2 (i : Fin 8192) (k : Fin 1024) : (V m c main_v55) (ix2 i k) = aD2 m c (ix2 (time i) k) := by
  unfold_abbrev_sides
  simp only [List.flatten_cons, List.flatten_nil, List.append_nil]
  after_results
  pointwise
  exact congrArg (fun a => aD2 m c (ix2 a k)) (Fin.ext (by simp only [time]; omega))

theorem V_x1 (i : Fin 8192) (k : Fin 1024) : (V m c main_v58) (ix2 i k) = aX m c (ix2 (time i) k) := by
  unfold_abbrev_sides
  simp only [List.flatten_cons, List.flatten_nil, List.append_nil]
  after_results
  pointwise
  exact congrArg (fun a => aX m c (ix2 a k)) (Fin.ext (by simp only [time]; omega))

theorem V_wu (i : Fin 1024) (j : Fin 5632) : (V m c main_v67) (ix2 i j) = aWu m c (ix2 i j) := by
  unfold_abbrev_sides
  simp only [List.flatten_cons, List.flatten_nil, List.append_nil]
  after_results
  pointwise

theorem V_wd (i : Fin 2816) (j : Fin 1024) : (V m c main_v68) (ix2 i j) = aWd m c (ix2 i j) := by
  unfold_abbrev_sides
  simp only [List.flatten_cons, List.flatten_nil, List.append_nil]
  after_results
  pointwise

theorem V_Sc (k : Fin 1024) : (V m c main_v3) (ix2 4 k) = aSc m c (ix2 0 k) := by
  unfold_abbrev_sides
  simp only [List.flatten_cons, List.flatten_nil, List.append_nil]
  after_results
  pointwise
  after_results_simp

theorem V_Gpre (k : Fin 1024) : (V m c main_v3) (ix2 8 k) = aGpre m c (ix2 0 k) := by
  unfold_abbrev_sides
  simp only [List.flatten_cons, List.flatten_nil, List.append_nil]
  after_results
  pointwise
  after_results_simp

theorem V_w0 (k : Fin 5632) : (V m c main_v5) (ix2 0 k) = aCw m c (ix2 0 k) := by
  unfold_abbrev_sides
  simp only [List.flatten_cons, List.flatten_nil, List.append_nil]
  after_results
  pointwise
  after_results_simp

theorem V_w1 (k : Fin 5632) : (V m c main_v5) (ix2 1 k) = aCw m c (ix2 1 k) := by
  unfold_abbrev_sides
  simp only [List.flatten_cons, List.flatten_nil, List.append_nil]
  after_results
  pointwise
  after_results_simp

theorem V_w2 (k : Fin 5632) : (V m c main_v5) (ix2 2 k) = aCw m c (ix2 2 k) := by
  unfold_abbrev_sides
  simp only [List.flatten_cons, List.flatten_nil, List.append_nil]
  after_results
  pointwise
  after_results_simp

/-- A column read one and two times earlier. -/
theorem pad1 (U : Fin 8192 → ℝ) (i : Fin 8192) (a : ℕ) (h : a = 1 + i.val) :
    (if h : a < 2 then (0 : EReal) else ((U ⟨a - 2, by omega⟩ : ℝ) : EReal)) = ((r1 U i : ℝ) : EReal) := by
  subst h
  unfold r1
  by_cases h : i.val < 1
  · rw [dif_pos (by omega), dif_pos h]; rfl
  · rw [dif_neg (by omega), dif_neg h]
    exact congrArg (fun b => ((U b : ℝ) : EReal)) (Fin.ext (by simp only []; omega))

theorem pad2 (U : Fin 8192 → ℝ) (i : Fin 8192) (a : ℕ) (h : a = i.val) :
    (if h : a < 2 then (0 : EReal) else ((U ⟨a - 2, by omega⟩ : ℝ) : EReal)) = ((r2 U i : ℝ) : EReal) := by
  subst h
  unfold r2
  by_cases h : i.val < 2
  · rw [dif_pos h, dif_pos h]; rfl
  · rw [dif_neg h, dif_neg h]

variable (A : BArgs) (H : Holds m c A)
include H

theorem V_up (i : Fin 8192) (j : Fin 5632) : (V m c main_v62) (ix2 i j) = ((A.u j (time i) : ℝ) : EReal) := by
  unfold_abbrev_sides
  simp only [List.flatten_cons, List.flatten_nil, List.append_nil]
  after_results
  pointwise
  simp only [H.x, H.gpre, H.sc, H.sh, H.wu]
  refine (A.u_at _ j).trans ?_
  exact congrArg (fun a => ((A.u j a : ℝ) : EReal)) (Fin.ext (by simp only [time]; omega))

theorem V_upc (i : Fin 8192) (j : Fin 5632) : (V m c main_v66) (ix2 i j) = ((A.c j (time i) : ℝ) : EReal) := by
  unfold_abbrev_sides
  simp only [List.flatten_cons, List.flatten_nil, List.append_nil]
  after_results
  pointwise
  simp only [H.x, H.gpre, H.sc, H.sh, H.wu, H.cw, H.cb, A.u_at]
  refine Eq.trans ?_ (congrArg (fun a : ℝ => (a : EReal)) (show A.CB j + A.CW 0 j * r2 (A.u j) (time i) + A.CW 1 j * r1 (A.u j) (time i)
    + A.CW 2 j * A.u j (time i) = A.c j (time i) from rfl))
  simp only [EReal.coe_add, EReal.coe_mul]
  refine congrArg₂ (· + ·) (congrArg₂ (· + ·) (congrArg (_ + ·) (congrArg (_ * ·) ?_)) (congrArg (_ * ·) ?_)) (congrArg (_ * ·) ?_)
  · exact pad2 (A.u j) (time i) _ (by simp only [time]; omega)
  · exact pad1 (A.u j) (time i) _ (by simp only [time]; omega)
  · exact congrArg (fun a => ((A.u j a : ℝ) : EReal)) (Fin.ext (by simp only [time]; omega))

end Cert.Kernel3Ideal.Bffn

end

end
-- ==== Proof.Bffn.Array.lean ====
/- The arrays that the kernel leaves, over real arguments: a block's rows, the rows handed to the block before it in time, the
   arrays that the blocks cover and the sums that they build up. -/
module

public import proofs.«01_k».proof.Proof.Bffn.Point
public import proofs.«01_k».proof.Proof.Bffn.Host

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

open Cert.Re
open Cert.Kernel2Ideal.Ffn (time row time_row)

variable (m : (ℓ : Loc nD τ sig) → Buf (Elt Ideal) ℓ) (c : Dev nD)

/-- Time `r` of the block of point `t`: the points meet the blocks from the last to the first. -/
def at_ (t : Fin cfg0.N) (r : Fin 256) : Fin 8192 := ⟨(31 - t.val) * 256 + r.val, by omega⟩

theorem at_val (t : Fin cfg0.N) (r : Fin 256) : (at_ t r).val = (31 - t.val) * 256 + r.val := rfl

theorem time_at (t : Fin cfg0.N) (p : Fin 256) : time (at_ t p) = at_ t (tau p) :=
  Fin.ext (by simp only [time, tau, at_]; omega)

theorem ix0' (t : Fin cfg0.N) : win0_0.index t 0 = 31 - t.val ∧ win0_0.index t 1 = 0 :=
  (by decide +kernel : ∀ t : Fin grid0.N, win0_0.index t 0 = 31 - t.val ∧ win0_0.index t 1 = 0) t
theorem ix1' (t : Fin cfg0.N) : win0_1.index t 0 = 31 - t.val ∧ win0_1.index t 1 = 0 :=
  (by decide +kernel : ∀ t : Fin grid0.N, win0_1.index t 0 = 31 - t.val ∧ win0_1.index t 1 = 0) t
theorem ix2' (t : Fin cfg0.N) : win0_2.index t 0 = 31 - t.val ∧ win0_2.index t 1 = 0 :=
  (by decide +kernel : ∀ t : Fin grid0.N, win0_2.index t 0 = 31 - t.val ∧ win0_2.index t 1 = 0) t
theorem ix3' (t : Fin cfg0.N) : win0_3.index t 0 = 31 - t.val ∧ win0_3.index t 1 = 0 :=
  (by decide +kernel : ∀ t : Fin grid0.N, win0_3.index t 0 = 31 - t.val ∧ win0_3.index t 1 = 0) t
theorem ix4' (t : Fin cfg0.N) : win0_4.index t 0 = 31 - t.val ∧ win0_4.index t 1 = 0 :=
  (by decide +kernel : ∀ t : Fin grid0.N, win0_4.index t 0 = 31 - t.val ∧ win0_4.index t 1 = 0) t
theorem ix7' (t : Fin cfg0.N) : win0_7.index t 0 = 31 - t.val ∧ win0_7.index t 1 = 0 :=
  (by decide +kernel : ∀ t : Fin grid0.N, win0_7.index t 0 = 31 - t.val ∧ win0_7.index t 1 = 0) t
theorem ix8' (t : Fin cfg0.N) : win0_8.index t 0 = 31 - t.val ∧ win0_8.index t 1 = 0 :=
  (by decide +kernel : ∀ t : Fin grid0.N, win0_8.index t 0 = 31 - t.val ∧ win0_8.index t 1 = 0) t
theorem ix5' (t : Fin cfg0.N) : win0_5.index t 0 = 0 ∧ win0_5.index t 1 = 0 :=
  (by decide +kernel : ∀ t : Fin grid0.N, win0_5.index t 0 = 0 ∧ win0_5.index t 1 = 0) t
theorem ix6' (t : Fin cfg0.N) : win0_6.index t 0 = 0 ∧ win0_6.index t 1 = 0 :=
  (by decide +kernel : ∀ t : Fin grid0.N, win0_6.index t 0 = 0 ∧ win0_6.index t 1 = 0) t

theorem blk_dff (t : Fin cfg0.N) (p : Fin 256) (k : Fin 1024) : (insAt m c t).dff (ix2 p k) = aDF m c (ix2 (at_ t (tau p)) k) := by
  rw [← time_at, ← V_dff m c (at_ t p) k]
  change (iblk m c 0 t : Vec Ideal S256x1024 .bf16) (ix2 p k) = _
  blk_ext [iblk, V, at_, (ix0' t).1, (ix0' t).2]

theorem blk_dx2 (t : Fin cfg0.N) (p : Fin 256) (k : Fin 1024) : (insAt m c t).dx2 (ix2 p k) = aD2 m c (ix2 (at_ t (tau p)) k) := by
  rw [← time_at, ← V_dx2 m c (at_ t p) k]
  change (iblk m c 1 t : Vec Ideal S256x1024 .f32) (ix2 p k) = _
  blk_ext [iblk, V, at_, (ix1' t).1, (ix1' t).2]

theorem blk_x1 (t : Fin cfg0.N) (p : Fin 256) (k : Fin 1024) : (insAt m c t).x1 (ix2 p k) = aX m c (ix2 (at_ t (tau p)) k) := by
  rw [← time_at, ← V_x1 m c (at_ t p) k]
  change (iblk m c 2 t : Vec Ideal S256x1024 .f32) (ix2 p k) = _
  blk_ext [iblk, V, at_, (ix2' t).1, (ix2' t).2]

theorem blk_Sc (t : Fin cfg0.N) (k : Fin 1024) : (insAt m c t).vd (ix2 4 k) = aSc m c (ix2 0 k) := by
  refine Eq.trans ?_ (V_Sc m c k)
  change (iblk m c 5 t : Vec Ideal S16x1024 .f32) (ix2 4 k) = _
  blk_ext [iblk, V, (ix5' t).1, (ix5' t).2]

theorem blk_Gpre (t : Fin cfg0.N) (k : Fin 1024) : (insAt m c t).vd (ix2 8 k) = aGpre m c (ix2 0 k) := by
  refine Eq.trans ?_ (V_Gpre m c k)
  change (iblk m c 5 t : Vec Ideal S16x1024 .f32) (ix2 8 k) = _
  blk_ext [iblk, V, (ix5' t).1, (ix5' t).2]

theorem blk_w0 (t : Fin cfg0.N) (k : Fin 5632) : (insAt m c t).vf (ix2 0 k) = aCw m c (ix2 0 k) := by
  refine Eq.trans ?_ (V_w0 m c k)
  change (iblk m c 6 t : Vec Ideal S8x5632 .f32) (ix2 0 k) = _
  blk_ext [iblk, V, (ix6' t).1, (ix6' t).2]

theorem blk_w1 (t : Fin cfg0.N) (k : Fin 5632) : (insAt m c t).vf (ix2 1 k) = aCw m c (ix2 1 k) := by
  refine Eq.trans ?_ (V_w1 m c k)
  change (iblk m c 6 t : Vec Ideal S8x5632 .f32) (ix2 1 k) = _
  blk_ext [iblk, V, (ix6' t).1, (ix6' t).2]

theorem blk_w2 (t : Fin cfg0.N) (k : Fin 5632) : (insAt m c t).vf (ix2 2 k) = aCw m c (ix2 2 k) := by
  refine Eq.trans ?_ (V_w2 m c k)
  change (iblk m c 6 t : Vec Ideal S8x5632 .f32) (ix2 2 k) = _
  blk_ext [iblk, V, (ix6' t).1, (ix6' t).2]

theorem tau_255 : ∀ p : Fin 256, (tau p).val = 255 ↔ p.val = 255 := by decide +kernel
theorem tau_254 : ∀ p : Fin 256, (tau p).val = 254 ↔ p.val = 247 := by decide +kernel

theorem at_next (t : Fin cfg0.N) (p : Fin 256) (h : p.val ≠ 255) : (at_ t (tau (next p))).val = (at_ t (tau p)).val + 1 := by
  rw [at_val, at_val, tau_next p (fun e => h ((tau_255 p).mp e))]; rfl

/-- The sum over the points and a block's rows is the sum over the times. -/
theorem sum_at (f : Fin 8192 → ℝ) : ∑ t : Fin cfg0.N, ∑ p : Fin 256, f (at_ t (tau p)) = ∑ i, f i := by
  have e1 (t : Fin cfg0.N) : ∑ p : Fin 256, f (at_ t (tau p)) = ∑ r : Fin 256, f (at_ t r) := Equiv.sum_comp perm fun r => f (at_ t r)
  have e2 := Equiv.sum_comp (Fin.revPerm (n := 32)) fun s : Fin 32 => ∑ r : Fin 256, f ⟨s.val * 256 + r.val, by omega⟩
  have e3 : ∑ s : Fin 32, ∑ r : Fin 256, f ⟨s.val * 256 + r.val, by omega⟩ = ∑ i, f i := Fin.sum_mul_add_congr (fun t p hl => rfl) (by decide +kernel)
  simp only [e1]
  rw [← e3, ← e2]
  refine Eq.trans ?_ (Equiv.sum_comp (finCongr (N_0 : cfg0.N = 32)) _)
  refine Finset.sum_congr rfl fun t _ => Finset.sum_congr rfl fun r _ => congrArg f (Fin.ext ?_)
  simp [at_, Fin.val_rev]

variable (A : BArgs) (H : Holds m c A)
include H

theorem blk_up (t : Fin cfg0.N) (p : Fin 256) (j : Fin 5632) : (insAt m c t).up (ix2 p j) = ((A.u j (at_ t (tau p)) : ℝ) : EReal) := by
  rw [← time_at, ← V_up m c A H (at_ t p) j]
  change (iblk m c 3 t : Vec Ideal S256x5632 .bf16) (ix2 p j) = _
  blk_ext [iblk, V, at_, (ix3' t).1, (ix3' t).2]

theorem blk_conv (t : Fin cfg0.N) (p : Fin 256) (j : Fin 5632) : (insAt m c t).conv (ix2 p j) = ((A.c j (at_ t (tau p)) : ℝ) : EReal) := by
  rw [← time_at, ← V_upc m c A H (at_ t p) j]
  change (iblk m c 4 t : Vec Ideal S256x5632 .bf16) (ix2 p j) = _
  blk_ext [iblk, V, at_, (ix4' t).1, (ix4' t).2]

theorem da_eq (t : Fin cfg0.N) (j : Fin 2816) (p : Fin 256) : da (insAt m c t) (on m c t) j p = ((A.da j (at_ t (tau p)) : ℝ) : EReal) := by
  have e (q : Fin 1024) : (insAt m c t).dff (ix2 p q) * (on m c t).wd (ix2 j q) = ((A.D (at_ t (tau p)) q * A.WD j q : ℝ) : EReal) := by
    rw [blk_dff, on_wd, H.d, EReal.coe_mul]
    exact congrArg (_ * ·) ((V_wd m c j q).trans (H.wd j q))
  unfold da
  simp only [e, sum_coe]
  rfl

theorem dy_eq (t : Fin cfg0.N) (j : Fin 5632) (p : Fin 256) : dy (insAt m c t) (on m c t) j p = ((A.dy j (at_ t (tau p)) : ℝ) : EReal) := by
  unfold dy BArgs.dy
  by_cases h : j.val < 2816
  · rw [dif_pos h, dif_pos h, da_eq m c A H, blk_conv m c A H, blk_conv m c A H, dgelu_coe, ← EReal.coe_mul, ← EReal.coe_mul]
  · rw [dif_neg h, dif_neg h, da_eq m c A H, blk_conv m c A H, gelu_coe, ← EReal.coe_mul]

/-- A column's values at the first two times of the block met before, zero before the first block is met. -/
theorem ca_eq (t : Fin cfg0.N) (i : Fin 3) (j : Fin 5632) (s : Fin 256) (hs : s.val = if i.val = 1 then 254 else 255) :
    (on m c t).ca (ix3 i 7 j) = (((if i.val = 0 then n1 (A.dy j) else n2 (A.dy j)) (at_ t s) : ℝ) : EReal) := by
  have ht := lt_of_lt_of_eq t.isLt N_0
  by_cases h : t.val = 0
  · rw [on_start_ca m c t h]
    refine (EReal.coe_zero.symm.trans (congrArg _ ?_))
    have hi := i.isLt
    by_cases h0 : i.val = 0
    · rw [if_pos h0, n1, dif_neg (by rw [at_val, hs, if_neg (by omega)]; omega)]
    · rw [if_neg h0, n2, dif_neg (by rw [at_val, hs]; split <;> omega)]
  · rw [on_next m c ⟨t.val - 1, by omega⟩ t (by simp only []; omega), left_ca, late, dy_eq m c A H]
    refine congrArg _ ?_
    have hi := i.isLt
    have e8 : (tau 8).val = 1 := rfl
    have e0 : (tau 0).val = 0 := rfl
    by_cases h0 : i.val = 0
    · rw [if_pos h0, n1, dif_pos (by rw [at_val, hs, if_neg (by omega)]; omega)]
      refine congrArg (A.dy j) (Fin.ext ?_)
      simp only [at_val, hs, h0]
      simp
      omega
    · rw [if_neg h0, n2, dif_pos (by rw [at_val, hs]; split <;> omega)]
      refine congrArg (A.dy j) (Fin.ext ?_)
      simp only [at_val, hs]
      by_cases h1 : i.val = 1
      · simp [h1]; omega
      · have h2 : i.val = 2 := by omega
        simp [h2]; omega

theorem d1_eq (t : Fin cfg0.N) (j : Fin 5632) (p : Fin 256) : d1 (insAt m c t) (on m c t) j p = ((n1 (A.dy j) (at_ t (tau p)) : ℝ) : EReal) := by
  unfold d1 aft1
  by_cases h : p.val = 255
  · rw [if_pos h, ca_eq m c A H t 0 j (tau p) ((tau_255 p).mpr h)]; rfl
  · rw [if_neg h, dy_eq m c A H, n1, dif_pos (by rw [← at_next t p h]; exact Fin.isLt _)]
    exact congrArg (fun a => ((A.dy j a : ℝ) : EReal)) (Fin.ext (at_next t p h))

theorem d2_eq (t : Fin cfg0.N) (j : Fin 5632) (p : Fin 256) : d2 (insAt m c t) (on m c t) j p = ((n2 (A.dy j) (at_ t (tau p)) : ℝ) : EReal) := by
  unfold d2 aft2
  by_cases h7 : p.val = 247
  · rw [if_pos h7, ca_eq m c A H t 1 j (tau p) ((tau_254 p).mpr h7)]; rfl
  rw [if_neg h7]
  by_cases h : p.val = 255
  · rw [if_pos h, ca_eq m c A H t 2 j (tau p) ((tau_255 p).mpr h)]; rfl
  · have e1 := at_next t p h
    have h' : (next p).val ≠ 255 := fun e => h7 ((tau_254 p).mp (by
      have := tau_next p (fun e => h ((tau_255 p).mp e)); have := (tau_255 (next p)).mpr e; omega))
    have e2 := at_next t (next p) h'
    rw [if_neg h, dy_eq m c A H, n2, dif_pos (by have := (at_ t (tau (next (next p)))).isLt; omega)]
    exact congrArg (fun a => ((A.dy j a : ℝ) : EReal)) (Fin.ext (by simp only []; omega))

theorem du_eq (t : Fin cfg0.N) (j : Fin 5632) (p : Fin 256) : du (insAt m c t) (on m c t) j p = ((A.du j (at_ t (tau p)) : ℝ) : EReal) := by
  rw [du, dy_eq m c A H, d1_eq m c A H, d2_eq m c A H, blk_w0, blk_w1, blk_w2, H.cw, H.cw, H.cw]
  simp only [← EReal.coe_mul, ← EReal.coe_add]
  rfl

theorem dh_eq (t : Fin cfg0.N) (p : Fin 256) (q : Fin 1024) : dh (insAt m c t) (on m c t) p q = ((A.dh (at_ t (tau p)) q : ℝ) : EReal) := by
  unfold dh
  have e (j : Fin 5632) : du (insAt m c t) (on m c t) j p * (on m c t).wu (ix2 q j) = ((A.du j (at_ t (tau p)) * A.WU q j : ℝ) : EReal) := by
    rw [du_eq m c A H, on_wu, EReal.coe_mul]
    exact congrArg (_ * ·) ((V_wu m c q j).trans (H.wu q j))
  simp only [e, sum_coe, zero_add, ← EReal.coe_add]
  exact congrArg _ (sum_slabs fun j => A.du j (at_ t (tau p)) * A.WU q j).symm

theorem r3_eq (t : Fin cfg0.N) (p : Fin 256) : r3 (insAt m c t) p = ((rr (A.X (at_ t (tau p))) : ℝ) : EReal) := by
  unfold r3 rms
  simp only [blk_x1, H.x]
  rw [ms_coe, rr_coe]

theorem n3_eq (t : Fin cfg0.N) (p : Fin 256) (q : Fin 1024) : n3 (insAt m c t) p q = ((A.n (at_ t (tau p)) q : ℝ) : EReal) := by
  rw [n3, r3_eq m c A H, blk_x1, H.x, ← EReal.coe_mul, BArgs.n]

theorem dn_eq (t : Fin cfg0.N) (p : Fin 256) (q : Fin 1024) : dn (insAt m c t) (on m c t) p q = ((A.dn (at_ t (tau p)) q : ℝ) : EReal) := by
  rw [dn, dh_eq m c A H, blk_Gpre, blk_Sc, H.gpre, H.sc, ← EReal.coe_one, ← EReal.coe_add, ← EReal.coe_mul, ← EReal.coe_mul, BArgs.dn]

theorem dx_eq (t : Fin cfg0.N) (p : Fin 256) (q : Fin 1024) :
    dx (insAt m c t) (on m c t) p q = aD2 m c (ix2 (at_ t (tau p)) q) + ((A.dx (at_ t (tau p)) q : ℝ) : EReal) := by
  rw [dx, blk_dx2]
  refine congrArg (_ + ·) ?_
  simp only [r3_eq m c A H, n3_eq m c A H, dn_eq m c A H, c_1024, ← EReal.coe_mul, sum_coe, div_coe _ _ (by norm_num : (1024 : ℝ) ≠ 0), ← EReal.coe_sub]
  rfl

end Cert.Kernel3Ideal.Bffn

end

end
-- ==== Proof.Bffn.Final.lean ====
/- The arrays that the kernel has left when its last point is done, over real arguments. -/
module

public import proofs.«01_k».proof.Proof.Bffn.Array
public import proofs.«01_k».proof.Proof.Ffn.Tail

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

open Cert.Re
open Cert.Kernel2Ideal.Ffn (time row time_row time_nat)

variable (m : (ℓ : Loc nD τ sig) → Buf (Elt Ideal) ℓ) (c : Dev nD) (A : BArgs)

theorem N0 : cfg0.N = 32 := N_0

theorem plain_7 (t : Fin cfg0.N) : (plain m 0 c).after 7 t = (left m c t).dx := by dsimp only [plain, afterAt]
theorem plain_8 (t : Fin cfg0.N) : (plain m 0 c).after 8 t = (left m c t).dup := by dsimp only [plain, afterAt]
theorem plain_9 (t : Fin cfg0.N) : (plain m 0 c).after 9 t = (left m c t).kept.vo := by dsimp only [plain, afterAt]
theorem plain_10 (t : Fin cfg0.N) : (plain m 0 c).after 10 t = (left m c t).kept.fo := by dsimp only [plain, afterAt]

/-- The last point. -/
def tL : Fin cfg0.N := ⟨31, by rw [N0]; decide⟩

/-- The arrays of the row gradients, in the kernel's order of rows. -/
def outX : Vec Ideal S8192x1024 .f32 := fun y => aD2 m c (ix2 (time (y 0)) (y 1)) + ((A.dx (time (y 0)) (y 1) : ℝ) : EReal)
def outU : Vec Ideal S8192x5632 .bf16 := fun y => ((A.du (y 1) (time (y 0)) : ℝ) : EReal)

/-- The arrays of the vector gradients. -/
def outV : Vec Ideal S8x1024 .f32 := fun y => ((A.vo (y 0) (y 1) : ℝ) : EReal)
def outF : Vec Ideal S8x5632 .f32 := fun y => ((A.fo (y 0) (y 1) : ℝ) : EReal)

variable (H : Holds m c A)
include H

theorem dx_final : (plain m 0 c).arrAt 7 cfg0.N = outX m c A := by
  refine (plain m 0 c).arrAt_eq_of_covers 7 _ (by decide +kernel) fun t hf y => ?_
  blk_simp
  rw [plain_7]
  obtain ⟨r, k, rfl⟩ : ∃ (r : Fin 256) (k : Fin 1024), y = ix2 r k := ⟨_, _, eq_ix2 y⟩
  have e0 : (win0_7.blk t).view.emb (ix2 r k) 0 = at_ t r := Fin.ext (by blk_simp [(ix7' t).1, at_])
  have e1 : (win0_7.blk t).view.emb (ix2 r k) 1 = k := Fin.ext (by blk_simp [(ix7' t).2])
  rw [left_dx, dx_eq m c A H, outX, e0, e1, time_at]

theorem dup_final : (plain m 0 c).arrAt 8 cfg0.N = outU A := by
  refine (plain m 0 c).arrAt_eq_of_covers 8 _ (by decide +kernel) fun t hf y => ?_
  blk_simp
  rw [plain_8]
  obtain ⟨r, k, rfl⟩ : ∃ (r : Fin 256) (k : Fin 5632), y = ix2 r k := ⟨_, _, eq_ix2 y⟩
  have e0 : (win0_8.blk t).view.emb (ix2 r k) 0 = at_ t r := Fin.ext (by blk_simp [(ix8' t).1, at_])
  have e1 : (win0_8.blk t).view.emb (ix2 r k) 1 = k := Fin.ext (by blk_simp [(ix8' t).2])
  rw [left_dup, du_eq m c A H, outU, e0, e1, time_at]

theorem s0_eq (t : Fin cfg0.N) (q : Fin 1024) : s0 (insAt m c t) (on m c t) q = ((∑ p : Fin 256, A.dh (at_ t (tau p)) q : ℝ) : EReal) := by
  unfold s0
  simp only [dh_eq m c A H, sum_coe]

theorem s2_eq (t : Fin cfg0.N) (q : Fin 1024) :
    s2 (insAt m c t) (on m c t) q = ((∑ p : Fin 256, A.dh (at_ t (tau p)) q * A.n (at_ t (tau p)) q : ℝ) : EReal) := by
  unfold s2
  simp only [dh_eq m c A H, n3_eq m c A H, ← EReal.coe_mul, sum_coe]

theorem vo_sum (r : Fin 8) (q : Fin 1024) : ∑ t : Fin cfg0.N, vo (insAt m c t) (on m c t) r q = ((A.vo r q : ℝ) : EReal) := by
  unfold vo BArgs.vo
  by_cases h0 : r.val = 0
  · simp only [if_pos h0, s0_eq m c A H, sum_coe]
    exact congrArg _ (sum_at fun i => A.dh i q)
  by_cases h1 : r.val = 1
  · simp only [if_neg h0, if_pos h1, s2_eq m c A H, blk_Gpre, H.gpre, ← EReal.coe_mul, sum_coe]
    exact congrArg _ ((Finset.sum_mul _ _ _).symm.trans (congrArg (· * A.GP q) (sum_at fun i => A.dh i q * A.n i q)))
  by_cases h2 : r.val = 2
  · simp only [if_neg h0, if_neg h1, if_pos h2, s2_eq m c A H, blk_Sc, H.sc, ← EReal.coe_one, ← EReal.coe_add, ← EReal.coe_mul, sum_coe]
    exact congrArg _ ((Finset.sum_mul _ _ _).symm.trans (congrArg (· * (1 + A.SC q)) (sum_at fun i => A.dh i q * A.n i q)))
  · simp only [if_neg h0, if_neg h1, if_neg h2, Finset.sum_const_zero, EReal.coe_zero]

theorem fo_sum (r : Fin 8) (j : Fin 5632) : ∑ t : Fin cfg0.N, fo (insAt m c t) (on m c t) r j = ((A.fo r j : ℝ) : EReal) := by
  unfold fo BArgs.fo
  by_cases h0 : r.val = 0
  · simp only [if_pos h0, d2_eq m c A H, blk_up m c A H, ← EReal.coe_mul, sum_coe]
    exact congrArg _ (sum_at fun i => n2 (A.dy j) i * A.u j i)
  by_cases h1 : r.val = 1
  · simp only [if_neg h0, if_pos h1, d1_eq m c A H, blk_up m c A H, ← EReal.coe_mul, sum_coe]
    exact congrArg _ (sum_at fun i => n1 (A.dy j) i * A.u j i)
  by_cases h2 : r.val = 2
  · simp only [if_neg h0, if_neg h1, if_pos h2, dy_eq m c A H, blk_up m c A H, ← EReal.coe_mul, sum_coe]
    exact congrArg _ (sum_at fun i => A.dy j i * A.u j i)
  by_cases h3 : r.val = 3
  · simp only [if_neg h0, if_neg h1, if_neg h2, if_pos h3, dy_eq m c A H, sum_coe]
    exact congrArg _ (sum_at fun i => A.dy j i)
  · simp only [if_neg h0, if_neg h1, if_neg h2, if_neg h3, Finset.sum_const_zero, EReal.coe_zero]

theorem vo_final : (plain m 0 c).arrAt 9 cfg0.N = outV A := by
  refine (plain m 0 c).arrAt_eq_of_after_last 9 tL (by decide +kernel) _ fun j => ?_
  blk_simp
  rw [plain_9]
  obtain ⟨r, k, rfl⟩ : ∃ (r : Fin 8) (k : Fin 1024), j = ix2 r k := ⟨_, _, eq_ix2 j⟩
  refine Eq.trans ?_ (vo_sum m c A H r k)
  rw [Pipeline.eq_sum_fin_of_reset_step_apply_last (fun n h => (left m c ⟨n, h⟩).kept.vo) 32 (fun _ => 0)
    (fun t j => vo (insAt m c t) (on m c t) (j 0) (j 1))
    (fun t h j => by
      obtain ⟨r, k, rfl⟩ : ∃ (r : Fin 8) (k : Fin 1024), j = ix2 r k := ⟨_, _, eq_ix2 j⟩
      have ht := lt_of_lt_of_eq t.isLt N0
      exact (left_vo m c t r k).trans (congrArg (· + _) (on_start_vo m c t (by omega) r k)))
    (fun t h j => by
      obtain ⟨r, k, rfl⟩ : ∃ (r : Fin 8) (k : Fin 1024), j = ix2 r k := ⟨_, _, eq_ix2 j⟩
      have ht := lt_of_lt_of_eq t.isLt N0
      refine (left_vo m c t r k).trans (congrArg (· + _) ?_)
      rw [on_next m c ⟨t.val - 1, by omega⟩ t (by simp only []; omega)])
    (le_of_eq N0) tL rfl (ix2 r k), zero_add]
  rfl

theorem fo_final : (plain m 0 c).arrAt 10 cfg0.N = outF A := by
  refine (plain m 0 c).arrAt_eq_of_after_last 10 tL (by decide +kernel) _ fun j => ?_
  blk_simp
  rw [plain_10]
  obtain ⟨r, k, rfl⟩ : ∃ (r : Fin 8) (k : Fin 5632), j = ix2 r k := ⟨_, _, eq_ix2 j⟩
  refine Eq.trans ?_ (fo_sum m c A H r k)
  rw [Pipeline.eq_sum_fin_of_reset_step_apply_last (fun n h => (left m c ⟨n, h⟩).kept.fo) 32 (fun _ => 0)
    (fun t j => fo (insAt m c t) (on m c t) (j 0) (j 1))
    (fun t h j => by
      obtain ⟨r, k, rfl⟩ : ∃ (r : Fin 8) (k : Fin 5632), j = ix2 r k := ⟨_, _, eq_ix2 j⟩
      have ht := lt_of_lt_of_eq t.isLt N0
      exact (left_fo m c t r k).trans (congrArg (· + _) (on_start_fo m c t (by omega) r k)))
    (fun t h j => by
      obtain ⟨r, k, rfl⟩ : ∃ (r : Fin 8) (k : Fin 5632), j = ix2 r k := ⟨_, _, eq_ix2 j⟩
      have ht := lt_of_lt_of_eq t.isLt N0
      refine (left_fo m c t r k).trans (congrArg (· + _) ?_)
      rw [on_next m c ⟨t.val - 1, by omega⟩ t (by simp only []; omega)])
    (le_of_eq N0) tL rfl (ix2 r k), zero_add]
  rfl

end Cert.Kernel3Ideal.Bffn

end

end
-- ==== Proof.Bffn.Tail.lean ====
/- What the host hands back: the kernel's arrays in natural order of time. -/
module

public import proofs.«01_k».proof.Proof.Bffn.Final

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

open Cert.Kernel2Ideal.Ffn (time row time_row time_nat)

variable (m : (ℓ : Loc nD τ sig) → Buf (Elt Ideal) ℓ) (ρ : Dev nD → PrngReg)

/-- The row gradients in natural order of time. -/
def resX (c : Dev nD) (A : BArgs) : Vec Ideal S8192x1024 .f32 := fun y => aD2 m c (ix2 (y 0) (y 1)) + ((A.dx (y 0) (y 1) : ℝ) : EReal)
def resU (A : BArgs) : Vec Ideal S8192x5632 .f32 := fun y => ((A.du (y 1) (y 0) : ℝ) : EReal)

variable (A : Dev nD → BArgs) (H : ∀ c, Holds m c (A c))
include H

theorem tail_v72 (c : Dev nD) : Pipeline.afterTail₀ cfgs (plain m) 0 (V0 m) [hostOps1] c main_v72 = resX m c (A c) := by
  funext y
  obtain ⟨i, k, rfl⟩ : ∃ (i : Fin 8192) (k : Fin 1024), y = ix2 i k := ⟨_, _, eq_ix2 y⟩
  unfold Pipeline.afterTail₀
  simp only [List.flatten_cons, List.flatten_nil, List.append_nil]
  after_results
  rw [Pipeline.withArrays_arr (cfgs 0).spec (by decide +kernel) c (V0 m c) (fun w => (plain m 0 c).arrAt w (cfgs 0).N) 7]
  pointwise
  refine (congrFun (dx_final m c (A c) (H c)) _).trans ?_
  exact congrArg (fun a => aD2 m c (ix2 a k) + (((A c).dx a k : ℝ) : EReal)) (time_nat i _)

theorem tail_v76 (c : Dev nD) : Pipeline.afterTail₀ cfgs (plain m) 0 (V0 m) [hostOps1] c main_v76 = resU (A c) := by
  funext y
  obtain ⟨i, k, rfl⟩ : ∃ (i : Fin 8192) (k : Fin 5632), y = ix2 i k := ⟨_, _, eq_ix2 y⟩
  unfold Pipeline.afterTail₀
  simp only [List.flatten_cons, List.flatten_nil, List.append_nil]
  after_results
  rw [Pipeline.withArrays_arr (cfgs 0).spec (by decide +kernel) c (V0 m c) (fun w => (plain m 0 c).arrAt w (cfgs 0).N) 8]
  pointwise
  refine (congrFun (dup_final m c (A c) (H c)) _).trans ?_
  exact congrArg (fun a => (((A c).du k a : ℝ) : EReal)) (time_nat i _)

/-- The kernel's program runs and leaves these arrays. -/
theorem run_arrays : θ_run defs (onTc (τ := τ) (main (F := Ideal))) (s₀ m ρ) (fun r => ∀ c : Dev nD,
    r.2.mem ((c.tc : Thread nD τ).loc main_v72) = resX m c (A c) ∧ r.2.mem ((c.tc : Thread nD τ).loc main_v76) = resU (A c) ∧
    r.2.mem ((c.tc : Thread nD τ).loc main_v69_2) = outV (A c) ∧ r.2.mem ((c.tc : Thread nD τ).loc main_v69_3) = outF (A c)) := by
  refine (θ_run _ _ _).mono (fun r h c => ?_) (run_plain m ρ)
  obtain ⟨h1, h2⟩ := h c
  exact ⟨(h2 main_v72 (by decide +kernel)).trans (tail_v72 m A H c), (h2 main_v76 (by decide +kernel)).trans (tail_v76 m A H c),
    (h1 9).trans (vo_final m c (A c) (H c)), (h1 10).trans (fo_final m c (A c) (H c))⟩

end Cert.Kernel3Ideal.Bffn

end

end
-- ==== Proof.Bffn.Ref.lean ====
/- The reference over real arguments, its values read at an index. -/
module

public import proofs.«01_k».proof.Proof.Bffn.Args
public import proofs.«01_k».proof.Proof.Gen.Reference3Ideal.Read
public import Idealize.ShloMosaic.Lib.Pointwise

@[expose] public section

set_option maxRecDepth 16384

noncomputable section

namespace Cert.Reference3Ideal.Bffn

open Idealize.ShloMosaic Idealize.ShloMosaic.TcCoe Cert.Reference3Ideal Cert.Reference3Ideal.Read Cert.Re
open Cert.Kernel3Ideal.Bffn (BArgs gR gR' tR n1 n2 sum_n1 sum_n2)
open Cert.Kernel2Ideal.Ffn (kR aR c_k c_a c_half c_two r1 r2)

variable {A : BArgs} {x0 x8 x9 : Vec Ideal S8192x1024 .f32} {x1 x2 x3 : Vec Ideal S1x1024 .f32} {x4 : Vec Ideal S1024x5632 .f32}
  {x5 : Vec Ideal S3x5632 .f32} {x6 : Vec Ideal S1x5632 .f32} {x7 : Vec Ideal S2816x1024 .f32}
variable (H : A.Is x0 x1 x2 x3 x4 x5 x6 x7 x9)
include H

omit H in
theorem late2 (U : Fin 8192 → ℝ) (i : Fin 8192) (p : ∀ h : ¬ i.val < 2, i.val - 2 < 8192) :
    (if h : i.val < 2 then (0 : EReal) else ((U ⟨i.val - 2, p h⟩ : ℝ) : EReal)) = ((r2 U i : ℝ) : EReal) := by
  unfold r2
  split <;> rfl

omit H in
theorem late1 (U : Fin 8192 → ℝ) (i : Fin 8192) (p : ∀ h : ¬ 1 + i.val < 2, 1 + i.val - 2 < 8192) :
    (if h : 1 + i.val < 2 then (0 : EReal) else ((U ⟨1 + i.val - 2, p h⟩ : ℝ) : EReal)) = ((r1 U i : ℝ) : EReal) := by
  unfold r1
  by_cases h : i.val < 1
  · rw [dif_pos (by omega), dif_pos h]; rfl
  · rw [dif_neg (by omega), dif_neg h]
    exact congrArg (fun a => ((U a : ℝ) : EReal)) (Fin.ext (by simp only []; omega))

omit H in
/-- The constant that the derivative of the cube brings. -/
theorem c_three : Ideal.ofBits .f32 0x40400000#32 = ((3 : ℝ) : EReal) := by
  simp [Ideal.ofBits, Ideal.ieee, -EReal.coe_mul]; norm_num

omit H in
/-- A sum against a column two times later, without the times that it does not reach. -/
theorem sum_later (U W : Fin 8192 → ℝ) : ∑ k : Fin 8190, U ⟨2 + k.val, by omega⟩ * W ⟨k.val, by omega⟩ = ∑ i, n2 U i * W i := by
  have e := Fin.sum_univ_add (a := 8190) (b := 2) fun i : Fin 8192 => n2 U i * W i
  refine Eq.trans ?_ e.symm
  refine (add_eq_left.mpr ?_).symm.trans (congrArg (· + _) (Finset.sum_congr rfl fun k _ => ?_))
  · refine Finset.sum_eq_zero fun k _ => ?_
    rw [n2, dif_neg (by simp)]
    exact zero_mul _
  · rw [n2, dif_pos (by simp; omega)]
    exact congrArg (· * _) (congrArg U (Fin.ext (by simp; omega)))

theorem v6_at (i : Fin 8192) : val_main_v6 (F := Ideal) x0 (ix2 i 0) = ((ms (A.X i) : ℝ) : EReal) := by
  pointwise [val_main_v6, val_main_v5, val_main_cst_1, val_main_v4, val_main_v3, val_main_cst_0, val_main_v2, val_main_v1, val_main_cst, val_main_v0]
  simp only [H.x]
  exact ms_coe (A.X i)

theorem v12_at (i : Fin 8192) (q : Fin 1024) : val_main_v12 (F := Ideal) x0 (ix2 i q) = ((A.n i q : ℝ) : EReal) := by
  pointwise [val_main_v12, val_main_v11, val_main_v7]
  simp only [v6_at H, H.x, rr_coe, ← EReal.coe_mul]
  rfl

theorem v20_at (i : Fin 8192) (q : Fin 1024) : val_main_v20 (F := Ideal) x0 x1 x2 x3 (ix2 i q) = ((A.h i q : ℝ) : EReal) := by
  pointwise [val_main_v20, val_main_v19, val_main_v18, val_main_v17, val_main_v16, val_main_v15, val_main_cst_3, val_main_v14, val_main_v13]
  simp only [v12_at H, H.gpre, H.sc, H.sh, ← EReal.coe_one, ← EReal.coe_add, ← EReal.coe_mul]
  exact congrArg _ (by unfold BArgs.h BArgs.n; ring)

theorem v21_at (i : Fin 8192) (j : Fin 5632) : val_main_v21 (F := Ideal) x0 x1 x2 x3 x4 (ix2 i j) = ((A.u j i : ℝ) : EReal) := by
  pointwise [val_main_v21]
  simp only [v20_at H, H.wu, ← EReal.coe_mul, sum_coe]
  rfl

theorem v46_at (i : Fin 8192) (j : Fin 5632) : val_main_v46 (F := Ideal) x0 x1 x2 x3 x4 x5 x6 (ix2 i j) = ((A.c j i : ℝ) : EReal) := by
  pointwise [val_main_v46, val_main_v45, val_main_v42, val_main_v23, val_main_v22, val_main_cst_4, val_main_v44, val_main_v43, val_main_v41, val_main_v40, val_main_v39, val_main_v38, val_main_v35, val_main_v37, val_main_v36, val_main_v34, val_main_v33, val_main_v32, val_main_v30, val_main_v27, val_main_v29, val_main_v28, val_main_v26, val_main_v25, val_main_v31]
  simp only [v21_at H, H.cw, H.cb]
  rw [late2, late1]
  simp only [← EReal.coe_add, ← EReal.coe_mul]
  exact congrArg _ (by unfold BArgs.c; ring)

theorem v72_at (i : Fin 8192) (j : Fin 2816) : val_main_v72 (F := Ideal) x7 x9 (ix2 i j) = ((A.da j i : ℝ) : EReal) := by
  pointwise [val_main_v72]
  simp only [H.d, H.wd, ← EReal.coe_mul, sum_coe]
  rfl

theorem v73_at (i : Fin 8192) (j : Fin 2816) : val_main_v73 (F := Ideal) x0 x1 x2 x3 x4 x5 x6 x7 x9 (ix2 i j) = ((A.da j i * gR (A.c ⟨j.val, by omega⟩ i) : ℝ) : EReal) := by
  pointwise [val_main_v73, val_main_v69, val_main_v68, val_main_v66, val_main_v59, val_main_v58, val_main_v56, val_main_v55, val_main_v50, val_main_v47, val_main_v49, val_main_v54, val_main_cst_7, val_main_v57, val_main_cst_8, val_main_v65, val_main_cst_11, val_main_v67, val_main_cst_12]
  simp only [v46_at H, v72_at H, c_a, c_k, c_half, c_two, c_three, ← EReal.coe_one, ← EReal.coe_add, ← EReal.coe_mul, ← EReal.coe_sub, Ideal.tanh_coe]
  exact congrArg _ (by unfold gR tR; ring)

theorem v86_at (i : Fin 8192) (j : Fin 2816) : val_main_v86 (F := Ideal) x0 x1 x2 x3 x4 x5 x6 x7 x9 (ix2 i j) = ((A.da j i * A.c ⟨2816 + j.val, by omega⟩ i * gR' (A.c ⟨j.val, by omega⟩ i) : ℝ) : EReal) := by
  pointwise [val_main_v86, val_main_v85, val_main_v53, val_main_v51, val_main_v47, val_main_v52, val_main_cst_6, val_main_v84, val_main_v81, val_main_v79, val_main_v64, val_main_v63, val_main_v59, val_main_v58, val_main_v56, val_main_v55, val_main_v50, val_main_v49, val_main_v54, val_main_cst_7, val_main_v57, val_main_cst_8, val_main_v62, val_main_cst_10, val_main_v61, val_main_v60, val_main_cst_9, val_main_v78, val_main_v75, val_main_v74, val_main_v48, val_main_v77, val_main_cst_13, val_main_v80, val_main_cst_14, val_main_v83, val_main_cst_15, val_main_v82, val_main_v76, val_main_v68, val_main_v66, val_main_v65, val_main_cst_11, val_main_v67, val_main_cst_12]
  simp only [v46_at H, v72_at H, c_a, c_k, c_half, c_two, c_three, ← EReal.coe_one, ← EReal.coe_add, ← EReal.coe_mul, ← EReal.coe_sub, Ideal.tanh_coe]
  exact congrArg _ (by unfold gR' tR; ring)

theorem v87_at (i : Fin 8192) (j : Fin 5632) : val_main_v87 (F := Ideal) x0 x1 x2 x3 x4 x5 x6 x7 x9 (ix2 i j) = ((A.dy j i : ℝ) : EReal) := by
  pointwise [val_main_v87]
  simp only [v73_at H, v86_at H]
  unfold BArgs.dy
  split <;> rfl

theorem v120_at (r : Fin 3) (j : Fin 5632) : val_main_v120 (F := Ideal) x0 x1 x2 x3 x4 x5 x6 x7 x9 (ix2 r j) = ((A.fo ⟨r.val, by omega⟩ j : ℝ) : EReal) := by
  pointwise [val_main_v120, val_main_v119, val_main_cst_28, val_main_v118, val_main_v115, val_main_cst_26, val_main_v114, val_main_v113, val_main_cst_25, val_main_v112, val_main_v27, val_main_v23, val_main_v22, val_main_cst_4, val_main_v107, val_main_v106, val_main_cst_23, val_main_v105, val_main_v102, val_main_cst_21, val_main_v101, val_main_v100, val_main_cst_20, val_main_v99, val_main_v35, val_main_v96, val_main_cst_19, val_main_v95, val_main_v93, val_main_cst_17, val_main_v92, val_main_v91, val_main_cst_16, val_main_v90, val_main_v42]
  simp only [v87_at H, v21_at H, late1, Fin.sum_univ_one, Fin.sum_univ_two, mul_zero, add_zero, zero_add, ← EReal.coe_mul, sum_coe]
  unfold BArgs.fo
  by_cases h0 : r.val = 0
  · rw [dif_neg (by omega), dif_neg (by omega), dif_pos (by omega), if_pos h0, zero_add, zero_add]
    exact congrArg _ (sum_later (A.dy j) (A.u j))
  by_cases h1 : r.val = 1
  · rw [dif_neg (by omega), dif_pos (by omega), dif_neg (by omega), if_neg h0, if_pos h1, zero_add, add_zero]
    exact congrArg _ (sum_n1 (A.dy j) (A.u j)).symm
  · rw [dif_pos (by omega), dif_neg (by omega), dif_neg (by omega), if_neg h0, if_neg h1, if_pos (by simp only []; omega), add_zero, add_zero]

theorem v122_at (i : Fin 8192) (j : Fin 5632) : val_main_v122 (F := Ideal) x0 x1 x2 x3 x4 x5 x6 x7 x9 (ix2 i j) = ((A.du j i : ℝ) : EReal) := by
  pointwise [val_main_v122, val_main_v117, val_main_v116, val_main_cst_27, val_main_v111, val_main_v110, val_main_v28, val_main_v26, val_main_v25, val_main_v104, val_main_v103, val_main_cst_22, val_main_v98, val_main_v97, val_main_v36, val_main_v34, val_main_v33, val_main_v94, val_main_cst_18, val_main_v89, val_main_v88, val_main_v43, val_main_v41, val_main_v40]
  simp only [v87_at H, H.cw, ← EReal.coe_mul]
  unfold BArgs.du
  rw [EReal.coe_add, EReal.coe_add]
  refine congrArg₂ (· + ·) (congrArg (_ + ·) ?_) ?_
  · unfold n1
    by_cases h : i.val + 1 < 8192
    · rw [dif_pos (by omega), dif_pos h]
      exact congrArg (fun a => ((A.CW 1 j * A.dy j a : ℝ) : EReal)) (Fin.ext (by simp only []; omega))
    · rw [dif_neg (by omega), dif_neg h, mul_zero, EReal.coe_zero]
  · unfold n2
    by_cases h : i.val + 2 < 8192
    · rw [dif_pos (by omega), dif_pos h]
      exact congrArg (fun a => ((A.CW 0 j * A.dy j a : ℝ) : EReal)) (Fin.ext (by simp only []; omega))
    · rw [dif_neg (by omega), dif_neg h, mul_zero, EReal.coe_zero]

theorem v109_at (j : Fin 5632) : val_main_v109 (F := Ideal) x0 x1 x2 x3 x4 x5 x6 x7 x9 (ix2 0 j) = ((∑ i, A.dy j i : ℝ) : EReal) := by
  pointwise [val_main_v109, val_main_v108, val_main_cst_24]
  simp only [v87_at H, zero_add, Fin.sum_univ_one, sum_coe]

theorem v123_at (i : Fin 8192) (q : Fin 1024) : val_main_v123 (F := Ideal) x0 x1 x2 x3 x4 x5 x6 x7 x9 (ix2 i q) = ((A.dh i q : ℝ) : EReal) := by
  pointwise [val_main_v123]
  simp only [v122_at H, H.wu, ← EReal.coe_mul, sum_coe]
  rfl

theorem v125_at (q : Fin 1024) : val_main_v125 (F := Ideal) x0 x1 x2 x3 x4 x5 x6 x7 x9 (ix2 0 q) = ((∑ i, A.dh i q : ℝ) : EReal) := by
  pointwise [val_main_v125, val_main_v124, val_main_cst_29]
  simp only [v123_at H, v12_at H, H.gpre, H.sc, zero_add, Fin.sum_univ_one, ← EReal.coe_one, ← EReal.coe_add, ← EReal.coe_mul, sum_coe]

theorem v128_at (q : Fin 1024) : val_main_v128 (F := Ideal) x0 x1 x2 x3 x4 x5 x6 x7 x9 (ix2 0 q) = (((∑ i, A.dh i q * A.n i q) * A.GP q : ℝ) : EReal) := by
  pointwise [val_main_v128, val_main_v127, val_main_cst_30, val_main_v126, val_main_v14, val_main_v13]
  simp only [v123_at H, v12_at H, H.gpre, H.sc, zero_add, Fin.sum_univ_one, ← EReal.coe_one, ← EReal.coe_add, ← EReal.coe_mul, sum_coe]
  rw [Finset.sum_mul]
  exact congrArg _ (Finset.sum_congr rfl fun i _ => by ring)

theorem v133_at (q : Fin 1024) : val_main_v133 (F := Ideal) x0 x1 x2 x3 x4 x5 x6 x7 x9 (ix2 0 q) = (((∑ i, A.dh i q * A.n i q) * (1 + A.SC q) : ℝ) : EReal) := by
  pointwise [val_main_v133, val_main_v132, val_main_cst_31, val_main_v131, val_main_v130, val_main_v129, val_main_v16, val_main_v15, val_main_cst_3]
  simp only [v123_at H, v12_at H, H.gpre, H.sc, zero_add, Fin.sum_univ_one, ← EReal.coe_one, ← EReal.coe_add, ← EReal.coe_mul, sum_coe]
  rw [Finset.sum_mul]
  exact congrArg _ (Finset.sum_congr rfl fun i _ => by ring)

theorem v150_at (i : Fin 8192) (q : Fin 1024) : val_main_v150 (F := Ideal) x0 x1 x2 x3 x4 x5 x6 x7 x8 x9 (ix2 i q) = x8 (ix2 i q) + ((A.dx i q : ℝ) : EReal) := by
  pointwise [val_main_v150, val_main_v149, val_main_v146, val_main_v145, val_main_cst_34, val_main_v144, val_main_v143, val_main_cst_33, val_main_v142, val_main_v10, val_main_v8, val_main_v7, val_main_v9, val_main_cst_2, val_main_v138, val_main_v137, val_main_cst_32, val_main_v136, val_main_v135, val_main_v134, val_main_v130, val_main_v129, val_main_v16, val_main_v15, val_main_cst_3, val_main_v148, val_main_v147, val_main_v141, val_main_v140, val_main_v139]
  simp only [v6_at H, v123_at H, H.x, H.gpre, H.sc, zero_add, Fin.sum_univ_one, c_neg_half, c_1024, rr_coe, div_ms_coe, ← EReal.coe_one, ← EReal.coe_add, ← EReal.coe_mul, sum_coe, div_coe _ _ (by norm_num : (1024 : ℝ) ≠ 0)]
  rw [add_assoc, add_assoc, ← EReal.coe_add, ← EReal.coe_add]
  refine congrArg (_ + ·) (congrArg _ ?_)
  have e := norm_bwd (A.X i) (fun k => A.dh i k * (1 + A.SC k) * A.GP k) q
  rw [add_assoc] at e
  refine e.symm.trans ?_
  have e' : ∀ k, A.dh i k * (1 + A.SC k) * A.GP k = A.dn i k := fun k => by unfold BArgs.dn; ring
  simp only [e']
  rfl

theorem v109_row (z : Fin 1) (j : Fin 5632) : val_main_v109 (F := Ideal) x0 x1 x2 x3 x4 x5 x6 x7 x9 (ix2 z j) = ((∑ i, A.dy j i : ℝ) : EReal) := by
  obtain rfl : z = 0 := Subsingleton.elim _ _
  exact v109_at H j

theorem v125_row (z : Fin 1) (q : Fin 1024) : val_main_v125 (F := Ideal) x0 x1 x2 x3 x4 x5 x6 x7 x9 (ix2 z q) = ((∑ i, A.dh i q : ℝ) : EReal) := by
  obtain rfl : z = 0 := Subsingleton.elim _ _
  exact v125_at H q

theorem v128_row (z : Fin 1) (q : Fin 1024) : val_main_v128 (F := Ideal) x0 x1 x2 x3 x4 x5 x6 x7 x9 (ix2 z q) = (((∑ i, A.dh i q * A.n i q) * A.GP q : ℝ) : EReal) := by
  obtain rfl : z = 0 := Subsingleton.elim _ _
  exact v128_at H q

theorem v133_row (z : Fin 1) (q : Fin 1024) : val_main_v133 (F := Ideal) x0 x1 x2 x3 x4 x5 x6 x7 x9 (ix2 z q) = (((∑ i, A.dh i q * A.n i q) * (1 + A.SC q) : ℝ) : EReal) := by
  obtain rfl : z = 0 := Subsingleton.elim _ _
  exact v133_at H q

theorem v152_at (r : Fin 8) (q : Fin 1024) : val_main_v152 (F := Ideal) x0 x1 x2 x3 x4 x5 x6 x7 x9 (ix2 r q) = ((A.vo r q : ℝ) : EReal) := by
  pointwise [val_main_v152, val_main_v151, val_main_cst_35]
  unfold BArgs.vo
  by_cases h0 : r.val = 0
  · rw [if_pos h0]
    exact (dif_pos (show r.val < 1 by omega)).trans (v125_row H _ q)
  rw [if_neg h0]
  refine (dif_neg (show ¬r.val < 1 by omega)).trans ?_
  by_cases h1 : r.val = 1
  · rw [if_pos h1]
    exact (dif_pos (show r.val - 1 < 1 by omega)).trans (v128_row H _ q)
  rw [if_neg h1]
  refine (dif_neg (show ¬r.val - 1 < 1 by omega)).trans ?_
  by_cases h2 : r.val = 2
  · rw [if_pos h2]
    exact (dif_pos (show r.val - 1 - 1 < 1 by omega)).trans (v133_row H _ q)
  rw [if_neg h2]
  exact (dif_neg (show ¬r.val - 1 - 1 < 1 by omega)).trans EReal.coe_zero.symm

theorem v154_at (r : Fin 8) (j : Fin 5632) : val_main_v154 (F := Ideal) x0 x1 x2 x3 x4 x5 x6 x7 x9 (ix2 r j) = ((A.fo r j : ℝ) : EReal) := by
  pointwise [val_main_v154, val_main_v153, val_main_cst_36]
  simp only [v120_at H]
  by_cases h3 : r.val < 3
  · rw [dif_pos h3]
  refine (dif_neg h3).trans ?_
  by_cases h4 : r.val = 3
  · refine (dif_pos (show r.val - 3 < 1 by omega)).trans ((v109_row H _ j).trans (congrArg _ ?_))
    unfold BArgs.fo
    rw [if_neg (by omega), if_neg (by omega), if_neg (by omega), if_pos h4]
  · refine (dif_neg (show ¬r.val - 3 < 1 by omega)).trans (EReal.coe_zero.symm.trans (congrArg _ ?_))
    unfold BArgs.fo
    rw [if_neg (by omega), if_neg (by omega), if_neg (by omega), if_neg h4]

end Cert.Reference3Ideal.Bffn

end

end
-- ==== Proof.Bffn.Claim.lean ====
/- The gated network's backward pass: the value claim. -/
module

public import proofs.«01_k».proof.Proof.Bffn.Tail
public import proofs.«01_k».proof.Proof.Bffn.Ref
public import proofs.«01_k».proof.Proof.Gen.Reference3Ideal.Run
public import proofs.«01_k».proof.Proof.Gen.Pre_finite3
public import proofs.«01_k».proof.Defs

@[expose] public section

set_option maxRecDepth 16384

noncomputable section

namespace Cert.Kernel3Ideal.Bffn

open Idealize.ShloMosaic Idealize.ShloMosaic.TcCoe Idealize.SL.Sem Cert.Kernel3Ideal Cert.Kernel3Ideal.Gen

open Cert.Reference3Ideal.Bffn Cert.Re Cert.Reference3Ideal.Read

variable (m : (ℓ : Loc nD τ sig) → Buf (Elt Ideal) ℓ)

/-- The precondition says that the arguments are arrays of reals, all but the gradient that is only added. -/
theorem reals (h : Cert.Pre_Kernel3Ideal_finite3 (hPre_finite3 := Cert.Pre_finite3.Gen.facts) m) (c : Dev nD) : ∃ A : BArgs, Holds m c A := by
  obtain ⟨h0, h1, h2, h3, h4, h5, h6, h7, h9⟩ := h c
  obtain ⟨f0, e0⟩ := reals_of_finite _ _ (fun _ => rfl) h0
  obtain ⟨f1, e1⟩ := reals_of_finite _ _ (fun _ => rfl) h1
  obtain ⟨f2, e2⟩ := reals_of_finite _ _ (fun _ => rfl) h2
  obtain ⟨f3, e3⟩ := reals_of_finite _ _ (fun _ => rfl) h3
  obtain ⟨f4, e4⟩ := reals_of_finite _ _ (fun _ => rfl) h4
  obtain ⟨f5, e5⟩ := reals_of_finite _ _ (fun _ => rfl) h5
  obtain ⟨f6, e6⟩ := reals_of_finite _ _ (fun _ => rfl) h6
  obtain ⟨f7, e7⟩ := reals_of_finite _ _ (fun _ => rfl) h7
  obtain ⟨f9, e9⟩ := reals_of_finite _ _ (fun _ => rfl) h9
  exact ⟨⟨fun i k => f0 (ix2 i k), fun k => f1 (ix2 0 k), fun k => f2 (ix2 0 k), fun k => f3 (ix2 0 k), fun i k => f4 (ix2 i k), fun i k => f5 (ix2 i k), fun k => f6 (ix2 0 k), fun i k => f7 (ix2 i k), fun i k => f9 (ix2 i k)⟩,
    ⟨fun _ _ => congrFun e0 _, fun _ => congrFun e1 _, fun _ => congrFun e2 _, fun _ => congrFun e3 _, fun _ _ => congrFun e4 _, fun _ _ => congrFun e5 _, fun _ => congrFun e6 _, fun _ _ => congrFun e7 _, fun _ _ => congrFun e9 _⟩⟩

/-- For real arguments the arrays the kernel leaves are the reference's. -/
theorem values (c : Dev nD) (A : BArgs) (H : Holds m c A) :
    resX m c A = val_main_v150 (F := Ideal) (aX m c) (aGpre m c) (aSc m c) (aSh m c) (aWu m c) (aCw m c) (aCb m c) (aWd m c) (aD2 m c) (aDF m c) ∧
    resU A = val_main_v122 (F := Ideal) (aX m c) (aGpre m c) (aSc m c) (aSh m c) (aWu m c) (aCw m c) (aCb m c) (aWd m c) (aDF m c) ∧
    outV A = val_main_v152 (F := Ideal) (aX m c) (aGpre m c) (aSc m c) (aSh m c) (aWu m c) (aCw m c) (aCb m c) (aWd m c) (aDF m c) ∧
    outF A = val_main_v154 (F := Ideal) (aX m c) (aGpre m c) (aSc m c) (aSh m c) (aWu m c) (aCw m c) (aCb m c) (aWd m c) (aDF m c) := by
  refine ⟨?_, ?_, ?_, ?_⟩
  · funext y
    obtain ⟨i, k, rfl⟩ : ∃ (i : Fin 8192) (k : Fin 1024), y = ix2 i k := ⟨_, _, eq_ix2 y⟩
    exact (v150_at (x8 := aD2 m c) H i k).symm
  · funext y
    obtain ⟨i, k, rfl⟩ : ∃ (i : Fin 8192) (k : Fin 5632), y = ix2 i k := ⟨_, _, eq_ix2 y⟩
    exact (v122_at H i k).symm
  · funext y
    obtain ⟨i, k, rfl⟩ : ∃ (i : Fin 8) (k : Fin 1024), y = ix2 i k := ⟨_, _, eq_ix2 y⟩
    exact (v152_at H i k).symm
  · funext y
    obtain ⟨i, k, rfl⟩ : ∃ (i : Fin 8) (k : Fin 5632), y = ix2 i k := ⟨_, _, eq_ix2 y⟩
    exact (v154_at H i k).symm

/-- The kernel and the reference leave the same four arrays for finite arguments. -/
theorem claim : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m ρ m' ρ' hpre hargs
  choose A H using reals m hpre
  refine ⟨fun c => val_main_v150 (F := Ideal) (aX m c) (aGpre m c) (aSc m c) (aSh m c) (aWu m c) (aCw m c) (aCb m c) (aWd m c) (aD2 m c) (aDF m c),
    fun c => val_main_v122 (F := Ideal) (aX m c) (aGpre m c) (aSc m c) (aSh m c) (aWu m c) (aCw m c) (aCb m c) (aWd m c) (aDF m c),
    fun c => val_main_v152 (F := Ideal) (aX m c) (aGpre m c) (aSc m c) (aSh m c) (aWu m c) (aCw m c) (aCb m c) (aWd m c) (aDF m c),
    fun c => val_main_v154 (F := Ideal) (aX m c) (aGpre m c) (aSc m c) (aSh m c) (aWu m c) (aCw m c) (aCb m c) (aWd m c) (aDF m c),
    (θ_run _ _ _).mono (fun r h c => ?_) (θ_run_and (run_arrays m ρ A H) (frame m ρ)),
    (θ_run _ _ _).mono (fun r h c => ?_) (Cert.Reference3Ideal.Value.run m' ρ')⟩
  · obtain ⟨h0, h1, h2, h3⟩ := h.1 c
    obtain ⟨e0, e1, e2, e3⟩ := values m c (A c) (H c)
    exact ⟨h0.trans e0, h1.trans e1, h2.trans e2, h3.trans e3, h.2.1 c⟩
  obtain ⟨h0, h1, h2, h3, hk⟩ := h c
  obtain ⟨a0, a1, a2, a3, a4, a5, a6, a7, a8, a9⟩ := hargs c
  refine ⟨h0.trans ?_, h1.trans ?_, h2.trans ?_, h3.trans ?_, hk⟩ <;> clear h h0 h1 h2 h3 hk
  · refine (val_main_v150_eq _).trans ?_
    simp only [← a0, ← a1, ← a2, ← a3, ← a4, ← a5, ← a6, ← a7, ← a8, ← a9]
  · refine (val_main_v122_eq _).trans ?_
    simp only [← a0, ← a1, ← a2, ← a3, ← a4, ← a5, ← a6, ← a7, ← a9]
  · refine (val_main_v152_eq _).trans ?_
    simp only [← a0, ← a1, ← a2, ← a3, ← a4, ← a5, ← a6, ← a7, ← a9]
  · refine (val_main_v154_eq _).trans ?_
    simp only [← a0, ← a1, ← a2, ← a3, ← a4, ← a5, ← a6, ← a7, ← a9]

/-- The reference runs, leaves its arguments unchanged and declares no semaphore. -/
theorem ref_frame : Cert.quiescent_Reference3Ideal (hReference3Ideal := Cert.Reference3Ideal.Gen.facts) := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

end Cert.Kernel3Ideal.Bffn

end

end
-- ==== Proof.Bmix.Run.lean ====
/- The body of the backward mixing kernel, run once at a point of its grid: at the first point, where it copies the three
   weights into its own buffers, sends for the first three blocks of the projections and clears what it adds to; at a
   middle one, where it sends for the block two points on; at the last but one; and at the last, where it hands the summed
   products out. At every point it waits for its own block, sent for two points before. -/
module

public import proofs.«01_k».proof.Proof.Gen.Kernel4Ideal.Skeleton
public import proofs.«01_k».proof.Proof.Gen.Kernel4Ideal.Frame

@[expose] public section

set_option maxRecDepth 16384

noncomputable section

namespace Cert.Kernel4Ideal.Bmix

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the body reads at a point: a block of each input the pipeline brings. -/
structure Ins (F : FTy → Type) where
  dx : Vec F S256x1024 .f32
  o : Vec F S256x1024 .bf16
  cv : Vec F S256x1024 .bf16
  ya : Vec F S256x1024 .bf16
  yb : Vec F S256x1024 .bf16
  mg : Vec F S256x1024 .bf16
  q : Vec F S256x1024 .bf16
  pg : Vec F S256x1024 .bf16
  vd : Vec F S16x1024 .f32

/-- What the body finds from the point before and leaves to the next: the vectors it adds to, the three weights in its own
    buffers, the late rows of the short convolution and of the doubling sums, and the three products it adds to. -/
structure Kept (F : FTy → Type) where
  vo : Vec F S8x1024 .f32
  wp : Vec F S4x256x256 .bf16
  wb : Vec F S1024x1024 .bf16
  wo : Vec F S1024x1024 .bf16
  cd : Vec F S3x8x1024 .f32
  ce : Vec F S16x8x1024 .f32
  ao : Vec F S1024x1024 .f32
  ab : Vec F S1024x1024 .f32
  ap : Vec F S4x256x256 .f32

/-- What the body writes at a point, buffer by buffer, as the list of its stores. -/
structure Stores (F : FTy → Type) where
  dp : List (View.Piece (Elt F) S256x6144 .bf16)
  vo : List (View.Piece (Elt F) S8x1024 .f32)
  wp : List (View.Piece (Elt F) S4x256x256 .bf16)
  wb : List (View.Piece (Elt F) S1024x1024 .bf16)
  wo : List (View.Piece (Elt F) S1024x1024 .bf16)
  cd : List (View.Piece (Elt F) S3x8x1024 .f32)
  ce : List (View.Piece (Elt F) S16x8x1024 .f32)
  ao : List (View.Piece (Elt F) S1024x1024 .f32)
  ab : List (View.Piece (Elt F) S1024x1024 .f32)
  ap : List (View.Piece (Elt F) S4x256x256 .f32)
  go : List (View.Piece (Elt F) S1024x1024 .bf16)
  gb : List (View.Piece (Elt F) S1024x1024 .bf16)
  gp : List (View.Piece (Elt F) S4x256x256 .bf16)

/-- The body's first point, as the program tests it. -/
abbrev First (i : grid0.Coords) : Prop :=
  (Scalar.cmpi .ne (Scalar.extui (Scalar.cmpi .eq (BitVec.ofNat 32 (i 0).val) 0#32)) 0#32) = 1#1

/-- The projections and the three weights where the kernel copies them from, the room for three blocks, and its cells. -/
abbrev projM : Memref sig .tc .hbm S8192x6144 .bf16 := Memref.whole main_v130
abbrev wpM : Memref sig .tc .hbm S4x256x256 .bf16 := Memref.whole main_v156
abbrev wbM : Memref sig .tc .hbm S1024x1024 .bf16 := Memref.whole main_v157
abbrev woM : Memref sig .tc .hbm S1024x1024 .bf16 := Memref.whole main_v158
abbrev ringM : Memref sig .tc .vmem S3x256x6144 .bf16 := Memref.whole cc0_scratch9

/-- A room of the three, a block of the projections and a cell, by where they start. -/
abbrev slotOf (o : Fin 3 → ℕ) (h : ∀ a, o a + S1x256x6144.size a ≤ S3x256x6144.size a) : Memref sig .tc .vmem S256x6144 .bf16 :=
  (ringM.slice (Rect.unit (s := S3x256x6144) o S1x256x6144.size h) (fun _ => rfl)).squeeze S256x6144 squeezes_S1x256x6144_S256x6144
abbrev srcOf (o : Fin 2 → ℕ) (h : ∀ a, o a + S256x6144.size a ≤ S8192x6144.size a) : Memref sig .tc .hbm S256x6144 .bf16 :=
  projM.slice (Rect.unit (s := S8192x6144) o S256x6144.size h) (fun _ => rfl)
abbrev semOf (o : Fin 1 → ℕ) (h : ∀ a, o a + S1.size a ≤ S3.size a) : SemLoc sig :=
  .dma ((cc0_scratch10.slice (Rect.unit (s := S3) o S1.size h)).squeeze S_ squeezes_S1_S_).sem

/-- Those of the point's own block, and of the block two points on. -/
abbrev slotW (i : grid0.Coords) := slotOf (k0_off5 i) (k0_off5_inb i)
abbrev srcW (i : grid0.Coords) := srcOf (k0_off6 i) (k0_off6_inb i)
abbrev semW (i : grid0.Coords) := semOf (k0_off4 i) (k0_off4_inb i)
abbrev slotN (i : grid0.Coords) (h : k0_cond2 i = 1#1) := slotOf (k0_off2 i) (k0_off2_inb i h)
abbrev semN (i : grid0.Coords) (h : k0_cond2 i = 1#1) := semOf (k0_off1 i) (k0_off1_inb i h)

/-- A buffer's contents on a core, and the buffer held whole at them. -/
abbrev At (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e) (f : At (F := F) c M) : sProp 𝕄 :=
  M.view.loc (c : Thread nD τ) ↦{fullShare} f

/-- A block of the projections at home, a room at anything, and a block on its way into a room. -/
abbrev home (c : Dev nD) (fp : At (F := F) c projM) (o : Fin 2 → ℕ) (h : ∀ a, o a + S256x6144.size a ≤ S8192x6144.size a) : sProp 𝕄 :=
  (srcOf o h).view.loc (c : Thread nD τ) ↦[(srcOf o h).view.set]{fullShare} fp
abbrev room (c : Dev nD) (M : Memref sig .tc .vmem S256x6144 .bf16) : sProp 𝕄 :=
  iprop(∃ f, M.view.loc (c : Thread nD τ) ↦[M.view.set]{fullShare} f)
abbrev flies (c : Dev nD) (fp : At (F := F) c projM) (s : SemLoc sig) (M : Memref sig .tc .vmem S256x6144 .bf16)
    (o : Fin 2 → ℕ) (h : ∀ a, o a + S256x6144.size a ≤ S8192x6144.size a) : sProp 𝕄 :=
  iprop(∃ f, Transfers.Flight (countersEmb (U := Pipeline.UD sig nD τ)) (c : Thread nD τ) s () (M.view.amount s)
    iprop((M.view.loc (c : Thread nD τ) ↦[M.view.set]{fullShare} M.view.writes (Elt F) f
        [⟨Rect.whole S256x6144, ReadAs.same.apply ((srcOf o h).view.read (Elt F) fp)⟩]) ∗ home c fp o h))

/-- The kernel's three other copy semaphores at zero, and the three weights where they lie. -/
abbrev still (c : Dev nD) (fwp : At (F := F) c wpM) (fwb : At (F := F) c wbM) (fwo : At (F := F) c woM) : sProp 𝕄 :=
  iprop(semVal ((c : Thread nD τ), SemLoc.dma 23) 0 ∗ semVal ((c : Thread nD τ), SemLoc.dma 24) 0 ∗ semVal ((c : Thread nD τ), SemLoc.dma 25) 0
    ∗ held c wpM fwp ∗ held c wbM fwb ∗ held c woM fwo)

/-- A buffer after a list of stores into unknown contents. -/
abbrev over (c : Dev nD) {S : Shape} {e : EltTy} (M : Memref sig .tc .vmem S e) (L : List (View.Piece (Elt F) S e)) : sProp 𝕄 :=
  iprop(∃ f, M.view.loc (c : Thread nD τ) ↦[M.view.set]{fullShare} M.view.writes (Elt F) f L)

/-- A buffer after a list of stores over known contents. -/
abbrev onto (c : Dev nD) {S : Shape} {e : EltTy} (M : Memref sig .tc .vmem S e) (h : M.IsWhole) (d : Vec F S e)
    (L : List (View.Piece (Elt F) S e)) : sProp 𝕄 :=
  M.view.loc (c : Thread nD τ) ↦[M.view.set]{fullShare} M.view.writes (Elt F) (h.unread d) L

section
variable (c : Dev nD) (i : grid0.Coords)
  (a1 : Memref sig .tc .vmem S256x1024 .f32) (h1 : a1.IsWhole) (a2 : Memref sig .tc .vmem S256x1024 .bf16) (h2 : a2.IsWhole)
  (a4 : Memref sig .tc .vmem S256x1024 .bf16) (h4 : a4.IsWhole) (a5 : Memref sig .tc .vmem S256x1024 .bf16) (h5 : a5.IsWhole)
  (a6 : Memref sig .tc .vmem S256x1024 .bf16) (h6 : a6.IsWhole) (a7 : Memref sig .tc .vmem S256x1024 .bf16) (h7 : a7.IsWhole)
  (a8 : Memref sig .tc .vmem S256x1024 .bf16) (h8 : a8.IsWhole) (a9 : Memref sig .tc .vmem S256x1024 .bf16) (h9 : a9.IsWhole)
  (a10 : Memref sig .tc .vmem S16x1024 .f32) (h10 : a10.IsWhole) (a14 : Memref sig .tc .vmem S256x6144 .bf16) (h14 : a14.IsWhole)
  (a15 : Memref sig .tc .vmem S8x1024 .f32) (h15 : a15.IsWhole) (a16 : Memref sig .tc .vmem S1024x1024 .bf16) (h16 : a16.IsWhole)
  (a17 : Memref sig .tc .vmem S1024x1024 .bf16) (h17 : a17.IsWhole) (a18 : Memref sig .tc .vmem S4x256x256 .bf16) (h18 : a18.IsWhole)
  (a19 : Memref sig .tc .vmem S4x256x256 .bf16) (h19 : a19.IsWhole) (a20 : Memref sig .tc .vmem S1024x1024 .bf16) (h20 : a20.IsWhole)
  (a21 : Memref sig .tc .vmem S1024x1024 .bf16) (h21 : a21.IsWhole) (a22 : Memref sig .tc .vmem S3x8x1024 .f32) (h22 : a22.IsWhole)
  (a23 : Memref sig .tc .vmem S16x8x1024 .f32) (h23 : a23.IsWhole) (a24 : Memref sig .tc .vmem S1024x1024 .f32) (h24 : a24.IsWhole)
  (a25 : Memref sig .tc .vmem S1024x1024 .f32) (h25 : a25.IsWhole) (a26 : Memref sig .tc .vmem S4x256x256 .f32) (h26 : a26.IsWhole)

/-- The inputs' blocks in place. -/
abbrev given (x : Ins F) : sProp 𝕄 :=
  iprop(owns (c : Thread nD τ) a1 fullShare x.dx
    ∗ owns (c : Thread nD τ) a2 fullShare x.o
    ∗ owns (c : Thread nD τ) a4 fullShare x.cv
    ∗ owns (c : Thread nD τ) a5 fullShare x.ya
    ∗ owns (c : Thread nD τ) a6 fullShare x.yb
    ∗ owns (c : Thread nD τ) a7 fullShare x.mg
    ∗ owns (c : Thread nD τ) a8 fullShare x.q
    ∗ owns (c : Thread nD τ) a9 fullShare x.pg
    ∗ owns (c : Thread nD τ) a10 fullShare x.vd)

/-- The program's body on these buffers. -/
abbrev prog : Prog (TpuEff nD τ sig (Elt F) Λ₀ .tc) PUnit :=
  cc0_bwd_mix i a1 h1 a2 h2 projM (Memref.isWhole_whole _) a4 h4 a5 h5 a6 h6 a7 h7 a8 h8 a9 h9 a10 h10 wpM (Memref.isWhole_whole _) wbM (Memref.isWhole_whole _) woM (Memref.isWhole_whole _)
    a14 h14 a15 h15 a16 h16 a17 h17 a18 h18 a19 h19 a20 h20 a21 h21 a22 h22 a23 h23 a24 h24 a25 h25 a26 h26 cc0_scratch8 ringM (Memref.isWhole_whole _) cc0_scratch10

set_option maxHeartbeats 8000000 in
/-- The first point: whatever the body's buffers hold, it ends with the weights copied, the sums begun and the late rows
    left, the first three blocks sent for and the first of them received. -/
def runFirst (hc : First i) (h1c : k0_cond1 i = 1#1) (h2c : k0_cond2 i = 1#1) (h5c : ¬k0_cond5 i = 1#1)
    (hcanonA : slotW i = slotOf ![0, 0, 0] inb_S3x256x6144_S1x256x6144_0_0_0) (hcanonB : srcW i = srcOf ![7936, 0] inb_S8192x6144_S256x6144_7936_0)
    (hcanonC : ((cc0_scratch10.slice (Rect.unit (s := S3) (k0_off4 i) S1.size (k0_off4_inb i))).squeeze S_ squeezes_S1_S_).sem
      = ((cc0_scratch10.slice (Rect.unit (s := S3) ![0] S1.size inb_S3_S1_0)).squeeze S_ squeezes_S1_S_).sem)
    (x : Ins F) (fp : At (F := F) c projM) (fwp : At (F := F) c wpM) (fwb : At (F := F) c wbM) (fwo : At (F := F) c woM) :
    { L : Stores F // ∀ (W : Waits sig Unit) (K : PUnit → sProp 𝕄),
      iprop(given c a1 a2 a4 a5 a6 a7 a8 a9 a10 x
          ∗ (∃ d, owns (c : Thread nD τ) a14 fullShare d)
          ∗ (∃ d, owns (c : Thread nD τ) a15 fullShare d)
          ∗ (∃ d, owns (c : Thread nD τ) a19 fullShare d)
          ∗ (∃ d, owns (c : Thread nD τ) a20 fullShare d)
          ∗ (∃ d, owns (c : Thread nD τ) a21 fullShare d)
          ∗ (∃ d, owns (c : Thread nD τ) a22 fullShare d)
          ∗ (∃ d, owns (c : Thread nD τ) a23 fullShare d)
          ∗ (∃ d, owns (c : Thread nD τ) a24 fullShare d)
          ∗ (∃ d, owns (c : Thread nD τ) a25 fullShare d)
          ∗ (∃ d, owns (c : Thread nD τ) a26 fullShare d)
          ∗ room c (slotOf ![0, 0, 0] inb_S3x256x6144_S1x256x6144_0_0_0)
          ∗ room c (slotOf ![1, 0, 0] inb_S3x256x6144_S1x256x6144_1_0_0)
          ∗ room c (slotN i h2c)
          ∗ semVal ((c : Thread nD τ), semOf ![0] inb_S3_S1_0) 0
          ∗ semVal ((c : Thread nD τ), semOf ![1] inb_S3_S1_1) 0
          ∗ semVal ((c : Thread nD τ), semN i h2c) 0
          ∗ home c fp ![7936, 0] inb_S8192x6144_S256x6144_7936_0
          ∗ home c fp ![7680, 0] inb_S8192x6144_S256x6144_7680_0
          ∗ home c fp (k0_off3 i) (k0_off3_inb i h2c)
          ∗ still c fwp fwb fwo
          ∗ owes (c : Thread nD τ) 0 W
          ∗ (iprop(given c a1 a2 a4 a5 a6 a7 a8 a9 a10 x
              ∗ over c a14 L.dp
              ∗ over c a15 L.vo
              ∗ over c a19 L.wp
              ∗ over c a20 L.wb
              ∗ over c a21 L.wo
              ∗ over c a22 L.cd
              ∗ over c a23 L.ce
              ∗ over c a24 L.ao
              ∗ over c a25 L.ab
              ∗ over c a26 L.ap
              ∗ room c (slotOf ![0, 0, 0] inb_S3x256x6144_S1x256x6144_0_0_0)
              ∗ semVal ((c : Thread nD τ), semOf ![0] inb_S3_S1_0) 0
              ∗ home c fp ![7936, 0] inb_S8192x6144_S256x6144_7936_0
              ∗ flies c fp (semOf ![1] inb_S3_S1_1) (slotOf ![1, 0, 0] inb_S3x256x6144_S1x256x6144_1_0_0) ![7680, 0] inb_S8192x6144_S256x6144_7680_0
              ∗ flies c fp (semN i h2c) (slotN i h2c) (k0_off3 i) (k0_off3_inb i h2c)
              ∗ still c fwp fwb fwo
              ∗ (∃ W', owes (c : Thread nD τ) 0 W')) -∗ K ⟨⟩))
        ⊢ wp frame (wpE (defs₀ (F := F)) Variants.none c none) Set.univ
            (prog i a1 h1 a2 h2 a4 h4 a5 h5 a6 h6 a7 h7 a8 h8 a9 h9 a10 h10 a14 h14 a15 h15 a16 h16 a17 h17 a18 h18 a19 h19 a20 h20 a21 h21 a22 h22 a23 h23 a24 h24 a25 h25 a26 h26) K } := by
  refine ⟨⟨?_, ?_, ?_, ?_, ?_, ?_, ?_, ?_, ?_, ?_, [], [], []⟩, fun W K => ?run⟩
  case run =>
    dsimp only [prog]
    simp only [cc0_bwd_mix_eq_skeleton]; unfold cc0_bwd_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold given over still held home room flies owns
    iintro ⟨⟨⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩,
      ⟨%d14, %f14, -, H14⟩,
      ⟨%d15, %f15, -, H15⟩,
      ⟨%d19, %f19, -, H19⟩,
      ⟨%d20, %f20, -, H20⟩,
      ⟨%d21, %f21, -, H21⟩,
      ⟨%d22, %f22, -, H22⟩,
      ⟨%d23, %f23, -, H23⟩,
      ⟨%d24, %f24, -, H24⟩,
      ⟨%d25, %f25, -, H25⟩,
      ⟨%d26, %f26, -, H26⟩,
      ⟨%r0, R0⟩,
      ⟨%r1, R1⟩,
      ⟨%r2, R2⟩,
      S0,
      S1,
      S2,
      B0,
      B1,
      B2,
      ⟨Q0, Q1, Q2, G0, G1, G2⟩,
      HW,
      Hk⟩
    obtain rfl := h1.eq_unread hf1
    obtain rfl := h2.eq_unread hf2
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    sl_exec (disch := first | sl_exact hc | sl_exact h1c | sl_exact h2c | sl_exact h5c)
    sl_step
    iapply Hk
    isplitl [H1 H2 H4 H5 H6 H7 H8 H9 H10]
    · isplitl [H1]
      · iexists _; isplitr; · ipureintro; exact h1.read_unread _
        iexact H1
      isplitl [H2]
      · iexists _; isplitr; · ipureintro; exact h2.read_unread _
        iexact H2
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      iexists _; isplitr; · ipureintro; exact h10.read_unread _
      iexact H10
    isplitl [H14]; · iexists _; iexact H14
    isplitl [H15]; · iexists _; iexact H15
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [R0]; · iexists _; iexact R0
    isplitl [S0]; · iexact S0
    isplitl [B0]; · iexact B0
    isplitl [S1]; · iexists _; iexact S1
    isplitl [S2]; · iexists _; iexact S2
    isplitl [Q0 Q1 Q2 G0 G1 G2]
    · isplitl [Q0]; · iexact Q0
      isplitl [Q1]; · iexact Q1
      isplitl [Q2]; · iexact Q2
      isplitl [G0]; · iexact G0
      isplitl [G1]; · iexact G1
      iexact G2
    iexists _; iexact HW

set_option maxHeartbeats 8000000 in
/-- A middle point: on what the point before left, the body sends for the block two points on, receives its own, and leaves
    the weights as they were, the sums advanced and the late rows renewed. -/
def runMid (hc : ¬First i) (h1c : ¬k0_cond1 i = 1#1) (h2c : k0_cond2 i = 1#1) (h5c : ¬k0_cond5 i = 1#1)
    (x : Ins F) (k : Kept F) (fp : At (F := F) c projM) (fwp : At (F := F) c wpM) (fwb : At (F := F) c wbM) (fwo : At (F := F) c woM) :
    { L : Stores F // ∀ (W : Waits sig Unit) (K : PUnit → sProp 𝕄),
      iprop(given c a1 a2 a4 a5 a6 a7 a8 a9 a10 x
          ∗ (∃ d, owns (c : Thread nD τ) a14 fullShare d)
          ∗ owns (c : Thread nD τ) a15 fullShare k.vo
          ∗ owns (c : Thread nD τ) a19 fullShare k.wp
          ∗ owns (c : Thread nD τ) a20 fullShare k.wb
          ∗ owns (c : Thread nD τ) a21 fullShare k.wo
          ∗ owns (c : Thread nD τ) a22 fullShare k.cd
          ∗ owns (c : Thread nD τ) a23 fullShare k.ce
          ∗ owns (c : Thread nD τ) a24 fullShare k.ao
          ∗ owns (c : Thread nD τ) a25 fullShare k.ab
          ∗ owns (c : Thread nD τ) a26 fullShare k.ap
          ∗ flies c fp (semW i) (slotW i) (k0_off6 i) (k0_off6_inb i)
          ∗ room c (slotN i h2c)
          ∗ semVal ((c : Thread nD τ), semN i h2c) 0
          ∗ home c fp (k0_off3 i) (k0_off3_inb i h2c)
          ∗ still c fwp fwb fwo
          ∗ owes (c : Thread nD τ) 0 W
          ∗ (iprop(given c a1 a2 a4 a5 a6 a7 a8 a9 a10 x
              ∗ over c a14 L.dp
              ∗ onto c a15 h15 k.vo L.vo
              ∗ owns (c : Thread nD τ) a19 fullShare k.wp
              ∗ owns (c : Thread nD τ) a20 fullShare k.wb
              ∗ owns (c : Thread nD τ) a21 fullShare k.wo
              ∗ over c a22 L.cd
              ∗ onto c a23 h23 k.ce L.ce
              ∗ over c a24 L.ao
              ∗ over c a25 L.ab
              ∗ over c a26 L.ap
              ∗ room c (slotW i)
              ∗ semVal ((c : Thread nD τ), semW i) 0
              ∗ home c fp (k0_off6 i) (k0_off6_inb i)
              ∗ flies c fp (semN i h2c) (slotN i h2c) (k0_off3 i) (k0_off3_inb i h2c)
              ∗ still c fwp fwb fwo
              ∗ (∃ W', owes (c : Thread nD τ) 0 W')) -∗ K ⟨⟩))
        ⊢ wp frame (wpE (defs₀ (F := F)) Variants.none c none) Set.univ
            (prog i a1 h1 a2 h2 a4 h4 a5 h5 a6 h6 a7 h7 a8 h8 a9 h9 a10 h10 a14 h14 a15 h15 a16 h16 a17 h17 a18 h18 a19 h19 a20 h20 a21 h21 a22 h22 a23 h23 a24 h24 a25 h25 a26 h26) K } := by
  refine ⟨⟨?_, ?_, [], [], [], ?_, ?_, ?_, ?_, ?_, [], [], []⟩, fun W K => ?run⟩
  case run =>
    dsimp only [prog]
    simp only [cc0_bwd_mix_eq_skeleton]; unfold cc0_bwd_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold given over onto still held home room flies owns
    iintro ⟨⟨⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩,
      ⟨%d14, %f14, -, H14⟩,
      ⟨%f15, %hf15, H15⟩,
      ⟨%f19, %hf19, H19⟩,
      ⟨%f20, %hf20, H20⟩,
      ⟨%f21, %hf21, H21⟩,
      ⟨%f22, %hf22, H22⟩,
      ⟨%f23, %hf23, H23⟩,
      ⟨%f24, %hf24, H24⟩,
      ⟨%f25, %hf25, H25⟩,
      ⟨%f26, %hf26, H26⟩,
      ⟨%r0, S0⟩,
      ⟨%r2, R2⟩,
      S2,
      B2,
      ⟨Q0, Q1, Q2, G0, G1, G2⟩,
      HW,
      Hk⟩
    obtain rfl := h1.eq_unread hf1
    obtain rfl := h2.eq_unread hf2
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h15.eq_unread hf15
    obtain rfl := h19.eq_unread hf19
    obtain rfl := h20.eq_unread hf20
    obtain rfl := h21.eq_unread hf21
    obtain rfl := h22.eq_unread hf22
    obtain rfl := h23.eq_unread hf23
    obtain rfl := h24.eq_unread hf24
    obtain rfl := h25.eq_unread hf25
    obtain rfl := h26.eq_unread hf26
    sl_exec (disch := first | sl_exact hc | sl_exact h1c | sl_exact h2c | sl_exact h5c)
    sl_step
    iapply Hk
    isplitl [H1 H2 H4 H5 H6 H7 H8 H9 H10]
    · isplitl [H1]
      · iexists _; isplitr; · ipureintro; exact h1.read_unread _
        iexact H1
      isplitl [H2]
      · iexists _; isplitr; · ipureintro; exact h2.read_unread _
        iexact H2
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      iexists _; isplitr; · ipureintro; exact h10.read_unread _
      iexact H10
    isplitl [H14]; · iexists _; iexact H14
    isplitl [H15]; · iexact H15
    isplitl [H19]
    · iexists _; isplitr; · ipureintro; exact h19.read_unread _
      iexact H19
    isplitl [H20]
    · iexists _; isplitr; · ipureintro; exact h20.read_unread _
      iexact H20
    isplitl [H21]
    · iexists _; isplitr; · ipureintro; exact h21.read_unread _
      iexact H21
    isplitl [H22]; · iexists _; iexact H22
    isplitl [H23]; · iexact H23
    isplitl [H24]; · iexists _; iexact H24
    isplitl [H25]; · iexists _; iexact H25
    isplitl [H26]; · iexists _; iexact H26
    isplitl [S0_dst]; · iexists _; iexact S0_dst
    isplitl [S0]; · iexact S0
    isplitl [S0_src]; · iexact S0_src
    isplitl [S2]; · iexists _; iexact S2
    isplitl [Q0 Q1 Q2 G0 G1 G2]
    · isplitl [Q0]; · iexact Q0
      isplitl [Q1]; · iexact Q1
      isplitl [Q2]; · iexact Q2
      isplitl [G0]; · iexact G0
      isplitl [G1]; · iexact G1
      iexact G2
    iexists _; iexact HW

set_option maxHeartbeats 8000000 in
/-- The last point but one: as a middle one, with no block left to send for. -/
def runTail (hc : ¬First i) (h1c : ¬k0_cond1 i = 1#1) (h2c : ¬k0_cond2 i = 1#1) (h5c : ¬k0_cond5 i = 1#1)
    (x : Ins F) (k : Kept F) (fp : At (F := F) c projM) (fwp : At (F := F) c wpM) (fwb : At (F := F) c wbM) (fwo : At (F := F) c woM) :
    { L : Stores F // ∀ (W : Waits sig Unit) (K : PUnit → sProp 𝕄),
      iprop(given c a1 a2 a4 a5 a6 a7 a8 a9 a10 x
          ∗ (∃ d, owns (c : Thread nD τ) a14 fullShare d)
          ∗ owns (c : Thread nD τ) a15 fullShare k.vo
          ∗ owns (c : Thread nD τ) a19 fullShare k.wp
          ∗ owns (c : Thread nD τ) a20 fullShare k.wb
          ∗ owns (c : Thread nD τ) a21 fullShare k.wo
          ∗ owns (c : Thread nD τ) a22 fullShare k.cd
          ∗ owns (c : Thread nD τ) a23 fullShare k.ce
          ∗ owns (c : Thread nD τ) a24 fullShare k.ao
          ∗ owns (c : Thread nD τ) a25 fullShare k.ab
          ∗ owns (c : Thread nD τ) a26 fullShare k.ap
          ∗ flies c fp (semW i) (slotW i) (k0_off6 i) (k0_off6_inb i)
          ∗ still c fwp fwb fwo
          ∗ owes (c : Thread nD τ) 0 W
          ∗ (iprop(given c a1 a2 a4 a5 a6 a7 a8 a9 a10 x
              ∗ over c a14 L.dp
              ∗ onto c a15 h15 k.vo L.vo
              ∗ owns (c : Thread nD τ) a19 fullShare k.wp
              ∗ owns (c : Thread nD τ) a20 fullShare k.wb
              ∗ owns (c : Thread nD τ) a21 fullShare k.wo
              ∗ over c a22 L.cd
              ∗ onto c a23 h23 k.ce L.ce
              ∗ over c a24 L.ao
              ∗ over c a25 L.ab
              ∗ over c a26 L.ap
              ∗ room c (slotW i)
              ∗ semVal ((c : Thread nD τ), semW i) 0
              ∗ home c fp (k0_off6 i) (k0_off6_inb i)
              ∗ still c fwp fwb fwo
              ∗ (∃ W', owes (c : Thread nD τ) 0 W')) -∗ K ⟨⟩))
        ⊢ wp frame (wpE (defs₀ (F := F)) Variants.none c none) Set.univ
            (prog i a1 h1 a2 h2 a4 h4 a5 h5 a6 h6 a7 h7 a8 h8 a9 h9 a10 h10 a14 h14 a15 h15 a16 h16 a17 h17 a18 h18 a19 h19 a20 h20 a21 h21 a22 h22 a23 h23 a24 h24 a25 h25 a26 h26) K } := by
  refine ⟨⟨?_, ?_, [], [], [], ?_, ?_, ?_, ?_, ?_, [], [], []⟩, fun W K => ?run⟩
  case run =>
    dsimp only [prog]
    simp only [cc0_bwd_mix_eq_skeleton]; unfold cc0_bwd_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold given over onto still held home room flies owns
    iintro ⟨⟨⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩,
      ⟨%d14, %f14, -, H14⟩,
      ⟨%f15, %hf15, H15⟩,
      ⟨%f19, %hf19, H19⟩,
      ⟨%f20, %hf20, H20⟩,
      ⟨%f21, %hf21, H21⟩,
      ⟨%f22, %hf22, H22⟩,
      ⟨%f23, %hf23, H23⟩,
      ⟨%f24, %hf24, H24⟩,
      ⟨%f25, %hf25, H25⟩,
      ⟨%f26, %hf26, H26⟩,
      ⟨%r0, S0⟩,
      ⟨Q0, Q1, Q2, G0, G1, G2⟩,
      HW,
      Hk⟩
    obtain rfl := h1.eq_unread hf1
    obtain rfl := h2.eq_unread hf2
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h15.eq_unread hf15
    obtain rfl := h19.eq_unread hf19
    obtain rfl := h20.eq_unread hf20
    obtain rfl := h21.eq_unread hf21
    obtain rfl := h22.eq_unread hf22
    obtain rfl := h23.eq_unread hf23
    obtain rfl := h24.eq_unread hf24
    obtain rfl := h25.eq_unread hf25
    obtain rfl := h26.eq_unread hf26
    sl_exec (disch := first | sl_exact hc | sl_exact h1c | sl_exact h2c | sl_exact h5c)
    sl_step
    iapply Hk
    isplitl [H1 H2 H4 H5 H6 H7 H8 H9 H10]
    · isplitl [H1]
      · iexists _; isplitr; · ipureintro; exact h1.read_unread _
        iexact H1
      isplitl [H2]
      · iexists _; isplitr; · ipureintro; exact h2.read_unread _
        iexact H2
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      iexists _; isplitr; · ipureintro; exact h10.read_unread _
      iexact H10
    isplitl [H14]; · iexists _; iexact H14
    isplitl [H15]; · iexact H15
    isplitl [H19]
    · iexists _; isplitr; · ipureintro; exact h19.read_unread _
      iexact H19
    isplitl [H20]
    · iexists _; isplitr; · ipureintro; exact h20.read_unread _
      iexact H20
    isplitl [H21]
    · iexists _; isplitr; · ipureintro; exact h21.read_unread _
      iexact H21
    isplitl [H22]; · iexists _; iexact H22
    isplitl [H23]; · iexact H23
    isplitl [H24]; · iexists _; iexact H24
    isplitl [H25]; · iexists _; iexact H25
    isplitl [H26]; · iexists _; iexact H26
    isplitl [S0_dst]; · iexists _; iexact S0_dst
    isplitl [S0]; · iexact S0
    isplitl [S0_src]; · iexact S0_src
    isplitl [Q0 Q1 Q2 G0 G1 G2]
    · isplitl [Q0]; · iexact Q0
      isplitl [Q1]; · iexact Q1
      isplitl [Q2]; · iexact Q2
      isplitl [G0]; · iexact G0
      isplitl [G1]; · iexact G1
      iexact G2
    iexists _; iexact HW

set_option maxHeartbeats 8000000 in
/-- The last point: as the one before, and the three summed products handed out. -/
def runLast (hc : ¬First i) (h1c : ¬k0_cond1 i = 1#1) (h2c : ¬k0_cond2 i = 1#1) (h5c : k0_cond5 i = 1#1)
    (x : Ins F) (k : Kept F) (fp : At (F := F) c projM) (fwp : At (F := F) c wpM) (fwb : At (F := F) c wbM) (fwo : At (F := F) c woM) :
    { L : Stores F // ∀ (W : Waits sig Unit) (K : PUnit → sProp 𝕄),
      iprop(given c a1 a2 a4 a5 a6 a7 a8 a9 a10 x
          ∗ (∃ d, owns (c : Thread nD τ) a14 fullShare d)
          ∗ owns (c : Thread nD τ) a15 fullShare k.vo
          ∗ owns (c : Thread nD τ) a19 fullShare k.wp
          ∗ owns (c : Thread nD τ) a20 fullShare k.wb
          ∗ owns (c : Thread nD τ) a21 fullShare k.wo
          ∗ owns (c : Thread nD τ) a22 fullShare k.cd
          ∗ owns (c : Thread nD τ) a23 fullShare k.ce
          ∗ owns (c : Thread nD τ) a24 fullShare k.ao
          ∗ owns (c : Thread nD τ) a25 fullShare k.ab
          ∗ owns (c : Thread nD τ) a26 fullShare k.ap
          ∗ (∃ d, owns (c : Thread nD τ) a16 fullShare d)
          ∗ (∃ d, owns (c : Thread nD τ) a17 fullShare d)
          ∗ (∃ d, owns (c : Thread nD τ) a18 fullShare d)
          ∗ flies c fp (semW i) (slotW i) (k0_off6 i) (k0_off6_inb i)
          ∗ still c fwp fwb fwo
          ∗ owes (c : Thread nD τ) 0 W
          ∗ (iprop(given c a1 a2 a4 a5 a6 a7 a8 a9 a10 x
              ∗ over c a14 L.dp
              ∗ onto c a15 h15 k.vo L.vo
              ∗ owns (c : Thread nD τ) a19 fullShare k.wp
              ∗ owns (c : Thread nD τ) a20 fullShare k.wb
              ∗ owns (c : Thread nD τ) a21 fullShare k.wo
              ∗ over c a22 L.cd
              ∗ onto c a23 h23 k.ce L.ce
              ∗ over c a24 L.ao
              ∗ over c a25 L.ab
              ∗ over c a26 L.ap
              ∗ over c a16 L.go
              ∗ over c a17 L.gb
              ∗ over c a18 L.gp
              ∗ room c (slotW i)
              ∗ semVal ((c : Thread nD τ), semW i) 0
              ∗ home c fp (k0_off6 i) (k0_off6_inb i)
              ∗ still c fwp fwb fwo
              ∗ (∃ W', owes (c : Thread nD τ) 0 W')) -∗ K ⟨⟩))
        ⊢ wp frame (wpE (defs₀ (F := F)) Variants.none c none) Set.univ
            (prog i a1 h1 a2 h2 a4 h4 a5 h5 a6 h6 a7 h7 a8 h8 a9 h9 a10 h10 a14 h14 a15 h15 a16 h16 a17 h17 a18 h18 a19 h19 a20 h20 a21 h21 a22 h22 a23 h23 a24 h24 a25 h25 a26 h26) K } := by
  refine ⟨⟨?_, ?_, [], [], [], ?_, ?_, ?_, ?_, ?_, ?_, ?_, ?_⟩, fun W K => ?run⟩
  case run =>
    dsimp only [prog]
    simp only [cc0_bwd_mix_eq_skeleton]; unfold cc0_bwd_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold given over onto still held home room flies owns
    iintro ⟨⟨⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩,
      ⟨%d14, %f14, -, H14⟩,
      ⟨%f15, %hf15, H15⟩,
      ⟨%f19, %hf19, H19⟩,
      ⟨%f20, %hf20, H20⟩,
      ⟨%f21, %hf21, H21⟩,
      ⟨%f22, %hf22, H22⟩,
      ⟨%f23, %hf23, H23⟩,
      ⟨%f24, %hf24, H24⟩,
      ⟨%f25, %hf25, H25⟩,
      ⟨%f26, %hf26, H26⟩,
      ⟨%d16, %f16, -, H16⟩,
      ⟨%d17, %f17, -, H17⟩,
      ⟨%d18, %f18, -, H18⟩,
      ⟨%r0, S0⟩,
      ⟨Q0, Q1, Q2, G0, G1, G2⟩,
      HW,
      Hk⟩
    obtain rfl := h1.eq_unread hf1
    obtain rfl := h2.eq_unread hf2
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h15.eq_unread hf15
    obtain rfl := h19.eq_unread hf19
    obtain rfl := h20.eq_unread hf20
    obtain rfl := h21.eq_unread hf21
    obtain rfl := h22.eq_unread hf22
    obtain rfl := h23.eq_unread hf23
    obtain rfl := h24.eq_unread hf24
    obtain rfl := h25.eq_unread hf25
    obtain rfl := h26.eq_unread hf26
    sl_exec (disch := first | sl_exact hc | sl_exact h1c | sl_exact h2c | sl_exact h5c)
    sl_step
    iapply Hk
    isplitl [H1 H2 H4 H5 H6 H7 H8 H9 H10]
    · isplitl [H1]
      · iexists _; isplitr; · ipureintro; exact h1.read_unread _
        iexact H1
      isplitl [H2]
      · iexists _; isplitr; · ipureintro; exact h2.read_unread _
        iexact H2
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      iexists _; isplitr; · ipureintro; exact h10.read_unread _
      iexact H10
    isplitl [H14]; · iexists _; iexact H14
    isplitl [H15]; · iexact H15
    isplitl [H19]
    · iexists _; isplitr; · ipureintro; exact h19.read_unread _
      iexact H19
    isplitl [H20]
    · iexists _; isplitr; · ipureintro; exact h20.read_unread _
      iexact H20
    isplitl [H21]
    · iexists _; isplitr; · ipureintro; exact h21.read_unread _
      iexact H21
    isplitl [H22]; · iexists _; iexact H22
    isplitl [H23]; · iexact H23
    isplitl [H24]; · iexists _; iexact H24
    isplitl [H25]; · iexists _; iexact H25
    isplitl [H26]; · iexists _; iexact H26
    isplitl [H16]; · iexists _; iexact H16
    isplitl [H17]; · iexists _; iexact H17
    isplitl [H18]; · iexists _; iexact H18
    isplitl [S0_dst]; · iexists _; iexact S0_dst
    isplitl [S0]; · iexact S0
    isplitl [S0_src]; · iexact S0_src
    isplitl [Q0 Q1 Q2 G0 G1 G2]
    · isplitl [Q0]; · iexact Q0
      isplitl [Q1]; · iexact Q1
      isplitl [Q2]; · iexact Q2
      isplitl [G0]; · iexact G0
      isplitl [G1]; · iexact G1
      iexact G2
    iexists _; iexact HW

end

end Cert.Kernel4Ideal.Bmix

end
-- ==== Proof.Bmix.Ring.lean ====
/- The three rooms the backward mixing kernel receives its blocks of the projections in, point after point: which block is
   at home, which is on its way into which room, and which room is free. -/
module

public import proofs.«01_k».proof.Proof.Bmix.Run
public import Idealize.ShloMosaic.Lib.Ring

@[expose] public section

set_option maxRecDepth 16384

noncomputable section

namespace Cert.Kernel4Ideal.Bmix

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

local notation "𝕄" => MT nD τ sig Unit (Elt F) ℕ (Pipeline.UD sig nD τ) ℕ

/-! The program's conditions and offsets at the `t`-th point. -/

theorem first_iff : ∀ t : Fin grid0.N, First (grid0.coords t) ↔ t.val = 0 := by decide
theorem cond1_iff : ∀ t : Fin grid0.N, k0_cond1 (grid0.coords t) = 1#1 ↔ t.val = 0 := by decide
theorem cond2_iff : ∀ t : Fin grid0.N, k0_cond2 (grid0.coords t) = 1#1 ↔ t.val < 30 := by decide
theorem cond5_iff : ∀ t : Fin grid0.N, k0_cond5 (grid0.coords t) = 1#1 ↔ t.val = 31 := by decide

/-- Where a room, a cell and a block start. -/
abbrev slotOff (s : Fin 3) : Fin 3 → ℕ := ![s.val, 0, 0]
abbrev semOff (s : Fin 3) : Fin 1 → ℕ := ![s.val]
abbrev blkOff (b : Fin 32) : Fin 2 → ℕ := ![(31 - b.val) * 256, 0]
theorem slotIn : ∀ (s : Fin 3) a, slotOff s a + S1x256x6144.size a ≤ S3x256x6144.size a := by decide
theorem semIn : ∀ (s : Fin 3) a, semOff s a + S1.size a ≤ S3.size a := by decide
theorem blkIn : ∀ (b : Fin 32) a, blkOff b a + S256x6144.size a ≤ S8192x6144.size a := by decide

theorem off1_eq : ∀ t : Fin grid0.N, t.val < 30 → k0_off1 (grid0.coords t) = semOff (sl 3 (t.val + 2)) := by decide
theorem off2_eq : ∀ t : Fin grid0.N, t.val < 30 → k0_off2 (grid0.coords t) = slotOff (sl 3 (t.val + 2)) := by decide
theorem off3_eq : ∀ t : Fin grid0.N, t.val < 30 → k0_off3 (grid0.coords t) = blkOff (bk 32 (t.val + 2)) := by decide
theorem off4_eq : ∀ t : Fin grid0.N, k0_off4 (grid0.coords t) = semOff (sl 3 t.val) := by decide
theorem off5_eq : ∀ t : Fin grid0.N, k0_off5 (grid0.coords t) = slotOff (sl 3 t.val) := by decide
theorem off6_eq : ∀ t : Fin grid0.N, k0_off6 (grid0.coords t) = blkOff (bk 32 t.val) := by decide

/-! The ring. -/

section
variable (c : Dev nD) (fp : At (F := F) c projM)

/-- A room's cell at zero, a room at given contents, a block at home, and a block on its way into a room. -/
abbrev rcell (s : Fin 3) : sProp 𝕄 := semVal ((c : Thread nD τ), semOf (semOff s) (semIn s)) 0
abbrev rslot (s : Fin 3) (f : Buf (Elt F) ((slotOf (slotOff s) (slotIn s)).view.loc (c : Thread nD τ))) : sProp 𝕄 :=
  (slotOf (slotOff s) (slotIn s)).view.loc (c : Thread nD τ) ↦[(slotOf (slotOff s) (slotIn s)).view.set]{fullShare} f
abbrev rhome (b : Fin 32) : sProp 𝕄 := home c fp (blkOff b) (blkIn b)
abbrev rflight (s : Fin 3) (b : Fin 32) (f : Buf (Elt F) ((slotOf (slotOff s) (slotIn s)).view.loc (c : Thread nD τ))) : sProp 𝕄 :=
  Transfers.Flight (countersEmb (U := Pipeline.UD sig nD τ)) (c : Thread nD τ) (semOf (semOff s) (semIn s)) ()
    ((slotOf (slotOff s) (slotIn s)).view.amount (semOf (semOff s) (semIn s)))
    iprop(((slotOf (slotOff s) (slotIn s)).view.loc (c : Thread nD τ) ↦[(slotOf (slotOff s) (slotIn s)).view.set]{fullShare}
        (slotOf (slotOff s) (slotIn s)).view.writes (Elt F) f
          [⟨Rect.whole S256x6144, ReadAs.same.apply ((srcOf (blkOff b) (blkIn b)).view.read (Elt F) fp)⟩]) ∗ rhome c fp b)

/-- The ring before the first point, and before the `t`-th. -/
abbrev ring₀ : sProp 𝕄 := Ring.At₀ (n := 3) (NB := 32) (rcell c) (rslot c) (rhome c fp)
abbrev ring (t : ℕ) : sProp 𝕄 := Ring.At (n := 3) (NB := 32) 2 (rcell c) (rslot c) (rhome c fp) (rflight c fp) t

/-! The program's spellings are the ring's. -/

theorem home_eq {o o' : Fin 2 → ℕ} (e : o = o') (h) (h') : home c fp o h = home c fp o' h' := by subst e; rfl
theorem room_eq {o o' : Fin 3 → ℕ} (e : o = o') (h) (h') : (room c (slotOf o h) : sProp 𝕄) = room c (slotOf o' h') := by subst e; rfl
theorem sem_eq {o o' : Fin 1 → ℕ} (e : o = o') (h) (h') :
    (semVal ((c : Thread nD τ), semOf o h) 0 : sProp 𝕄) = semVal ((c : Thread nD τ), semOf o' h') 0 := by subst e; rfl
theorem flies_eq {o o' : Fin 1 → ℕ} {p p' : Fin 3 → ℕ} {q q' : Fin 2 → ℕ} (eo : o = o') (ep : p = p') (eq : q = q') (h) (h') (g) (g') (k) (k') :
    flies c fp (semOf o h) (slotOf p g) q k = flies c fp (semOf o' h') (slotOf p' g') q' k' := by subst eo ep eq; rfl

/-! The projections are their blocks, and the room for three is the three rooms. -/

/-- The places of a block, and of a room. -/
abbrev blkSet (b : Fin 32) : Finset S8192x6144.Idx := (srcOf (blkOff b) (blkIn b)).view.set
abbrev slotSet (s : Fin 3) : Finset S3x256x6144.Idx := (slotOf (slotOff s) (slotIn s)).view.set

theorem blkSet_eq (b : Fin 32) : blkSet b = (Rect.unit (s := S8192x6144) (blkOff b) S256x6144.size (blkIn b)).set :=
  View.set_slice_whole main_v130 _
theorem slotSet_eq (s : Fin 3) : slotSet s = (Rect.unit (s := S3x256x6144) (slotOff s) S1x256x6144.size (slotIn s)).set :=
  (View.set_reshape _ _).trans (View.set_slice_whole cc0_scratch9 _)

theorem blk_disjoint (b b' : Fin 32) (h : b ≠ b') : Disjoint (blkSet b) (blkSet b') := by
  have key := Ring.lead_disjoint (s := S8192x6144) (NB := 32) 0 256 (fun b => blkOff b.rev) S256x6144.size (fun b => blkIn b.rev)
    (by decide) (by decide) b.rev b'.rev (fun e => h (Fin.rev_injective e))
  rw [blkSet_eq, blkSet_eq]
  simpa only [Fin.rev_rev] using key

theorem blk_cover : Finset.univ.biUnion blkSet = Finset.univ := by
  have key := Ring.lead_cover (s := S8192x6144) (NB := 32) 0 256 (fun b => blkOff b.rev) S256x6144.size (fun b => blkIn b.rev)
    (by decide) (by decide) (by decide) (by decide) (by decide)
  refine Finset.eq_univ_iff_forall.mpr fun y => ?_
  obtain ⟨b, -, hb⟩ := Finset.mem_biUnion.mp (key ▸ Finset.mem_univ y)
  exact Finset.mem_biUnion.mpr ⟨b.rev, Finset.mem_univ _, (blkSet_eq b.rev).symm ▸ hb⟩

theorem held_blocks : (held c projM fp : sProp 𝕄) = bigSep Finset.univ (rhome c fp) :=
  Ring.pointsTo_blocks (ℓ := projM.view.loc (c : Thread nD τ)) blkSet blk_disjoint blk_cover fp

theorem slot_disjoint (s s' : Fin 3) (h : s ≠ s') : Disjoint (slotSet s) (slotSet s') := by
  rw [slotSet_eq, slotSet_eq]
  exact Ring.lead_disjoint (s := S3x256x6144) (NB := 3) 0 1 slotOff S1x256x6144.size slotIn (by decide) (by decide) s s' h

theorem slot_cover : Finset.univ.biUnion slotSet = Finset.univ := by
  have key := Ring.lead_cover (s := S3x256x6144) (NB := 3) 0 1 slotOff S1x256x6144.size slotIn (by decide) (by decide) (by decide) (by decide) (by decide)
  refine Finset.eq_univ_iff_forall.mpr fun y => ?_
  obtain ⟨s, -, hs⟩ := Finset.mem_biUnion.mp (key ▸ Finset.mem_univ y)
  exact Finset.mem_biUnion.mpr ⟨s, Finset.mem_univ _, (slotSet_eq s).symm ▸ hs⟩

theorem rooms_split : (iprop(∃ f, ringM.view.loc (c : Thread nD τ) ↦{fullShare} f) : sProp 𝕄)
    ⊢ iprop((∃ f, rslot c 0 f) ∗ (∃ f, rslot c 1 f) ∗ ∃ f, rslot c 2 f) :=
  Ring.slots3_split (ℓ := ringM.view.loc (c : Thread nD τ)) slotSet
    slot_disjoint slot_cover (rslot c 0) (rslot c 1) (rslot c 2) (fun _ => rfl) (fun _ => rfl) (fun _ => rfl)

theorem rooms_join : (iprop((∃ f, rslot c 0 f) ∗ (∃ f, rslot c 1 f) ∗ ∃ f, rslot c 2 f) : sProp 𝕄)
    ⊢ iprop(∃ f, ringM.view.loc (c : Thread nD τ) ↦{fullShare} f) :=
  Ring.slots3_join (ℓ := ringM.view.loc (c : Thread nD τ)) slotSet
    slot_disjoint slot_cover (rslot c 0) (rslot c 1) (rslot c 2) (fun _ => rfl) (fun _ => rfl) (fun _ => rfl)

end

/-! Point after point: what a point takes out of the ring and what it puts back. -/

section
variable (c : Dev nD) (fp : At (F := F) c projM) (t : Fin grid0.N)

theorem home_W : home c fp (k0_off6 (grid0.coords t)) (k0_off6_inb _) = rhome c fp (bk 32 t.val) := home_eq c fp (off6_eq t) _ _
theorem room_W : (room c (slotW (grid0.coords t)) : sProp 𝕄) = iprop(∃ f, rslot c (sl 3 t.val) f) := room_eq c (off5_eq t) _ _
theorem sem_W : (semVal ((c : Thread nD τ), semW (grid0.coords t)) 0 : sProp 𝕄) = rcell c (sl 3 t.val) := sem_eq c (off4_eq t) _ _
theorem flies_W : flies c fp (semW (grid0.coords t)) (slotW (grid0.coords t)) (k0_off6 (grid0.coords t)) (k0_off6_inb _)
    = iprop(∃ f, rflight c fp (sl 3 t.val) (bk 32 t.val) f) := flies_eq c fp (off4_eq t) (off5_eq t) (off6_eq t) _ _ _ _ _ _

section
variable (h : k0_cond2 (grid0.coords t) = 1#1)
theorem home_N : home c fp (k0_off3 (grid0.coords t)) (k0_off3_inb _ h) = rhome c fp (bk 32 (t.val + 2)) :=
  home_eq c fp (off3_eq t ((cond2_iff t).mp h)) _ _
theorem room_N : (room c (slotN (grid0.coords t) h) : sProp 𝕄) = iprop(∃ f, rslot c (sl 3 (t.val + 2)) f) :=
  room_eq c (off2_eq t ((cond2_iff t).mp h)) _ _
theorem sem_N : (semVal ((c : Thread nD τ), semN (grid0.coords t) h) 0 : sProp 𝕄) = rcell c (sl 3 (t.val + 2)) :=
  sem_eq c (off1_eq t ((cond2_iff t).mp h)) _ _
theorem flies_N : flies c fp (semN (grid0.coords t) h) (slotN (grid0.coords t) h) (k0_off3 (grid0.coords t)) (k0_off3_inb _ h)
    = iprop(∃ f, rflight c fp (sl 3 (t.val + 2)) (bk 32 (t.val + 2)) f) :=
  flies_eq c fp (off1_eq t ((cond2_iff t).mp h)) (off2_eq t ((cond2_iff t).mp h)) (off3_eq t ((cond2_iff t).mp h)) _ _ _ _ _ _

/-- A point after the first that sends for a block. -/
theorem ring_mid : ring c fp t.val
    ⊢ iprop(flies c fp (semW (grid0.coords t)) (slotW (grid0.coords t)) (k0_off6 (grid0.coords t)) (k0_off6_inb _)
      ∗ room c (slotN (grid0.coords t) h) ∗ semVal ((c : Thread nD τ), semN (grid0.coords t) h) 0
      ∗ home c fp (k0_off3 (grid0.coords t)) (k0_off3_inb _ h)
      ∗ ((room c (slotW (grid0.coords t)) ∗ semVal ((c : Thread nD τ), semW (grid0.coords t)) 0
          ∗ home c fp (k0_off6 (grid0.coords t)) (k0_off6_inb _)
          ∗ flies c fp (semN (grid0.coords t) h) (slotN (grid0.coords t) h) (k0_off3 (grid0.coords t)) (k0_off3_inb _ h))
        -∗ ring c fp (t.val + 1))) := by
  have hB : t.val + 2 < 32 := by have := (cond2_iff t).mp h; omega
  rw [flies_W, room_N c t h, sem_N c t h, home_N c fp t h, room_W, sem_W, home_W, flies_N c fp t h]
  unfold ring
  rw [Ring.At3_here _ _ _ _ t.val hB, Ring.At3_next _ _ _ _ t.val hB, Ring.slotAt3_next0 _ _ _ t.val (by omega), Ring.slotAt3_next1 _ _ _ t.val hB]
  iintro ⟨⟨HN, HR⟩, F0, F1, CN, SN⟩
  isplitl [F0]; · iexact F0
  isplitl [SN]; · iexact SN
  isplitl [CN]; · iexact CN
  isplitl [HN]; · iexact HN
  iintro ⟨SW, CW, HW, FN⟩
  isplitl [HW HR]
  · isplitl [HW]; · iexact HW
    iexact HR
  isplitl [F1]; · iexact F1
  isplitl [FN]; · iexact FN
  isplitl [CW]; · iexact CW
  iexact SW

/-- The first point, by where its rooms, cells and blocks start. -/
theorem ring_first_of (k : ℕ) (hk : k = 0) {p₀ p₁ p₂ : Fin 3 → ℕ} {o₀ o₁ o₂ : Fin 1 → ℕ} {q₀ q₁ q₂ : Fin 2 → ℕ}
    (ep₀ : p₀ = slotOff (sl 3 k)) (ep₁ : p₁ = slotOff (sl 3 (k + 1))) (ep₂ : p₂ = slotOff (sl 3 (k + 2)))
    (eo₀ : o₀ = semOff (sl 3 k)) (eo₁ : o₁ = semOff (sl 3 (k + 1))) (eo₂ : o₂ = semOff (sl 3 (k + 2)))
    (eq₀ : q₀ = blkOff (bk 32 k)) (eq₁ : q₁ = blkOff (bk 32 (k + 1))) (eq₂ : q₂ = blkOff (bk 32 (k + 2)))
    (hp₀) (hp₁) (hp₂) (ho₀) (ho₁) (ho₂) (hq₀) (hq₁) (hq₂) : ring₀ c fp
    ⊢ iprop(room c (slotOf p₀ hp₀) ∗ room c (slotOf p₁ hp₁) ∗ room c (slotOf p₂ hp₂)
      ∗ semVal ((c : Thread nD τ), semOf o₀ ho₀) 0 ∗ semVal ((c : Thread nD τ), semOf o₁ ho₁) 0 ∗ semVal ((c : Thread nD τ), semOf o₂ ho₂) 0
      ∗ home c fp q₀ hq₀ ∗ home c fp q₁ hq₁ ∗ home c fp q₂ hq₂
      ∗ ((room c (slotOf p₀ hp₀) ∗ semVal ((c : Thread nD τ), semOf o₀ ho₀) 0 ∗ home c fp q₀ hq₀
          ∗ flies c fp (semOf o₁ ho₁) (slotOf p₁ hp₁) q₁ hq₁ ∗ flies c fp (semOf o₂ ho₂) (slotOf p₂ hp₂) q₂ hq₂)
        -∗ ring c fp (k + 1))) := by
  subst ep₀ ep₁ ep₂ eo₀ eo₁ eo₂ eq₀ eq₁ eq₂
  unfold ring₀ ring
  rw [Ring.At₀_eq3' _ _ _ k hk (by decide), Ring.At3_one' _ _ _ _ k hk (by decide)]
  iintro ⟨⟨HA, HB, HN, HR⟩, ⟨CA, SA⟩, ⟨CB, SB⟩, CN, SN⟩
  isplitl [SA]; · iexact SA
  isplitl [SB]; · iexact SB
  isplitl [SN]; · iexact SN
  isplitl [CA]; · iexact CA
  isplitl [CB]; · iexact CB
  isplitl [CN]; · iexact CN
  isplitl [HA]; · iexact HA
  isplitl [HB]; · iexact HB
  isplitl [HN]; · iexact HN
  iintro ⟨SW, CW, HW, F1, FN⟩
  isplitl [HW HR]
  · isplitl [HW]; · iexact HW
    iexact HR
  isplitl [F1]; · iexact F1
  isplitl [FN]; · iexact FN
  isplitl [CW]; · iexact CW
  iexact SW

/-- The first point. -/
theorem ring_first (h0 : t.val = 0) : ring₀ c fp
    ⊢ iprop(room c (slotOf ![0, 0, 0] inb_S3x256x6144_S1x256x6144_0_0_0) ∗ room c (slotOf ![1, 0, 0] inb_S3x256x6144_S1x256x6144_1_0_0)
      ∗ room c (slotN (grid0.coords t) h)
      ∗ semVal ((c : Thread nD τ), semOf ![0] inb_S3_S1_0) 0 ∗ semVal ((c : Thread nD τ), semOf ![1] inb_S3_S1_1) 0
      ∗ semVal ((c : Thread nD τ), semN (grid0.coords t) h) 0
      ∗ home c fp ![7936, 0] inb_S8192x6144_S256x6144_7936_0 ∗ home c fp ![7680, 0] inb_S8192x6144_S256x6144_7680_0
      ∗ home c fp (k0_off3 (grid0.coords t)) (k0_off3_inb _ h)
      ∗ ((room c (slotOf ![0, 0, 0] inb_S3x256x6144_S1x256x6144_0_0_0) ∗ semVal ((c : Thread nD τ), semOf ![0] inb_S3_S1_0) 0
          ∗ home c fp ![7936, 0] inb_S8192x6144_S256x6144_7936_0
          ∗ flies c fp (semOf ![1] inb_S3_S1_1) (slotOf ![1, 0, 0] inb_S3x256x6144_S1x256x6144_1_0_0) ![7680, 0] inb_S8192x6144_S256x6144_7680_0
          ∗ flies c fp (semN (grid0.coords t) h) (slotN (grid0.coords t) h) (k0_off3 (grid0.coords t)) (k0_off3_inb _ h))
        -∗ ring c fp (t.val + 1))) :=
  have h2 := (cond2_iff t).mp h
  ring_first_of c fp t.val h0 (by rw [h0]; decide) (by rw [h0]; decide) (off2_eq t h2) (by rw [h0]; decide) (by rw [h0]; decide) (off1_eq t h2)
    (by rw [h0]; decide) (by rw [h0]; decide) (off3_eq t h2) _ _ _ _ _ _ _ _ _
end

/-- One of the last two points: it receives its block and sends for none. -/
theorem ring_tail (h : ¬k0_cond2 (grid0.coords t) = 1#1) : ring c fp t.val
    ⊢ iprop(flies c fp (semW (grid0.coords t)) (slotW (grid0.coords t)) (k0_off6 (grid0.coords t)) (k0_off6_inb _)
      ∗ ((room c (slotW (grid0.coords t)) ∗ semVal ((c : Thread nD τ), semW (grid0.coords t)) 0
          ∗ home c fp (k0_off6 (grid0.coords t)) (k0_off6_inb _))
        -∗ ring c fp (t.val + 1))) := by
  have hN : t.val < 32 := lt_of_lt_of_eq t.isLt N_0
  have hB : 32 ≤ t.val + 2 := by have := mt (cond2_iff t).mpr h; omega
  rw [flies_W, room_W, sem_W, home_W]
  unfold ring
  rw [Ring.At3_here_tail _ _ _ _ t.val hN, Ring.At3_next_tail _ _ _ _ t.val hB hN, Ring.slotAt3_tail_role]
  iintro ⟨HR, F0, X, CN, SN⟩
  isplitl [F0]; · iexact F0
  iintro ⟨SW, CW, HW⟩
  isplitl [HW HR]
  · isplitl [HW]; · iexact HW
    iexact HR
  isplitl [X]; · iexact X
  isplitl [CN SN]
  · isplitl [CN]; · iexact CN
    iexact SN
  isplitl [CW]; · iexact CW
  iexact SW

/-- Before the first point the ring is the projections and the room for three, and the three cells at zero. -/
theorem ring_begin : iprop(held c projM fp ∗ (∃ f, ringM.view.loc (c : Thread nD τ) ↦{fullShare} f)
      ∗ semVal ((c : Thread nD τ), SemLoc.dma 26) 0 ∗ semVal ((c : Thread nD τ), SemLoc.dma 27) 0 ∗ semVal ((c : Thread nD τ), SemLoc.dma 28) 0)
    ⊢ ring₀ c fp := by
  rw [held_blocks]
  unfold ring₀ Ring.At₀
  rw [Ring.bigSep_fin3]
  iintro ⟨HH, HS, C0, C1, C2⟩
  ihave HS := (rooms_split c) $$ HS
  icases HS with ⟨S0, S1, S2⟩
  isplitl [HH]; · iexact HH
  isplitl [C0 S0]
  · isplitl [C0]; · iexact C0
    iexact S0
  isplitl [C1 S1]
  · isplitl [C1]; · iexact C1
    iexact S1
  isplitl [C2]; · iexact C2
  iexact S2

/-- After the last the same. -/
theorem ring_end : ring c fp 32
    ⊢ iprop(held c projM fp ∗ (∃ f, ringM.view.loc (c : Thread nD τ) ↦{fullShare} f)
      ∗ semVal ((c : Thread nD τ), SemLoc.dma 26) 0 ∗ semVal ((c : Thread nD τ), SemLoc.dma 27) 0 ∗ semVal ((c : Thread nD τ), SemLoc.dma 28) 0) := by
  rw [held_blocks]
  unfold ring
  refine (Ring.free3_of_At_last (rhome c fp) (rcell c) (rslot c) (rflight c fp)).trans ?_
  iintro ⟨HH, ⟨C0, S0⟩, ⟨C1, S1⟩, C2, S2⟩
  isplitl [HH]; · iexact HH
  isplitl [S0 S1 S2]
  · iapply (rooms_join c)
    isplitl [S0]; · iexact S0
    isplitl [S1]; · iexact S1
    iexact S2
  isplitl [C0]; · iexact C0
  isplitl [C1]; · iexact C1
  iexact C2

end

end Cert.Kernel4Ideal.Bmix

end
-- ==== Proof.Bmix.Frame.lean ====
/- The backward mixing kernel's run: point after point of its grid what its buffers hold, and that it ends with its arguments
   unchanged and its counters at zero. -/
module

public import proofs.«01_k».proof.Proof.Bmix.Ring
public import Idealize.ShloMosaic.Lib.Claim

@[expose] public section

set_option maxRecDepth 16384

-- the four runs are large terms
set_option maxHeartbeats 4000000

noncomputable section

namespace Cert.Kernel4Ideal.Bmix

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffer each window is on at a point, and that it is one whole buffer. -/
abbrev b0 (t : Fin cfg0.N) : Memref sig .tc .vmem S256x1024 .f32 := win0_0.stage (cfg0.slots t 0)
abbrev w0 (t : Fin cfg0.N) : (b0 t).IsWhole := hstage0_0 ((cfg0.slots t 0).cast nbuf0_0)
abbrev b1 (t : Fin cfg0.N) : Memref sig .tc .vmem S256x1024 .bf16 := win0_1.stage (cfg0.slots t 1)
abbrev w1 (t : Fin cfg0.N) : (b1 t).IsWhole := hstage0_1 ((cfg0.slots t 1).cast nbuf0_1)
abbrev b2 (t : Fin cfg0.N) : Memref sig .tc .vmem S256x1024 .bf16 := win0_2.stage (cfg0.slots t 2)
abbrev w2 (t : Fin cfg0.N) : (b2 t).IsWhole := hstage0_2 ((cfg0.slots t 2).cast nbuf0_2)
abbrev b3 (t : Fin cfg0.N) : Memref sig .tc .vmem S256x1024 .bf16 := win0_3.stage (cfg0.slots t 3)
abbrev w3 (t : Fin cfg0.N) : (b3 t).IsWhole := hstage0_3 ((cfg0.slots t 3).cast nbuf0_3)
abbrev b4 (t : Fin cfg0.N) : Memref sig .tc .vmem S256x1024 .bf16 := win0_4.stage (cfg0.slots t 4)
abbrev w4 (t : Fin cfg0.N) : (b4 t).IsWhole := hstage0_4 ((cfg0.slots t 4).cast nbuf0_4)
abbrev b5 (t : Fin cfg0.N) : Memref sig .tc .vmem S256x1024 .bf16 := win0_5.stage (cfg0.slots t 5)
abbrev w5 (t : Fin cfg0.N) : (b5 t).IsWhole := hstage0_5 ((cfg0.slots t 5).cast nbuf0_5)
abbrev b6 (t : Fin cfg0.N) : Memref sig .tc .vmem S256x1024 .bf16 := win0_6.stage (cfg0.slots t 6)
abbrev w6 (t : Fin cfg0.N) : (b6 t).IsWhole := hstage0_6 ((cfg0.slots t 6).cast nbuf0_6)
abbrev b7 (t : Fin cfg0.N) : Memref sig .tc .vmem S256x1024 .bf16 := win0_7.stage (cfg0.slots t 7)
abbrev w7 (t : Fin cfg0.N) : (b7 t).IsWhole := hstage0_7 ((cfg0.slots t 7).cast nbuf0_7)
abbrev b8 (t : Fin cfg0.N) : Memref sig .tc .vmem S16x1024 .f32 := win0_8.stage (cfg0.slots t 8)
abbrev w8 (t : Fin cfg0.N) : (b8 t).IsWhole := hstage0_8 ((cfg0.slots t 8).cast nbuf0_8)
abbrev b9 (t : Fin cfg0.N) : Memref sig .tc .vmem S256x6144 .bf16 := win0_9.stage (cfg0.slots t 9)
abbrev w9 (t : Fin cfg0.N) : (b9 t).IsWhole := hstage0_9 ((cfg0.slots t 9).cast nbuf0_9)
abbrev b10 (t : Fin cfg0.N) : Memref sig .tc .vmem S8x1024 .f32 := win0_10.stage (cfg0.slots t 10)
abbrev w10 (t : Fin cfg0.N) : (b10 t).IsWhole := hstage0_10 ((cfg0.slots t 10).cast nbuf0_10)
abbrev b11 (t : Fin cfg0.N) : Memref sig .tc .vmem S1024x1024 .bf16 := win0_11.stage (cfg0.slots t 11)
abbrev w11 (t : Fin cfg0.N) : (b11 t).IsWhole := hstage0_11 ((cfg0.slots t 11).cast nbuf0_11)
abbrev b12 (t : Fin cfg0.N) : Memref sig .tc .vmem S1024x1024 .bf16 := win0_12.stage (cfg0.slots t 12)
abbrev w12 (t : Fin cfg0.N) : (b12 t).IsWhole := hstage0_12 ((cfg0.slots t 12).cast nbuf0_12)
abbrev b13 (t : Fin cfg0.N) : Memref sig .tc .vmem S4x256x256 .bf16 := win0_13.stage (cfg0.slots t 13)
abbrev w13 (t : Fin cfg0.N) : (b13 t).IsWhole := hstage0_13 ((cfg0.slots t 13).cast nbuf0_13)

/-- The kernel's own buffers: its three weights, the late rows and the three sums. -/
abbrev wpB : Memref sig .tc .vmem S4x256x256 .bf16 := Memref.whole cc0_scratch0
abbrev wbB : Memref sig .tc .vmem S1024x1024 .bf16 := Memref.whole cc0_scratch1
abbrev woB : Memref sig .tc .vmem S1024x1024 .bf16 := Memref.whole cc0_scratch2
abbrev cdB : Memref sig .tc .vmem S3x8x1024 .f32 := Memref.whole cc0_scratch3
abbrev ceB : Memref sig .tc .vmem S16x8x1024 .f32 := Memref.whole cc0_scratch4
abbrev aoB : Memref sig .tc .vmem S1024x1024 .f32 := Memref.whole cc0_scratch5
abbrev abB : Memref sig .tc .vmem S1024x1024 .f32 := Memref.whole cc0_scratch6
abbrev apB : Memref sig .tc .vmem S4x256x256 .f32 := Memref.whole cc0_scratch7

/-- The blocks the pipeline hands the body at a point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- The first point's room, block and cell are the ring's first. -/
theorem slot_congr {o o' : Fin 3 → ℕ} (e : o = o') (h) (h') : slotOf o h = slotOf o' h' := by subst e; rfl
theorem src_congr {o o' : Fin 2 → ℕ} (e : o = o') (h) (h') : srcOf o h = srcOf o' h' := by subst e; rfl
theorem sem_congr {o o' : Fin 1 → ℕ} (e : o = o') (h : ∀ a, o a + S1.size a ≤ S3.size a) (h' : ∀ a, o' a + S1.size a ≤ S3.size a) :
    ((cc0_scratch10.slice (Rect.unit (s := S3) o S1.size h)).squeeze S_ squeezes_S1_S_).sem
      = ((cc0_scratch10.slice (Rect.unit (s := S3) o' S1.size h')).squeeze S_ squeezes_S1_S_).sem := by subst e; rfl

section
variable {t : Fin cfg0.N}
theorem cond1_of (h : First (grid0.coords t)) : k0_cond1 (grid0.coords t) = 1#1 := (cond1_iff t).mpr ((first_iff t).mp h)
theorem cond2_of (h : First (grid0.coords t)) : k0_cond2 (grid0.coords t) = 1#1 := (cond2_iff t).mpr (by have := (first_iff t).mp h; omega)
theorem not5_of_2 (h : k0_cond2 (grid0.coords t) = 1#1) : ¬k0_cond5 (grid0.coords t) = 1#1 :=
  fun h' => by have := (cond5_iff t).mp h'; have := (cond2_iff t).mp h; omega
theorem not1_of (h : ¬First (grid0.coords t)) : ¬k0_cond1 (grid0.coords t) = 1#1 := fun h' => h ((first_iff t).mpr ((cond1_iff t).mp h'))
theorem not2_of_5 (h : k0_cond5 (grid0.coords t) = 1#1) : ¬k0_cond2 (grid0.coords t) = 1#1 := fun h' => not5_of_2 h' h
theorem notFirst_of_5 (h : k0_cond5 (grid0.coords t) = 1#1) : ¬First (grid0.coords t) :=
  fun h' => by have := (cond5_iff t).mp h; have := (first_iff t).mp h'; omega
theorem startA (h : First (grid0.coords t)) : slotW (grid0.coords t) = slotOf ![0, 0, 0] inb_S3x256x6144_S1x256x6144_0_0_0 :=
  slot_congr ((off5_eq t).trans (by rw [(first_iff t).mp h]; decide)) _ _
theorem startB (h : First (grid0.coords t)) : srcW (grid0.coords t) = srcOf ![7936, 0] inb_S8192x6144_S256x6144_7936_0 :=
  src_congr ((off6_eq t).trans (by rw [(first_iff t).mp h]; decide)) _ _
theorem startC (h : First (grid0.coords t)) :
    ((cc0_scratch10.slice (Rect.unit (s := S3) (k0_off4 (grid0.coords t)) S1.size (k0_off4_inb (grid0.coords t)))).squeeze S_ squeezes_S1_S_).sem
      = ((cc0_scratch10.slice (Rect.unit (s := S3) ![0] S1.size inb_S3_S1_0)).squeeze S_ squeezes_S1_S_).sem :=
  sem_congr ((off4_eq t).trans (by rw [(first_iff t).mp h]; decide)) _ _
end

/-- The body's run at the first point, at one that sends for a block, at one that sends for none, and at the last, on the
    buffers the pipeline calls it with. -/
abbrev first (c : Dev nD) (t : Fin cfg0.N) (h : First (grid0.coords t)) :=
  runFirst (F := F) c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) (b11 t) (w11 t) (b12 t) (w12 t) (b13 t) (w13 t)
    wpB (Memref.isWhole_whole _) wbB (Memref.isWhole_whole _) woB (Memref.isWhole_whole _) cdB (Memref.isWhole_whole _) ceB (Memref.isWhole_whole _) aoB (Memref.isWhole_whole _) abB (Memref.isWhole_whole _) apB (Memref.isWhole_whole _)
    h (cond1_of h) (cond2_of h) (not5_of_2 (cond2_of h)) (startA h) (startB h) (startC h) (insAt m c t) (V m c main_v130) (V m c main_v156) (V m c main_v157) (V m c main_v158)
abbrev mid (c : Dev nD) (t : Fin cfg0.N) (h : ¬First (grid0.coords t)) (h2 : k0_cond2 (grid0.coords t) = 1#1) (k : Kept F) :=
  runMid (F := F) c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) (b11 t) (w11 t) (b12 t) (w12 t) (b13 t) (w13 t)
    wpB (Memref.isWhole_whole _) wbB (Memref.isWhole_whole _) woB (Memref.isWhole_whole _) cdB (Memref.isWhole_whole _) ceB (Memref.isWhole_whole _) aoB (Memref.isWhole_whole _) abB (Memref.isWhole_whole _) apB (Memref.isWhole_whole _)
    h (not1_of h) h2 (not5_of_2 h2) (insAt m c t) k (V m c main_v130) (V m c main_v156) (V m c main_v157) (V m c main_v158)
abbrev late (c : Dev nD) (t : Fin cfg0.N) (h : ¬First (grid0.coords t)) (h2 : ¬k0_cond2 (grid0.coords t) = 1#1) (h5 : ¬k0_cond5 (grid0.coords t) = 1#1) (k : Kept F) :=
  runTail (F := F) c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) (b11 t) (w11 t) (b12 t) (w12 t) (b13 t) (w13 t)
    wpB (Memref.isWhole_whole _) wbB (Memref.isWhole_whole _) woB (Memref.isWhole_whole _) cdB (Memref.isWhole_whole _) ceB (Memref.isWhole_whole _) aoB (Memref.isWhole_whole _) abB (Memref.isWhole_whole _) apB (Memref.isWhole_whole _)
    h (not1_of h) h2 h5 (insAt m c t) k (V m c main_v130) (V m c main_v156) (V m c main_v157) (V m c main_v158)
abbrev last (c : Dev nD) (t : Fin cfg0.N) (h5 : k0_cond5 (grid0.coords t) = 1#1) (k : Kept F) :=
  runLast (F := F) c (grid0.coords t) (b0 t) (w0 t) (b1 t) (w1 t) (b2 t) (w2 t) (b3 t) (w3 t) (b4 t) (w4 t) (b5 t) (w5 t) (b6 t) (w6 t) (b7 t) (w7 t) (b8 t) (w8 t) (b9 t) (w9 t) (b10 t) (w10 t) (b11 t) (w11 t) (b12 t) (w12 t) (b13 t) (w13 t)
    wpB (Memref.isWhole_whole _) wbB (Memref.isWhole_whole _) woB (Memref.isWhole_whole _) cdB (Memref.isWhole_whole _) ceB (Memref.isWhole_whole _) aoB (Memref.isWhole_whole _) abB (Memref.isWhole_whole _) apB (Memref.isWhole_whole _)
    (notFirst_of_5 h5) (not1_of (notFirst_of_5 h5)) (not2_of_5 h5) h5 (insAt m c t) k (V m c main_v130) (V m c main_v156) (V m c main_v157) (V m c main_v158)

/-- What a point leaves: the block it writes whole, the three results the last point writes, and what it keeps for the next
    point. -/
structure Left (F : FTy → Type) where
  dp : Vec F S256x6144 .bf16
  go : Vec F S1024x1024 .bf16
  gb : Vec F S1024x1024 .bf16
  gp : Vec F S4x256x256 .bf16
  kept : Kept F

/-- What the first point's stores leave, and a later point's on what was kept: a buffer stored in every place holds the newest
    store at each; the blocks added to hold the stores over what they held. -/
def leftNew (L : Stores F) : Left F :=
  ⟨View.canon L.dp, View.canon L.go, View.canon L.gb, View.canon L.gp,
    ⟨View.canon L.vo, View.canon L.wp, View.canon L.wb, View.canon L.wo, View.canon L.cd, View.canon L.ce, View.canon L.ao, View.canon L.ab,
      View.canon L.ap⟩⟩
def leftOn (t : Fin cfg0.N) (L : Stores F) (k : Kept F) : Left F :=
  ⟨View.canon L.dp, View.canon L.go, View.canon L.gb, View.canon L.gp,
    ⟨(b10 t).view.read (Elt F) ((b10 t).view.writes (Elt F) ((w10 t).unread k.vo) L.vo), k.wp, k.wb, k.wo, View.canon L.cd,
      ceB.view.read (Elt F) (ceB.view.writes (Elt F) ((Memref.isWhole_whole cc0_scratch4).unread k.ce) L.ce), View.canon L.ao, View.canon L.ab,
      View.canon L.ap⟩⟩

/-- What the point `t` leaves, on what the point before kept. -/
def point (c : Dev nD) (t : Fin cfg0.N) (k : Kept F) : Left F :=
  if h5 : k0_cond5 (grid0.coords t) = 1#1 then leftOn t (last m c t h5 k).1 k
  else if h : First (grid0.coords t) then leftNew (first m c t h).1
  else if h2 : k0_cond2 (grid0.coords t) = 1#1 then leftOn t (mid m c t h h2 k).1 k
  else leftOn t (late m c t h h2 h5 k).1 k

/-- What is kept before the `n`-th point: nothing known before the first. -/
def keptAt (c : Dev nD) : ℕ → Kept F
  | 0 => ⟨View.canon [], View.canon [], View.canon [], View.canon [], View.canon [], View.canon [], View.canon [], View.canon [], View.canon []⟩
  | n + 1 => if h : n < cfg0.N then (point m c ⟨n, h⟩ (keptAt c n)).kept else keptAt c n

/-- What the point `t` of the run leaves. -/
def left (c : Dev nD) (t : Fin cfg0.N) : Left F := point m c t (keptAt m c t.val)

theorem keptAt_succ (c : Dev nD) (t : Fin cfg0.N) : keptAt m c (t.val + 1) = (left m c t).kept := by
  rw [keptAt, dif_pos t.isLt]; rfl

theorem left_first (c : Dev nD) (t : Fin cfg0.N) (h : First (grid0.coords t)) : left m c t = leftNew (first m c t h).1 :=
  (dif_neg (not5_of_2 (cond2_of h))).trans (dif_pos h)
theorem left_mid (c : Dev nD) (t : Fin cfg0.N) (h : ¬First (grid0.coords t)) (h2 : k0_cond2 (grid0.coords t) = 1#1) :
    left m c t = leftOn t (mid m c t h h2 (keptAt m c t.val)).1 (keptAt m c t.val) :=
  (dif_neg (not5_of_2 h2)).trans ((dif_neg h).trans (dif_pos h2))
theorem left_late (c : Dev nD) (t : Fin cfg0.N) (h : ¬First (grid0.coords t)) (h2 : ¬k0_cond2 (grid0.coords t) = 1#1)
    (h5 : ¬k0_cond5 (grid0.coords t) = 1#1) : left m c t = leftOn t (late m c t h h2 h5 (keptAt m c t.val)).1 (keptAt m c t.val) :=
  (dif_neg h5).trans ((dif_neg h).trans (dif_neg h2))
theorem left_last (c : Dev nD) (t : Fin cfg0.N) (h5 : k0_cond5 (grid0.coords t) = 1#1) :
    left m c t = leftOn t (last m c t h5 (keptAt m c t.val)).1 (keptAt m c t.val) :=
  dif_pos h5

/-! The stores reach every place of the buffers they are to fill. -/

/-- A list of stores reaching every place. -/
abbrev Full {S : Shape} {e : EltTy} (L : List (View.Piece (Elt F) S e)) : Prop := ∀ y, ∃ p ∈ L, y ∈ p.1.set

theorem full_first (c : Dev nD) (t : Fin cfg0.N) (h : First (grid0.coords t)) :
    Full (first m c t h).1.dp ∧ Full (first m c t h).1.vo ∧ Full (first m c t h).1.wp ∧ Full (first m c t h).1.wb ∧ Full (first m c t h).1.wo ∧ Full (first m c t h).1.cd ∧ Full (first m c t h).1.ce ∧ Full (first m c t h).1.ao ∧ Full (first m c t h).1.ab ∧ Full (first m c t h).1.ap :=
  ⟨View.cover_of_tiledBy _ ![256, 256] (by sl_kernel_rfl), View.cover_of_tiledBy _ ![1, 1024] (by sl_kernel_rfl), View.cover_of_tiledBy _ ![4, 256, 256] (by sl_kernel_rfl), View.cover_of_tiledBy _ ![1024, 1024] (by sl_kernel_rfl), View.cover_of_tiledBy _ ![1024, 1024] (by sl_kernel_rfl), View.cover_of_tiledBy _ ![1, 8, 1024] (by sl_kernel_rfl), View.cover_of_tiledBy _ ![1, 8, 256] (by sl_kernel_rfl), View.cover_of_tiledBy _ ![1024, 1024] (by sl_kernel_rfl), View.cover_of_tiledBy _ ![1024, 1024] (by sl_kernel_rfl), View.cover_of_tiledBy _ ![1, 256, 256] (by sl_kernel_rfl)⟩
theorem full_mid (c : Dev nD) (t : Fin cfg0.N) (h : ¬First (grid0.coords t)) (h2 : k0_cond2 (grid0.coords t) = 1#1) (k : Kept F) :
    Full (mid m c t h h2 k).1.dp ∧ Full (mid m c t h h2 k).1.cd ∧ Full (mid m c t h h2 k).1.ao ∧ Full (mid m c t h h2 k).1.ab ∧ Full (mid m c t h h2 k).1.ap :=
  ⟨View.cover_of_tiledBy _ ![256, 256] (by sl_kernel_rfl), View.cover_of_tiledBy _ ![1, 8, 1024] (by sl_kernel_rfl), View.cover_of_tiledBy _ ![1024, 1024] (by sl_kernel_rfl), View.cover_of_tiledBy _ ![1024, 1024] (by sl_kernel_rfl), View.cover_of_tiledBy _ ![1, 256, 256] (by sl_kernel_rfl)⟩
theorem full_late (c : Dev nD) (t : Fin cfg0.N) (h : ¬First (grid0.coords t)) (h2 : ¬k0_cond2 (grid0.coords t) = 1#1) (h5 : ¬k0_cond5 (grid0.coords t) = 1#1) (k : Kept F) :
    Full (late m c t h h2 h5 k).1.dp ∧ Full (late m c t h h2 h5 k).1.cd ∧ Full (late m c t h h2 h5 k).1.ao ∧ Full (late m c t h h2 h5 k).1.ab ∧ Full (late m c t h h2 h5 k).1.ap :=
  ⟨View.cover_of_tiledBy _ ![256, 256] (by sl_kernel_rfl), View.cover_of_tiledBy _ ![1, 8, 1024] (by sl_kernel_rfl), View.cover_of_tiledBy _ ![1024, 1024] (by sl_kernel_rfl), View.cover_of_tiledBy _ ![1024, 1024] (by sl_kernel_rfl), View.cover_of_tiledBy _ ![1, 256, 256] (by sl_kernel_rfl)⟩
theorem full_last (c : Dev nD) (t : Fin cfg0.N) (h5 : k0_cond5 (grid0.coords t) = 1#1) (k : Kept F) :
    Full (last m c t h5 k).1.dp ∧ Full (last m c t h5 k).1.cd ∧ Full (last m c t h5 k).1.ao ∧ Full (last m c t h5 k).1.ab ∧ Full (last m c t h5 k).1.ap ∧ Full (last m c t h5 k).1.go ∧ Full (last m c t h5 k).1.gb ∧ Full (last m c t h5 k).1.gp :=
  ⟨View.cover_of_tiledBy _ ![256, 256] (by sl_kernel_rfl), View.cover_of_tiledBy _ ![1, 8, 1024] (by sl_kernel_rfl), View.cover_of_tiledBy _ ![1024, 1024] (by sl_kernel_rfl), View.cover_of_tiledBy _ ![1024, 1024] (by sl_kernel_rfl), View.cover_of_tiledBy _ ![1, 256, 256] (by sl_kernel_rfl), View.cover_of_tiledBy _ ![1024, 1024] (by sl_kernel_rfl), View.cover_of_tiledBy _ ![1024, 1024] (by sl_kernel_rfl), View.cover_of_tiledBy _ ![4, 256, 256] (by sl_kernel_rfl)⟩

/-! The launch's other resources: the copy semaphores, and the projections and the weights where they lie. -/

abbrev osem : Fin 6 → SemLoc sig := fun j => (![SemLoc.dma 23, SemLoc.dma 24, SemLoc.dma 25, SemLoc.dma 26, SemLoc.dma 27, SemLoc.dma 28] : Fin 6 → SemLoc sig) j
theorem osem_facts : Pipeline.OwnSemFacts spec0 osem := by decide
def Hb : Finset (Ref sig .tc) := {main_v130, main_v156, main_v157, main_v158}
theorem Hb_sub : Hb ⊆ Pipeline.restRefs sig spec0 := by decide

theorem PhiD_eq (c : Dev nD) :
    (Pipeline.ΦD osem spec0 Hb (V m) c : sProp 𝕄)
      = iprop(((∃ d, owns (c : Thread nD τ) wpB fullShare d) ∗ (∃ d, owns (c : Thread nD τ) wbB fullShare d) ∗ (∃ d, owns (c : Thread nD τ) woB fullShare d) ∗ (∃ d, owns (c : Thread nD τ) cdB fullShare d) ∗ (∃ d, owns (c : Thread nD τ) ceB fullShare d) ∗ (∃ d, owns (c : Thread nD τ) aoB fullShare d) ∗ (∃ d, owns (c : Thread nD τ) abB fullShare d) ∗ (∃ d, owns (c : Thread nD τ) apB fullShare d) ∗ ∃ f, ringM.view.loc (c : Thread nD τ) ↦{fullShare} f)
        ∗ (∃ r, prngReg c r)
        ∗ (semVal ((c : Thread nD τ), SemLoc.dma 23) 0 ∗ semVal ((c : Thread nD τ), SemLoc.dma 24) 0 ∗ semVal ((c : Thread nD τ), SemLoc.dma 25) 0
          ∗ semVal ((c : Thread nD τ), SemLoc.dma 26) 0 ∗ semVal ((c : Thread nD τ), SemLoc.dma 27) 0 ∗ semVal ((c : Thread nD τ), SemLoc.dma 28) 0)
        ∗ held c projM (V m c main_v130) ∗ held c wpM (V m c main_v156) ∗ held c wbM (V m c main_v157) ∗ held c woM (V m c main_v158)) := by
  rw [Pipeline.ΦD_eq, scopedRest0_eq, Pipeline.ownSems0_eq_of_list c osem [0, 1, 2, 3, 4, 5] (by decide) (by decide),
    BI.bigSep_eq_bigSepL_of_eq (S := Hb) [main_v130, main_v156, main_v157, main_v158] (by decide) (by decide)]
  simp only [wpB, wbB, woB, cdB, ceB, aoB, abB, apB, owns_whole]
  rfl

/-- The same, the ring put together. -/
theorem PhiD_open (c : Dev nD) : (Pipeline.ΦD osem spec0 Hb (V m) c : sProp 𝕄)
    ⊢ iprop(((∃ d, owns (c : Thread nD τ) wpB fullShare d) ∗ (∃ d, owns (c : Thread nD τ) wbB fullShare d) ∗ (∃ d, owns (c : Thread nD τ) woB fullShare d) ∗ (∃ d, owns (c : Thread nD τ) cdB fullShare d) ∗ (∃ d, owns (c : Thread nD τ) ceB fullShare d) ∗ (∃ d, owns (c : Thread nD τ) aoB fullShare d) ∗ (∃ d, owns (c : Thread nD τ) abB fullShare d) ∗ (∃ d, owns (c : Thread nD τ) apB fullShare d)) ∗ (∃ r, prngReg c r) ∗ still c (V m c main_v156) (V m c main_v157) (V m c main_v158) ∗ ring₀ c (V m c main_v130)) := by
  rw [PhiD_eq]
  iintro ⟨⟨X0, X1, X2, X3, X4, X5, X6, X7, XR⟩, Hg, ⟨C0, C1, C2, C3, C4, C5⟩, HP, HA, HB, HC⟩
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [Hg]; · iexact Hg
  isplitl [C0 C1 C2 HA HB HC]
  · isplitl [C0]; · iexact C0
    isplitl [C1]; · iexact C1
    isplitl [C2]; · iexact C2
    isplitl [HA]; · iexact HA
    isplitl [HB]; · iexact HB
    iexact HC
  iapply (ring_begin c (V m c main_v130))
  isplitl [HP]; · iexact HP
  isplitl [XR]; · iexact XR
  isplitl [C3]; · iexact C3
  isplitl [C4]; · iexact C4
  iexact C5

/-- And taken apart after the last point. -/
theorem PhiD_close (c : Dev nD) (k : Kept F) : iprop((owns (c : Thread nD τ) wpB fullShare k.wp ∗ owns (c : Thread nD τ) wbB fullShare k.wb ∗ owns (c : Thread nD τ) woB fullShare k.wo ∗ owns (c : Thread nD τ) cdB fullShare k.cd ∗ owns (c : Thread nD τ) ceB fullShare k.ce ∗ owns (c : Thread nD τ) aoB fullShare k.ao ∗ owns (c : Thread nD τ) abB fullShare k.ab ∗ owns (c : Thread nD τ) apB fullShare k.ap) ∗ (∃ r, prngReg c r) ∗ still c (V m c main_v156) (V m c main_v157) (V m c main_v158) ∗ ring c (V m c main_v130) 32)
    ⊢ (Pipeline.ΦD osem spec0 Hb (V m) c : sProp 𝕄) := by
  rw [PhiD_eq]
  iintro ⟨⟨X0, X1, X2, X3, X4, X5, X6, X7⟩, Hg, ⟨C0, C1, C2, HA, HB, HC⟩, HR⟩
  ihave HR := (ring_end c (V m c main_v130)) $$ HR
  icases HR with ⟨HP, XR, C3, C4, C5⟩
  isplitl [X0 X1 X2 X3 X4 X5 X6 X7 XR]
  · isplitl [X0]; · iexists _; iexact X0
    isplitl [X1]; · iexists _; iexact X1
    isplitl [X2]; · iexists _; iexact X2
    isplitl [X3]; · iexists _; iexact X3
    isplitl [X4]; · iexists _; iexact X4
    isplitl [X5]; · iexists _; iexact X5
    isplitl [X6]; · iexists _; iexact X6
    isplitl [X7]; · iexists _; iexact X7
    iexact XR
  isplitl [Hg]; · iexact Hg
  isplitl [C0 C1 C2 C3 C4 C5]
  · isplitl [C0]; · iexact C0
    isplitl [C1]; · iexact C1
    isplitl [C2]; · iexact C2
    isplitl [C3]; · iexact C3
    isplitl [C4]; · iexact C4
    iexact C5
  isplitl [HP]; · iexact HP
  isplitl [HA]; · iexact HA
  isplitl [HB]; · iexact HB
  iexact HC

/-- The lines after the kernel touch none of these. -/
theorem tail_but : ∀ ops ∈ ([hostOps1] : List (List (HloOp τ sig (Elt F)))), ∀ op ∈ ops,
    op.bufs ⊆ Pipeline.tailRefsBut sig Pipeline.Prefetch.none spec0 Hb := by
  intro ops hops op hop
  simp only [List.mem_cons, List.mem_nil_iff, or_false] at hops
  rcases hops with rfl
  refine Pipeline.sub_tailRefsBut Pipeline.Prefetch.none spec0 Hb op ((List.forall_iff_forall_mem.mp hostOps1_sub) op hop)
    (fun j => j.elim0) ?_
  simp only [hostOps1, List.mem_cons, List.mem_nil_iff, or_false] at hop
  intro b hb
  simp only [Hb, Finset.mem_insert, Finset.mem_singleton] at hb
  rcases hop with rfl | rfl | rfl | rfl | rfl | rfl | rfl <;> rcases hb with rfl | rfl | rfl | rfl <;>
    simp only [StableHlo.nullary_bufs, StableHlo.unary_bufs, StableHlo.binary_bufs, StableHlo.ternary_bufs,
      StableHlo.quaternary_bufs, StableHlo.reshape_bufs, Finset.mem_insert, Finset.mem_singleton, not_or] <;>
    and_intros <;> exact StableHlo.devRef_ne_of_ne (by decide)

/-! The pipeline's data: every buffer after every point. -/

/-- What holds between points: before the first what the launch gives; later the kernel's own buffers at what is kept. -/
def between (c : Dev nD) : ℕ → sProp 𝕄
  | 0 => Pipeline.ΦD osem spec0 Hb (V m) c
  | n + 1 => iprop((owns (c : Thread nD τ) wpB fullShare (keptAt m c (n + 1)).wp ∗ owns (c : Thread nD τ) wbB fullShare (keptAt m c (n + 1)).wb ∗ owns (c : Thread nD τ) woB fullShare (keptAt m c (n + 1)).wo ∗ owns (c : Thread nD τ) cdB fullShare (keptAt m c (n + 1)).cd ∗ owns (c : Thread nD τ) ceB fullShare (keptAt m c (n + 1)).ce ∗ owns (c : Thread nD τ) aoB fullShare (keptAt m c (n + 1)).ao ∗ owns (c : Thread nD τ) abB fullShare (keptAt m c (n + 1)).ab ∗ owns (c : Thread nD τ) apB fullShare (keptAt m c (n + 1)).ap) ∗ (∃ r, prngReg c r) ∗ still c (V m c main_v156) (V m c main_v157) (V m c main_v158) ∗ ring c (V m c main_v130) (n + 1))

theorem between_pos (c : Dev nD) (n : ℕ) (h : n ≠ 0) :
    between m c n = iprop((owns (c : Thread nD τ) wpB fullShare (keptAt m c n).wp ∗ owns (c : Thread nD τ) wbB fullShare (keptAt m c n).wb ∗ owns (c : Thread nD τ) woB fullShare (keptAt m c n).wo ∗ owns (c : Thread nD τ) cdB fullShare (keptAt m c n).cd ∗ owns (c : Thread nD τ) ceB fullShare (keptAt m c n).ce ∗ owns (c : Thread nD τ) aoB fullShare (keptAt m c n).ao ∗ owns (c : Thread nD τ) abB fullShare (keptAt m c n).ab ∗ owns (c : Thread nD τ) apB fullShare (keptAt m c n).ap) ∗ (∃ r, prngReg c r) ∗ still c (V m c main_v156) (V m c main_v157) (V m c main_v158) ∗ ring c (V m c main_v130) n) := by
  cases n with
  | zero => exact absurd rfl h
  | succ n => rfl

/-- The blocks after the point `t`. -/
def afterAt (c : Dev nD) : (w : Fin cfg0.W) → (t : Fin cfg0.N) → (cfg0.win w).block.Idx → Elt F (cfg0.win w).elt
  | ⟨0, _⟩, t => (insAt m c t).dx
  | ⟨1, _⟩, t => (insAt m c t).o
  | ⟨2, _⟩, t => (insAt m c t).cv
  | ⟨3, _⟩, t => (insAt m c t).ya
  | ⟨4, _⟩, t => (insAt m c t).yb
  | ⟨5, _⟩, t => (insAt m c t).mg
  | ⟨6, _⟩, t => (insAt m c t).q
  | ⟨7, _⟩, t => (insAt m c t).pg
  | ⟨8, _⟩, t => (insAt m c t).vd
  | ⟨9, _⟩, t => (left m c t).dp
  | ⟨10, _⟩, t => (left m c t).kept.vo
  | ⟨11, _⟩, t => (left m c t).go
  | ⟨12, _⟩, t => (left m c t).gb
  | ⟨13, _⟩, t => (left m c t).gp

def dats (_ : Fin 1) (c : Dev nD) : Dat τ (Elt F) Unit ℕ (Pipeline.UD sig nD τ) ℕ cfg0 c where
  A w := V m c (Pipeline.arrRef spec0 w)
  after w t := afterAt m c w t
  Φ t := between m c t.val
  q _ := fullShare
  owed _ := 0

theorem A_eq (c : Dev nD) (w : Fin cfg0.W) : (dats m 0 c).A w = V m c (Pipeline.arrRef spec0 w) := by
  dsimp only [dats]
/-- The same arrays point after point, for readers of the final memory that speak of no resource. -/
def plain (_ : Fin 1) (c : Dev nD) : Dat τ (Elt F) Unit ℕ (UR sig nD τ) ℕ cfg0 c where
  A w := V m c (Pipeline.arrRef spec0 w)
  after w t := afterAt m c w t
  Φ _ := iprop(emp)
  q _ := fullShare
  owed _ := 0

theorem after_0 (c : Dev nD) (t : Fin cfg0.N) : (dats m 0 c).after 0 t = (insAt m c t).dx := by dsimp only [dats, afterAt]
theorem after_1 (c : Dev nD) (t : Fin cfg0.N) : (dats m 0 c).after 1 t = (insAt m c t).o := by dsimp only [dats, afterAt]
theorem after_2 (c : Dev nD) (t : Fin cfg0.N) : (dats m 0 c).after 2 t = (insAt m c t).cv := by dsimp only [dats, afterAt]
theorem after_3 (c : Dev nD) (t : Fin cfg0.N) : (dats m 0 c).after 3 t = (insAt m c t).ya := by dsimp only [dats, afterAt]
theorem after_4 (c : Dev nD) (t : Fin cfg0.N) : (dats m 0 c).after 4 t = (insAt m c t).yb := by dsimp only [dats, afterAt]
theorem after_5 (c : Dev nD) (t : Fin cfg0.N) : (dats m 0 c).after 5 t = (insAt m c t).mg := by dsimp only [dats, afterAt]
theorem after_6 (c : Dev nD) (t : Fin cfg0.N) : (dats m 0 c).after 6 t = (insAt m c t).q := by dsimp only [dats, afterAt]
theorem after_7 (c : Dev nD) (t : Fin cfg0.N) : (dats m 0 c).after 7 t = (insAt m c t).pg := by dsimp only [dats, afterAt]
theorem after_8 (c : Dev nD) (t : Fin cfg0.N) : (dats m 0 c).after 8 t = (insAt m c t).vd := by dsimp only [dats, afterAt]
theorem after_9 (c : Dev nD) (t : Fin cfg0.N) : (dats m 0 c).after 9 t = (left m c t).dp := by dsimp only [dats, afterAt]
theorem after_10 (c : Dev nD) (t : Fin cfg0.N) : (dats m 0 c).after 10 t = (left m c t).kept.vo := by dsimp only [dats, afterAt]
theorem after_11 (c : Dev nD) (t : Fin cfg0.N) : (dats m 0 c).after 11 t = (left m c t).go := by dsimp only [dats, afterAt]
theorem after_12 (c : Dev nD) (t : Fin cfg0.N) : (dats m 0 c).after 12 t = (left m c t).gb := by dsimp only [dats, afterAt]
theorem after_13 (c : Dev nD) (t : Fin cfg0.N) : (dats m 0 c).after 13 t = (left m c t).gp := by dsimp only [dats, afterAt]
theorem before_0 (c : Dev nD) (t : Fin cfg0.N) (d) : (dats m 0 c).before 0 t d = (insAt m c t).dx :=
  before0_0_of m (plain m 0 c) rfl (fun _ => rfl) t d
theorem before_1 (c : Dev nD) (t : Fin cfg0.N) (d) : (dats m 0 c).before 1 t d = (insAt m c t).o :=
  before0_1_of m (plain m 0 c) rfl (fun _ => rfl) t d
theorem before_2 (c : Dev nD) (t : Fin cfg0.N) (d) : (dats m 0 c).before 2 t d = (insAt m c t).cv :=
  before0_2_of m (plain m 0 c) rfl (fun _ => rfl) t d
theorem before_3 (c : Dev nD) (t : Fin cfg0.N) (d) : (dats m 0 c).before 3 t d = (insAt m c t).ya :=
  before0_3_of m (plain m 0 c) rfl (fun _ => rfl) t d
theorem before_4 (c : Dev nD) (t : Fin cfg0.N) (d) : (dats m 0 c).before 4 t d = (insAt m c t).yb :=
  before0_4_of m (plain m 0 c) rfl (fun _ => rfl) t d
theorem before_5 (c : Dev nD) (t : Fin cfg0.N) (d) : (dats m 0 c).before 5 t d = (insAt m c t).mg :=
  before0_5_of m (plain m 0 c) rfl (fun _ => rfl) t d
theorem before_6 (c : Dev nD) (t : Fin cfg0.N) (d) : (dats m 0 c).before 6 t d = (insAt m c t).q :=
  before0_6_of m (plain m 0 c) rfl (fun _ => rfl) t d
theorem before_7 (c : Dev nD) (t : Fin cfg0.N) (d) : (dats m 0 c).before 7 t d = (insAt m c t).pg :=
  before0_7_of m (plain m 0 c) rfl (fun _ => rfl) t d
theorem before_8 (c : Dev nD) (t : Fin cfg0.N) (d) : (dats m 0 c).before 8 t d = (insAt m c t).vd :=
  before0_8_of m (plain m 0 c) rfl (fun _ => rfl) t d
theorem before_10 (c : Dev nD) (t : Fin cfg0.N) (h : t.val ≠ 0) (d) : (dats m 0 c).before 10 t d = (keptAt m c t.val).vo := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl), after_10, ← keptAt_succ]
  exact congrArg (fun n => (keptAt m c n).vo) (by dsimp only; omega)

/-! The last three results are written at the last point only. -/

theorem leaves_11 (c : Dev nD) (t : Fin cfg0.N) (h5 : ¬k0_cond5 (grid0.coords t) = 1#1) :
    (dats m 0 c).leavesExact 11 t = iprop(∃ d, owns (c : Thread nD τ) (b11 t) fullShare ((dats m 0 c).before 11 t d)) :=
  Dat.leavesExact_idle _ 11 t (by show (!(k0_cond5 (grid0.coords t) == 1#1)) = true; simpa using h5)
    (Bool.eq_false_iff.mpr fun h => h5 ((cond5_iff t).mpr (by have := (flush0_11 t).mp h; have : t.val < 32 := lt_of_lt_of_eq t.isLt N_0; omega)))
theorem ends_11 (c : Dev nD) (t : Fin cfg0.N) (h5 : k0_cond5 (grid0.coords t) = 1#1) :
    (dats m 0 c).leavesExact 11 t = owns (c : Thread nD τ) (b11 t) fullShare ((dats m 0 c).after 11 t) := by
  have e : cfg0.idle 11 (cfg0.grid.coords t) = false := by show (!(k0_cond5 (grid0.coords t) == 1#1)) = false; simpa using h5
  unfold Dat.leavesExact; rw [e]
theorem leaves_12 (c : Dev nD) (t : Fin cfg0.N) (h5 : ¬k0_cond5 (grid0.coords t) = 1#1) :
    (dats m 0 c).leavesExact 12 t = iprop(∃ d, owns (c : Thread nD τ) (b12 t) fullShare ((dats m 0 c).before 12 t d)) :=
  Dat.leavesExact_idle _ 12 t (by show (!(k0_cond5 (grid0.coords t) == 1#1)) = true; simpa using h5)
    (Bool.eq_false_iff.mpr fun h => h5 ((cond5_iff t).mpr (by have := (flush0_12 t).mp h; have : t.val < 32 := lt_of_lt_of_eq t.isLt N_0; omega)))
theorem ends_12 (c : Dev nD) (t : Fin cfg0.N) (h5 : k0_cond5 (grid0.coords t) = 1#1) :
    (dats m 0 c).leavesExact 12 t = owns (c : Thread nD τ) (b12 t) fullShare ((dats m 0 c).after 12 t) := by
  have e : cfg0.idle 12 (cfg0.grid.coords t) = false := by show (!(k0_cond5 (grid0.coords t) == 1#1)) = false; simpa using h5
  unfold Dat.leavesExact; rw [e]
theorem leaves_13 (c : Dev nD) (t : Fin cfg0.N) (h5 : ¬k0_cond5 (grid0.coords t) = 1#1) :
    (dats m 0 c).leavesExact 13 t = iprop(∃ d, owns (c : Thread nD τ) (b13 t) fullShare ((dats m 0 c).before 13 t d)) :=
  Dat.leavesExact_idle _ 13 t (by show (!(k0_cond5 (grid0.coords t) == 1#1)) = true; simpa using h5)
    (Bool.eq_false_iff.mpr fun h => h5 ((cond5_iff t).mpr (by have := (flush0_13 t).mp h; have : t.val < 32 := lt_of_lt_of_eq t.isLt N_0; omega)))
theorem ends_13 (c : Dev nD) (t : Fin cfg0.N) (h5 : k0_cond5 (grid0.coords t) = 1#1) :
    (dats m 0 c).leavesExact 13 t = owns (c : Thread nD τ) (b13 t) fullShare ((dats m 0 c).after 13 t) := by
  have e : cfg0.idle 13 (cfg0.grid.coords t) = false := by show (!(k0_cond5 (grid0.coords t) == 1#1)) = false; simpa using h5
  unfold Dat.leavesExact; rw [e]

/-! The body at any point. -/

def pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d))
    ∗ (∃ d, owns (c : Thread nD τ) (b8 t) fullShare ((dats m 0 c).before 8 t d))
    ∗ (∃ d, owns (c : Thread nD τ) (b9 t) fullShare ((dats m 0 c).before 9 t d))
    ∗ (∃ d, owns (c : Thread nD τ) (b10 t) fullShare ((dats m 0 c).before 10 t d))
    ∗ (∃ d, owns (c : Thread nD τ) (b11 t) fullShare ((dats m 0 c).before 11 t d))
    ∗ (∃ d, owns (c : Thread nD τ) (b12 t) fullShare ((dats m 0 c).before 12 t d))
    ∗ (∃ d, owns (c : Thread nD τ) (b13 t) fullShare ((dats m 0 c).before 13 t d)))

def post (c : Dev nD) (t : Fin cfg0.N) : sProp 𝕄 :=
  iprop((dats m 0 c).Φ t.succ ∗ (dats m 0 c).owesAt () t.succ
    ∗ owns (c : Thread nD τ) (b0 t) fullShare ((dats m 0 c).after 0 t)
    ∗ owns (c : Thread nD τ) (b1 t) fullShare ((dats m 0 c).after 1 t)
    ∗ owns (c : Thread nD τ) (b2 t) fullShare ((dats m 0 c).after 2 t)
    ∗ owns (c : Thread nD τ) (b3 t) fullShare ((dats m 0 c).after 3 t)
    ∗ owns (c : Thread nD τ) (b4 t) fullShare ((dats m 0 c).after 4 t)
    ∗ owns (c : Thread nD τ) (b5 t) fullShare ((dats m 0 c).after 5 t)
    ∗ owns (c : Thread nD τ) (b6 t) fullShare ((dats m 0 c).after 6 t)
    ∗ owns (c : Thread nD τ) (b7 t) fullShare ((dats m 0 c).after 7 t)
    ∗ owns (c : Thread nD τ) (b8 t) fullShare ((dats m 0 c).after 8 t)
    ∗ owns (c : Thread nD τ) (b9 t) fullShare ((dats m 0 c).after 9 t)
    ∗ owns (c : Thread nD τ) (b10 t) fullShare ((dats m 0 c).after 10 t)
    ∗ (dats m 0 c).leavesExact 11 t ∗ (dats m 0 c).leavesExact 12 t ∗ (dats m 0 c).leavesExact 13 t)

set_option maxHeartbeats 8000000 in
theorem body_first (c : Dev nD) (t : Fin cfg0.N) (h : First (grid0.coords t)) :
    pre m c t ⊢ wp frame (wpE (defs₀ (F := F)) Variants.none c none) Set.univ (bodyAt0 t) (fun _ => post m c t) := by
  have h0 : t.val = 0 := (first_iff t).mp h
  have h2 := cond2_of h
  have h5 := not5_of_2 h2
  have C := full_first m c t h
  unfold pre post bodyAt0
  simp only [before_0, before_1, before_2, before_3, before_4, before_5, before_6, before_7, before_8]
  rw [show (dats m 0 c).Φ t.succ = between m c (t.val + 1) from rfl, between_pos m c _ (Nat.succ_ne_zero _), keptAt_succ,
    show (dats m 0 c).Φ t.castSucc = between m c t.val from rfl,
    after_0, after_1, after_2, after_3, after_4, after_5, after_6, after_7, after_8, after_9, after_10, leaves_11 m c t h5, leaves_12 m c t h5, leaves_13 m c t h5, left_first m c t h]
  unfold Dat.owesAt Pipeline.owesWithin
  rw [show (dats m 0 c).owed t.castSucc = 0 from rfl, show (dats m 0 c).owed t.succ = 0 from rfl]
  rw [show between m c t.val = Pipeline.ΦD osem spec0 Hb (V m) c from by rw [h0]; rfl]
  dsimp only [leftNew]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HΦ := (PhiD_open m c) $$ HΦ
  icases HΦ with ⟨⟨Xwp, Xwb, Xwo, Xcd, Xce, Xao, Xab, Xap⟩, Hg, Hq, HR⟩
  ihave HR := (ring_first c (V m c main_v130) t h2 h0) $$ HR
  icases HR with ⟨R0, R1, R2, S0, S1, S2, B0, B1, B2, Hback⟩
  iapply ((first m c t h).2 W _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10]; · iexists _; iexact H10
  isplitl [Xwp]; · iexact Xwp
  isplitl [Xwb]; · iexact Xwb
  isplitl [Xwo]; · iexact Xwo
  isplitl [Xcd]; · iexact Xcd
  isplitl [Xce]; · iexact Xce
  isplitl [Xao]; · iexact Xao
  isplitl [Xab]; · iexact Xab
  isplitl [Xap]; · iexact Xap
  isplitl [R0]; · iexact R0
  isplitl [R1]; · iexact R1
  isplitl [R2]; · iexact R2
  isplitl [S0]; · iexact S0
  isplitl [S1]; · iexact S1
  isplitl [S2]; · iexact S2
  isplitl [B0]; · iexact B0
  isplitl [B1]; · iexact B1
  isplitl [B2]; · iexact B2
  isplitl [Hq]; · iexact Hq
  isplitl [HW]; · iexact HW
  iintro ⟨⟨H0, H1, H2, H3, H4, H5, H6, H7, H8⟩, ⟨%e9, H9⟩, ⟨%e10, H10⟩, ⟨%ewp, Xwp⟩, ⟨%ewb, Xwb⟩, ⟨%ewo, Xwo⟩, ⟨%ecd, Xcd⟩, ⟨%ece, Xce⟩, ⟨%eao, Xao⟩, ⟨%eab, Xab⟩, ⟨%eap, Xap⟩, R0, S0, B0, F1, F2, Hq, ⟨%W', HW'⟩⟩
  isplitl [Xwp Xwb Xwo Xcd Xce Xao Xab Xap Hg Hq Hback R0 S0 B0 F1 F2]
  · isplitl [Xwp Xwb Xwo Xcd Xce Xao Xab Xap]
    · isplitl [Xwp]
      · unfold owns; iexists _; isplitr
        swap; · iexact Xwp
        ipureintro; exact View.read_writes_eq_canon _ _ _ C.2.2.1
      isplitl [Xwb]
      · unfold owns; iexists _; isplitr
        swap; · iexact Xwb
        ipureintro; exact View.read_writes_eq_canon _ _ _ C.2.2.2.1
      isplitl [Xwo]
      · unfold owns; iexists _; isplitr
        swap; · iexact Xwo
        ipureintro; exact View.read_writes_eq_canon _ _ _ C.2.2.2.2.1
      isplitl [Xcd]
      · unfold owns; iexists _; isplitr
        swap; · iexact Xcd
        ipureintro; exact View.read_writes_eq_canon _ _ _ C.2.2.2.2.2.1
      isplitl [Xce]
      · unfold owns; iexists _; isplitr
        swap; · iexact Xce
        ipureintro; exact View.read_writes_eq_canon _ _ _ C.2.2.2.2.2.2.1
      isplitl [Xao]
      · unfold owns; iexists _; isplitr
        swap; · iexact Xao
        ipureintro; exact View.read_writes_eq_canon _ _ _ C.2.2.2.2.2.2.2.1
      isplitl [Xab]
      · unfold owns; iexists _; isplitr
        swap; · iexact Xab
        ipureintro; exact View.read_writes_eq_canon _ _ _ C.2.2.2.2.2.2.2.2.1
      unfold owns; iexists _; isplitr
      swap; · iexact Xap
      ipureintro; exact View.read_writes_eq_canon _ _ _ C.2.2.2.2.2.2.2.2.2
    isplitl [Hg]; · iexact Hg
    isplitl [Hq]; · iexact Hq
    iapply Hback
    isplitl [R0]; · iexact R0
    isplitl [S0]; · iexact S0
    isplitl [B0]; · iexact B0
    isplitl [F1]; · iexact F1
    iexact F2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ C.1
  isplitl [H10]
  · unfold owns; iexists _; isplitr
    swap; · iexact H10
    ipureintro; exact View.read_writes_eq_canon _ _ _ C.2.1
  isplitl [H11]; · iexists _; iexact H11
  isplitl [H12]; · iexists _; iexact H12
  iexists _; iexact H13

set_option maxHeartbeats 8000000 in
theorem body_mid (c : Dev nD) (t : Fin cfg0.N) (h : ¬First (grid0.coords t)) (h2 : k0_cond2 (grid0.coords t) = 1#1) :
    pre m c t ⊢ wp frame (wpE (defs₀ (F := F)) Variants.none c none) Set.univ (bodyAt0 t) (fun _ => post m c t) := by
  have hF : ¬First (grid0.coords t) := h
  have h0 : t.val ≠ 0 := fun e => hF ((first_iff t).mpr e)
  have h5 := not5_of_2 h2
  have C := full_mid m c t h h2 (keptAt m c t.val)
  unfold pre post bodyAt0
  simp only [before_0, before_1, before_2, before_3, before_4, before_5, before_6, before_7, before_8, before_10 m c t h0]
  rw [show (dats m 0 c).Φ t.succ = between m c (t.val + 1) from rfl, between_pos m c _ (Nat.succ_ne_zero _), keptAt_succ,
    show (dats m 0 c).Φ t.castSucc = between m c t.val from rfl,
    after_0, after_1, after_2, after_3, after_4, after_5, after_6, after_7, after_8, after_9, after_10, leaves_11 m c t h5, leaves_12 m c t h5, leaves_13 m c t h5, left_mid m c t h h2]
  unfold Dat.owesAt Pipeline.owesWithin
  rw [show (dats m 0 c).owed t.castSucc = 0 from rfl, show (dats m 0 c).owed t.succ = 0 from rfl, between_pos m c _ h0]
  dsimp only [leftOn]
  iintro ⟨⟨⟨Xwp, Xwb, Xwo, Xcd, Xce, Xao, Xab, Xap⟩, Hg, Hq, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HR := (ring_mid c (V m c main_v130) t h2) $$ HR
  icases HR with ⟨FW, RN, SN, BN, Hback⟩
  iapply ((mid m c t h h2 (keptAt m c t.val)).2 W _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10]; · iexact H10
  isplitl [Xwp]; · iexact Xwp
  isplitl [Xwb]; · iexact Xwb
  isplitl [Xwo]; · iexact Xwo
  isplitl [Xcd]; · iexact Xcd
  isplitl [Xce]; · iexact Xce
  isplitl [Xao]; · iexact Xao
  isplitl [Xab]; · iexact Xab
  isplitl [Xap]; · iexact Xap
  isplitl [FW]; · iexact FW
  isplitl [RN]; · iexact RN
  isplitl [SN]; · iexact SN
  isplitl [BN]; · iexact BN
  isplitl [Hq]; · iexact Hq
  isplitl [HW]; · iexact HW
  iintro ⟨⟨H0, H1, H2, H3, H4, H5, H6, H7, H8⟩, ⟨%e9, H9⟩, H10, Xwp, Xwb, Xwo, ⟨%ecd, Xcd⟩, Xce, ⟨%eao, Xao⟩, ⟨%eab, Xab⟩, ⟨%eap, Xap⟩, RW, SW, BW, FN, Hq, ⟨%W', HW'⟩⟩
  isplitl [Xwp Xwb Xwo Xcd Xce Xao Xab Xap Hg Hq Hback RW SW BW FN]
  · isplitl [Xwp Xwb Xwo Xcd Xce Xao Xab Xap]
    · isplitl [Xwp]; · iexact Xwp
      isplitl [Xwb]; · iexact Xwb
      isplitl [Xwo]; · iexact Xwo
      isplitl [Xcd]
      · unfold owns; iexists _; isplitr
        swap; · iexact Xcd
        ipureintro; exact View.read_writes_eq_canon _ _ _ C.2.1
      isplitl [Xce]
      · unfold owns; iexists _; isplitr
        swap; · iexact Xce
        ipureintro; exact rfl
      isplitl [Xao]
      · unfold owns; iexists _; isplitr
        swap; · iexact Xao
        ipureintro; exact View.read_writes_eq_canon _ _ _ C.2.2.1
      isplitl [Xab]
      · unfold owns; iexists _; isplitr
        swap; · iexact Xab
        ipureintro; exact View.read_writes_eq_canon _ _ _ C.2.2.2.1
      unfold owns; iexists _; isplitr
      swap; · iexact Xap
      ipureintro; exact View.read_writes_eq_canon _ _ _ C.2.2.2.2
    isplitl [Hg]; · iexact Hg
    isplitl [Hq]; · iexact Hq
    iapply Hback
    isplitl [RW]; · iexact RW
    isplitl [SW]; · iexact SW
    isplitl [BW]; · iexact BW
    iexact FN
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ C.1
  isplitl [H10]
  · unfold owns; iexists _; isplitr
    swap; · iexact H10
    ipureintro; exact rfl
  isplitl [H11]; · iexists _; iexact H11
  isplitl [H12]; · iexists _; iexact H12
  iexists _; iexact H13

set_option maxHeartbeats 8000000 in
theorem body_late (c : Dev nD) (t : Fin cfg0.N) (h : ¬First (grid0.coords t)) (h2 : ¬k0_cond2 (grid0.coords t) = 1#1) (h5 : ¬k0_cond5 (grid0.coords t) = 1#1) :
    pre m c t ⊢ wp frame (wpE (defs₀ (F := F)) Variants.none c none) Set.univ (bodyAt0 t) (fun _ => post m c t) := by
  have hF : ¬First (grid0.coords t) := h
  have h0 : t.val ≠ 0 := fun e => hF ((first_iff t).mpr e)
  have C := full_late m c t h h2 h5 (keptAt m c t.val)
  unfold pre post bodyAt0
  simp only [before_0, before_1, before_2, before_3, before_4, before_5, before_6, before_7, before_8, before_10 m c t h0]
  rw [show (dats m 0 c).Φ t.succ = between m c (t.val + 1) from rfl, between_pos m c _ (Nat.succ_ne_zero _), keptAt_succ,
    show (dats m 0 c).Φ t.castSucc = between m c t.val from rfl,
    after_0, after_1, after_2, after_3, after_4, after_5, after_6, after_7, after_8, after_9, after_10, leaves_11 m c t h5, leaves_12 m c t h5, leaves_13 m c t h5, left_late m c t h h2 h5]
  unfold Dat.owesAt Pipeline.owesWithin
  rw [show (dats m 0 c).owed t.castSucc = 0 from rfl, show (dats m 0 c).owed t.succ = 0 from rfl, between_pos m c _ h0]
  dsimp only [leftOn]
  iintro ⟨⟨⟨Xwp, Xwb, Xwo, Xcd, Xce, Xao, Xab, Xap⟩, Hg, Hq, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HR := (ring_tail c (V m c main_v130) t h2) $$ HR
  icases HR with ⟨FW, Hback⟩
  iapply ((late m c t h h2 h5 (keptAt m c t.val)).2 W _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10]; · iexact H10
  isplitl [Xwp]; · iexact Xwp
  isplitl [Xwb]; · iexact Xwb
  isplitl [Xwo]; · iexact Xwo
  isplitl [Xcd]; · iexact Xcd
  isplitl [Xce]; · iexact Xce
  isplitl [Xao]; · iexact Xao
  isplitl [Xab]; · iexact Xab
  isplitl [Xap]; · iexact Xap
  isplitl [FW]; · iexact FW
  isplitl [Hq]; · iexact Hq
  isplitl [HW]; · iexact HW
  iintro ⟨⟨H0, H1, H2, H3, H4, H5, H6, H7, H8⟩, ⟨%e9, H9⟩, H10, Xwp, Xwb, Xwo, ⟨%ecd, Xcd⟩, Xce, ⟨%eao, Xao⟩, ⟨%eab, Xab⟩, ⟨%eap, Xap⟩, RW, SW, BW, Hq, ⟨%W', HW'⟩⟩
  isplitl [Xwp Xwb Xwo Xcd Xce Xao Xab Xap Hg Hq Hback RW SW BW]
  · isplitl [Xwp Xwb Xwo Xcd Xce Xao Xab Xap]
    · isplitl [Xwp]; · iexact Xwp
      isplitl [Xwb]; · iexact Xwb
      isplitl [Xwo]; · iexact Xwo
      isplitl [Xcd]
      · unfold owns; iexists _; isplitr
        swap; · iexact Xcd
        ipureintro; exact View.read_writes_eq_canon _ _ _ C.2.1
      isplitl [Xce]
      · unfold owns; iexists _; isplitr
        swap; · iexact Xce
        ipureintro; exact rfl
      isplitl [Xao]
      · unfold owns; iexists _; isplitr
        swap; · iexact Xao
        ipureintro; exact View.read_writes_eq_canon _ _ _ C.2.2.1
      isplitl [Xab]
      · unfold owns; iexists _; isplitr
        swap; · iexact Xab
        ipureintro; exact View.read_writes_eq_canon _ _ _ C.2.2.2.1
      unfold owns; iexists _; isplitr
      swap; · iexact Xap
      ipureintro; exact View.read_writes_eq_canon _ _ _ C.2.2.2.2
    isplitl [Hg]; · iexact Hg
    isplitl [Hq]; · iexact Hq
    iapply Hback
    isplitl [RW]; · iexact RW
    isplitl [SW]; · iexact SW
    iexact BW
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ C.1
  isplitl [H10]
  · unfold owns; iexists _; isplitr
    swap; · iexact H10
    ipureintro; exact rfl
  isplitl [H11]; · iexists _; iexact H11
  isplitl [H12]; · iexists _; iexact H12
  iexists _; iexact H13

set_option maxHeartbeats 8000000 in
theorem body_last (c : Dev nD) (t : Fin cfg0.N) (h5 : k0_cond5 (grid0.coords t) = 1#1) :
    pre m c t ⊢ wp frame (wpE (defs₀ (F := F)) Variants.none c none) Set.univ (bodyAt0 t) (fun _ => post m c t) := by
  have hF : ¬First (grid0.coords t) := notFirst_of_5 h5
  have h0 : t.val ≠ 0 := fun e => hF ((first_iff t).mpr e)
  have h2 := not2_of_5 h5
  have C := full_last m c t h5 (keptAt m c t.val)
  unfold pre post bodyAt0
  simp only [before_0, before_1, before_2, before_3, before_4, before_5, before_6, before_7, before_8, before_10 m c t h0]
  rw [show (dats m 0 c).Φ t.succ = between m c (t.val + 1) from rfl, between_pos m c _ (Nat.succ_ne_zero _), keptAt_succ,
    show (dats m 0 c).Φ t.castSucc = between m c t.val from rfl,
    after_0, after_1, after_2, after_3, after_4, after_5, after_6, after_7, after_8, after_9, after_10, ends_11 m c t h5, ends_12 m c t h5, ends_13 m c t h5, after_11, after_12, after_13, left_last m c t h5]
  unfold Dat.owesAt Pipeline.owesWithin
  rw [show (dats m 0 c).owed t.castSucc = 0 from rfl, show (dats m 0 c).owed t.succ = 0 from rfl, between_pos m c _ h0]
  dsimp only [leftOn]
  iintro ⟨⟨⟨Xwp, Xwb, Xwo, Xcd, Xce, Xao, Xab, Xap⟩, Hg, Hq, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HR := (ring_tail c (V m c main_v130) t h2) $$ HR
  icases HR with ⟨FW, Hback⟩
  iapply ((last m c t h5 (keptAt m c t.val)).2 W _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10]; · iexact H10
  isplitl [Xwp]; · iexact Xwp
  isplitl [Xwb]; · iexact Xwb
  isplitl [Xwo]; · iexact Xwo
  isplitl [Xcd]; · iexact Xcd
  isplitl [Xce]; · iexact Xce
  isplitl [Xao]; · iexact Xao
  isplitl [Xab]; · iexact Xab
  isplitl [Xap]; · iexact Xap
  isplitl [H11]; · iexists _; iexact H11
  isplitl [H12]; · iexists _; iexact H12
  isplitl [H13]; · iexists _; iexact H13
  isplitl [FW]; · iexact FW
  isplitl [Hq]; · iexact Hq
  isplitl [HW]; · iexact HW
  iintro ⟨⟨H0, H1, H2, H3, H4, H5, H6, H7, H8⟩, ⟨%e9, H9⟩, H10, Xwp, Xwb, Xwo, ⟨%ecd, Xcd⟩, Xce, ⟨%eao, Xao⟩, ⟨%eab, Xab⟩, ⟨%eap, Xap⟩, ⟨%e11, H11⟩, ⟨%e12, H12⟩, ⟨%e13, H13⟩, RW, SW, BW, Hq, ⟨%W', HW'⟩⟩
  isplitl [Xwp Xwb Xwo Xcd Xce Xao Xab Xap Hg Hq Hback RW SW BW]
  · isplitl [Xwp Xwb Xwo Xcd Xce Xao Xab Xap]
    · isplitl [Xwp]; · iexact Xwp
      isplitl [Xwb]; · iexact Xwb
      isplitl [Xwo]; · iexact Xwo
      isplitl [Xcd]
      · unfold owns; iexists _; isplitr
        swap; · iexact Xcd
        ipureintro; exact View.read_writes_eq_canon _ _ _ C.2.1
      isplitl [Xce]
      · unfold owns; iexists _; isplitr
        swap; · iexact Xce
        ipureintro; exact rfl
      isplitl [Xao]
      · unfold owns; iexists _; isplitr
        swap; · iexact Xao
        ipureintro; exact View.read_writes_eq_canon _ _ _ C.2.2.1
      isplitl [Xab]
      · unfold owns; iexists _; isplitr
        swap; · iexact Xab
        ipureintro; exact View.read_writes_eq_canon _ _ _ C.2.2.2.1
      unfold owns; iexists _; isplitr
      swap; · iexact Xap
      ipureintro; exact View.read_writes_eq_canon _ _ _ C.2.2.2.2.1
    isplitl [Hg]; · iexact Hg
    isplitl [Hq]; · iexact Hq
    iapply Hback
    isplitl [RW]; · iexact RW
    isplitl [SW]; · iexact SW
    iexact BW
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ C.1
  isplitl [H10]
  · unfold owns; iexists _; isplitr
    swap; · iexact H10
    ipureintro; exact rfl
  isplitl [H11]
  · unfold owns; iexists _; isplitr
    swap; · iexact H11
    ipureintro; exact View.read_writes_eq_canon _ _ _ C.2.2.2.2.2.1
  isplitl [H12]
  · unfold owns; iexists _; isplitr
    swap; · iexact H12
    ipureintro; exact View.read_writes_eq_canon _ _ _ C.2.2.2.2.2.2.1
  unfold owns; iexists _; isplitr
  swap; · iexact H13
  ipureintro; exact View.read_writes_eq_canon _ _ _ C.2.2.2.2.2.2.2

theorem sound_body (c : Dev nD) (t : Fin cfg0.N) :
    pre m c t ⊢ wp frame (wpE (defs₀ (F := F)) Variants.none c none) Set.univ (bodyAt0 t) (fun _ => post m c t) := by
  by_cases h5 : k0_cond5 (grid0.coords t) = 1#1
  · exact body_last m c t h5
  by_cases h : First (grid0.coords t)
  · exact body_first m c t h
  by_cases h2 : k0_cond2 (grid0.coords t) = 1#1
  · exact body_mid m c t h h2
  exact body_late m c t h h2 h5

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦD osem spec0 Hb (V m) c ⊢ (dats m 0 c).Φ 0 := Idealize.SL.BI.Entails.refl _

theorem leave (c : Dev nD) : (dats m 0 c).Φ (Fin.last cfg0.N) ⊢ Pipeline.ΦD osem spec0 Hb (V m) c := by
  rw [show (dats m 0 c).Φ (Fin.last cfg0.N) = between m c 32 from congrArg (between m c) N_0, between_pos m c _ (by omega)]
  exact PhiD_close m c _

/-! The run. -/

theorem main_runs : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- What the whole program ends with: the kernel's arrays as the points leave them, every other buffer as the host lines do,
    and all counters at zero. -/
abbrev Ends (r : PUnit × MemSt nD τ sig (Elt F)) : Prop :=
  Pipeline.FramePost cfgs (dats m) 0 (Pipeline.afterTail₀ cfgs (dats m) 0 (V0 m) [hostOps1]) r

set_option backward.isDefEq.respectTransparency.types false in
theorem run_quiet : θ_run defs (onTc (τ := τ) (main (F := F))) (s₀ m ρ) (fun r => Ends m r ∧ r.2.sem = fun _ => 0) :=
  Pipeline.θ_run_frame_dma_around (Q' := _) cfgs (dats m) (0 : Fin 1) launch0 osem defs₀ Variants.none osem_facts Hb Hb_sub m ρ main
    (hbody := fun c => (body_obligation m c).loose) (hshare := fun c => (dats m 0 c).share_full fun _ => rfl)
    (howed := fun _ _ => rfl) (V₀ := V0 m) (opss := [hostOps1]) (hsub := tail_but) (hfresh := sfx_fresh) (hkeep := sfx_keeps)
    (hmain := main_runs m) (hA := A_eq m) (hin := enter m) (hout := leave m)

theorem run_plain : θ_run defs (onTc (τ := τ) (main (F := F))) (s₀ m ρ)
    (Pipeline.FramePost cfgs (plain m) 0 (Pipeline.afterTail₀ cfgs (plain m) 0 (V0 m) [hostOps1])) :=
  (θ_run defs _ _).mono (fun _ h => h.1) (run_quiet m ρ)

theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) ∧ r.2.sem = fun _ => 0) :=
  θ_run_and (frame_of m ρ (plain m) (fun _ _ => rfl) (run_plain m ρ)) ((θ_run defs _ _).mono (fun _ h => h.2) (run_quiet m ρ))

end Cert.Kernel4Ideal.Bmix

end
-- ==== Proof.Bmix.Same.lean ====
/- The kernel as it computes on words and the kernel over any values are one program, so the run proved once serves both. -/
module

public import proofs.«01_k».proof.Proof.Bmix.Frame
public import proofs.«01_k».proof.Proof.Gen.Kernel4.Frame
public import Idealize.ShloMosaic.PureOps.BitExact

@[expose] public section

set_option maxRecDepth 100000
set_option maxHeartbeats 4000000

noncomputable section

namespace Cert.Kernel4.Bmix

open Idealize.ShloMosaic Idealize.ShloMosaic.TcCoe Idealize.SL.Sem

theorem body_eq : Kernel4.cc0_bwd_mix (F := Bits) = Kernel4Ideal.cc0_bwd_mix (F := Bits) := rfl

theorem rows_eq : Kernel4.defs₀ (F := Bits) = Kernel4Ideal.defs₀ (F := Bits) := by
  unfold Kernel4.defs₀ Kernel4Ideal.defs₀
  refine congrArg _ (funext fun l => funext fun a => ?_)
  match l with
  | ⟨0, _⟩ => rfl

theorem defs_eq : Kernel4.defs (F := Bits) = Kernel4Ideal.defs (F := Bits) :=
  congrArg (Pipeline.defs (Kernel4.pcfgs (F := Bits))) rows_eq

theorem main_eq : Kernel4.main (F := Bits) = Kernel4Ideal.main (F := Bits) := rfl

variable (m : (ℓ : Loc Kernel4.nD Kernel4.τ Kernel4.sig) → Buf (Elt Bits) ℓ) (ρ : Dev Kernel4.nD → PrngReg)

theorem frame : θ_run (Kernel4.defs (F := Bits)) (onTc (τ := τ) (Kernel4.main (F := Bits))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) ∧ r.2.sem = fun _ => 0) := by
  rw [defs_eq, main_eq]
  exact Kernel4Ideal.Bmix.frame (F := Bits) m ρ

end Cert.Kernel4.Bmix

end

end
-- ==== Proof.Bmix.RefFrame.lean ====
/- The reference of the mixers' backward pass: its frame. -/
module

public import proofs.«01_k».proof.Proof.Gen.Reference4Ideal.Run
public import proofs.«01_k».proof.Defs

@[expose] public section

noncomputable section

namespace Cert.Kernel4Ideal.Bmix

open Idealize.ShloMosaic Idealize.ShloMosaic.TcCoe Idealize.SL.Sem

/-- The reference runs, leaves its arguments unchanged and declares no semaphore. -/
theorem ref_frame : Cert.quiescent_Reference4Ideal (hReference4Ideal := Cert.Reference4Ideal.Gen.facts) := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

end Cert.Kernel4Ideal.Bmix

end

end
-- ==== Proof.Proj.Run.lean ====
/- The body of the first norm's kernel with the product by the input projection's weight, run once at a point of each kind:
   it loads a block of the weight where a round of rows begins, and norms a block of rows in the first round. -/
module

public import proofs.«01_k».proof.Proof.Gen.Kernel5Ideal.Skeleton
public import proofs.«01_k».proof.Proof.Gen.Kernel5Ideal.Frame

@[expose] public section

set_option maxRecDepth 16384

noncomputable section

namespace Cert.Kernel5Ideal.Proj

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What the body writes at a point, buffer by buffer, as the list of its stores; the weight's blocks as the buffer's contents. -/
structure Stores (F : FTy → Type) (B : Type) where
  pr : List (View.Piece (Elt F) S1024x1536 .bf16)
  h1 : List (View.Piece (Elt F) S1024x1024 .bf16)
  wv : B
  ha : List (View.Piece (Elt F) S8x1024x1024 .bf16)

/-- The weight where the kernel copies it from. -/
abbrev wM : Memref sig .tc .hbm S1024x6144 .bf16 := Memref.whole main_v3

/-- A buffer's contents on a core, and the buffer held whole at them. -/
abbrev At (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e) (f : At (F := F) c M) : sProp 𝕄 :=
  M.view.loc (c : Thread nD τ) ↦{fullShare} f

/-- A buffer after a list of stores into unknown contents, and over known ones. -/
abbrev over (c : Dev nD) {S : Shape} {e : EltTy} (M : Memref sig .tc .vmem S e) (L : List (View.Piece (Elt F) S e)) : sProp 𝕄 :=
  iprop(∃ f, M.view.loc (c : Thread nD τ) ↦[M.view.set]{fullShare} M.view.writes (Elt F) f L)
abbrev onto (c : Dev nD) {S : Shape} {e : EltTy} (M : Memref sig .tc .vmem S e) (h : M.IsWhole) (d : Vec F S e)
    (L : List (View.Piece (Elt F) S e)) : sProp 𝕄 :=
  M.view.loc (c : Thread nD τ) ↦[M.view.set]{fullShare} M.view.writes (Elt F) (h.unread d) L

section
variable (c : Dev nD) (i : grid0.Coords)
  (a2 : Memref sig .tc .vmem S1024x1024 .f32) (h2 : a2.IsWhole) (a3 : Memref sig .tc .vmem S16x1024 .f32) (h3 : a3.IsWhole)
  (a5 : Memref sig .tc .vmem S1024x1536 .bf16) (h5 : a5.IsWhole) (a6 : Memref sig .tc .vmem S1024x1024 .bf16) (h6 : a6.IsWhole)
  (a7 : Memref sig .tc .vmem S4x1024x1536 .bf16) (h7 : a7.IsWhole) (a8 : Memref sig .tc .vmem S8x1024x1024 .bf16) (h8 : a8.IsWhole)

/-- The program's body on these buffers. -/
abbrev prog : Prog (TpuEff nD τ sig (Elt F) Λ₀ .tc) PUnit :=
  cc0_fwd_proj i a2 h2 a3 h3 wM (Memref.isWhole_whole _) a5 h5 a6 h6 a7 h7 a8 h8 cc0_scratch2

set_option maxHeartbeats 4000000 in
/-- The first point: it loads a block of the weight and norms a block of rows. -/
def runFirst (e1 : k0_cond1 i = 1#1) (e2 : k0_cond2 i = 1#1) (x : Vec F S1024x1024 .f32) (vd : Vec F S16x1024 .f32)
    (wv : Vec F S4x1024x1536 .bf16) (ha : Vec F S8x1024x1024 .bf16) (fw : At (F := F) c wM) :
    { L : Stores F (At (F := F) c a7) // ∀ (W : Waits sig Unit) (K : PUnit → sProp 𝕄),
      iprop(owns (c : Thread nD τ) a2 fullShare x ∗ owns (c : Thread nD τ) a3 fullShare vd
          ∗ (∃ d, owns (c : Thread nD τ) a5 fullShare d) ∗ (∃ d, owns (c : Thread nD τ) a6 fullShare d)
          ∗ owns (c : Thread nD τ) a7 fullShare wv ∗ owns (c : Thread nD τ) a8 fullShare ha
          ∗ semVal ((c : Thread nD τ), SemLoc.dma 7) 0 ∗ held c wM fw ∗ owes (c : Thread nD τ) 0 W
          ∗ (iprop(owns (c : Thread nD τ) a2 fullShare x ∗ owns (c : Thread nD τ) a3 fullShare vd
              ∗ over c a5 L.pr ∗ over c a6 L.h1 ∗ (a7.view.loc (c : Thread nD τ) ↦[a7.view.set]{fullShare} L.wv) ∗ onto c a8 h8 ha L.ha
              ∗ semVal ((c : Thread nD τ), SemLoc.dma 7) 0 ∗ held c wM fw ∗ (∃ W', owes (c : Thread nD τ) 0 W')) -∗ K ⟨⟩))
        ⊢ wp frame (wpE (defs₀ (F := F)) Variants.none c none) Set.univ
            (prog i a2 h2 a3 h3 a5 h5 a6 h6 a7 h7 a8 h8) K } := by
  refine ⟨⟨?_, ?_, ?_, ?_⟩, fun W K => ?run⟩
  case run =>
    dsimp only [prog]
    simp only [cc0_fwd_proj_eq_skeleton]; unfold cc0_fwd_proj_skel
    simp only [k0_part1_eq_skeleton]
    unfold over onto held owns
    iintro ⟨⟨%f2, %hf2, H2⟩, ⟨%f3, %hf3, H3⟩, ⟨%d5, %f5, -, H5⟩, ⟨%d6, %f6, -, H6⟩, ⟨%f7, %hf7, H7⟩, ⟨%f8, %hf8, H8⟩, Hq, Hw, HW, Hk⟩
    obtain rfl := h2.eq_unread hf2; obtain rfl := h3.eq_unread hf3; obtain rfl := h7.eq_unread hf7; obtain rfl := h8.eq_unread hf8
    sl_exec (disch := first | sl_exact e1 | sl_exact e2)
    sl_step
    iapply Hk
    isplitl [H2]
    · iexists _; isplitr; · ipureintro; exact h2.read_unread _
      iexact H2
    isplitl [H3]
    · iexists _; isplitr; · ipureintro; exact h3.read_unread _
      iexact H3
    isplitl [H5]; · iexists _; iexact H5
    isplitl [H6]; · iexists _; iexact H6
    isplitl [H7]; · iexact H7
    isplitl [H8]; · iexact H8
    isplitl [Hq]; · iexact Hq
    isplitl [Hw]; · iexact Hw
    iexists _; iexact HW

set_option maxHeartbeats 4000000 in
/-- A later point of the first round: it norms a block of rows. -/
def runRow (e1 : ¬k0_cond1 i = 1#1) (e2 : k0_cond2 i = 1#1) (x : Vec F S1024x1024 .f32) (vd : Vec F S16x1024 .f32)
    (wv : Vec F S4x1024x1536 .bf16) (ha : Vec F S8x1024x1024 .bf16) (fw : At (F := F) c wM) :
    { L : Stores F (At (F := F) c a7) // ∀ (W : Waits sig Unit) (K : PUnit → sProp 𝕄),
      iprop(owns (c : Thread nD τ) a2 fullShare x ∗ owns (c : Thread nD τ) a3 fullShare vd
          ∗ (∃ d, owns (c : Thread nD τ) a5 fullShare d) ∗ (∃ d, owns (c : Thread nD τ) a6 fullShare d)
          ∗ owns (c : Thread nD τ) a7 fullShare wv ∗ owns (c : Thread nD τ) a8 fullShare ha
          ∗ semVal ((c : Thread nD τ), SemLoc.dma 7) 0 ∗ held c wM fw ∗ owes (c : Thread nD τ) 0 W
          ∗ (iprop(owns (c : Thread nD τ) a2 fullShare x ∗ owns (c : Thread nD τ) a3 fullShare vd
              ∗ over c a5 L.pr ∗ over c a6 L.h1 ∗ owns (c : Thread nD τ) a7 fullShare wv ∗ onto c a8 h8 ha L.ha
              ∗ semVal ((c : Thread nD τ), SemLoc.dma 7) 0 ∗ held c wM fw ∗ (∃ W', owes (c : Thread nD τ) 0 W')) -∗ K ⟨⟩))
        ⊢ wp frame (wpE (defs₀ (F := F)) Variants.none c none) Set.univ
            (prog i a2 h2 a3 h3 a5 h5 a6 h6 a7 h7 a8 h8) K } := by
  refine ⟨⟨?_, ?_, h7.unread wv, ?_⟩, fun W K => ?run⟩
  case run =>
    dsimp only [prog]
    simp only [cc0_fwd_proj_eq_skeleton]; unfold cc0_fwd_proj_skel
    simp only [k0_part1_eq_skeleton]
    unfold over onto held owns
    iintro ⟨⟨%f2, %hf2, H2⟩, ⟨%f3, %hf3, H3⟩, ⟨%d5, %f5, -, H5⟩, ⟨%d6, %f6, -, H6⟩, ⟨%f7, %hf7, H7⟩, ⟨%f8, %hf8, H8⟩, Hq, Hw, HW, Hk⟩
    obtain rfl := h2.eq_unread hf2; obtain rfl := h3.eq_unread hf3; obtain rfl := h7.eq_unread hf7; obtain rfl := h8.eq_unread hf8
    sl_exec (disch := first | sl_exact e1 | sl_exact e2)
    sl_step
    iapply Hk
    isplitl [H2]
    · iexists _; isplitr; · ipureintro; exact h2.read_unread _
      iexact H2
    isplitl [H3]
    · iexists _; isplitr; · ipureintro; exact h3.read_unread _
      iexact H3
    isplitl [H5]; · iexists _; iexact H5
    isplitl [H6]; · iexists _; iexact H6
    isplitl [H7]
    · iexists _; isplitr; · ipureintro; exact h7.read_unread _
      iexact H7
    isplitl [H8]; · iexact H8
    isplitl [Hq]; · iexact Hq
    isplitl [Hw]; · iexact Hw
    iexists _; iexact HW

set_option maxHeartbeats 4000000 in
/-- The first point of a later round: it loads a block of the weight. -/
def runBlock (e1 : k0_cond1 i = 1#1) (e2 : ¬k0_cond2 i = 1#1) (x : Vec F S1024x1024 .f32) (vd : Vec F S16x1024 .f32) (y : Vec F S1024x1024 .bf16)
    (wv : Vec F S4x1024x1536 .bf16) (ha : Vec F S8x1024x1024 .bf16) (fw : At (F := F) c wM) :
    { L : Stores F (At (F := F) c a7) // ∀ (W : Waits sig Unit) (K : PUnit → sProp 𝕄),
      iprop(owns (c : Thread nD τ) a2 fullShare x ∗ owns (c : Thread nD τ) a3 fullShare vd
          ∗ (∃ d, owns (c : Thread nD τ) a5 fullShare d) ∗ owns (c : Thread nD τ) a6 fullShare y
          ∗ owns (c : Thread nD τ) a7 fullShare wv ∗ owns (c : Thread nD τ) a8 fullShare ha
          ∗ semVal ((c : Thread nD τ), SemLoc.dma 7) 0 ∗ held c wM fw ∗ owes (c : Thread nD τ) 0 W
          ∗ (iprop(owns (c : Thread nD τ) a2 fullShare x ∗ owns (c : Thread nD τ) a3 fullShare vd
              ∗ over c a5 L.pr ∗ owns (c : Thread nD τ) a6 fullShare y ∗ (a7.view.loc (c : Thread nD τ) ↦[a7.view.set]{fullShare} L.wv) ∗ owns (c : Thread nD τ) a8 fullShare ha
              ∗ semVal ((c : Thread nD τ), SemLoc.dma 7) 0 ∗ held c wM fw ∗ (∃ W', owes (c : Thread nD τ) 0 W')) -∗ K ⟨⟩))
        ⊢ wp frame (wpE (defs₀ (F := F)) Variants.none c none) Set.univ
            (prog i a2 h2 a3 h3 a5 h5 a6 h6 a7 h7 a8 h8) K } := by
  refine ⟨⟨?_, [], ?_, []⟩, fun W K => ?run⟩
  case run =>
    dsimp only [prog]
    simp only [cc0_fwd_proj_eq_skeleton]; unfold cc0_fwd_proj_skel
    simp only [k0_part1_eq_skeleton]
    unfold over held owns
    iintro ⟨⟨%f2, %hf2, H2⟩, ⟨%f3, %hf3, H3⟩, ⟨%d5, %f5, -, H5⟩, ⟨%f6, %hf6, H6⟩, ⟨%f7, %hf7, H7⟩, ⟨%f8, %hf8, H8⟩, Hq, Hw, HW, Hk⟩
    obtain rfl := h2.eq_unread hf2; obtain rfl := h3.eq_unread hf3; obtain rfl := h7.eq_unread hf7; obtain rfl := h8.eq_unread hf8
    obtain rfl := h6.eq_unread hf6
    sl_exec (disch := first | sl_exact e1 | sl_exact e2)
    sl_step
    iapply Hk
    isplitl [H2]
    · iexists _; isplitr; · ipureintro; exact h2.read_unread _
      iexact H2
    isplitl [H3]
    · iexists _; isplitr; · ipureintro; exact h3.read_unread _
      iexact H3
    isplitl [H5]; · iexists _; iexact H5
    isplitl [H6]
    · iexists _; isplitr; · ipureintro; exact h6.read_unread _
      iexact H6
    isplitl [H7]; · iexact H7
    isplitl [H8]
    · iexists _; isplitr; · ipureintro; exact h8.read_unread _
      iexact H8
    isplitl [Hq]; · iexact Hq
    isplitl [Hw]; · iexact Hw
    iexists _; iexact HW

set_option maxHeartbeats 4000000 in
/-- Any other point: only the product. -/
def runLast (e1 : ¬k0_cond1 i = 1#1) (e2 : ¬k0_cond2 i = 1#1) (x : Vec F S1024x1024 .f32) (vd : Vec F S16x1024 .f32) (y : Vec F S1024x1024 .bf16)
    (wv : Vec F S4x1024x1536 .bf16) (ha : Vec F S8x1024x1024 .bf16) (fw : At (F := F) c wM) :
    { L : Stores F (At (F := F) c a7) // ∀ (W : Waits sig Unit) (K : PUnit → sProp 𝕄),
      iprop(owns (c : Thread nD τ) a2 fullShare x ∗ owns (c : Thread nD τ) a3 fullShare vd
          ∗ (∃ d, owns (c : Thread nD τ) a5 fullShare d) ∗ owns (c : Thread nD τ) a6 fullShare y
          ∗ owns (c : Thread nD τ) a7 fullShare wv ∗ owns (c : Thread nD τ) a8 fullShare ha
          ∗ semVal ((c : Thread nD τ), SemLoc.dma 7) 0 ∗ held c wM fw ∗ owes (c : Thread nD τ) 0 W
          ∗ (iprop(owns (c : Thread nD τ) a2 fullShare x ∗ owns (c : Thread nD τ) a3 fullShare vd
              ∗ over c a5 L.pr ∗ owns (c : Thread nD τ) a6 fullShare y ∗ owns (c : Thread nD τ) a7 fullShare wv ∗ owns (c : Thread nD τ) a8 fullShare ha
              ∗ semVal ((c : Thread nD τ), SemLoc.dma 7) 0 ∗ held c wM fw ∗ (∃ W', owes (c : Thread nD τ) 0 W')) -∗ K ⟨⟩))
        ⊢ wp frame (wpE (defs₀ (F := F)) Variants.none c none) Set.univ
            (prog i a2 h2 a3 h3 a5 h5 a6 h6 a7 h7 a8 h8) K } := by
  refine ⟨⟨?_, [], h7.unread wv, []⟩, fun W K => ?run⟩
  case run =>
    dsimp only [prog]
    simp only [cc0_fwd_proj_eq_skeleton]; unfold cc0_fwd_proj_skel
    simp only [k0_part1_eq_skeleton]
    unfold over held owns
    iintro ⟨⟨%f2, %hf2, H2⟩, ⟨%f3, %hf3, H3⟩, ⟨%d5, %f5, -, H5⟩, ⟨%f6, %hf6, H6⟩, ⟨%f7, %hf7, H7⟩, ⟨%f8, %hf8, H8⟩, Hq, Hw, HW, Hk⟩
    obtain rfl := h2.eq_unread hf2; obtain rfl := h3.eq_unread hf3; obtain rfl := h7.eq_unread hf7; obtain rfl := h8.eq_unread hf8
    obtain rfl := h6.eq_unread hf6
    sl_exec (disch := first | sl_exact e1 | sl_exact e2)
    sl_step
    iapply Hk
    isplitl [H2]
    · iexists _; isplitr; · ipureintro; exact h2.read_unread _
      iexact H2
    isplitl [H3]
    · iexists _; isplitr; · ipureintro; exact h3.read_unread _
      iexact H3
    isplitl [H5]; · iexists _; iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [Hq]; · iexact Hq
    isplitl [Hw]; · iexact Hw
    iexists _; iexact HW

end

end Cert.Kernel5Ideal.Proj

end
-- ==== Proof.Proj.Slots.lean ====
/- The kernel's own buffers, slot by slot: the blocks of the weight, one for a round, and the normed rows, one for a point of
   the first round. -/
module

public import proofs.«01_k».proof.Proof.Proj.Run
public import Idealize.ShloMosaic.Lib.ValueLayout
public import Idealize.ShloMosaic.Lib.WholeRead

@[expose] public section

set_option maxRecDepth 16384

noncomputable section

namespace Cert.Kernel5Ideal.Proj

open Cert.Kernel5Ideal.Gen
open Idealize.ShloMosaic Idealize.ShloMosaic.TcCoe Idealize.SL.Sem Idealize.ShloMosaic.ValueIdx

variable {F : FTy → Type} [FloatOps F]

theorem cond1_iff : ∀ t : Fin grid0.N, k0_cond1 (grid0.coords t) = 1#1 ↔ t.val % 8 = 0 := by decide
theorem cond2_iff : ∀ t : Fin grid0.N, k0_cond2 (grid0.coords t) = 1#1 ↔ t.val < 8 := by decide
theorem off1_eq : ∀ t : Fin grid0.N, k0_off1 (grid0.coords t) = ![t.val / 8, 0, 0] := by decide
theorem off2_eq : ∀ t : Fin grid0.N, k0_off2 (grid0.coords t) = ![0, t.val / 8 * 1536] := by decide
theorem off3_eq : ∀ t : Fin grid0.N, k0_off3 (grid0.coords t) = ![t.val % 8, 0, 0] := by decide
theorem off4_eq : ∀ t : Fin grid0.N, k0_off4 (grid0.coords t) = ![t.val % 8, 0, 0] := by decide
theorem off5_eq : ∀ t : Fin grid0.N, k0_off5 (grid0.coords t) = ![t.val / 8, 0, 0] := by decide

/-- The weight's blocks of columns, one above the other, and the normed rows, block by block. -/
def Wof (fw : Vec F S1024x6144 .bf16) : Vec F S4x1024x1536 .bf16 := fun y =>
  fw (ix2 (y 1) ⟨(y 0).val * 1536 + (y 2).val, by
    have h0 : (y 0).val < 4 := (y 0).isLt
    have h2 : (y 2).val < 1536 := (y 2).isLt
    show _ < 6144
    omega⟩)
def Hof (hh : Fin 8 → FVec F S1024x1024 .bf16) : Vec F S8x1024x1024 .bf16 := fun y =>
  k0_pay1 (hh (y 0)) (ix3 (0 : Fin 1) (y 1) (y 2))

/-- A block of normed rows, from the block of rows and the vectors. -/
def hrows (X : Vec F S1024x1024 .f32) (vd : Vec F S16x1024 .f32) : FVec F S1024x1024 .bf16 :=
  k0_pay3 (View.ld X (Rect.unit (s := S1024x1024) ![0, 0] S256x1024.size inb_S1024x1024_S256x1024_0_0))
    (View.ld X (Rect.unit (s := S1024x1024) ![256, 0] S256x1024.size inb_S1024x1024_S256x1024_256_0))
    (View.ld X (Rect.unit (s := S1024x1024) ![512, 0] S256x1024.size inb_S1024x1024_S256x1024_512_0))
    (View.ld X (Rect.unit (s := S1024x1024) ![768, 0] S256x1024.size inb_S1024x1024_S256x1024_768_0))
    (View.ld vd (Rect.unit (s := S16x1024) ![6, 0] S1x1024.size inb_S16x1024_S1x1024_6_0))
    (View.ld vd (Rect.unit (s := S16x1024) ![1, 0] S1x1024.size inb_S16x1024_S1x1024_1_0))
    (View.ld vd (Rect.unit (s := S16x1024) ![0, 0] S1x1024.size inb_S16x1024_S1x1024_0_0))

/-- A point's rows of the first, and its block of the second. -/
abbrev rowsAt (H : Vec F S8x1024x1024 .bf16) (t : Fin grid0.N) : Vec F S1x1024x1024 .bf16 :=
  View.ld H (Rect.unit (s := S8x1024x1024) (k0_off4 (grid0.coords t)) S1x1024x1024.size (k0_off4_inb _))
abbrev colsAt (W : Vec F S4x1024x1536 .bf16) (t : Fin grid0.N) : Vec F S1x1024x1536 .bf16 :=
  View.ld W (Rect.unit (s := S4x1024x1536) (k0_off5 (grid0.coords t)) S1x1024x1536.size (k0_off5_inb _))

theorem load_held {sp : Space} {s : Shape} {e : EltTy} {a : Memref sig .tc sp s e} (h : a.IsWhole) (X : s.Idx → Elt F e) (r : Rect s) :
    View.readAt (Elt F) a.view r.toLoadRect (h.unread X) = View.ld X r :=
  funext fun i => Memref.IsWhole.readAt_unread h X r.toLoadRect i

theorem canon_fill {s : Shape} {e : EltTy} (off : Fin s.rank → ℕ) (h0 : ∀ a, off a = 0) (inb : ∀ a, off a + s.size a ≤ s.size a)
    (z : s.Idx → Elt F e) : View.canon [⟨Rect.unit (s := s) off s.size inb, z⟩] = z := by
  funext y
  have hy : (Rect.unit (s := s) off s.size inb).emb y = y := funext fun a => Fin.ext (by
    show off a + 1 * _ = _
    rw [h0 a]; omega)
  have h := View.canon_cons_emb (Rect.unit (s := s) off s.size inb) z ([] : List (View.Piece (Elt F) s e)) y
  rwa [hy] at h

section
variable (c : Dev nD) (t : Fin grid0.N)
  (a7 : Memref sig .tc .vmem S4x1024x1536 .bf16) (h7 : a7.IsWhole) (a8 : Memref sig .tc .vmem S8x1024x1024 .bf16) (h8 : a8.IsWhole)

/-! A load of a slot depends on the slot alone. -/

theorem load_rows (g : a8.view.ty.Contents (Elt F)) (Y : Vec F S8x1024x1024 .bf16)
    (h : ∀ y : S8x1024x1024.Idx, (y 0).val = t.val % 8 → a8.view.read (Elt F) g y = Y y) :
    View.readAt (Elt F) a8.view
      (Rect.unit (s := S8x1024x1024) (k0_off4 (grid0.coords t)) S1x1024x1024.size (k0_off4_inb _)).toLoadRect g = rowsAt Y t := by
  funext x
  refine h _ ?_
  show k0_off4 (grid0.coords t) 0 + 1 * (x 0).val = _
  have h0 : (x 0).val < 1 := (x 0).isLt
  have h1 : k0_off4 (grid0.coords t) 0 = t.val % 8 := congrFun (off4_eq t) 0
  omega

theorem load_cols (g : a7.view.ty.Contents (Elt F)) (Y : Vec F S4x1024x1536 .bf16)
    (h : ∀ y : S4x1024x1536.Idx, (y 0).val = t.val / 8 → a7.view.read (Elt F) g y = Y y) :
    View.readAt (Elt F) a7.view
      (Rect.unit (s := S4x1024x1536) (k0_off5 (grid0.coords t)) S1x1024x1536.size (k0_off5_inb _)).toLoadRect g = colsAt Y t := by
  funext x
  refine h _ ?_
  show k0_off5 (grid0.coords t) 0 + 1 * (x 0).val = _
  have h0 : (x 0).val < 1 := (x 0).isLt
  have h1 : k0_off5 (grid0.coords t) 0 = t.val / 8 := congrFun (off5_eq t) 0
  omega

/-! The weight's buffer after the copy of the round's block. -/

abbrev slotM (e1 : k0_cond1 (grid0.coords t) = 1#1) : Memref sig .tc .vmem S1024x1536 .bf16 :=
  (a7.slice (Rect.unit (s := S4x1024x1536) (k0_off1 (grid0.coords t)) S1x1024x1536.size (k0_off1_inb _ e1)) (fun _ => rfl)).squeeze
    S1024x1536 squeezes_S1x1024x1536_S1024x1536
abbrev srcM (e1 : k0_cond1 (grid0.coords t) = 1#1) : Memref sig .tc .hbm S1024x1536 .bf16 :=
  wM.slice (Rect.unit (s := S1024x6144) (k0_off2 (grid0.coords t)) S1024x1536.size (k0_off2_inb _ e1)) (fun _ => rfl)

/-- The buffer so written. -/
abbrev copied (e1 : k0_cond1 (grid0.coords t) = 1#1) (wv : Vec F S4x1024x1536 .bf16) (fw : At (F := F) c wM) : At (F := F) c a7 :=
  View.write (Elt F) (slotM t a7 e1).view (h7.unread wv) (ReadAs.same.apply ((srcM t e1).view.read (Elt F) fw)) Finset.univ

theorem copied_in (e1 : k0_cond1 (grid0.coords t) = 1#1) (wv : Vec F S4x1024x1536 .bf16) (fw : At (F := F) c wM)
    (y : S4x1024x1536.Idx) (h : (y 0).val = t.val / 8) :
    a7.view.read (Elt F) (copied c t a7 h7 e1 wv fw) y = Wof (F := F) fw y := by
  have hy : (Rect.unit (s := S4x1024x1536) (k0_off1 (grid0.coords t)) S1x1024x1536.size (k0_off1_inb _ e1)).emb
      (Shape.reshapeEquiv (by decide : S1024x1536.numel = S1x1024x1536.numel) (ix2 (y 1) (y 2) : S1024x1536.Idx)) = y := by
    have e := reshapeEquiv_ix2_1ab (a := 1024) (b := 1536) (by decide) (y 1) (y 2)
    refine (congrArg _ e).trans (funext fun a => Fin.ext ?_)
    show k0_off1 (grid0.coords t) a + 1 * (ix3 (0 : Fin 1) (y 1) (y 2) a).val = (y a).val
    rw [off1_eq]
    fin_cases a
    · show t.val / 8 + 1 * 0 = (y 0).val
      omega
    · show 0 + 1 * (y 1).val = (y 1).val
      omega
    · show 0 + 1 * (y 2).val = (y 2).val
      omega
  have r := congrFun (View.read_write_univ (v := (slotM t a7 e1).view) (h7.unread wv)
    (ReadAs.same.apply ((srcM t e1).view.read (Elt F) fw))) (ix2 (y 1) (y 2))
  refine (congrArg (a7.view.read (Elt F) (copied c t a7 h7 e1 wv fw)) hy.symm).trans (r.trans ?_)
  show fw _ = fw _
  refine congrArg fw (funext fun a => Fin.ext ?_)
  show k0_off2 (grid0.coords t) a + 1 * (ix2 (y 1) (y 2) a).val = _
  rw [off2_eq]
  fin_cases a
  · show 0 + 1 * (y 1).val = (y 1).val
    omega
  · show t.val / 8 * 1536 + 1 * (y 2).val = (y 0).val * 1536 + (y 2).val
    omega

theorem copied_out (e1 : k0_cond1 (grid0.coords t) = 1#1) (wv : Vec F S4x1024x1536 .bf16) (fw : At (F := F) c wM)
    (y : S4x1024x1536.Idx) (h : (y 0).val ≠ t.val / 8) :
    a7.view.read (Elt F) (copied c t a7 h7 e1 wv fw) y = wv y := by
  have hn : a7.view.emb y ∉ (slotM t a7 e1).view.setOn Finset.univ := by
    rw [View.setOn_univ]
    intro hm
    obtain ⟨x, -, hx⟩ := Finset.mem_map.mp hm
    have hx' : (Rect.unit (s := S4x1024x1536) (k0_off1 (grid0.coords t)) S1x1024x1536.size (k0_off1_inb _ e1)).emb
        (Shape.reshapeEquiv (by decide : S1024x1536.numel = S1x1024x1536.numel) x) = y := a7.view.emb.injective hx
    have h0 := congrArg (fun z : S4x1024x1536.Idx => (z 0).val) hx'
    have h1 : k0_off1 (grid0.coords t) 0
        + 1 * (Shape.reshapeEquiv (by decide : S1024x1536.numel = S1x1024x1536.numel) x 0).val = (y 0).val := h0
    have h2 : (Shape.reshapeEquiv (by decide : S1024x1536.numel = S1x1024x1536.numel) x 0).val < 1 := Fin.isLt _
    rw [off1_eq] at h1
    have h3 : t.val / 8 + 1 * (Shape.reshapeEquiv (by decide : S1024x1536.numel = S1x1024x1536.numel) x 0).val = (y 0).val := h1
    omega
  exact (congrArg (_root_.cast _) (View.write_of_not_mem _ _ _ hn)).trans (congrFun (h7.read_unread wv) y)

/-! The rows' buffer after the store of the point's block. -/

theorem stored_in (e2 : k0_cond2 (grid0.coords t) = 1#1) (g : a8.view.ty.Contents (Elt F)) (hh : Fin 8 → FVec F S1024x1024 .bf16)
    (y : S8x1024x1024.Idx) (h : (y 0).val = t.val % 8) :
    a8.view.read (Elt F) (a8.view.writes (Elt F) g
      [⟨Rect.unit (s := S8x1024x1024) (k0_off3 (grid0.coords t)) S1x1024x1024.size (k0_off3_inb _ e2), k0_pay1 (hh ⟨t.val % 8, Nat.mod_lt _ (by decide)⟩)⟩]) y
      = Hof hh y := by
  have hy : (Rect.unit (s := S8x1024x1024) (k0_off3 (grid0.coords t)) S1x1024x1024.size (k0_off3_inb _ e2)).emb (ix3 (0 : Fin 1) (y 1) (y 2)) = y := by
    refine funext fun a => Fin.ext ?_
    show k0_off3 (grid0.coords t) a + 1 * (ix3 (0 : Fin 1) (y 1) (y 2) a).val = (y a).val
    rw [off3_eq]
    fin_cases a
    · show t.val % 8 + 1 * 0 = (y 0).val
      omega
    · show 0 + 1 * (y 1).val = (y 1).val
      omega
    · show 0 + 1 * (y 2).val = (y 2).val
      omega
  have r := View.read_writes_cons_emb (v := a8.view) (f := g)
    (Rect.unit (s := S8x1024x1024) (k0_off3 (grid0.coords t)) S1x1024x1024.size (k0_off3_inb _ e2))
    (k0_pay1 (hh ⟨t.val % 8, Nat.mod_lt _ (by decide)⟩)) [] (ix3 (0 : Fin 1) (y 1) (y 2))
  rw [hy] at r
  refine r.trans ?_
  have e : (⟨t.val % 8, Nat.mod_lt _ (by decide)⟩ : Fin 8) = y 0 := Fin.ext h.symm
  rw [e]
  rfl

theorem stored_out (e2 : k0_cond2 (grid0.coords t) = 1#1) (ha : Vec F S8x1024x1024 .bf16) (z : Vec F S1x1024x1024 .bf16)
    (y : S8x1024x1024.Idx) (h : (y 0).val ≠ t.val % 8) :
    a8.view.read (Elt F) (a8.view.writes (Elt F) (h8.unread ha)
      [⟨Rect.unit (s := S8x1024x1024) (k0_off3 (grid0.coords t)) S1x1024x1024.size (k0_off3_inb _ e2), z⟩]) y = ha y := by
  refine (View.read_writes_apply_of_forall_not_mem (v := a8.view) (f := h8.unread ha) y _ fun p hp => ?_).trans (congrFun (h8.read_unread ha) y)
  rw [List.mem_singleton] at hp
  subst hp
  intro hm
  obtain ⟨j, hj, h0⟩ := (LoadRect.mem_set _).mp hm 0
  have h1 : (y 0).val = k0_off3 (grid0.coords t) 0 + 1 * j := h0
  have h2 : j < 1 := hj
  have h3 : k0_off3 (grid0.coords t) 0 = t.val % 8 := congrFun (off3_eq t) 0
  omega

/-- A load of the rows just stored. -/
theorem load_stored (e2 : k0_cond2 (grid0.coords t) = 1#1) (hh : Fin 8 → FVec F S1024x1024 .bf16) :
    a8.view.readCov (Val := Elt F)
      [⟨Rect.unit (s := S8x1024x1024) (k0_off3 (grid0.coords t)) S1x1024x1024.size (k0_off3_inb _ e2), k0_pay1 (hh ⟨t.val % 8, Nat.mod_lt _ (by decide)⟩)⟩]
      (Rect.unit (s := S8x1024x1024) (k0_off4 (grid0.coords t)) S1x1024x1024.size (k0_off4_inb _)).toLoadRect = rowsAt (Hof hh) t :=
  load_rows t a8 _ _ fun y h => stored_in t a8 e2 _ hh y h

end

end Cert.Kernel5Ideal.Proj

end

end
-- ==== Proof.Proj.Frame.lean ====
/- The run of the first norm's kernel with the product by the input projection's weight: point after point of its grid what its
   buffers hold, and that it ends with its arguments unchanged and its counters at zero. -/
module

public import proofs.«01_k».proof.Proof.Proj.Slots
public import Idealize.ShloMosaic.Lib.Claim

@[expose] public section

set_option maxRecDepth 16384

-- the four runs are large terms
set_option maxHeartbeats 4000000

noncomputable section

namespace Cert.Kernel5Ideal.Proj

open Cert.Kernel5Ideal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffer each window is on at a point, and that it is one whole buffer. -/
abbrev b0 (t : Fin cfg0.N) : Memref sig .tc .vmem S1024x1024 .f32 := win0_0.stage (cfg0.slots t 0)
abbrev w0 (t : Fin cfg0.N) : (b0 t).IsWhole := hstage0_0 ((cfg0.slots t 0).cast nbuf0_0)
abbrev b1 (t : Fin cfg0.N) : Memref sig .tc .vmem S16x1024 .f32 := win0_1.stage (cfg0.slots t 1)
abbrev w1 (t : Fin cfg0.N) : (b1 t).IsWhole := hstage0_1 ((cfg0.slots t 1).cast nbuf0_1)
abbrev b2 (t : Fin cfg0.N) : Memref sig .tc .vmem S1024x1536 .bf16 := win0_2.stage (cfg0.slots t 2)
abbrev w2 (t : Fin cfg0.N) : (b2 t).IsWhole := hstage0_2 ((cfg0.slots t 2).cast nbuf0_2)
abbrev b3 (t : Fin cfg0.N) : Memref sig .tc .vmem S1024x1024 .bf16 := win0_3.stage (cfg0.slots t 3)
abbrev w3 (t : Fin cfg0.N) : (b3 t).IsWhole := hstage0_3 ((cfg0.slots t 3).cast nbuf0_3)

/-- The kernel's own buffers: the weight's blocks and the normed rows. -/
abbrev wvB : Memref sig .tc .vmem S4x1024x1536 .bf16 := Memref.whole cc0_scratch0
abbrev haB : Memref sig .tc .vmem S8x1024x1024 .bf16 := Memref.whole cc0_scratch1

/-- The blocks the pipeline hands the body at a point. -/
abbrev xAt (c : Dev nD) (t : Fin cfg0.N) : Vec F S1024x1024 .f32 := iblk m c 0 t
abbrev vAt (c : Dev nD) (t : Fin cfg0.N) : Vec F S16x1024 .f32 := iblk m c 1 t

/-- The block of rows normed at a point of the first round, by its place. -/
def hh (c : Dev nD) (s : Fin 8) : FVec F S1024x1024 .bf16 :=
  hrows (xAt m c ⟨s.val, lt_of_lt_of_eq (lt_of_lt_of_le s.isLt (by decide)) N_0.symm⟩)
    (vAt m c ⟨s.val, lt_of_lt_of_eq (lt_of_lt_of_le s.isLt (by decide)) N_0.symm⟩)

/-- The weight's blocks and all the normed rows, whole. -/
abbrev wall (c : Dev nD) : Vec F S4x1024x1536 .bf16 := Wof (F := F) (V m c main_v3)
abbrev hall (c : Dev nD) : Vec F S8x1024x1024 .bf16 := Hof (hh m c)

/-- The place, among the blocks of normed rows, of the block a point leaves written last. -/
def lastRow (t : Fin cfg0.N) : Fin 8 := ⟨min t.val 7, by omega⟩

/-- The product a point writes. -/
def tile (c : Dev nD) (t : Fin cfg0.N) : FVec F S1024x1536 .bf16 := k0_pay2 (rowsAt (hall m c) t) (colsAt (wall m c) t)

/-- Before the `n`-th point the slots used so far hold what they are to hold. -/
structure Good (c : Dev nD) (n : ℕ) (wv : Vec F S4x1024x1536 .bf16) (ha : Vec F S8x1024x1024 .bf16) : Prop where
  w : ∀ y : S4x1024x1536.Idx, (y 0).val * 8 < n → wv y = wall m c y
  h : ∀ y : S8x1024x1024.Idx, (y 0).val < n → ha y = hall m c y

theorem lt_32 (t : Fin cfg0.N) : t.val < 32 := lt_of_lt_of_eq t.isLt N_0

theorem hh_eq (c : Dev nD) (t : Fin cfg0.N) (h : t.val < 8) : hrows (xAt m c t) (vAt m c t) = hh m c ⟨t.val % 8, Nat.mod_lt _ (by decide)⟩ := by
  have e : t = ⟨t.val % 8, lt_of_lt_of_eq (lt_of_lt_of_le (Nat.mod_lt _ (by decide)) (by decide : 8 ≤ 32)) N_0.symm⟩ := Fin.ext (Nat.mod_eq_of_lt h).symm
  show _ = hrows (xAt m c _) (vAt m c _)
  rw [← e]

/-- The body's run at a point of each kind, on the buffers the pipeline calls it with. -/
abbrev first (c : Dev nD) (t : Fin cfg0.N) (e1 : k0_cond1 (grid0.coords t) = 1#1) (e2 : k0_cond2 (grid0.coords t) = 1#1) (wv ha) :=
  runFirst (F := F) c (grid0.coords t) (b0 t) (w0 t) (b1 t) (w1 t) (b2 t) (w2 t) (b3 t) (w3 t) wvB (Memref.isWhole_whole _) haB (Memref.isWhole_whole _)
    e1 e2 (xAt m c t) (vAt m c t) wv ha (V m c main_v3)
abbrev row (c : Dev nD) (t : Fin cfg0.N) (e1 : ¬k0_cond1 (grid0.coords t) = 1#1) (e2 : k0_cond2 (grid0.coords t) = 1#1) (wv ha) :=
  runRow (F := F) c (grid0.coords t) (b0 t) (w0 t) (b1 t) (w1 t) (b2 t) (w2 t) (b3 t) (w3 t) wvB (Memref.isWhole_whole _) haB (Memref.isWhole_whole _)
    e1 e2 (xAt m c t) (vAt m c t) wv ha (V m c main_v3)
abbrev block (c : Dev nD) (t : Fin cfg0.N) (e1 : k0_cond1 (grid0.coords t) = 1#1) (e2 : ¬k0_cond2 (grid0.coords t) = 1#1) (y wv ha) :=
  runBlock (F := F) c (grid0.coords t) (b0 t) (w0 t) (b1 t) (w1 t) (b2 t) (w2 t) (b3 t) (w3 t) wvB (Memref.isWhole_whole _) haB (Memref.isWhole_whole _)
    e1 e2 (xAt m c t) (vAt m c t) y wv ha (V m c main_v3)
abbrev last (c : Dev nD) (t : Fin cfg0.N) (e1 : ¬k0_cond1 (grid0.coords t) = 1#1) (e2 : ¬k0_cond2 (grid0.coords t) = 1#1) (y wv ha) :=
  runLast (F := F) c (grid0.coords t) (b0 t) (w0 t) (b1 t) (w1 t) (b2 t) (w2 t) (b3 t) (w3 t) wvB (Memref.isWhole_whole _) haB (Memref.isWhole_whole _)
    e1 e2 (xAt m c t) (vAt m c t) y wv ha (V m c main_v3)

/-! A point's loads: the round's block of the weight and the point's rows, just written or kept. -/

theorem cols_new (c : Dev nD) (t : Fin cfg0.N) (e1 : k0_cond1 (grid0.coords t) = 1#1) (wv) :
    View.readAt (Elt F) wvB.view
      (Rect.unit (s := S4x1024x1536) (k0_off5 (grid0.coords t)) S1x1024x1536.size (k0_off5_inb _)).toLoadRect
      (copied c t wvB (Memref.isWhole_whole _) e1 wv (V m c main_v3)) = colsAt (wall m c) t :=
  load_cols t wvB _ _ fun y h => copied_in c t wvB _ e1 wv _ y h

theorem cols_old (c : Dev nD) (t : Fin cfg0.N) (e1 : ¬k0_cond1 (grid0.coords t) = 1#1) (wv ha) (g : Good m c t.val wv ha) :
    View.readAt (Elt F) wvB.view
      (Rect.unit (s := S4x1024x1536) (k0_off5 (grid0.coords t)) S1x1024x1536.size (k0_off5_inb _)).toLoadRect
      ((Memref.isWhole_whole _ : wvB.IsWhole).unread wv) = colsAt (wall m c) t :=
  load_cols t wvB _ _ fun y h => by
    have n := mt (cond1_iff t).mpr e1
    rw [Memref.IsWhole.read_unread]
    exact g.w y (by omega)

theorem rows_old (c : Dev nD) (t : Fin cfg0.N) (e2 : ¬k0_cond2 (grid0.coords t) = 1#1) (wv ha) (g : Good m c t.val wv ha) :
    View.readAt (Elt F) haB.view
      (Rect.unit (s := S8x1024x1024) (k0_off4 (grid0.coords t)) S1x1024x1024.size (k0_off4_inb _)).toLoadRect
      ((Memref.isWhole_whole _ : haB.IsWhole).unread ha) = rowsAt (hall m c) t :=
  load_rows t haB _ _ fun y h => by
    have n := mt (cond2_iff t).mpr e2
    rw [Memref.IsWhole.read_unread]
    exact g.h y (by omega)

/-! The slots after a point. -/

theorem w_new (c : Dev nD) (t : Fin cfg0.N) (e1 : k0_cond1 (grid0.coords t) = 1#1) (wv ha) (g : Good m c t.val wv ha)
    (y : S4x1024x1536.Idx) (h : (y 0).val * 8 < t.val + 1) :
    wvB.view.read (Elt F) (copied c t wvB (Memref.isWhole_whole _) e1 wv (V m c main_v3)) y = wall m c y := by
  have n := (cond1_iff t).mp e1
  by_cases hy : (y 0).val = t.val / 8
  · exact copied_in c t wvB _ e1 wv _ y hy
  · exact (copied_out c t wvB _ e1 wv _ y hy).trans (g.w y (by omega))

theorem w_old (c : Dev nD) (t : Fin cfg0.N) (e1 : ¬k0_cond1 (grid0.coords t) = 1#1) (wv ha) (g : Good m c t.val wv ha)
    (y : S4x1024x1536.Idx) (h : (y 0).val * 8 < t.val + 1) : wv y = wall m c y := by
  have n := mt (cond1_iff t).mpr e1
  exact g.w y (by omega)

theorem h_new (c : Dev nD) (t : Fin cfg0.N) (e2 : k0_cond2 (grid0.coords t) = 1#1) (wv ha) (g : Good m c t.val wv ha)
    (y : S8x1024x1024.Idx) (h : (y 0).val < t.val + 1) :
    haB.view.read (Elt F) (haB.view.writes (Elt F) ((Memref.isWhole_whole _ : haB.IsWhole).unread ha)
      [⟨Rect.unit (s := S8x1024x1024) (k0_off3 (grid0.coords t)) S1x1024x1024.size (k0_off3_inb _ e2), k0_pay1 (hh m c ⟨t.val % 8, Nat.mod_lt _ (by decide)⟩)⟩]) y
      = hall m c y := by
  have n := (cond2_iff t).mp e2
  by_cases hy : (y 0).val = t.val % 8
  · exact stored_in t haB e2 _ (hh m c) y hy
  · exact (stored_out t haB _ e2 ha _ y hy).trans (g.h y (by omega))

theorem h_old (c : Dev nD) (t : Fin cfg0.N) (e2 : ¬k0_cond2 (grid0.coords t) = 1#1) (wv ha) (g : Good m c t.val wv ha)
    (y : S8x1024x1024.Idx) (h : (y 0).val < t.val + 1) : ha y = hall m c y := by
  have n := mt (cond2_iff t).mpr e2
  have h8 : (y 0).val < 8 := (y 0).isLt
  exact g.h y (by omega)

/-! What the stores of a point write. -/

theorem normed (c : Dev nD) (t : Fin cfg0.N) (e2 : k0_cond2 (grid0.coords t) = 1#1) :
    k0_pay3
      (View.readAt (Elt F) (b0 t).view (Rect.unit (s := S1024x1024) ![0, 0] S256x1024.size inb_S1024x1024_S256x1024_0_0).toLoadRect ((w0 t).unread (xAt m c t)))
      (View.readAt (Elt F) (b0 t).view (Rect.unit (s := S1024x1024) ![256, 0] S256x1024.size inb_S1024x1024_S256x1024_256_0).toLoadRect ((w0 t).unread (xAt m c t)))
      (View.readAt (Elt F) (b0 t).view (Rect.unit (s := S1024x1024) ![512, 0] S256x1024.size inb_S1024x1024_S256x1024_512_0).toLoadRect ((w0 t).unread (xAt m c t)))
      (View.readAt (Elt F) (b0 t).view (Rect.unit (s := S1024x1024) ![768, 0] S256x1024.size inb_S1024x1024_S256x1024_768_0).toLoadRect ((w0 t).unread (xAt m c t)))
      (View.readAt (Elt F) (b1 t).view (Rect.unit (s := S16x1024) ![6, 0] S1x1024.size inb_S16x1024_S1x1024_6_0).toLoadRect ((w1 t).unread (vAt m c t)))
      (View.readAt (Elt F) (b1 t).view (Rect.unit (s := S16x1024) ![1, 0] S1x1024.size inb_S16x1024_S1x1024_1_0).toLoadRect ((w1 t).unread (vAt m c t)))
      (View.readAt (Elt F) (b1 t).view (Rect.unit (s := S16x1024) ![0, 0] S1x1024.size inb_S16x1024_S1x1024_0_0).toLoadRect ((w1 t).unread (vAt m c t)))
      = hh m c ⟨t.val % 8, Nat.mod_lt _ (by decide)⟩ := by
  simp only [load_held]
  exact hh_eq m c t ((cond2_iff t).mp e2)

/-- One store over a whole buffer. -/
theorem read_fill {S : Shape} {e : EltTy} (M : Memref sig .tc .vmem S e) (off : Fin S.rank → ℕ) (h0 : ∀ a, off a = 0)
    (inb : ∀ a, off a + S.size a ≤ S.size a) (f : M.view.ty.Contents (Elt F)) (z z' : S.Idx → Elt F e) (h : z = z') :
    M.view.read (Elt F) (M.view.writes (Elt F) f [⟨Rect.unit (s := S) off S.size inb, z⟩]) = z' := by
  subst h
  refine (View.read_writes_eq_canon _ _ _ fun y => ⟨_, List.mem_singleton_self _, ?_⟩).trans (canon_fill off h0 inb z)
  exact (LoadRect.mem_set _).mpr fun a => ⟨(y a).val, (y a).isLt, by show _ = off a + 1 * _; rw [h0 a]; omega⟩

theorem first_pr (c : Dev nD) (t : Fin cfg0.N) (e1 : k0_cond1 (grid0.coords t) = 1#1) (e2 : k0_cond2 (grid0.coords t) = 1#1) (wv ha)
    (g : Good m c t.val wv ha) (f) : (b2 t).view.read (Elt F) ((b2 t).view.writes (Elt F) f (first m c t e1 e2 wv ha).1.pr) = tile m c t := by
  refine read_fill (b2 t) ![0, 0] (by decide) _ f _ _ ?_
  refine congrArg₂ k0_pay2 ?_ (cols_new m c t e1 wv)
  refine Eq.trans ?_ (load_stored t haB e2 (hh m c))
  exact congrArg (fun z => haB.view.readCov (Val := Elt F)
    [⟨Rect.unit (s := S8x1024x1024) (k0_off3 (grid0.coords t)) S1x1024x1024.size (k0_off3_inb _ e2), k0_pay1 z⟩]
    (Rect.unit (s := S8x1024x1024) (k0_off4 (grid0.coords t)) S1x1024x1024.size (k0_off4_inb _)).toLoadRect) (normed m c t e2)

theorem first_h1 (c : Dev nD) (t : Fin cfg0.N) (e1 : k0_cond1 (grid0.coords t) = 1#1) (e2 : k0_cond2 (grid0.coords t) = 1#1) (wv ha) (f) :
    (b3 t).view.read (Elt F) ((b3 t).view.writes (Elt F) f (first m c t e1 e2 wv ha).1.h1) = hh m c (lastRow t) := by
  refine read_fill (b3 t) ![0, 0] (by decide) _ f _ _ ((normed m c t e2).trans (congrArg (hh m c) (Fin.ext ?_)))
  have n := (cond2_iff t).mp e2
  show t.val % 8 = min t.val 7
  omega

theorem first_ha (c : Dev nD) (t : Fin cfg0.N) (e1 : k0_cond1 (grid0.coords t) = 1#1) (e2 : k0_cond2 (grid0.coords t) = 1#1) (wv ha)
    (g : Good m c t.val wv ha) (y : S8x1024x1024.Idx) (h : (y 0).val < t.val + 1) :
    haB.view.read (Elt F) (haB.view.writes (Elt F) ((Memref.isWhole_whole _ : haB.IsWhole).unread ha) (first m c t e1 e2 wv ha).1.ha) y = hall m c y := by
  refine Eq.trans ?_ (h_new m c t e2 wv ha g y h)
  exact congrArg (fun z => haB.view.read (Elt F) (haB.view.writes (Elt F) ((Memref.isWhole_whole _ : haB.IsWhole).unread ha)
    [⟨Rect.unit (s := S8x1024x1024) (k0_off3 (grid0.coords t)) S1x1024x1024.size (k0_off3_inb _ e2), k0_pay1 z⟩]) y) (normed m c t e2)

theorem first_wv (c : Dev nD) (t : Fin cfg0.N) (e1 : k0_cond1 (grid0.coords t) = 1#1) (e2 : k0_cond2 (grid0.coords t) = 1#1) (wv ha)
    (g : Good m c t.val wv ha) (z : S4x1024x1536.Idx) (h : (z 0).val * 8 < t.val + 1) :
    wvB.view.read (Elt F) (first m c t e1 e2 wv ha).1.wv z = wall m c z :=
  w_new m c t e1 wv ha g z h

theorem block_pr (c : Dev nD) (t : Fin cfg0.N) (e1 : k0_cond1 (grid0.coords t) = 1#1) (e2 : ¬k0_cond2 (grid0.coords t) = 1#1) (y) (wv ha)
    (g : Good m c t.val wv ha) (f) : (b2 t).view.read (Elt F) ((b2 t).view.writes (Elt F) f (block m c t e1 e2 y wv ha).1.pr) = tile m c t := by
  refine read_fill (b2 t) ![0, 0] (by decide) _ f _ _ ?_
  exact congrArg₂ k0_pay2 (rows_old m c t e2 wv ha g) (cols_new m c t e1 wv)

theorem block_wv (c : Dev nD) (t : Fin cfg0.N) (e1 : k0_cond1 (grid0.coords t) = 1#1) (e2 : ¬k0_cond2 (grid0.coords t) = 1#1) (y) (wv ha)
    (g : Good m c t.val wv ha) (z : S4x1024x1536.Idx) (h : (z 0).val * 8 < t.val + 1) :
    wvB.view.read (Elt F) (block m c t e1 e2 y wv ha).1.wv z = wall m c z :=
  w_new m c t e1 wv ha g z h

theorem row_pr (c : Dev nD) (t : Fin cfg0.N) (e1 : ¬k0_cond1 (grid0.coords t) = 1#1) (e2 : k0_cond2 (grid0.coords t) = 1#1) (wv ha)
    (g : Good m c t.val wv ha) (f) : (b2 t).view.read (Elt F) ((b2 t).view.writes (Elt F) f (row m c t e1 e2 wv ha).1.pr) = tile m c t := by
  refine read_fill (b2 t) ![0, 0] (by decide) _ f _ _ ?_
  refine congrArg₂ k0_pay2 ?_ (cols_old m c t e1 wv ha g)
  refine Eq.trans ?_ (load_stored t haB e2 (hh m c))
  exact congrArg (fun z => haB.view.readCov (Val := Elt F)
    [⟨Rect.unit (s := S8x1024x1024) (k0_off3 (grid0.coords t)) S1x1024x1024.size (k0_off3_inb _ e2), k0_pay1 z⟩]
    (Rect.unit (s := S8x1024x1024) (k0_off4 (grid0.coords t)) S1x1024x1024.size (k0_off4_inb _)).toLoadRect) (normed m c t e2)

theorem row_h1 (c : Dev nD) (t : Fin cfg0.N) (e1 : ¬k0_cond1 (grid0.coords t) = 1#1) (e2 : k0_cond2 (grid0.coords t) = 1#1) (wv ha) (f) :
    (b3 t).view.read (Elt F) ((b3 t).view.writes (Elt F) f (row m c t e1 e2 wv ha).1.h1) = hh m c (lastRow t) := by
  refine read_fill (b3 t) ![0, 0] (by decide) _ f _ _ ((normed m c t e2).trans (congrArg (hh m c) (Fin.ext ?_)))
  have n := (cond2_iff t).mp e2
  show t.val % 8 = min t.val 7
  omega

theorem row_ha (c : Dev nD) (t : Fin cfg0.N) (e1 : ¬k0_cond1 (grid0.coords t) = 1#1) (e2 : k0_cond2 (grid0.coords t) = 1#1) (wv ha)
    (g : Good m c t.val wv ha) (y : S8x1024x1024.Idx) (h : (y 0).val < t.val + 1) :
    haB.view.read (Elt F) (haB.view.writes (Elt F) ((Memref.isWhole_whole _ : haB.IsWhole).unread ha) (row m c t e1 e2 wv ha).1.ha) y = hall m c y := by
  refine Eq.trans ?_ (h_new m c t e2 wv ha g y h)
  exact congrArg (fun z => haB.view.read (Elt F) (haB.view.writes (Elt F) ((Memref.isWhole_whole _ : haB.IsWhole).unread ha)
    [⟨Rect.unit (s := S8x1024x1024) (k0_off3 (grid0.coords t)) S1x1024x1024.size (k0_off3_inb _ e2), k0_pay1 z⟩]) y) (normed m c t e2)

theorem last_pr (c : Dev nD) (t : Fin cfg0.N) (e1 : ¬k0_cond1 (grid0.coords t) = 1#1) (e2 : ¬k0_cond2 (grid0.coords t) = 1#1) (y) (wv ha)
    (g : Good m c t.val wv ha) (f) : (b2 t).view.read (Elt F) ((b2 t).view.writes (Elt F) f (last m c t e1 e2 y wv ha).1.pr) = tile m c t := by
  refine read_fill (b2 t) ![0, 0] (by decide) _ f _ _ ?_
  exact congrArg₂ k0_pay2 (rows_old m c t e2 wv ha g) (cols_old m c t e1 wv ha g)

/-! The launch's other resources: the copy semaphore and the weight where it lies. -/

abbrev osem : Fin 1 → SemLoc sig := fun j => (![SemLoc.dma 7] : Fin 1 → SemLoc sig) j
theorem osem_facts : Pipeline.OwnSemFacts spec0 osem := by decide
def Hb : Finset (Ref sig .tc) := {main_v3}
theorem Hb_sub : Hb ⊆ Pipeline.restRefs sig spec0 := by decide

theorem PhiD_eq (c : Dev nD) :
    (Pipeline.ΦD osem spec0 Hb (V m) c : sProp 𝕄)
      = iprop(((∃ d, owns (c : Thread nD τ) wvB fullShare d) ∗ (∃ d, owns (c : Thread nD τ) haB fullShare d))
        ∗ (∃ r, prngReg c r) ∗ semVal ((c : Thread nD τ), SemLoc.dma 7) 0 ∗ held c wM (V m c main_v3)) := by
  rw [Pipeline.ΦD_eq, scopedRest0_eq, Pipeline.ownSems0_eq_of_list c osem [0] (by decide) (by decide),
    BI.bigSep_eq_bigSepL_of_eq (S := Hb) [main_v3] (by decide) (by decide)]
  simp only [wvB, haB, owns_whole]
  rfl

/-- The lines after the kernel do not touch the weight. -/
theorem tail_but : ∀ ops ∈ ([hostOps1] : List (List (HloOp τ sig (Elt F)))), ∀ op ∈ ops,
    op.bufs ⊆ Pipeline.tailRefsBut sig Pipeline.Prefetch.none spec0 Hb := by
  intro ops hops op hop
  simp only [List.mem_cons, List.mem_nil_iff, or_false] at hops
  rcases hops with rfl
  refine Pipeline.sub_tailRefsBut Pipeline.Prefetch.none spec0 Hb op ((List.forall_iff_forall_mem.mp hostOps1_sub) op hop)
    (fun j => j.elim0) ?_
  simp only [hostOps1, List.mem_cons, List.mem_nil_iff, or_false] at hop
  intro b hb
  simp only [Hb, Finset.mem_singleton] at hb
  rcases hop with rfl | rfl | rfl | rfl | rfl | rfl | rfl | rfl <;> rcases hb with rfl <;>
    simp only [StableHlo.nullary_bufs, StableHlo.unary_bufs, StableHlo.binary_bufs, StableHlo.ternary_bufs,
      StableHlo.quaternary_bufs, StableHlo.reshape_bufs, Finset.mem_insert, Finset.mem_singleton, not_or] <;>
    and_intros <;> exact StableHlo.devRef_ne_of_ne (by decide)

/-! The pipeline's data: every buffer after every point. -/

/-- What holds before the `n`-th point: the kernel's own buffers, the slots used so far as they are to be. -/
def between (c : Dev nD) (n : ℕ) : sProp 𝕄 :=
  iprop((∃ wv ha, ⌜Good m c n wv ha⌝ ∗ owns (c : Thread nD τ) wvB fullShare wv ∗ owns (c : Thread nD τ) haB fullShare ha)
    ∗ (∃ r, prngReg c r) ∗ semVal ((c : Thread nD τ), SemLoc.dma 7) 0 ∗ held c wM (V m c main_v3))

/-- The blocks after the point `t`. -/
def afterAt (c : Dev nD) : (w : Fin cfg0.W) → (t : Fin cfg0.N) → (cfg0.win w).block.Idx → Elt F (cfg0.win w).elt
  | ⟨0, _⟩, t => xAt m c t
  | ⟨1, _⟩, t => vAt m c t
  | ⟨2, _⟩, t => tile m c t
  | ⟨3, _⟩, t => hh m c (lastRow t)

def dats (_ : Fin 1) (c : Dev nD) : Dat τ (Elt F) Unit ℕ (Pipeline.UD sig nD τ) ℕ cfg0 c where
  A w := V m c (Pipeline.arrRef spec0 w)
  after w t := afterAt m c w t
  Φ t := between m c t.val
  q _ := fullShare
  owed _ := 0

theorem A_eq (c : Dev nD) (w : Fin cfg0.W) : (dats m 0 c).A w = V m c (Pipeline.arrRef spec0 w) := by
  dsimp only [dats]
/-- The same arrays point after point, for readers of the final memory that speak of no resource. -/
def plain (_ : Fin 1) (c : Dev nD) : Dat τ (Elt F) Unit ℕ (UR sig nD τ) ℕ cfg0 c where
  A w := V m c (Pipeline.arrRef spec0 w)
  after w t := afterAt m c w t
  Φ _ := iprop(emp)
  q _ := fullShare
  owed _ := 0

theorem after_0 (c : Dev nD) (t : Fin cfg0.N) : (dats m 0 c).after 0 t = xAt m c t := by dsimp only [dats, afterAt]
theorem after_1 (c : Dev nD) (t : Fin cfg0.N) : (dats m 0 c).after 1 t = vAt m c t := by dsimp only [dats, afterAt]
theorem after_2 (c : Dev nD) (t : Fin cfg0.N) : (dats m 0 c).after 2 t = tile m c t := by dsimp only [dats, afterAt]
theorem after_3 (c : Dev nD) (t : Fin cfg0.N) : (dats m 0 c).after 3 t = hh m c (lastRow t) := by dsimp only [dats, afterAt]
theorem before_0 (c : Dev nD) (t : Fin cfg0.N) (d) : (dats m 0 c).before 0 t d = xAt m c t :=
  before0_0_of m (plain m 0 c) rfl (fun _ => rfl) t d
theorem before_1 (c : Dev nD) (t : Fin cfg0.N) (d) : (dats m 0 c).before 1 t d = vAt m c t :=
  before0_1_of m (plain m 0 c) rfl (fun _ => rfl) t d
theorem flush_3 : ∀ t : Fin cfg0.N, (cfg0.win 3).flush t = true ↔ t.val < 7 ∨ t.val = 31 := by decide +kernel
theorem idle_3 (t : Fin cfg0.N) (h : ¬t.val < 8) : cfg0.idle 3 (cfg0.grid.coords t) = true := by
  have h2 := mt (cond2_iff t).mp h
  show (!(k0_cond2 (grid0.coords t) == 1#1)) = true
  simpa using h2
theorem live_3 (t : Fin cfg0.N) (h : t.val < 8) : cfg0.idle 3 (cfg0.grid.coords t) = false := by
  have h2 := (cond2_iff t).mpr h
  show (!(k0_cond2 (grid0.coords t) == 1#1)) = false
  simpa using h2

theorem before_3_of (c : Dev nD) : ∀ (n : ℕ) (hn : n < cfg0.N), 8 ≤ n → ∀ d, (dats m 0 c).before 3 ⟨n, hn⟩ d = hh m c 7 := by
  intro n
  induction n with
  | zero => intro _ h; omega
  | succ n ih =>
    intro hn h d
    have hN' : n + 1 < 32 := lt_32 ⟨n + 1, hn⟩
    have hc : cfg0.grid.N = 32 := N_0
    have hn' : n < cfg0.grid.N := by omega
    have hf : (cfg0.win 3).flush ⟨n, hn'⟩ = false :=
      Bool.eq_false_iff.mpr fun h => by have := (flush_3 _).mp h; dsimp only at this; omega
    refine ((dats m 0 c).before_of_pos 3 ⟨n + 1, hn⟩ (Nat.succ_ne_zero n) ((cfg0.win 3).fetch_out rfl _) d).trans
      ((if_neg (Bool.eq_false_iff.mp hf)).trans ?_)
    unfold Dat.left
    by_cases h8 : 8 ≤ n
    · have e : cfg0.idle 3 (cfg0.grid.coords ⟨n, hn'⟩) = true := idle_3 ⟨n, hn'⟩ (by dsimp only; omega)
      exact (congrArg (fun b => (match b with
        | true => (dats m 0 c).before 3 ⟨n, hn'⟩ d
        | false => (dats m 0 c).kept 3 ⟨n, hn'⟩ d)) e).trans (ih hn' h8 d)
    · have e : cfg0.idle 3 (cfg0.grid.coords ⟨n, hn'⟩) = false := live_3 ⟨n, hn'⟩ (by dsimp only; omega)
      refine (congrArg (fun b => (match b with
        | true => (dats m 0 c).before 3 ⟨n, hn'⟩ d
        | false => (dats m 0 c).kept 3 ⟨n, hn'⟩ d)) e).trans ?_
      show (dats m 0 c).kept 3 ⟨n, hn'⟩ d = _
      unfold Dat.kept
      rw [Pipeline.fill_of_clip_none 3 _ (fun _ => rfl) d ((dats m 0 c).after 3 _), Window.fill_cut, after_3]
      exact congrArg (hh m c) (Fin.ext (by show min n 7 = 7; omega))

theorem lastRow_7 (t : Fin cfg0.N) (h : ¬t.val < 8) : lastRow t = 7 := Fin.ext (by show min t.val 7 = 7; omega)

theorem before_3 (c : Dev nD) (t : Fin cfg0.N) (h : ¬t.val < 8) (d) : (dats m 0 c).before 3 t d = hh m c (lastRow t) := by
  rw [lastRow_7 t h]
  exact before_3_of m c t.val t.isLt (by omega) d

theorem ends_3 (c : Dev nD) (t : Fin cfg0.N) (h : t.val < 8) :
    (dats m 0 c).leavesExact 3 t = owns (c : Thread nD τ) (b3 t) fullShare (hh m c (lastRow t)) := by
  have e := live_3 t h
  unfold Dat.leavesExact
  rw [e]
  dsimp only
  rw [after_3]

theorem leaves_3 (c : Dev nD) (t : Fin cfg0.N) (h : ¬t.val < 8) :
    owns (c : Thread nD τ) (b3 t) fullShare (hh m c (lastRow t)) ⊢ ((dats m 0 c).leavesExact 3 t : sProp 𝕄) := by
  have e := idle_3 t h
  cases hf : (cfg0.win 3).flush t with
  | false =>
    rw [Dat.leavesExact_idle _ 3 t e hf]
    iintro H
    iexists (fun _ => (View.canon ([] : List (View.Piece (Elt F) S1024x1024 .bf16)) (ix2 0 0)))
    rw [before_3 m c t h]
    iexact H
  | true =>
    unfold Dat.leavesExact
    rw [e, hf]
    dsimp only
    rw [after_3]

/-! The body at any point. -/

def pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d)))

def post (c : Dev nD) (t : Fin cfg0.N) : sProp 𝕄 :=
  iprop((dats m 0 c).Φ t.succ ∗ (dats m 0 c).owesAt () t.succ
    ∗ owns (c : Thread nD τ) (b0 t) fullShare ((dats m 0 c).after 0 t)
    ∗ owns (c : Thread nD τ) (b1 t) fullShare ((dats m 0 c).after 1 t)
    ∗ owns (c : Thread nD τ) (b2 t) fullShare ((dats m 0 c).after 2 t)
    ∗ (dats m 0 c).leavesExact 3 t)

set_option maxHeartbeats 8000000 in
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1]
  rw [show (dats m 0 c).Φ t.succ = between m c (t.val + 1) from rfl, show (dats m 0 c).Φ t.castSucc = between m c t.val from rfl,
    after_0, after_1, after_2]
  unfold Dat.owesAt Pipeline.owesWithin between
  rw [show (dats m 0 c).owed t.castSucc = 0 from rfl, show (dats m 0 c).owed t.succ = 0 from rfl]
  by_cases e1 : k0_cond1 (grid0.coords t) = 1#1 <;> by_cases e2 : k0_cond2 (grid0.coords t) = 1#1
  · rw [ends_3 m c t ((cond2_iff t).mp e2)]
    iintro ⟨⟨⟨%wv, %ha, %g, HU, HA⟩, Hg, Hq, Hw⟩, ⟨%W, -, HW⟩, ⟨%d0, H0⟩, ⟨%d1, H1⟩, ⟨%d2, H2⟩, ⟨%d3, H3⟩⟩
    iapply ((first m c t e1 e2 wv ha).2 W _)
    isplitl [H0]; · iexact H0
    isplitl [H1]; · iexact H1
    isplitl [H2]; · iexists _; iexact H2
    isplitl [H3]; · iexists _; iexact H3
    isplitl [HU]; · iexact HU
    isplitl [HA]; · iexact HA
    isplitl [Hq]; · iexact Hq
    isplitl [Hw]; · iexact Hw
    isplitl [HW]; · iexact HW
    iintro ⟨H0, H1, ⟨%f2, H2⟩, ⟨%e3, H3⟩, HU, HA, Hq, Hw, ⟨%W', HW'⟩⟩
    isplitl [HU HA Hg Hq Hw]
    · isplitl [HU HA]
      · iexists (wvB.view.read (Elt F) (first m c t e1 e2 wv ha).1.wv)
        iexists (haB.view.read (Elt F) (haB.view.writes (Elt F) ((Memref.isWhole_whole _ : haB.IsWhole).unread ha) (first m c t e1 e2 wv ha).1.ha))
        isplitr
        · ipureintro; exact ⟨first_wv m c t e1 e2 wv ha g, first_ha m c t e1 e2 wv ha g⟩
        isplitl [HU]
        · unfold owns; iexists _; isplitr
          swap; · iexact HU
          ipureintro; exact rfl
        unfold owns; iexists _; isplitr
        swap; · iexact HA
        ipureintro; exact rfl
      isplitl [Hg]; · iexact Hg
      isplitl [Hq]; · iexact Hq
      iexact Hw
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact first_pr m c t e1 e2 wv ha g _
    unfold owns; iexists _; isplitr
    swap; · iexact H3
    ipureintro; exact first_h1 m c t e1 e2 wv ha _
  · simp only [before_3 m c t (mt (cond2_iff t).mpr e2)]
    iintro ⟨⟨⟨%wv, %ha, %g, HU, HA⟩, Hg, Hq, Hw⟩, ⟨%W, -, HW⟩, ⟨%d0, H0⟩, ⟨%d1, H1⟩, ⟨%d2, H2⟩, ⟨%d3, H3⟩⟩
    iapply ((block m c t e1 e2 (hh m c (lastRow t)) wv ha).2 W _)
    isplitl [H0]; · iexact H0
    isplitl [H1]; · iexact H1
    isplitl [H2]; · iexists _; iexact H2
    isplitl [H3]; · iexact H3
    isplitl [HU]; · iexact HU
    isplitl [HA]; · iexact HA
    isplitl [Hq]; · iexact Hq
    isplitl [Hw]; · iexact Hw
    isplitl [HW]; · iexact HW
    iintro ⟨H0, H1, ⟨%f2, H2⟩, H3, HU, HA, Hq, Hw, ⟨%W', HW'⟩⟩
    isplitl [HU HA Hg Hq Hw]
    · isplitl [HU HA]
      · iexists (wvB.view.read (Elt F) (block m c t e1 e2 (hh m c (lastRow t)) wv ha).1.wv)
        iexists (ha)
        isplitr
        · ipureintro; exact ⟨block_wv m c t e1 e2 (hh m c (lastRow t)) wv ha g, h_old m c t e2 wv ha g⟩
        isplitl [HU]
        · unfold owns; iexists _; isplitr
          swap; · iexact HU
          ipureintro; exact rfl
        iexact HA
      isplitl [Hg]; · iexact Hg
      isplitl [Hq]; · iexact Hq
      iexact Hw
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact block_pr m c t e1 e2 (hh m c (lastRow t)) wv ha g _
    iapply (leaves_3 m c t (mt (cond2_iff t).mpr e2))
    iexact H3
  · rw [ends_3 m c t ((cond2_iff t).mp e2)]
    iintro ⟨⟨⟨%wv, %ha, %g, HU, HA⟩, Hg, Hq, Hw⟩, ⟨%W, -, HW⟩, ⟨%d0, H0⟩, ⟨%d1, H1⟩, ⟨%d2, H2⟩, ⟨%d3, H3⟩⟩
    iapply ((row m c t e1 e2 wv ha).2 W _)
    isplitl [H0]; · iexact H0
    isplitl [H1]; · iexact H1
    isplitl [H2]; · iexists _; iexact H2
    isplitl [H3]; · iexists _; iexact H3
    isplitl [HU]; · iexact HU
    isplitl [HA]; · iexact HA
    isplitl [Hq]; · iexact Hq
    isplitl [Hw]; · iexact Hw
    isplitl [HW]; · iexact HW
    iintro ⟨H0, H1, ⟨%f2, H2⟩, ⟨%e3, H3⟩, HU, HA, Hq, Hw, ⟨%W', HW'⟩⟩
    isplitl [HU HA Hg Hq Hw]
    · isplitl [HU HA]
      · iexists (wv)
        iexists (haB.view.read (Elt F) (haB.view.writes (Elt F) ((Memref.isWhole_whole _ : haB.IsWhole).unread ha) (row m c t e1 e2 wv ha).1.ha))
        isplitr
        · ipureintro; exact ⟨w_old m c t e1 wv ha g, row_ha m c t e1 e2 wv ha g⟩
        isplitl [HU]
        · iexact HU
        unfold owns; iexists _; isplitr
        swap; · iexact HA
        ipureintro; exact rfl
      isplitl [Hg]; · iexact Hg
      isplitl [Hq]; · iexact Hq
      iexact Hw
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact row_pr m c t e1 e2 wv ha g _
    unfold owns; iexists _; isplitr
    swap; · iexact H3
    ipureintro; exact row_h1 m c t e1 e2 wv ha _
  · simp only [before_3 m c t (mt (cond2_iff t).mpr e2)]
    iintro ⟨⟨⟨%wv, %ha, %g, HU, HA⟩, Hg, Hq, Hw⟩, ⟨%W, -, HW⟩, ⟨%d0, H0⟩, ⟨%d1, H1⟩, ⟨%d2, H2⟩, ⟨%d3, H3⟩⟩
    iapply ((last m c t e1 e2 (hh m c (lastRow t)) wv ha).2 W _)
    isplitl [H0]; · iexact H0
    isplitl [H1]; · iexact H1
    isplitl [H2]; · iexists _; iexact H2
    isplitl [H3]; · iexact H3
    isplitl [HU]; · iexact HU
    isplitl [HA]; · iexact HA
    isplitl [Hq]; · iexact Hq
    isplitl [Hw]; · iexact Hw
    isplitl [HW]; · iexact HW
    iintro ⟨H0, H1, ⟨%f2, H2⟩, H3, HU, HA, Hq, Hw, ⟨%W', HW'⟩⟩
    isplitl [HU HA Hg Hq Hw]
    · isplitl [HU HA]
      · iexists (wv)
        iexists (ha)
        isplitr
        · ipureintro; exact ⟨w_old m c t e1 wv ha g, h_old m c t e2 wv ha g⟩
        isplitl [HU]
        · iexact HU
        iexact HA
      isplitl [Hg]; · iexact Hg
      isplitl [Hq]; · iexact Hq
      iexact Hw
    isplitl [HW']
    · iexists W'; isplitr; · ipureintro; exact fun _ _ => Or.inl trivial
      iexact HW'
    isplitl [H0]; · iexact H0
    isplitl [H1]; · iexact H1
    isplitl [H2]
    · unfold owns; iexists _; isplitr
      swap; · iexact H2
      ipureintro; exact last_pr m c t e1 e2 (hh m c (lastRow t)) wv ha g _
    iapply (leaves_3 m c t (mt (cond2_iff t).mpr e2))
    iexact H3

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦD osem spec0 Hb (V m) c ⊢ (dats m 0 c).Φ 0 := by
  rw [show (dats m 0 c).Φ 0 = between m c 0 from rfl, PhiD_eq]
  unfold between
  iintro ⟨⟨⟨%wv, HU⟩, ⟨%ha, HA⟩⟩, Hr⟩
  isplitl [HU HA]
  · iexists wv
    iexists ha
    isplitr
    · ipureintro; exact ⟨fun _ h => absurd h (Nat.not_lt_zero _), fun _ h => absurd h (Nat.not_lt_zero _)⟩
    isplitl [HU]; · iexact HU
    iexact HA
  iexact Hr

theorem leave (c : Dev nD) : (dats m 0 c).Φ (Fin.last cfg0.N) ⊢ Pipeline.ΦD osem spec0 Hb (V m) c := by
  rw [show (dats m 0 c).Φ (Fin.last cfg0.N) = between m c cfg0.N from rfl, PhiD_eq]
  unfold between
  iintro ⟨⟨%wv, %ha, -, HU, HA⟩, Hr⟩
  isplitl [HU HA]
  · isplitl [HU]; · iexists _; iexact HU
    iexists _; iexact HA
  iexact Hr

/-! The run. -/

theorem main_runs : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What the whole program ends with: the kernel's arrays as the points leave them, every other buffer as the host lines do,
    and all counters at zero. -/
abbrev Ends (r : PUnit × MemSt nD τ sig (Elt F)) : Prop :=
  Pipeline.FramePost cfgs (dats m) 0 (Pipeline.afterTail₀ cfgs (dats m) 0 (V0 m) [hostOps1]) r

set_option backward.isDefEq.respectTransparency.types false in
theorem run_quiet : θ_run defs (onTc (τ := τ) (main (F := F))) (s₀ m ρ) (fun r => Ends m r ∧ r.2.sem = fun _ => 0) :=
  Pipeline.θ_run_frame_dma_around (Q' := _) cfgs (dats m) (0 : Fin 1) launch0 osem defs₀ Variants.none osem_facts Hb Hb_sub m ρ main
    (hbody := fun c => (body_obligation m c).loose) (hshare := fun c => (dats m 0 c).share_full fun _ => rfl)
    (howed := fun _ _ => rfl) (V₀ := V0 m) (opss := [hostOps1]) (hsub := tail_but) (hfresh := sfx_fresh) (hkeep := sfx_keeps)
    (hmain := main_runs m) (hA := A_eq m) (hin := enter m) (hout := leave m)

theorem run_plain : θ_run defs (onTc (τ := τ) (main (F := F))) (s₀ m ρ)
    (Pipeline.FramePost cfgs (plain m) 0 (Pipeline.afterTail₀ cfgs (plain m) 0 (V0 m) [hostOps1])) :=
  (θ_run defs _ _).mono (fun _ h => h.1) (run_quiet m ρ)

theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  θ_run_and (frame_of m ρ (plain m) (fun _ _ => rfl) (run_plain m ρ)) ((θ_run defs _ _).mono (fun _ h => h.2) (run_quiet m ρ))

end Cert.Kernel5Ideal.Proj

end
-- ==== Proof.Proj.Same.lean ====
/- The kernel as it computes on words and the kernel over any values are one program, so the run proved once serves both. -/
module

public import proofs.«01_k».proof.Proof.Proj.Frame
public import proofs.«01_k».proof.Proof.Gen.Kernel5.Frame
public import Idealize.ShloMosaic.PureOps.BitExact

@[expose] public section

set_option maxRecDepth 100000
set_option maxHeartbeats 4000000

noncomputable section

namespace Cert.Kernel5.Proj

open Idealize.ShloMosaic Idealize.ShloMosaic.TcCoe Idealize.SL.Sem

theorem body_eq : Kernel5.cc0_fwd_proj (F := Bits) = Kernel5Ideal.cc0_fwd_proj (F := Bits) := rfl

theorem rows_eq : Kernel5.defs₀ (F := Bits) = Kernel5Ideal.defs₀ (F := Bits) := by
  unfold Kernel5.defs₀ Kernel5Ideal.defs₀
  refine congrArg _ (funext fun l => funext fun a => ?_)
  match l with
  | ⟨0, _⟩ => rfl

theorem defs_eq : Kernel5.defs (F := Bits) = Kernel5Ideal.defs (F := Bits) :=
  congrArg (Pipeline.defs (Kernel5.pcfgs (F := Bits))) rows_eq

theorem main_eq : Kernel5.main (F := Bits) = Kernel5Ideal.main (F := Bits) := rfl

variable (m : (ℓ : Loc Kernel5.nD Kernel5.τ Kernel5.sig) → Buf (Elt Bits) ℓ) (ρ : Dev Kernel5.nD → PrngReg)

theorem frame : θ_run (Kernel5.defs (F := Bits)) (onTc (τ := τ) (Kernel5.main (F := Bits))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) := by
  rw [defs_eq, main_eq]
  exact Kernel5Ideal.Proj.frame (F := Bits) m ρ

end Cert.Kernel5.Proj

end

end
-- ==== Proof.Proj.Value.lean ====
/- The arrays that the host prepares for the first norm's kernel, read at an index, the blocks that the kernel makes of
   them, and the arrays that the program leaves. -/
module

public import proofs.«01_k».proof.Proof.Proj.Frame
public import proofs.«01_k».proof.Proof.Ffn.Tail
public import Idealize.ShloMosaic.Lib.Pointwise
public import Idealize.ShloMosaic.Lib.Pipeline.ValueKit

@[expose] public section

set_option maxRecDepth 16384

noncomputable section

namespace Cert.Kernel5Ideal.Proj

open Idealize.ShloMosaic Idealize.ShloMosaic.TcCoe Idealize.SL.Sem Cert.Kernel5Ideal Cert.Kernel5Ideal.Gen
open Cert.Kernel2Ideal.Ffn (time row time_row time_nat)

variable (m : (ℓ : Loc nD τ sig) → Buf (Elt Ideal) ℓ) (c : Dev nD)

abbrev aX : Vec Ideal S8192x1024 .f32 := m ((c.tc : Thread nD τ).loc main_arg0)
abbrev aG : Vec Ideal S1x1024 .f32 := m ((c.tc : Thread nD τ).loc main_arg1)
abbrev aSc : Vec Ideal S1x1024 .f32 := m ((c.tc : Thread nD τ).loc main_arg2)
abbrev aSh : Vec Ideal S1x1024 .f32 := m ((c.tc : Thread nD τ).loc main_arg3)
abbrev aW : Vec Ideal S1024x6144 .f32 := m ((c.tc : Thread nD τ).loc main_arg4)

theorem V_w (i : Fin 1024) (j : Fin 6144) : (V m c main_v3 : Vec Ideal S1024x6144 .bf16) (ix2 i j) = aW m c (ix2 i j) := by
  unfold_abbrev_sides
  simp only [List.flatten_cons, List.flatten_nil, List.append_nil]
  after_results
  pointwise

theorem V_x (i : Fin 8192) (k : Fin 1024) : (V m c main_arg0 : Vec Ideal S8192x1024 .f32) (ix2 i k) = aX m c (ix2 i k) :=
  congrFun (V_main_arg0 m c) _

theorem V_Sh (k : Fin 1024) : (V m c main_v2 : Vec Ideal S16x1024 .f32) (ix2 0 k) = aSh m c (ix2 0 k) := by
  unfold_abbrev_sides
  simp only [List.flatten_cons, List.flatten_nil, List.append_nil]
  after_results
  pointwise
  after_results_simp

theorem V_Sc (k : Fin 1024) : (V m c main_v2 : Vec Ideal S16x1024 .f32) (ix2 1 k) = aSc m c (ix2 0 k) := by
  unfold_abbrev_sides
  simp only [List.flatten_cons, List.flatten_nil, List.append_nil]
  after_results
  pointwise
  after_results_simp

theorem V_G (k : Fin 1024) : (V m c main_v2 : Vec Ideal S16x1024 .f32) (ix2 6 k) = aG m c (ix2 0 k) := by
  unfold_abbrev_sides
  simp only [List.flatten_cons, List.flatten_nil, List.append_nil]
  after_results
  pointwise
  after_results_simp

theorem ix0' (t : Fin cfg0.N) : win0_0.index t 0 = min t.val 7 ∧ win0_0.index t 1 = 0 :=
  (by decide +kernel : ∀ t : Fin grid0.N, win0_0.index t 0 = min t.val 7 ∧ win0_0.index t 1 = 0) t
theorem ix1' (t : Fin cfg0.N) : win0_1.index t 0 = 0 ∧ win0_1.index t 1 = 0 :=
  (by decide +kernel : ∀ t : Fin grid0.N, win0_1.index t 0 = 0 ∧ win0_1.index t 1 = 0) t
theorem ix2' (t : Fin cfg0.N) : win0_2.index t 0 = t.val % 8 ∧ win0_2.index t 1 = t.val / 8 :=
  (by decide +kernel : ∀ t : Fin grid0.N, win0_2.index t 0 = t.val % 8 ∧ win0_2.index t 1 = t.val / 8) t
theorem ix3' (t : Fin cfg0.N) : win0_3.index t 0 = min t.val 7 ∧ win0_3.index t 1 = 0 :=
  (by decide +kernel : ∀ t : Fin grid0.N, win0_3.index t 0 = min t.val 7 ∧ win0_3.index t 1 = 0) t

/-- Row `p` of block `s` of 1024 rows. -/
def at_ (s : Fin 8) (p : Fin 1024) : Fin 8192 := ⟨s.val * 1024 + p.val, by omega⟩

theorem blk_x (t : Fin cfg0.N) (p k : Fin 1024) : xAt m c t (ix2 p k) = aX m c (ix2 (at_ (lastRow t) p) k) := by
  rw [← V_x m c (at_ (lastRow t) p) k]
  change (iblk m c 0 t : Vec Ideal S1024x1024 .f32) (ix2 p k) = _
  blk_ext [iblk, V, at_, lastRow, (ix0' t).1, (ix0' t).2]

theorem blk_Sh (t : Fin cfg0.N) (k : Fin 1024) : vAt m c t (ix2 0 k) = aSh m c (ix2 0 k) := by
  rw [← V_Sh m c k]
  change (iblk m c 1 t : Vec Ideal S16x1024 .f32) (ix2 0 k) = _
  blk_ext [iblk, V, (ix1' t).1, (ix1' t).2]
theorem blk_Sc (t : Fin cfg0.N) (k : Fin 1024) : vAt m c t (ix2 1 k) = aSc m c (ix2 0 k) := by
  rw [← V_Sc m c k]
  change (iblk m c 1 t : Vec Ideal S16x1024 .f32) (ix2 1 k) = _
  blk_ext [iblk, V, (ix1' t).1, (ix1' t).2]
theorem blk_G (t : Fin cfg0.N) (k : Fin 1024) : vAt m c t (ix2 6 k) = aG m c (ix2 0 k) := by
  rw [← V_G m c k]
  change (iblk m c 1 t : Vec Ideal S16x1024 .f32) (ix2 6 k) = _
  blk_ext [iblk, V, (ix1' t).1, (ix1' t).2]

/-- The row of a block of 1024 natural rows that row `p` of the normed block holds. -/
def tau (p : Fin 1024) : Fin 1024 := ⟨p.val / 256 * 256 + (p.val % 8 * 32 + p.val % 256 / 8), by omega⟩

theorem time_at (s : Fin 8) (p : Fin 1024) : time (at_ s p) = at_ s (tau p) :=
  Fin.ext (by simp only [time, tau, at_]; omega)

/-- The mean square of a row with the norm's small addend. -/
def msq (x : Fin 1024 → EReal) : EReal :=
  Ideal.div (∑ k : Fin 1024, x k * x k) (Ideal.ofBits .f32 0x44800000#32) + Ideal.ofBits .f32 0x358637BD#32

theorem hrows_at (X : Vec Ideal S1024x1024 .f32) (vd : Vec Ideal S16x1024 .f32) (p k : Fin 1024) :
    hrows X vd (ix2 p k) = X (ix2 (tau p) k) * Ideal.rsqrt (msq fun q => X (ix2 (tau p) q))
      * (vd (ix2 6 k) * (1 + vd (ix2 1 k))) + vd (ix2 0 k) := by
  unfold hrows
  pointwise [k0_pay3]
  by_cases h0 : p.val < 256
  · have e : ∀ h, (⟨p.val % 8 * 32 + p.val / 8, h⟩ : Fin 1024) = tau p := fun _ => Fin.ext (by simp only [tau]; omega)
    simp only [dif_pos h0, e, msq]
  by_cases h1 : p.val - 256 < 256
  · have e : ∀ h, (⟨256 + ((p.val - 256) % 8 * 32 + (p.val - 256) / 8), h⟩ : Fin 1024) = tau p := fun _ => Fin.ext (by simp only [tau]; omega)
    simp only [dif_neg h0, dif_pos h1, e, msq]
  by_cases h2 : p.val - 256 - 256 < 256
  · have e : ∀ h, (⟨512 + ((p.val - 256 - 256) % 8 * 32 + (p.val - 256 - 256) / 8), h⟩ : Fin 1024) = tau p :=
      fun _ => Fin.ext (by simp only [tau]; omega)
    simp only [dif_neg h0, dif_neg h1, dif_pos h2, e, msq]
  have e : ∀ h, (⟨768 + ((p.val - 256 - 256 - 256) % 8 * 32 + (p.val - 256 - 256 - 256) / 8), h⟩ : Fin 1024) = tau p :=
    fun _ => Fin.ext (by simp only [tau]; omega)
  simp only [dif_neg h0, dif_neg h1, dif_neg h2, e, msq]

/-- The normed rows in natural order, and their product by the weight. -/
def hR (i : Fin 8192) (k : Fin 1024) : EReal :=
  aX m c (ix2 i k) * Ideal.rsqrt (msq fun q => aX m c (ix2 i q)) * (aG m c (ix2 0 k) * (1 + aSc m c (ix2 0 k))) + aSh m c (ix2 0 k)
def pR (i : Fin 8192) (j : Fin 6144) : EReal := ∑ k : Fin 1024, hR m c i k * aW m c (ix2 k j)

theorem hh_at (s : Fin 8) (p k : Fin 1024) : hh m c s (ix2 p k) = hR m c (time (at_ s p)) k := by
  unfold hh
  rw [hrows_at, blk_G, blk_Sc, blk_Sh, time_at]
  simp only [blk_x]
  have e : ∀ h, lastRow (⟨s.val, h⟩ : Fin cfg0.N) = s := fun _ => Fin.ext (by show min s.val 7 = s.val; omega)
  rw [e]
  rfl

theorem rows_at (t : Fin cfg0.N) (p k : Fin 1024) :
    rowsAt (hall m c) t (ix3 0 p k) = hR m c (time (at_ ⟨t.val % 8, Nat.mod_lt _ (by decide)⟩ p)) k := by
  rw [← hh_at]
  have e : (Rect.unit (s := S8x1024x1024) (k0_off4 (grid0.coords t)) S1x1024x1024.size (k0_off4_inb _)).emb (ix3 0 p k)
      = ix3 (⟨t.val % 8, Nat.mod_lt _ (by decide)⟩ : Fin 8) p k := by
    refine funext fun a => Fin.ext ?_
    show k0_off4 (grid0.coords t) a + 1 * (ix3 (0 : Fin 1) p k a).val = _
    rw [off4_eq]
    fin_cases a
    · show t.val % 8 + 1 * 0 = t.val % 8
      omega
    · show 0 + 1 * p.val = p.val
      omega
    · show 0 + 1 * k.val = k.val
      omega
  refine (congrArg (hall m c) e).trans ?_
  show k0_pay1 (hh m c ⟨t.val % 8, Nat.mod_lt _ (by decide)⟩) (ix3 (0 : Fin 1) p k) = _
  pointwise [k0_pay1]

theorem cols_at (t : Fin cfg0.N) (k : Fin 1024) (j : Fin 1536) :
    colsAt (wall m c) t (ix3 0 k j) = aW m c (ix2 k ⟨t.val / 8 * 1536 + j.val, by have := lt_32 t; omega⟩) := by
  rw [← V_w]
  have e : (Rect.unit (s := S4x1024x1536) (k0_off5 (grid0.coords t)) S1x1024x1536.size (k0_off5_inb _)).emb (ix3 0 k j)
      = ix3 (⟨t.val / 8, by have := lt_32 t; omega⟩ : Fin 4) k j := by
    refine funext fun a => Fin.ext ?_
    show k0_off5 (grid0.coords t) a + 1 * (ix3 (0 : Fin 1) k j a).val = _
    rw [off5_eq]
    fin_cases a
    · show t.val / 8 + 1 * 0 = t.val / 8
      omega
    · show 0 + 1 * k.val = k.val
      omega
    · show 0 + 1 * j.val = j.val
      omega
  exact congrArg (wall m c) e

theorem pay2_at (R : Vec Ideal S1x1024x1024 .bf16) (W : Vec Ideal S1x1024x1536 .bf16) (p : Fin 1024) (j : Fin 1536) :
    k0_pay2 R W (ix2 p j) = ∑ k : Fin 1024, R (ix3 0 p k) * W (ix3 0 k j) := by
  pointwise [k0_pay2]

theorem tile_at (t : Fin cfg0.N) (p : Fin 1024) (j : Fin 1536) :
    tile m c t (ix2 p j) = pR m c (time (at_ ⟨t.val % 8, Nat.mod_lt _ (by decide)⟩ p)) ⟨t.val / 8 * 1536 + j.val, by have := lt_32 t; omega⟩ := by
  refine (pay2_at _ _ p j).trans (Finset.sum_congr rfl fun k _ => ?_)
  rw [rows_at, cols_at]

/-! The kernel's arrays when its last point is done. -/

def outP : Vec Ideal S8192x6144 .bf16 := fun y => pR m c (time (y 0)) (y 1)
def outH : Vec Ideal S8192x1024 .bf16 := fun y => hR m c (time (y 0)) (y 1)

theorem plain_2 (t : Fin cfg0.N) : (plain m 0 c).after 2 t = tile m c t := by dsimp only [plain, afterAt]
theorem plain_3 (t : Fin cfg0.N) : (plain m 0 c).after 3 t = hh m c (lastRow t) := by dsimp only [plain, afterAt]

theorem p_final : (plain m 0 c).arrAt 2 cfg0.N = outP m c := by
  refine (plain m 0 c).arrAt_eq_of_covers 2 _ (by decide +kernel) fun t hf y => ?_
  blk_simp
  rw [plain_2]
  obtain ⟨r, k, rfl⟩ : ∃ (r : Fin 1024) (k : Fin 1536), y = ix2 r k := ⟨_, _, eq_ix2 y⟩
  have e0 : (win0_2.blk t).view.emb (ix2 r k) 0 = at_ ⟨t.val % 8, Nat.mod_lt _ (by decide)⟩ r := Fin.ext (by blk_simp [(ix2' t).1, at_])
  have e1 : (win0_2.blk t).view.emb (ix2 r k) 1 = (⟨t.val / 8 * 1536 + k.val, by have := lt_32 t; omega⟩ : Fin 6144) :=
    Fin.ext (by blk_simp [(ix2' t).2])
  rw [tile_at, outP, e0, e1]

theorem h_final : (plain m 0 c).arrAt 3 cfg0.N = outH m c := by
  refine (plain m 0 c).arrAt_eq_of_covers 3 _ (by decide +kernel) fun t hf y => ?_
  blk_simp
  rw [plain_3]
  obtain ⟨r, k, rfl⟩ : ∃ (r : Fin 1024) (k : Fin 1024), y = ix2 r k := ⟨_, _, eq_ix2 y⟩
  have e0 : (win0_3.blk t).view.emb (ix2 r k) 0 = at_ (lastRow t) r := Fin.ext (by blk_simp [(ix3' t).1, at_, lastRow])
  have e1 : (win0_3.blk t).view.emb (ix2 r k) 1 = k := Fin.ext (by blk_simp [(ix3' t).2])
  rw [hh_at, outH, e0, e1]

/-! What the host hands back: the arrays in natural order of time. -/

def resP : Vec Ideal S8192x6144 .f32 := fun y => pR m c (y 0) (y 1)
def resH : Vec Ideal S8192x1024 .f32 := fun y => hR m c (y 0) (y 1)

theorem tail_v8 : Pipeline.afterTail₀ cfgs (plain m) 0 (V0 m) [hostOps1] c main_v8 = resP m c := by
  funext y
  obtain ⟨i, k, rfl⟩ : ∃ (i : Fin 8192) (k : Fin 6144), y = ix2 i k := ⟨_, _, eq_ix2 y⟩
  unfold Pipeline.afterTail₀
  simp only [List.flatten_cons, List.flatten_nil, List.append_nil]
  after_results
  rw [Pipeline.withArrays_arr (cfgs 0).spec (by decide +kernel) c (V0 m c) (fun w => (plain m 0 c).arrAt w (cfgs 0).N) 2]
  pointwise
  refine (congrFun (p_final m c) _).trans ?_
  exact congrArg (fun a => pR m c a k) (time_nat i _)

theorem tail_v12 : Pipeline.afterTail₀ cfgs (plain m) 0 (V0 m) [hostOps1] c main_v12 = resH m c := by
  funext y
  obtain ⟨i, k, rfl⟩ : ∃ (i : Fin 8192) (k : Fin 1024), y = ix2 i k := ⟨_, _, eq_ix2 y⟩
  unfold Pipeline.afterTail₀
  simp only [List.flatten_cons, List.flatten_nil, List.append_nil]
  after_results
  rw [Pipeline.withArrays_arr (cfgs 0).spec (by decide +kernel) c (V0 m c) (fun w => (plain m 0 c).arrAt w (cfgs 0).N) 3]
  pointwise
  refine (congrFun (h_final m c) _).trans ?_
  exact congrArg (fun a => hR m c a k) (time_nat i _)

omit c in
/-- The kernel's program runs and leaves these arrays. -/
theorem run_arrays (ρ : Dev nD → PrngReg) : θ_run defs (onTc (τ := τ) (main (F := Ideal))) (s₀ m ρ) (fun r => ∀ c : Dev nD,
    r.2.mem ((c.tc : Thread nD τ).loc main_v8) = resP m c ∧ r.2.mem ((c.tc : Thread nD τ).loc main_v12) = resH m c) := by
  refine (θ_run _ _ _).mono (fun r h c => ?_) (run_plain m ρ)
  obtain ⟨h1, h2⟩ := h c
  exact ⟨(h2 main_v8 (by decide +kernel)).trans (tail_v8 m c), (h2 main_v12 (by decide +kernel)).trans (tail_v12 m c)⟩

end Cert.Kernel5Ideal.Proj

end

end
-- ==== Proof.Proj.Claim.lean ====
/- The first norm with the product by the input projection's weight: the value claim. -/
module

public import proofs.«01_k».proof.Proof.Proj.Value
public import proofs.«01_k».proof.Proof.Gen.Reference5Ideal.Run
public import proofs.«01_k».proof.Proof.Gen.Reference5Ideal.Read
public import proofs.«01_k».proof.Defs

@[expose] public section

set_option maxRecDepth 16384

noncomputable section

namespace Cert.Kernel5Ideal.Proj

open Idealize.ShloMosaic Idealize.ShloMosaic.TcCoe Idealize.SL.Sem Cert.Kernel5Ideal Cert.Kernel5Ideal.Gen
open Cert.Reference5Ideal.Read

variable (m : (ℓ : Loc nD τ sig) → Buf (Elt Ideal) ℓ) (c : Dev nD)

/-- The reference's normed rows are the kernel's: the gain and the modulation are multiplied in another order. -/
theorem ref_h (i : Fin 8192) (k : Fin 1024) :
    val_main_v17 (F := Ideal) (aX m c) (aG m c) (aSc m c) (aSh m c) (ix2 i k) = hR m c i k := by
  pointwise [val_main_v17, val_main_v16, val_main_v15, val_main_v14, val_main_v13, val_main_v12, val_main_cst_2, val_main_v11, val_main_v10,
    val_main_v9, val_main_v8, val_main_v7, val_main_v6, val_main_v5, val_main_cst_1, val_main_v4, val_main_v3, val_main_cst_0, val_main_v2,
    val_main_v1, val_main_cst, val_main_v0]
  rw [hR, msq, mul_assoc (_ * _) (aG m c (ix2 0 k))]

theorem ref_p (i : Fin 8192) (j : Fin 6144) :
    val_main_v18 (F := Ideal) (aX m c) (aG m c) (aSc m c) (aSh m c) (aW m c) (ix2 i j) = pR m c i j := by
  pointwise [val_main_v18]
  simp only [ref_h]
  rfl

/-- The arrays the kernel's program leaves are the reference's. -/
theorem values : resP m c = val_main_v18 (F := Ideal) (aX m c) (aG m c) (aSc m c) (aSh m c) (aW m c)
    ∧ resH m c = val_main_v17 (F := Ideal) (aX m c) (aG m c) (aSc m c) (aSh m c) := by
  refine ⟨?_, ?_⟩
  · funext y
    obtain ⟨i, j, rfl⟩ : ∃ (i : Fin 8192) (j : Fin 6144), y = ix2 i j := ⟨_, _, eq_ix2 y⟩
    exact (ref_p m c i j).symm
  · funext y
    obtain ⟨i, k, rfl⟩ : ∃ (i : Fin 8192) (k : Fin 1024), y = ix2 i k := ⟨_, _, eq_ix2 y⟩
    exact (ref_h m c i k).symm

/-- The kernel and the reference leave the same two arrays. -/
theorem claim : Cert.algebraic_Kernel5Ideal_Reference5Ideal (hKernel5Ideal := Cert.Kernel5Ideal.Gen.facts)
    (hReference5Ideal := Cert.Reference5Ideal.Gen.facts) := by
  intro m ρ m' ρ' hpre hargs
  refine ⟨fun c => val_main_v18 (F := Ideal) (aX m c) (aG m c) (aSc m c) (aSh m c) (aW m c),
    fun c => val_main_v17 (F := Ideal) (aX m c) (aG m c) (aSc m c) (aSh m c),
    (θ_run _ _ _).mono (fun r h c => ?_) (θ_run_and (run_arrays m ρ) (frame m ρ)),
    (θ_run _ _ _).mono (fun r h c => ?_) (Cert.Reference5Ideal.Value.run m' ρ')⟩
  · obtain ⟨h0, h1⟩ := h.1 c
    obtain ⟨e0, e1⟩ := values m c
    exact ⟨h0.trans e0, h1.trans e1, h.2.1 c⟩
  obtain ⟨h0, h1, hk⟩ := h c
  obtain ⟨a0, a1, a2, a3, a4⟩ := hargs c
  refine ⟨h0.trans ?_, h1.trans ?_, hk⟩ <;> clear h h0 h1 hk
  · refine (val_main_v18_eq _ _ _ _ _).trans ?_
    simp only [← a0, ← a1, ← a2, ← a3, ← a4]
  · refine (val_main_v17_eq _ _ _ _).trans ?_
    simp only [← a0, ← a1, ← a2, ← a3]

/-- The reference runs, leaves its arguments unchanged and declares no semaphore. -/
theorem ref_frame : Cert.quiescent_Reference5Ideal (hReference5Ideal := Cert.Reference5Ideal.Gen.facts) := fun m ρ _ =>
  (θ_run Cert.Reference5Ideal.defs _ _).mono (fun r h => ⟨fun c => (h c).2.2, sem_eq_zero_of_no_sems (by decide) r.2⟩)
    (Cert.Reference5Ideal.Value.run (F := Ideal) m ρ)

end Cert.Kernel5Ideal.Proj

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.In.Claim
public import proofs.«01_k».proof.Proof.Ffn.Claim
public import proofs.«01_k».proof.Proof.Bffn.Same
public import proofs.«01_k».proof.Proof.Bffn.Claim
public import proofs.«01_k».proof.Proof.Bmix.Same
public import proofs.«01_k».proof.Proof.Bmix.RefFrame
public import proofs.«01_k».proof.Proof.Proj.Same
public import proofs.«01_k».proof.Proof.Proj.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.Pre_finite2.Gen.facts, Cert.Pre_finite3.Gen.facts,
  fun m ρ _ => Cert.Kernel.Gen.frame m ρ, fun m ρ _ => Cert.KernelIdeal.Gen.frame m ρ, fun m ρ _ => Cert.KernelIdeal.Gen.frame m ρ,
  Cert.KernelIdeal.In.ref_frame, fun m ρ _ => Cert.KernelIdeal.In.ref_frame m ρ trivial,
  fun m ρ _ => Cert.Kernel2.Gen.frame m ρ, fun m ρ _ => Cert.Kernel2Ideal.Gen.frame m ρ, fun m ρ _ => Cert.Kernel2Ideal.Gen.frame m ρ,
  Cert.Kernel2Ideal.Ffn.ref_frame, fun m ρ _ => Cert.Kernel2Ideal.Ffn.ref_frame m ρ trivial,
  fun m ρ _ => Cert.Kernel3.Bffn.frame m ρ, fun m ρ _ => Cert.Kernel3Ideal.Bffn.frame m ρ, fun m ρ _ => Cert.Kernel3Ideal.Bffn.frame m ρ,
  Cert.Kernel3Ideal.Bffn.ref_frame, fun m ρ _ => Cert.Kernel3Ideal.Bffn.ref_frame m ρ trivial,
  fun m ρ _ => Cert.Kernel4.Bmix.frame m ρ, fun m ρ _ => Cert.Kernel4Ideal.Bmix.frame m ρ, Cert.Kernel4Ideal.Bmix.ref_frame,
  fun m ρ _ => Cert.Kernel5.Proj.frame m ρ, fun m ρ _ => Cert.Kernel5Ideal.Proj.frame m ρ, Cert.Kernel5Ideal.Proj.ref_frame,
  trivial, Cert.KernelIdeal.In.claim,
  IdealRules.named_const.statement Cert.Kernel2Ideal.κ "gelu_ka" .f32 0x3D122279#32 ((80338380498831 / 2251799813685248 : ℝ) : EReal) rfl,
  Cert.Kernel2Ideal.Ffn.claim,
  ⟨IdealRules.named_const.statement Cert.Kernel3Ideal.κ "gelu_ka" .f32 0x3D122279#32 ((80338380498831 / 2251799813685248 : ℝ) : EReal) rfl,
    IdealRules.named_const.statement Cert.Kernel3Ideal.κ "gelu_3ka" .f32 0x3DDB33B6#32 ((241015141496493 / 2251799813685248 : ℝ) : EReal) rfl⟩,
  Cert.Kernel3Ideal.Bffn.claim, trivial, trivial, Cert.Kernel5Ideal.Proj.claim⟩

end Cert.Proof

end
